-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_DWDown (m : (ℓ : Loc Cert.DWDown.nD Cert.DWDown.τ Cert.DWDown.sig) → Buf (Elt Bits) ℓ) : Prop :=
  True

def Pre_DWDownIdeal (m : (ℓ : Loc Cert.DWDownIdeal.nD Cert.DWDownIdeal.τ Cert.DWDownIdeal.sig) → Buf (Elt Ideal) ℓ) : Prop :=
  True

def Pre_DWDownRefIdeal (m : (ℓ : Loc Cert.DWDownRefIdeal.nD Cert.DWDownRefIdeal.τ Cert.DWDownRefIdeal.sig) → Buf (Elt Ideal) ℓ) : Prop :=
  True

def Pre_DFfnMid (m : (ℓ : Loc Cert.DFfnMid.nD Cert.DFfnMid.τ Cert.DFfnMid.sig) → Buf (Elt Bits) ℓ) : Prop :=
  True

def Pre_DFfnMidIdeal (m : (ℓ : Loc Cert.DFfnMidIdeal.nD Cert.DFfnMidIdeal.τ Cert.DFfnMidIdeal.sig) → Buf (Elt Ideal) ℓ) : Prop :=
  True

def Pre_DFfnMidRefIdeal (m : (ℓ : Loc Cert.DFfnMidRefIdeal.nD Cert.DFfnMidRefIdeal.τ Cert.DFfnMidRefIdeal.sig) → Buf (Elt Ideal) ℓ) : Prop :=
  True

def Pre_DWUp (m : (ℓ : Loc Cert.DWUp.nD Cert.DWUp.τ Cert.DWUp.sig) → Buf (Elt Bits) ℓ) : Prop :=
  True

def Pre_DWUpIdeal (m : (ℓ : Loc Cert.DWUpIdeal.nD Cert.DWUpIdeal.τ Cert.DWUpIdeal.sig) → Buf (Elt Ideal) ℓ) : Prop :=
  True

def Pre_DWUpRefIdeal (m : (ℓ : Loc Cert.DWUpRefIdeal.nD Cert.DWUpRefIdeal.τ Cert.DWUpRefIdeal.sig) → Buf (Elt Ideal) ℓ) : Prop :=
  True

def Pre_DFfnIn (m : (ℓ : Loc Cert.DFfnIn.nD Cert.DFfnIn.τ Cert.DFfnIn.sig) → Buf (Elt Bits) ℓ) : Prop :=
  True

def Pre_DFfnInIdeal (m : (ℓ : Loc Cert.DFfnInIdeal.nD Cert.DFfnInIdeal.τ Cert.DFfnInIdeal.sig) → Buf (Elt Ideal) ℓ) : Prop :=
  True

def Pre_DFfnInRefIdeal (m : (ℓ : Loc Cert.DFfnInRefIdeal.nD Cert.DFfnInRefIdeal.τ Cert.DFfnInRefIdeal.sig) → Buf (Elt Ideal) ℓ) : Prop :=
  True

def Pre_DWide (m : (ℓ : Loc Cert.DWide.nD Cert.DWide.τ Cert.DWide.sig) → Buf (Elt Bits) ℓ) : Prop :=
  True

def Pre_DWideIdeal (m : (ℓ : Loc Cert.DWideIdeal.nD Cert.DWideIdeal.τ Cert.DWideIdeal.sig) → Buf (Elt Ideal) ℓ) : Prop :=
  True

def Pre_DWideRefIdeal (m : (ℓ : Loc Cert.DWideRefIdeal.nD Cert.DWideRefIdeal.τ Cert.DWideRefIdeal.sig) → Buf (Elt Ideal) ℓ) : Prop :=
  True

def Pre_DWKv (m : (ℓ : Loc Cert.DWKv.nD Cert.DWKv.τ Cert.DWKv.sig) → Buf (Elt Bits) ℓ) : Prop :=
  True

def Pre_DWKvIdeal (m : (ℓ : Loc Cert.DWKvIdeal.nD Cert.DWKvIdeal.τ Cert.DWKvIdeal.sig) → Buf (Elt Ideal) ℓ) : Prop :=
  True

def Pre_DWKvRefIdeal (m : (ℓ : Loc Cert.DWKvRefIdeal.nD Cert.DWKvRefIdeal.τ Cert.DWKvRefIdeal.sig) → Buf (Elt Ideal) ℓ) : Prop :=
  True

def Pre_DAttnOut (m : (ℓ : Loc Cert.DAttnOut.nD Cert.DAttnOut.τ Cert.DAttnOut.sig) → Buf (Elt Bits) ℓ) : Prop :=
  True

def Pre_DAttnOutIdeal (m : (ℓ : Loc Cert.DAttnOutIdeal.nD Cert.DAttnOutIdeal.τ Cert.DAttnOutIdeal.sig) → Buf (Elt Ideal) ℓ) : Prop :=
  True

def Pre_DAttnOutRefIdeal (m : (ℓ : Loc Cert.DAttnOutRefIdeal.nD Cert.DAttnOutRefIdeal.τ Cert.DAttnOutRefIdeal.sig) → Buf (Elt Ideal) ℓ) : Prop :=
  True

def Pre_DQIn (m : (ℓ : Loc Cert.DQIn.nD Cert.DQIn.τ Cert.DQIn.sig) → Buf (Elt Bits) ℓ) : Prop :=
  True

def Pre_DQInIdeal (m : (ℓ : Loc Cert.DQInIdeal.nD Cert.DQInIdeal.τ Cert.DQInIdeal.sig) → Buf (Elt Ideal) ℓ) : Prop :=
  True

def Pre_DQInRefIdeal (m : (ℓ : Loc Cert.DQInRefIdeal.nD Cert.DQInRefIdeal.τ Cert.DQInRefIdeal.sig) → Buf (Elt Ideal) ℓ) : Prop :=
  True

def Pre_DKIn (m : (ℓ : Loc Cert.DKIn.nD Cert.DKIn.τ Cert.DKIn.sig) → Buf (Elt Bits) ℓ) : Prop :=
  True

def Pre_DKInIdeal (m : (ℓ : Loc Cert.DKInIdeal.nD Cert.DKInIdeal.τ Cert.DKInIdeal.sig) → Buf (Elt Ideal) ℓ) : Prop :=
  True

def Pre_DKInRefIdeal (m : (ℓ : Loc Cert.DKInRefIdeal.nD Cert.DKInRefIdeal.τ Cert.DKInRefIdeal.sig) → Buf (Elt Ideal) ℓ) : Prop :=
  True

def Pre_DWIn (m : (ℓ : Loc Cert.DWIn.nD Cert.DWIn.τ Cert.DWIn.sig) → Buf (Elt Bits) ℓ) : Prop :=
  True

def Pre_DWInIdeal (m : (ℓ : Loc Cert.DWInIdeal.nD Cert.DWInIdeal.τ Cert.DWInIdeal.sig) → Buf (Elt Ideal) ℓ) : Prop :=
  True

def Pre_DWInRefIdeal (m : (ℓ : Loc Cert.DWInRefIdeal.nD Cert.DWInRefIdeal.τ Cert.DWInRefIdeal.sig) → Buf (Elt Ideal) ℓ) : Prop :=
  True

def Pre_DGmlpIn (m : (ℓ : Loc Cert.DGmlpIn.nD Cert.DGmlpIn.τ Cert.DGmlpIn.sig) → Buf (Elt Bits) ℓ) : Prop :=
  True

def Pre_DGmlpInIdeal (m : (ℓ : Loc Cert.DGmlpInIdeal.nD Cert.DGmlpInIdeal.τ Cert.DGmlpInIdeal.sig) → Buf (Elt Ideal) ℓ) : Prop :=
  True

def Pre_DGmlpInRefIdeal (m : (ℓ : Loc Cert.DGmlpInRefIdeal.nD Cert.DGmlpInRefIdeal.τ Cert.DGmlpInRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_ProjO (m : (ℓ : Loc Cert.ProjO.nD Cert.ProjO.τ Cert.ProjO.sig) → Buf (Elt Bits) ℓ) : Prop :=
  True

def Pre_ProjOIdeal (m : (ℓ : Loc Cert.ProjOIdeal.nD Cert.ProjOIdeal.τ Cert.ProjOIdeal.sig) → Buf (Elt Ideal) ℓ) : Prop :=
  True

def Pre_ProjORefIdeal (m : (ℓ : Loc Cert.ProjORefIdeal.nD Cert.ProjORefIdeal.τ Cert.ProjORefIdeal.sig) → Buf (Elt Ideal) ℓ) : Prop :=
  True

def Pre_GmlpIn (m : (ℓ : Loc Cert.GmlpIn.nD Cert.GmlpIn.τ Cert.GmlpIn.sig) → Buf (Elt Bits) ℓ) : Prop :=
  True

def Pre_GmlpInIdeal (m : (ℓ : Loc Cert.GmlpInIdeal.nD Cert.GmlpInIdeal.τ Cert.GmlpInIdeal.sig) → Buf (Elt Ideal) ℓ) : Prop :=
  True

def Pre_GmlpInRefIdeal (m : (ℓ : Loc Cert.GmlpInRefIdeal.nD Cert.GmlpInRefIdeal.τ Cert.GmlpInRefIdeal.sig) → Buf (Elt Ideal) ℓ) : Prop :=
  True

def Pre_DNormOut (m : (ℓ : Loc Cert.DNormOut.nD Cert.DNormOut.τ Cert.DNormOut.sig) → Buf (Elt Bits) ℓ) : Prop :=
  True

def Pre_DNormOutIdeal (m : (ℓ : Loc Cert.DNormOutIdeal.nD Cert.DNormOutIdeal.τ Cert.DNormOutIdeal.sig) → Buf (Elt Ideal) ℓ) : Prop :=
  True

def Pre_DNormOutRefIdeal (m : (ℓ : Loc Cert.DNormOutRefIdeal.nD Cert.DNormOutRefIdeal.τ Cert.DNormOutRefIdeal.sig) → Buf (Elt Ideal) ℓ) : Prop :=
  True

def Pre_DNormIn (m : (ℓ : Loc Cert.DNormIn.nD Cert.DNormIn.τ Cert.DNormIn.sig) → Buf (Elt Bits) ℓ) : Prop :=
  True

def Pre_DNormInIdeal (m : (ℓ : Loc Cert.DNormInIdeal.nD Cert.DNormInIdeal.τ Cert.DNormInIdeal.sig) → Buf (Elt Ideal) ℓ) : Prop :=
  True

def Pre_DNormInRefIdeal (m : (ℓ : Loc Cert.DNormInRefIdeal.nD Cert.DNormInRefIdeal.τ Cert.DNormInRefIdeal.sig) → Buf (Elt Ideal) ℓ) : Prop :=
  True

def Pre_DNormTwo (m : (ℓ : Loc Cert.DNormTwo.nD Cert.DNormTwo.τ Cert.DNormTwo.sig) → Buf (Elt Bits) ℓ) : Prop :=
  True

def Pre_DNormTwoIdeal (m : (ℓ : Loc Cert.DNormTwoIdeal.nD Cert.DNormTwoIdeal.τ Cert.DNormTwoIdeal.sig) → Buf (Elt Ideal) ℓ) : Prop :=
  True

def Pre_DNormTwoRefIdeal (m : (ℓ : Loc Cert.DNormTwoRefIdeal.nD Cert.DNormTwoRefIdeal.τ Cert.DNormTwoRefIdeal.sig) → Buf (Elt Ideal) ℓ) : Prop :=
  True

def Pre_AdamWide (m : (ℓ : Loc Cert.AdamWide.nD Cert.AdamWide.τ Cert.AdamWide.sig) → Buf (Elt Bits) ℓ) : Prop :=
  True

def Pre_AdamWideIdeal (m : (ℓ : Loc Cert.AdamWideIdeal.nD Cert.AdamWideIdeal.τ Cert.AdamWideIdeal.sig) → Buf (Elt Ideal) ℓ) : Prop :=
  True

def Pre_AdamWideRefIdeal (m : (ℓ : Loc Cert.AdamWideRefIdeal.nD Cert.AdamWideRefIdeal.τ Cert.AdamWideRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_DWDown [hDWDown : Cert.DWDown.Facts] : Prop :=
  ∀ (m : (ℓ : Loc Cert.DWDown.nD Cert.DWDown.τ Cert.DWDown.sig) → Buf (Elt Bits) ℓ) (g : Dev Cert.DWDown.nD → PrngReg), Pre_DWDown m →
    θ_run (Cert.DWDown.defs (F := Bits)) (onTc (τ := Cert.DWDown.τ) (Cert.DWDown.main (F := Bits))) ⟨m, fun _ => 0, g⟩ (fun r => (∀ c : Dev Cert.DWDown.nD,
      r.2.mem ((c.tc : Thread Cert.DWDown.nD Cert.DWDown.τ).loc Cert.DWDown.main_arg0) = m ((c.tc : Thread Cert.DWDown.nD Cert.DWDown.τ).loc Cert.DWDown.main_arg0)
      ∧ r.2.mem ((c.tc : Thread Cert.DWDown.nD Cert.DWDown.τ).loc Cert.DWDown.main_arg1) = m ((c.tc : Thread Cert.DWDown.nD Cert.DWDown.τ).loc Cert.DWDown.main_arg1))
      ∧ r.2.sem = fun _ => 0)

def quiescent_DWDownIdeal [hDWDownIdeal : Cert.DWDownIdeal.Facts] : Prop :=
  ∀ (m : (ℓ : Loc Cert.DWDownIdeal.nD Cert.DWDownIdeal.τ Cert.DWDownIdeal.sig) → Buf (Elt Ideal) ℓ) (g : Dev Cert.DWDownIdeal.nD → PrngReg), Pre_DWDownIdeal m →
    θ_run (Cert.DWDownIdeal.defs (F := Ideal)) (onTc (τ := Cert.DWDownIdeal.τ) (Cert.DWDownIdeal.main (F := Ideal))) ⟨m, fun _ => 0, g⟩ (fun r => (∀ c : Dev Cert.DWDownIdeal.nD,
      r.2.mem ((c.tc : Thread Cert.DWDownIdeal.nD Cert.DWDownIdeal.τ).loc Cert.DWDownIdeal.main_arg0) = m ((c.tc : Thread Cert.DWDownIdeal.nD Cert.DWDownIdeal.τ).loc Cert.DWDownIdeal.main_arg0)
      ∧ r.2.mem ((c.tc : Thread Cert.DWDownIdeal.nD Cert.DWDownIdeal.τ).loc Cert.DWDownIdeal.main_arg1) = m ((c.tc : Thread Cert.DWDownIdeal.nD Cert.DWDownIdeal.τ).loc Cert.DWDownIdeal.main_arg1))
      ∧ r.2.sem = fun _ => 0)

def quiescent_DWDownRefIdeal [hDWDownRefIdeal : Cert.DWDownRefIdeal.Facts] : Prop :=
  ∀ (m : (ℓ : Loc Cert.DWDownRefIdeal.nD Cert.DWDownRefIdeal.τ Cert.DWDownRefIdeal.sig) → Buf (Elt Ideal) ℓ) (g : Dev Cert.DWDownRefIdeal.nD → PrngReg), Pre_DWDownRefIdeal m →
    θ_run (Cert.DWDownRefIdeal.defs (F := Ideal)) (onTc (τ := Cert.DWDownRefIdeal.τ) (Cert.DWDownRefIdeal.main (F := Ideal))) ⟨m, fun _ => 0, g⟩ (fun r => (∀ c : Dev Cert.DWDownRefIdeal.nD,
      r.2.mem ((c.tc : Thread Cert.DWDownRefIdeal.nD Cert.DWDownRefIdeal.τ).loc Cert.DWDownRefIdeal.main_arg0) = m ((c.tc : Thread Cert.DWDownRefIdeal.nD Cert.DWDownRefIdeal.τ).loc Cert.DWDownRefIdeal.main_arg0)
      ∧ r.2.mem ((c.tc : Thread Cert.DWDownRefIdeal.nD Cert.DWDownRefIdeal.τ).loc Cert.DWDownRefIdeal.main_arg1) = m ((c.tc : Thread Cert.DWDownRefIdeal.nD Cert.DWDownRefIdeal.τ).loc Cert.DWDownRefIdeal.main_arg1))
      ∧ r.2.sem = fun _ => 0)

def quiescent_DFfnMid [hDFfnMid : Cert.DFfnMid.Facts] : Prop :=
  ∀ (m : (ℓ : Loc Cert.DFfnMid.nD Cert.DFfnMid.τ Cert.DFfnMid.sig) → Buf (Elt Bits) ℓ) (g : Dev Cert.DFfnMid.nD → PrngReg), Pre_DFfnMid m →
    θ_run (Cert.DFfnMid.defs (F := Bits)) (onTc (τ := Cert.DFfnMid.τ) (Cert.DFfnMid.main (F := Bits))) ⟨m, fun _ => 0, g⟩ (fun r => (∀ c : Dev Cert.DFfnMid.nD,
      r.2.mem ((c.tc : Thread Cert.DFfnMid.nD Cert.DFfnMid.τ).loc Cert.DFfnMid.main_arg0) = m ((c.tc : Thread Cert.DFfnMid.nD Cert.DFfnMid.τ).loc Cert.DFfnMid.main_arg0)
      ∧ r.2.mem ((c.tc : Thread Cert.DFfnMid.nD Cert.DFfnMid.τ).loc Cert.DFfnMid.main_arg1) = m ((c.tc : Thread Cert.DFfnMid.nD Cert.DFfnMid.τ).loc Cert.DFfnMid.main_arg1))
      ∧ r.2.sem = fun _ => 0)

def quiescent_DFfnMidIdeal [hDFfnMidIdeal : Cert.DFfnMidIdeal.Facts] : Prop :=
  ∀ (m : (ℓ : Loc Cert.DFfnMidIdeal.nD Cert.DFfnMidIdeal.τ Cert.DFfnMidIdeal.sig) → Buf (Elt Ideal) ℓ) (g : Dev Cert.DFfnMidIdeal.nD → PrngReg), Pre_DFfnMidIdeal m →
    θ_run (Cert.DFfnMidIdeal.defs (F := Ideal)) (onTc (τ := Cert.DFfnMidIdeal.τ) (Cert.DFfnMidIdeal.main (F := Ideal))) ⟨m, fun _ => 0, g⟩ (fun r => (∀ c : Dev Cert.DFfnMidIdeal.nD,
      r.2.mem ((c.tc : Thread Cert.DFfnMidIdeal.nD Cert.DFfnMidIdeal.τ).loc Cert.DFfnMidIdeal.main_arg0) = m ((c.tc : Thread Cert.DFfnMidIdeal.nD Cert.DFfnMidIdeal.τ).loc Cert.DFfnMidIdeal.main_arg0)
      ∧ r.2.mem ((c.tc : Thread Cert.DFfnMidIdeal.nD Cert.DFfnMidIdeal.τ).loc Cert.DFfnMidIdeal.main_arg1) = m ((c.tc : Thread Cert.DFfnMidIdeal.nD Cert.DFfnMidIdeal.τ).loc Cert.DFfnMidIdeal.main_arg1))
      ∧ r.2.sem = fun _ => 0)

def quiescent_DFfnMidRefIdeal [hDFfnMidRefIdeal : Cert.DFfnMidRefIdeal.Facts] : Prop :=
  ∀ (m : (ℓ : Loc Cert.DFfnMidRefIdeal.nD Cert.DFfnMidRefIdeal.τ Cert.DFfnMidRefIdeal.sig) → Buf (Elt Ideal) ℓ) (g : Dev Cert.DFfnMidRefIdeal.nD → PrngReg), Pre_DFfnMidRefIdeal m →
    θ_run (Cert.DFfnMidRefIdeal.defs (F := Ideal)) (onTc (τ := Cert.DFfnMidRefIdeal.τ) (Cert.DFfnMidRefIdeal.main (F := Ideal))) ⟨m, fun _ => 0, g⟩ (fun r => (∀ c : Dev Cert.DFfnMidRefIdeal.nD,
      r.2.mem ((c.tc : Thread Cert.DFfnMidRefIdeal.nD Cert.DFfnMidRefIdeal.τ).loc Cert.DFfnMidRefIdeal.main_arg0) = m ((c.tc : Thread Cert.DFfnMidRefIdeal.nD Cert.DFfnMidRefIdeal.τ).loc Cert.DFfnMidRefIdeal.main_arg0)
      ∧ r.2.mem ((c.tc : Thread Cert.DFfnMidRefIdeal.nD Cert.DFfnMidRefIdeal.τ).loc Cert.DFfnMidRefIdeal.main_arg1) = m ((c.tc : Thread Cert.DFfnMidRefIdeal.nD Cert.DFfnMidRefIdeal.τ).loc Cert.DFfnMidRefIdeal.main_arg1))
      ∧ r.2.sem = fun _ => 0)

def quiescent_DWUp [hDWUp : Cert.DWUp.Facts] : Prop :=
  ∀ (m : (ℓ : Loc Cert.DWUp.nD Cert.DWUp.τ Cert.DWUp.sig) → Buf (Elt Bits) ℓ) (g : Dev Cert.DWUp.nD → PrngReg), Pre_DWUp m →
    θ_run (Cert.DWUp.defs (F := Bits)) (onTc (τ := Cert.DWUp.τ) (Cert.DWUp.main (F := Bits))) ⟨m, fun _ => 0, g⟩ (fun r => (∀ c : Dev Cert.DWUp.nD,
      r.2.mem ((c.tc : Thread Cert.DWUp.nD Cert.DWUp.τ).loc Cert.DWUp.main_arg0) = m ((c.tc : Thread Cert.DWUp.nD Cert.DWUp.τ).loc Cert.DWUp.main_arg0)
      ∧ r.2.mem ((c.tc : Thread Cert.DWUp.nD Cert.DWUp.τ).loc Cert.DWUp.main_arg1) = m ((c.tc : Thread Cert.DWUp.nD Cert.DWUp.τ).loc Cert.DWUp.main_arg1))
      ∧ r.2.sem = fun _ => 0)

def quiescent_DWUpIdeal [hDWUpIdeal : Cert.DWUpIdeal.Facts] : Prop :=
  ∀ (m : (ℓ : Loc Cert.DWUpIdeal.nD Cert.DWUpIdeal.τ Cert.DWUpIdeal.sig) → Buf (Elt Ideal) ℓ) (g : Dev Cert.DWUpIdeal.nD → PrngReg), Pre_DWUpIdeal m →
    θ_run (Cert.DWUpIdeal.defs (F := Ideal)) (onTc (τ := Cert.DWUpIdeal.τ) (Cert.DWUpIdeal.main (F := Ideal))) ⟨m, fun _ => 0, g⟩ (fun r => (∀ c : Dev Cert.DWUpIdeal.nD,
      r.2.mem ((c.tc : Thread Cert.DWUpIdeal.nD Cert.DWUpIdeal.τ).loc Cert.DWUpIdeal.main_arg0) = m ((c.tc : Thread Cert.DWUpIdeal.nD Cert.DWUpIdeal.τ).loc Cert.DWUpIdeal.main_arg0)
      ∧ r.2.mem ((c.tc : Thread Cert.DWUpIdeal.nD Cert.DWUpIdeal.τ).loc Cert.DWUpIdeal.main_arg1) = m ((c.tc : Thread Cert.DWUpIdeal.nD Cert.DWUpIdeal.τ).loc Cert.DWUpIdeal.main_arg1))
      ∧ r.2.sem = fun _ => 0)

def quiescent_DWUpRefIdeal [hDWUpRefIdeal : Cert.DWUpRefIdeal.Facts] : Prop :=
  ∀ (m : (ℓ : Loc Cert.DWUpRefIdeal.nD Cert.DWUpRefIdeal.τ Cert.DWUpRefIdeal.sig) → Buf (Elt Ideal) ℓ) (g : Dev Cert.DWUpRefIdeal.nD → PrngReg), Pre_DWUpRefIdeal m →
    θ_run (Cert.DWUpRefIdeal.defs (F := Ideal)) (onTc (τ := Cert.DWUpRefIdeal.τ) (Cert.DWUpRefIdeal.main (F := Ideal))) ⟨m, fun _ => 0, g⟩ (fun r => (∀ c : Dev Cert.DWUpRefIdeal.nD,
      r.2.mem ((c.tc : Thread Cert.DWUpRefIdeal.nD Cert.DWUpRefIdeal.τ).loc Cert.DWUpRefIdeal.main_arg0) = m ((c.tc : Thread Cert.DWUpRefIdeal.nD Cert.DWUpRefIdeal.τ).loc Cert.DWUpRefIdeal.main_arg0)
      ∧ r.2.mem ((c.tc : Thread Cert.DWUpRefIdeal.nD Cert.DWUpRefIdeal.τ).loc Cert.DWUpRefIdeal.main_arg1) = m ((c.tc : Thread Cert.DWUpRefIdeal.nD Cert.DWUpRefIdeal.τ).loc Cert.DWUpRefIdeal.main_arg1))
      ∧ r.2.sem = fun _ => 0)

def quiescent_DFfnIn [hDFfnIn : Cert.DFfnIn.Facts] : Prop :=
  ∀ (m : (ℓ : Loc Cert.DFfnIn.nD Cert.DFfnIn.τ Cert.DFfnIn.sig) → Buf (Elt Bits) ℓ) (g : Dev Cert.DFfnIn.nD → PrngReg), Pre_DFfnIn m →
    θ_run (Cert.DFfnIn.defs (F := Bits)) (onTc (τ := Cert.DFfnIn.τ) (Cert.DFfnIn.main (F := Bits))) ⟨m, fun _ => 0, g⟩ (fun r => (∀ c : Dev Cert.DFfnIn.nD,
      r.2.mem ((c.tc : Thread Cert.DFfnIn.nD Cert.DFfnIn.τ).loc Cert.DFfnIn.main_arg0) = m ((c.tc : Thread Cert.DFfnIn.nD Cert.DFfnIn.τ).loc Cert.DFfnIn.main_arg0)
      ∧ r.2.mem ((c.tc : Thread Cert.DFfnIn.nD Cert.DFfnIn.τ).loc Cert.DFfnIn.main_arg1) = m ((c.tc : Thread Cert.DFfnIn.nD Cert.DFfnIn.τ).loc Cert.DFfnIn.main_arg1))
      ∧ r.2.sem = fun _ => 0)

def quiescent_DFfnInIdeal [hDFfnInIdeal : Cert.DFfnInIdeal.Facts] : Prop :=
  ∀ (m : (ℓ : Loc Cert.DFfnInIdeal.nD Cert.DFfnInIdeal.τ Cert.DFfnInIdeal.sig) → Buf (Elt Ideal) ℓ) (g : Dev Cert.DFfnInIdeal.nD → PrngReg), Pre_DFfnInIdeal m →
    θ_run (Cert.DFfnInIdeal.defs (F := Ideal)) (onTc (τ := Cert.DFfnInIdeal.τ) (Cert.DFfnInIdeal.main (F := Ideal))) ⟨m, fun _ => 0, g⟩ (fun r => (∀ c : Dev Cert.DFfnInIdeal.nD,
      r.2.mem ((c.tc : Thread Cert.DFfnInIdeal.nD Cert.DFfnInIdeal.τ).loc Cert.DFfnInIdeal.main_arg0) = m ((c.tc : Thread Cert.DFfnInIdeal.nD Cert.DFfnInIdeal.τ).loc Cert.DFfnInIdeal.main_arg0)
      ∧ r.2.mem ((c.tc : Thread Cert.DFfnInIdeal.nD Cert.DFfnInIdeal.τ).loc Cert.DFfnInIdeal.main_arg1) = m ((c.tc : Thread Cert.DFfnInIdeal.nD Cert.DFfnInIdeal.τ).loc Cert.DFfnInIdeal.main_arg1))
      ∧ r.2.sem = fun _ => 0)

def quiescent_DFfnInRefIdeal [hDFfnInRefIdeal : Cert.DFfnInRefIdeal.Facts] : Prop :=
  ∀ (m : (ℓ : Loc Cert.DFfnInRefIdeal.nD Cert.DFfnInRefIdeal.τ Cert.DFfnInRefIdeal.sig) → Buf (Elt Ideal) ℓ) (g : Dev Cert.DFfnInRefIdeal.nD → PrngReg), Pre_DFfnInRefIdeal m →
    θ_run (Cert.DFfnInRefIdeal.defs (F := Ideal)) (onTc (τ := Cert.DFfnInRefIdeal.τ) (Cert.DFfnInRefIdeal.main (F := Ideal))) ⟨m, fun _ => 0, g⟩ (fun r => (∀ c : Dev Cert.DFfnInRefIdeal.nD,
      r.2.mem ((c.tc : Thread Cert.DFfnInRefIdeal.nD Cert.DFfnInRefIdeal.τ).loc Cert.DFfnInRefIdeal.main_arg0) = m ((c.tc : Thread Cert.DFfnInRefIdeal.nD Cert.DFfnInRefIdeal.τ).loc Cert.DFfnInRefIdeal.main_arg0)
      ∧ r.2.mem ((c.tc : Thread Cert.DFfnInRefIdeal.nD Cert.DFfnInRefIdeal.τ).loc Cert.DFfnInRefIdeal.main_arg1) = m ((c.tc : Thread Cert.DFfnInRefIdeal.nD Cert.DFfnInRefIdeal.τ).loc Cert.DFfnInRefIdeal.main_arg1))
      ∧ r.2.sem = fun _ => 0)

def quiescent_DWide [hDWide : Cert.DWide.Facts] : Prop :=
  ∀ (m : (ℓ : Loc Cert.DWide.nD Cert.DWide.τ Cert.DWide.sig) → Buf (Elt Bits) ℓ) (g : Dev Cert.DWide.nD → PrngReg), Pre_DWide m →
    θ_run (Cert.DWide.defs (F := Bits)) (onTc (τ := Cert.DWide.τ) (Cert.DWide.main (F := Bits))) ⟨m, fun _ => 0, g⟩ (fun r => (∀ c : Dev Cert.DWide.nD,
      r.2.mem ((c.tc : Thread Cert.DWide.nD Cert.DWide.τ).loc Cert.DWide.main_arg0) = m ((c.tc : Thread Cert.DWide.nD Cert.DWide.τ).loc Cert.DWide.main_arg0)
      ∧ r.2.mem ((c.tc : Thread Cert.DWide.nD Cert.DWide.τ).loc Cert.DWide.main_arg1) = m ((c.tc : Thread Cert.DWide.nD Cert.DWide.τ).loc Cert.DWide.main_arg1))
      ∧ r.2.sem = fun _ => 0)

def quiescent_DWideIdeal [hDWideIdeal : Cert.DWideIdeal.Facts] : Prop :=
  ∀ (m : (ℓ : Loc Cert.DWideIdeal.nD Cert.DWideIdeal.τ Cert.DWideIdeal.sig) → Buf (Elt Ideal) ℓ) (g : Dev Cert.DWideIdeal.nD → PrngReg), Pre_DWideIdeal m →
    θ_run (Cert.DWideIdeal.defs (F := Ideal)) (onTc (τ := Cert.DWideIdeal.τ) (Cert.DWideIdeal.main (F := Ideal))) ⟨m, fun _ => 0, g⟩ (fun r => (∀ c : Dev Cert.DWideIdeal.nD,
      r.2.mem ((c.tc : Thread Cert.DWideIdeal.nD Cert.DWideIdeal.τ).loc Cert.DWideIdeal.main_arg0) = m ((c.tc : Thread Cert.DWideIdeal.nD Cert.DWideIdeal.τ).loc Cert.DWideIdeal.main_arg0)
      ∧ r.2.mem ((c.tc : Thread Cert.DWideIdeal.nD Cert.DWideIdeal.τ).loc Cert.DWideIdeal.main_arg1) = m ((c.tc : Thread Cert.DWideIdeal.nD Cert.DWideIdeal.τ).loc Cert.DWideIdeal.main_arg1))
      ∧ r.2.sem = fun _ => 0)

def quiescent_DWideRefIdeal [hDWideRefIdeal : Cert.DWideRefIdeal.Facts] : Prop :=
  ∀ (m : (ℓ : Loc Cert.DWideRefIdeal.nD Cert.DWideRefIdeal.τ Cert.DWideRefIdeal.sig) → Buf (Elt Ideal) ℓ) (g : Dev Cert.DWideRefIdeal.nD → PrngReg), Pre_DWideRefIdeal m →
    θ_run (Cert.DWideRefIdeal.defs (F := Ideal)) (onTc (τ := Cert.DWideRefIdeal.τ) (Cert.DWideRefIdeal.main (F := Ideal))) ⟨m, fun _ => 0, g⟩ (fun r => (∀ c : Dev Cert.DWideRefIdeal.nD,
      r.2.mem ((c.tc : Thread Cert.DWideRefIdeal.nD Cert.DWideRefIdeal.τ).loc Cert.DWideRefIdeal.main_arg0) = m ((c.tc : Thread Cert.DWideRefIdeal.nD Cert.DWideRefIdeal.τ).loc Cert.DWideRefIdeal.main_arg0)
      ∧ r.2.mem ((c.tc : Thread Cert.DWideRefIdeal.nD Cert.DWideRefIdeal.τ).loc Cert.DWideRefIdeal.main_arg1) = m ((c.tc : Thread Cert.DWideRefIdeal.nD Cert.DWideRefIdeal.τ).loc Cert.DWideRefIdeal.main_arg1))
      ∧ r.2.sem = fun _ => 0)

def quiescent_DWKv [hDWKv : Cert.DWKv.Facts] : Prop :=
  ∀ (m : (ℓ : Loc Cert.DWKv.nD Cert.DWKv.τ Cert.DWKv.sig) → Buf (Elt Bits) ℓ) (g : Dev Cert.DWKv.nD → PrngReg), Pre_DWKv m →
    θ_run (Cert.DWKv.defs (F := Bits)) (onTc (τ := Cert.DWKv.τ) (Cert.DWKv.main (F := Bits))) ⟨m, fun _ => 0, g⟩ (fun r => (∀ c : Dev Cert.DWKv.nD,
      r.2.mem ((c.tc : Thread Cert.DWKv.nD Cert.DWKv.τ).loc Cert.DWKv.main_arg0) = m ((c.tc : Thread Cert.DWKv.nD Cert.DWKv.τ).loc Cert.DWKv.main_arg0)
      ∧ r.2.mem ((c.tc : Thread Cert.DWKv.nD Cert.DWKv.τ).loc Cert.DWKv.main_arg1) = m ((c.tc : Thread Cert.DWKv.nD Cert.DWKv.τ).loc Cert.DWKv.main_arg1))
      ∧ r.2.sem = fun _ => 0)

def quiescent_DWKvIdeal [hDWKvIdeal : Cert.DWKvIdeal.Facts] : Prop :=
  ∀ (m : (ℓ : Loc Cert.DWKvIdeal.nD Cert.DWKvIdeal.τ Cert.DWKvIdeal.sig) → Buf (Elt Ideal) ℓ) (g : Dev Cert.DWKvIdeal.nD → PrngReg), Pre_DWKvIdeal m →
    θ_run (Cert.DWKvIdeal.defs (F := Ideal)) (onTc (τ := Cert.DWKvIdeal.τ) (Cert.DWKvIdeal.main (F := Ideal))) ⟨m, fun _ => 0, g⟩ (fun r => (∀ c : Dev Cert.DWKvIdeal.nD,
      r.2.mem ((c.tc : Thread Cert.DWKvIdeal.nD Cert.DWKvIdeal.τ).loc Cert.DWKvIdeal.main_arg0) = m ((c.tc : Thread Cert.DWKvIdeal.nD Cert.DWKvIdeal.τ).loc Cert.DWKvIdeal.main_arg0)
      ∧ r.2.mem ((c.tc : Thread Cert.DWKvIdeal.nD Cert.DWKvIdeal.τ).loc Cert.DWKvIdeal.main_arg1) = m ((c.tc : Thread Cert.DWKvIdeal.nD Cert.DWKvIdeal.τ).loc Cert.DWKvIdeal.main_arg1))
      ∧ r.2.sem = fun _ => 0)

def quiescent_DWKvRefIdeal [hDWKvRefIdeal : Cert.DWKvRefIdeal.Facts] : Prop :=
  ∀ (m : (ℓ : Loc Cert.DWKvRefIdeal.nD Cert.DWKvRefIdeal.τ Cert.DWKvRefIdeal.sig) → Buf (Elt Ideal) ℓ) (g : Dev Cert.DWKvRefIdeal.nD → PrngReg), Pre_DWKvRefIdeal m →
    θ_run (Cert.DWKvRefIdeal.defs (F := Ideal)) (onTc (τ := Cert.DWKvRefIdeal.τ) (Cert.DWKvRefIdeal.main (F := Ideal))) ⟨m, fun _ => 0, g⟩ (fun r => (∀ c : Dev Cert.DWKvRefIdeal.nD,
      r.2.mem ((c.tc : Thread Cert.DWKvRefIdeal.nD Cert.DWKvRefIdeal.τ).loc Cert.DWKvRefIdeal.main_arg0) = m ((c.tc : Thread Cert.DWKvRefIdeal.nD Cert.DWKvRefIdeal.τ).loc Cert.DWKvRefIdeal.main_arg0)
      ∧ r.2.mem ((c.tc : Thread Cert.DWKvRefIdeal.nD Cert.DWKvRefIdeal.τ).loc Cert.DWKvRefIdeal.main_arg1) = m ((c.tc : Thread Cert.DWKvRefIdeal.nD Cert.DWKvRefIdeal.τ).loc Cert.DWKvRefIdeal.main_arg1))
      ∧ r.2.sem = fun _ => 0)

def quiescent_DAttnOut [hDAttnOut : Cert.DAttnOut.Facts] : Prop :=
  ∀ (m : (ℓ : Loc Cert.DAttnOut.nD Cert.DAttnOut.τ Cert.DAttnOut.sig) → Buf (Elt Bits) ℓ) (g : Dev Cert.DAttnOut.nD → PrngReg), Pre_DAttnOut m →
    θ_run (Cert.DAttnOut.defs (F := Bits)) (onTc (τ := Cert.DAttnOut.τ) (Cert.DAttnOut.main (F := Bits))) ⟨m, fun _ => 0, g⟩ (fun r => (∀ c : Dev Cert.DAttnOut.nD,
      r.2.mem ((c.tc : Thread Cert.DAttnOut.nD Cert.DAttnOut.τ).loc Cert.DAttnOut.main_arg0) = m ((c.tc : Thread Cert.DAttnOut.nD Cert.DAttnOut.τ).loc Cert.DAttnOut.main_arg0)
      ∧ r.2.mem ((c.tc : Thread Cert.DAttnOut.nD Cert.DAttnOut.τ).loc Cert.DAttnOut.main_arg1) = m ((c.tc : Thread Cert.DAttnOut.nD Cert.DAttnOut.τ).loc Cert.DAttnOut.main_arg1))
      ∧ r.2.sem = fun _ => 0)

def quiescent_DAttnOutIdeal [hDAttnOutIdeal : Cert.DAttnOutIdeal.Facts] : Prop :=
  ∀ (m : (ℓ : Loc Cert.DAttnOutIdeal.nD Cert.DAttnOutIdeal.τ Cert.DAttnOutIdeal.sig) → Buf (Elt Ideal) ℓ) (g : Dev Cert.DAttnOutIdeal.nD → PrngReg), Pre_DAttnOutIdeal m →
    θ_run (Cert.DAttnOutIdeal.defs (F := Ideal)) (onTc (τ := Cert.DAttnOutIdeal.τ) (Cert.DAttnOutIdeal.main (F := Ideal))) ⟨m, fun _ => 0, g⟩ (fun r => (∀ c : Dev Cert.DAttnOutIdeal.nD,
      r.2.mem ((c.tc : Thread Cert.DAttnOutIdeal.nD Cert.DAttnOutIdeal.τ).loc Cert.DAttnOutIdeal.main_arg0) = m ((c.tc : Thread Cert.DAttnOutIdeal.nD Cert.DAttnOutIdeal.τ).loc Cert.DAttnOutIdeal.main_arg0)
      ∧ r.2.mem ((c.tc : Thread Cert.DAttnOutIdeal.nD Cert.DAttnOutIdeal.τ).loc Cert.DAttnOutIdeal.main_arg1) = m ((c.tc : Thread Cert.DAttnOutIdeal.nD Cert.DAttnOutIdeal.τ).loc Cert.DAttnOutIdeal.main_arg1))
      ∧ r.2.sem = fun _ => 0)

def quiescent_DAttnOutRefIdeal [hDAttnOutRefIdeal : Cert.DAttnOutRefIdeal.Facts] : Prop :=
  ∀ (m : (ℓ : Loc Cert.DAttnOutRefIdeal.nD Cert.DAttnOutRefIdeal.τ Cert.DAttnOutRefIdeal.sig) → Buf (Elt Ideal) ℓ) (g : Dev Cert.DAttnOutRefIdeal.nD → PrngReg), Pre_DAttnOutRefIdeal m →
    θ_run (Cert.DAttnOutRefIdeal.defs (F := Ideal)) (onTc (τ := Cert.DAttnOutRefIdeal.τ) (Cert.DAttnOutRefIdeal.main (F := Ideal))) ⟨m, fun _ => 0, g⟩ (fun r => (∀ c : Dev Cert.DAttnOutRefIdeal.nD,
      r.2.mem ((c.tc : Thread Cert.DAttnOutRefIdeal.nD Cert.DAttnOutRefIdeal.τ).loc Cert.DAttnOutRefIdeal.main_arg0) = m ((c.tc : Thread Cert.DAttnOutRefIdeal.nD Cert.DAttnOutRefIdeal.τ).loc Cert.DAttnOutRefIdeal.main_arg0)
      ∧ r.2.mem ((c.tc : Thread Cert.DAttnOutRefIdeal.nD Cert.DAttnOutRefIdeal.τ).loc Cert.DAttnOutRefIdeal.main_arg1) = m ((c.tc : Thread Cert.DAttnOutRefIdeal.nD Cert.DAttnOutRefIdeal.τ).loc Cert.DAttnOutRefIdeal.main_arg1))
      ∧ r.2.sem = fun _ => 0)

def quiescent_DQIn [hDQIn : Cert.DQIn.Facts] : Prop :=
  ∀ (m : (ℓ : Loc Cert.DQIn.nD Cert.DQIn.τ Cert.DQIn.sig) → Buf (Elt Bits) ℓ) (g : Dev Cert.DQIn.nD → PrngReg), Pre_DQIn m →
    θ_run (Cert.DQIn.defs (F := Bits)) (onTc (τ := Cert.DQIn.τ) (Cert.DQIn.main (F := Bits))) ⟨m, fun _ => 0, g⟩ (fun r => (∀ c : Dev Cert.DQIn.nD,
      r.2.mem ((c.tc : Thread Cert.DQIn.nD Cert.DQIn.τ).loc Cert.DQIn.main_arg0) = m ((c.tc : Thread Cert.DQIn.nD Cert.DQIn.τ).loc Cert.DQIn.main_arg0)
      ∧ r.2.mem ((c.tc : Thread Cert.DQIn.nD Cert.DQIn.τ).loc Cert.DQIn.main_arg1) = m ((c.tc : Thread Cert.DQIn.nD Cert.DQIn.τ).loc Cert.DQIn.main_arg1))
      ∧ r.2.sem = fun _ => 0)

def quiescent_DQInIdeal [hDQInIdeal : Cert.DQInIdeal.Facts] : Prop :=
  ∀ (m : (ℓ : Loc Cert.DQInIdeal.nD Cert.DQInIdeal.τ Cert.DQInIdeal.sig) → Buf (Elt Ideal) ℓ) (g : Dev Cert.DQInIdeal.nD → PrngReg), Pre_DQInIdeal m →
    θ_run (Cert.DQInIdeal.defs (F := Ideal)) (onTc (τ := Cert.DQInIdeal.τ) (Cert.DQInIdeal.main (F := Ideal))) ⟨m, fun _ => 0, g⟩ (fun r => (∀ c : Dev Cert.DQInIdeal.nD,
      r.2.mem ((c.tc : Thread Cert.DQInIdeal.nD Cert.DQInIdeal.τ).loc Cert.DQInIdeal.main_arg0) = m ((c.tc : Thread Cert.DQInIdeal.nD Cert.DQInIdeal.τ).loc Cert.DQInIdeal.main_arg0)
      ∧ r.2.mem ((c.tc : Thread Cert.DQInIdeal.nD Cert.DQInIdeal.τ).loc Cert.DQInIdeal.main_arg1) = m ((c.tc : Thread Cert.DQInIdeal.nD Cert.DQInIdeal.τ).loc Cert.DQInIdeal.main_arg1))
      ∧ r.2.sem = fun _ => 0)

def quiescent_DQInRefIdeal [hDQInRefIdeal : Cert.DQInRefIdeal.Facts] : Prop :=
  ∀ (m : (ℓ : Loc Cert.DQInRefIdeal.nD Cert.DQInRefIdeal.τ Cert.DQInRefIdeal.sig) → Buf (Elt Ideal) ℓ) (g : Dev Cert.DQInRefIdeal.nD → PrngReg), Pre_DQInRefIdeal m →
    θ_run (Cert.DQInRefIdeal.defs (F := Ideal)) (onTc (τ := Cert.DQInRefIdeal.τ) (Cert.DQInRefIdeal.main (F := Ideal))) ⟨m, fun _ => 0, g⟩ (fun r => (∀ c : Dev Cert.DQInRefIdeal.nD,
      r.2.mem ((c.tc : Thread Cert.DQInRefIdeal.nD Cert.DQInRefIdeal.τ).loc Cert.DQInRefIdeal.main_arg0) = m ((c.tc : Thread Cert.DQInRefIdeal.nD Cert.DQInRefIdeal.τ).loc Cert.DQInRefIdeal.main_arg0)
      ∧ r.2.mem ((c.tc : Thread Cert.DQInRefIdeal.nD Cert.DQInRefIdeal.τ).loc Cert.DQInRefIdeal.main_arg1) = m ((c.tc : Thread Cert.DQInRefIdeal.nD Cert.DQInRefIdeal.τ).loc Cert.DQInRefIdeal.main_arg1))
      ∧ r.2.sem = fun _ => 0)

def quiescent_DKIn [hDKIn : Cert.DKIn.Facts] : Prop :=
  ∀ (m : (ℓ : Loc Cert.DKIn.nD Cert.DKIn.τ Cert.DKIn.sig) → Buf (Elt Bits) ℓ) (g : Dev Cert.DKIn.nD → PrngReg), Pre_DKIn m →
    θ_run (Cert.DKIn.defs (F := Bits)) (onTc (τ := Cert.DKIn.τ) (Cert.DKIn.main (F := Bits))) ⟨m, fun _ => 0, g⟩ (fun r => (∀ c : Dev Cert.DKIn.nD,
      r.2.mem ((c.tc : Thread Cert.DKIn.nD Cert.DKIn.τ).loc Cert.DKIn.main_arg0) = m ((c.tc : Thread Cert.DKIn.nD Cert.DKIn.τ).loc Cert.DKIn.main_arg0)
      ∧ r.2.mem ((c.tc : Thread Cert.DKIn.nD Cert.DKIn.τ).loc Cert.DKIn.main_arg1) = m ((c.tc : Thread Cert.DKIn.nD Cert.DKIn.τ).loc Cert.DKIn.main_arg1))
      ∧ r.2.sem = fun _ => 0)

def quiescent_DKInIdeal [hDKInIdeal : Cert.DKInIdeal.Facts] : Prop :=
  ∀ (m : (ℓ : Loc Cert.DKInIdeal.nD Cert.DKInIdeal.τ Cert.DKInIdeal.sig) → Buf (Elt Ideal) ℓ) (g : Dev Cert.DKInIdeal.nD → PrngReg), Pre_DKInIdeal m →
    θ_run (Cert.DKInIdeal.defs (F := Ideal)) (onTc (τ := Cert.DKInIdeal.τ) (Cert.DKInIdeal.main (F := Ideal))) ⟨m, fun _ => 0, g⟩ (fun r => (∀ c : Dev Cert.DKInIdeal.nD,
      r.2.mem ((c.tc : Thread Cert.DKInIdeal.nD Cert.DKInIdeal.τ).loc Cert.DKInIdeal.main_arg0) = m ((c.tc : Thread Cert.DKInIdeal.nD Cert.DKInIdeal.τ).loc Cert.DKInIdeal.main_arg0)
      ∧ r.2.mem ((c.tc : Thread Cert.DKInIdeal.nD Cert.DKInIdeal.τ).loc Cert.DKInIdeal.main_arg1) = m ((c.tc : Thread Cert.DKInIdeal.nD Cert.DKInIdeal.τ).loc Cert.DKInIdeal.main_arg1))
      ∧ r.2.sem = fun _ => 0)

def quiescent_DKInRefIdeal [hDKInRefIdeal : Cert.DKInRefIdeal.Facts] : Prop :=
  ∀ (m : (ℓ : Loc Cert.DKInRefIdeal.nD Cert.DKInRefIdeal.τ Cert.DKInRefIdeal.sig) → Buf (Elt Ideal) ℓ) (g : Dev Cert.DKInRefIdeal.nD → PrngReg), Pre_DKInRefIdeal m →
    θ_run (Cert.DKInRefIdeal.defs (F := Ideal)) (onTc (τ := Cert.DKInRefIdeal.τ) (Cert.DKInRefIdeal.main (F := Ideal))) ⟨m, fun _ => 0, g⟩ (fun r => (∀ c : Dev Cert.DKInRefIdeal.nD,
      r.2.mem ((c.tc : Thread Cert.DKInRefIdeal.nD Cert.DKInRefIdeal.τ).loc Cert.DKInRefIdeal.main_arg0) = m ((c.tc : Thread Cert.DKInRefIdeal.nD Cert.DKInRefIdeal.τ).loc Cert.DKInRefIdeal.main_arg0)
      ∧ r.2.mem ((c.tc : Thread Cert.DKInRefIdeal.nD Cert.DKInRefIdeal.τ).loc Cert.DKInRefIdeal.main_arg1) = m ((c.tc : Thread Cert.DKInRefIdeal.nD Cert.DKInRefIdeal.τ).loc Cert.DKInRefIdeal.main_arg1))
      ∧ r.2.sem = fun _ => 0)

def quiescent_DWIn [hDWIn : Cert.DWIn.Facts] : Prop :=
  ∀ (m : (ℓ : Loc Cert.DWIn.nD Cert.DWIn.τ Cert.DWIn.sig) → Buf (Elt Bits) ℓ) (g : Dev Cert.DWIn.nD → PrngReg), Pre_DWIn m →
    θ_run (Cert.DWIn.defs (F := Bits)) (onTc (τ := Cert.DWIn.τ) (Cert.DWIn.main (F := Bits))) ⟨m, fun _ => 0, g⟩ (fun r => (∀ c : Dev Cert.DWIn.nD,
      r.2.mem ((c.tc : Thread Cert.DWIn.nD Cert.DWIn.τ).loc Cert.DWIn.main_arg0) = m ((c.tc : Thread Cert.DWIn.nD Cert.DWIn.τ).loc Cert.DWIn.main_arg0)
      ∧ r.2.mem ((c.tc : Thread Cert.DWIn.nD Cert.DWIn.τ).loc Cert.DWIn.main_arg1) = m ((c.tc : Thread Cert.DWIn.nD Cert.DWIn.τ).loc Cert.DWIn.main_arg1))
      ∧ r.2.sem = fun _ => 0)

def quiescent_DWInIdeal [hDWInIdeal : Cert.DWInIdeal.Facts] : Prop :=
  ∀ (m : (ℓ : Loc Cert.DWInIdeal.nD Cert.DWInIdeal.τ Cert.DWInIdeal.sig) → Buf (Elt Ideal) ℓ) (g : Dev Cert.DWInIdeal.nD → PrngReg), Pre_DWInIdeal m →
    θ_run (Cert.DWInIdeal.defs (F := Ideal)) (onTc (τ := Cert.DWInIdeal.τ) (Cert.DWInIdeal.main (F := Ideal))) ⟨m, fun _ => 0, g⟩ (fun r => (∀ c : Dev Cert.DWInIdeal.nD,
      r.2.mem ((c.tc : Thread Cert.DWInIdeal.nD Cert.DWInIdeal.τ).loc Cert.DWInIdeal.main_arg0) = m ((c.tc : Thread Cert.DWInIdeal.nD Cert.DWInIdeal.τ).loc Cert.DWInIdeal.main_arg0)
      ∧ r.2.mem ((c.tc : Thread Cert.DWInIdeal.nD Cert.DWInIdeal.τ).loc Cert.DWInIdeal.main_arg1) = m ((c.tc : Thread Cert.DWInIdeal.nD Cert.DWInIdeal.τ).loc Cert.DWInIdeal.main_arg1))
      ∧ r.2.sem = fun _ => 0)

def quiescent_DWInRefIdeal [hDWInRefIdeal : Cert.DWInRefIdeal.Facts] : Prop :=
  ∀ (m : (ℓ : Loc Cert.DWInRefIdeal.nD Cert.DWInRefIdeal.τ Cert.DWInRefIdeal.sig) → Buf (Elt Ideal) ℓ) (g : Dev Cert.DWInRefIdeal.nD → PrngReg), Pre_DWInRefIdeal m →
    θ_run (Cert.DWInRefIdeal.defs (F := Ideal)) (onTc (τ := Cert.DWInRefIdeal.τ) (Cert.DWInRefIdeal.main (F := Ideal))) ⟨m, fun _ => 0, g⟩ (fun r => (∀ c : Dev Cert.DWInRefIdeal.nD,
      r.2.mem ((c.tc : Thread Cert.DWInRefIdeal.nD Cert.DWInRefIdeal.τ).loc Cert.DWInRefIdeal.main_arg0) = m ((c.tc : Thread Cert.DWInRefIdeal.nD Cert.DWInRefIdeal.τ).loc Cert.DWInRefIdeal.main_arg0)
      ∧ r.2.mem ((c.tc : Thread Cert.DWInRefIdeal.nD Cert.DWInRefIdeal.τ).loc Cert.DWInRefIdeal.main_arg1) = m ((c.tc : Thread Cert.DWInRefIdeal.nD Cert.DWInRefIdeal.τ).loc Cert.DWInRefIdeal.main_arg1))
      ∧ r.2.sem = fun _ => 0)

def quiescent_DGmlpIn [hDGmlpIn : Cert.DGmlpIn.Facts] : Prop :=
  ∀ (m : (ℓ : Loc Cert.DGmlpIn.nD Cert.DGmlpIn.τ Cert.DGmlpIn.sig) → Buf (Elt Bits) ℓ) (g : Dev Cert.DGmlpIn.nD → PrngReg), Pre_DGmlpIn m →
    θ_run (Cert.DGmlpIn.defs (F := Bits)) (onTc (τ := Cert.DGmlpIn.τ) (Cert.DGmlpIn.main (F := Bits))) ⟨m, fun _ => 0, g⟩ (fun r => (∀ c : Dev Cert.DGmlpIn.nD,
      r.2.mem ((c.tc : Thread Cert.DGmlpIn.nD Cert.DGmlpIn.τ).loc Cert.DGmlpIn.main_arg0) = m ((c.tc : Thread Cert.DGmlpIn.nD Cert.DGmlpIn.τ).loc Cert.DGmlpIn.main_arg0)
      ∧ r.2.mem ((c.tc : Thread Cert.DGmlpIn.nD Cert.DGmlpIn.τ).loc Cert.DGmlpIn.main_arg1) = m ((c.tc : Thread Cert.DGmlpIn.nD Cert.DGmlpIn.τ).loc Cert.DGmlpIn.main_arg1))
      ∧ r.2.sem = fun _ => 0)

def quiescent_DGmlpInIdeal [hDGmlpInIdeal : Cert.DGmlpInIdeal.Facts] : Prop :=
  ∀ (m : (ℓ : Loc Cert.DGmlpInIdeal.nD Cert.DGmlpInIdeal.τ Cert.DGmlpInIdeal.sig) → Buf (Elt Ideal) ℓ) (g : Dev Cert.DGmlpInIdeal.nD → PrngReg), Pre_DGmlpInIdeal m →
    θ_run (Cert.DGmlpInIdeal.defs (F := Ideal)) (onTc (τ := Cert.DGmlpInIdeal.τ) (Cert.DGmlpInIdeal.main (F := Ideal))) ⟨m, fun _ => 0, g⟩ (fun r => (∀ c : Dev Cert.DGmlpInIdeal.nD,
      r.2.mem ((c.tc : Thread Cert.DGmlpInIdeal.nD Cert.DGmlpInIdeal.τ).loc Cert.DGmlpInIdeal.main_arg0) = m ((c.tc : Thread Cert.DGmlpInIdeal.nD Cert.DGmlpInIdeal.τ).loc Cert.DGmlpInIdeal.main_arg0)
      ∧ r.2.mem ((c.tc : Thread Cert.DGmlpInIdeal.nD Cert.DGmlpInIdeal.τ).loc Cert.DGmlpInIdeal.main_arg1) = m ((c.tc : Thread Cert.DGmlpInIdeal.nD Cert.DGmlpInIdeal.τ).loc Cert.DGmlpInIdeal.main_arg1))
      ∧ r.2.sem = fun _ => 0)

def quiescent_DGmlpInRefIdeal [hDGmlpInRefIdeal : Cert.DGmlpInRefIdeal.Facts] : Prop :=
  ∀ (m : (ℓ : Loc Cert.DGmlpInRefIdeal.nD Cert.DGmlpInRefIdeal.τ Cert.DGmlpInRefIdeal.sig) → Buf (Elt Ideal) ℓ) (g : Dev Cert.DGmlpInRefIdeal.nD → PrngReg), Pre_DGmlpInRefIdeal m →
    θ_run (Cert.DGmlpInRefIdeal.defs (F := Ideal)) (onTc (τ := Cert.DGmlpInRefIdeal.τ) (Cert.DGmlpInRefIdeal.main (F := Ideal))) ⟨m, fun _ => 0, g⟩ (fun r => (∀ c : Dev Cert.DGmlpInRefIdeal.nD,
      r.2.mem ((c.tc : Thread Cert.DGmlpInRefIdeal.nD Cert.DGmlpInRefIdeal.τ).loc Cert.DGmlpInRefIdeal.main_arg0) = m ((c.tc : Thread Cert.DGmlpInRefIdeal.nD Cert.DGmlpInRefIdeal.τ).loc Cert.DGmlpInRefIdeal.main_arg0)
      ∧ r.2.mem ((c.tc : Thread Cert.DGmlpInRefIdeal.nD Cert.DGmlpInRefIdeal.τ).loc Cert.DGmlpInRefIdeal.main_arg1) = m ((c.tc : Thread Cert.DGmlpInRefIdeal.nD Cert.DGmlpInRefIdeal.τ).loc Cert.DGmlpInRefIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_ProjO [hProjO : Cert.ProjO.Facts] : Prop :=
  ∀ (m : (ℓ : Loc Cert.ProjO.nD Cert.ProjO.τ Cert.ProjO.sig) → Buf (Elt Bits) ℓ) (g : Dev Cert.ProjO.nD → PrngReg), Pre_ProjO m →
    θ_run (Cert.ProjO.defs (F := Bits)) (onTc (τ := Cert.ProjO.τ) (Cert.ProjO.main (F := Bits))) ⟨m, fun _ => 0, g⟩ (fun r => (∀ c : Dev Cert.ProjO.nD,
      r.2.mem ((c.tc : Thread Cert.ProjO.nD Cert.ProjO.τ).loc Cert.ProjO.main_arg0) = m ((c.tc : Thread Cert.ProjO.nD Cert.ProjO.τ).loc Cert.ProjO.main_arg0)
      ∧ r.2.mem ((c.tc : Thread Cert.ProjO.nD Cert.ProjO.τ).loc Cert.ProjO.main_arg1) = m ((c.tc : Thread Cert.ProjO.nD Cert.ProjO.τ).loc Cert.ProjO.main_arg1))
      ∧ r.2.sem = fun _ => 0)

def quiescent_ProjOIdeal [hProjOIdeal : Cert.ProjOIdeal.Facts] : Prop :=
  ∀ (m : (ℓ : Loc Cert.ProjOIdeal.nD Cert.ProjOIdeal.τ Cert.ProjOIdeal.sig) → Buf (Elt Ideal) ℓ) (g : Dev Cert.ProjOIdeal.nD → PrngReg), Pre_ProjOIdeal m →
    θ_run (Cert.ProjOIdeal.defs (F := Ideal)) (onTc (τ := Cert.ProjOIdeal.τ) (Cert.ProjOIdeal.main (F := Ideal))) ⟨m, fun _ => 0, g⟩ (fun r => (∀ c : Dev Cert.ProjOIdeal.nD,
      r.2.mem ((c.tc : Thread Cert.ProjOIdeal.nD Cert.ProjOIdeal.τ).loc Cert.ProjOIdeal.main_arg0) = m ((c.tc : Thread Cert.ProjOIdeal.nD Cert.ProjOIdeal.τ).loc Cert.ProjOIdeal.main_arg0)
      ∧ r.2.mem ((c.tc : Thread Cert.ProjOIdeal.nD Cert.ProjOIdeal.τ).loc Cert.ProjOIdeal.main_arg1) = m ((c.tc : Thread Cert.ProjOIdeal.nD Cert.ProjOIdeal.τ).loc Cert.ProjOIdeal.main_arg1))
      ∧ r.2.sem = fun _ => 0)

def quiescent_ProjORefIdeal [hProjORefIdeal : Cert.ProjORefIdeal.Facts] : Prop :=
  ∀ (m : (ℓ : Loc Cert.ProjORefIdeal.nD Cert.ProjORefIdeal.τ Cert.ProjORefIdeal.sig) → Buf (Elt Ideal) ℓ) (g : Dev Cert.ProjORefIdeal.nD → PrngReg), Pre_ProjORefIdeal m →
    θ_run (Cert.ProjORefIdeal.defs (F := Ideal)) (onTc (τ := Cert.ProjORefIdeal.τ) (Cert.ProjORefIdeal.main (F := Ideal))) ⟨m, fun _ => 0, g⟩ (fun r => (∀ c : Dev Cert.ProjORefIdeal.nD,
      r.2.mem ((c.tc : Thread Cert.ProjORefIdeal.nD Cert.ProjORefIdeal.τ).loc Cert.ProjORefIdeal.main_arg0) = m ((c.tc : Thread Cert.ProjORefIdeal.nD Cert.ProjORefIdeal.τ).loc Cert.ProjORefIdeal.main_arg0)
      ∧ r.2.mem ((c.tc : Thread Cert.ProjORefIdeal.nD Cert.ProjORefIdeal.τ).loc Cert.ProjORefIdeal.main_arg1) = m ((c.tc : Thread Cert.ProjORefIdeal.nD Cert.ProjORefIdeal.τ).loc Cert.ProjORefIdeal.main_arg1))
      ∧ r.2.sem = fun _ => 0)

def quiescent_GmlpIn [hGmlpIn : Cert.GmlpIn.Facts] : Prop :=
  ∀ (m : (ℓ : Loc Cert.GmlpIn.nD Cert.GmlpIn.τ Cert.GmlpIn.sig) → Buf (Elt Bits) ℓ) (g : Dev Cert.GmlpIn.nD → PrngReg), Pre_GmlpIn m →
    θ_run (Cert.GmlpIn.defs (F := Bits)) (onTc (τ := Cert.GmlpIn.τ) (Cert.GmlpIn.main (F := Bits))) ⟨m, fun _ => 0, g⟩ (fun r => (∀ c : Dev Cert.GmlpIn.nD,
      r.2.mem ((c.tc : Thread Cert.GmlpIn.nD Cert.GmlpIn.τ).loc Cert.GmlpIn.main_arg0) = m ((c.tc : Thread Cert.GmlpIn.nD Cert.GmlpIn.τ).loc Cert.GmlpIn.main_arg0)
      ∧ r.2.mem ((c.tc : Thread Cert.GmlpIn.nD Cert.GmlpIn.τ).loc Cert.GmlpIn.main_arg1) = m ((c.tc : Thread Cert.GmlpIn.nD Cert.GmlpIn.τ).loc Cert.GmlpIn.main_arg1))
      ∧ r.2.sem = fun _ => 0)

def quiescent_GmlpInIdeal [hGmlpInIdeal : Cert.GmlpInIdeal.Facts] : Prop :=
  ∀ (m : (ℓ : Loc Cert.GmlpInIdeal.nD Cert.GmlpInIdeal.τ Cert.GmlpInIdeal.sig) → Buf (Elt Ideal) ℓ) (g : Dev Cert.GmlpInIdeal.nD → PrngReg), Pre_GmlpInIdeal m →
    θ_run (Cert.GmlpInIdeal.defs (F := Ideal)) (onTc (τ := Cert.GmlpInIdeal.τ) (Cert.GmlpInIdeal.main (F := Ideal))) ⟨m, fun _ => 0, g⟩ (fun r => (∀ c : Dev Cert.GmlpInIdeal.nD,
      r.2.mem ((c.tc : Thread Cert.GmlpInIdeal.nD Cert.GmlpInIdeal.τ).loc Cert.GmlpInIdeal.main_arg0) = m ((c.tc : Thread Cert.GmlpInIdeal.nD Cert.GmlpInIdeal.τ).loc Cert.GmlpInIdeal.main_arg0)
      ∧ r.2.mem ((c.tc : Thread Cert.GmlpInIdeal.nD Cert.GmlpInIdeal.τ).loc Cert.GmlpInIdeal.main_arg1) = m ((c.tc : Thread Cert.GmlpInIdeal.nD Cert.GmlpInIdeal.τ).loc Cert.GmlpInIdeal.main_arg1))
      ∧ r.2.sem = fun _ => 0)

def quiescent_GmlpInRefIdeal [hGmlpInRefIdeal : Cert.GmlpInRefIdeal.Facts] : Prop :=
  ∀ (m : (ℓ : Loc Cert.GmlpInRefIdeal.nD Cert.GmlpInRefIdeal.τ Cert.GmlpInRefIdeal.sig) → Buf (Elt Ideal) ℓ) (g : Dev Cert.GmlpInRefIdeal.nD → PrngReg), Pre_GmlpInRefIdeal m →
    θ_run (Cert.GmlpInRefIdeal.defs (F := Ideal)) (onTc (τ := Cert.GmlpInRefIdeal.τ) (Cert.GmlpInRefIdeal.main (F := Ideal))) ⟨m, fun _ => 0, g⟩ (fun r => (∀ c : Dev Cert.GmlpInRefIdeal.nD,
      r.2.mem ((c.tc : Thread Cert.GmlpInRefIdeal.nD Cert.GmlpInRefIdeal.τ).loc Cert.GmlpInRefIdeal.main_arg0) = m ((c.tc : Thread Cert.GmlpInRefIdeal.nD Cert.GmlpInRefIdeal.τ).loc Cert.GmlpInRefIdeal.main_arg0)
      ∧ r.2.mem ((c.tc : Thread Cert.GmlpInRefIdeal.nD Cert.GmlpInRefIdeal.τ).loc Cert.GmlpInRefIdeal.main_arg1) = m ((c.tc : Thread Cert.GmlpInRefIdeal.nD Cert.GmlpInRefIdeal.τ).loc Cert.GmlpInRefIdeal.main_arg1))
      ∧ r.2.sem = fun _ => 0)

def quiescent_DNormOut [hDNormOut : Cert.DNormOut.Facts] : Prop :=
  ∀ (m : (ℓ : Loc Cert.DNormOut.nD Cert.DNormOut.τ Cert.DNormOut.sig) → Buf (Elt Bits) ℓ) (g : Dev Cert.DNormOut.nD → PrngReg), Pre_DNormOut m →
    θ_run (Cert.DNormOut.defs (F := Bits)) (onTc (τ := Cert.DNormOut.τ) (Cert.DNormOut.main (F := Bits))) ⟨m, fun _ => 0, g⟩ (fun r => (∀ c : Dev Cert.DNormOut.nD,
      r.2.mem ((c.tc : Thread Cert.DNormOut.nD Cert.DNormOut.τ).loc Cert.DNormOut.main_arg0) = m ((c.tc : Thread Cert.DNormOut.nD Cert.DNormOut.τ).loc Cert.DNormOut.main_arg0)
      ∧ r.2.mem ((c.tc : Thread Cert.DNormOut.nD Cert.DNormOut.τ).loc Cert.DNormOut.main_arg1) = m ((c.tc : Thread Cert.DNormOut.nD Cert.DNormOut.τ).loc Cert.DNormOut.main_arg1)
      ∧ r.2.mem ((c.tc : Thread Cert.DNormOut.nD Cert.DNormOut.τ).loc Cert.DNormOut.main_arg2) = m ((c.tc : Thread Cert.DNormOut.nD Cert.DNormOut.τ).loc Cert.DNormOut.main_arg2))
      ∧ r.2.sem = fun _ => 0)

def quiescent_DNormOutIdeal [hDNormOutIdeal : Cert.DNormOutIdeal.Facts] : Prop :=
  ∀ (m : (ℓ : Loc Cert.DNormOutIdeal.nD Cert.DNormOutIdeal.τ Cert.DNormOutIdeal.sig) → Buf (Elt Ideal) ℓ) (g : Dev Cert.DNormOutIdeal.nD → PrngReg), Pre_DNormOutIdeal m →
    θ_run (Cert.DNormOutIdeal.defs (F := Ideal)) (onTc (τ := Cert.DNormOutIdeal.τ) (Cert.DNormOutIdeal.main (F := Ideal))) ⟨m, fun _ => 0, g⟩ (fun r => (∀ c : Dev Cert.DNormOutIdeal.nD,
      r.2.mem ((c.tc : Thread Cert.DNormOutIdeal.nD Cert.DNormOutIdeal.τ).loc Cert.DNormOutIdeal.main_arg0) = m ((c.tc : Thread Cert.DNormOutIdeal.nD Cert.DNormOutIdeal.τ).loc Cert.DNormOutIdeal.main_arg0)
      ∧ r.2.mem ((c.tc : Thread Cert.DNormOutIdeal.nD Cert.DNormOutIdeal.τ).loc Cert.DNormOutIdeal.main_arg1) = m ((c.tc : Thread Cert.DNormOutIdeal.nD Cert.DNormOutIdeal.τ).loc Cert.DNormOutIdeal.main_arg1)
      ∧ r.2.mem ((c.tc : Thread Cert.DNormOutIdeal.nD Cert.DNormOutIdeal.τ).loc Cert.DNormOutIdeal.main_arg2) = m ((c.tc : Thread Cert.DNormOutIdeal.nD Cert.DNormOutIdeal.τ).loc Cert.DNormOutIdeal.main_arg2))
      ∧ r.2.sem = fun _ => 0)

def quiescent_DNormOutRefIdeal [hDNormOutRefIdeal : Cert.DNormOutRefIdeal.Facts] : Prop :=
  ∀ (m : (ℓ : Loc Cert.DNormOutRefIdeal.nD Cert.DNormOutRefIdeal.τ Cert.DNormOutRefIdeal.sig) → Buf (Elt Ideal) ℓ) (g : Dev Cert.DNormOutRefIdeal.nD → PrngReg), Pre_DNormOutRefIdeal m →
    θ_run (Cert.DNormOutRefIdeal.defs (F := Ideal)) (onTc (τ := Cert.DNormOutRefIdeal.τ) (Cert.DNormOutRefIdeal.main (F := Ideal))) ⟨m, fun _ => 0, g⟩ (fun r => (∀ c : Dev Cert.DNormOutRefIdeal.nD,
      r.2.mem ((c.tc : Thread Cert.DNormOutRefIdeal.nD Cert.DNormOutRefIdeal.τ).loc Cert.DNormOutRefIdeal.main_arg0) = m ((c.tc : Thread Cert.DNormOutRefIdeal.nD Cert.DNormOutRefIdeal.τ).loc Cert.DNormOutRefIdeal.main_arg0)
      ∧ r.2.mem ((c.tc : Thread Cert.DNormOutRefIdeal.nD Cert.DNormOutRefIdeal.τ).loc Cert.DNormOutRefIdeal.main_arg1) = m ((c.tc : Thread Cert.DNormOutRefIdeal.nD Cert.DNormOutRefIdeal.τ).loc Cert.DNormOutRefIdeal.main_arg1)
      ∧ r.2.mem ((c.tc : Thread Cert.DNormOutRefIdeal.nD Cert.DNormOutRefIdeal.τ).loc Cert.DNormOutRefIdeal.main_arg2) = m ((c.tc : Thread Cert.DNormOutRefIdeal.nD Cert.DNormOutRefIdeal.τ).loc Cert.DNormOutRefIdeal.main_arg2))
      ∧ r.2.sem = fun _ => 0)

def quiescent_DNormIn [hDNormIn : Cert.DNormIn.Facts] : Prop :=
  ∀ (m : (ℓ : Loc Cert.DNormIn.nD Cert.DNormIn.τ Cert.DNormIn.sig) → Buf (Elt Bits) ℓ) (g : Dev Cert.DNormIn.nD → PrngReg), Pre_DNormIn m →
    θ_run (Cert.DNormIn.defs (F := Bits)) (onTc (τ := Cert.DNormIn.τ) (Cert.DNormIn.main (F := Bits))) ⟨m, fun _ => 0, g⟩ (fun r => (∀ c : Dev Cert.DNormIn.nD,
      r.2.mem ((c.tc : Thread Cert.DNormIn.nD Cert.DNormIn.τ).loc Cert.DNormIn.main_arg0) = m ((c.tc : Thread Cert.DNormIn.nD Cert.DNormIn.τ).loc Cert.DNormIn.main_arg0)
      ∧ r.2.mem ((c.tc : Thread Cert.DNormIn.nD Cert.DNormIn.τ).loc Cert.DNormIn.main_arg1) = m ((c.tc : Thread Cert.DNormIn.nD Cert.DNormIn.τ).loc Cert.DNormIn.main_arg1)
      ∧ r.2.mem ((c.tc : Thread Cert.DNormIn.nD Cert.DNormIn.τ).loc Cert.DNormIn.main_arg2) = m ((c.tc : Thread Cert.DNormIn.nD Cert.DNormIn.τ).loc Cert.DNormIn.main_arg2)
      ∧ r.2.mem ((c.tc : Thread Cert.DNormIn.nD Cert.DNormIn.τ).loc Cert.DNormIn.main_arg3) = m ((c.tc : Thread Cert.DNormIn.nD Cert.DNormIn.τ).loc Cert.DNormIn.main_arg3))
      ∧ r.2.sem = fun _ => 0)

def quiescent_DNormInIdeal [hDNormInIdeal : Cert.DNormInIdeal.Facts] : Prop :=
  ∀ (m : (ℓ : Loc Cert.DNormInIdeal.nD Cert.DNormInIdeal.τ Cert.DNormInIdeal.sig) → Buf (Elt Ideal) ℓ) (g : Dev Cert.DNormInIdeal.nD → PrngReg), Pre_DNormInIdeal m →
    θ_run (Cert.DNormInIdeal.defs (F := Ideal)) (onTc (τ := Cert.DNormInIdeal.τ) (Cert.DNormInIdeal.main (F := Ideal))) ⟨m, fun _ => 0, g⟩ (fun r => (∀ c : Dev Cert.DNormInIdeal.nD,
      r.2.mem ((c.tc : Thread Cert.DNormInIdeal.nD Cert.DNormInIdeal.τ).loc Cert.DNormInIdeal.main_arg0) = m ((c.tc : Thread Cert.DNormInIdeal.nD Cert.DNormInIdeal.τ).loc Cert.DNormInIdeal.main_arg0)
      ∧ r.2.mem ((c.tc : Thread Cert.DNormInIdeal.nD Cert.DNormInIdeal.τ).loc Cert.DNormInIdeal.main_arg1) = m ((c.tc : Thread Cert.DNormInIdeal.nD Cert.DNormInIdeal.τ).loc Cert.DNormInIdeal.main_arg1)
      ∧ r.2.mem ((c.tc : Thread Cert.DNormInIdeal.nD Cert.DNormInIdeal.τ).loc Cert.DNormInIdeal.main_arg2) = m ((c.tc : Thread Cert.DNormInIdeal.nD Cert.DNormInIdeal.τ).loc Cert.DNormInIdeal.main_arg2)
      ∧ r.2.mem ((c.tc : Thread Cert.DNormInIdeal.nD Cert.DNormInIdeal.τ).loc Cert.DNormInIdeal.main_arg3) = m ((c.tc : Thread Cert.DNormInIdeal.nD Cert.DNormInIdeal.τ).loc Cert.DNormInIdeal.main_arg3))
      ∧ r.2.sem = fun _ => 0)

def quiescent_DNormInRefIdeal [hDNormInRefIdeal : Cert.DNormInRefIdeal.Facts] : Prop :=
  ∀ (m : (ℓ : Loc Cert.DNormInRefIdeal.nD Cert.DNormInRefIdeal.τ Cert.DNormInRefIdeal.sig) → Buf (Elt Ideal) ℓ) (g : Dev Cert.DNormInRefIdeal.nD → PrngReg), Pre_DNormInRefIdeal m →
    θ_run (Cert.DNormInRefIdeal.defs (F := Ideal)) (onTc (τ := Cert.DNormInRefIdeal.τ) (Cert.DNormInRefIdeal.main (F := Ideal))) ⟨m, fun _ => 0, g⟩ (fun r => (∀ c : Dev Cert.DNormInRefIdeal.nD,
      r.2.mem ((c.tc : Thread Cert.DNormInRefIdeal.nD Cert.DNormInRefIdeal.τ).loc Cert.DNormInRefIdeal.main_arg0) = m ((c.tc : Thread Cert.DNormInRefIdeal.nD Cert.DNormInRefIdeal.τ).loc Cert.DNormInRefIdeal.main_arg0)
      ∧ r.2.mem ((c.tc : Thread Cert.DNormInRefIdeal.nD Cert.DNormInRefIdeal.τ).loc Cert.DNormInRefIdeal.main_arg1) = m ((c.tc : Thread Cert.DNormInRefIdeal.nD Cert.DNormInRefIdeal.τ).loc Cert.DNormInRefIdeal.main_arg1)
      ∧ r.2.mem ((c.tc : Thread Cert.DNormInRefIdeal.nD Cert.DNormInRefIdeal.τ).loc Cert.DNormInRefIdeal.main_arg2) = m ((c.tc : Thread Cert.DNormInRefIdeal.nD Cert.DNormInRefIdeal.τ).loc Cert.DNormInRefIdeal.main_arg2)
      ∧ r.2.mem ((c.tc : Thread Cert.DNormInRefIdeal.nD Cert.DNormInRefIdeal.τ).loc Cert.DNormInRefIdeal.main_arg3) = m ((c.tc : Thread Cert.DNormInRefIdeal.nD Cert.DNormInRefIdeal.τ).loc Cert.DNormInRefIdeal.main_arg3))
      ∧ r.2.sem = fun _ => 0)

def quiescent_DNormTwo [hDNormTwo : Cert.DNormTwo.Facts] : Prop :=
  ∀ (m : (ℓ : Loc Cert.DNormTwo.nD Cert.DNormTwo.τ Cert.DNormTwo.sig) → Buf (Elt Bits) ℓ) (g : Dev Cert.DNormTwo.nD → PrngReg), Pre_DNormTwo m →
    θ_run (Cert.DNormTwo.defs (F := Bits)) (onTc (τ := Cert.DNormTwo.τ) (Cert.DNormTwo.main (F := Bits))) ⟨m, fun _ => 0, g⟩ (fun r => (∀ c : Dev Cert.DNormTwo.nD,
      r.2.mem ((c.tc : Thread Cert.DNormTwo.nD Cert.DNormTwo.τ).loc Cert.DNormTwo.main_arg0) = m ((c.tc : Thread Cert.DNormTwo.nD Cert.DNormTwo.τ).loc Cert.DNormTwo.main_arg0)
      ∧ r.2.mem ((c.tc : Thread Cert.DNormTwo.nD Cert.DNormTwo.τ).loc Cert.DNormTwo.main_arg1) = m ((c.tc : Thread Cert.DNormTwo.nD Cert.DNormTwo.τ).loc Cert.DNormTwo.main_arg1)
      ∧ r.2.mem ((c.tc : Thread Cert.DNormTwo.nD Cert.DNormTwo.τ).loc Cert.DNormTwo.main_arg2) = m ((c.tc : Thread Cert.DNormTwo.nD Cert.DNormTwo.τ).loc Cert.DNormTwo.main_arg2)
      ∧ r.2.mem ((c.tc : Thread Cert.DNormTwo.nD Cert.DNormTwo.τ).loc Cert.DNormTwo.main_arg3) = m ((c.tc : Thread Cert.DNormTwo.nD Cert.DNormTwo.τ).loc Cert.DNormTwo.main_arg3)
      ∧ r.2.mem ((c.tc : Thread Cert.DNormTwo.nD Cert.DNormTwo.τ).loc Cert.DNormTwo.main_arg4) = m ((c.tc : Thread Cert.DNormTwo.nD Cert.DNormTwo.τ).loc Cert.DNormTwo.main_arg4)
      ∧ r.2.mem ((c.tc : Thread Cert.DNormTwo.nD Cert.DNormTwo.τ).loc Cert.DNormTwo.main_arg5) = m ((c.tc : Thread Cert.DNormTwo.nD Cert.DNormTwo.τ).loc Cert.DNormTwo.main_arg5)
      ∧ r.2.mem ((c.tc : Thread Cert.DNormTwo.nD Cert.DNormTwo.τ).loc Cert.DNormTwo.main_arg6) = m ((c.tc : Thread Cert.DNormTwo.nD Cert.DNormTwo.τ).loc Cert.DNormTwo.main_arg6))
      ∧ r.2.sem = fun _ => 0)

def quiescent_DNormTwoIdeal [hDNormTwoIdeal : Cert.DNormTwoIdeal.Facts] : Prop :=
  ∀ (m : (ℓ : Loc Cert.DNormTwoIdeal.nD Cert.DNormTwoIdeal.τ Cert.DNormTwoIdeal.sig) → Buf (Elt Ideal) ℓ) (g : Dev Cert.DNormTwoIdeal.nD → PrngReg), Pre_DNormTwoIdeal m →
    θ_run (Cert.DNormTwoIdeal.defs (F := Ideal)) (onTc (τ := Cert.DNormTwoIdeal.τ) (Cert.DNormTwoIdeal.main (F := Ideal))) ⟨m, fun _ => 0, g⟩ (fun r => (∀ c : Dev Cert.DNormTwoIdeal.nD,
      r.2.mem ((c.tc : Thread Cert.DNormTwoIdeal.nD Cert.DNormTwoIdeal.τ).loc Cert.DNormTwoIdeal.main_arg0) = m ((c.tc : Thread Cert.DNormTwoIdeal.nD Cert.DNormTwoIdeal.τ).loc Cert.DNormTwoIdeal.main_arg0)
      ∧ r.2.mem ((c.tc : Thread Cert.DNormTwoIdeal.nD Cert.DNormTwoIdeal.τ).loc Cert.DNormTwoIdeal.main_arg1) = m ((c.tc : Thread Cert.DNormTwoIdeal.nD Cert.DNormTwoIdeal.τ).loc Cert.DNormTwoIdeal.main_arg1)
      ∧ r.2.mem ((c.tc : Thread Cert.DNormTwoIdeal.nD Cert.DNormTwoIdeal.τ).loc Cert.DNormTwoIdeal.main_arg2) = m ((c.tc : Thread Cert.DNormTwoIdeal.nD Cert.DNormTwoIdeal.τ).loc Cert.DNormTwoIdeal.main_arg2)
      ∧ r.2.mem ((c.tc : Thread Cert.DNormTwoIdeal.nD Cert.DNormTwoIdeal.τ).loc Cert.DNormTwoIdeal.main_arg3) = m ((c.tc : Thread Cert.DNormTwoIdeal.nD Cert.DNormTwoIdeal.τ).loc Cert.DNormTwoIdeal.main_arg3)
      ∧ r.2.mem ((c.tc : Thread Cert.DNormTwoIdeal.nD Cert.DNormTwoIdeal.τ).loc Cert.DNormTwoIdeal.main_arg4) = m ((c.tc : Thread Cert.DNormTwoIdeal.nD Cert.DNormTwoIdeal.τ).loc Cert.DNormTwoIdeal.main_arg4)
      ∧ r.2.mem ((c.tc : Thread Cert.DNormTwoIdeal.nD Cert.DNormTwoIdeal.τ).loc Cert.DNormTwoIdeal.main_arg5) = m ((c.tc : Thread Cert.DNormTwoIdeal.nD Cert.DNormTwoIdeal.τ).loc Cert.DNormTwoIdeal.main_arg5)
      ∧ r.2.mem ((c.tc : Thread Cert.DNormTwoIdeal.nD Cert.DNormTwoIdeal.τ).loc Cert.DNormTwoIdeal.main_arg6) = m ((c.tc : Thread Cert.DNormTwoIdeal.nD Cert.DNormTwoIdeal.τ).loc Cert.DNormTwoIdeal.main_arg6))
      ∧ r.2.sem = fun _ => 0)

def quiescent_DNormTwoRefIdeal [hDNormTwoRefIdeal : Cert.DNormTwoRefIdeal.Facts] : Prop :=
  ∀ (m : (ℓ : Loc Cert.DNormTwoRefIdeal.nD Cert.DNormTwoRefIdeal.τ Cert.DNormTwoRefIdeal.sig) → Buf (Elt Ideal) ℓ) (g : Dev Cert.DNormTwoRefIdeal.nD → PrngReg), Pre_DNormTwoRefIdeal m →
    θ_run (Cert.DNormTwoRefIdeal.defs (F := Ideal)) (onTc (τ := Cert.DNormTwoRefIdeal.τ) (Cert.DNormTwoRefIdeal.main (F := Ideal))) ⟨m, fun _ => 0, g⟩ (fun r => (∀ c : Dev Cert.DNormTwoRefIdeal.nD,
      r.2.mem ((c.tc : Thread Cert.DNormTwoRefIdeal.nD Cert.DNormTwoRefIdeal.τ).loc Cert.DNormTwoRefIdeal.main_arg0) = m ((c.tc : Thread Cert.DNormTwoRefIdeal.nD Cert.DNormTwoRefIdeal.τ).loc Cert.DNormTwoRefIdeal.main_arg0)
      ∧ r.2.mem ((c.tc : Thread Cert.DNormTwoRefIdeal.nD Cert.DNormTwoRefIdeal.τ).loc Cert.DNormTwoRefIdeal.main_arg1) = m ((c.tc : Thread Cert.DNormTwoRefIdeal.nD Cert.DNormTwoRefIdeal.τ).loc Cert.DNormTwoRefIdeal.main_arg1)
      ∧ r.2.mem ((c.tc : Thread Cert.DNormTwoRefIdeal.nD Cert.DNormTwoRefIdeal.τ).loc Cert.DNormTwoRefIdeal.main_arg2) = m ((c.tc : Thread Cert.DNormTwoRefIdeal.nD Cert.DNormTwoRefIdeal.τ).loc Cert.DNormTwoRefIdeal.main_arg2)
      ∧ r.2.mem ((c.tc : Thread Cert.DNormTwoRefIdeal.nD Cert.DNormTwoRefIdeal.τ).loc Cert.DNormTwoRefIdeal.main_arg3) = m ((c.tc : Thread Cert.DNormTwoRefIdeal.nD Cert.DNormTwoRefIdeal.τ).loc Cert.DNormTwoRefIdeal.main_arg3)
      ∧ r.2.mem ((c.tc : Thread Cert.DNormTwoRefIdeal.nD Cert.DNormTwoRefIdeal.τ).loc Cert.DNormTwoRefIdeal.main_arg4) = m ((c.tc : Thread Cert.DNormTwoRefIdeal.nD Cert.DNormTwoRefIdeal.τ).loc Cert.DNormTwoRefIdeal.main_arg4)
      ∧ r.2.mem ((c.tc : Thread Cert.DNormTwoRefIdeal.nD Cert.DNormTwoRefIdeal.τ).loc Cert.DNormTwoRefIdeal.main_arg5) = m ((c.tc : Thread Cert.DNormTwoRefIdeal.nD Cert.DNormTwoRefIdeal.τ).loc Cert.DNormTwoRefIdeal.main_arg5)
      ∧ r.2.mem ((c.tc : Thread Cert.DNormTwoRefIdeal.nD Cert.DNormTwoRefIdeal.τ).loc Cert.DNormTwoRefIdeal.main_arg6) = m ((c.tc : Thread Cert.DNormTwoRefIdeal.nD Cert.DNormTwoRefIdeal.τ).loc Cert.DNormTwoRefIdeal.main_arg6))
      ∧ r.2.sem = fun _ => 0)

def quiescent_AdamWide [hAdamWide : Cert.AdamWide.Facts] : Prop :=
  ∀ (m : (ℓ : Loc Cert.AdamWide.nD Cert.AdamWide.τ Cert.AdamWide.sig) → Buf (Elt Bits) ℓ) (g : Dev Cert.AdamWide.nD → PrngReg), Pre_AdamWide m →
    θ_run (Cert.AdamWide.defs (F := Bits)) (onTc (τ := Cert.AdamWide.τ) (Cert.AdamWide.main (F := Bits))) ⟨m, fun _ => 0, g⟩ (fun r => (∀ c : Dev Cert.AdamWide.nD,
      r.2.mem ((c.tc : Thread Cert.AdamWide.nD Cert.AdamWide.τ).loc Cert.AdamWide.main_arg0) = m ((c.tc : Thread Cert.AdamWide.nD Cert.AdamWide.τ).loc Cert.AdamWide.main_arg0)
      ∧ r.2.mem ((c.tc : Thread Cert.AdamWide.nD Cert.AdamWide.τ).loc Cert.AdamWide.main_arg1) = m ((c.tc : Thread Cert.AdamWide.nD Cert.AdamWide.τ).loc Cert.AdamWide.main_arg1)
      ∧ r.2.mem ((c.tc : Thread Cert.AdamWide.nD Cert.AdamWide.τ).loc Cert.AdamWide.main_arg2) = m ((c.tc : Thread Cert.AdamWide.nD Cert.AdamWide.τ).loc Cert.AdamWide.main_arg2)
      ∧ r.2.mem ((c.tc : Thread Cert.AdamWide.nD Cert.AdamWide.τ).loc Cert.AdamWide.main_arg3) = m ((c.tc : Thread Cert.AdamWide.nD Cert.AdamWide.τ).loc Cert.AdamWide.main_arg3))
      ∧ r.2.sem = fun _ => 0)

def quiescent_AdamWideIdeal [hAdamWideIdeal : Cert.AdamWideIdeal.Facts] : Prop :=
  ∀ (m : (ℓ : Loc Cert.AdamWideIdeal.nD Cert.AdamWideIdeal.τ Cert.AdamWideIdeal.sig) → Buf (Elt Ideal) ℓ) (g : Dev Cert.AdamWideIdeal.nD → PrngReg), Pre_AdamWideIdeal m →
    θ_run (Cert.AdamWideIdeal.defs (F := Ideal)) (onTc (τ := Cert.AdamWideIdeal.τ) (Cert.AdamWideIdeal.main (F := Ideal))) ⟨m, fun _ => 0, g⟩ (fun r => (∀ c : Dev Cert.AdamWideIdeal.nD,
      r.2.mem ((c.tc : Thread Cert.AdamWideIdeal.nD Cert.AdamWideIdeal.τ).loc Cert.AdamWideIdeal.main_arg0) = m ((c.tc : Thread Cert.AdamWideIdeal.nD Cert.AdamWideIdeal.τ).loc Cert.AdamWideIdeal.main_arg0)
      ∧ r.2.mem ((c.tc : Thread Cert.AdamWideIdeal.nD Cert.AdamWideIdeal.τ).loc Cert.AdamWideIdeal.main_arg1) = m ((c.tc : Thread Cert.AdamWideIdeal.nD Cert.AdamWideIdeal.τ).loc Cert.AdamWideIdeal.main_arg1)
      ∧ r.2.mem ((c.tc : Thread Cert.AdamWideIdeal.nD Cert.AdamWideIdeal.τ).loc Cert.AdamWideIdeal.main_arg2) = m ((c.tc : Thread Cert.AdamWideIdeal.nD Cert.AdamWideIdeal.τ).loc Cert.AdamWideIdeal.main_arg2)
      ∧ r.2.mem ((c.tc : Thread Cert.AdamWideIdeal.nD Cert.AdamWideIdeal.τ).loc Cert.AdamWideIdeal.main_arg3) = m ((c.tc : Thread Cert.AdamWideIdeal.nD Cert.AdamWideIdeal.τ).loc Cert.AdamWideIdeal.main_arg3))
      ∧ r.2.sem = fun _ => 0)

def quiescent_AdamWideRefIdeal [hAdamWideRefIdeal : Cert.AdamWideRefIdeal.Facts] : Prop :=
  ∀ (m : (ℓ : Loc Cert.AdamWideRefIdeal.nD Cert.AdamWideRefIdeal.τ Cert.AdamWideRefIdeal.sig) → Buf (Elt Ideal) ℓ) (g : Dev Cert.AdamWideRefIdeal.nD → PrngReg), Pre_AdamWideRefIdeal m →
    θ_run (Cert.AdamWideRefIdeal.defs (F := Ideal)) (onTc (τ := Cert.AdamWideRefIdeal.τ) (Cert.AdamWideRefIdeal.main (F := Ideal))) ⟨m, fun _ => 0, g⟩ (fun r => (∀ c : Dev Cert.AdamWideRefIdeal.nD,
      r.2.mem ((c.tc : Thread Cert.AdamWideRefIdeal.nD Cert.AdamWideRefIdeal.τ).loc Cert.AdamWideRefIdeal.main_arg0) = m ((c.tc : Thread Cert.AdamWideRefIdeal.nD Cert.AdamWideRefIdeal.τ).loc Cert.AdamWideRefIdeal.main_arg0)
      ∧ r.2.mem ((c.tc : Thread Cert.AdamWideRefIdeal.nD Cert.AdamWideRefIdeal.τ).loc Cert.AdamWideRefIdeal.main_arg1) = m ((c.tc : Thread Cert.AdamWideRefIdeal.nD Cert.AdamWideRefIdeal.τ).loc Cert.AdamWideRefIdeal.main_arg1)
      ∧ r.2.mem ((c.tc : Thread Cert.AdamWideRefIdeal.nD Cert.AdamWideRefIdeal.τ).loc Cert.AdamWideRefIdeal.main_arg2) = m ((c.tc : Thread Cert.AdamWideRefIdeal.nD Cert.AdamWideRefIdeal.τ).loc Cert.AdamWideRefIdeal.main_arg2)
      ∧ r.2.mem ((c.tc : Thread Cert.AdamWideRefIdeal.nD Cert.AdamWideRefIdeal.τ).loc Cert.AdamWideRefIdeal.main_arg3) = m ((c.tc : Thread Cert.AdamWideRefIdeal.nD Cert.AdamWideRefIdeal.τ).loc Cert.AdamWideRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v21_1)) (v2 : (c : Dev Cert.KernelIdeal.nD) → Buf (Elt Ideal) ((c.tc : Thread Cert.KernelIdeal.nD Cert.KernelIdeal.τ).loc Cert.KernelIdeal.main_v21_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_v21_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_v54) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_DWDown_DWDownIdeal : Prop :=
  True

def algebraic_DWDownIdeal_DWDownRefIdeal [hDWDownIdeal : Cert.DWDownIdeal.Facts] [hDWDownRefIdeal : Cert.DWDownRefIdeal.Facts] : Prop :=
  ∀ (m : (ℓ : Loc Cert.DWDownIdeal.nD Cert.DWDownIdeal.τ Cert.DWDownIdeal.sig) → Buf (Elt Ideal) ℓ) (g : Dev Cert.DWDownIdeal.nD → PrngReg)
    (m' : (ℓ : Loc Cert.DWDownRefIdeal.nD Cert.DWDownRefIdeal.τ Cert.DWDownRefIdeal.sig) → Buf (Elt Ideal) ℓ) (g' : Dev Cert.DWDownRefIdeal.nD → PrngReg), Pre_DWDownIdeal m →
    (∀ c : Dev Cert.DWDownIdeal.nD,
      m' ((c.tc : Thread Cert.DWDownRefIdeal.nD Cert.DWDownRefIdeal.τ).loc Cert.DWDownRefIdeal.main_arg0) = m ((c.tc : Thread Cert.DWDownIdeal.nD Cert.DWDownIdeal.τ).loc Cert.DWDownIdeal.main_arg0)
      ∧ m' ((c.tc : Thread Cert.DWDownRefIdeal.nD Cert.DWDownRefIdeal.τ).loc Cert.DWDownRefIdeal.main_arg1) = m ((c.tc : Thread Cert.DWDownIdeal.nD Cert.DWDownIdeal.τ).loc Cert.DWDownIdeal.main_arg1)) →
    ∃ (v0 : (c : Dev Cert.DWDownIdeal.nD) → Buf (Elt Ideal) ((c.tc : Thread Cert.DWDownIdeal.nD Cert.DWDownIdeal.τ).loc Cert.DWDownIdeal.main_v0)),
      θ_run (Cert.DWDownIdeal.defs (F := Ideal)) (onTc (τ := Cert.DWDownIdeal.τ) (Cert.DWDownIdeal.main (F := Ideal))) ⟨m, fun _ => 0, g⟩ (fun r => ∀ c : Dev Cert.DWDownIdeal.nD,
          r.2.mem ((c.tc : Thread Cert.DWDownIdeal.nD Cert.DWDownIdeal.τ).loc Cert.DWDownIdeal.main_v0) = v0 c
          ∧ r.2.mem ((c.tc : Thread Cert.DWDownIdeal.nD Cert.DWDownIdeal.τ).loc Cert.DWDownIdeal.main_arg0) = m ((c.tc : Thread Cert.DWDownIdeal.nD Cert.DWDownIdeal.τ).loc Cert.DWDownIdeal.main_arg0)
          ∧ r.2.mem ((c.tc : Thread Cert.DWDownIdeal.nD Cert.DWDownIdeal.τ).loc Cert.DWDownIdeal.main_arg1) = m ((c.tc : Thread Cert.DWDownIdeal.nD Cert.DWDownIdeal.τ).loc Cert.DWDownIdeal.main_arg1))
      ∧ θ_run (Cert.DWDownRefIdeal.defs (F := Ideal)) (onTc (τ := Cert.DWDownRefIdeal.τ) (Cert.DWDownRefIdeal.main (F := Ideal))) ⟨m', fun _ => 0, g'⟩ (fun r => ∀ c : Dev Cert.DWDownRefIdeal.nD,
          r.2.mem ((c.tc : Thread Cert.DWDownRefIdeal.nD Cert.DWDownRefIdeal.τ).loc Cert.DWDownRefIdeal.main_v5) = v0 c
          ∧ r.2.mem ((c.tc : Thread Cert.DWDownRefIdeal.nD Cert.DWDownRefIdeal.τ).loc Cert.DWDownRefIdeal.main_arg0) = m' ((c.tc : Thread Cert.DWDownRefIdeal.nD Cert.DWDownRefIdeal.τ).loc Cert.DWDownRefIdeal.main_arg0)
          ∧ r.2.mem ((c.tc : Thread Cert.DWDownRefIdeal.nD Cert.DWDownRefIdeal.τ).loc Cert.DWDownRefIdeal.main_arg1) = m' ((c.tc : Thread Cert.DWDownRefIdeal.nD Cert.DWDownRefIdeal.τ).loc Cert.DWDownRefIdeal.main_arg1))

def preserves_DFfnMid_DFfnMidIdeal : Prop :=
  True

def algebraic_DFfnMidIdeal_DFfnMidRefIdeal [hDFfnMidIdeal : Cert.DFfnMidIdeal.Facts] [hDFfnMidRefIdeal : Cert.DFfnMidRefIdeal.Facts] : Prop :=
  ∀ (m : (ℓ : Loc Cert.DFfnMidIdeal.nD Cert.DFfnMidIdeal.τ Cert.DFfnMidIdeal.sig) → Buf (Elt Ideal) ℓ) (g : Dev Cert.DFfnMidIdeal.nD → PrngReg)
    (m' : (ℓ : Loc Cert.DFfnMidRefIdeal.nD Cert.DFfnMidRefIdeal.τ Cert.DFfnMidRefIdeal.sig) → Buf (Elt Ideal) ℓ) (g' : Dev Cert.DFfnMidRefIdeal.nD → PrngReg), Pre_DFfnMidIdeal m →
    (∀ c : Dev Cert.DFfnMidIdeal.nD,
      m' ((c.tc : Thread Cert.DFfnMidRefIdeal.nD Cert.DFfnMidRefIdeal.τ).loc Cert.DFfnMidRefIdeal.main_arg0) = m ((c.tc : Thread Cert.DFfnMidIdeal.nD Cert.DFfnMidIdeal.τ).loc Cert.DFfnMidIdeal.main_arg0)
      ∧ m' ((c.tc : Thread Cert.DFfnMidRefIdeal.nD Cert.DFfnMidRefIdeal.τ).loc Cert.DFfnMidRefIdeal.main_arg1) = m ((c.tc : Thread Cert.DFfnMidIdeal.nD Cert.DFfnMidIdeal.τ).loc Cert.DFfnMidIdeal.main_arg1)) →
    ∃ (v0 : (c : Dev Cert.DFfnMidIdeal.nD) → Buf (Elt Ideal) ((c.tc : Thread Cert.DFfnMidIdeal.nD Cert.DFfnMidIdeal.τ).loc Cert.DFfnMidIdeal.main_v0)),
      θ_run (Cert.DFfnMidIdeal.defs (F := Ideal)) (onTc (τ := Cert.DFfnMidIdeal.τ) (Cert.DFfnMidIdeal.main (F := Ideal))) ⟨m, fun _ => 0, g⟩ (fun r => ∀ c : Dev Cert.DFfnMidIdeal.nD,
          r.2.mem ((c.tc : Thread Cert.DFfnMidIdeal.nD Cert.DFfnMidIdeal.τ).loc Cert.DFfnMidIdeal.main_v0) = v0 c
          ∧ r.2.mem ((c.tc : Thread Cert.DFfnMidIdeal.nD Cert.DFfnMidIdeal.τ).loc Cert.DFfnMidIdeal.main_arg0) = m ((c.tc : Thread Cert.DFfnMidIdeal.nD Cert.DFfnMidIdeal.τ).loc Cert.DFfnMidIdeal.main_arg0)
          ∧ r.2.mem ((c.tc : Thread Cert.DFfnMidIdeal.nD Cert.DFfnMidIdeal.τ).loc Cert.DFfnMidIdeal.main_arg1) = m ((c.tc : Thread Cert.DFfnMidIdeal.nD Cert.DFfnMidIdeal.τ).loc Cert.DFfnMidIdeal.main_arg1))
      ∧ θ_run (Cert.DFfnMidRefIdeal.defs (F := Ideal)) (onTc (τ := Cert.DFfnMidRefIdeal.τ) (Cert.DFfnMidRefIdeal.main (F := Ideal))) ⟨m', fun _ => 0, g'⟩ (fun r => ∀ c : Dev Cert.DFfnMidRefIdeal.nD,
          r.2.mem ((c.tc : Thread Cert.DFfnMidRefIdeal.nD Cert.DFfnMidRefIdeal.τ).loc Cert.DFfnMidRefIdeal.main_v5) = v0 c
          ∧ r.2.mem ((c.tc : Thread Cert.DFfnMidRefIdeal.nD Cert.DFfnMidRefIdeal.τ).loc Cert.DFfnMidRefIdeal.main_arg0) = m' ((c.tc : Thread Cert.DFfnMidRefIdeal.nD Cert.DFfnMidRefIdeal.τ).loc Cert.DFfnMidRefIdeal.main_arg0)
          ∧ r.2.mem ((c.tc : Thread Cert.DFfnMidRefIdeal.nD Cert.DFfnMidRefIdeal.τ).loc Cert.DFfnMidRefIdeal.main_arg1) = m' ((c.tc : Thread Cert.DFfnMidRefIdeal.nD Cert.DFfnMidRefIdeal.τ).loc Cert.DFfnMidRefIdeal.main_arg1))

def preserves_DWUp_DWUpIdeal : Prop :=
  True

def algebraic_DWUpIdeal_DWUpRefIdeal [hDWUpIdeal : Cert.DWUpIdeal.Facts] [hDWUpRefIdeal : Cert.DWUpRefIdeal.Facts] : Prop :=
  ∀ (m : (ℓ : Loc Cert.DWUpIdeal.nD Cert.DWUpIdeal.τ Cert.DWUpIdeal.sig) → Buf (Elt Ideal) ℓ) (g : Dev Cert.DWUpIdeal.nD → PrngReg)
    (m' : (ℓ : Loc Cert.DWUpRefIdeal.nD Cert.DWUpRefIdeal.τ Cert.DWUpRefIdeal.sig) → Buf (Elt Ideal) ℓ) (g' : Dev Cert.DWUpRefIdeal.nD → PrngReg), Pre_DWUpIdeal m →
    (∀ c : Dev Cert.DWUpIdeal.nD,
      m' ((c.tc : Thread Cert.DWUpRefIdeal.nD Cert.DWUpRefIdeal.τ).loc Cert.DWUpRefIdeal.main_arg0) = m ((c.tc : Thread Cert.DWUpIdeal.nD Cert.DWUpIdeal.τ).loc Cert.DWUpIdeal.main_arg0)
      ∧ m' ((c.tc : Thread Cert.DWUpRefIdeal.nD Cert.DWUpRefIdeal.τ).loc Cert.DWUpRefIdeal.main_arg1) = m ((c.tc : Thread Cert.DWUpIdeal.nD Cert.DWUpIdeal.τ).loc Cert.DWUpIdeal.main_arg1)) →
    ∃ (v0 : (c : Dev Cert.DWUpIdeal.nD) → Buf (Elt Ideal) ((c.tc : Thread Cert.DWUpIdeal.nD Cert.DWUpIdeal.τ).loc Cert.DWUpIdeal.main_v0)),
      θ_run (Cert.DWUpIdeal.defs (F := Ideal)) (onTc (τ := Cert.DWUpIdeal.τ) (Cert.DWUpIdeal.main (F := Ideal))) ⟨m, fun _ => 0, g⟩ (fun r => ∀ c : Dev Cert.DWUpIdeal.nD,
          r.2.mem ((c.tc : Thread Cert.DWUpIdeal.nD Cert.DWUpIdeal.τ).loc Cert.DWUpIdeal.main_v0) = v0 c
          ∧ r.2.mem ((c.tc : Thread Cert.DWUpIdeal.nD Cert.DWUpIdeal.τ).loc Cert.DWUpIdeal.main_arg0) = m ((c.tc : Thread Cert.DWUpIdeal.nD Cert.DWUpIdeal.τ).loc Cert.DWUpIdeal.main_arg0)
          ∧ r.2.mem ((c.tc : Thread Cert.DWUpIdeal.nD Cert.DWUpIdeal.τ).loc Cert.DWUpIdeal.main_arg1) = m ((c.tc : Thread Cert.DWUpIdeal.nD Cert.DWUpIdeal.τ).loc Cert.DWUpIdeal.main_arg1))
      ∧ θ_run (Cert.DWUpRefIdeal.defs (F := Ideal)) (onTc (τ := Cert.DWUpRefIdeal.τ) (Cert.DWUpRefIdeal.main (F := Ideal))) ⟨m', fun _ => 0, g'⟩ (fun r => ∀ c : Dev Cert.DWUpRefIdeal.nD,
          r.2.mem ((c.tc : Thread Cert.DWUpRefIdeal.nD Cert.DWUpRefIdeal.τ).loc Cert.DWUpRefIdeal.main_v5) = v0 c
          ∧ r.2.mem ((c.tc : Thread Cert.DWUpRefIdeal.nD Cert.DWUpRefIdeal.τ).loc Cert.DWUpRefIdeal.main_arg0) = m' ((c.tc : Thread Cert.DWUpRefIdeal.nD Cert.DWUpRefIdeal.τ).loc Cert.DWUpRefIdeal.main_arg0)
          ∧ r.2.mem ((c.tc : Thread Cert.DWUpRefIdeal.nD Cert.DWUpRefIdeal.τ).loc Cert.DWUpRefIdeal.main_arg1) = m' ((c.tc : Thread Cert.DWUpRefIdeal.nD Cert.DWUpRefIdeal.τ).loc Cert.DWUpRefIdeal.main_arg1))

def preserves_DFfnIn_DFfnInIdeal : Prop :=
  True

def algebraic_DFfnInIdeal_DFfnInRefIdeal [hDFfnInIdeal : Cert.DFfnInIdeal.Facts] [hDFfnInRefIdeal : Cert.DFfnInRefIdeal.Facts] : Prop :=
  ∀ (m : (ℓ : Loc Cert.DFfnInIdeal.nD Cert.DFfnInIdeal.τ Cert.DFfnInIdeal.sig) → Buf (Elt Ideal) ℓ) (g : Dev Cert.DFfnInIdeal.nD → PrngReg)
    (m' : (ℓ : Loc Cert.DFfnInRefIdeal.nD Cert.DFfnInRefIdeal.τ Cert.DFfnInRefIdeal.sig) → Buf (Elt Ideal) ℓ) (g' : Dev Cert.DFfnInRefIdeal.nD → PrngReg), Pre_DFfnInIdeal m →
    (∀ c : Dev Cert.DFfnInIdeal.nD,
      m' ((c.tc : Thread Cert.DFfnInRefIdeal.nD Cert.DFfnInRefIdeal.τ).loc Cert.DFfnInRefIdeal.main_arg0) = m ((c.tc : Thread Cert.DFfnInIdeal.nD Cert.DFfnInIdeal.τ).loc Cert.DFfnInIdeal.main_arg0)
      ∧ m' ((c.tc : Thread Cert.DFfnInRefIdeal.nD Cert.DFfnInRefIdeal.τ).loc Cert.DFfnInRefIdeal.main_arg1) = m ((c.tc : Thread Cert.DFfnInIdeal.nD Cert.DFfnInIdeal.τ).loc Cert.DFfnInIdeal.main_arg1)) →
    ∃ (v0 : (c : Dev Cert.DFfnInIdeal.nD) → Buf (Elt Ideal) ((c.tc : Thread Cert.DFfnInIdeal.nD Cert.DFfnInIdeal.τ).loc Cert.DFfnInIdeal.main_v0)),
      θ_run (Cert.DFfnInIdeal.defs (F := Ideal)) (onTc (τ := Cert.DFfnInIdeal.τ) (Cert.DFfnInIdeal.main (F := Ideal))) ⟨m, fun _ => 0, g⟩ (fun r => ∀ c : Dev Cert.DFfnInIdeal.nD,
          r.2.mem ((c.tc : Thread Cert.DFfnInIdeal.nD Cert.DFfnInIdeal.τ).loc Cert.DFfnInIdeal.main_v0) = v0 c
          ∧ r.2.mem ((c.tc : Thread Cert.DFfnInIdeal.nD Cert.DFfnInIdeal.τ).loc Cert.DFfnInIdeal.main_arg0) = m ((c.tc : Thread Cert.DFfnInIdeal.nD Cert.DFfnInIdeal.τ).loc Cert.DFfnInIdeal.main_arg0)
          ∧ r.2.mem ((c.tc : Thread Cert.DFfnInIdeal.nD Cert.DFfnInIdeal.τ).loc Cert.DFfnInIdeal.main_arg1) = m ((c.tc : Thread Cert.DFfnInIdeal.nD Cert.DFfnInIdeal.τ).loc Cert.DFfnInIdeal.main_arg1))
      ∧ θ_run (Cert.DFfnInRefIdeal.defs (F := Ideal)) (onTc (τ := Cert.DFfnInRefIdeal.τ) (Cert.DFfnInRefIdeal.main (F := Ideal))) ⟨m', fun _ => 0, g'⟩ (fun r => ∀ c : Dev Cert.DFfnInRefIdeal.nD,
          r.2.mem ((c.tc : Thread Cert.DFfnInRefIdeal.nD Cert.DFfnInRefIdeal.τ).loc Cert.DFfnInRefIdeal.main_v3) = v0 c
          ∧ r.2.mem ((c.tc : Thread Cert.DFfnInRefIdeal.nD Cert.DFfnInRefIdeal.τ).loc Cert.DFfnInRefIdeal.main_arg0) = m' ((c.tc : Thread Cert.DFfnInRefIdeal.nD Cert.DFfnInRefIdeal.τ).loc Cert.DFfnInRefIdeal.main_arg0)
          ∧ r.2.mem ((c.tc : Thread Cert.DFfnInRefIdeal.nD Cert.DFfnInRefIdeal.τ).loc Cert.DFfnInRefIdeal.main_arg1) = m' ((c.tc : Thread Cert.DFfnInRefIdeal.nD Cert.DFfnInRefIdeal.τ).loc Cert.DFfnInRefIdeal.main_arg1))

def preserves_DWide_DWideIdeal : Prop :=
  True

def algebraic_DWideIdeal_DWideRefIdeal [hDWideIdeal : Cert.DWideIdeal.Facts] [hDWideRefIdeal : Cert.DWideRefIdeal.Facts] : Prop :=
  ∀ (m : (ℓ : Loc Cert.DWideIdeal.nD Cert.DWideIdeal.τ Cert.DWideIdeal.sig) → Buf (Elt Ideal) ℓ) (g : Dev Cert.DWideIdeal.nD → PrngReg)
    (m' : (ℓ : Loc Cert.DWideRefIdeal.nD Cert.DWideRefIdeal.τ Cert.DWideRefIdeal.sig) → Buf (Elt Ideal) ℓ) (g' : Dev Cert.DWideRefIdeal.nD → PrngReg), Pre_DWideIdeal m →
    (∀ c : Dev Cert.DWideIdeal.nD,
      m' ((c.tc : Thread Cert.DWideRefIdeal.nD Cert.DWideRefIdeal.τ).loc Cert.DWideRefIdeal.main_arg0) = m ((c.tc : Thread Cert.DWideIdeal.nD Cert.DWideIdeal.τ).loc Cert.DWideIdeal.main_arg0)
      ∧ m' ((c.tc : Thread Cert.DWideRefIdeal.nD Cert.DWideRefIdeal.τ).loc Cert.DWideRefIdeal.main_arg1) = m ((c.tc : Thread Cert.DWideIdeal.nD Cert.DWideIdeal.τ).loc Cert.DWideIdeal.main_arg1)) →
    ∃ (v0 : (c : Dev Cert.DWideIdeal.nD) → Buf (Elt Ideal) ((c.tc : Thread Cert.DWideIdeal.nD Cert.DWideIdeal.τ).loc Cert.DWideIdeal.main_v0)),
      θ_run (Cert.DWideIdeal.defs (F := Ideal)) (onTc (τ := Cert.DWideIdeal.τ) (Cert.DWideIdeal.main (F := Ideal))) ⟨m, fun _ => 0, g⟩ (fun r => ∀ c : Dev Cert.DWideIdeal.nD,
          r.2.mem ((c.tc : Thread Cert.DWideIdeal.nD Cert.DWideIdeal.τ).loc Cert.DWideIdeal.main_v0) = v0 c
          ∧ r.2.mem ((c.tc : Thread Cert.DWideIdeal.nD Cert.DWideIdeal.τ).loc Cert.DWideIdeal.main_arg0) = m ((c.tc : Thread Cert.DWideIdeal.nD Cert.DWideIdeal.τ).loc Cert.DWideIdeal.main_arg0)
          ∧ r.2.mem ((c.tc : Thread Cert.DWideIdeal.nD Cert.DWideIdeal.τ).loc Cert.DWideIdeal.main_arg1) = m ((c.tc : Thread Cert.DWideIdeal.nD Cert.DWideIdeal.τ).loc Cert.DWideIdeal.main_arg1))
      ∧ θ_run (Cert.DWideRefIdeal.defs (F := Ideal)) (onTc (τ := Cert.DWideRefIdeal.τ) (Cert.DWideRefIdeal.main (F := Ideal))) ⟨m', fun _ => 0, g'⟩ (fun r => ∀ c : Dev Cert.DWideRefIdeal.nD,
          r.2.mem ((c.tc : Thread Cert.DWideRefIdeal.nD Cert.DWideRefIdeal.τ).loc Cert.DWideRefIdeal.main_v3) = v0 c
          ∧ r.2.mem ((c.tc : Thread Cert.DWideRefIdeal.nD Cert.DWideRefIdeal.τ).loc Cert.DWideRefIdeal.main_arg0) = m' ((c.tc : Thread Cert.DWideRefIdeal.nD Cert.DWideRefIdeal.τ).loc Cert.DWideRefIdeal.main_arg0)
          ∧ r.2.mem ((c.tc : Thread Cert.DWideRefIdeal.nD Cert.DWideRefIdeal.τ).loc Cert.DWideRefIdeal.main_arg1) = m' ((c.tc : Thread Cert.DWideRefIdeal.nD Cert.DWideRefIdeal.τ).loc Cert.DWideRefIdeal.main_arg1))

def preserves_DWKv_DWKvIdeal : Prop :=
  True

def algebraic_DWKvIdeal_DWKvRefIdeal [hDWKvIdeal : Cert.DWKvIdeal.Facts] [hDWKvRefIdeal : Cert.DWKvRefIdeal.Facts] : Prop :=
  ∀ (m : (ℓ : Loc Cert.DWKvIdeal.nD Cert.DWKvIdeal.τ Cert.DWKvIdeal.sig) → Buf (Elt Ideal) ℓ) (g : Dev Cert.DWKvIdeal.nD → PrngReg)
    (m' : (ℓ : Loc Cert.DWKvRefIdeal.nD Cert.DWKvRefIdeal.τ Cert.DWKvRefIdeal.sig) → Buf (Elt Ideal) ℓ) (g' : Dev Cert.DWKvRefIdeal.nD → PrngReg), Pre_DWKvIdeal m →
    (∀ c : Dev Cert.DWKvIdeal.nD,
      m' ((c.tc : Thread Cert.DWKvRefIdeal.nD Cert.DWKvRefIdeal.τ).loc Cert.DWKvRefIdeal.main_arg0) = m ((c.tc : Thread Cert.DWKvIdeal.nD Cert.DWKvIdeal.τ).loc Cert.DWKvIdeal.main_arg0)
      ∧ m' ((c.tc : Thread Cert.DWKvRefIdeal.nD Cert.DWKvRefIdeal.τ).loc Cert.DWKvRefIdeal.main_arg1) = m ((c.tc : Thread Cert.DWKvIdeal.nD Cert.DWKvIdeal.τ).loc Cert.DWKvIdeal.main_arg1)) →
    ∃ (v0 : (c : Dev Cert.DWKvIdeal.nD) → Buf (Elt Ideal) ((c.tc : Thread Cert.DWKvIdeal.nD Cert.DWKvIdeal.τ).loc Cert.DWKvIdeal.main_v0)),
      θ_run (Cert.DWKvIdeal.defs (F := Ideal)) (onTc (τ := Cert.DWKvIdeal.τ) (Cert.DWKvIdeal.main (F := Ideal))) ⟨m, fun _ => 0, g⟩ (fun r => ∀ c : Dev Cert.DWKvIdeal.nD,
          r.2.mem ((c.tc : Thread Cert.DWKvIdeal.nD Cert.DWKvIdeal.τ).loc Cert.DWKvIdeal.main_v0) = v0 c
          ∧ r.2.mem ((c.tc : Thread Cert.DWKvIdeal.nD Cert.DWKvIdeal.τ).loc Cert.DWKvIdeal.main_arg0) = m ((c.tc : Thread Cert.DWKvIdeal.nD Cert.DWKvIdeal.τ).loc Cert.DWKvIdeal.main_arg0)
          ∧ r.2.mem ((c.tc : Thread Cert.DWKvIdeal.nD Cert.DWKvIdeal.τ).loc Cert.DWKvIdeal.main_arg1) = m ((c.tc : Thread Cert.DWKvIdeal.nD Cert.DWKvIdeal.τ).loc Cert.DWKvIdeal.main_arg1))
      ∧ θ_run (Cert.DWKvRefIdeal.defs (F := Ideal)) (onTc (τ := Cert.DWKvRefIdeal.τ) (Cert.DWKvRefIdeal.main (F := Ideal))) ⟨m', fun _ => 0, g'⟩ (fun r => ∀ c : Dev Cert.DWKvRefIdeal.nD,
          r.2.mem ((c.tc : Thread Cert.DWKvRefIdeal.nD Cert.DWKvRefIdeal.τ).loc Cert.DWKvRefIdeal.main_v2) = v0 c
          ∧ r.2.mem ((c.tc : Thread Cert.DWKvRefIdeal.nD Cert.DWKvRefIdeal.τ).loc Cert.DWKvRefIdeal.main_arg0) = m' ((c.tc : Thread Cert.DWKvRefIdeal.nD Cert.DWKvRefIdeal.τ).loc Cert.DWKvRefIdeal.main_arg0)
          ∧ r.2.mem ((c.tc : Thread Cert.DWKvRefIdeal.nD Cert.DWKvRefIdeal.τ).loc Cert.DWKvRefIdeal.main_arg1) = m' ((c.tc : Thread Cert.DWKvRefIdeal.nD Cert.DWKvRefIdeal.τ).loc Cert.DWKvRefIdeal.main_arg1))

def preserves_DAttnOut_DAttnOutIdeal : Prop :=
  True

def algebraic_DAttnOutIdeal_DAttnOutRefIdeal [hDAttnOutIdeal : Cert.DAttnOutIdeal.Facts] [hDAttnOutRefIdeal : Cert.DAttnOutRefIdeal.Facts] : Prop :=
  ∀ (m : (ℓ : Loc Cert.DAttnOutIdeal.nD Cert.DAttnOutIdeal.τ Cert.DAttnOutIdeal.sig) → Buf (Elt Ideal) ℓ) (g : Dev Cert.DAttnOutIdeal.nD → PrngReg)
    (m' : (ℓ : Loc Cert.DAttnOutRefIdeal.nD Cert.DAttnOutRefIdeal.τ Cert.DAttnOutRefIdeal.sig) → Buf (Elt Ideal) ℓ) (g' : Dev Cert.DAttnOutRefIdeal.nD → PrngReg), Pre_DAttnOutIdeal m →
    (∀ c : Dev Cert.DAttnOutIdeal.nD,
      m' ((c.tc : Thread Cert.DAttnOutRefIdeal.nD Cert.DAttnOutRefIdeal.τ).loc Cert.DAttnOutRefIdeal.main_arg0) = m ((c.tc : Thread Cert.DAttnOutIdeal.nD Cert.DAttnOutIdeal.τ).loc Cert.DAttnOutIdeal.main_arg0)
      ∧ m' ((c.tc : Thread Cert.DAttnOutRefIdeal.nD Cert.DAttnOutRefIdeal.τ).loc Cert.DAttnOutRefIdeal.main_arg1) = m ((c.tc : Thread Cert.DAttnOutIdeal.nD Cert.DAttnOutIdeal.τ).loc Cert.DAttnOutIdeal.main_arg1)) →
    ∃ (v0 : (c : Dev Cert.DAttnOutIdeal.nD) → Buf (Elt Ideal) ((c.tc : Thread Cert.DAttnOutIdeal.nD Cert.DAttnOutIdeal.τ).loc Cert.DAttnOutIdeal.main_v0)),
      θ_run (Cert.DAttnOutIdeal.defs (F := Ideal)) (onTc (τ := Cert.DAttnOutIdeal.τ) (Cert.DAttnOutIdeal.main (F := Ideal))) ⟨m, fun _ => 0, g⟩ (fun r => ∀ c : Dev Cert.DAttnOutIdeal.nD,
          r.2.mem ((c.tc : Thread Cert.DAttnOutIdeal.nD Cert.DAttnOutIdeal.τ).loc Cert.DAttnOutIdeal.main_v0) = v0 c
          ∧ r.2.mem ((c.tc : Thread Cert.DAttnOutIdeal.nD Cert.DAttnOutIdeal.τ).loc Cert.DAttnOutIdeal.main_arg0) = m ((c.tc : Thread Cert.DAttnOutIdeal.nD Cert.DAttnOutIdeal.τ).loc Cert.DAttnOutIdeal.main_arg0)
          ∧ r.2.mem ((c.tc : Thread Cert.DAttnOutIdeal.nD Cert.DAttnOutIdeal.τ).loc Cert.DAttnOutIdeal.main_arg1) = m ((c.tc : Thread Cert.DAttnOutIdeal.nD Cert.DAttnOutIdeal.τ).loc Cert.DAttnOutIdeal.main_arg1))
      ∧ θ_run (Cert.DAttnOutRefIdeal.defs (F := Ideal)) (onTc (τ := Cert.DAttnOutRefIdeal.τ) (Cert.DAttnOutRefIdeal.main (F := Ideal))) ⟨m', fun _ => 0, g'⟩ (fun r => ∀ c : Dev Cert.DAttnOutRefIdeal.nD,
          r.2.mem ((c.tc : Thread Cert.DAttnOutRefIdeal.nD Cert.DAttnOutRefIdeal.τ).loc Cert.DAttnOutRefIdeal.main_v3) = v0 c
          ∧ r.2.mem ((c.tc : Thread Cert.DAttnOutRefIdeal.nD Cert.DAttnOutRefIdeal.τ).loc Cert.DAttnOutRefIdeal.main_arg0) = m' ((c.tc : Thread Cert.DAttnOutRefIdeal.nD Cert.DAttnOutRefIdeal.τ).loc Cert.DAttnOutRefIdeal.main_arg0)
          ∧ r.2.mem ((c.tc : Thread Cert.DAttnOutRefIdeal.nD Cert.DAttnOutRefIdeal.τ).loc Cert.DAttnOutRefIdeal.main_arg1) = m' ((c.tc : Thread Cert.DAttnOutRefIdeal.nD Cert.DAttnOutRefIdeal.τ).loc Cert.DAttnOutRefIdeal.main_arg1))

def preserves_DQIn_DQInIdeal : Prop :=
  True

def algebraic_DQInIdeal_DQInRefIdeal [hDQInIdeal : Cert.DQInIdeal.Facts] [hDQInRefIdeal : Cert.DQInRefIdeal.Facts] : Prop :=
  ∀ (m : (ℓ : Loc Cert.DQInIdeal.nD Cert.DQInIdeal.τ Cert.DQInIdeal.sig) → Buf (Elt Ideal) ℓ) (g : Dev Cert.DQInIdeal.nD → PrngReg)
    (m' : (ℓ : Loc Cert.DQInRefIdeal.nD Cert.DQInRefIdeal.τ Cert.DQInRefIdeal.sig) → Buf (Elt Ideal) ℓ) (g' : Dev Cert.DQInRefIdeal.nD → PrngReg), Pre_DQInIdeal m →
    (∀ c : Dev Cert.DQInIdeal.nD,
      m' ((c.tc : Thread Cert.DQInRefIdeal.nD Cert.DQInRefIdeal.τ).loc Cert.DQInRefIdeal.main_arg0) = m ((c.tc : Thread Cert.DQInIdeal.nD Cert.DQInIdeal.τ).loc Cert.DQInIdeal.main_arg0)
      ∧ m' ((c.tc : Thread Cert.DQInRefIdeal.nD Cert.DQInRefIdeal.τ).loc Cert.DQInRefIdeal.main_arg1) = m ((c.tc : Thread Cert.DQInIdeal.nD Cert.DQInIdeal.τ).loc Cert.DQInIdeal.main_arg1)) →
    ∃ (v0 : (c : Dev Cert.DQInIdeal.nD) → Buf (Elt Ideal) ((c.tc : Thread Cert.DQInIdeal.nD Cert.DQInIdeal.τ).loc Cert.DQInIdeal.main_v0)),
      θ_run (Cert.DQInIdeal.defs (F := Ideal)) (onTc (τ := Cert.DQInIdeal.τ) (Cert.DQInIdeal.main (F := Ideal))) ⟨m, fun _ => 0, g⟩ (fun r => ∀ c : Dev Cert.DQInIdeal.nD,
          r.2.mem ((c.tc : Thread Cert.DQInIdeal.nD Cert.DQInIdeal.τ).loc Cert.DQInIdeal.main_v0) = v0 c
          ∧ r.2.mem ((c.tc : Thread Cert.DQInIdeal.nD Cert.DQInIdeal.τ).loc Cert.DQInIdeal.main_arg0) = m ((c.tc : Thread Cert.DQInIdeal.nD Cert.DQInIdeal.τ).loc Cert.DQInIdeal.main_arg0)
          ∧ r.2.mem ((c.tc : Thread Cert.DQInIdeal.nD Cert.DQInIdeal.τ).loc Cert.DQInIdeal.main_arg1) = m ((c.tc : Thread Cert.DQInIdeal.nD Cert.DQInIdeal.τ).loc Cert.DQInIdeal.main_arg1))
      ∧ θ_run (Cert.DQInRefIdeal.defs (F := Ideal)) (onTc (τ := Cert.DQInRefIdeal.τ) (Cert.DQInRefIdeal.main (F := Ideal))) ⟨m', fun _ => 0, g'⟩ (fun r => ∀ c : Dev Cert.DQInRefIdeal.nD,
          r.2.mem ((c.tc : Thread Cert.DQInRefIdeal.nD Cert.DQInRefIdeal.τ).loc Cert.DQInRefIdeal.main_v2) = v0 c
          ∧ r.2.mem ((c.tc : Thread Cert.DQInRefIdeal.nD Cert.DQInRefIdeal.τ).loc Cert.DQInRefIdeal.main_arg0) = m' ((c.tc : Thread Cert.DQInRefIdeal.nD Cert.DQInRefIdeal.τ).loc Cert.DQInRefIdeal.main_arg0)
          ∧ r.2.mem ((c.tc : Thread Cert.DQInRefIdeal.nD Cert.DQInRefIdeal.τ).loc Cert.DQInRefIdeal.main_arg1) = m' ((c.tc : Thread Cert.DQInRefIdeal.nD Cert.DQInRefIdeal.τ).loc Cert.DQInRefIdeal.main_arg1))

def preserves_DKIn_DKInIdeal : Prop :=
  True

def algebraic_DKInIdeal_DKInRefIdeal [hDKInIdeal : Cert.DKInIdeal.Facts] [hDKInRefIdeal : Cert.DKInRefIdeal.Facts] : Prop :=
  ∀ (m : (ℓ : Loc Cert.DKInIdeal.nD Cert.DKInIdeal.τ Cert.DKInIdeal.sig) → Buf (Elt Ideal) ℓ) (g : Dev Cert.DKInIdeal.nD → PrngReg)
    (m' : (ℓ : Loc Cert.DKInRefIdeal.nD Cert.DKInRefIdeal.τ Cert.DKInRefIdeal.sig) → Buf (Elt Ideal) ℓ) (g' : Dev Cert.DKInRefIdeal.nD → PrngReg), Pre_DKInIdeal m →
    (∀ c : Dev Cert.DKInIdeal.nD,
      m' ((c.tc : Thread Cert.DKInRefIdeal.nD Cert.DKInRefIdeal.τ).loc Cert.DKInRefIdeal.main_arg0) = m ((c.tc : Thread Cert.DKInIdeal.nD Cert.DKInIdeal.τ).loc Cert.DKInIdeal.main_arg0)
      ∧ m' ((c.tc : Thread Cert.DKInRefIdeal.nD Cert.DKInRefIdeal.τ).loc Cert.DKInRefIdeal.main_arg1) = m ((c.tc : Thread Cert.DKInIdeal.nD Cert.DKInIdeal.τ).loc Cert.DKInIdeal.main_arg1)) →
    ∃ (v0 : (c : Dev Cert.DKInIdeal.nD) → Buf (Elt Ideal) ((c.tc : Thread Cert.DKInIdeal.nD Cert.DKInIdeal.τ).loc Cert.DKInIdeal.main_v0)),
      θ_run (Cert.DKInIdeal.defs (F := Ideal)) (onTc (τ := Cert.DKInIdeal.τ) (Cert.DKInIdeal.main (F := Ideal))) ⟨m, fun _ => 0, g⟩ (fun r => ∀ c : Dev Cert.DKInIdeal.nD,
          r.2.mem ((c.tc : Thread Cert.DKInIdeal.nD Cert.DKInIdeal.τ).loc Cert.DKInIdeal.main_v0) = v0 c
          ∧ r.2.mem ((c.tc : Thread Cert.DKInIdeal.nD Cert.DKInIdeal.τ).loc Cert.DKInIdeal.main_arg0) = m ((c.tc : Thread Cert.DKInIdeal.nD Cert.DKInIdeal.τ).loc Cert.DKInIdeal.main_arg0)
          ∧ r.2.mem ((c.tc : Thread Cert.DKInIdeal.nD Cert.DKInIdeal.τ).loc Cert.DKInIdeal.main_arg1) = m ((c.tc : Thread Cert.DKInIdeal.nD Cert.DKInIdeal.τ).loc Cert.DKInIdeal.main_arg1))
      ∧ θ_run (Cert.DKInRefIdeal.defs (F := Ideal)) (onTc (τ := Cert.DKInRefIdeal.τ) (Cert.DKInRefIdeal.main (F := Ideal))) ⟨m', fun _ => 0, g'⟩ (fun r => ∀ c : Dev Cert.DKInRefIdeal.nD,
          r.2.mem ((c.tc : Thread Cert.DKInRefIdeal.nD Cert.DKInRefIdeal.τ).loc Cert.DKInRefIdeal.main_v1) = v0 c
          ∧ r.2.mem ((c.tc : Thread Cert.DKInRefIdeal.nD Cert.DKInRefIdeal.τ).loc Cert.DKInRefIdeal.main_arg0) = m' ((c.tc : Thread Cert.DKInRefIdeal.nD Cert.DKInRefIdeal.τ).loc Cert.DKInRefIdeal.main_arg0)
          ∧ r.2.mem ((c.tc : Thread Cert.DKInRefIdeal.nD Cert.DKInRefIdeal.τ).loc Cert.DKInRefIdeal.main_arg1) = m' ((c.tc : Thread Cert.DKInRefIdeal.nD Cert.DKInRefIdeal.τ).loc Cert.DKInRefIdeal.main_arg1))

def preserves_DWIn_DWInIdeal : Prop :=
  True

def algebraic_DWInIdeal_DWInRefIdeal [hDWInIdeal : Cert.DWInIdeal.Facts] [hDWInRefIdeal : Cert.DWInRefIdeal.Facts] : Prop :=
  ∀ (m : (ℓ : Loc Cert.DWInIdeal.nD Cert.DWInIdeal.τ Cert.DWInIdeal.sig) → Buf (Elt Ideal) ℓ) (g : Dev Cert.DWInIdeal.nD → PrngReg)
    (m' : (ℓ : Loc Cert.DWInRefIdeal.nD Cert.DWInRefIdeal.τ Cert.DWInRefIdeal.sig) → Buf (Elt Ideal) ℓ) (g' : Dev Cert.DWInRefIdeal.nD → PrngReg), Pre_DWInIdeal m →
    (∀ c : Dev Cert.DWInIdeal.nD,
      m' ((c.tc : Thread Cert.DWInRefIdeal.nD Cert.DWInRefIdeal.τ).loc Cert.DWInRefIdeal.main_arg0) = m ((c.tc : Thread Cert.DWInIdeal.nD Cert.DWInIdeal.τ).loc Cert.DWInIdeal.main_arg0)
      ∧ m' ((c.tc : Thread Cert.DWInRefIdeal.nD Cert.DWInRefIdeal.τ).loc Cert.DWInRefIdeal.main_arg1) = m ((c.tc : Thread Cert.DWInIdeal.nD Cert.DWInIdeal.τ).loc Cert.DWInIdeal.main_arg1)) →
    ∃ (v0 : (c : Dev Cert.DWInIdeal.nD) → Buf (Elt Ideal) ((c.tc : Thread Cert.DWInIdeal.nD Cert.DWInIdeal.τ).loc Cert.DWInIdeal.main_v0)),
      θ_run (Cert.DWInIdeal.defs (F := Ideal)) (onTc (τ := Cert.DWInIdeal.τ) (Cert.DWInIdeal.main (F := Ideal))) ⟨m, fun _ => 0, g⟩ (fun r => ∀ c : Dev Cert.DWInIdeal.nD,
          r.2.mem ((c.tc : Thread Cert.DWInIdeal.nD Cert.DWInIdeal.τ).loc Cert.DWInIdeal.main_v0) = v0 c
          ∧ r.2.mem ((c.tc : Thread Cert.DWInIdeal.nD Cert.DWInIdeal.τ).loc Cert.DWInIdeal.main_arg0) = m ((c.tc : Thread Cert.DWInIdeal.nD Cert.DWInIdeal.τ).loc Cert.DWInIdeal.main_arg0)
          ∧ r.2.mem ((c.tc : Thread Cert.DWInIdeal.nD Cert.DWInIdeal.τ).loc Cert.DWInIdeal.main_arg1) = m ((c.tc : Thread Cert.DWInIdeal.nD Cert.DWInIdeal.τ).loc Cert.DWInIdeal.main_arg1))
      ∧ θ_run (Cert.DWInRefIdeal.defs (F := Ideal)) (onTc (τ := Cert.DWInRefIdeal.τ) (Cert.DWInRefIdeal.main (F := Ideal))) ⟨m', fun _ => 0, g'⟩ (fun r => ∀ c : Dev Cert.DWInRefIdeal.nD,
          r.2.mem ((c.tc : Thread Cert.DWInRefIdeal.nD Cert.DWInRefIdeal.τ).loc Cert.DWInRefIdeal.main_v5) = v0 c
          ∧ r.2.mem ((c.tc : Thread Cert.DWInRefIdeal.nD Cert.DWInRefIdeal.τ).loc Cert.DWInRefIdeal.main_arg0) = m' ((c.tc : Thread Cert.DWInRefIdeal.nD Cert.DWInRefIdeal.τ).loc Cert.DWInRefIdeal.main_arg0)
          ∧ r.2.mem ((c.tc : Thread Cert.DWInRefIdeal.nD Cert.DWInRefIdeal.τ).loc Cert.DWInRefIdeal.main_arg1) = m' ((c.tc : Thread Cert.DWInRefIdeal.nD Cert.DWInRefIdeal.τ).loc Cert.DWInRefIdeal.main_arg1))

def preserves_DGmlpIn_DGmlpInIdeal : Prop :=
  True

def algebraic_DGmlpInIdeal_DGmlpInRefIdeal [hDGmlpInIdeal : Cert.DGmlpInIdeal.Facts] [hDGmlpInRefIdeal : Cert.DGmlpInRefIdeal.Facts] : Prop :=
  ∀ (m : (ℓ : Loc Cert.DGmlpInIdeal.nD Cert.DGmlpInIdeal.τ Cert.DGmlpInIdeal.sig) → Buf (Elt Ideal) ℓ) (g : Dev Cert.DGmlpInIdeal.nD → PrngReg)
    (m' : (ℓ : Loc Cert.DGmlpInRefIdeal.nD Cert.DGmlpInRefIdeal.τ Cert.DGmlpInRefIdeal.sig) → Buf (Elt Ideal) ℓ) (g' : Dev Cert.DGmlpInRefIdeal.nD → PrngReg), Pre_DGmlpInIdeal m →
    (∀ c : Dev Cert.DGmlpInIdeal.nD,
      m' ((c.tc : Thread Cert.DGmlpInRefIdeal.nD Cert.DGmlpInRefIdeal.τ).loc Cert.DGmlpInRefIdeal.main_arg0) = m ((c.tc : Thread Cert.DGmlpInIdeal.nD Cert.DGmlpInIdeal.τ).loc Cert.DGmlpInIdeal.main_arg0)
      ∧ m' ((c.tc : Thread Cert.DGmlpInRefIdeal.nD Cert.DGmlpInRefIdeal.τ).loc Cert.DGmlpInRefIdeal.main_arg1) = m ((c.tc : Thread Cert.DGmlpInIdeal.nD Cert.DGmlpInIdeal.τ).loc Cert.DGmlpInIdeal.main_arg1)) →
    ∃ (v0 : (c : Dev Cert.DGmlpInIdeal.nD) → Buf (Elt Ideal) ((c.tc : Thread Cert.DGmlpInIdeal.nD Cert.DGmlpInIdeal.τ).loc Cert.DGmlpInIdeal.main_v0)),
      θ_run (Cert.DGmlpInIdeal.defs (F := Ideal)) (onTc (τ := Cert.DGmlpInIdeal.τ) (Cert.DGmlpInIdeal.main (F := Ideal))) ⟨m, fun _ => 0, g⟩ (fun r => ∀ c : Dev Cert.DGmlpInIdeal.nD,
          r.2.mem ((c.tc : Thread Cert.DGmlpInIdeal.nD Cert.DGmlpInIdeal.τ).loc Cert.DGmlpInIdeal.main_v0) = v0 c
          ∧ r.2.mem ((c.tc : Thread Cert.DGmlpInIdeal.nD Cert.DGmlpInIdeal.τ).loc Cert.DGmlpInIdeal.main_arg0) = m ((c.tc : Thread Cert.DGmlpInIdeal.nD Cert.DGmlpInIdeal.τ).loc Cert.DGmlpInIdeal.main_arg0)
          ∧ r.2.mem ((c.tc : Thread Cert.DGmlpInIdeal.nD Cert.DGmlpInIdeal.τ).loc Cert.DGmlpInIdeal.main_arg1) = m ((c.tc : Thread Cert.DGmlpInIdeal.nD Cert.DGmlpInIdeal.τ).loc Cert.DGmlpInIdeal.main_arg1))
      ∧ θ_run (Cert.DGmlpInRefIdeal.defs (F := Ideal)) (onTc (τ := Cert.DGmlpInRefIdeal.τ) (Cert.DGmlpInRefIdeal.main (F := Ideal))) ⟨m', fun _ => 0, g'⟩ (fun r => ∀ c : Dev Cert.DGmlpInRefIdeal.nD,
          r.2.mem ((c.tc : Thread Cert.DGmlpInRefIdeal.nD Cert.DGmlpInRefIdeal.τ).loc Cert.DGmlpInRefIdeal.main_v3) = v0 c
          ∧ r.2.mem ((c.tc : Thread Cert.DGmlpInRefIdeal.nD Cert.DGmlpInRefIdeal.τ).loc Cert.DGmlpInRefIdeal.main_arg0) = m' ((c.tc : Thread Cert.DGmlpInRefIdeal.nD Cert.DGmlpInRefIdeal.τ).loc Cert.DGmlpInRefIdeal.main_arg0)
          ∧ r.2.mem ((c.tc : Thread Cert.DGmlpInRefIdeal.nD Cert.DGmlpInRefIdeal.τ).loc Cert.DGmlpInRefIdeal.main_arg1) = m' ((c.tc : Thread Cert.DGmlpInRefIdeal.nD Cert.DGmlpInRefIdeal.τ).loc Cert.DGmlpInRefIdeal.main_arg1))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v0)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v4) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v4) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v3) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_ProjO_ProjOIdeal : Prop :=
  True

def algebraic_ProjOIdeal_ProjORefIdeal [hProjOIdeal : Cert.ProjOIdeal.Facts] [hProjORefIdeal : Cert.ProjORefIdeal.Facts] : Prop :=
  ∀ (m : (ℓ : Loc Cert.ProjOIdeal.nD Cert.ProjOIdeal.τ Cert.ProjOIdeal.sig) → Buf (Elt Ideal) ℓ) (g : Dev Cert.ProjOIdeal.nD → PrngReg)
    (m' : (ℓ : Loc Cert.ProjORefIdeal.nD Cert.ProjORefIdeal.τ Cert.ProjORefIdeal.sig) → Buf (Elt Ideal) ℓ) (g' : Dev Cert.ProjORefIdeal.nD → PrngReg), Pre_ProjOIdeal m →
    (∀ c : Dev Cert.ProjOIdeal.nD,
      m' ((c.tc : Thread Cert.ProjORefIdeal.nD Cert.ProjORefIdeal.τ).loc Cert.ProjORefIdeal.main_arg0) = m ((c.tc : Thread Cert.ProjOIdeal.nD Cert.ProjOIdeal.τ).loc Cert.ProjOIdeal.main_arg0)
      ∧ m' ((c.tc : Thread Cert.ProjORefIdeal.nD Cert.ProjORefIdeal.τ).loc Cert.ProjORefIdeal.main_arg1) = m ((c.tc : Thread Cert.ProjOIdeal.nD Cert.ProjOIdeal.τ).loc Cert.ProjOIdeal.main_arg1)) →
    ∃ (v0 : (c : Dev Cert.ProjOIdeal.nD) → Buf (Elt Ideal) ((c.tc : Thread Cert.ProjOIdeal.nD Cert.ProjOIdeal.τ).loc Cert.ProjOIdeal.main_v0)),
      θ_run (Cert.ProjOIdeal.defs (F := Ideal)) (onTc (τ := Cert.ProjOIdeal.τ) (Cert.ProjOIdeal.main (F := Ideal))) ⟨m, fun _ => 0, g⟩ (fun r => ∀ c : Dev Cert.ProjOIdeal.nD,
          r.2.mem ((c.tc : Thread Cert.ProjOIdeal.nD Cert.ProjOIdeal.τ).loc Cert.ProjOIdeal.main_v0) = v0 c
          ∧ r.2.mem ((c.tc : Thread Cert.ProjOIdeal.nD Cert.ProjOIdeal.τ).loc Cert.ProjOIdeal.main_arg0) = m ((c.tc : Thread Cert.ProjOIdeal.nD Cert.ProjOIdeal.τ).loc Cert.ProjOIdeal.main_arg0)
          ∧ r.2.mem ((c.tc : Thread Cert.ProjOIdeal.nD Cert.ProjOIdeal.τ).loc Cert.ProjOIdeal.main_arg1) = m ((c.tc : Thread Cert.ProjOIdeal.nD Cert.ProjOIdeal.τ).loc Cert.ProjOIdeal.main_arg1))
      ∧ θ_run (Cert.ProjORefIdeal.defs (F := Ideal)) (onTc (τ := Cert.ProjORefIdeal.τ) (Cert.ProjORefIdeal.main (F := Ideal))) ⟨m', fun _ => 0, g'⟩ (fun r => ∀ c : Dev Cert.ProjORefIdeal.nD,
          r.2.mem ((c.tc : Thread Cert.ProjORefIdeal.nD Cert.ProjORefIdeal.τ).loc Cert.ProjORefIdeal.main_v2) = v0 c
          ∧ r.2.mem ((c.tc : Thread Cert.ProjORefIdeal.nD Cert.ProjORefIdeal.τ).loc Cert.ProjORefIdeal.main_arg0) = m' ((c.tc : Thread Cert.ProjORefIdeal.nD Cert.ProjORefIdeal.τ).loc Cert.ProjORefIdeal.main_arg0)
          ∧ r.2.mem ((c.tc : Thread Cert.ProjORefIdeal.nD Cert.ProjORefIdeal.τ).loc Cert.ProjORefIdeal.main_arg1) = m' ((c.tc : Thread Cert.ProjORefIdeal.nD Cert.ProjORefIdeal.τ).loc Cert.ProjORefIdeal.main_arg1))

def preserves_GmlpIn_GmlpInIdeal : Prop :=
  True

def algebraic_GmlpInIdeal_GmlpInRefIdeal [hGmlpInIdeal : Cert.GmlpInIdeal.Facts] [hGmlpInRefIdeal : Cert.GmlpInRefIdeal.Facts] : Prop :=
  ∀ (m : (ℓ : Loc Cert.GmlpInIdeal.nD Cert.GmlpInIdeal.τ Cert.GmlpInIdeal.sig) → Buf (Elt Ideal) ℓ) (g : Dev Cert.GmlpInIdeal.nD → PrngReg)
    (m' : (ℓ : Loc Cert.GmlpInRefIdeal.nD Cert.GmlpInRefIdeal.τ Cert.GmlpInRefIdeal.sig) → Buf (Elt Ideal) ℓ) (g' : Dev Cert.GmlpInRefIdeal.nD → PrngReg), Pre_GmlpInIdeal m →
    (∀ c : Dev Cert.GmlpInIdeal.nD,
      m' ((c.tc : Thread Cert.GmlpInRefIdeal.nD Cert.GmlpInRefIdeal.τ).loc Cert.GmlpInRefIdeal.main_arg0) = m ((c.tc : Thread Cert.GmlpInIdeal.nD Cert.GmlpInIdeal.τ).loc Cert.GmlpInIdeal.main_arg0)
      ∧ m' ((c.tc : Thread Cert.GmlpInRefIdeal.nD Cert.GmlpInRefIdeal.τ).loc Cert.GmlpInRefIdeal.main_arg1) = m ((c.tc : Thread Cert.GmlpInIdeal.nD Cert.GmlpInIdeal.τ).loc Cert.GmlpInIdeal.main_arg1)) →
    ∃ (v0 : (c : Dev Cert.GmlpInIdeal.nD) → Buf (Elt Ideal) ((c.tc : Thread Cert.GmlpInIdeal.nD Cert.GmlpInIdeal.τ).loc Cert.GmlpInIdeal.main_v0)),
      θ_run (Cert.GmlpInIdeal.defs (F := Ideal)) (onTc (τ := Cert.GmlpInIdeal.τ) (Cert.GmlpInIdeal.main (F := Ideal))) ⟨m, fun _ => 0, g⟩ (fun r => ∀ c : Dev Cert.GmlpInIdeal.nD,
          r.2.mem ((c.tc : Thread Cert.GmlpInIdeal.nD Cert.GmlpInIdeal.τ).loc Cert.GmlpInIdeal.main_v0) = v0 c
          ∧ r.2.mem ((c.tc : Thread Cert.GmlpInIdeal.nD Cert.GmlpInIdeal.τ).loc Cert.GmlpInIdeal.main_arg0) = m ((c.tc : Thread Cert.GmlpInIdeal.nD Cert.GmlpInIdeal.τ).loc Cert.GmlpInIdeal.main_arg0)
          ∧ r.2.mem ((c.tc : Thread Cert.GmlpInIdeal.nD Cert.GmlpInIdeal.τ).loc Cert.GmlpInIdeal.main_arg1) = m ((c.tc : Thread Cert.GmlpInIdeal.nD Cert.GmlpInIdeal.τ).loc Cert.GmlpInIdeal.main_arg1))
      ∧ θ_run (Cert.GmlpInRefIdeal.defs (F := Ideal)) (onTc (τ := Cert.GmlpInRefIdeal.τ) (Cert.GmlpInRefIdeal.main (F := Ideal))) ⟨m', fun _ => 0, g'⟩ (fun r => ∀ c : Dev Cert.GmlpInRefIdeal.nD,
          r.2.mem ((c.tc : Thread Cert.GmlpInRefIdeal.nD Cert.GmlpInRefIdeal.τ).loc Cert.GmlpInRefIdeal.main_v4) = v0 c
          ∧ r.2.mem ((c.tc : Thread Cert.GmlpInRefIdeal.nD Cert.GmlpInRefIdeal.τ).loc Cert.GmlpInRefIdeal.main_arg0) = m' ((c.tc : Thread Cert.GmlpInRefIdeal.nD Cert.GmlpInRefIdeal.τ).loc Cert.GmlpInRefIdeal.main_arg0)
          ∧ r.2.mem ((c.tc : Thread Cert.GmlpInRefIdeal.nD Cert.GmlpInRefIdeal.τ).loc Cert.GmlpInRefIdeal.main_arg1) = m' ((c.tc : Thread Cert.GmlpInRefIdeal.nD Cert.GmlpInRefIdeal.τ).loc Cert.GmlpInRefIdeal.main_arg1))

def preserves_DNormOut_DNormOutIdeal : Prop :=
  True

def algebraic_DNormOutIdeal_DNormOutRefIdeal [hDNormOutIdeal : Cert.DNormOutIdeal.Facts] [hDNormOutRefIdeal : Cert.DNormOutRefIdeal.Facts] : Prop :=
  ∀ (m : (ℓ : Loc Cert.DNormOutIdeal.nD Cert.DNormOutIdeal.τ Cert.DNormOutIdeal.sig) → Buf (Elt Ideal) ℓ) (g : Dev Cert.DNormOutIdeal.nD → PrngReg)
    (m' : (ℓ : Loc Cert.DNormOutRefIdeal.nD Cert.DNormOutRefIdeal.τ Cert.DNormOutRefIdeal.sig) → Buf (Elt Ideal) ℓ) (g' : Dev Cert.DNormOutRefIdeal.nD → PrngReg), Pre_DNormOutIdeal m →
    (∀ c : Dev Cert.DNormOutIdeal.nD,
      m' ((c.tc : Thread Cert.DNormOutRefIdeal.nD Cert.DNormOutRefIdeal.τ).loc Cert.DNormOutRefIdeal.main_arg0) = m ((c.tc : Thread Cert.DNormOutIdeal.nD Cert.DNormOutIdeal.τ).loc Cert.DNormOutIdeal.main_arg0)
      ∧ m' ((c.tc : Thread Cert.DNormOutRefIdeal.nD Cert.DNormOutRefIdeal.τ).loc Cert.DNormOutRefIdeal.main_arg1) = m ((c.tc : Thread Cert.DNormOutIdeal.nD Cert.DNormOutIdeal.τ).loc Cert.DNormOutIdeal.main_arg1)
      ∧ m' ((c.tc : Thread Cert.DNormOutRefIdeal.nD Cert.DNormOutRefIdeal.τ).loc Cert.DNormOutRefIdeal.main_arg2) = m ((c.tc : Thread Cert.DNormOutIdeal.nD Cert.DNormOutIdeal.τ).loc Cert.DNormOutIdeal.main_arg2)) →
    ∃ (v0 : (c : Dev Cert.DNormOutIdeal.nD) → Buf (Elt Ideal) ((c.tc : Thread Cert.DNormOutIdeal.nD Cert.DNormOutIdeal.τ).loc Cert.DNormOutIdeal.main_v0_0)) (v1 : (c : Dev Cert.DNormOutIdeal.nD) → Buf (Elt Ideal) ((c.tc : Thread Cert.DNormOutIdeal.nD Cert.DNormOutIdeal.τ).loc Cert.DNormOutIdeal.main_v0_1)),
      θ_run (Cert.DNormOutIdeal.defs (F := Ideal)) (onTc (τ := Cert.DNormOutIdeal.τ) (Cert.DNormOutIdeal.main (F := Ideal))) ⟨m, fun _ => 0, g⟩ (fun r => ∀ c : Dev Cert.DNormOutIdeal.nD,
          r.2.mem ((c.tc : Thread Cert.DNormOutIdeal.nD Cert.DNormOutIdeal.τ).loc Cert.DNormOutIdeal.main_v0_0) = v0 c
          ∧ r.2.mem ((c.tc : Thread Cert.DNormOutIdeal.nD Cert.DNormOutIdeal.τ).loc Cert.DNormOutIdeal.main_v0_1) = v1 c
          ∧ r.2.mem ((c.tc : Thread Cert.DNormOutIdeal.nD Cert.DNormOutIdeal.τ).loc Cert.DNormOutIdeal.main_arg0) = m ((c.tc : Thread Cert.DNormOutIdeal.nD Cert.DNormOutIdeal.τ).loc Cert.DNormOutIdeal.main_arg0)
          ∧ r.2.mem ((c.tc : Thread Cert.DNormOutIdeal.nD Cert.DNormOutIdeal.τ).loc Cert.DNormOutIdeal.main_arg1) = m ((c.tc : Thread Cert.DNormOutIdeal.nD Cert.DNormOutIdeal.τ).loc Cert.DNormOutIdeal.main_arg1)
          ∧ r.2.mem ((c.tc : Thread Cert.DNormOutIdeal.nD Cert.DNormOutIdeal.τ).loc Cert.DNormOutIdeal.main_arg2) = m ((c.tc : Thread Cert.DNormOutIdeal.nD Cert.DNormOutIdeal.τ).loc Cert.DNormOutIdeal.main_arg2))
      ∧ θ_run (Cert.DNormOutRefIdeal.defs (F := Ideal)) (onTc (τ := Cert.DNormOutRefIdeal.τ) (Cert.DNormOutRefIdeal.main (F := Ideal))) ⟨m', fun _ => 0, g'⟩ (fun r => ∀ c : Dev Cert.DNormOutRefIdeal.nD,
          r.2.mem ((c.tc : Thread Cert.DNormOutRefIdeal.nD Cert.DNormOutRefIdeal.τ).loc Cert.DNormOutRefIdeal.main_v34) = v0 c
          ∧ r.2.mem ((c.tc : Thread Cert.DNormOutRefIdeal.nD Cert.DNormOutRefIdeal.τ).loc Cert.DNormOutRefIdeal.main_v17) = v1 c
          ∧ r.2.mem ((c.tc : Thread Cert.DNormOutRefIdeal.nD Cert.DNormOutRefIdeal.τ).loc Cert.DNormOutRefIdeal.main_arg0) = m' ((c.tc : Thread Cert.DNormOutRefIdeal.nD Cert.DNormOutRefIdeal.τ).loc Cert.DNormOutRefIdeal.main_arg0)
          ∧ r.2.mem ((c.tc : Thread Cert.DNormOutRefIdeal.nD Cert.DNormOutRefIdeal.τ).loc Cert.DNormOutRefIdeal.main_arg1) = m' ((c.tc : Thread Cert.DNormOutRefIdeal.nD Cert.DNormOutRefIdeal.τ).loc Cert.DNormOutRefIdeal.main_arg1)
          ∧ r.2.mem ((c.tc : Thread Cert.DNormOutRefIdeal.nD Cert.DNormOutRefIdeal.τ).loc Cert.DNormOutRefIdeal.main_arg2) = m' ((c.tc : Thread Cert.DNormOutRefIdeal.nD Cert.DNormOutRefIdeal.τ).loc Cert.DNormOutRefIdeal.main_arg2))

def preserves_DNormIn_DNormInIdeal : Prop :=
  True

def algebraic_DNormInIdeal_DNormInRefIdeal [hDNormInIdeal : Cert.DNormInIdeal.Facts] [hDNormInRefIdeal : Cert.DNormInRefIdeal.Facts] : Prop :=
  ∀ (m : (ℓ : Loc Cert.DNormInIdeal.nD Cert.DNormInIdeal.τ Cert.DNormInIdeal.sig) → Buf (Elt Ideal) ℓ) (g : Dev Cert.DNormInIdeal.nD → PrngReg)
    (m' : (ℓ : Loc Cert.DNormInRefIdeal.nD Cert.DNormInRefIdeal.τ Cert.DNormInRefIdeal.sig) → Buf (Elt Ideal) ℓ) (g' : Dev Cert.DNormInRefIdeal.nD → PrngReg), Pre_DNormInIdeal m →
    (∀ c : Dev Cert.DNormInIdeal.nD,
      m' ((c.tc : Thread Cert.DNormInRefIdeal.nD Cert.DNormInRefIdeal.τ).loc Cert.DNormInRefIdeal.main_arg0) = m ((c.tc : Thread Cert.DNormInIdeal.nD Cert.DNormInIdeal.τ).loc Cert.DNormInIdeal.main_arg0)
      ∧ m' ((c.tc : Thread Cert.DNormInRefIdeal.nD Cert.DNormInRefIdeal.τ).loc Cert.DNormInRefIdeal.main_arg1) = m ((c.tc : Thread Cert.DNormInIdeal.nD Cert.DNormInIdeal.τ).loc Cert.DNormInIdeal.main_arg1)
      ∧ m' ((c.tc : Thread Cert.DNormInRefIdeal.nD Cert.DNormInRefIdeal.τ).loc Cert.DNormInRefIdeal.main_arg2) = m ((c.tc : Thread Cert.DNormInIdeal.nD Cert.DNormInIdeal.τ).loc Cert.DNormInIdeal.main_arg2)
      ∧ m' ((c.tc : Thread Cert.DNormInRefIdeal.nD Cert.DNormInRefIdeal.τ).loc Cert.DNormInRefIdeal.main_arg3) = m ((c.tc : Thread Cert.DNormInIdeal.nD Cert.DNormInIdeal.τ).loc Cert.DNormInIdeal.main_arg3)) →
    ∃ (v0 : (c : Dev Cert.DNormInIdeal.nD) → Buf (Elt Ideal) ((c.tc : Thread Cert.DNormInIdeal.nD Cert.DNormInIdeal.τ).loc Cert.DNormInIdeal.main_v0_0)) (v1 : (c : Dev Cert.DNormInIdeal.nD) → Buf (Elt Ideal) ((c.tc : Thread Cert.DNormInIdeal.nD Cert.DNormInIdeal.τ).loc Cert.DNormInIdeal.main_v0_1)),
      θ_run (Cert.DNormInIdeal.defs (F := Ideal)) (onTc (τ := Cert.DNormInIdeal.τ) (Cert.DNormInIdeal.main (F := Ideal))) ⟨m, fun _ => 0, g⟩ (fun r => ∀ c : Dev Cert.DNormInIdeal.nD,
          r.2.mem ((c.tc : Thread Cert.DNormInIdeal.nD Cert.DNormInIdeal.τ).loc Cert.DNormInIdeal.main_v0_0) = v0 c
          ∧ r.2.mem ((c.tc : Thread Cert.DNormInIdeal.nD Cert.DNormInIdeal.τ).loc Cert.DNormInIdeal.main_v0_1) = v1 c
          ∧ r.2.mem ((c.tc : Thread Cert.DNormInIdeal.nD Cert.DNormInIdeal.τ).loc Cert.DNormInIdeal.main_arg0) = m ((c.tc : Thread Cert.DNormInIdeal.nD Cert.DNormInIdeal.τ).loc Cert.DNormInIdeal.main_arg0)
          ∧ r.2.mem ((c.tc : Thread Cert.DNormInIdeal.nD Cert.DNormInIdeal.τ).loc Cert.DNormInIdeal.main_arg1) = m ((c.tc : Thread Cert.DNormInIdeal.nD Cert.DNormInIdeal.τ).loc Cert.DNormInIdeal.main_arg1)
          ∧ r.2.mem ((c.tc : Thread Cert.DNormInIdeal.nD Cert.DNormInIdeal.τ).loc Cert.DNormInIdeal.main_arg2) = m ((c.tc : Thread Cert.DNormInIdeal.nD Cert.DNormInIdeal.τ).loc Cert.DNormInIdeal.main_arg2)
          ∧ r.2.mem ((c.tc : Thread Cert.DNormInIdeal.nD Cert.DNormInIdeal.τ).loc Cert.DNormInIdeal.main_arg3) = m ((c.tc : Thread Cert.DNormInIdeal.nD Cert.DNormInIdeal.τ).loc Cert.DNormInIdeal.main_arg3))
      ∧ θ_run (Cert.DNormInRefIdeal.defs (F := Ideal)) (onTc (τ := Cert.DNormInRefIdeal.τ) (Cert.DNormInRefIdeal.main (F := Ideal))) ⟨m', fun _ => 0, g'⟩ (fun r => ∀ c : Dev Cert.DNormInRefIdeal.nD,
          r.2.mem ((c.tc : Thread Cert.DNormInRefIdeal.nD Cert.DNormInRefIdeal.τ).loc Cert.DNormInRefIdeal.main_v34) = v0 c
          ∧ r.2.mem ((c.tc : Thread Cert.DNormInRefIdeal.nD Cert.DNormInRefIdeal.τ).loc Cert.DNormInRefIdeal.main_v17) = v1 c
          ∧ r.2.mem ((c.tc : Thread Cert.DNormInRefIdeal.nD Cert.DNormInRefIdeal.τ).loc Cert.DNormInRefIdeal.main_arg0) = m' ((c.tc : Thread Cert.DNormInRefIdeal.nD Cert.DNormInRefIdeal.τ).loc Cert.DNormInRefIdeal.main_arg0)
          ∧ r.2.mem ((c.tc : Thread Cert.DNormInRefIdeal.nD Cert.DNormInRefIdeal.τ).loc Cert.DNormInRefIdeal.main_arg1) = m' ((c.tc : Thread Cert.DNormInRefIdeal.nD Cert.DNormInRefIdeal.τ).loc Cert.DNormInRefIdeal.main_arg1)
          ∧ r.2.mem ((c.tc : Thread Cert.DNormInRefIdeal.nD Cert.DNormInRefIdeal.τ).loc Cert.DNormInRefIdeal.main_arg2) = m' ((c.tc : Thread Cert.DNormInRefIdeal.nD Cert.DNormInRefIdeal.τ).loc Cert.DNormInRefIdeal.main_arg2)
          ∧ r.2.mem ((c.tc : Thread Cert.DNormInRefIdeal.nD Cert.DNormInRefIdeal.τ).loc Cert.DNormInRefIdeal.main_arg3) = m' ((c.tc : Thread Cert.DNormInRefIdeal.nD Cert.DNormInRefIdeal.τ).loc Cert.DNormInRefIdeal.main_arg3))

def preserves_DNormTwo_DNormTwoIdeal : Prop :=
  True

def algebraic_DNormTwoIdeal_DNormTwoRefIdeal [hDNormTwoIdeal : Cert.DNormTwoIdeal.Facts] [hDNormTwoRefIdeal : Cert.DNormTwoRefIdeal.Facts] : Prop :=
  ∀ (m : (ℓ : Loc Cert.DNormTwoIdeal.nD Cert.DNormTwoIdeal.τ Cert.DNormTwoIdeal.sig) → Buf (Elt Ideal) ℓ) (g : Dev Cert.DNormTwoIdeal.nD → PrngReg)
    (m' : (ℓ : Loc Cert.DNormTwoRefIdeal.nD Cert.DNormTwoRefIdeal.τ Cert.DNormTwoRefIdeal.sig) → Buf (Elt Ideal) ℓ) (g' : Dev Cert.DNormTwoRefIdeal.nD → PrngReg), Pre_DNormTwoIdeal m →
    (∀ c : Dev Cert.DNormTwoIdeal.nD,
      m' ((c.tc : Thread Cert.DNormTwoRefIdeal.nD Cert.DNormTwoRefIdeal.τ).loc Cert.DNormTwoRefIdeal.main_arg0) = m ((c.tc : Thread Cert.DNormTwoIdeal.nD Cert.DNormTwoIdeal.τ).loc Cert.DNormTwoIdeal.main_arg0)
      ∧ m' ((c.tc : Thread Cert.DNormTwoRefIdeal.nD Cert.DNormTwoRefIdeal.τ).loc Cert.DNormTwoRefIdeal.main_arg1) = m ((c.tc : Thread Cert.DNormTwoIdeal.nD Cert.DNormTwoIdeal.τ).loc Cert.DNormTwoIdeal.main_arg1)
      ∧ m' ((c.tc : Thread Cert.DNormTwoRefIdeal.nD Cert.DNormTwoRefIdeal.τ).loc Cert.DNormTwoRefIdeal.main_arg2) = m ((c.tc : Thread Cert.DNormTwoIdeal.nD Cert.DNormTwoIdeal.τ).loc Cert.DNormTwoIdeal.main_arg2)
      ∧ m' ((c.tc : Thread Cert.DNormTwoRefIdeal.nD Cert.DNormTwoRefIdeal.τ).loc Cert.DNormTwoRefIdeal.main_arg3) = m ((c.tc : Thread Cert.DNormTwoIdeal.nD Cert.DNormTwoIdeal.τ).loc Cert.DNormTwoIdeal.main_arg3)
      ∧ m' ((c.tc : Thread Cert.DNormTwoRefIdeal.nD Cert.DNormTwoRefIdeal.τ).loc Cert.DNormTwoRefIdeal.main_arg4) = m ((c.tc : Thread Cert.DNormTwoIdeal.nD Cert.DNormTwoIdeal.τ).loc Cert.DNormTwoIdeal.main_arg4)
      ∧ m' ((c.tc : Thread Cert.DNormTwoRefIdeal.nD Cert.DNormTwoRefIdeal.τ).loc Cert.DNormTwoRefIdeal.main_arg5) = m ((c.tc : Thread Cert.DNormTwoIdeal.nD Cert.DNormTwoIdeal.τ).loc Cert.DNormTwoIdeal.main_arg5)
      ∧ m' ((c.tc : Thread Cert.DNormTwoRefIdeal.nD Cert.DNormTwoRefIdeal.τ).loc Cert.DNormTwoRefIdeal.main_arg6) = m ((c.tc : Thread Cert.DNormTwoIdeal.nD Cert.DNormTwoIdeal.τ).loc Cert.DNormTwoIdeal.main_arg6)) →
    ∃ (v0 : (c : Dev Cert.DNormTwoIdeal.nD) → Buf (Elt Ideal) ((c.tc : Thread Cert.DNormTwoIdeal.nD Cert.DNormTwoIdeal.τ).loc Cert.DNormTwoIdeal.main_v0_0)) (v1 : (c : Dev Cert.DNormTwoIdeal.nD) → Buf (Elt Ideal) ((c.tc : Thread Cert.DNormTwoIdeal.nD Cert.DNormTwoIdeal.τ).loc Cert.DNormTwoIdeal.main_v0_1)) (v2 : (c : Dev Cert.DNormTwoIdeal.nD) → Buf (Elt Ideal) ((c.tc : Thread Cert.DNormTwoIdeal.nD Cert.DNormTwoIdeal.τ).loc Cert.DNormTwoIdeal.main_v0_2)),
      θ_run (Cert.DNormTwoIdeal.defs (F := Ideal)) (onTc (τ := Cert.DNormTwoIdeal.τ) (Cert.DNormTwoIdeal.main (F := Ideal))) ⟨m, fun _ => 0, g⟩ (fun r => ∀ c : Dev Cert.DNormTwoIdeal.nD,
          r.2.mem ((c.tc : Thread Cert.DNormTwoIdeal.nD Cert.DNormTwoIdeal.τ).loc Cert.DNormTwoIdeal.main_v0_0) = v0 c
          ∧ r.2.mem ((c.tc : Thread Cert.DNormTwoIdeal.nD Cert.DNormTwoIdeal.τ).loc Cert.DNormTwoIdeal.main_v0_1) = v1 c
          ∧ r.2.mem ((c.tc : Thread Cert.DNormTwoIdeal.nD Cert.DNormTwoIdeal.τ).loc Cert.DNormTwoIdeal.main_v0_2) = v2 c
          ∧ r.2.mem ((c.tc : Thread Cert.DNormTwoIdeal.nD Cert.DNormTwoIdeal.τ).loc Cert.DNormTwoIdeal.main_arg0) = m ((c.tc : Thread Cert.DNormTwoIdeal.nD Cert.DNormTwoIdeal.τ).loc Cert.DNormTwoIdeal.main_arg0)
          ∧ r.2.mem ((c.tc : Thread Cert.DNormTwoIdeal.nD Cert.DNormTwoIdeal.τ).loc Cert.DNormTwoIdeal.main_arg1) = m ((c.tc : Thread Cert.DNormTwoIdeal.nD Cert.DNormTwoIdeal.τ).loc Cert.DNormTwoIdeal.main_arg1)
          ∧ r.2.mem ((c.tc : Thread Cert.DNormTwoIdeal.nD Cert.DNormTwoIdeal.τ).loc Cert.DNormTwoIdeal.main_arg2) = m ((c.tc : Thread Cert.DNormTwoIdeal.nD Cert.DNormTwoIdeal.τ).loc Cert.DNormTwoIdeal.main_arg2)
          ∧ r.2.mem ((c.tc : Thread Cert.DNormTwoIdeal.nD Cert.DNormTwoIdeal.τ).loc Cert.DNormTwoIdeal.main_arg3) = m ((c.tc : Thread Cert.DNormTwoIdeal.nD Cert.DNormTwoIdeal.τ).loc Cert.DNormTwoIdeal.main_arg3)
          ∧ r.2.mem ((c.tc : Thread Cert.DNormTwoIdeal.nD Cert.DNormTwoIdeal.τ).loc Cert.DNormTwoIdeal.main_arg4) = m ((c.tc : Thread Cert.DNormTwoIdeal.nD Cert.DNormTwoIdeal.τ).loc Cert.DNormTwoIdeal.main_arg4)
          ∧ r.2.mem ((c.tc : Thread Cert.DNormTwoIdeal.nD Cert.DNormTwoIdeal.τ).loc Cert.DNormTwoIdeal.main_arg5) = m ((c.tc : Thread Cert.DNormTwoIdeal.nD Cert.DNormTwoIdeal.τ).loc Cert.DNormTwoIdeal.main_arg5)
          ∧ r.2.mem ((c.tc : Thread Cert.DNormTwoIdeal.nD Cert.DNormTwoIdeal.τ).loc Cert.DNormTwoIdeal.main_arg6) = m ((c.tc : Thread Cert.DNormTwoIdeal.nD Cert.DNormTwoIdeal.τ).loc Cert.DNormTwoIdeal.main_arg6))
      ∧ θ_run (Cert.DNormTwoRefIdeal.defs (F := Ideal)) (onTc (τ := Cert.DNormTwoRefIdeal.τ) (Cert.DNormTwoRefIdeal.main (F := Ideal))) ⟨m', fun _ => 0, g'⟩ (fun r => ∀ c : Dev Cert.DNormTwoRefIdeal.nD,
          r.2.mem ((c.tc : Thread Cert.DNormTwoRefIdeal.nD Cert.DNormTwoRefIdeal.τ).loc Cert.DNormTwoRefIdeal.main_v70) = v0 c
          ∧ r.2.mem ((c.tc : Thread Cert.DNormTwoRefIdeal.nD Cert.DNormTwoRefIdeal.τ).loc Cert.DNormTwoRefIdeal.main_v33) = v1 c
          ∧ r.2.mem ((c.tc : Thread Cert.DNormTwoRefIdeal.nD Cert.DNormTwoRefIdeal.τ).loc Cert.DNormTwoRefIdeal.main_v53) = v2 c
          ∧ r.2.mem ((c.tc : Thread Cert.DNormTwoRefIdeal.nD Cert.DNormTwoRefIdeal.τ).loc Cert.DNormTwoRefIdeal.main_arg0) = m' ((c.tc : Thread Cert.DNormTwoRefIdeal.nD Cert.DNormTwoRefIdeal.τ).loc Cert.DNormTwoRefIdeal.main_arg0)
          ∧ r.2.mem ((c.tc : Thread Cert.DNormTwoRefIdeal.nD Cert.DNormTwoRefIdeal.τ).loc Cert.DNormTwoRefIdeal.main_arg1) = m' ((c.tc : Thread Cert.DNormTwoRefIdeal.nD Cert.DNormTwoRefIdeal.τ).loc Cert.DNormTwoRefIdeal.main_arg1)
          ∧ r.2.mem ((c.tc : Thread Cert.DNormTwoRefIdeal.nD Cert.DNormTwoRefIdeal.τ).loc Cert.DNormTwoRefIdeal.main_arg2) = m' ((c.tc : Thread Cert.DNormTwoRefIdeal.nD Cert.DNormTwoRefIdeal.τ).loc Cert.DNormTwoRefIdeal.main_arg2)
          ∧ r.2.mem ((c.tc : Thread Cert.DNormTwoRefIdeal.nD Cert.DNormTwoRefIdeal.τ).loc Cert.DNormTwoRefIdeal.main_arg3) = m' ((c.tc : Thread Cert.DNormTwoRefIdeal.nD Cert.DNormTwoRefIdeal.τ).loc Cert.DNormTwoRefIdeal.main_arg3)
          ∧ r.2.mem ((c.tc : Thread Cert.DNormTwoRefIdeal.nD Cert.DNormTwoRefIdeal.τ).loc Cert.DNormTwoRefIdeal.main_arg4) = m' ((c.tc : Thread Cert.DNormTwoRefIdeal.nD Cert.DNormTwoRefIdeal.τ).loc Cert.DNormTwoRefIdeal.main_arg4)
          ∧ r.2.mem ((c.tc : Thread Cert.DNormTwoRefIdeal.nD Cert.DNormTwoRefIdeal.τ).loc Cert.DNormTwoRefIdeal.main_arg5) = m' ((c.tc : Thread Cert.DNormTwoRefIdeal.nD Cert.DNormTwoRefIdeal.τ).loc Cert.DNormTwoRefIdeal.main_arg5)
          ∧ r.2.mem ((c.tc : Thread Cert.DNormTwoRefIdeal.nD Cert.DNormTwoRefIdeal.τ).loc Cert.DNormTwoRefIdeal.main_arg6) = m' ((c.tc : Thread Cert.DNormTwoRefIdeal.nD Cert.DNormTwoRefIdeal.τ).loc Cert.DNormTwoRefIdeal.main_arg6))

def preserves_AdamWide_AdamWideIdeal : Prop :=
  True

def algebraic_AdamWideIdeal_AdamWideRefIdeal [hAdamWideIdeal : Cert.AdamWideIdeal.Facts] [hAdamWideRefIdeal : Cert.AdamWideRefIdeal.Facts] : Prop :=
  ∀ (m : (ℓ : Loc Cert.AdamWideIdeal.nD Cert.AdamWideIdeal.τ Cert.AdamWideIdeal.sig) → Buf (Elt Ideal) ℓ) (g : Dev Cert.AdamWideIdeal.nD → PrngReg)
    (m' : (ℓ : Loc Cert.AdamWideRefIdeal.nD Cert.AdamWideRefIdeal.τ Cert.AdamWideRefIdeal.sig) → Buf (Elt Ideal) ℓ) (g' : Dev Cert.AdamWideRefIdeal.nD → PrngReg), Pre_AdamWideIdeal m →
    (∀ c : Dev Cert.AdamWideIdeal.nD,
      m' ((c.tc : Thread Cert.AdamWideRefIdeal.nD Cert.AdamWideRefIdeal.τ).loc Cert.AdamWideRefIdeal.main_arg0) = m ((c.tc : Thread Cert.AdamWideIdeal.nD Cert.AdamWideIdeal.τ).loc Cert.AdamWideIdeal.main_arg0)
      ∧ m' ((c.tc : Thread Cert.AdamWideRefIdeal.nD Cert.AdamWideRefIdeal.τ).loc Cert.AdamWideRefIdeal.main_arg1) = m ((c.tc : Thread Cert.AdamWideIdeal.nD Cert.AdamWideIdeal.τ).loc Cert.AdamWideIdeal.main_arg1)
      ∧ m' ((c.tc : Thread Cert.AdamWideRefIdeal.nD Cert.AdamWideRefIdeal.τ).loc Cert.AdamWideRefIdeal.main_arg2) = m ((c.tc : Thread Cert.AdamWideIdeal.nD Cert.AdamWideIdeal.τ).loc Cert.AdamWideIdeal.main_arg2)
      ∧ m' ((c.tc : Thread Cert.AdamWideRefIdeal.nD Cert.AdamWideRefIdeal.τ).loc Cert.AdamWideRefIdeal.main_arg3) = m ((c.tc : Thread Cert.AdamWideIdeal.nD Cert.AdamWideIdeal.τ).loc Cert.AdamWideIdeal.main_arg3)) →
    ∃ (v0 : (c : Dev Cert.AdamWideIdeal.nD) → Buf (Elt Ideal) ((c.tc : Thread Cert.AdamWideIdeal.nD Cert.AdamWideIdeal.τ).loc Cert.AdamWideIdeal.main_v0_0)) (v1 : (c : Dev Cert.AdamWideIdeal.nD) → Buf (Elt Ideal) ((c.tc : Thread Cert.AdamWideIdeal.nD Cert.AdamWideIdeal.τ).loc Cert.AdamWideIdeal.main_v0_1)) (v2 : (c : Dev Cert.AdamWideIdeal.nD) → Buf (Elt Ideal) ((c.tc : Thread Cert.AdamWideIdeal.nD Cert.AdamWideIdeal.τ).loc Cert.AdamWideIdeal.main_v0_2)) (v3 : (c : Dev Cert.AdamWideIdeal.nD) → Buf (Elt Ideal) ((c.tc : Thread Cert.AdamWideIdeal.nD Cert.AdamWideIdeal.τ).loc Cert.AdamWideIdeal.main_v0_3)),
      θ_run (Cert.AdamWideIdeal.defs (F := Ideal)) (onTc (τ := Cert.AdamWideIdeal.τ) (Cert.AdamWideIdeal.main (F := Ideal))) ⟨m, fun _ => 0, g⟩ (fun r => ∀ c : Dev Cert.AdamWideIdeal.nD,
          r.2.mem ((c.tc : Thread Cert.AdamWideIdeal.nD Cert.AdamWideIdeal.τ).loc Cert.AdamWideIdeal.main_v0_0) = v0 c
          ∧ r.2.mem ((c.tc : Thread Cert.AdamWideIdeal.nD Cert.AdamWideIdeal.τ).loc Cert.AdamWideIdeal.main_v0_1) = v1 c
          ∧ r.2.mem ((c.tc : Thread Cert.AdamWideIdeal.nD Cert.AdamWideIdeal.τ).loc Cert.AdamWideIdeal.main_v0_2) = v2 c
          ∧ r.2.mem ((c.tc : Thread Cert.AdamWideIdeal.nD Cert.AdamWideIdeal.τ).loc Cert.AdamWideIdeal.main_v0_3) = v3 c
          ∧ r.2.mem ((c.tc : Thread Cert.AdamWideIdeal.nD Cert.AdamWideIdeal.τ).loc Cert.AdamWideIdeal.main_arg0) = m ((c.tc : Thread Cert.AdamWideIdeal.nD Cert.AdamWideIdeal.τ).loc Cert.AdamWideIdeal.main_arg0)
          ∧ r.2.mem ((c.tc : Thread Cert.AdamWideIdeal.nD Cert.AdamWideIdeal.τ).loc Cert.AdamWideIdeal.main_arg1) = m ((c.tc : Thread Cert.AdamWideIdeal.nD Cert.AdamWideIdeal.τ).loc Cert.AdamWideIdeal.main_arg1)
          ∧ r.2.mem ((c.tc : Thread Cert.AdamWideIdeal.nD Cert.AdamWideIdeal.τ).loc Cert.AdamWideIdeal.main_arg2) = m ((c.tc : Thread Cert.AdamWideIdeal.nD Cert.AdamWideIdeal.τ).loc Cert.AdamWideIdeal.main_arg2)
          ∧ r.2.mem ((c.tc : Thread Cert.AdamWideIdeal.nD Cert.AdamWideIdeal.τ).loc Cert.AdamWideIdeal.main_arg3) = m ((c.tc : Thread Cert.AdamWideIdeal.nD Cert.AdamWideIdeal.τ).loc Cert.AdamWideIdeal.main_arg3))
      ∧ θ_run (Cert.AdamWideRefIdeal.defs (F := Ideal)) (onTc (τ := Cert.AdamWideRefIdeal.τ) (Cert.AdamWideRefIdeal.main (F := Ideal))) ⟨m', fun _ => 0, g'⟩ (fun r => ∀ c : Dev Cert.AdamWideRefIdeal.nD,
          r.2.mem ((c.tc : Thread Cert.AdamWideRefIdeal.nD Cert.AdamWideRefIdeal.τ).loc Cert.AdamWideRefIdeal.main_arg1) = v0 c
          ∧ r.2.mem ((c.tc : Thread Cert.AdamWideRefIdeal.nD Cert.AdamWideRefIdeal.τ).loc Cert.AdamWideRefIdeal.main_v23) = v1 c
          ∧ r.2.mem ((c.tc : Thread Cert.AdamWideRefIdeal.nD Cert.AdamWideRefIdeal.τ).loc Cert.AdamWideRefIdeal.main_v4) = v2 c
          ∧ r.2.mem ((c.tc : Thread Cert.AdamWideRefIdeal.nD Cert.AdamWideRefIdeal.τ).loc Cert.AdamWideRefIdeal.main_v10) = v3 c
          ∧ r.2.mem ((c.tc : Thread Cert.AdamWideRefIdeal.nD Cert.AdamWideRefIdeal.τ).loc Cert.AdamWideRefIdeal.main_arg0) = m' ((c.tc : Thread Cert.AdamWideRefIdeal.nD Cert.AdamWideRefIdeal.τ).loc Cert.AdamWideRefIdeal.main_arg0)
          ∧ r.2.mem ((c.tc : Thread Cert.AdamWideRefIdeal.nD Cert.AdamWideRefIdeal.τ).loc Cert.AdamWideRefIdeal.main_arg1) = m' ((c.tc : Thread Cert.AdamWideRefIdeal.nD Cert.AdamWideRefIdeal.τ).loc Cert.AdamWideRefIdeal.main_arg1)
          ∧ r.2.mem ((c.tc : Thread Cert.AdamWideRefIdeal.nD Cert.AdamWideRefIdeal.τ).loc Cert.AdamWideRefIdeal.main_arg2) = m' ((c.tc : Thread Cert.AdamWideRefIdeal.nD Cert.AdamWideRefIdeal.τ).loc Cert.AdamWideRefIdeal.main_arg2)
          ∧ r.2.mem ((c.tc : Thread Cert.AdamWideRefIdeal.nD Cert.AdamWideRefIdeal.τ).loc Cert.AdamWideRefIdeal.main_arg3) = m' ((c.tc : Thread Cert.AdamWideRefIdeal.nD Cert.AdamWideRefIdeal.τ).loc Cert.AdamWideRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_arg1) = v0 c
          ∧ r.2.mem ((c.tc : Thread Cert.AdamInRefIdeal.nD Cert.AdamInRefIdeal.τ).loc Cert.AdamInRefIdeal.main_v23) = v1 c
          ∧ r.2.mem ((c.tc : Thread Cert.AdamInRefIdeal.nD Cert.AdamInRefIdeal.τ).loc Cert.AdamInRefIdeal.main_v4) = v2 c
          ∧ r.2.mem ((c.tc : Thread Cert.AdamInRefIdeal.nD Cert.AdamInRefIdeal.τ).loc Cert.AdamInRefIdeal.main_v10) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_arg1) = v0 c
          ∧ r.2.mem ((c.tc : Thread Cert.AdamUpRefIdeal.nD Cert.AdamUpRefIdeal.τ).loc Cert.AdamUpRefIdeal.main_v23) = v1 c
          ∧ r.2.mem ((c.tc : Thread Cert.AdamUpRefIdeal.nD Cert.AdamUpRefIdeal.τ).loc Cert.AdamUpRefIdeal.main_v4) = v2 c
          ∧ r.2.mem ((c.tc : Thread Cert.AdamUpRefIdeal.nD Cert.AdamUpRefIdeal.τ).loc Cert.AdamUpRefIdeal.main_v10) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_arg1) = v0 c
          ∧ r.2.mem ((c.tc : Thread Cert.AdamDownRefIdeal.nD Cert.AdamDownRefIdeal.τ).loc Cert.AdamDownRefIdeal.main_v23) = v1 c
          ∧ r.2.mem ((c.tc : Thread Cert.AdamDownRefIdeal.nD Cert.AdamDownRefIdeal.τ).loc Cert.AdamDownRefIdeal.main_v4) = v2 c
          ∧ r.2.mem ((c.tc : Thread Cert.AdamDownRefIdeal.nD Cert.AdamDownRefIdeal.τ).loc Cert.AdamDownRefIdeal.main_v10) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def Claim : Prop :=
  ∃ (hKernel : Cert.Kernel.Facts) (hKernelIdeal : Cert.KernelIdeal.Facts) (hReferenceIdeal : Cert.ReferenceIdeal.Facts) (hDWDown : Cert.DWDown.Facts) (hDWDownIdeal : Cert.DWDownIdeal.Facts) (hDWDownRefIdeal : Cert.DWDownRefIdeal.Facts) (hDFfnMid : Cert.DFfnMid.Facts) (hDFfnMidIdeal : Cert.DFfnMidIdeal.Facts) (hDFfnMidRefIdeal : Cert.DFfnMidRefIdeal.Facts) (hDWUp : Cert.DWUp.Facts) (hDWUpIdeal : Cert.DWUpIdeal.Facts) (hDWUpRefIdeal : Cert.DWUpRefIdeal.Facts) (hDFfnIn : Cert.DFfnIn.Facts) (hDFfnInIdeal : Cert.DFfnInIdeal.Facts) (hDFfnInRefIdeal : Cert.DFfnInRefIdeal.Facts) (hDWide : Cert.DWide.Facts) (hDWideIdeal : Cert.DWideIdeal.Facts) (hDWideRefIdeal : Cert.DWideRefIdeal.Facts) (hDWKv : Cert.DWKv.Facts) (hDWKvIdeal : Cert.DWKvIdeal.Facts) (hDWKvRefIdeal : Cert.DWKvRefIdeal.Facts) (hDAttnOut : Cert.DAttnOut.Facts) (hDAttnOutIdeal : Cert.DAttnOutIdeal.Facts) (hDAttnOutRefIdeal : Cert.DAttnOutRefIdeal.Facts) (hDQIn : Cert.DQIn.Facts) (hDQInIdeal : Cert.DQInIdeal.Facts) (hDQInRefIdeal : Cert.DQInRefIdeal.Facts) (hDKIn : Cert.DKIn.Facts) (hDKInIdeal : Cert.DKInIdeal.Facts) (hDKInRefIdeal : Cert.DKInRefIdeal.Facts) (hDWIn : Cert.DWIn.Facts) (hDWInIdeal : Cert.DWInIdeal.Facts) (hDWInRefIdeal : Cert.DWInRefIdeal.Facts) (hDGmlpIn : Cert.DGmlpIn.Facts) (hDGmlpInIdeal : Cert.DGmlpInIdeal.Facts) (hDGmlpInRefIdeal : Cert.DGmlpInRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hProj : Cert.Proj.Facts) (hProjIdeal : Cert.ProjIdeal.Facts) (hProjRefIdeal : Cert.ProjRefIdeal.Facts) (hProjO : Cert.ProjO.Facts) (hProjOIdeal : Cert.ProjOIdeal.Facts) (hProjORefIdeal : Cert.ProjORefIdeal.Facts) (hGmlpIn : Cert.GmlpIn.Facts) (hGmlpInIdeal : Cert.GmlpInIdeal.Facts) (hGmlpInRefIdeal : Cert.GmlpInRefIdeal.Facts) (hDNormOut : Cert.DNormOut.Facts) (hDNormOutIdeal : Cert.DNormOutIdeal.Facts) (hDNormOutRefIdeal : Cert.DNormOutRefIdeal.Facts) (hDNormIn : Cert.DNormIn.Facts) (hDNormInIdeal : Cert.DNormInIdeal.Facts) (hDNormInRefIdeal : Cert.DNormInRefIdeal.Facts) (hDNormTwo : Cert.DNormTwo.Facts) (hDNormTwoIdeal : Cert.DNormTwoIdeal.Facts) (hDNormTwoRefIdeal : Cert.DNormTwoRefIdeal.Facts) (hAdamWide : Cert.AdamWide.Facts) (hAdamWideIdeal : Cert.AdamWideIdeal.Facts) (hAdamWideRefIdeal : Cert.AdamWideRefIdeal.Facts) (hAdamIn : Cert.AdamIn.Facts) (hAdamInIdeal : Cert.AdamInIdeal.Facts) (hAdamInRefIdeal : Cert.AdamInRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DWDown (hDWDown := hDWDown)
    ∧ quiescent_DWDownIdeal (hDWDownIdeal := hDWDownIdeal)
    ∧ quiescent_DWDownRefIdeal (hDWDownRefIdeal := hDWDownRefIdeal)
    ∧ quiescent_DFfnMid (hDFfnMid := hDFfnMid)
    ∧ quiescent_DFfnMidIdeal (hDFfnMidIdeal := hDFfnMidIdeal)
    ∧ quiescent_DFfnMidRefIdeal (hDFfnMidRefIdeal := hDFfnMidRefIdeal)
    ∧ quiescent_DWUp (hDWUp := hDWUp)
    ∧ quiescent_DWUpIdeal (hDWUpIdeal := hDWUpIdeal)
    ∧ quiescent_DWUpRefIdeal (hDWUpRefIdeal := hDWUpRefIdeal)
    ∧ quiescent_DFfnIn (hDFfnIn := hDFfnIn)
    ∧ quiescent_DFfnInIdeal (hDFfnInIdeal := hDFfnInIdeal)
    ∧ quiescent_DFfnInRefIdeal (hDFfnInRefIdeal := hDFfnInRefIdeal)
    ∧ quiescent_DWide (hDWide := hDWide)
    ∧ quiescent_DWideIdeal (hDWideIdeal := hDWideIdeal)
    ∧ quiescent_DWideRefIdeal (hDWideRefIdeal := hDWideRefIdeal)
    ∧ quiescent_DWKv (hDWKv := hDWKv)
    ∧ quiescent_DWKvIdeal (hDWKvIdeal := hDWKvIdeal)
    ∧ quiescent_DWKvRefIdeal (hDWKvRefIdeal := hDWKvRefIdeal)
    ∧ quiescent_DAttnOut (hDAttnOut := hDAttnOut)
    ∧ quiescent_DAttnOutIdeal (hDAttnOutIdeal := hDAttnOutIdeal)
    ∧ quiescent_DAttnOutRefIdeal (hDAttnOutRefIdeal := hDAttnOutRefIdeal)
    ∧ quiescent_DQIn (hDQIn := hDQIn)
    ∧ quiescent_DQInIdeal (hDQInIdeal := hDQInIdeal)
    ∧ quiescent_DQInRefIdeal (hDQInRefIdeal := hDQInRefIdeal)
    ∧ quiescent_DKIn (hDKIn := hDKIn)
    ∧ quiescent_DKInIdeal (hDKInIdeal := hDKInIdeal)
    ∧ quiescent_DKInRefIdeal (hDKInRefIdeal := hDKInRefIdeal)
    ∧ quiescent_DWIn (hDWIn := hDWIn)
    ∧ quiescent_DWInIdeal (hDWInIdeal := hDWInIdeal)
    ∧ quiescent_DWInRefIdeal (hDWInRefIdeal := hDWInRefIdeal)
    ∧ quiescent_DGmlpIn (hDGmlpIn := hDGmlpIn)
    ∧ quiescent_DGmlpInIdeal (hDGmlpInIdeal := hDGmlpInIdeal)
    ∧ quiescent_DGmlpInRefIdeal (hDGmlpInRefIdeal := hDGmlpInRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_Proj (hProj := hProj)
    ∧ quiescent_ProjIdeal (hProjIdeal := hProjIdeal)
    ∧ quiescent_ProjRefIdeal (hProjRefIdeal := hProjRefIdeal)
    ∧ quiescent_ProjO (hProjO := hProjO)
    ∧ quiescent_ProjOIdeal (hProjOIdeal := hProjOIdeal)
    ∧ quiescent_ProjORefIdeal (hProjORefIdeal := hProjORefIdeal)
    ∧ quiescent_GmlpIn (hGmlpIn := hGmlpIn)
    ∧ quiescent_GmlpInIdeal (hGmlpInIdeal := hGmlpInIdeal)
    ∧ quiescent_GmlpInRefIdeal (hGmlpInRefIdeal := hGmlpInRefIdeal)
    ∧ quiescent_DNormOut (hDNormOut := hDNormOut)
    ∧ quiescent_DNormOutIdeal (hDNormOutIdeal := hDNormOutIdeal)
    ∧ quiescent_DNormOutRefIdeal (hDNormOutRefIdeal := hDNormOutRefIdeal)
    ∧ quiescent_DNormIn (hDNormIn := hDNormIn)
    ∧ quiescent_DNormInIdeal (hDNormInIdeal := hDNormInIdeal)
    ∧ quiescent_DNormInRefIdeal (hDNormInRefIdeal := hDNormInRefIdeal)
    ∧ quiescent_DNormTwo (hDNormTwo := hDNormTwo)
    ∧ quiescent_DNormTwoIdeal (hDNormTwoIdeal := hDNormTwoIdeal)
    ∧ quiescent_DNormTwoRefIdeal (hDNormTwoRefIdeal := hDNormTwoRefIdeal)
    ∧ quiescent_AdamWide (hAdamWide := hAdamWide)
    ∧ quiescent_AdamWideIdeal (hAdamWideIdeal := hAdamWideIdeal)
    ∧ quiescent_AdamWideRefIdeal (hAdamWideRefIdeal := hAdamWideRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DWDown_DWDownIdeal
    ∧ algebraic_DWDownIdeal_DWDownRefIdeal (hDWDownIdeal := hDWDownIdeal) (hDWDownRefIdeal := hDWDownRefIdeal)
    ∧ preserves_DFfnMid_DFfnMidIdeal
    ∧ algebraic_DFfnMidIdeal_DFfnMidRefIdeal (hDFfnMidIdeal := hDFfnMidIdeal) (hDFfnMidRefIdeal := hDFfnMidRefIdeal)
    ∧ preserves_DWUp_DWUpIdeal
    ∧ algebraic_DWUpIdeal_DWUpRefIdeal (hDWUpIdeal := hDWUpIdeal) (hDWUpRefIdeal := hDWUpRefIdeal)
    ∧ preserves_DFfnIn_DFfnInIdeal
    ∧ algebraic_DFfnInIdeal_DFfnInRefIdeal (hDFfnInIdeal := hDFfnInIdeal) (hDFfnInRefIdeal := hDFfnInRefIdeal)
    ∧ preserves_DWide_DWideIdeal
    ∧ algebraic_DWideIdeal_DWideRefIdeal (hDWideIdeal := hDWideIdeal) (hDWideRefIdeal := hDWideRefIdeal)
    ∧ preserves_DWKv_DWKvIdeal
    ∧ algebraic_DWKvIdeal_DWKvRefIdeal (hDWKvIdeal := hDWKvIdeal) (hDWKvRefIdeal := hDWKvRefIdeal)
    ∧ preserves_DAttnOut_DAttnOutIdeal
    ∧ algebraic_DAttnOutIdeal_DAttnOutRefIdeal (hDAttnOutIdeal := hDAttnOutIdeal) (hDAttnOutRefIdeal := hDAttnOutRefIdeal)
    ∧ preserves_DQIn_DQInIdeal
    ∧ algebraic_DQInIdeal_DQInRefIdeal (hDQInIdeal := hDQInIdeal) (hDQInRefIdeal := hDQInRefIdeal)
    ∧ preserves_DKIn_DKInIdeal
    ∧ algebraic_DKInIdeal_DKInRefIdeal (hDKInIdeal := hDKInIdeal) (hDKInRefIdeal := hDKInRefIdeal)
    ∧ preserves_DWIn_DWInIdeal
    ∧ algebraic_DWInIdeal_DWInRefIdeal (hDWInIdeal := hDWInIdeal) (hDWInRefIdeal := hDWInRefIdeal)
    ∧ preserves_DGmlpIn_DGmlpInIdeal
    ∧ algebraic_DGmlpInIdeal_DGmlpInRefIdeal (hDGmlpInIdeal := hDGmlpInIdeal) (hDGmlpInRefIdeal := hDGmlpInRefIdeal)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_Proj_ProjIdeal
    ∧ algebraic_ProjIdeal_ProjRefIdeal (hProjIdeal := hProjIdeal) (hProjRefIdeal := hProjRefIdeal)
    ∧ preserves_ProjO_ProjOIdeal
    ∧ algebraic_ProjOIdeal_ProjORefIdeal (hProjOIdeal := hProjOIdeal) (hProjORefIdeal := hProjORefIdeal)
    ∧ preserves_GmlpIn_GmlpInIdeal
    ∧ algebraic_GmlpInIdeal_GmlpInRefIdeal (hGmlpInIdeal := hGmlpInIdeal) (hGmlpInRefIdeal := hGmlpInRefIdeal)
    ∧ preserves_DNormOut_DNormOutIdeal
    ∧ algebraic_DNormOutIdeal_DNormOutRefIdeal (hDNormOutIdeal := hDNormOutIdeal) (hDNormOutRefIdeal := hDNormOutRefIdeal)
    ∧ preserves_DNormIn_DNormInIdeal
    ∧ algebraic_DNormInIdeal_DNormInRefIdeal (hDNormInIdeal := hDNormInIdeal) (hDNormInRefIdeal := hDNormInRefIdeal)
    ∧ preserves_DNormTwo_DNormTwoIdeal
    ∧ algebraic_DNormTwoIdeal_DNormTwoRefIdeal (hDNormTwoIdeal := hDNormTwoIdeal) (hDNormTwoRefIdeal := hDNormTwoRefIdeal)
    ∧ preserves_AdamWide_AdamWideIdeal
    ∧ algebraic_AdamWideIdeal_AdamWideRefIdeal (hAdamWideIdeal := hAdamWideIdeal) (hAdamWideRefIdeal := hAdamWideRefIdeal)
    ∧ preserves_AdamIn_AdamInIdeal
    ∧ algebraic_AdamInIdeal_AdamInRefIdeal (hAdamInIdeal := hAdamInIdeal) (hAdamInRefIdeal := hAdamInRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
-- ==== Pre_finite.lean ====
abbrev S4096x2048 : Shape := ⟨2, ![4096, 2048]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)

variable [Facts]

def fn {F : FTy → Type} [FloatOps F] (main_arg0 : FVec F S4096x2048 .bf16) (main_arg1 : FVec F S4096x2048 .bf16) (main_arg2 : FVec F S4096x2048 .bf16) (main_arg3 : FVec F S4096x2048 .bf16) : IVec S4096x2048 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_v4 : FVec F S4096x2048 .f32 := (extf .f32 · bitsLt_bf16_f32) main_arg1
  let main_v5 : FVec F S4096x2048 .f32 := Host.absf main_v4
  let main_cst_0 : FVec F S_ .f32 := constant S_ .f32 0x7F800000#32
  let main_v6 : FVec F S4096x2048 .f32 := broadcastInDim S4096x2048 ![] bcast_S_S4096x2048 main_cst_0
  let main_v7 : IVec S4096x2048 1 := cmpf .olt main_v5 main_v6
  let main_v8 : IVec S4096x2048 1 := andi main_v3 main_v7
  let main_v9 : FVec F S4096x2048 .f32 := (extf .f32 · bitsLt_bf16_f32) main_arg2
  let main_v10 : FVec F S4096x2048 .f32 := Host.absf main_v9
  let main_cst_1 : FVec F S_ .f32 := constant S_ .f32 0x7F800000#32
  let main_v11 : FVec F S4096x2048 .f32 := broadcastInDim S4096x2048 ![] bcast_S_S4096x2048 main_cst_1
  let main_v12 : IVec S4096x2048 1 := cmpf .olt main_v10 main_v11
  let main_v13 : IVec S4096x2048 1 := andi main_v8 main_v12
  let main_v14 : FVec F S4096x2048 .f32 := (extf .f32 · bitsLt_bf16_f32) main_arg3
  let main_v15 : FVec F S4096x2048 .f32 := Host.absf main_v14
  let main_cst_2 : FVec F S_ .f32 := constant S_ .f32 0x7F800000#32
  let main_v16 : FVec F S4096x2048 .f32 := broadcastInDim S4096x2048 ![] bcast_S_S4096x2048 main_cst_2
  let main_v17 : IVec S4096x2048 1 := cmpf .olt main_v15 main_v16
  let main_v18 : IVec S4096x2048 1 := andi main_v13 main_v17
  main_v18
-- ==== Kernel.lean ====
abbrev S4096x2048 : Shape := ⟨2, ![4096, 2048]⟩
abbrev S4096x16x128 : Shape := ⟨3, ![4096, 16, 128]⟩
abbrev S16x4096x4096 : Shape := ⟨3, ![16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x4096 : Shape := ⟨2, ![16, 4096]⟩
abbrev S4096x16 : Shape := ⟨2, ![4096, 16]⟩
abbrev S1024x128 : Shape := ⟨2, ![1024, 128]⟩
abbrev S4096x128 : Shape := ⟨2, ![4096, 128]⟩
abbrev S1024x1 : Shape := ⟨2, ![1024, 1]⟩
abbrev S256x256 : Shape := ⟨2, ![256, 256]⟩
abbrev S256x128 : Shape := ⟨2, ![256, 128]⟩
abbrev S1024x256 : Shape := ⟨2, ![1024, 256]⟩
abbrev S2048x256 : Shape := ⟨2, ![2048, 256]⟩
abbrev S1024 : Shape := ⟨1, ![1024]⟩
abbrev S768x128 : Shape := ⟨2, ![768, 128]⟩
abbrev S768x256 : Shape := ⟨2, ![768, 256]⟩
abbrev S768x1 : Shape := ⟨2, ![768, 1]⟩
abbrev S1536x256 : Shape := ⟨2, ![1536, 256]⟩
abbrev S768 : Shape := ⟨1, ![768]⟩
abbrev S512x128 : Shape := ⟨2, ![512, 128]⟩
abbrev S512x256 : Shape := ⟨2, ![512, 256]⟩
abbrev S512x1 : Shape := ⟨2, ![512, 1]⟩
abbrev S512 : Shape := ⟨1, ![512]⟩
abbrev S256x1 : Shape := ⟨2, ![256, 1]⟩
abbrev S256 : Shape := ⟨1, ![256]⟩

abbrev nBuf : Space → Nat
  | .hbm => 49
  | .vmem => 19
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .bf16⟩
  | .hbm, ⟨3, _⟩ => ⟨S4096x2048, .bf16⟩
  | .hbm, ⟨4, _⟩ => ⟨S4096x2048, .f32⟩
  | .hbm, ⟨5, _⟩ => ⟨S4096x16x128, .f32⟩
  | .hbm, ⟨6, _⟩ => ⟨S4096x2048, .f32⟩
  | .hbm, ⟨7, _⟩ => ⟨S4096x16x128, .f32⟩
  | .hbm, ⟨8, _⟩ => ⟨S16x4096x4096, .f32⟩
  | .hbm, ⟨9, _⟩ => ⟨S_, .f32⟩
  | .hbm, ⟨10, _⟩ => ⟨S16x4096x4096, .f32⟩
  | .hbm, ⟨11, _⟩ => ⟨S16x4096x4096, .f32⟩
  | .hbm, ⟨12, _⟩ => ⟨S4096, .i32⟩
  | .hbm, ⟨13, _⟩ => ⟨S1x4096, .i32⟩
  | .hbm, ⟨14, _⟩ => ⟨S4096, .i32⟩
  | .hbm, ⟨15, _⟩ => ⟨S4096x1, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S16x4096x4096, .f32⟩
  | .hbm, ⟨20, _⟩ => ⟨S16x4096x4096, .f32⟩
  | .hbm, ⟨21, _⟩ => ⟨S_, .f32⟩
  | .hbm, ⟨22, _⟩ => ⟨S16x4096x4096, .f32⟩
  | .hbm, ⟨23, _⟩ => ⟨S16x4096x4096, .f32⟩
  | .hbm, ⟨24, _⟩ => ⟨S16x4096x4096, .f32⟩
  | .hbm, ⟨25, _⟩ => ⟨S16x4096x4096, .f32⟩
  | .hbm, ⟨26, _⟩ => ⟨S16x4096x4096, .i1⟩
  | .hbm, ⟨27, _⟩ => ⟨S16x4096x4096, .f32⟩
  | .hbm, ⟨28, _⟩ => ⟨S16x4096x4096, .f32⟩
  | .hbm, ⟨29, _⟩ => ⟨S16x4096x4096, .f32⟩
  | .hbm, ⟨30, _⟩ => ⟨S16x4096x4096, .f32⟩
  | .hbm, ⟨31, _⟩ => ⟨S16x4096x4096, .f32⟩
  | .hbm, ⟨32, _⟩ => ⟨S16x4096x4096, .f32⟩
  | .hbm, ⟨33, _⟩ => ⟨S16x4096x4096, .f32⟩
  | .hbm, ⟨34, _⟩ => ⟨S16x4096x4096, .f32⟩
  | .hbm, ⟨35, _⟩ => ⟨S16x4096x4096, .f32⟩
  | .hbm, ⟨36, _⟩ => ⟨S_, .f32⟩
  | .hbm, ⟨37, _⟩ => ⟨S_, .f32⟩
  | .hbm, ⟨38, _⟩ => ⟨S16x4096x4096, .i1⟩
  | .hbm, ⟨39, _⟩ => ⟨S16x4096x4096, .f32⟩
  | .hbm, ⟨40, _⟩ => ⟨S16x4096x4096, .f32⟩
  | .hbm, ⟨41, _⟩ => ⟨S_, .f32⟩
  | .hbm, ⟨42, _⟩ => ⟨S16x4096, .f32⟩
  | .hbm, ⟨43, _⟩ => ⟨S4096x16, .f32⟩
  | .hbm, ⟨44, _⟩ => ⟨S4096x16x128, .f32⟩
  | .hbm, ⟨45, _⟩ => ⟨S4096x2048, .f32⟩
  | .hbm, ⟨46, _⟩ => ⟨S4096x2048, .bf16⟩
  | .hbm, ⟨47, _⟩ => ⟨S4096x2048, .f32⟩
  | .hbm, ⟨48, _⟩ => ⟨S4096x2048, .f32⟩
  | .local _ .vmem, ⟨0, _⟩ => ⟨S1024x128, .bf16⟩
  | .local _ .vmem, ⟨1, _⟩ => ⟨S1024x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .f32⟩
  | .local _ .vmem, ⟨9, _⟩ => ⟨S1024x128, .f32⟩
  | .local _ .vmem, ⟨10, _⟩ => ⟨S1024x128, .bf16⟩
  | .local _ .vmem, ⟨11, _⟩ => ⟨S1024x128, .bf16⟩
  | .local _ .vmem, ⟨12, _⟩ => ⟨S4096x128, .f32⟩
  | .local _ .vmem, ⟨13, _⟩ => ⟨S4096x128, .f32⟩
  | .local _ .vmem, ⟨14, _⟩ => ⟨S4096x128, .f32⟩
  | .local _ .vmem, ⟨15, _⟩ => ⟨S4096x128, .f32⟩
  | .local _ .vmem, ⟨16, _⟩ => ⟨S1024x128, .f32⟩
  | .local _ .vmem, ⟨17, _⟩ => ⟨S1024x1, .f32⟩
  | .local _ .vmem, ⟨18, _⟩ => ⟨S1024x1, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v15 : Ref sig .tc := ⟨.hbm, 35, rfl⟩
abbrev main_cst_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v16 : Ref sig .tc := ⟨.hbm, 40, rfl⟩
abbrev main_cst_1 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21_0 : Ref sig .tc := ⟨.hbm, 46, rfl⟩
abbrev main_v21_1 : Ref sig .tc := ⟨.hbm, 47, rfl⟩
abbrev main_v21_2 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 4], ![false, false]⟩

@[reducible] def k0_t1_loop (i : grid0.Coords) : Scf.Loop 32 :=
  let c0_i32_23 : BitVec 32 := 0#32
  let c4_i32 : BitVec 32 := 4#32
  let arg1 : BitVec 32 := BitVec.ofNat 32 (i 1).val
  let v31 : BitVec 32 := Scalar.muli c4_i32 arg1
  let c0_i32_17 : BitVec 32 := 0#32
  let v33 : BitVec 1 := Scalar.cmpi .sgt v31 c0_i32_17
  let v34 : BitVec 32 := Scalar.extui v33
  let c0_i32_18 : BitVec 32 := 0#32
  let v35 : BitVec 1 := Scalar.cmpi .slt v31 c0_i32_18
  let v36 : BitVec 32 := Scalar.extui v35
  let v37 : BitVec 32 := Scalar.subi v34 v36
  let c4_i32_16 : BitVec 32 := 4#32
  let c0_i32_19 : BitVec 32 := 0#32
  let v38 : BitVec 1 := Scalar.cmpi .sgt c4_i32_16 c0_i32_19
  let v39 : BitVec 32 := Scalar.extui v38
  let c0_i32_20 : BitVec 32 := 0#32
  let v40 : BitVec 1 := Scalar.cmpi .slt c4_i32_16 c0_i32_20
  let v41 : BitVec 32 := Scalar.extui v40
  let v42 : BitVec 32 := Scalar.subi v39 v41
  let v43 : BitVec 1 := Scalar.cmpi .ne v37 v42
  let v44 : BitVec 32 := Scalar.remsi v31 c4_i32_16
  let c0_i32_21 : BitVec 32 := 0#32
  let v45 : BitVec 1 := Scalar.cmpi .ne v44 c0_i32_21
  let v46 : BitVec 1 := Scalar.andi v43 v45
  let v32 : BitVec 32 := Scalar.divsi v31 c4_i32_16
  let c1_i32 : BitVec 32 := 1#32
  let v47 : BitVec 32 := Scalar.subi v32 c1_i32
  let v48 : BitVec 32 := Scalar.select v46 v47 v32
  let v49 : BitVec 32 := Scalar.subi v48 c0_i32_23
  let c1_i32_24 : BitVec 32 := 1#32
  let v51 : BitVec 32 := Scalar.divsi v49 c1_i32_24
  let v52 : BitVec 32 := Scalar.muli v51 c1_i32_24
  let v53 : BitVec 32 := Scalar.addi c0_i32_23 v52
  let c1_i32_25 : BitVec 32 := 1#32
  ⟨c0_i32_23, v53, c1_i32_25⟩
def k0_mult1 (i : grid0.Coords) (k0_t1 : Fin (k0_t1_loop i).trips) : BitVec 32 :=
  let c4_i32_222 : BitVec 32 := 4#32
  let c0_i32_23 : BitVec 32 := 0#32
  let c1_i32_25 : BitVec 32 := 1#32
  let arg13 : BitVec 32 := Scf.iv c0_i32_23 c1_i32_25 k0_t1
  let v507 : BitVec 32 := Scalar.muli c4_i32_222 arg13
  let c0_i32_223 : BitVec 32 := 0#32
  let v508 : BitVec 32 := Scalar.addi v507 c0_i32_223
  let c256_i32_224 : BitVec 32 := 256#32
  let v509 : BitVec 32 := Scalar.muli v508 c256_i32_224
  v509
def k0_off1 (i : grid0.Coords) (k0_t1 : Fin (k0_t1_loop i).trips) (c0_i32_223 : BitVec 32) : Fin 2 → Nat :=
  let c4_i32_222 : BitVec 32 := 4#32
  let c0_i32_23 : BitVec 32 := 0#32
  let c1_i32_25 : BitVec 32 := 1#32
  let arg13 : BitVec 32 := Scf.iv c0_i32_23 c1_i32_25 k0_t1
  let v507 : BitVec 32 := Scalar.muli c4_i32_222 arg13
  let v508 : BitVec 32 := Scalar.addi v507 c0_i32_223
  let c256_i32_224 : BitVec 32 := 256#32
  let v509 : BitVec 32 := Scalar.muli v508 c256_i32_224
  let v510 : BitVec 32 := v509
  let v511 : Index := Scalar.indexCast v510
  let c0_225 : Index := 0#32
  ![v511.toNat, 0]
def k0_mult2 (i : grid0.Coords) (k0_t1 : Fin (k0_t1_loop i).trips) : BitVec 32 :=
  let c4_i32_266 : BitVec 32 := 4#32
  let c0_i32_23 : BitVec 32 := 0#32
  let c1_i32_25 : BitVec 32 := 1#32
  let arg13 : BitVec 32 := Scf.iv c0_i32_23 c1_i32_25 k0_t1
  let v602 : BitVec 32 := Scalar.muli c4_i32_266 arg13
  let c1_i32_267 : BitVec 32 := 1#32
  let v603 : BitVec 32 := Scalar.addi v602 c1_i32_267
  let c256_i32_268 : BitVec 32 := 256#32
  let v604 : BitVec 32 := Scalar.muli v603 c256_i32_268
  v604
def k0_mult3 (i : grid0.Coords) (k0_t1 : Fin (k0_t1_loop i).trips) : BitVec 32 :=
  let c4_i32_310 : BitVec 32 := 4#32
  let c0_i32_23 : BitVec 32 := 0#32
  let c1_i32_25 : BitVec 32 := 1#32
  let arg13 : BitVec 32 := Scf.iv c0_i32_23 c1_i32_25 k0_t1
  let v697 : BitVec 32 := Scalar.muli c4_i32_310 arg13
  let c2_i32_311 : BitVec 32 := 2#32
  let v698 : BitVec 32 := Scalar.addi v697 c2_i32_311
  let c256_i32_312 : BitVec 32 := 256#32
  let v699 : BitVec 32 := Scalar.muli v698 c256_i32_312
  v699
def k0_mult4 (i : grid0.Coords) (k0_t1 : Fin (k0_t1_loop i).trips) : BitVec 32 :=
  let c4_i32_354 : BitVec 32 := 4#32
  let c0_i32_23 : BitVec 32 := 0#32
  let c1_i32_25 : BitVec 32 := 1#32
  let arg13 : BitVec 32 := Scf.iv c0_i32_23 c1_i32_25 k0_t1
  let v792 : BitVec 32 := Scalar.muli c4_i32_354 arg13
  let c3_i32_355 : BitVec 32 := 3#32
  let v793 : BitVec 32 := Scalar.addi v792 c3_i32_355
  let c256_i32_356 : BitVec 32 := 256#32
  let v794 : BitVec 32 := Scalar.muli v793 c256_i32_356
  v794
@[reducible] def k0_t2_loop (i : grid0.Coords) : Scf.Loop 32 :=
  let c0_i32_23 : BitVec 32 := 0#32
  let c4_i32 : BitVec 32 := 4#32
  let arg1 : BitVec 32 := BitVec.ofNat 32 (i 1).val
  let v31 : BitVec 32 := Scalar.muli c4_i32 arg1
  let c0_i32_17 : BitVec 32 := 0#32
  let v33 : BitVec 1 := Scalar.cmpi .sgt v31 c0_i32_17
  let v34 : BitVec 32 := Scalar.extui v33
  let c0_i32_18 : BitVec 32 := 0#32
  let v35 : BitVec 1 := Scalar.cmpi .slt v31 c0_i32_18
  let v36 : BitVec 32 := Scalar.extui v35
  let v37 : BitVec 32 := Scalar.subi v34 v36
  let c4_i32_16 : BitVec 32 := 4#32
  let c0_i32_19 : BitVec 32 := 0#32
  let v38 : BitVec 1 := Scalar.cmpi .sgt c4_i32_16 c0_i32_19
  let v39 : BitVec 32 := Scalar.extui v38
  let c0_i32_20 : BitVec 32 := 0#32
  let v40 : BitVec 1 := Scalar.cmpi .slt c4_i32_16 c0_i32_20
  let v41 : BitVec 32 := Scalar.extui v40
  let v42 : BitVec 32 := Scalar.subi v39 v41
  let v43 : BitVec 1 := Scalar.cmpi .ne v37 v42
  let v44 : BitVec 32 := Scalar.remsi v31 c4_i32_16
  let c0_i32_21 : BitVec 32 := 0#32
  let v45 : BitVec 1 := Scalar.cmpi .ne v44 c0_i32_21
  let v46 : BitVec 1 := Scalar.andi v43 v45
  let v32 : BitVec 32 := Scalar.divsi v31 c4_i32_16
  let c1_i32 : BitVec 32 := 1#32
  let v47 : BitVec 32 := Scalar.subi v32 c1_i32
  let v48 : BitVec 32 := Scalar.select v46 v47 v32
  let v49 : BitVec 32 := Scalar.subi v48 c0_i32_23
  let c1_i32_24 : BitVec 32 := 1#32
  let v51 : BitVec 32 := Scalar.divsi v49 c1_i32_24
  let v52 : BitVec 32 := Scalar.muli v51 c1_i32_24
  let v53 : BitVec 32 := Scalar.addi c0_i32_23 v52
  let v50 : BitVec 32 := Scalar.addi c0_i32_23 v49
  let c1_i32_26 : BitVec 32 := 1#32
  ⟨v53, v50, c1_i32_26⟩
def k0_mult5 (i : grid0.Coords) (k0_t2 : Fin (k0_t2_loop i).trips) : BitVec 32 :=
  let c4_i32_222 : BitVec 32 := 4#32
  let c0_i32_23 : BitVec 32 := 0#32
  let c4_i32 : BitVec 32 := 4#32
  let arg1 : BitVec 32 := BitVec.ofNat 32 (i 1).val
  let v31 : BitVec 32 := Scalar.muli c4_i32 arg1
  let c0_i32_17 : BitVec 32 := 0#32
  let v33 : BitVec 1 := Scalar.cmpi .sgt v31 c0_i32_17
  let v34 : BitVec 32 := Scalar.extui v33
  let c0_i32_18 : BitVec 32 := 0#32
  let v35 : BitVec 1 := Scalar.cmpi .slt v31 c0_i32_18
  let v36 : BitVec 32 := Scalar.extui v35
  let v37 : BitVec 32 := Scalar.subi v34 v36
  let c4_i32_16 : BitVec 32 := 4#32
  let c0_i32_19 : BitVec 32 := 0#32
  let v38 : BitVec 1 := Scalar.cmpi .sgt c4_i32_16 c0_i32_19
  let v39 : BitVec 32 := Scalar.extui v38
  let c0_i32_20 : BitVec 32 := 0#32
  let v40 : BitVec 1 := Scalar.cmpi .slt c4_i32_16 c0_i32_20
  let v41 : BitVec 32 := Scalar.extui v40
  let v42 : BitVec 32 := Scalar.subi v39 v41
  let v43 : BitVec 1 := Scalar.cmpi .ne v37 v42
  let v44 : BitVec 32 := Scalar.remsi v31 c4_i32_16
  let c0_i32_21 : BitVec 32 := 0#32
  let v45 : BitVec 1 := Scalar.cmpi .ne v44 c0_i32_21
  let v46 : BitVec 1 := Scalar.andi v43 v45
  let v32 : BitVec 32 := Scalar.divsi v31 c4_i32_16
  let c1_i32 : BitVec 32 := 1#32
  let v47 : BitVec 32 := Scalar.subi v32 c1_i32
  let v48 : BitVec 32 := Scalar.select v46 v47 v32
  let v49 : BitVec 32 := Scalar.subi v48 c0_i32_23
  let c1_i32_24 : BitVec 32 := 1#32
  let v51 : BitVec 32 := Scalar.divsi v49 c1_i32_24
  let v52 : BitVec 32 := Scalar.muli v51 c1_i32_24
  let v53 : BitVec 32 := Scalar.addi c0_i32_23 v52
  let c1_i32_26 : BitVec 32 := 1#32
  let arg13 : BitVec 32 := Scf.iv v53 c1_i32_26 k0_t2
  let v507 : BitVec 32 := Scalar.muli c4_i32_222 arg13
  let c0_i32_223 : BitVec 32 := 0#32
  let v508 : BitVec 32 := Scalar.addi v507 c0_i32_223
  let c256_i32_224 : BitVec 32 := 256#32
  let v509 : BitVec 32 := Scalar.muli v508 c256_i32_224
  v509
def k0_off2 (i : grid0.Coords) (k0_t2 : Fin (k0_t2_loop i).trips) (c0_i32_223 : BitVec 32) : Fin 2 → Nat :=
  let c4_i32_222 : BitVec 32 := 4#32
  let c0_i32_23 : BitVec 32 := 0#32
  let c4_i32 : BitVec 32 := 4#32
  let arg1 : BitVec 32 := BitVec.ofNat 32 (i 1).val
  let v31 : BitVec 32 := Scalar.muli c4_i32 arg1
  let c0_i32_17 : BitVec 32 := 0#32
  let v33 : BitVec 1 := Scalar.cmpi .sgt v31 c0_i32_17
  let v34 : BitVec 32 := Scalar.extui v33
  let c0_i32_18 : BitVec 32 := 0#32
  let v35 : BitVec 1 := Scalar.cmpi .slt v31 c0_i32_18
  let v36 : BitVec 32 := Scalar.extui v35
  let v37 : BitVec 32 := Scalar.subi v34 v36
  let c4_i32_16 : BitVec 32 := 4#32
  let c0_i32_19 : BitVec 32 := 0#32
  let v38 : BitVec 1 := Scalar.cmpi .sgt c4_i32_16 c0_i32_19
  let v39 : BitVec 32 := Scalar.extui v38
  let c0_i32_20 : BitVec 32 := 0#32
  let v40 : BitVec 1 := Scalar.cmpi .slt c4_i32_16 c0_i32_20
  let v41 : BitVec 32 := Scalar.extui v40
  let v42 : BitVec 32 := Scalar.subi v39 v41
  let v43 : BitVec 1 := Scalar.cmpi .ne v37 v42
  let v44 : BitVec 32 := Scalar.remsi v31 c4_i32_16
  let c0_i32_21 : BitVec 32 := 0#32
  let v45 : BitVec 1 := Scalar.cmpi .ne v44 c0_i32_21
  let v46 : BitVec 1 := Scalar.andi v43 v45
  let v32 : BitVec 32 := Scalar.divsi v31 c4_i32_16
  let c1_i32 : BitVec 32 := 1#32
  let v47 : BitVec 32 := Scalar.subi v32 c1_i32
  let v48 : BitVec 32 := Scalar.select v46 v47 v32
  let v49 : BitVec 32 := Scalar.subi v48 c0_i32_23
  let c1_i32_24 : BitVec 32 := 1#32
  let v51 : BitVec 32 := Scalar.divsi v49 c1_i32_24
  let v52 : BitVec 32 := Scalar.muli v51 c1_i32_24
  let v53 : BitVec 32 := Scalar.addi c0_i32_23 v52
  let c1_i32_26 : BitVec 32 := 1#32
  let arg13 : BitVec 32 := Scf.iv v53 c1_i32_26 k0_t2
  let v507 : BitVec 32 := Scalar.muli c4_i32_222 arg13
  let v508 : BitVec 32 := Scalar.addi v507 c0_i32_223
  let c256_i32_224 : BitVec 32 := 256#32
  let v509 : BitVec 32 := Scalar.muli v508 c256_i32_224
  let v510 : BitVec 32 := v509
  let v511 : Index := Scalar.indexCast v510
  let c0_225 : Index := 0#32
  ![v511.toNat, 0]
def k0_mult6 (i : grid0.Coords) (k0_t2 : Fin (k0_t2_loop i).trips) : BitVec 32 :=
  let c4_i32_266 : BitVec 32 := 4#32
  let c0_i32_23 : BitVec 32 := 0#32
  let c4_i32 : BitVec 32 := 4#32
  let arg1 : BitVec 32 := BitVec.ofNat 32 (i 1).val
  let v31 : BitVec 32 := Scalar.muli c4_i32 arg1
  let c0_i32_17 : BitVec 32 := 0#32
  let v33 : BitVec 1 := Scalar.cmpi .sgt v31 c0_i32_17
  let v34 : BitVec 32 := Scalar.extui v33
  let c0_i32_18 : BitVec 32 := 0#32
  let v35 : BitVec 1 := Scalar.cmpi .slt v31 c0_i32_18
  let v36 : BitVec 32 := Scalar.extui v35
  let v37 : BitVec 32 := Scalar.subi v34 v36
  let c4_i32_16 : BitVec 32 := 4#32
  let c0_i32_19 : BitVec 32 := 0#32
  let v38 : BitVec 1 := Scalar.cmpi .sgt c4_i32_16 c0_i32_19
  let v39 : BitVec 32 := Scalar.extui v38
  let c0_i32_20 : BitVec 32 := 0#32
  let v40 : BitVec 1 := Scalar.cmpi .slt c4_i32_16 c0_i32_20
  let v41 : BitVec 32 := Scalar.extui v40
  let v42 : BitVec 32 := Scalar.subi v39 v41
  let v43 : BitVec 1 := Scalar.cmpi .ne v37 v42
  let v44 : BitVec 32 := Scalar.remsi v31 c4_i32_16
  let c0_i32_21 : BitVec 32 := 0#32
  let v45 : BitVec 1 := Scalar.cmpi .ne v44 c0_i32_21
  let v46 : BitVec 1 := Scalar.andi v43 v45
  let v32 : BitVec 32 := Scalar.divsi v31 c4_i32_16
  let c1_i32 : BitVec 32 := 1#32
  let v47 : BitVec 32 := Scalar.subi v32 c1_i32
  let v48 : BitVec 32 := Scalar.select v46 v47 v32
  let v49 : BitVec 32 := Scalar.subi v48 c0_i32_23
  let c1_i32_24 : BitVec 32 := 1#32
  let v51 : BitVec 32 := Scalar.divsi v49 c1_i32_24
  let v52 : BitVec 32 := Scalar.muli v51 c1_i32_24
  let v53 : BitVec 32 := Scalar.addi c0_i32_23 v52
  let c1_i32_26 : BitVec 32 := 1#32
  let arg13 : BitVec 32 := Scf.iv v53 c1_i32_26 k0_t2
  let v602 : BitVec 32 := Scalar.muli c4_i32_266 arg13
  let c1_i32_267 : BitVec 32 := 1#32
  let v603 : BitVec 32 := Scalar.addi v602 c1_i32_267
  let c256_i32_268 : BitVec 32 := 256#32
  let v604 : BitVec 32 := Scalar.muli v603 c256_i32_268
  v604
def k0_mult7 (i : grid0.Coords) (k0_t2 : Fin (k0_t2_loop i).trips) : BitVec 32 :=
  let c4_i32_310 : BitVec 32 := 4#32
  let c0_i32_23 : BitVec 32 := 0#32
  let c4_i32 : BitVec 32 := 4#32
  let arg1 : BitVec 32 := BitVec.ofNat 32 (i 1).val
  let v31 : BitVec 32 := Scalar.muli c4_i32 arg1
  let c0_i32_17 : BitVec 32 := 0#32
  let v33 : BitVec 1 := Scalar.cmpi .sgt v31 c0_i32_17
  let v34 : BitVec 32 := Scalar.extui v33
  let c0_i32_18 : BitVec 32 := 0#32
  let v35 : BitVec 1 := Scalar.cmpi .slt v31 c0_i32_18
  let v36 : BitVec 32 := Scalar.extui v35
  let v37 : BitVec 32 := Scalar.subi v34 v36
  let c4_i32_16 : BitVec 32 := 4#32
  let c0_i32_19 : BitVec 32 := 0#32
  let v38 : BitVec 1 := Scalar.cmpi .sgt c4_i32_16 c0_i32_19
  let v39 : BitVec 32 := Scalar.extui v38
  let c0_i32_20 : BitVec 32 := 0#32
  let v40 : BitVec 1 := Scalar.cmpi .slt c4_i32_16 c0_i32_20
  let v41 : BitVec 32 := Scalar.extui v40
  let v42 : BitVec 32 := Scalar.subi v39 v41
  let v43 : BitVec 1 := Scalar.cmpi .ne v37 v42
  let v44 : BitVec 32 := Scalar.remsi v31 c4_i32_16
  let c0_i32_21 : BitVec 32 := 0#32
  let v45 : BitVec 1 := Scalar.cmpi .ne v44 c0_i32_21
  let v46 : BitVec 1 := Scalar.andi v43 v45
  let v32 : BitVec 32 := Scalar.divsi v31 c4_i32_16
  let c1_i32 : BitVec 32 := 1#32
  let v47 : BitVec 32 := Scalar.subi v32 c1_i32
  let v48 : BitVec 32 := Scalar.select v46 v47 v32
  let v49 : BitVec 32 := Scalar.subi v48 c0_i32_23
  let c1_i32_24 : BitVec 32 := 1#32
  let v51 : BitVec 32 := Scalar.divsi v49 c1_i32_24
  let v52 : BitVec 32 := Scalar.muli v51 c1_i32_24
  let v53 : BitVec 32 := Scalar.addi c0_i32_23 v52
  let c1_i32_26 : BitVec 32 := 1#32
  let arg13 : BitVec 32 := Scf.iv v53 c1_i32_26 k0_t2
  let v697 : BitVec 32 := Scalar.muli c4_i32_310 arg13
  let c2_i32_311 : BitVec 32 := 2#32
  let v698 : BitVec 32 := Scalar.addi v697 c2_i32_311
  let c256_i32_312 : BitVec 32 := 256#32
  let v699 : BitVec 32 := Scalar.muli v698 c256_i32_312
  v699
def k0_mult8 (i : grid0.Coords) (k0_t2 : Fin (k0_t2_loop i).trips) : BitVec 32 :=
  let c4_i32_354 : BitVec 32 := 4#32
  let c0_i32_23 : BitVec 32 := 0#32
  let c4_i32 : BitVec 32 := 4#32
  let arg1 : BitVec 32 := BitVec.ofNat 32 (i 1).val
  let v31 : BitVec 32 := Scalar.muli c4_i32 arg1
  let c0_i32_17 : BitVec 32 := 0#32
  let v33 : BitVec 1 := Scalar.cmpi .sgt v31 c0_i32_17
  let v34 : BitVec 32 := Scalar.extui v33
  let c0_i32_18 : BitVec 32 := 0#32
  let v35 : BitVec 1 := Scalar.cmpi .slt v31 c0_i32_18
  let v36 : BitVec 32 := Scalar.extui v35
  let v37 : BitVec 32 := Scalar.subi v34 v36
  let c4_i32_16 : BitVec 32 := 4#32
  let c0_i32_19 : BitVec 32 := 0#32
  let v38 : BitVec 1 := Scalar.cmpi .sgt c4_i32_16 c0_i32_19
  let v39 : BitVec 32 := Scalar.extui v38
  let c0_i32_20 : BitVec 32 := 0#32
  let v40 : BitVec 1 := Scalar.cmpi .slt c4_i32_16 c0_i32_20
  let v41 : BitVec 32 := Scalar.extui v40
  let v42 : BitVec 32 := Scalar.subi v39 v41
  let v43 : BitVec 1 := Scalar.cmpi .ne v37 v42
  let v44 : BitVec 32 := Scalar.remsi v31 c4_i32_16
  let c0_i32_21 : BitVec 32 := 0#32
  let v45 : BitVec 1 := Scalar.cmpi .ne v44 c0_i32_21
  let v46 : BitVec 1 := Scalar.andi v43 v45
  let v32 : BitVec 32 := Scalar.divsi v31 c4_i32_16
  let c1_i32 : BitVec 32 := 1#32
  let v47 : BitVec 32 := Scalar.subi v32 c1_i32
  let v48 : BitVec 32 := Scalar.select v46 v47 v32
  let v49 : BitVec 32 := Scalar.subi v48 c0_i32_23
  let c1_i32_24 : BitVec 32 := 1#32
  let v51 : BitVec 32 := Scalar.divsi v49 c1_i32_24
  let v52 : BitVec 32 := Scalar.muli v51 c1_i32_24
  let v53 : BitVec 32 := Scalar.addi c0_i32_23 v52
  let c1_i32_26 : BitVec 32 := 1#32
  let arg13 : BitVec 32 := Scf.iv v53 c1_i32_26 k0_t2
  let v792 : BitVec 32 := Scalar.muli c4_i32_354 arg13
  let c3_i32_355 : BitVec 32 := 3#32
  let v793 : BitVec 32 := Scalar.addi v792 c3_i32_355
  let c256_i32_356 : BitVec 32 := 256#32
  let v794 : BitVec 32 := Scalar.muli v793 c256_i32_356
  v794
def k0_mult9 (i : grid0.Coords) : BitVec 32 :=
  let c4_i32_27 : BitVec 32 := 4#32
  let arg1 : BitVec 32 := BitVec.ofNat 32 (i 1).val
  let v54 : BitVec 32 := Scalar.muli c4_i32_27 arg1
  let c0_i32_28 : BitVec 32 := 0#32
  let v55 : BitVec 32 := Scalar.addi v54 c0_i32_28
  let c256_i32 : BitVec 32 := 256#32
  let v56 : BitVec 32 := Scalar.muli v55 c256_i32
  v56
def k0_off3 (i : grid0.Coords) (c0_i32_28 : BitVec 32) : Fin 2 → Nat :=
  let c4_i32_27 : BitVec 32 := 4#32
  let arg1 : BitVec 32 := BitVec.ofNat 32 (i 1).val
  let v54 : BitVec 32 := Scalar.muli c4_i32_27 arg1
  let v55 : BitVec 32 := Scalar.addi v54 c0_i32_28
  let c256_i32 : BitVec 32 := 256#32
  let v56 : BitVec 32 := Scalar.muli v55 c256_i32
  let v57 : BitVec 32 := v56
  let v58 : Index := Scalar.indexCast v57
  let c0_29 : Index := 0#32
  ![v58.toNat, 0]
def k0_mult10 (i : grid0.Coords) : BitVec 32 :=
  let c4_i32_75 : BitVec 32 := 4#32
  let arg1 : BitVec 32 := BitVec.ofNat 32 (i 1).val
  let v165 : BitVec 32 := Scalar.muli c4_i32_75 arg1
  let c1_i32_76 : BitVec 32 := 1#32
  let v166 : BitVec 32 := Scalar.addi v165 c1_i32_76
  let c256_i32_77 : BitVec 32 := 256#32
  let v167 : BitVec 32 := Scalar.muli v166 c256_i32_77
  v167
def k0_mult11 (i : grid0.Coords) : BitVec 32 :=
  let c4_i32_124 : BitVec 32 := 4#32
  let arg1 : BitVec 32 := BitVec.ofNat 32 (i 1).val
  let v278 : BitVec 32 := Scalar.muli c4_i32_124 arg1
  let c2_i32 : BitVec 32 := 2#32
  let v279 : BitVec 32 := Scalar.addi v278 c2_i32
  let c256_i32_125 : BitVec 32 := 256#32
  let v280 : BitVec 32 := Scalar.muli v279 c256_i32_125
  v280
def k0_mult12 (i : grid0.Coords) : BitVec 32 :=
  let c4_i32_171 : BitVec 32 := 4#32
  let arg1 : BitVec 32 := BitVec.ofNat 32 (i 1).val
  let v391 : BitVec 32 := Scalar.muli c4_i32_171 arg1
  let c3_i32 : BitVec 32 := 3#32
  let v392 : BitVec 32 := Scalar.addi v391 c3_i32
  let c256_i32_172 : BitVec 32 := 256#32
  let v393 : BitVec 32 := Scalar.muli v392 c256_i32_172
  v393
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S4096x2048 : Shape := ⟨2, ![4096, 2048]⟩
abbrev S4096x16x128 : Shape := ⟨3, ![4096, 16, 128]⟩
abbrev S16x4096x4096 : Shape := ⟨3, ![16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x128x4096 : Shape := ⟨3, ![16, 128, 4096]⟩
abbrev S16x4096x128 : Shape := ⟨3, ![16, 4096, 128]⟩

abbrev nBuf : Space → Nat
  | .hbm => 182
  | .vmem => 0
  | .smem => 0
  | _ => 0

abbrev hbmTy0_0 (i : Nat) : BufTy := match i % 128 with
  | 0 => ⟨S4096x2048, .bf16⟩
  | 1 => ⟨S4096x2048, .bf16⟩
  | 2 => ⟨S4096x2048, .bf16⟩
  | 3 => ⟨S4096x2048, .bf16⟩
  | 4 => ⟨S4096x2048, .f32⟩
  | 5 => ⟨S4096x2048, .f32⟩
  | 6 => ⟨S4096x2048, .f32⟩
  | 7 => ⟨S4096x16x128, .f32⟩
  | 8 => ⟨S4096x16x128, .f32⟩
  | 9 => ⟨S4096x16x128, .f32⟩
  | 10 => ⟨S16x4096x4096, .f32⟩
  | 11 => ⟨S_, .f32⟩
  | 12 => ⟨S16x4096x4096, .f32⟩
  | 13 => ⟨S16x4096x4096, .f32⟩
  | 14 => ⟨S4096, .i32⟩
  | 15 => ⟨S1x4096, .i32⟩
  | 16 => ⟨S4096, .i32⟩
  | 17 => ⟨S4096x1, .i32⟩
  | 18 => ⟨S4096x4096, .i32⟩
  | 19 => ⟨S4096x4096, .i32⟩
  | 20 => ⟨S4096x4096, .i1⟩
  | 21 => ⟨S16x4096x4096, .f32⟩
  | 22 => ⟨S16x4096x4096, .f32⟩
  | 23 => ⟨S_, .f32⟩
  | 24 => ⟨S16x4096x4096, .f32⟩
  | 25 => ⟨S16x4096x4096, .f32⟩
  | 26 => ⟨S16x4096x4096, .f32⟩
  | 27 => ⟨S16x4096x4096, .f32⟩
  | 28 => ⟨S16x4096x4096, .i1⟩
  | 29 => ⟨S16x4096x4096, .f32⟩
  | 30 => ⟨S16x4096x4096, .f32⟩
  | 31 => ⟨S16x4096x4096, .f32⟩
  | 32 => ⟨S16x4096x4096, .f32⟩
  | 33 => ⟨S16x4096x4096, .f32⟩
  | 34 => ⟨S16x4096x4096, .f32⟩
  | 35 => ⟨S16x4096x4096, .f32⟩
  | 36 => ⟨S16x4096x4096, .f32⟩
  | 37 => ⟨S_, .f32⟩
  | 38 => ⟨S16x4096x4096, .f32⟩
  | 39 => ⟨S16x4096x4096, .i1⟩
  | 40 => ⟨S_, .f32⟩
  | 41 => ⟨S16x4096x4096, .f32⟩
  | 42 => ⟨S16x4096x4096, .f32⟩
  | 43 => ⟨S_, .f32⟩
  | 44 => ⟨S16x4096x4096, .f32⟩
  | 45 => ⟨S16x4096x4096, .i1⟩
  | 46 => ⟨S_, .f32⟩
  | 47 => ⟨S16x4096x4096, .f32⟩
  | 48 => ⟨S16x4096x4096, .f32⟩
  | 49 => ⟨S16x4096x4096, .f32⟩
  | 50 => ⟨S16x4096x4096, .f32⟩
  | 51 => ⟨S_, .f32⟩
  | 52 => ⟨S_, .f32⟩
  | 53 => ⟨S_, .i1⟩
  | 54 => ⟨S_, .f32⟩
  | 55 => ⟨S_, .f32⟩
  | 56 => ⟨S_, .f32⟩
  | 57 => ⟨S_, .f32⟩
  | 58 => ⟨S16x4096x4096, .f32⟩
  | 59 => ⟨S16x4096x4096, .i1⟩
  | 60 => ⟨S_, .f32⟩
  | 61 => ⟨S16x4096x4096, .f32⟩
  | 62 => ⟨S16x4096x4096, .f32⟩
  | 63 => ⟨S16x4096x4096, .f32⟩
  | 64 => ⟨S16x4096x4096, .f32⟩
  | 65 => ⟨S16x4096x4096, .f32⟩
  | 66 => ⟨S_, .f32⟩
  | 67 => ⟨S16x4096x4096, .f32⟩
  | 68 => ⟨S16x4096x4096, .f32⟩
  | 69 => ⟨S16x4096x4096, .f32⟩
  | 70 => ⟨S_, .f32⟩
  | 71 => ⟨S_, .f32⟩
  | 72 => ⟨S16x4096x4096, .i1⟩
  | 73 => ⟨S16x4096x4096, .f32⟩
  | 74 => ⟨S16x4096x4096, .f32⟩
  | 75 => ⟨S_, .f32⟩
  | 76 => ⟨S16x4096x4096, .f32⟩
  | 77 => ⟨S16x4096x4096, .f32⟩
  | 78 => ⟨S_, .f32⟩
  | 79 => ⟨S16x4096x4096, .f32⟩
  | 80 => ⟨S16x4096x4096, .f32⟩
  | 81 => ⟨S16x4096x4096, .f32⟩
  | 82 => ⟨S16x4096x4096, .f32⟩
  | 83 => ⟨S16x4096x4096, .i1⟩
  | 84 => ⟨S16x4096x4096, .f32⟩
  | 85 => ⟨S16x4096x4096, .f32⟩
  | 86 => ⟨S16x4096x4096, .f32⟩
  | 87 => ⟨S16x4096x4096, .f32⟩
  | 88 => ⟨S16x4096x4096, .f32⟩
  | 89 => ⟨S16x4096x4096, .f32⟩
  | 90 => ⟨S16x4096x4096, .f32⟩
  | 91 => ⟨S16x4096x4096, .f32⟩
  | 92 => ⟨S_, .f32⟩
  | 93 => ⟨S16x4096x4096, .f32⟩
  | 94 => ⟨S16x4096x4096, .i1⟩
  | 95 => ⟨S_, .f32⟩
  | 96 => ⟨S16x4096x4096, .f32⟩
  | 97 => ⟨S16x4096x4096, .f32⟩
  | 98 => ⟨S_, .f32⟩
  | 99 => ⟨S16x4096x4096, .f32⟩
  | 100 => ⟨S16x4096x4096, .i1⟩
  | 101 => ⟨S_, .f32⟩
  | 102 => ⟨S16x4096x4096, .f32⟩
  | 103 => ⟨S16x4096x4096, .f32⟩
  | 104 => ⟨S16x4096x4096, .f32⟩
  | 105 => ⟨S16x4096x4096, .f32⟩
  | 106 => ⟨S_, .f32⟩
  | 107 => ⟨S_, .f32⟩
  | 108 => ⟨S_, .i1⟩
  | 109 => ⟨S_, .f32⟩
  | 110 => ⟨S_, .f32⟩
  | 111 => ⟨S_, .f32⟩
  | 112 => ⟨S_, .f32⟩
  | 113 => ⟨S16x4096x4096, .f32⟩
  | 114 => ⟨S16x4096x4096, .i1⟩
  | 115 => ⟨S_, .f32⟩
  | 116 => ⟨S16x4096x4096, .f32⟩
  | 117 => ⟨S16x4096x4096, .f32⟩
  | 118 => ⟨S16x4096x4096, .f32⟩
  | 119 => ⟨S16x4096x4096, .f32⟩
  | 120 => ⟨S16x4096x4096, .f32⟩
  | 121 => ⟨S_, .f32⟩
  | 122 => ⟨S16x4096x4096, .f32⟩
  | 123 => ⟨S16x4096x4096, .f32⟩
  | 124 => ⟨S16x4096x4096, .f32⟩
  | 125 => ⟨S16x4096x4096, .f32⟩
  | 126 => ⟨S_, .f32⟩
  | 127 => ⟨S_, .f32⟩
  | _ => ⟨S4096x2048, .bf16⟩

abbrev hbmTy0_1 (i : Nat) : BufTy := match i % 128 with
  | 0 => ⟨S16x4096x4096, .f32⟩
  | 1 => ⟨S16x4096x4096, .f32⟩
  | 2 => ⟨S16x4096x4096, .f32⟩
  | 3 => ⟨S16x4096x4096, .f32⟩
  | 4 => ⟨S16x4096x4096, .f32⟩
  | 5 => ⟨S_, .f32⟩
  | 6 => ⟨S_, .f32⟩
  | 7 => ⟨S16x4096x4096, .i1⟩
  | 8 => ⟨S16x4096x4096, .f32⟩
  | 9 => ⟨S16x4096x4096, .f32⟩
  | 10 => ⟨S_, .f32⟩
  | 11 => ⟨S16x4096x4096, .f32⟩
  | 12 => ⟨S16x128x4096, .f32⟩
  | 13 => ⟨S4096x16x128, .f32⟩
  | 14 => ⟨S4096x2048, .f32⟩
  | 15 => ⟨S4096x2048, .f32⟩
  | 16 => ⟨S4096x16x128, .f32⟩
  | 17 => ⟨S16x128x4096, .f32⟩
  | 18 => ⟨S16x4096x4096, .f32⟩
  | 19 => ⟨S16x128x4096, .f32⟩
  | 20 => ⟨S4096x16x128, .f32⟩
  | 21 => ⟨S_, .f32⟩
  | 22 => ⟨S16x4096x4096, .f32⟩
  | 23 => ⟨S16x4096x4096, .f32⟩
  | 24 => ⟨S16x4096x4096, .f32⟩
  | 25 => ⟨S16x4096x4096, .f32⟩
  | 26 => ⟨S16x4096x4096, .f32⟩
  | 27 => ⟨S_, .f32⟩
  | 28 => ⟨S_, .f32⟩
  | 29 => ⟨S16x4096x4096, .f32⟩
  | 30 => ⟨S16x4096x4096, .f32⟩
  | 31 => ⟨S16x4096x4096, .f32⟩
  | 32 => ⟨S16x4096x4096, .f32⟩
  | 33 => ⟨S16x4096x4096, .f32⟩
  | 34 => ⟨S16x4096x4096, .f32⟩
  | 35 => ⟨S_, .f32⟩
  | 36 => ⟨S16x4096x4096, .f32⟩
  | 37 => ⟨S16x4096x4096, .f32⟩
  | 38 => ⟨S16x4096x4096, .f32⟩
  | 39 => ⟨S16x4096x4096, .f32⟩
  | 40 => ⟨S16x4096x4096, .f32⟩
  | 41 => ⟨S16x4096x4096, .f32⟩
  | 42 => ⟨S16x4096x4096, .f32⟩
  | 43 => ⟨S_, .f32⟩
  | 44 => ⟨S16x4096x4096, .f32⟩
  | 45 => ⟨S16x4096x4096, .f32⟩
  | 46 => ⟨S16x4096x128, .f32⟩
  | 47 => ⟨S4096x16x128, .f32⟩
  | 48 => ⟨S16x4096x128, .f32⟩
  | 49 => ⟨S4096x16x128, .f32⟩
  | 50 => ⟨S4096x2048, .f32⟩
  | 51 => ⟨S4096x2048, .f32⟩
  | 52 => ⟨S4096x2048, .f32⟩
  | 53 => ⟨S4096x2048, .bf16⟩
  | _ => ⟨S4096x2048, .bf16⟩

abbrev hbmTy (i : Nat) : BufTy := match i / 128 with
  | 0 => hbmTy0_0 i
  | 1 => hbmTy0_1 i
  | _ => ⟨S4096x2048, .bf16⟩

abbrev bufTy : (tb : Table) → Fin (tcTables nBuf tb) → BufTy
  | .hbm, ⟨i, _⟩ => hbmTy i
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1_0 : Ref sig .tc := ⟨.hbm, 36, rfl⟩
abbrev main_call0_call0_cst_0 : Ref sig .tc := ⟨.hbm, 37, rfl⟩
abbrev main_call0_call0_v13 : Ref sig .tc := ⟨.hbm, 38, rfl⟩
abbrev main_call0_call0_v14 : Ref sig .tc := ⟨.hbm, 39, rfl⟩
abbrev main_call0_call0_cst_1 : Ref sig .tc := ⟨.hbm, 40, rfl⟩
abbrev main_call0_call0_v15 : Ref sig .tc := ⟨.hbm, 41, rfl⟩
abbrev main_call0_call0_v16 : Ref sig .tc := ⟨.hbm, 42, rfl⟩
abbrev main_call0_call0_cst_2 : Ref sig .tc := ⟨.hbm, 43, rfl⟩
abbrev main_call0_call0_v17 : Ref sig .tc := ⟨.hbm, 44, rfl⟩
abbrev main_call0_call0_v18 : Ref sig .tc := ⟨.hbm, 45, rfl⟩
abbrev main_call0_call0_cst_3 : Ref sig .tc := ⟨.hbm, 46, rfl⟩
abbrev main_call0_call0_v19 : Ref sig .tc := ⟨.hbm, 47, rfl⟩
abbrev main_call0_call0_v20 : Ref sig .tc := ⟨.hbm, 48, rfl⟩
abbrev main_call0_call0_v21 : Ref sig .tc := ⟨.hbm, 49, rfl⟩
abbrev main_v17_1 : Ref sig .tc := ⟨.hbm, 50, rfl⟩
abbrev main_call0_call0_cst_4 : Ref sig .tc := ⟨.hbm, 51, rfl⟩
abbrev main_call0_call0_cst_5 : Ref sig .tc := ⟨.hbm, 52, rfl⟩
abbrev main_call0_call0_v23 : Ref sig .tc := ⟨.hbm, 53, rfl⟩
abbrev main_call0_call0_cst_6 : Ref sig .tc := ⟨.hbm, 54, rfl⟩
abbrev main_call0_call0_cst_7 : Ref sig .tc := ⟨.hbm, 55, rfl⟩
abbrev main_call0_call0_v24 : Ref sig .tc := ⟨.hbm, 56, rfl⟩
abbrev main_call0_call0_cst_8 : Ref sig .tc := ⟨.hbm, 57, rfl⟩
abbrev main_call0_call0_v25 : Ref sig .tc := ⟨.hbm, 58, rfl⟩
abbrev main_call0_call0_v26 : Ref sig .tc := ⟨.hbm, 59, rfl⟩
abbrev main_call0_call0_cst_9 : Ref sig .tc := ⟨.hbm, 60, rfl⟩
abbrev main_call0_call0_v27 : Ref sig .tc := ⟨.hbm, 61, rfl⟩
abbrev main_call0_call0_v28 : Ref sig .tc := ⟨.hbm, 62, rfl⟩
abbrev main_call0_call0_v29 : Ref sig .tc := ⟨.hbm, 63, rfl⟩
abbrev main_call0_call0_v30 : Ref sig .tc := ⟨.hbm, 64, rfl⟩
abbrev main_call0_call0_v31 : Ref sig .tc := ⟨.hbm, 65, rfl⟩
abbrev main_call0_call0_cst_10 : Ref sig .tc := ⟨.hbm, 66, rfl⟩
abbrev main_call0_call0_v32 : Ref sig .tc := ⟨.hbm, 67, rfl⟩
abbrev main_v17_2 : Ref sig .tc := ⟨.hbm, 68, rfl⟩
abbrev main_v17_0 : Ref sig .tc := ⟨.hbm, 69, rfl⟩
abbrev main_cst_0 : Ref sig .tc := ⟨.hbm, 70, rfl⟩
abbrev main_call1_v0 : Ref sig .tc := ⟨.hbm, 71, rfl⟩
abbrev main_v18_1 : Ref sig .tc := ⟨.hbm, 72, rfl⟩
abbrev main_call1_v2 : Ref sig .tc := ⟨.hbm, 73, rfl⟩
abbrev main_v18_0 : Ref sig .tc := ⟨.hbm, 74, rfl⟩
abbrev main_call1_cst : Ref sig .tc := ⟨.hbm, 75, rfl⟩
abbrev main_v18_2 : Ref sig .tc := ⟨.hbm, 76, rfl⟩
abbrev main_call2_v0 : Ref sig .tc := ⟨.hbm, 77, rfl⟩
abbrev main_call2_call0_cst : Ref sig .tc := ⟨.hbm, 78, rfl⟩
abbrev main_call2_call0_v0 : Ref sig .tc := ⟨.hbm, 79, rfl⟩
abbrev main_call2_call0_v1 : Ref sig .tc := ⟨.hbm, 80, rfl⟩
abbrev main_call2_call0_v2 : Ref sig .tc := ⟨.hbm, 81, rfl⟩
abbrev main_call2_call0_v3 : Ref sig .tc := ⟨.hbm, 82, rfl⟩
abbrev main_call2_call0_v4 : Ref sig .tc := ⟨.hbm, 83, rfl⟩
abbrev main_call2_call0_v5 : Ref sig .tc := ⟨.hbm, 84, rfl⟩
abbrev main_call2_call0_v6 : Ref sig .tc := ⟨.hbm, 85, rfl⟩
abbrev main_call2_call0_v7 : Ref sig .tc := ⟨.hbm, 86, rfl⟩
abbrev main_call2_call0_v8 : Ref sig .tc := ⟨.hbm, 87, rfl⟩
abbrev main_call2_call0_v9 : Ref sig .tc := ⟨.hbm, 88, rfl⟩
abbrev main_call2_call0_v10 : Ref sig .tc := ⟨.hbm, 89, rfl⟩
abbrev main_call2_call0_v11 : Ref sig .tc := ⟨.hbm, 90, rfl⟩
abbrev main_call2_v1_0 : Ref sig .tc := ⟨.hbm, 91, rfl⟩
abbrev main_call2_call0_cst_0 : Ref sig .tc := ⟨.hbm, 92, rfl⟩
abbrev main_call2_call0_v13 : Ref sig .tc := ⟨.hbm, 93, rfl⟩
abbrev main_call2_call0_v14 : Ref sig .tc := ⟨.hbm, 94, rfl⟩
abbrev main_call2_call0_cst_1 : Ref sig .tc := ⟨.hbm, 95, rfl⟩
abbrev main_call2_call0_v15 : Ref sig .tc := ⟨.hbm, 96, rfl⟩
abbrev main_call2_call0_v16 : Ref sig .tc := ⟨.hbm, 97, rfl⟩
abbrev main_call2_call0_cst_2 : Ref sig .tc := ⟨.hbm, 98, rfl⟩
abbrev main_call2_call0_v17 : Ref sig .tc := ⟨.hbm, 99, rfl⟩
abbrev main_call2_call0_v18 : Ref sig .tc := ⟨.hbm, 100, rfl⟩
abbrev main_call2_call0_cst_3 : Ref sig .tc := ⟨.hbm, 101, rfl⟩
abbrev main_call2_call0_v19 : Ref sig .tc := ⟨.hbm, 102, rfl⟩
abbrev main_call2_call0_v20 : Ref sig .tc := ⟨.hbm, 103, rfl⟩
abbrev main_call2_call0_v21 : Ref sig .tc := ⟨.hbm, 104, rfl⟩
abbrev main_v19_1 : Ref sig .tc := ⟨.hbm, 105, rfl⟩
abbrev main_call2_call0_cst_4 : Ref sig .tc := ⟨.hbm, 106, rfl⟩
abbrev main_call2_call0_cst_5 : Ref sig .tc := ⟨.hbm, 107, rfl⟩
abbrev main_call2_call0_v23 : Ref sig .tc := ⟨.hbm, 108, rfl⟩
abbrev main_call2_call0_cst_6 : Ref sig .tc := ⟨.hbm, 109, rfl⟩
abbrev main_call2_call0_cst_7 : Ref sig .tc := ⟨.hbm, 110, rfl⟩
abbrev main_call2_call0_v24 : Ref sig .tc := ⟨.hbm, 111, rfl⟩
abbrev main_call2_call0_cst_8 : Ref sig .tc := ⟨.hbm, 112, rfl⟩
abbrev main_call2_call0_v25 : Ref sig .tc := ⟨.hbm, 113, rfl⟩
abbrev main_call2_call0_v26 : Ref sig .tc := ⟨.hbm, 114, rfl⟩
abbrev main_call2_call0_cst_9 : Ref sig .tc := ⟨.hbm, 115, rfl⟩
abbrev main_call2_call0_v27 : Ref sig .tc := ⟨.hbm, 116, rfl⟩
abbrev main_call2_call0_v28 : Ref sig .tc := ⟨.hbm, 117, rfl⟩
abbrev main_call2_call0_v29 : Ref sig .tc := ⟨.hbm, 118, rfl⟩
abbrev main_call2_call0_v30 : Ref sig .tc := ⟨.hbm, 119, rfl⟩
abbrev main_call2_call0_v31 : Ref sig .tc := ⟨.hbm, 120, rfl⟩
abbrev main_call2_call0_cst_10 : Ref sig .tc := ⟨.hbm, 121, rfl⟩
abbrev main_call2_call0_v32 : Ref sig .tc := ⟨.hbm, 122, rfl⟩
abbrev main_v19_2 : Ref sig .tc := ⟨.hbm, 123, rfl⟩
abbrev main_v19_0 : Ref sig .tc := ⟨.hbm, 124, rfl⟩
abbrev main_v20 : Ref sig .tc := ⟨.hbm, 125, rfl⟩
abbrev main_call4_call0_cst : Ref sig .tc := ⟨.hbm, 126, rfl⟩
abbrev main_call4_call0_v0 : Ref sig .tc := ⟨.hbm, 127, rfl⟩
abbrev main_v21 : Ref sig .tc := ⟨.hbm, 128, rfl⟩
abbrev main_v22 : Ref sig .tc := ⟨.hbm, 129, rfl⟩
abbrev main_v23 : Ref sig .tc := ⟨.hbm, 130, rfl⟩
abbrev main_v24 : Ref sig .tc := ⟨.hbm, 131, rfl⟩
abbrev main_v25 : Ref sig .tc := ⟨.hbm, 132, rfl⟩
abbrev main_cst_1 : Ref sig .tc := ⟨.hbm, 133, rfl⟩
abbrev main_call6_v0 : Ref sig .tc := ⟨.hbm, 134, rfl⟩
abbrev main_v26_1 : Ref sig .tc := ⟨.hbm, 135, rfl⟩
abbrev main_call6_v2 : Ref sig .tc := ⟨.hbm, 136, rfl⟩
abbrev main_v26_0 : Ref sig .tc := ⟨.hbm, 137, rfl⟩
abbrev main_call6_cst : Ref sig .tc := ⟨.hbm, 138, rfl⟩
abbrev main_v26_2 : Ref sig .tc := ⟨.hbm, 139, rfl⟩
abbrev main_v27 : Ref sig .tc := ⟨.hbm, 140, rfl⟩
abbrev main_v28 : Ref sig .tc := ⟨.hbm, 141, rfl⟩
abbrev main_v29 : Ref sig .tc := ⟨.hbm, 142, rfl⟩
abbrev main_v30 : Ref sig .tc := ⟨.hbm, 143, rfl⟩
abbrev main_v31 : Ref sig .tc := ⟨.hbm, 144, rfl⟩
abbrev main_v32 : Ref sig .tc := ⟨.hbm, 145, rfl⟩
abbrev main_v33 : Ref sig .tc := ⟨.hbm, 146, rfl⟩
abbrev main_v34 : Ref sig .tc := ⟨.hbm, 147, rfl⟩
abbrev main_v35 : Ref sig .tc := ⟨.hbm, 148, rfl⟩
abbrev main_call7_cst : Ref sig .tc := ⟨.hbm, 149, rfl⟩
abbrev main_call7_v0 : Ref sig .tc := ⟨.hbm, 150, rfl⟩
abbrev main_v36 : Ref sig .tc := ⟨.hbm, 151, rfl⟩
abbrev main_v37 : Ref sig .tc := ⟨.hbm, 152, rfl⟩
abbrev main_v38 : Ref sig .tc := ⟨.hbm, 153, rfl⟩
abbrev main_v39 : Ref sig .tc := ⟨.hbm, 154, rfl⟩
abbrev main_call9_call0_cst : Ref sig .tc := ⟨.hbm, 155, rfl⟩
abbrev main_call9_call0_v0 : Ref sig .tc := ⟨.hbm, 156, rfl⟩
abbrev main_v40 : Ref sig .tc := ⟨.hbm, 157, rfl⟩
abbrev main_v41 : Ref sig .tc := ⟨.hbm, 158, rfl⟩
abbrev main_v42 : Ref sig .tc := ⟨.hbm, 159, rfl⟩
abbrev main_call11_v0 : Ref sig .tc := ⟨.hbm, 160, rfl⟩
abbrev main_call11_v1 : Ref sig .tc := ⟨.hbm, 161, rfl⟩
abbrev main_v43 : Ref sig .tc := ⟨.hbm, 162, rfl⟩
abbrev main_call12_cst : Ref sig .tc := ⟨.hbm, 163, rfl⟩
abbrev main_call12_v0 : Ref sig .tc := ⟨.hbm, 164, rfl⟩
abbrev main_v44 : Ref sig .tc := ⟨.hbm, 165, rfl⟩
abbrev main_call13_v0 : Ref sig .tc := ⟨.hbm, 166, rfl⟩
abbrev main_call13_v1 : Ref sig .tc := ⟨.hbm, 167, rfl⟩
abbrev main_v45 : Ref sig .tc := ⟨.hbm, 168, rfl⟩
abbrev main_v46 : Ref sig .tc := ⟨.hbm, 169, rfl⟩
abbrev main_v47 : Ref sig .tc := ⟨.hbm, 170, rfl⟩
abbrev main_cst_2 : Ref sig .tc := ⟨.hbm, 171, rfl⟩
abbrev main_v48 : Ref sig .tc := ⟨.hbm, 172, rfl⟩
abbrev main_v49 : Ref sig .tc := ⟨.hbm, 173, rfl⟩
abbrev main_v50 : Ref sig .tc := ⟨.hbm, 174, rfl⟩
abbrev main_v51 : Ref sig .tc := ⟨.hbm, 175, rfl⟩
abbrev main_v52 : Ref sig .tc := ⟨.hbm, 176, rfl⟩
abbrev main_v53 : Ref sig .tc := ⟨.hbm, 177, rfl⟩
abbrev main_v54 : Ref sig .tc := ⟨.hbm, 178, rfl⟩
abbrev main_v55 : Ref sig .tc := ⟨.hbm, 179, rfl⟩
abbrev main_v56 : Ref sig .tc := ⟨.hbm, 180, rfl⟩
abbrev main_v57 : Ref sig .tc := ⟨.hbm, 181, rfl⟩

abbrev nD : Nat := 1
abbrev τ : Topo := Topo.v7x

variable {F : FTy → Type} [FloatOps F]
-- ==== DWDown.lean ====
abbrev S2x4096x2816 : Shape := ⟨3, ![2, 4096, 2816]⟩
abbrev S1x4096x2048 : Shape := ⟨3, ![1, 4096, 2048]⟩
abbrev S1x5632x2048 : Shape := ⟨3, ![1, 5632, 2048]⟩
abbrev S1x4096x1408 : Shape := ⟨3, ![1, 4096, 1408]⟩
abbrev S1x4096x512 : Shape := ⟨3, ![1, 4096, 512]⟩
abbrev S1x1408x512 : Shape := ⟨3, ![1, 1408, 512]⟩
abbrev S4096x1408 : Shape := ⟨2, ![4096, 1408]⟩
abbrev S4096x512 : Shape := ⟨2, ![4096, 512]⟩
abbrev S1408x512 : Shape := ⟨2, ![1408, 512]⟩

abbrev nBuf : Space → Nat
  | .hbm => 3
  | .vmem => 6
  | .smem => 0
  | _ => 0

abbrev bufTy : (tb : Table) → Fin (tcTables nBuf tb) → BufTy
  | .hbm, ⟨0, _⟩ => ⟨S2x4096x2816, .bf16⟩
  | .hbm, ⟨1, _⟩ => ⟨S1x4096x2048, .bf16⟩
  | .hbm, ⟨2, _⟩ => ⟨S1x5632x2048, .bf16⟩
  | .local _ .vmem, ⟨0, _⟩ => ⟨S1x4096x1408, .bf16⟩
  | .local _ .vmem, ⟨1, _⟩ => ⟨S1x4096x1408, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x1408x512, .bf16⟩
  | .local _ .vmem, ⟨5, _⟩ => ⟨S1x1408x512, .bf16⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1x4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DWDownRefIdeal.lean ====
abbrev S2x4096x2816 : Shape := ⟨3, ![2, 4096, 2816]⟩
abbrev S1x4096x2048 : Shape := ⟨3, ![1, 4096, 2048]⟩
abbrev S4096x2048 : Shape := ⟨2, ![4096, 2048]⟩
abbrev S2x2816x2048 : Shape := ⟨3, ![2, 2816, 2048]⟩
abbrev S1x5632x2048 : Shape := ⟨3, ![1, 5632, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S1x4096x2048, .bf16⟩
  | .hbm, ⟨2, _⟩ => ⟨S2x4096x2816, .f32⟩
  | .hbm, ⟨3, _⟩ => ⟨S4096x2048, .bf16⟩
  | .hbm, ⟨4, _⟩ => ⟨S4096x2048, .f32⟩
  | .hbm, ⟨5, _⟩ => ⟨S2x2816x2048, .f32⟩
  | .hbm, ⟨6, _⟩ => ⟨S1x5632x2048, .f32⟩
  | .hbm, ⟨7, _⟩ => ⟨S1x5632x2048, .bf16⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== DFfnMid.lean ====
abbrev S1x4096x2048 : Shape := ⟨3, ![1, 4096, 2048]⟩
abbrev S1x5632x2048 : Shape := ⟨3, ![1, 5632, 2048]⟩
abbrev S2x4096x2816 : Shape := ⟨3, ![2, 4096, 2816]⟩
abbrev S1x512x2048 : Shape := ⟨3, ![1, 512, 2048]⟩
abbrev S1x2816x2048 : Shape := ⟨3, ![1, 2816, 2048]⟩
abbrev S1x512x2816 : Shape := ⟨3, ![1, 512, 2816]⟩
abbrev S512x2048 : Shape := ⟨2, ![512, 2048]⟩
abbrev S2816x2048 : Shape := ⟨2, ![2816, 2048]⟩
abbrev S512x2816 : Shape := ⟨2, ![512, 2816]⟩

abbrev nBuf : Space → Nat
  | .hbm => 3
  | .vmem => 6
  | .smem => 0
  | _ => 0

abbrev bufTy : (tb : Table) → Fin (tcTables nBuf tb) → BufTy
  | .hbm, ⟨0, _⟩ => ⟨S1x4096x2048, .bf16⟩
  | .hbm, ⟨1, _⟩ => ⟨S1x5632x2048, .bf16⟩
  | .hbm, ⟨2, _⟩ => ⟨S2x4096x2816, .f32⟩
  | .local _ .vmem, ⟨0, _⟩ => ⟨S1x512x2048, .bf16⟩
  | .local _ .vmem, ⟨1, _⟩ => ⟨S1x512x2048, .bf16⟩
  | .local _ .vmem, ⟨2, _⟩ => ⟨S1x2816x2048, .bf16⟩
  | .local _ .vmem, ⟨3, _⟩ => ⟨S1x2816x2048, .bf16⟩
  | .local _ .vmem, ⟨4, _⟩ => ⟨S1x512x2816, .f32⟩
  | .local _ .vmem, ⟨5, _⟩ => ⟨S1x512x2816, .f32⟩
  | _, _ => ⟨S1x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2816x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DFfnMidRefIdeal.lean ====
abbrev S1x4096x2048 : Shape := ⟨3, ![1, 4096, 2048]⟩
abbrev S1x5632x2048 : Shape := ⟨3, ![1, 5632, 2048]⟩
abbrev S4096x2048 : Shape := ⟨2, ![4096, 2048]⟩
abbrev S2x2816x2048 : Shape := ⟨3, ![2, 2816, 2048]⟩
abbrev S2x2816x4096 : Shape := ⟨3, ![2, 2816, 4096]⟩
abbrev S2x4096x2816 : Shape := ⟨3, ![2, 4096, 2816]⟩

abbrev nBuf : Space → Nat
  | .hbm => 8
  | .vmem => 0
  | .smem => 0
  | _ => 0

abbrev bufTy : (tb : Table) → Fin (tcTables nBuf tb) → BufTy
  | .hbm, ⟨0, _⟩ => ⟨S1x4096x2048, .bf16⟩
  | .hbm, ⟨1, _⟩ => ⟨S1x5632x2048, .bf16⟩
  | .hbm, ⟨2, _⟩ => ⟨S4096x2048, .bf16⟩
  | .hbm, ⟨3, _⟩ => ⟨S4096x2048, .f32⟩
  | .hbm, ⟨4, _⟩ => ⟨S2x2816x2048, .bf16⟩
  | .hbm, ⟨5, _⟩ => ⟨S2x2816x2048, .f32⟩
  | .hbm, ⟨6, _⟩ => ⟨S2x2816x4096, .f32⟩
  | .hbm, ⟨7, _⟩ => ⟨S2x4096x2816, .f32⟩
  | _, _ => ⟨S1x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== DWUp.lean ====
abbrev S1x4096x2048 : Shape := ⟨3, ![1, 4096, 2048]⟩
abbrev S4x4096x2816 : Shape := ⟨3, ![4, 4096, 2816]⟩
abbrev S4x2048x2816 : Shape := ⟨3, ![4, 2048, 2816]⟩
abbrev S1x2048x512 : Shape := ⟨3, ![1, 2048, 512]⟩
abbrev S1x2048x2816 : Shape := ⟨3, ![1, 2048, 2816]⟩
abbrev S1x512x2816 : Shape := ⟨3, ![1, 512, 2816]⟩
abbrev S512x2816 : Shape := ⟨2, ![512, 2816]⟩
abbrev S2048x512 : Shape := ⟨2, ![2048, 512]⟩
abbrev S2048x2816 : Shape := ⟨2, ![2048, 2816]⟩

abbrev nBuf : Space → Nat
  | .hbm => 3
  | .vmem => 7
  | .smem => 0
  | _ => 0

abbrev bufTy : (tb : Table) → Fin (tcTables nBuf tb) → BufTy
  | .hbm, ⟨0, _⟩ => ⟨S1x4096x2048, .bf16⟩
  | .hbm, ⟨1, _⟩ => ⟨S4x4096x2816, .bf16⟩
  | .hbm, ⟨2, _⟩ => ⟨S4x2048x2816, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x2048x2816, .bf16⟩
  | .local _ .vmem, ⟨3, _⟩ => ⟨S1x2048x2816, .bf16⟩
  | .local _ .vmem, ⟨4, _⟩ => ⟨S1x512x2816, .bf16⟩
  | .local _ .vmem, ⟨5, _⟩ => ⟨S1x512x2816, .bf16⟩
  | .local _ .vmem, ⟨6, _⟩ => ⟨S512x2816, .f32⟩
  | _, _ => ⟨S1x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DWUpRefIdeal.lean ====
abbrev S1x4096x2048 : Shape := ⟨3, ![1, 4096, 2048]⟩
abbrev S4x4096x2816 : Shape := ⟨3, ![4, 4096, 2816]⟩
abbrev S4096x2048 : Shape := ⟨2, ![4096, 2048]⟩
abbrev S4x2816x2048 : Shape := ⟨3, ![4, 2816, 2048]⟩
abbrev S4x2048x2816 : Shape := ⟨3, ![4, 2048, 2816]⟩

abbrev nBuf : Space → Nat
  | .hbm => 8
  | .vmem => 0
  | .smem => 0
  | _ => 0

abbrev bufTy : (tb : Table) → Fin (tcTables nBuf tb) → BufTy
  | .hbm, ⟨0, _⟩ => ⟨S1x4096x2048, .bf16⟩
  | .hbm, ⟨1, _⟩ => ⟨S4x4096x2816, .bf16⟩
  | .hbm, ⟨2, _⟩ => ⟨S4096x2048, .bf16⟩
  | .hbm, ⟨3, _⟩ => ⟨S4096x2048, .f32⟩
  | .hbm, ⟨4, _⟩ => ⟨S4x4096x2816, .f32⟩
  | .hbm, ⟨5, _⟩ => ⟨S4x2816x2048, .f32⟩
  | .hbm, ⟨6, _⟩ => ⟨S4x2048x2816, .f32⟩
  | .hbm, ⟨7, _⟩ => ⟨S4x2048x2816, .bf16⟩
  | _, _ => ⟨S1x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== DFfnIn.lean ====
abbrev S4x4096x2816 : Shape := ⟨3, ![4, 4096, 2816]⟩
abbrev S4x2048x2816 : Shape := ⟨3, ![4, 2048, 2816]⟩
abbrev S1x4096x2048 : Shape := ⟨3, ![1, 4096, 2048]⟩
abbrev S1x1024x2816 : Shape := ⟨3, ![1, 1024, 2816]⟩
abbrev S1x1024x1024 : Shape := ⟨3, ![1, 1024, 1024]⟩
abbrev S1024x1024 : Shape := ⟨2, ![1024, 1024]⟩
abbrev S1024x2816 : Shape := ⟨2, ![1024, 2816]⟩

abbrev nBuf : Space → Nat
  | .hbm => 3
  | .vmem => 7
  | .smem => 0
  | _ => 0

abbrev bufTy : (tb : Table) → Fin (tcTables nBuf tb) → BufTy
  | .hbm, ⟨0, _⟩ => ⟨S4x4096x2816, .bf16⟩
  | .hbm, ⟨1, _⟩ => ⟨S4x2048x2816, .bf16⟩
  | .hbm, ⟨2, _⟩ => ⟨S1x4096x2048, .f32⟩
  | .local _ .vmem, ⟨0, _⟩ => ⟨S1x1024x2816, .bf16⟩
  | .local _ .vmem, ⟨1, _⟩ => ⟨S1x1024x2816, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S4x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1x1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DFfnInRefIdeal.lean ====
abbrev S4x4096x2816 : Shape := ⟨3, ![4, 4096, 2816]⟩
abbrev S4x2048x2816 : Shape := ⟨3, ![4, 2048, 2816]⟩
abbrev S4096x2048 : Shape := ⟨2, ![4096, 2048]⟩
abbrev S1x4096x2048 : Shape := ⟨3, ![1, 4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4x4096x2816, .bf16⟩
  | .hbm, ⟨1, _⟩ => ⟨S4x2048x2816, .bf16⟩
  | .hbm, ⟨2, _⟩ => ⟨S4x4096x2816, .f32⟩
  | .hbm, ⟨3, _⟩ => ⟨S4x2048x2816, .f32⟩
  | .hbm, ⟨4, _⟩ => ⟨S4096x2048, .f32⟩
  | .hbm, ⟨5, _⟩ => ⟨S1x4096x2048, .f32⟩
  | _, _ => ⟨S4x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DWide.lean ====
abbrev S1x4096x2048 : Shape := ⟨3, ![1, 4096, 2048]⟩
abbrev S1x2048x2048 : Shape := ⟨3, ![1, 2048, 2048]⟩
abbrev S1x4096x1024 : Shape := ⟨3, ![1, 4096, 1024]⟩
abbrev S1x1024x1024 : Shape := ⟨3, ![1, 1024, 1024]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S1x4096x2048, .bf16⟩
  | .hbm, ⟨1, _⟩ => ⟨S1x4096x2048, .bf16⟩
  | .hbm, ⟨2, _⟩ => ⟨S1x2048x2048, .bf16⟩
  | .local _ .vmem, ⟨0, _⟩ => ⟨S1x4096x1024, .bf16⟩
  | .local _ .vmem, ⟨1, _⟩ => ⟨S1x4096x1024, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x1024x1024, .bf16⟩
  | .local _ .vmem, ⟨5, _⟩ => ⟨S1x1024x1024, .bf16⟩
  | _, _ => ⟨S1x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1x4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DWideRefIdeal.lean ====
abbrev S1x4096x2048 : Shape := ⟨3, ![1, 4096, 2048]⟩
abbrev S1x2048x2048 : Shape := ⟨3, ![1, 2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S1x4096x2048, .bf16⟩
  | .hbm, ⟨1, _⟩ => ⟨S1x4096x2048, .bf16⟩
  | .hbm, ⟨2, _⟩ => ⟨S1x4096x2048, .f32⟩
  | .hbm, ⟨3, _⟩ => ⟨S1x4096x2048, .f32⟩
  | .hbm, ⟨4, _⟩ => ⟨S1x2048x2048, .f32⟩
  | .hbm, ⟨5, _⟩ => ⟨S1x2048x2048, .bf16⟩
  | _, _ => ⟨S1x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DWKv.lean ====
abbrev S1x4096x2048 : Shape := ⟨3, ![1, 4096, 2048]⟩
abbrev S1x2048x2048 : Shape := ⟨3, ![1, 2048, 2048]⟩
abbrev S1x4096x512 : Shape := ⟨3, ![1, 4096, 512]⟩
abbrev S1x4096x1024 : Shape := ⟨3, ![1, 4096, 1024]⟩
abbrev S1x512x1024 : Shape := ⟨3, ![1, 512, 1024]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S1x4096x2048, .bf16⟩
  | .hbm, ⟨1, _⟩ => ⟨S1x4096x2048, .f32⟩
  | .hbm, ⟨2, _⟩ => ⟨S1x2048x2048, .bf16⟩
  | .local _ .vmem, ⟨0, _⟩ => ⟨S1x4096x512, .bf16⟩
  | .local _ .vmem, ⟨1, _⟩ => ⟨S1x4096x512, .bf16⟩
  | .local _ .vmem, ⟨2, _⟩ => ⟨S1x4096x1024, .f32⟩
  | .local _ .vmem, ⟨3, _⟩ => ⟨S1x4096x1024, .f32⟩
  | .local _ .vmem, ⟨4, _⟩ => ⟨S1x512x1024, .bf16⟩
  | .local _ .vmem, ⟨5, _⟩ => ⟨S1x512x1024, .bf16⟩
  | _, _ => ⟨S1x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1x4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DWKvRefIdeal.lean ====
abbrev S1x4096x2048 : Shape := ⟨3, ![1, 4096, 2048]⟩
abbrev S1x2048x2048 : Shape := ⟨3, ![1, 2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S1x4096x2048, .bf16⟩
  | .hbm, ⟨1, _⟩ => ⟨S1x4096x2048, .f32⟩
  | .hbm, ⟨2, _⟩ => ⟨S1x4096x2048, .f32⟩
  | .hbm, ⟨3, _⟩ => ⟨S1x2048x2048, .f32⟩
  | .hbm, ⟨4, _⟩ => ⟨S1x2048x2048, .bf16⟩
  | _, _ => ⟨S1x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DAttnOut.lean ====
abbrev S1x4096x2048 : Shape := ⟨3, ![1, 4096, 2048]⟩
abbrev S1x2048x2048 : Shape := ⟨3, ![1, 2048, 2048]⟩
abbrev S1x1024x2048 : Shape := ⟨3, ![1, 1024, 2048]⟩
abbrev S1x1024x1024 : Shape := ⟨3, ![1, 1024, 1024]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S1x4096x2048, .bf16⟩
  | .hbm, ⟨1, _⟩ => ⟨S1x2048x2048, .bf16⟩
  | .hbm, ⟨2, _⟩ => ⟨S1x4096x2048, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x1024x1024, .bf16⟩
  | .local _ .vmem, ⟨5, _⟩ => ⟨S1x1024x1024, .bf16⟩
  | _, _ => ⟨S1x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DAttnOutRefIdeal.lean ====
abbrev S1x4096x2048 : Shape := ⟨3, ![1, 4096, 2048]⟩
abbrev S1x2048x2048 : Shape := ⟨3, ![1, 2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S1x4096x2048, .bf16⟩
  | .hbm, ⟨1, _⟩ => ⟨S1x2048x2048, .bf16⟩
  | .hbm, ⟨2, _⟩ => ⟨S1x4096x2048, .f32⟩
  | .hbm, ⟨3, _⟩ => ⟨S1x2048x2048, .f32⟩
  | .hbm, ⟨4, _⟩ => ⟨S1x4096x2048, .f32⟩
  | .hbm, ⟨5, _⟩ => ⟨S1x4096x2048, .bf16⟩
  | _, _ => ⟨S1x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DQIn.lean ====
abbrev S1x4096x2048 : Shape := ⟨3, ![1, 4096, 2048]⟩
abbrev S1x2048x2048 : Shape := ⟨3, ![1, 2048, 2048]⟩
abbrev S1x1024x2048 : Shape := ⟨3, ![1, 1024, 2048]⟩
abbrev S1x1024x1024 : Shape := ⟨3, ![1, 1024, 1024]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S1x4096x2048, .bf16⟩
  | .hbm, ⟨1, _⟩ => ⟨S1x2048x2048, .bf16⟩
  | .hbm, ⟨2, _⟩ => ⟨S1x4096x2048, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x1024x1024, .f32⟩
  | .local _ .vmem, ⟨5, _⟩ => ⟨S1x1024x1024, .f32⟩
  | _, _ => ⟨S1x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DQInRefIdeal.lean ====
abbrev S1x4096x2048 : Shape := ⟨3, ![1, 4096, 2048]⟩
abbrev S1x2048x2048 : Shape := ⟨3, ![1, 2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S1x4096x2048, .bf16⟩
  | .hbm, ⟨1, _⟩ => ⟨S1x2048x2048, .bf16⟩
  | .hbm, ⟨2, _⟩ => ⟨S1x4096x2048, .f32⟩
  | .hbm, ⟨3, _⟩ => ⟨S1x2048x2048, .f32⟩
  | .hbm, ⟨4, _⟩ => ⟨S1x4096x2048, .f32⟩
  | _, _ => ⟨S1x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DKIn.lean ====
abbrev S1x4096x2048 : Shape := ⟨3, ![1, 4096, 2048]⟩
abbrev S1x2048x2048 : Shape := ⟨3, ![1, 2048, 2048]⟩
abbrev S1x1024x2048 : Shape := ⟨3, ![1, 1024, 2048]⟩
abbrev S1x1024x1024 : Shape := ⟨3, ![1, 1024, 1024]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S1x4096x2048, .f32⟩
  | .hbm, ⟨1, _⟩ => ⟨S1x2048x2048, .bf16⟩
  | .hbm, ⟨2, _⟩ => ⟨S1x4096x2048, .f32⟩
  | .local _ .vmem, ⟨0, _⟩ => ⟨S1x1024x2048, .f32⟩
  | .local _ .vmem, ⟨1, _⟩ => ⟨S1x1024x2048, .f32⟩
  | .local _ .vmem, ⟨2, _⟩ => ⟨S1x1024x2048, .bf16⟩
  | .local _ .vmem, ⟨3, _⟩ => ⟨S1x1024x2048, .bf16⟩
  | .local _ .vmem, ⟨4, _⟩ => ⟨S1x1024x1024, .f32⟩
  | .local _ .vmem, ⟨5, _⟩ => ⟨S1x1024x1024, .f32⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DKInRefIdeal.lean ====
abbrev S1x4096x2048 : Shape := ⟨3, ![1, 4096, 2048]⟩
abbrev S1x2048x2048 : Shape := ⟨3, ![1, 2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S1x4096x2048, .f32⟩
  | .hbm, ⟨1, _⟩ => ⟨S1x2048x2048, .bf16⟩
  | .hbm, ⟨2, _⟩ => ⟨S1x2048x2048, .f32⟩
  | .hbm, ⟨3, _⟩ => ⟨S1x4096x2048, .f32⟩
  | _, _ => ⟨S1x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== DWIn.lean ====
abbrev S1x4096x2048 : Shape := ⟨3, ![1, 4096, 2048]⟩
abbrev S4x4096x1024 : Shape := ⟨3, ![4, 4096, 1024]⟩
abbrev S4x2048x1024 : Shape := ⟨3, ![4, 2048, 1024]⟩
abbrev S1x4096x1024 : Shape := ⟨3, ![1, 4096, 1024]⟩
abbrev S1x1024x1024 : Shape := ⟨3, ![1, 1024, 1024]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S1x4096x2048, .bf16⟩
  | .hbm, ⟨1, _⟩ => ⟨S4x4096x1024, .bf16⟩
  | .hbm, ⟨2, _⟩ => ⟨S4x2048x1024, .bf16⟩
  | .local _ .vmem, ⟨0, _⟩ => ⟨S1x4096x1024, .bf16⟩
  | .local _ .vmem, ⟨1, _⟩ => ⟨S1x4096x1024, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x1024x1024, .bf16⟩
  | .local _ .vmem, ⟨5, _⟩ => ⟨S1x1024x1024, .bf16⟩
  | _, _ => ⟨S1x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1x4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DWInRefIdeal.lean ====
abbrev S1x4096x2048 : Shape := ⟨3, ![1, 4096, 2048]⟩
abbrev S4x4096x1024 : Shape := ⟨3, ![4, 4096, 1024]⟩
abbrev S4096x2048 : Shape := ⟨2, ![4096, 2048]⟩
abbrev S4x1024x2048 : Shape := ⟨3, ![4, 1024, 2048]⟩
abbrev S4x2048x1024 : Shape := ⟨3, ![4, 2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1x4096x2048, .bf16⟩
  | .hbm, ⟨1, _⟩ => ⟨S4x4096x1024, .bf16⟩
  | .hbm, ⟨2, _⟩ => ⟨S4096x2048, .bf16⟩
  | .hbm, ⟨3, _⟩ => ⟨S4096x2048, .f32⟩
  | .hbm, ⟨4, _⟩ => ⟨S4x4096x1024, .f32⟩
  | .hbm, ⟨5, _⟩ => ⟨S4x1024x2048, .f32⟩
  | .hbm, ⟨6, _⟩ => ⟨S4x2048x1024, .f32⟩
  | .hbm, ⟨7, _⟩ => ⟨S4x2048x1024, .bf16⟩
  | _, _ => ⟨S1x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== DGmlpIn.lean ====
abbrev S4x4096x1024 : Shape := ⟨3, ![4, 4096, 1024]⟩
abbrev S4x2048x1024 : Shape := ⟨3, ![4, 2048, 1024]⟩
abbrev S1x4096x2048 : Shape := ⟨3, ![1, 4096, 2048]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4x4096x1024, .bf16⟩
  | .hbm, ⟨1, _⟩ => ⟨S4x2048x1024, .bf16⟩
  | .hbm, ⟨2, _⟩ => ⟨S1x4096x2048, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S4x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DGmlpInRefIdeal.lean ====
abbrev S4x4096x1024 : Shape := ⟨3, ![4, 4096, 1024]⟩
abbrev S4x2048x1024 : Shape := ⟨3, ![4, 2048, 1024]⟩
abbrev S4096x2048 : Shape := ⟨2, ![4096, 2048]⟩
abbrev S1x4096x2048 : Shape := ⟨3, ![1, 4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4x4096x1024, .bf16⟩
  | .hbm, ⟨1, _⟩ => ⟨S4x2048x1024, .bf16⟩
  | .hbm, ⟨2, _⟩ => ⟨S4x4096x1024, .f32⟩
  | .hbm, ⟨3, _⟩ => ⟨S4x2048x1024, .f32⟩
  | .hbm, ⟨4, _⟩ => ⟨S4096x2048, .f32⟩
  | .hbm, ⟨5, _⟩ => ⟨S1x4096x2048, .f32⟩
  | _, _ => ⟨S4x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== FfnUp.lean ====
abbrev S1x4096x2048 : Shape := ⟨3, ![1, 4096, 2048]⟩
abbrev S4x2048x2816 : Shape := ⟨3, ![4, 2048, 2816]⟩
abbrev S4x4096x2816 : Shape := ⟨3, ![4, 4096, 2816]⟩
abbrev S1x512x2048 : Shape := ⟨3, ![1, 512, 2048]⟩
abbrev S1x2048x2816 : Shape := ⟨3, ![1, 2048, 2816]⟩
abbrev S1x512x2816 : Shape := ⟨3, ![1, 512, 2816]⟩
abbrev S512x2048 : Shape := ⟨2, ![512, 2048]⟩
abbrev S2048x2816 : Shape := ⟨2, ![2048, 2816]⟩
abbrev S512x2816 : Shape := ⟨2, ![512, 2816]⟩

abbrev nBuf : Space → Nat
  | .hbm => 3
  | .vmem => 6
  | .smem => 0
  | _ => 0

abbrev bufTy : (tb : Table) → Fin (tcTables nBuf tb) → BufTy
  | .hbm, ⟨0, _⟩ => ⟨S1x4096x2048, .bf16⟩
  | .hbm, ⟨1, _⟩ => ⟨S4x2048x2816, .bf16⟩
  | .hbm, ⟨2, _⟩ => ⟨S4x4096x2816, .f32⟩
  | .local _ .vmem, ⟨0, _⟩ => ⟨S1x512x2048, .bf16⟩
  | .local _ .vmem, ⟨1, _⟩ => ⟨S1x512x2048, .bf16⟩
  | .local _ .vmem, ⟨2, _⟩ => ⟨S1x2048x2816, .bf16⟩
  | .local _ .vmem, ⟨3, _⟩ => ⟨S1x2048x2816, .bf16⟩
  | .local _ .vmem, ⟨4, _⟩ => ⟨S1x512x2816, .f32⟩
  | .local _ .vmem, ⟨5, _⟩ => ⟨S1x512x2816, .f32⟩
  | _, _ => ⟨S1x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnUpRefIdeal.lean ====
abbrev S1x4096x2048 : Shape := ⟨3, ![1, 4096, 2048]⟩
abbrev S4x2048x2816 : Shape := ⟨3, ![4, 2048, 2816]⟩
abbrev S4096x2048 : Shape := ⟨2, ![4096, 2048]⟩
abbrev S4x2816x4096 : Shape := ⟨3, ![4, 2816, 4096]⟩
abbrev S4x4096x2816 : Shape := ⟨3, ![4, 4096, 2816]⟩

abbrev nBuf : Space → Nat
  | .hbm => 7
  | .vmem => 0
  | .smem => 0
  | _ => 0

abbrev bufTy : (tb : Table) → Fin (tcTables nBuf tb) → BufTy
  | .hbm, ⟨0, _⟩ => ⟨S1x4096x2048, .bf16⟩
  | .hbm, ⟨1, _⟩ => ⟨S4x2048x2816, .bf16⟩
  | .hbm, ⟨2, _⟩ => ⟨S4096x2048, .bf16⟩
  | .hbm, ⟨3, _⟩ => ⟨S4096x2048, .f32⟩
  | .hbm, ⟨4, _⟩ => ⟨S4x2048x2816, .f32⟩
  | .hbm, ⟨5, _⟩ => ⟨S4x2816x4096, .f32⟩
  | .hbm, ⟨6, _⟩ => ⟨S4x4096x2816, .f32⟩
  | _, _ => ⟨S1x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== FfnDown.lean ====
abbrev S2x4096x2816 : Shape := ⟨3, ![2, 4096, 2816]⟩
abbrev S1x5632x2048 : Shape := ⟨3, ![1, 5632, 2048]⟩
abbrev S1x4096x2048 : Shape := ⟨3, ![1, 4096, 2048]⟩
abbrev S1x1024x2816 : Shape := ⟨3, ![1, 1024, 2816]⟩
abbrev S1x2816x1024 : Shape := ⟨3, ![1, 2816, 1024]⟩
abbrev S1x1024x1024 : Shape := ⟨3, ![1, 1024, 1024]⟩
abbrev S1024x1024 : Shape := ⟨2, ![1024, 1024]⟩
abbrev S1024x2816 : Shape := ⟨2, ![1024, 2816]⟩
abbrev S2816x1024 : Shape := ⟨2, ![2816, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2x4096x2816, .bf16⟩
  | .hbm, ⟨1, _⟩ => ⟨S1x5632x2048, .bf16⟩
  | .hbm, ⟨2, _⟩ => ⟨S1x4096x2048, .f32⟩
  | .local _ .vmem, ⟨0, _⟩ => ⟨S1x1024x2816, .bf16⟩
  | .local _ .vmem, ⟨1, _⟩ => ⟨S1x1024x2816, .bf16⟩
  | .local _ .vmem, ⟨2, _⟩ => ⟨S1x2816x1024, .bf16⟩
  | .local _ .vmem, ⟨3, _⟩ => ⟨S1x2816x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1x1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDownRefIdeal.lean ====
abbrev S2x4096x2816 : Shape := ⟨3, ![2, 4096, 2816]⟩
abbrev S1x5632x2048 : Shape := ⟨3, ![1, 5632, 2048]⟩
abbrev S2x2816x2048 : Shape := ⟨3, ![2, 2816, 2048]⟩
abbrev S4096x2048 : Shape := ⟨2, ![4096, 2048]⟩
abbrev S1x4096x2048 : Shape := ⟨3, ![1, 4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S1x5632x2048, .bf16⟩
  | .hbm, ⟨2, _⟩ => ⟨S2x4096x2816, .f32⟩
  | .hbm, ⟨3, _⟩ => ⟨S2x2816x2048, .bf16⟩
  | .hbm, ⟨4, _⟩ => ⟨S2x2816x2048, .f32⟩
  | .hbm, ⟨5, _⟩ => ⟨S4096x2048, .f32⟩
  | .hbm, ⟨6, _⟩ => ⟨S1x4096x2048, .f32⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Proj.lean ====
abbrev S1x4096x2048 : Shape := ⟨3, ![1, 4096, 2048]⟩
abbrev S1x2048x2048 : Shape := ⟨3, ![1, 2048, 2048]⟩
abbrev S1x1024x2048 : Shape := ⟨3, ![1, 1024, 2048]⟩
abbrev S1x2048x1024 : Shape := ⟨3, ![1, 2048, 1024]⟩
abbrev S1x1024x1024 : Shape := ⟨3, ![1, 1024, 1024]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S1x4096x2048, .bf16⟩
  | .hbm, ⟨1, _⟩ => ⟨S1x2048x2048, .bf16⟩
  | .hbm, ⟨2, _⟩ => ⟨S1x4096x2048, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .bf16⟩
  | .local _ .vmem, ⟨5, _⟩ => ⟨S1x1024x1024, .bf16⟩
  | _, _ => ⟨S1x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjRefIdeal.lean ====
abbrev S1x4096x2048 : Shape := ⟨3, ![1, 4096, 2048]⟩
abbrev S1x2048x2048 : Shape := ⟨3, ![1, 2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S1x4096x2048, .bf16⟩
  | .hbm, ⟨1, _⟩ => ⟨S1x2048x2048, .bf16⟩
  | .hbm, ⟨2, _⟩ => ⟨S1x4096x2048, .f32⟩
  | .hbm, ⟨3, _⟩ => ⟨S1x2048x2048, .f32⟩
  | .hbm, ⟨4, _⟩ => ⟨S1x4096x2048, .f32⟩
  | .hbm, ⟨5, _⟩ => ⟨S1x4096x2048, .bf16⟩
  | _, _ => ⟨S1x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ProjO.lean ====
abbrev S1x4096x2048 : Shape := ⟨3, ![1, 4096, 2048]⟩
abbrev S1x2048x2048 : Shape := ⟨3, ![1, 2048, 2048]⟩
abbrev S1x1024x2048 : Shape := ⟨3, ![1, 1024, 2048]⟩
abbrev S1x2048x1024 : Shape := ⟨3, ![1, 2048, 1024]⟩
abbrev S1x1024x1024 : Shape := ⟨3, ![1, 1024, 1024]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S1x4096x2048, .bf16⟩
  | .hbm, ⟨1, _⟩ => ⟨S1x2048x2048, .bf16⟩
  | .hbm, ⟨2, _⟩ => ⟨S1x4096x2048, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .f32⟩
  | .local _ .vmem, ⟨5, _⟩ => ⟨S1x1024x1024, .f32⟩
  | _, _ => ⟨S1x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjORefIdeal.lean ====
abbrev S1x4096x2048 : Shape := ⟨3, ![1, 4096, 2048]⟩
abbrev S1x2048x2048 : Shape := ⟨3, ![1, 2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S1x4096x2048, .bf16⟩
  | .hbm, ⟨1, _⟩ => ⟨S1x2048x2048, .bf16⟩
  | .hbm, ⟨2, _⟩ => ⟨S1x4096x2048, .f32⟩
  | .hbm, ⟨3, _⟩ => ⟨S1x2048x2048, .f32⟩
  | .hbm, ⟨4, _⟩ => ⟨S1x4096x2048, .f32⟩
  | _, _ => ⟨S1x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GmlpIn.lean ====
abbrev S1x4096x2048 : Shape := ⟨3, ![1, 4096, 2048]⟩
abbrev S4x2048x1024 : Shape := ⟨3, ![4, 2048, 1024]⟩
abbrev S4x4096x1024 : Shape := ⟨3, ![4, 4096, 1024]⟩
abbrev S1x1024x2048 : Shape := ⟨3, ![1, 1024, 2048]⟩
abbrev S1x2048x1024 : Shape := ⟨3, ![1, 2048, 1024]⟩
abbrev S1x1024x1024 : Shape := ⟨3, ![1, 1024, 1024]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S1x4096x2048, .bf16⟩
  | .hbm, ⟨1, _⟩ => ⟨S4x2048x1024, .bf16⟩
  | .hbm, ⟨2, _⟩ => ⟨S4x4096x1024, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .f32⟩
  | .local _ .vmem, ⟨5, _⟩ => ⟨S1x1024x1024, .f32⟩
  | _, _ => ⟨S1x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GmlpInRefIdeal.lean ====
abbrev S1x4096x2048 : Shape := ⟨3, ![1, 4096, 2048]⟩
abbrev S4x2048x1024 : Shape := ⟨3, ![4, 2048, 1024]⟩
abbrev S4096x2048 : Shape := ⟨2, ![4096, 2048]⟩
abbrev S4x1024x4096 : Shape := ⟨3, ![4, 1024, 4096]⟩
abbrev S4x4096x1024 : Shape := ⟨3, ![4, 4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S1x4096x2048, .bf16⟩
  | .hbm, ⟨1, _⟩ => ⟨S4x2048x1024, .bf16⟩
  | .hbm, ⟨2, _⟩ => ⟨S4096x2048, .bf16⟩
  | .hbm, ⟨3, _⟩ => ⟨S4096x2048, .f32⟩
  | .hbm, ⟨4, _⟩ => ⟨S4x2048x1024, .f32⟩
  | .hbm, ⟨5, _⟩ => ⟨S4x1024x4096, .f32⟩
  | .hbm, ⟨6, _⟩ => ⟨S4x4096x1024, .f32⟩
  | _, _ => ⟨S1x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== DNormOut.lean ====
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 5
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .bf16⟩
  | .hbm, ⟨4, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | .local _ .vmem, ⟨7, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== DNormOutRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 46
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S2048, .f32⟩
  | .hbm, ⟨25, _⟩ => ⟨S1x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S4096x2048, .f32⟩
  | .hbm, ⟨33, _⟩ => ⟨S4096x2048, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S4096, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== DNormIn.lean ====
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== DNormInRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 47
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== DNormTwo.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 10
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S1x2048, .f32⟩
  | .hbm, ⟨6, _⟩ => ⟨S1x2048, .f32⟩
  | .hbm, ⟨7, _⟩ => ⟨S4096x2048, .f32⟩
  | .hbm, ⟨8, _⟩ => ⟨S1x2048, .f32⟩
  | .hbm, ⟨9, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S1x2048, .f32⟩
  | .local _ .vmem, ⟨11, _⟩ => ⟨S1x2048, .f32⟩
  | .local _ .vmem, ⟨12, _⟩ => ⟨S256x2048, .f32⟩
  | .local _ .vmem, ⟨13, _⟩ => ⟨S256x2048, .f32⟩
  | .local _ .vmem, ⟨14, _⟩ => ⟨S1x2048, .f32⟩
  | .local _ .vmem, ⟨15, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== DNormTwoRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 94
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S1x2048, .f32⟩
  | .hbm, ⟨6, _⟩ => ⟨S1x2048, .f32⟩
  | .hbm, ⟨7, _⟩ => ⟨S4096x2048, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S_, .f32⟩
  | .hbm, ⟨54, _⟩ => ⟨S4096, .f32⟩
  | .hbm, ⟨55, _⟩ => ⟨S4096x1, .f32⟩
  | .hbm, ⟨56, _⟩ => ⟨S4096x2048, .f32⟩
  | .hbm, ⟨57, _⟩ => ⟨S4096x2048, .f32⟩
  | .hbm, ⟨58, _⟩ => ⟨S4096x2048, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S_, .f32⟩
  | .hbm, ⟨72, _⟩ => ⟨S2048, .f32⟩
  | .hbm, ⟨73, _⟩ => ⟨S1x2048, .f32⟩
  | .hbm, ⟨74, _⟩ => ⟨S4096x2048, .f32⟩
  | .hbm, ⟨75, _⟩ => ⟨S4096x2048, .f32⟩
  | .hbm, ⟨76, _⟩ => ⟨S4096x2048, .f32⟩
  | .hbm, ⟨77, _⟩ => ⟨S_, .f32⟩
  | .hbm, ⟨78, _⟩ => ⟨S4096, .f32⟩
  | .hbm, ⟨79, _⟩ => ⟨S4096x1, .f32⟩
  | .hbm, ⟨80, _⟩ => ⟨S4096x2048, .f32⟩
  | .hbm, ⟨81, _⟩ => ⟨S4096x2048, .f32⟩
  | .hbm, ⟨82, _⟩ => ⟨S4096x2048, .f32⟩
  | .hbm, ⟨83, _⟩ => ⟨S4096x1, .f32⟩
  | .hbm, ⟨84, _⟩ => ⟨S_, .f32⟩
  | .hbm, ⟨85, _⟩ => ⟨S4096x1, .f32⟩
  | .hbm, ⟨86, _⟩ => ⟨S4096x1, .f32⟩
  | .hbm, ⟨87, _⟩ => ⟨S_, .f32⟩
  | .hbm, ⟨88, _⟩ => ⟨S4096, .f32⟩
  | .hbm, ⟨89, _⟩ => ⟨S4096x2048, .f32⟩
  | .hbm, ⟨90, _⟩ => ⟨S4096x2048, .f32⟩
  | .hbm, ⟨91, _⟩ => ⟨S4096x2048, .f32⟩
  | .hbm, ⟨92, _⟩ => ⟨S4096x2048, .f32⟩
  | .hbm, ⟨93, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_11 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_12 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_13 : Ref sig .tc := ⟨.hbm, 84, rfl⟩
abbrev main_v63 : Ref sig .tc := ⟨.hbm, 85, rfl⟩
abbrev main_v64 : Ref sig .tc := ⟨.hbm, 86, rfl⟩
abbrev main_cst_14 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩

abbrev nD : Nat := 1
abbrev τ : Topo := Topo.v7x

variable {F : FTy → Type} [FloatOps F]
-- ==== AdamWide.lean ====
abbrev S1x512x2048 : Shape := ⟨3, ![1, 512, 2048]⟩
abbrev S1x128x2048 : Shape := ⟨3, ![1, 128, 2048]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S1x512x2048, .f32⟩
  | .hbm, ⟨1, _⟩ => ⟨S1x512x2048, .f32⟩
  | .hbm, ⟨2, _⟩ => ⟨S1x512x2048, .f32⟩
  | .hbm, ⟨3, _⟩ => ⟨S1x512x2048, .f32⟩
  | .hbm, ⟨4, _⟩ => ⟨S1x512x2048, .f32⟩
  | .hbm, ⟨5, _⟩ => ⟨S1x512x2048, .f32⟩
  | .hbm, ⟨6, _⟩ => ⟨S1x512x2048, .f32⟩
  | .hbm, ⟨7, _⟩ => ⟨S1x512x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | _, _ => ⟨S1x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== AdamWideIdeal.lean ====
abbrev S1x512x2048 : Shape := ⟨3, ![1, 512, 2048]⟩
abbrev S1x128x2048 : Shape := ⟨3, ![1, 128, 2048]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S1x512x2048, .f32⟩
  | .hbm, ⟨1, _⟩ => ⟨S1x512x2048, .f32⟩
  | .hbm, ⟨2, _⟩ => ⟨S1x512x2048, .f32⟩
  | .hbm, ⟨3, _⟩ => ⟨S1x512x2048, .f32⟩
  | .hbm, ⟨4, _⟩ => ⟨S1x512x2048, .f32⟩
  | .hbm, ⟨5, _⟩ => ⟨S1x512x2048, .f32⟩
  | .hbm, ⟨6, _⟩ => ⟨S1x512x2048, .f32⟩
  | .hbm, ⟨7, _⟩ => ⟨S1x512x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | _, _ => ⟨S1x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== AdamWideRefIdeal.lean ====
abbrev S1x512x2048 : Shape := ⟨3, ![1, 512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x512x2048, .f32⟩
  | .hbm, ⟨1, _⟩ => ⟨S1x512x2048, .f32⟩
  | .hbm, ⟨2, _⟩ => ⟨S1x512x2048, .f32⟩
  | .hbm, ⟨3, _⟩ => ⟨S1x512x2048, .f32⟩
  | .hbm, ⟨4, _⟩ => ⟨S_, .f32⟩
  | .hbm, ⟨5, _⟩ => ⟨S1x512x2048, .f32⟩
  | .hbm, ⟨6, _⟩ => ⟨S1x512x2048, .f32⟩
  | .hbm, ⟨7, _⟩ => ⟨S_, .f32⟩
  | .hbm, ⟨8, _⟩ => ⟨S1x512x2048, .f32⟩
  | .hbm, ⟨9, _⟩ => ⟨S1x512x2048, .f32⟩
  | .hbm, ⟨10, _⟩ => ⟨S1x512x2048, .f32⟩
  | .hbm, ⟨11, _⟩ => ⟨S_, .f32⟩
  | .hbm, ⟨12, _⟩ => ⟨S1x512x2048, .f32⟩
  | .hbm, ⟨13, _⟩ => ⟨S1x512x2048, .f32⟩
  | .hbm, ⟨14, _⟩ => ⟨S1x512x2048, .f32⟩
  | .hbm, ⟨15, _⟩ => ⟨S_, .f32⟩
  | .hbm, ⟨16, _⟩ => ⟨S1x512x2048, .f32⟩
  | .hbm, ⟨17, _⟩ => ⟨S1x512x2048, .f32⟩
  | .hbm, ⟨18, _⟩ => ⟨S1x512x2048, .f32⟩
  | .hbm, ⟨19, _⟩ => ⟨S_, .f32⟩
  | .hbm, ⟨20, _⟩ => ⟨S1x512x2048, .f32⟩
  | .hbm, ⟨21, _⟩ => ⟨S1x512x2048, .f32⟩
  | .hbm, ⟨22, _⟩ => ⟨S_, .f32⟩
  | .hbm, ⟨23, _⟩ => ⟨S1x512x2048, .f32⟩
  | .hbm, ⟨24, _⟩ => ⟨S1x512x2048, .f32⟩
  | .hbm, ⟨25, _⟩ => ⟨S1x512x2048, .f32⟩
  | .hbm, ⟨26, _⟩ => ⟨S_, .f32⟩
  | .hbm, ⟨27, _⟩ => ⟨S1x512x2048, .f32⟩
  | .hbm, ⟨28, _⟩ => ⟨S1x512x2048, .f32⟩
  | .hbm, ⟨29, _⟩ => ⟨S1x512x2048, .f32⟩
  | .hbm, ⟨30, _⟩ => ⟨S_, .f32⟩
  | .hbm, ⟨31, _⟩ => ⟨S1x512x2048, .f32⟩
  | .hbm, ⟨32, _⟩ => ⟨S1x512x2048, .f32⟩
  | .hbm, ⟨33, _⟩ => ⟨S1x512x2048, .f32⟩
  | .hbm, ⟨34, _⟩ => ⟨S_, .f32⟩
  | .hbm, ⟨35, _⟩ => ⟨S1x512x2048, .f32⟩
  | .hbm, ⟨36, _⟩ => ⟨S1x512x2048, .f32⟩
  | _, _ => ⟨S1x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamIn.lean ====
abbrev S1x2048x1024 : Shape := ⟨3, ![1, 2048, 1024]⟩
abbrev S1x256x1024 : Shape := ⟨3, ![1, 256, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x2048x1024, .f32⟩
  | .hbm, ⟨3, _⟩ => ⟨S1x2048x1024, .f32⟩
  | .hbm, ⟨4, _⟩ => ⟨S1x2048x1024, .f32⟩
  | .hbm, ⟨5, _⟩ => ⟨S1x2048x1024, .f32⟩
  | .hbm, ⟨6, _⟩ => ⟨S1x2048x1024, .f32⟩
  | .hbm, ⟨7, _⟩ => ⟨S1x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== AdamInIdeal.lean ====
abbrev S1x2048x1024 : Shape := ⟨3, ![1, 2048, 1024]⟩
abbrev S1x256x1024 : Shape := ⟨3, ![1, 256, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x2048x1024, .f32⟩
  | .hbm, ⟨3, _⟩ => ⟨S1x2048x1024, .f32⟩
  | .hbm, ⟨4, _⟩ => ⟨S1x2048x1024, .f32⟩
  | .hbm, ⟨5, _⟩ => ⟨S1x2048x1024, .f32⟩
  | .hbm, ⟨6, _⟩ => ⟨S1x2048x1024, .f32⟩
  | .hbm, ⟨7, _⟩ => ⟨S1x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== AdamInRefIdeal.lean ====
abbrev S1x2048x1024 : Shape := ⟨3, ![1, 2048, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x2048x1024, .f32⟩
  | .hbm, ⟨3, _⟩ => ⟨S1x2048x1024, .f32⟩
  | .hbm, ⟨4, _⟩ => ⟨S_, .f32⟩
  | .hbm, ⟨5, _⟩ => ⟨S1x2048x1024, .f32⟩
  | .hbm, ⟨6, _⟩ => ⟨S1x2048x1024, .f32⟩
  | .hbm, ⟨7, _⟩ => ⟨S_, .f32⟩
  | .hbm, ⟨8, _⟩ => ⟨S1x2048x1024, .f32⟩
  | .hbm, ⟨9, _⟩ => ⟨S1x2048x1024, .f32⟩
  | .hbm, ⟨10, _⟩ => ⟨S1x2048x1024, .f32⟩
  | .hbm, ⟨11, _⟩ => ⟨S_, .f32⟩
  | .hbm, ⟨12, _⟩ => ⟨S1x2048x1024, .f32⟩
  | .hbm, ⟨13, _⟩ => ⟨S1x2048x1024, .f32⟩
  | .hbm, ⟨14, _⟩ => ⟨S1x2048x1024, .f32⟩
  | .hbm, ⟨15, _⟩ => ⟨S_, .f32⟩
  | .hbm, ⟨16, _⟩ => ⟨S1x2048x1024, .f32⟩
  | .hbm, ⟨17, _⟩ => ⟨S1x2048x1024, .f32⟩
  | .hbm, ⟨18, _⟩ => ⟨S1x2048x1024, .f32⟩
  | .hbm, ⟨19, _⟩ => ⟨S_, .f32⟩
  | .hbm, ⟨20, _⟩ => ⟨S1x2048x1024, .f32⟩
  | .hbm, ⟨21, _⟩ => ⟨S1x2048x1024, .f32⟩
  | .hbm, ⟨22, _⟩ => ⟨S_, .f32⟩
  | .hbm, ⟨23, _⟩ => ⟨S1x2048x1024, .f32⟩
  | .hbm, ⟨24, _⟩ => ⟨S1x2048x1024, .f32⟩
  | .hbm, ⟨25, _⟩ => ⟨S1x2048x1024, .f32⟩
  | .hbm, ⟨26, _⟩ => ⟨S_, .f32⟩
  | .hbm, ⟨27, _⟩ => ⟨S1x2048x1024, .f32⟩
  | .hbm, ⟨28, _⟩ => ⟨S1x2048x1024, .f32⟩
  | .hbm, ⟨29, _⟩ => ⟨S1x2048x1024, .f32⟩
  | .hbm, ⟨30, _⟩ => ⟨S_, .f32⟩
  | .hbm, ⟨31, _⟩ => ⟨S1x2048x1024, .f32⟩
  | .hbm, ⟨32, _⟩ => ⟨S1x2048x1024, .f32⟩
  | .hbm, ⟨33, _⟩ => ⟨S1x2048x1024, .f32⟩
  | .hbm, ⟨34, _⟩ => ⟨S_, .f32⟩
  | .hbm, ⟨35, _⟩ => ⟨S1x2048x1024, .f32⟩
  | .hbm, ⟨36, _⟩ => ⟨S1x2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamUp.lean ====
abbrev S2x2048x2816 : Shape := ⟨3, ![2, 2048, 2816]⟩
abbrev S1x64x2816 : Shape := ⟨3, ![1, 64, 2816]⟩
abbrev S64x2816 : Shape := ⟨2, ![64, 2816]⟩

abbrev nBuf : Space → Nat
  | .hbm => 8
  | .vmem => 16
  | .smem => 0
  | _ => 0

abbrev bufTy : (tb : Table) → Fin (tcTables nBuf tb) → BufTy
  | .hbm, ⟨0, _⟩ => ⟨S2x2048x2816, .f32⟩
  | .hbm, ⟨1, _⟩ => ⟨S2x2048x2816, .f32⟩
  | .hbm, ⟨2, _⟩ => ⟨S2x2048x2816, .f32⟩
  | .hbm, ⟨3, _⟩ => ⟨S2x2048x2816, .f32⟩
  | .hbm, ⟨4, _⟩ => ⟨S2x2048x2816, .f32⟩
  | .hbm, ⟨5, _⟩ => ⟨S2x2048x2816, .f32⟩
  | .hbm, ⟨6, _⟩ => ⟨S2x2048x2816, .f32⟩
  | .hbm, ⟨7, _⟩ => ⟨S2x2048x2816, .f32⟩
  | .local _ .vmem, ⟨0, _⟩ => ⟨S1x64x2816, .f32⟩
  | .local _ .vmem, ⟨1, _⟩ => ⟨S1x64x2816, .f32⟩
  | .local _ .vmem, ⟨2, _⟩ => ⟨S1x64x2816, .f32⟩
  | .local _ .vmem, ⟨3, _⟩ => ⟨S1x64x2816, .f32⟩
  | .local _ .vmem, ⟨4, _⟩ => ⟨S1x64x2816, .f32⟩
  | .local _ .vmem, ⟨5, _⟩ => ⟨S1x64x2816, .f32⟩
  | .local _ .vmem, ⟨6, _⟩ => ⟨S1x64x2816, .f32⟩
  | .local _ .vmem, ⟨7, _⟩ => ⟨S1x64x2816, .f32⟩
  | .local _ .vmem, ⟨8, _⟩ => ⟨S1x64x2816, .f32⟩
  | .local _ .vmem, ⟨9, _⟩ => ⟨S1x64x2816, .f32⟩
  | .local _ .vmem, ⟨10, _⟩ => ⟨S1x64x2816, .f32⟩
  | .local _ .vmem, ⟨11, _⟩ => ⟨S1x64x2816, .f32⟩
  | .local _ .vmem, ⟨12, _⟩ => ⟨S1x64x2816, .f32⟩
  | .local _ .vmem, ⟨13, _⟩ => ⟨S1x64x2816, .f32⟩
  | .local _ .vmem, ⟨14, _⟩ => ⟨S1x64x2816, .f32⟩
  | .local _ .vmem, ⟨15, _⟩ => ⟨S1x64x2816, .f32⟩
  | _, _ => ⟨S2x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![2, 32, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x64x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x64x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x64x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x64x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x64x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x64x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x64x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x64x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== AdamUpIdeal.lean ====
abbrev S2x2048x2816 : Shape := ⟨3, ![2, 2048, 2816]⟩
abbrev S1x64x2816 : Shape := ⟨3, ![1, 64, 2816]⟩
abbrev S64x2816 : Shape := ⟨2, ![64, 2816]⟩

abbrev nBuf : Space → Nat
  | .hbm => 8
  | .vmem => 16
  | .smem => 0
  | _ => 0

abbrev bufTy : (tb : Table) → Fin (tcTables nBuf tb) → BufTy
  | .hbm, ⟨0, _⟩ => ⟨S2x2048x2816, .f32⟩
  | .hbm, ⟨1, _⟩ => ⟨S2x2048x2816, .f32⟩
  | .hbm, ⟨2, _⟩ => ⟨S2x2048x2816, .f32⟩
  | .hbm, ⟨3, _⟩ => ⟨S2x2048x2816, .f32⟩
  | .hbm, ⟨4, _⟩ => ⟨S2x2048x2816, .f32⟩
  | .hbm, ⟨5, _⟩ => ⟨S2x2048x2816, .f32⟩
  | .hbm, ⟨6, _⟩ => ⟨S2x2048x2816, .f32⟩
  | .hbm, ⟨7, _⟩ => ⟨S2x2048x2816, .f32⟩
  | .local _ .vmem, ⟨0, _⟩ => ⟨S1x64x2816, .f32⟩
  | .local _ .vmem, ⟨1, _⟩ => ⟨S1x64x2816, .f32⟩
  | .local _ .vmem, ⟨2, _⟩ => ⟨S1x64x2816, .f32⟩
  | .local _ .vmem, ⟨3, _⟩ => ⟨S1x64x2816, .f32⟩
  | .local _ .vmem, ⟨4, _⟩ => ⟨S1x64x2816, .f32⟩
  | .local _ .vmem, ⟨5, _⟩ => ⟨S1x64x2816, .f32⟩
  | .local _ .vmem, ⟨6, _⟩ => ⟨S1x64x2816, .f32⟩
  | .local _ .vmem, ⟨7, _⟩ => ⟨S1x64x2816, .f32⟩
  | .local _ .vmem, ⟨8, _⟩ => ⟨S1x64x2816, .f32⟩
  | .local _ .vmem, ⟨9, _⟩ => ⟨S1x64x2816, .f32⟩
  | .local _ .vmem, ⟨10, _⟩ => ⟨S1x64x2816, .f32⟩
  | .local _ .vmem, ⟨11, _⟩ => ⟨S1x64x2816, .f32⟩
  | .local _ .vmem, ⟨12, _⟩ => ⟨S1x64x2816, .f32⟩
  | .local _ .vmem, ⟨13, _⟩ => ⟨S1x64x2816, .f32⟩
  | .local _ .vmem, ⟨14, _⟩ => ⟨S1x64x2816, .f32⟩
  | .local _ .vmem, ⟨15, _⟩ => ⟨S1x64x2816, .f32⟩
  | _, _ => ⟨S2x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![2, 32, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x64x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x64x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x64x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x64x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x64x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x64x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x64x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x64x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== AdamUpRefIdeal.lean ====
abbrev S2x2048x2816 : Shape := ⟨3, ![2, 2048, 2816]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x2048x2816, .f32⟩
  | .hbm, ⟨1, _⟩ => ⟨S2x2048x2816, .f32⟩
  | .hbm, ⟨2, _⟩ => ⟨S2x2048x2816, .f32⟩
  | .hbm, ⟨3, _⟩ => ⟨S2x2048x2816, .f32⟩
  | .hbm, ⟨4, _⟩ => ⟨S_, .f32⟩
  | .hbm, ⟨5, _⟩ => ⟨S2x2048x2816, .f32⟩
  | .hbm, ⟨6, _⟩ => ⟨S2x2048x2816, .f32⟩
  | .hbm, ⟨7, _⟩ => ⟨S_, .f32⟩
  | .hbm, ⟨8, _⟩ => ⟨S2x2048x2816, .f32⟩
  | .hbm, ⟨9, _⟩ => ⟨S2x2048x2816, .f32⟩
  | .hbm, ⟨10, _⟩ => ⟨S2x2048x2816, .f32⟩
  | .hbm, ⟨11, _⟩ => ⟨S_, .f32⟩
  | .hbm, ⟨12, _⟩ => ⟨S2x2048x2816, .f32⟩
  | .hbm, ⟨13, _⟩ => ⟨S2x2048x2816, .f32⟩
  | .hbm, ⟨14, _⟩ => ⟨S2x2048x2816, .f32⟩
  | .hbm, ⟨15, _⟩ => ⟨S_, .f32⟩
  | .hbm, ⟨16, _⟩ => ⟨S2x2048x2816, .f32⟩
  | .hbm, ⟨17, _⟩ => ⟨S2x2048x2816, .f32⟩
  | .hbm, ⟨18, _⟩ => ⟨S2x2048x2816, .f32⟩
  | .hbm, ⟨19, _⟩ => ⟨S_, .f32⟩
  | .hbm, ⟨20, _⟩ => ⟨S2x2048x2816, .f32⟩
  | .hbm, ⟨21, _⟩ => ⟨S2x2048x2816, .f32⟩
  | .hbm, ⟨22, _⟩ => ⟨S_, .f32⟩
  | .hbm, ⟨23, _⟩ => ⟨S2x2048x2816, .f32⟩
  | .hbm, ⟨24, _⟩ => ⟨S2x2048x2816, .f32⟩
  | .hbm, ⟨25, _⟩ => ⟨S2x2048x2816, .f32⟩
  | .hbm, ⟨26, _⟩ => ⟨S_, .f32⟩
  | .hbm, ⟨27, _⟩ => ⟨S2x2048x2816, .f32⟩
  | .hbm, ⟨28, _⟩ => ⟨S2x2048x2816, .f32⟩
  | .hbm, ⟨29, _⟩ => ⟨S2x2048x2816, .f32⟩
  | .hbm, ⟨30, _⟩ => ⟨S_, .f32⟩
  | .hbm, ⟨31, _⟩ => ⟨S2x2048x2816, .f32⟩
  | .hbm, ⟨32, _⟩ => ⟨S2x2048x2816, .f32⟩
  | .hbm, ⟨33, _⟩ => ⟨S2x2048x2816, .f32⟩
  | .hbm, ⟨34, _⟩ => ⟨S_, .f32⟩
  | .hbm, ⟨35, _⟩ => ⟨S2x2048x2816, .f32⟩
  | .hbm, ⟨36, _⟩ => ⟨S2x2048x2816, .f32⟩
  | _, _ => ⟨S2x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDown.lean ====
abbrev S2x1408x2048 : Shape := ⟨3, ![2, 1408, 2048]⟩
abbrev S1x128x2048 : Shape := ⟨3, ![1, 128, 2048]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S2x1408x2048, .f32⟩
  | .hbm, ⟨1, _⟩ => ⟨S2x1408x2048, .f32⟩
  | .hbm, ⟨2, _⟩ => ⟨S2x1408x2048, .f32⟩
  | .hbm, ⟨3, _⟩ => ⟨S2x1408x2048, .f32⟩
  | .hbm, ⟨4, _⟩ => ⟨S2x1408x2048, .f32⟩
  | .hbm, ⟨5, _⟩ => ⟨S2x1408x2048, .f32⟩
  | .hbm, ⟨6, _⟩ => ⟨S2x1408x2048, .f32⟩
  | .hbm, ⟨7, _⟩ => ⟨S2x1408x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | _, _ => ⟨S2x1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== AdamDownRefIdeal.lean ====
abbrev S2x1408x2048 : Shape := ⟨3, ![2, 1408, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1408x2048, .f32⟩
  | .hbm, ⟨1, _⟩ => ⟨S2x1408x2048, .f32⟩
  | .hbm, ⟨2, _⟩ => ⟨S2x1408x2048, .f32⟩
  | .hbm, ⟨3, _⟩ => ⟨S2x1408x2048, .f32⟩
  | .hbm, ⟨4, _⟩ => ⟨S_, .f32⟩
  | .hbm, ⟨5, _⟩ => ⟨S2x1408x2048, .f32⟩
  | .hbm, ⟨6, _⟩ => ⟨S2x1408x2048, .f32⟩
  | .hbm, ⟨7, _⟩ => ⟨S_, .f32⟩
  | .hbm, ⟨8, _⟩ => ⟨S2x1408x2048, .f32⟩
  | .hbm, ⟨9, _⟩ => ⟨S2x1408x2048, .f32⟩
  | .hbm, ⟨10, _⟩ => ⟨S2x1408x2048, .f32⟩
  | .hbm, ⟨11, _⟩ => ⟨S_, .f32⟩
  | .hbm, ⟨12, _⟩ => ⟨S2x1408x2048, .f32⟩
  | .hbm, ⟨13, _⟩ => ⟨S2x1408x2048, .f32⟩
  | .hbm, ⟨14, _⟩ => ⟨S2x1408x2048, .f32⟩
  | .hbm, ⟨15, _⟩ => ⟨S_, .f32⟩
  | .hbm, ⟨16, _⟩ => ⟨S2x1408x2048, .f32⟩
  | .hbm, ⟨17, _⟩ => ⟨S2x1408x2048, .f32⟩
  | .hbm, ⟨18, _⟩ => ⟨S2x1408x2048, .f32⟩
  | .hbm, ⟨19, _⟩ => ⟨S_, .f32⟩
  | .hbm, ⟨20, _⟩ => ⟨S2x1408x2048, .f32⟩
  | .hbm, ⟨21, _⟩ => ⟨S2x1408x2048, .f32⟩
  | .hbm, ⟨22, _⟩ => ⟨S_, .f32⟩
  | .hbm, ⟨23, _⟩ => ⟨S2x1408x2048, .f32⟩
  | .hbm, ⟨24, _⟩ => ⟨S2x1408x2048, .f32⟩
  | .hbm, ⟨25, _⟩ => ⟨S2x1408x2048, .f32⟩
  | .hbm, ⟨26, _⟩ => ⟨S_, .f32⟩
  | .hbm, ⟨27, _⟩ => ⟨S2x1408x2048, .f32⟩
  | .hbm, ⟨28, _⟩ => ⟨S2x1408x2048, .f32⟩
  | .hbm, ⟨29, _⟩ => ⟨S2x1408x2048, .f32⟩
  | .hbm, ⟨30, _⟩ => ⟨S_, .f32⟩
  | .hbm, ⟨31, _⟩ => ⟨S2x1408x2048, .f32⟩
  | .hbm, ⟨32, _⟩ => ⟨S2x1408x2048, .f32⟩
  | .hbm, ⟨33, _⟩ => ⟨S2x1408x2048, .f32⟩
  | .hbm, ⟨34, _⟩ => ⟨S_, .f32⟩
  | .hbm, ⟨35, _⟩ => ⟨S2x1408x2048, .f32⟩
  | .hbm, ⟨36, _⟩ => ⟨S2x1408x2048, .f32⟩
  | _, _ => ⟨S2x1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Rd.lean ====
/- Blocks of extended reals that hold real numbers: which real array each vector operation leaves. -/
module

public import Idealize.ShloMosaic.Lib.Updates.Memory
public import Idealize.ShloMosaic.Lib.Updates.Values
public import Idealize.ShloMosaic.Lib.MatmulPlain
public import Idealize.ShloMosaic.Lib.Pointwise.SelectCore
public import Idealize.ShloMosaic.Lib.Pointwise.ShapeOpsCore
public import Mathlib.Algebra.BigOperators.Intervals
public import Mathlib.Analysis.SpecialFunctions.Log.Basic

@[expose] public section

noncomputable section

namespace Cert.Stick

open Idealize.ShloMosaic Idealize.ShloMosaic.Updates
open Idealize.ShloMosaic.LaneScatter (Blk Vec1)
open scoped BigOperators

variable {a b k n m : ℕ} {φ ψ : FTy}

/-- The block holds the real array `f`. -/
def Rd (x : (Blk a b).Idx → EReal) (f : ℕ → ℕ → ℝ) : Prop := IsArr x fun p => ((f p.1 p.2 : ℝ) : EReal)

/-- The block of bits holds the predicate `p`. -/
def Bd (x : (Blk a b).Idx → BitVec 1) (p : ℕ → ℕ → Prop) : Prop :=
  ∀ ι, (x ι = 1#1 ↔ p (ι 0).val (ι 1).val)

theorem Rd.at {x : (Blk a b).Idx → EReal} {f} (h : Rd x f) (i : Fin a) (j : Fin b) : x (ValueIdx.ix2 i j) = ((f i j : ℝ) : EReal) :=
  h (ValueIdx.ix2 i j)

theorem Rd.intro {x : (Blk a b).Idx → EReal} {f : ℕ → ℕ → ℝ} (h : ∀ (i : Fin a) (j : Fin b), x (ValueIdx.ix2 i j) = ((f i j : ℝ) : EReal)) : Rd x f := fun ι => by
  have e := ValueIdx.eq_ix2 (n0 := a) (n1 := b) ι
  rw [e]; exact h _ _

theorem Rd.congr {x : (Blk a b).Idx → EReal} {f g} (h : Rd x f) (e : ∀ i j, i < a → j < b → f i j = g i j) : Rd x g :=
  IsArr.congr h fun i j hi hj => by rw [e i j hi hj]

/-- A splat of a number holds that number everywhere. -/
theorem rd_splat {c : EReal} {r : ℝ} (h : c = (r : EReal)) : Rd (a := a) (b := b) (fun _ => c) fun _ _ => r := fun _ => h

theorem rd_addf {x y : FVec Ideal (Blk a b) φ} {f g} (hx : Rd x f) (hy : Rd y g) : Rd (addf x y) fun i j => f i j + g i j := fun ι => by
  show (x ι + y ι : EReal) = _; rw [hx ι, hy ι, ← EReal.coe_add]

theorem rd_subf {x y : FVec Ideal (Blk a b) φ} {f g} (hx : Rd x f) (hy : Rd y g) : Rd (subf x y) fun i j => f i j - g i j := fun ι => by
  show (x ι - y ι : EReal) = _; rw [hx ι, hy ι, ← EReal.coe_sub]

theorem rd_mulf {x y : FVec Ideal (Blk a b) φ} {f g} (hx : Rd x f) (hy : Rd y g) : Rd (mulf x y) fun i j => f i j * g i j := fun ι => by
  show (x ι * y ι : EReal) = _; rw [hx ι, hy ι, ← EReal.coe_mul]

theorem rd_absf {x : FVec Ideal (Blk a b) φ} {f} (hx : Rd x f) : Rd (absf x) fun i j => |f i j| := fun ι => by
  show max (x ι : EReal) (-x ι) = _
  rw [hx ι, ← EReal.coe_neg]
  show max ((f _ _ : ℝ) : EReal) ((-f _ _ : ℝ) : EReal) = ((|f _ _| : ℝ) : EReal)
  rw [abs_eq_max_neg]
  exact (Monotone.map_max (fun a b h => EReal.coe_le_coe_iff.2 h)).symm

theorem rd_minimumf {x y : FVec Ideal (Blk a b) φ} {f g} (hx : Rd x f) (hy : Rd y g) : Rd (minimumf x y) fun i j => min (f i j) (g i j) := fun ι => by
  show min (x ι : EReal) (y ι) = _
  rw [hx ι, hy ι]
  exact (Monotone.map_min (fun a b h => EReal.coe_le_coe_iff.2 h)).symm

theorem rd_exp {x : FVec Ideal (Blk a b) φ} {f} (hx : Rd x f) : Rd (exp x) fun i j => Real.exp (f i j) := fun ι => by
  show Ideal.exp (x ι) = _; rw [hx ι]; rfl

theorem rd_log {x : FVec Ideal (Blk a b) φ} {f} (hx : Rd x f) (h : ∀ i j, 0 < f i j) : Rd (log x) fun i j => Real.log (f i j) := fun ι => by
  show Ideal.log (x ι) = _; rw [hx ι, Ideal.log_coe, if_neg (not_le.2 (h _ _))]

theorem rd_reciprocal {x : FVec Ideal (Blk a b) φ} {f} (t : Bool) (hx : Rd x f) (h : ∀ i j, 0 < f i j) :
    Rd (reciprocal t x) fun i j => 1 / f i j := fun ι => by
  show Ideal.div 1 (x ι) = _; rw [hx ι, Ideal.div_coe (h _ _).ne', one_mul]

theorem rd_truncf {x : FVec Ideal (Blk a b) φ} {f} (h : ψ.bits < φ.bits) (hx : Rd x f) : Rd (truncf ψ x h) f := hx
theorem rd_extf {x : FVec Ideal (Blk a b) φ} {f} (h : φ.bits < ψ.bits) (hx : Rd x f) : Rd (extf ψ x h) f := hx

theorem rd_select {c : IVec (Blk a b) 1} {x y : FVec Ideal (Blk a b) φ} {p : ℕ → ℕ → Prop} [∀ i j, Decidable (p i j)] {f g}
    (hc : Bd c p) (hx : Rd x f) (hy : Rd y g) : Rd (select c x y) fun i j => if p i j then f i j else g i j := fun ι => by
  show Scalar.select (c ι) (x ι) (y ι) = _
  unfold Scalar.select
  by_cases h : c ι = 1#1
  · have h' := (hc ι).1 h
    rw [if_pos (show c ι = 1 from h), hx ι]
    simp only [if_pos h']
  · have h' : ¬ p (ι 0).val (ι 1).val := fun e => h ((hc ι).2 e)
    rw [if_neg (show ¬ c ι = 1 from h), hy ι]
    simp only [if_neg h']

theorem bd_oge {x y : FVec Ideal (Blk a b) φ} {f g} (hx : Rd x f) (hy : Rd y g) : Bd (cmpf .oge x y) fun i j => g i j ≤ f i j := fun ι => by
  show BitVec.ofBool (decide ((y ι : EReal) ≤ x ι)) = 1#1 ↔ _
  have e : ((y ι : EReal) ≤ x ι) ↔ g (ι 0).val (ι 1).val ≤ f (ι 0).val (ι 1).val := by
    rw [hx ι, hy ι]; exact EReal.coe_le_coe_iff
  by_cases h : g (ι 0).val (ι 1).val ≤ f (ι 0).val (ι 1).val
  · simp [h, e.2 h]
  · simp [h, mt e.1 h]

/-- A column repeated along the lanes. -/
theorem rd_broadcastTo {x : FVec Ideal (Blk a 1) φ} {f} (hx : Rd x f) (h : (Blk a 1).Broadcasts (Blk a b)) :
    Rd (broadcastTo (Blk a b) x h) fun i _ => f i 0 := fun ι => by
  show x _ = _
  rw [hx]
  have e1 : ∀ (z : (Blk a 1).Idx), (z 1).val = 0 := fun z => by have : (z 1).val < 1 := (z 1).isLt; omega
  simp only [e1]
  congr 2
  by_cases ha : a = 1
  · subst ha
    have h0 : (ι 0).val < 1 := (ι 0).isLt
    rw [show (ι 0).val = 0 by omega]
    simp
  · have : ¬ (Blk a 1).size 0 = 1 := ha
    show (if h1 : (Blk a 1).size 0 = 1 then (⟨0, by omega⟩ : Fin ((Blk a 1).size 0)) else _).val = _
    rw [dif_neg this]
    rfl

theorem rd_shapeCast_self {x : FVec Ideal (Blk a b) φ} {f} (hx : Rd x f) (h : (Blk a b).ShapeCasts (Blk a b)) :
    Rd (shapeCast (Blk a b) x h) f := isArr_cast_self hx h

/-- The rows from `o` on. -/
theorem rd_slice {x : (Blk a b).Idx → EReal} {f} (hx : Rd x f) (o : ℕ) {off : Fin 2 → ℕ} (ho : off = ![o, 0]) (h : (Blk a b).Slices off (Blk n b)) :
    Rd (extractStridedSlice (Blk n b) off x h) fun i j => f (o + i) j := fun ι => by
  subst ho
  show x _ = _
  rw [hx]
  show ((f (o + (ι 0).val) (0 + (ι 1).val) : ℝ) : EReal) = _
  rw [Nat.zero_add]

/-- Two blocks one over the other. -/
theorem rd_concat {x : FVec Ideal (Blk n b) φ} {y : FVec Ideal (Blk n b) φ} {f g} (hx : Rd x f) (hy : Rd y g)
    (h : Shape.Concatenates [Blk n b, Blk n b] (Blk m b) 0) :
    Rd (concatenate (Blk m b) 0 [⟨Blk n b, x⟩, ⟨Blk n b, y⟩] h) fun i j => if i < n then f i j else g (i - n) j := fun ι => by
  rw [concatenate_pair_apply]
  split
  · next hlt =>
    have hlt' : (ι 0).val < n := hlt
    simp only [if_pos hlt']
    exact hx _
  · next hlt =>
    have hlt' : ¬ (ι 0).val < n := hlt
    simp only [if_neg hlt']
    exact hy _

/-- A finite sum of real numbers, as extended reals. -/
theorem coe_sum {ι : Type} (s : Finset ι) (f : ι → ℝ) : ((∑ k ∈ s, f k : ℝ) : EReal) = ∑ k ∈ s, (f k : EReal) := by
  classical
  induction s using Finset.induction_on with
  | empty => simp
  | insert i s hi ih => rw [Finset.sum_insert hi, Finset.sum_insert hi, EReal.coe_add, ih]

/-- The sums along the rows, as a column. -/
theorem rd_rowSum {x : FVec Ideal (Blk a b) .f32} {f} (hx : Rd x f) (h : (Blk a b).Reduces [1] (Vec1 a)) (hφ : FKind.Formats .f32)
    (hacc : (0#32 : BitVec 32) = FKind.neutral .add .f32 hφ) (hc : (Vec1 a).ShapeCasts (Blk a 1)) :
    Rd (shapeCast (Blk a 1) (multiReduction .add [1] (Vec1 a) x 0x00000000#32 h hφ hacc) hc) fun i _ => ∑ j ∈ Finset.range b, f i j := fun ι => by
  show multiReduction .add [1] (Vec1 a) x 0x00000000#32 h hφ hacc (Shape.reshapeEquiv hc ι) = _
  have e : Shape.reshapeEquiv hc ι = (ValueIdx.ix1 (n := a) (ι 0) : (Vec1 a).Idx) :=
    Shape.reshapeEquiv_eq_of_rowMajor hc (by
      rw [Shape.rowMajor_val_one, Shape.rowMajor_val_two]
      have : (ι 1).val < 1 := (ι 1).isLt
      show (ι 0).val = (ι 0).val * 1 + (ι 1).val
      omega)
  rw [e, Ideal.multiReduction_add_single]
  show _ = ((∑ j ∈ Finset.range b, f (ι 0).val j : ℝ) : EReal)
  rw [Finset.sum_range, coe_sum]
  refine Finset.sum_congr rfl fun k _ => ?_
  rw [hx]
  rfl

variable {p q r : ℕ}

/-- A sum of products of real numbers, over a finite range. -/
theorem sum_coe (K : ℕ) (x y : Fin K → EReal) (f g : ℕ → ℝ) (hx : ∀ k, x k = (f k : EReal)) (hy : ∀ k, y k = (g k : EReal)) :
    ∑ k : Fin K, x k * y k = ((∑ k ∈ Finset.range K, f k * g k : ℝ) : EReal) := by
  rw [Finset.sum_range, coe_sum]
  exact Finset.sum_congr rfl fun k _ => by rw [hx, hy, ← EReal.coe_mul]

theorem rd_matmul {x : FVec Ideal (Blk p q) φ} {y : FVec Ideal (Blk q r) ψ} {c : FVec Ideal (Blk p r) .f32} {f g e} (prec) (hx : Rd x f) (hy : Rd y g)
    (hc : Rd c e) : Rd (matmul (DotDims.plain p q r) prec x y c) fun i j => e i j + ∑ l ∈ Finset.range q, f i l * g l j := Rd.intro fun i j => by
  refine (Ideal.matmul_plain_apply prec x y c i j).trans ?_
  rw [hc.at, sum_coe q _ _ (fun l => f i l) (fun l => g l j) (fun l => hx.at _ _) (fun l => hy.at _ _), ← EReal.coe_add]

theorem rd_matmulT {x : FVec Ideal (Blk p q) φ} {y : FVec Ideal (Blk r q) ψ} {c : FVec Ideal (Blk p r) .f32} {f g e} (prec) (hx : Rd x f) (hy : Rd y g)
    (hc : Rd c e) : Rd (matmul (DotDims.transposedRhs p q r) prec x y c) fun i j => e i j + ∑ l ∈ Finset.range q, f i l * g j l := Rd.intro fun i j => by
  refine (Ideal.matmul_transposedRhs_apply prec x y c i j).trans ?_
  rw [hc.at, sum_coe q _ _ (fun l => f i l) (fun l => g j l) (fun l => hx.at _ _) (fun l => hy.at _ _), ← EReal.coe_add]

/-- `[K,M]ᵀ × [K,N]`: both operands contracted over their rows. -/
def tnDims (K M N : ℕ) : DotDims (Blk K M) (Blk K N) (Blk M N) where
  lhsContracting := [0]
  rhsContracting := [0]
  lhsNonContracting := [1]
  rhsNonContracting := [1]
  lhsBatch := []
  rhsBatch := []
  wf := ⟨rfl, by simp, rfl, by simp, by simp, by simp, (by decide : ([1, 0] : List (Fin 2)).Perm (List.finRange 2)),
    (by decide : ([1, 0] : List (Fin 2)).Perm (List.finRange 2)), rfl, Nat.two_pos,
    fun b => by fin_cases b <;> rfl⟩

theorem tn_apply {K M N : ℕ} (prec : Option ContractPrecision)
    (lhs : FVec Ideal (Blk K M) φ) (rhs : FVec Ideal (Blk K N) ψ) (acc : FVec Ideal (Blk M N) .f32) (i : Fin M) (j : Fin N) :
    matmul (tnDims K M N) prec lhs rhs acc (ValueIdx.ix2 i j) = acc (ValueIdx.ix2 i j) + ∑ k : Fin K, lhs (ValueIdx.ix2 k i) * rhs (ValueIdx.ix2 k j) := by
  have hr : (tnDims K M N).contr.rank = 1 := rfl
  have hs : (tnDims K M N).contr.size ⟨0, by rw [hr]; exact Nat.one_pos⟩ = K := rfl
  show FloatOps.matmul (tnDims K M N) prec lhs rhs acc (ValueIdx.ix2 i j) = _
  rw [Ideal.matmul_apply, ← Equiv.sum_comp (ValueIdx.contrEquiv1 _ K hr hs).symm]
  refine congrArg (acc (ValueIdx.ix2 i j) + ·) (Finset.sum_congr rfl fun k _ => ?_)
  have hk := ValueIdx.contrEquiv1_symm_val _ K hr hs k
  have el : (tnDims K M N).lhsIdx (ValueIdx.ix2 i j) ((ValueIdx.contrEquiv1 _ K hr hs).symm k) = ValueIdx.ix2 k i := by
    funext a; apply Fin.ext
    match a with
    | ⟨0, _⟩ => exact hk
    | ⟨1, _⟩ => rfl
  have er : (tnDims K M N).rhsIdx (ValueIdx.ix2 i j) ((ValueIdx.contrEquiv1 _ K hr hs).symm k) = ValueIdx.ix2 k j := by
    funext a; apply Fin.ext
    match a with
    | ⟨0, _⟩ => exact hk
    | ⟨1, _⟩ => rfl
  rw [el, er]

theorem rd_matmulTN {x : FVec Ideal (Blk q p) φ} {y : FVec Ideal (Blk q r) ψ} {c : FVec Ideal (Blk p r) .f32} {f g e} (prec) (hx : Rd x f) (hy : Rd y g)
    (hc : Rd c e) : Rd (matmul (tnDims q p r) prec x y c) fun i j => e i j + ∑ l ∈ Finset.range q, f l i * g l j := Rd.intro fun i j => by
  refine (tn_apply prec x y c i j).trans ?_
  rw [hc.at, sum_coe q _ _ (fun l => f l i) (fun l => g l j) (fun l => hx.at _ _) (fun l => hy.at _ _), ← EReal.coe_add]

end Cert.Stick

end
-- ==== Proof.Bounded.lean ====
/- What the precondition says of the arguments: every entry is a number. -/
module

public import proofs.«01_k».proof.Defs
public import proofs.«01_k».proof.Proof.Rd
public import Idealize.ShloMosaic.PureOps.Ideal.Laws

@[expose] public section

noncomputable section

namespace Cert.Stick

open Idealize.ShloMosaic Idealize.ShloMosaic.Updates
open Idealize.ShloMosaic.LaneScatter (Blk Vec1)

/-- The precondition's shape facts. -/
theorem finite_facts : Cert.Pre_finite.Facts := ⟨by decide, by decide⟩

/-- Two blocks that hold the same numbers are equal. -/
theorem Rd.eq {a b : ℕ} {x y : (Blk a b).Idx → EReal} {f : ℕ → ℕ → ℝ} (hx : Rd x f) (hy : Rd y f) : x = y :=
  funext fun ι => (hx ι).trans (hy ι).symm

/-- A block whose entries' sizes are below infinity holds numbers. -/
theorem Rd.of_lt_top {a b : ℕ} {x : (Blk a b).Idx → EReal} (h : ∀ ι, max (x ι) (-x ι) < ⊤) : ∃ X : ℕ → ℕ → ℝ, Rd x X := by
  refine ⟨fun r c => if h : r < a ∧ c < b then (x (ValueIdx.ix2 ⟨r, h.1⟩ ⟨c, h.2⟩)).toReal else 0, Rd.intro fun i j => ?_⟩
  rw [dif_pos ⟨i.isLt, j.isLt⟩]
  have hx := h (ValueIdx.ix2 i j)
  refine (EReal.coe_toReal ?_ ?_).symm
  · exact fun e => absurd (lt_of_le_of_lt (le_max_left _ _) hx) (by rw [e]; exact lt_irrefl _)
  · exact fun e => absurd (lt_of_le_of_lt (le_max_right _ _) hx) (by rw [e, EReal.neg_bot]; exact lt_irrefl _)

theorem ofBits_inf : Ideal.ofBits .f32 0x7F800000#32 = ⊤ := by simp [Ideal.ofBits, Ideal.ieee]

theorem and_one {p q : BitVec 1} (h : p &&& q = 1#1) : p = 1#1 ∧ q = 1#1 := by
  revert p q; decide

theorem lt_of_bit {p q : EReal} (h : BitVec.ofBool (decide (p < q)) = 1#1) : p < q := by
  by_contra hn
  rw [decide_eq_false hn] at h
  exact absurd h (by decide)

/-- Under the precondition each argument holds numbers. -/
theorem args_real {x0 x1 x2 x3 : (Blk 4096 2048).Idx → EReal}
    (h : @Cert.Pre_finite.fn finite_facts Ideal _ x0 x1 x2 x3 = fun _ => 1#1) :
    (∃ X, Rd x0 X) ∧ (∃ X, Rd x1 X) ∧ (∃ X, Rd x2 X) ∧ ∃ X, Rd x3 X := by
  have hbit : ∀ ι, ((BitVec.ofBool (decide (max (x0 ι) (-x0 ι) < Ideal.ofBits .f32 0x7F800000#32))
      &&& BitVec.ofBool (decide (max (x1 ι) (-x1 ι) < Ideal.ofBits .f32 0x7F800000#32)))
      &&& BitVec.ofBool (decide (max (x2 ι) (-x2 ι) < Ideal.ofBits .f32 0x7F800000#32)))
      &&& BitVec.ofBool (decide (max (x3 ι) (-x3 ι) < Ideal.ofBits .f32 0x7F800000#32)) = 1#1 := fun ι => congrFun h ι
  simp only [ofBits_inf] at hbit
  exact ⟨Rd.of_lt_top fun ι => lt_of_bit (and_one (and_one (and_one (hbit ι)).1).1).1,
    Rd.of_lt_top fun ι => lt_of_bit (and_one (and_one (and_one (hbit ι)).1).1).2,
    Rd.of_lt_top fun ι => lt_of_bit (and_one (and_one (hbit ι)).1).2,
    Rd.of_lt_top fun ι => lt_of_bit (and_one (hbit ι)).2⟩

end Cert.Stick

end
-- ==== Proof.Tile.lean ====
/- One tile of the backward of stick-breaking attention: the vector operations on `n` queries and 256 keys, and the real arrays they leave. -/
module

public import proofs.«01_k».proof.Proof.Rd
public import Idealize.ShloMosaic.Lib.IdealHost
public import Mathlib.Tactic.Ring

@[expose] public section

noncomputable section

namespace Cert.Stick

open Idealize.ShloMosaic Idealize.ShloMosaic.Updates
open Idealize.ShloMosaic.LaneScatter (Blk Vec1)
open scoped BigOperators

/-- The scale of the scores: the real number that the kernel's and the reference's literal denotes. -/
def scl : ℝ := 11863283 / 134217728

theorem c0 : (Scalar.ofBits (F := Ideal) .f32 0x00000000#32 : EReal) = ((0 : ℝ) : EReal) := Ideal.ofBits_zero_f32
theorem c1 : (Scalar.ofBits (F := Ideal) .f32 0x3F800000#32 : EReal) = ((1 : ℝ) : EReal) := Ideal.ofBits_one_f32
theorem cs : (Scalar.ofBits (F := Ideal) .f32 0x3DB504F3#32 : EReal) = (scl : EReal) := by
  show Ideal.ofBits .f32 0x3DB504F3#32 = _
  simp [scl, Ideal.ofBits, Ideal.ieee, -EReal.coe_mul]; norm_num

/-- One head: queries, keys, values, the gradient of the output, and for each query the sum of its logarithms. -/
structure Head where
  Q : ℕ → ℕ → ℝ
  K : ℕ → ℕ → ℝ
  V : ℕ → ℕ → ℝ
  G : ℕ → ℕ → ℝ
  L : ℕ → ℝ

namespace Head

variable (D : Head)

/-- The scaled score. -/
def z (t j : ℕ) : ℝ := (∑ d ∈ Finset.range 128, D.Q t d * D.K j d) * scl
def e (t j : ℕ) : ℝ := Real.exp (-|D.z t j|)
/-- The logarithm of the score's sigmoid. -/
def lb (t j : ℕ) : ℝ := min (D.z t j) 0 - Real.log (1 + D.e t j)
/-- The logarithm of one minus the sigmoid, zero where the key doesn't come before the query. -/
def lm (t j : ℕ) : ℝ := if j < t then D.lb t j - D.z t j else 0
/-- The attention weight. -/
def a (t j : ℕ) : ℝ := if j < t then Real.exp (D.lb t j + (D.L t - ∑ l ∈ Finset.range (j + 1), D.lm t l)) else 0
/-- The weight times its gradient. -/
def p (t j : ℕ) : ℝ := D.a t j * ∑ d ∈ Finset.range 128, D.G t d * D.V j d
/-- The sigmoid of the score. -/
def sg (t j : ℕ) : ℝ := (if 0 ≤ D.z t j then 1 else D.e t j) * (1 / (1 + D.e t j))
/-- The gradient of the unscaled score. -/
def dz (t j : ℕ) : ℝ := (if j < t then D.p t j - (∑ l ∈ Finset.range (j + 1), D.p t l) * D.sg t j else 0) * scl

theorem e_pos (t j : ℕ) : 0 < D.e t j := Real.exp_pos _

end Head

/-! ### The operations -/

variable {n w : ℕ}

/-- The shape facts of a tile of `n` queries; `w` is twice `n`. -/
structure Sh (n w : ℕ) : Prop where
  cat : Shape.Concatenates [Blk n 256, Blk n 256] (Blk w 256) 0
  s0 : (Blk w 256).Slices ![0, 0] (Blk n 256)
  s1 : (Blk w 256).Slices ![n, 0] (Blk n 256)
  bc : (Blk n 1).Broadcasts (Blk n 256)
  red : (Blk n 256).Reduces [1] (Vec1 n)
  col : (Vec1 n).ShapeCasts (Blk n 1)
  self1 : (Blk n 1).ShapeCasts (Blk n 1)

abbrev M (a b : ℕ) := FVec Ideal (Blk a b) .f32
abbrev H (a b : ℕ) := FVec Ideal (Blk a b) .bf16
abbrev zeros (a b : ℕ) : M a b := constant (Blk a b) .f32 0x00000000#32
abbrev spl (a b : ℕ) (c : BitVec 32) : M a b := broadcast (Blk a b) (Scalar.ofBits .f32 c)
theorem narrow : FTy.bits .bf16 < FTy.bits .f32 := by decide

/-- The block where the mask is set, zero elsewhere; without a mask, the block. -/
def tMask (m : Option (IVec (Blk n 256) 1)) (x : M n 256) : M n 256 :=
  match m with
  | none => x
  | some m => select m x (spl n 256 0x00000000#32)

def tZ (q : H n 128) (k : H 256 128) : M n 256 :=
  mulf (matmul (DotDims.transposedRhs n 128 256) none q k (zeros n 256)) (spl n 256 0x3DB504F3#32)
def tE (z : M n 256) : M n 256 := exp (subf (spl n 256 0x00000000#32) (absf z))
def tLb (z : M n 256) : M n 256 := subf (minimumf z (spl n 256 0x00000000#32)) (log (addf (spl n 256 0x3F800000#32) (tE z)))
def tL1 (m : Option (IVec (Blk n 256) 1)) (z : M n 256) : M n 256 := tMask m (subf (tLb z) z)
def tCat (s : Sh n w) (upto : H 256 256) (x : M n 256) : M w 256 :=
  matmul (DotDims.plain w 256 256) none
    (concatenate (Blk w 256) 0 [⟨Blk n 256, truncf .bf16 x narrow⟩, ⟨Blk n 256, truncf .bf16 (subf x (extf .f32 (truncf .bf16 x narrow) narrow)) narrow⟩] s.cat)
    upto (zeros w 256)
def tCum (s : Sh n w) (upto : H 256 256) (x : M n 256) : M n 256 :=
  addf (extractStridedSlice (Blk n 256) ![0, 0] (tCat s upto x) s.s0) (extractStridedSlice (Blk n 256) ![n, 0] (tCat s upto x) s.s1)
def tA (s : Sh n w) (upto : H 256 256) (m : Option (IVec (Blk n 256) 1)) (z : M n 256) (l pre : M n 1) : M n 256 :=
  tMask m (exp (addf (tLb z) (subf (broadcastTo (Blk n 256) (subf (shapeCast (Blk n 1) l s.self1) pre) s.bc) (tCum s upto (tL1 m z)))))
def tP (a : M n 256) (g : H n 128) (v : H 256 128) : M n 256 :=
  mulf a (matmul (DotDims.transposedRhs n 128 256) none g v (zeros n 256))
def tDz (s : Sh n w) (before : H 256 256) (m : Option (IVec (Blk n 256) 1)) (z p : M n 256) (cp : M n 1) : H n 256 :=
  truncf .bf16 (mulf (tMask m (subf p (mulf
      (addf p (addf (broadcastTo (Blk n 256) cp s.bc) (matmul (DotDims.plain n 256 256) none (truncf .bf16 p narrow) before (zeros n 256))))
      (mulf (select (cmpf .oge z (spl n 256 0x00000000#32)) (spl n 256 0x3F800000#32) (tE z))
        (reciprocal true (addf (spl n 256 0x3F800000#32) (tE z)))))))
    (spl n 256 0x3DB504F3#32)) narrow
def tAcc (c : (Blk n 128).ShapeCasts (Blk n 128)) (dz : H n 256) (k : H 256 128) (acc : M n 128) : M n 128 :=
  shapeCast (Blk n 128) (addf acc (matmul (DotDims.plain n 256 128) none dz k (zeros n 128))) c
def tKey (c : (Blk 256 128).ShapeCasts (Blk 256 128)) (x : H n 256) (q : H n 128) (old : M 256 128) : M 256 128 :=
  addf (shapeCast (Blk 256 128) old c) (matmul (tnDims n 256 128) none x q (zeros 256 128))
def tCol (s : Sh n w) (x : M n 256) (old : M n 1) : M n 1 :=
  shapeCast (Blk n 1) (addf old (shapeCast (Blk n 1) (multiReduction .add [1] (Vec1 n) x 0x00000000#32 s.red (.inl rfl) rfl) s.col)) s.self1

/-! ### What they leave -/

/-- The mask of queries from `t0` on and keys from `j0` on: set where the key comes before the query. Without a mask every key does. -/
def Msk (m : Option (IVec (Blk n 256) 1)) (t0 j0 : ℕ) : Prop :=
  match m with
  | none => j0 + 256 ≤ t0
  | some m => Bd m fun r j => j0 + j < t0 + r

theorem rd_zeros {a b : ℕ} : Rd (zeros a b) fun _ _ => 0 := rd_splat c0

theorem rd_tMask {m : Option (IVec (Blk n 256) 1)} {t0 j0} (hm : Msk m t0 j0) {x : M n 256} {f} (hx : Rd x f) :
    Rd (tMask m x) fun r j => if j0 + j < t0 + r then f r j else 0 := by
  cases m with
  | none =>
    refine Rd.congr hx fun r j hr hj => ?_
    have : j0 + 256 ≤ t0 := hm
    rw [if_pos (by omega)]
  | some m => exact rd_select hm hx (rd_splat c0)

/-- The triangle of ones on and above the diagonal. -/
def Upto (u : H 256 256) : Prop := Rd u fun l j => if l ≤ j then 1 else 0
/-- The triangle of ones above the diagonal. -/
def Before (u : H 256 256) : Prop := Rd u fun l j => if l < j then 1 else 0

theorem sum_ind (f : ℕ → ℝ) {j N : ℕ} (h : j < N) : ∑ l ∈ Finset.range N, f l * (if l ≤ j then 1 else 0) = ∑ l ∈ Finset.range (j + 1), f l := by
  rw [← Finset.sum_subset (Finset.range_mono (by omega : j + 1 ≤ N)) (fun x _ hx => by
    rw [Finset.mem_range] at hx; rw [if_neg (by omega), mul_zero])]
  exact Finset.sum_congr rfl fun l hl => by rw [Finset.mem_range] at hl; rw [if_pos (by omega), mul_one]

theorem sum_ind' (f : ℕ → ℝ) {j N : ℕ} (h : j < N) : ∑ l ∈ Finset.range N, f l * (if l < j then 1 else 0) = ∑ l ∈ Finset.range j, f l := by
  rw [← Finset.sum_subset (Finset.range_mono (by omega : j ≤ N)) (fun x _ hx => by
    rw [Finset.mem_range] at hx; rw [if_neg (by omega), mul_zero])]
  exact Finset.sum_congr rfl fun l hl => by rw [Finset.mem_range] at hl; rw [if_pos (by omega), mul_one]

variable {D : Head} {t0 j0 : ℕ} {q g : H n 128} {k v : H 256 128} {m : Option (IVec (Blk n 256) 1)} {z x : M n 256}

theorem rd_tZ (hq : Rd q fun r d => D.Q (t0 + r) d) (hk : Rd k fun j d => D.K (j0 + j) d) : Rd (tZ q k) fun r j => D.z (t0 + r) (j0 + j) :=
  (rd_mulf (rd_matmulT none hq hk rd_zeros) (rd_splat cs)).congr fun r j _ _ => by rw [zero_add]; rfl

theorem rd_tE (hz : Rd z fun r j => D.z (t0 + r) (j0 + j)) : Rd (tE z) fun r j => D.e (t0 + r) (j0 + j) :=
  (rd_exp (rd_subf (rd_splat c0) (rd_absf hz))).congr fun r j _ _ => by rw [zero_sub]; rfl

theorem rd_tLb (hz : Rd z fun r j => D.z (t0 + r) (j0 + j)) : Rd (tLb z) fun r j => D.lb (t0 + r) (j0 + j) :=
  rd_subf (rd_minimumf hz (rd_splat c0)) (rd_log (rd_addf (rd_splat c1) (rd_tE hz)) fun r j => by have := D.e_pos (t0 + r) (j0 + j); linarith)

theorem rd_tL1 (hm : Msk m t0 j0) (hz : Rd z fun r j => D.z (t0 + r) (j0 + j)) : Rd (tL1 m z) fun r j => D.lm (t0 + r) (j0 + j) :=
  rd_tMask hm (rd_subf (rd_tLb hz) hz)

/-- The running sums along the keys of the tile, the key itself included. -/
theorem rd_tCum (s : Sh n w) {upto} (hu : Upto upto) {f} (hx : Rd x f) : Rd (tCum s upto x) fun r j => ∑ l ∈ Finset.range (j + 1), f r l := by
  have hc : Rd (tCat s upto x) _ := rd_matmul none (rd_concat (rd_truncf narrow hx) (rd_truncf narrow (rd_subf hx (rd_extf narrow (rd_truncf narrow hx)))) s.cat) hu rd_zeros
  refine (rd_addf (rd_slice hc 0 rfl s.s0) (rd_slice hc n rfl s.s1)).congr fun r j hr hj => ?_
  simp only [zero_add, if_pos hr, if_neg (show ¬ n + r < n by omega), sub_self, zero_mul, Finset.sum_const_zero, add_zero]
  exact sum_ind _ hj

theorem rd_tA (s : Sh n w) {upto} (hu : Upto upto) (hm : Msk m t0 j0) (hz : Rd z fun r j => D.z (t0 + r) (j0 + j)) {l pre : M n 1}
    (hl : Rd l fun r _ => D.L (t0 + r)) (hp : Rd pre fun r _ => ∑ l ∈ Finset.range j0, D.lm (t0 + r) l) :
    Rd (tA s upto m z l pre) fun r j => D.a (t0 + r) (j0 + j) := by
  refine (rd_tMask hm (rd_exp (rd_addf (rd_tLb hz) (rd_subf (rd_broadcastTo (rd_subf (rd_shapeCast_self hl s.self1) hp) s.bc) (rd_tCum s hu (rd_tL1 hm hz)))))).congr
    fun r j hr hj => ?_
  unfold Head.a
  rw [add_assoc j0 j 1, Finset.sum_range_add (D.lm _) j0 (j + 1), sub_sub]

theorem rd_tP {a : M n 256} (ha : Rd a fun r j => D.a (t0 + r) (j0 + j)) (hg : Rd g fun r d => D.G (t0 + r) d) (hv : Rd v fun j d => D.V (j0 + j) d) :
    Rd (tP a g v) fun r j => D.p (t0 + r) (j0 + j) :=
  (rd_mulf ha (rd_matmulT none hg hv rd_zeros)).congr fun r j _ _ => by rw [zero_add]; rfl

theorem rd_tDz (s : Sh n w) {before} (hb : Before before) (hm : Msk m t0 j0) (hz : Rd z fun r j => D.z (t0 + r) (j0 + j)) {p : M n 256}
    (hp : Rd p fun r j => D.p (t0 + r) (j0 + j)) {cp : M n 1} (hc : Rd cp fun r _ => ∑ l ∈ Finset.range j0, D.p (t0 + r) l) :
    Rd (tDz s before m z p cp) fun r j => D.dz (t0 + r) (j0 + j) := by
  refine (rd_truncf narrow (rd_mulf (rd_tMask hm (rd_subf hp (rd_mulf
      (rd_addf hp (rd_addf (rd_broadcastTo hc s.bc) (rd_matmul none (rd_truncf narrow hp) hb rd_zeros)))
      (rd_mulf (rd_select (bd_oge hz (rd_splat c0)) (rd_splat c1) (rd_tE hz))
        (rd_reciprocal true (rd_addf (rd_splat c1) (rd_tE hz)) fun r j => by have := D.e_pos (t0 + r) (j0 + j); linarith)))))
    (rd_splat cs))).congr fun r j hr hj => ?_
  unfold Head.dz
  rw [sum_ind' _ hj, zero_add, add_assoc j0 j 1, Finset.sum_range_add, Finset.sum_range_succ, add_comm (D.p _ _) _, add_assoc]
  rfl

theorem rd_tAcc (c) {dz : H n 256} (hd : Rd dz fun r j => D.dz (t0 + r) (j0 + j)) (hk : Rd k fun j d => D.K (j0 + j) d) {acc : M n 128}
    (ha : Rd acc fun r d => ∑ l ∈ Finset.range j0, D.dz (t0 + r) l * D.K l d) :
    Rd (tAcc c dz k acc) fun r d => ∑ l ∈ Finset.range (j0 + 256), D.dz (t0 + r) l * D.K l d :=
  (rd_shapeCast_self (rd_addf ha (rd_matmul none hd hk rd_zeros)) c).congr fun r d _ _ => by rw [zero_add, Finset.sum_range_add]

theorem rd_tKey (c) {x : H n 256} {f : ℕ → ℕ → ℝ} (hx : Rd x f) {qf : ℕ → ℕ → ℝ} (hq : Rd q qf) {old : M 256 128}
    {o : ℕ → ℕ → ℝ} (ho : Rd old o) : Rd (tKey c x q old) fun j d => o j d + ∑ r ∈ Finset.range n, f r j * qf r d :=
  (rd_addf (rd_shapeCast_self ho c) (rd_matmulTN none hx hq rd_zeros)).congr fun j d _ _ => by rw [zero_add]

theorem rd_tCol (s : Sh n w) {f : ℕ → ℕ → ℝ} (hx : Rd x fun r j => f (t0 + r) (j0 + j)) {old : M n 1}
    (ho : Rd old fun r _ => ∑ l ∈ Finset.range j0, f (t0 + r) l) : Rd (tCol s x old) fun r _ => ∑ l ∈ Finset.range (j0 + 256), f (t0 + r) l :=
  (rd_shapeCast_self (rd_addf ho (rd_rowSum hx s.red (.inl rfl) rfl s.col)) s.self1).congr fun r d _ _ => by rw [Finset.sum_range_add]

end Cert.Stick

end
-- ==== Proof.Trip.lean ====
/- One trip of the kernel's loop over the keys before a block of queries, and the loop: what they leave in the five buffers. -/
module

public import proofs.«01_k».proof.Proof.Tile
public import proofs.«01_k».proof.Proof.Gen.KernelIdeal.Loops

@[expose] public section

set_option maxRecDepth 16384
set_option maxHeartbeats 4000000

noncomputable section

namespace Cert.Stick

open Idealize.ShloMosaic Idealize.ShloMosaic.TcCoe Idealize.ShloMosaic.Updates
open Idealize.ShloMosaic.LaneScatter (Blk Vec1)
open Cert.KernelIdeal Cert.KernelIdeal.Gen
open scoped BigOperators

theorem sh1024 : Sh 1024 2048 where
  cat := concatenates_S1024x256_S1024x256_S2048x256_d0
  s0 := slices_S2048x256_o0_0_S1024x256
  s1 := slices_S2048x256_o1024_0_S1024x256
  bc := broadcasts_S1024x1_S1024x256
  red := reduces_S1024x256_S1024
  col := shapeCasts_S1024_S1024x1
  self1 := shapeCasts_S1024x1_S1024x1

section Load
variable {R C h w : ℕ} {κ : Kind} {sp : Space}

/-- A load of a rectangle of a buffer that holds a real array. -/
theorem rd_load {v : View Cert.KernelIdeal.sig κ sp (Blk R C) .f32} {f : v.ty.Contents (Elt Ideal)} {A : ℕ → ℕ → ℝ}
    (hA : Rd (v.read (Elt Ideal) f) A) {off : Fin 2 → ℕ} (o : ℕ × ℕ) (ho : off = ![o.1, o.2]) (inb : ∀ a, off a + (Blk h w).size a ≤ (Blk R C).size a) :
    Rd (a := h) (b := w) (View.readAt (Elt Ideal) v (Rect.unit (s := Blk R C) off (Blk h w).size inb).toLoadRect f) fun i j => A (o.1 + i) (o.2 + j) :=
  isArr_load hA ho inb

/-- `rd_load` of 16-bit floats. -/
theorem rd_load' {v : View Cert.KernelIdeal.sig κ sp (Blk R C) .bf16} {f : v.ty.Contents (Elt Ideal)} {A : ℕ → ℕ → ℝ}
    (hA : Rd (v.read (Elt Ideal) f) A) {off : Fin 2 → ℕ} (o : ℕ × ℕ) (ho : off = ![o.1, o.2]) (inb : ∀ a, off a + (Blk h w).size a ≤ (Blk R C).size a) :
    Rd (a := h) (b := w) (View.readAt (Elt Ideal) v (Rect.unit (s := Blk R C) off (Blk h w).size inb).toLoadRect f) fun i j => A (o.1 + i) (o.2 + j) :=
  isArr_load hA ho inb

/-- A store of a whole buffer. -/
theorem rd_whole {v : View Cert.KernelIdeal.sig κ sp (Blk R C) .f32} {f : v.ty.Contents (Elt Ideal)} {L} {off : Fin 2 → ℕ} {inb : ∀ a, off a + (Blk R C).size a ≤ (Blk R C).size a}
    {pay : M R C} {A : ℕ → ℕ → ℝ} (hp : Rd pay A) :
    Rd (v.read (Elt Ideal) (v.writes (Elt Ideal) f (⟨Rect.unit (s := Blk R C) off (Blk R C).size inb, pay⟩ :: L))) A :=
  isArr_writes_whole f L inb hp

/-- A load of a whole buffer after a store of the whole buffer. -/
theorem rd_again {v : View Cert.KernelIdeal.sig κ sp (Blk R C) .f32} {L} {off : Fin 2 → ℕ} {inb inb' : ∀ a, off a + (Blk R C).size a ≤ (Blk R C).size a}
    (hz : off = ![0, 0]) {pay : M R C} {A : ℕ → ℕ → ℝ} (hp : Rd pay A) :
    Rd (a := R) (b := C) (v.readCov (Val := Elt Ideal) (⟨Rect.unit (s := Blk R C) off (Blk R C).size inb, pay⟩ :: L) (Rect.unit (s := Blk R C) off (Blk R C).size inb').toLoadRect) A :=
  (rd_load (v := v) (f := v.writes (Elt Ideal) v.junk (⟨Rect.unit (s := Blk R C) off (Blk R C).size inb, pay⟩ :: L)) (rd_whole hp) (0, 0) hz inb').congr
    fun i j _ _ => by simp only [Nat.zero_add]

end Load

/-- The sums that the keys have gathered when all queries before `t0` are done, and the block of 1024 queries from `t0` on is done for the keys before `J`. -/
def keyAcc (x y : ℕ → ℕ → ℝ) (t0 J j d : ℕ) : ℝ :=
  ∑ t ∈ Finset.range t0, x t j * y t d + if j < J then ∑ r ∈ Finset.range 1024, x (t0 + r) j * y (t0 + r) d else 0

/-- A store of the sums of 256 keys. -/
theorem rd_keys {κ : Kind} {sp : Space} {v : View Cert.KernelIdeal.sig κ sp (Blk 4096 128) .f32} {f : v.ty.Contents (Elt Ideal)} {L} {x y : ℕ → ℕ → ℝ} {t0 J : ℕ}
    (h : Rd (v.read (Elt Ideal) (v.writes (Elt Ideal) f L)) (keyAcc x y t0 J)) {off : Fin 2 → ℕ} (ho : off = ![J, 0])
    (inb : ∀ a, off a + (Blk 256 128).size a ≤ (Blk 4096 128).size a) {pay : M 256 128}
    (hp : Rd pay fun j d => ∑ t ∈ Finset.range t0, x t (J + j) * y t d + ∑ r ∈ Finset.range 1024, x (t0 + r) (J + j) * y (t0 + r) d) :
    Rd (v.read (Elt Ideal) (v.writes (Elt Ideal) f (⟨Rect.unit (s := Blk 4096 128) off (Blk 256 128).size inb, pay⟩ :: L))) (keyAcc x y t0 (J + 256)) := by
  have hA : IsArr (v.read (Elt Ideal) (v.writes (Elt Ideal) f L)) (fun p => ((keyAcc x y t0 J p.1 p.2 : ℝ) : EReal)) := h
  refine IsArr.congr (isArr_writes_cons (o := (J, 0)) hA ho inb hp) fun j d hj hd => ?_
  by_cases hc : J ≤ j ∧ j < J + 256
  · rw [storeAt_hit ⟨⟨hc, Nat.zero_le _, by show d < 0 + 128; omega⟩, trivial⟩]
    unfold keyAcc
    simp only [if_pos hc.2, Nat.sub_zero, Nat.add_sub_cancel' hc.1]
  · rw [storeAt_miss fun q => hc q.1.1]
    unfold keyAcc
    by_cases h1 : j < J
    · simp only [if_pos h1, if_pos (show j < J + 256 by omega)]
    · simp only [if_neg h1, if_neg (show ¬ j < J + 256 by omega)]

/-- What the five buffers hold when the block of queries from `t0` on has met the keys before `J`. -/
structure St (D : Head) (t0 J : ℕ) (x8 x9 : M 4096 128) (x10 : M 1024 128) (x11 x12 : M 1024 1) : Prop where
  dk : Rd x8 (keyAcc D.dz D.Q t0 J)
  dv : Rd x9 (keyAcc D.a D.G t0 J)
  acc : Rd x10 fun r d => ∑ l ∈ Finset.range J, D.dz (t0 + r) l * D.K l d
  pre : Rd x11 fun r _ => ∑ l ∈ Finset.range J, D.lm (t0 + r) l
  cp : Rd x12 fun r _ => ∑ l ∈ Finset.range J, D.p (t0 + r) l

/-- What a block of queries reads: its queries, its gradient, the triangles, the keys, the values, the sums of logarithms. -/
structure Inp (D : Head) (t0 : ℕ) (v3 v4 : H 1024 128) (v11 v18 : H 256 256) (x3 x4 : H 4096 128) (x6 : M 1024 128) : Prop where
  q : Rd v3 fun r d => D.Q (t0 + r) d
  g : Rd v4 fun r d => D.G (t0 + r) d
  upto : Upto v11
  before : Before v18
  k : Rd x3 D.K
  v : Rd x4 D.V
  l : ∃ A : ℕ → ℕ → ℝ, Rd x6 A ∧ ∀ r, A r 0 = D.L (t0 + r)

theorem trips_t1 (i : grid0.Coords) : (k0_t1_loop i).trips = (i 1).val := by
  have h : ∀ n : Fin 4, ∀ i : grid0.Coords, i 1 = n → (k0_t1_loop i).trips = n.val := by
    intro n i hi
    simp only [k0_t1_loop, hi]
    clear hi
    revert n; decide
  exact h (i 1) i rfl

theorem off1 (i : grid0.Coords) (k : Fin (k0_t1_loop i).trips) (u : Fin 4) : k0_off1 i k (BitVec.ofNat 32 u.val) = ![1024 * k.val + 256 * u.val, 0] := by
  have hk : k.val < 4 := by
    have h := lt_of_lt_of_eq k.isLt (trips_t1 i)
    have : (i 1).val < 4 := (i 1).isLt
    omega
  obtain ⟨k, h⟩ := k
  simp only at hk
  unfold k0_off1
  have : ∀ k : Fin 4, ∀ u : Fin 4, (Scalar.muli (Scalar.addi (Scalar.muli 4#32 (Scf.iv 0#32 1#32 k.val)) (BitVec.ofNat 32 u.val)) 256#32).toNat = 1024 * k.val + 256 * u.val := by decide
  rw [← this ⟨k, hk⟩ u]
  rfl

section Trip
variable (𝒱 : Variants) (c : Dev nD) (bd : Option 𝒱.V) (i : grid0.Coords) (arg2 : Memref sig .tc .vmem S1024x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x128 .bf16) (harg7 : arg7.IsWhole) (arg8 : Memref sig .tc .vmem S4096x128 .f32) (harg8 : arg8.IsWhole) (arg9 : Memref sig .tc .vmem S4096x128 .f32) (harg9 : arg9.IsWhole) (arg10 : Memref sig .tc .vmem S1024x128 .f32) (harg10 : arg10.IsWhole) (arg11 : Memref sig .tc .vmem S1024x1 .f32) (harg11 : arg11.IsWhole) (arg12 : Memref sig .tc .vmem S1024x1 .f32) (harg12 : arg12.IsWhole) (arg1 : BitVec 32) (v3 : Vec Ideal S1024x128 .bf16) (v4 : Vec Ideal S1024x128 .bf16) (v11 : FVec Ideal S256x256 .bf16) (v18 : FVec Ideal S256x256 .bf16) (v31 : BitVec 32) (c4_i32_16 : BitVec 32) (v32 : BitVec 32) (X_arg3 : BufTy.Contents (Elt Ideal) arg3.view.ty) (X_arg4 : BufTy.Contents (Elt Ideal) arg4.view.ty) (X_arg6 : BufTy.Contents (Elt Ideal) arg6.view.ty) (k : Fin (k0_t1_loop i).trips) (f_arg8 : BufTy.Contents (Elt Ideal) arg8.view.ty) (f_arg9 : BufTy.Contents (Elt Ideal) arg9.view.ty) (f_arg10 : BufTy.Contents (Elt Ideal) arg10.view.ty) (f_arg11 : BufTy.Contents (Elt Ideal) arg11.view.ty) (f_arg12 : BufTy.Contents (Elt Ideal) arg12.view.ty)

/-- The loop's next trip meets the next 1024 keys. -/
theorem trip_value (D : Head) (t0 : ℕ) (ht : t0 = 1024 * (i 1).val)
    (I : Inp D t0 v3 v4 v11 v18 (arg3.view.read (Elt Ideal) X_arg3) (arg4.view.read (Elt Ideal) X_arg4) (arg6.view.read (Elt Ideal) X_arg6))
    (S : St D t0 (1024 * k.val) (arg8.view.read (Elt Ideal) f_arg8) (arg9.view.read (Elt Ideal) f_arg9) (arg10.view.read (Elt Ideal) f_arg10) (arg11.view.read (Elt Ideal) f_arg11) (arg12.view.read (Elt Ideal) f_arg12)) :
    St D t0 (1024 * (k.val + 1))
      (arg8.view.read (Elt Ideal) (arg8.view.writes (Elt Ideal) f_arg8 (tripL_k0_t1 (F := Ideal) 𝒱 c bd i arg2 harg2 arg3 harg3 arg4 harg4 arg5 harg5 arg6 harg6 arg7 harg7 arg8 harg8 arg9 harg9 arg10 harg10 arg11 harg11 arg12 harg12 arg1 v3 v4 v11 v18 v31 c4_i32_16 v32 X_arg3 X_arg4 X_arg6 k f_arg8 f_arg9 f_arg10 f_arg11 f_arg12).1))
      (arg9.view.read (Elt Ideal) (arg9.view.writes (Elt Ideal) f_arg9 (tripL_k0_t1 (F := Ideal) 𝒱 c bd i arg2 harg2 arg3 harg3 arg4 harg4 arg5 harg5 arg6 harg6 arg7 harg7 arg8 harg8 arg9 harg9 arg10 harg10 arg11 harg11 arg12 harg12 arg1 v3 v4 v11 v18 v31 c4_i32_16 v32 X_arg3 X_arg4 X_arg6 k f_arg8 f_arg9 f_arg10 f_arg11 f_arg12).2.1))
      (arg10.view.read (Elt Ideal) (arg10.view.writes (Elt Ideal) f_arg10 (tripL_k0_t1 (F := Ideal) 𝒱 c bd i arg2 harg2 arg3 harg3 arg4 harg4 arg5 harg5 arg6 harg6 arg7 harg7 arg8 harg8 arg9 harg9 arg10 harg10 arg11 harg11 arg12 harg12 arg1 v3 v4 v11 v18 v31 c4_i32_16 v32 X_arg3 X_arg4 X_arg6 k f_arg8 f_arg9 f_arg10 f_arg11 f_arg12).2.2.1))
      (arg11.view.read (Elt Ideal) (arg11.view.writes (Elt Ideal) f_arg11 (tripL_k0_t1 (F := Ideal) 𝒱 c bd i arg2 harg2 arg3 harg3 arg4 harg4 arg5 harg5 arg6 harg6 arg7 harg7 arg8 harg8 arg9 harg9 arg10 harg10 arg11 harg11 arg12 harg12 arg1 v3 v4 v11 v18 v31 c4_i32_16 v32 X_arg3 X_arg4 X_arg6 k f_arg8 f_arg9 f_arg10 f_arg11 f_arg12).2.2.2.1))
      (arg12.view.read (Elt Ideal) (arg12.view.writes (Elt Ideal) f_arg12 (tripL_k0_t1 (F := Ideal) 𝒱 c bd i arg2 harg2 arg3 harg3 arg4 harg4 arg5 harg5 arg6 harg6 arg7 harg7 arg8 harg8 arg9 harg9 arg10 harg10 arg11 harg11 arg12 harg12 arg1 v3 v4 v11 v18 v31 c4_i32_16 v32 X_arg3 X_arg4 X_arg6 k f_arg8 f_arg9 f_arg10 f_arg11 f_arg12).2.2.2.2)) := by
  have hkt : 1024 * k.val + 1024 ≤ t0 := by
    have h := lt_of_lt_of_eq k.isLt (trips_t1 i)
    omega
  obtain ⟨A6, hl6, hA6⟩ := I.l
  have hl := (rd_load (h := 1024) (w := 1) hl6 (0, 0) rfl inb_S1024x128_S1024x1_0_0).congr (g := fun r _ => D.L (t0 + r)) fun r d _ hd => by
    obtain rfl : d = 0 := by omega
    simp only [Nat.zero_add, hA6]
  have hpre0 := (rd_load (h := 1024) (w := 1) S.pre (0, 0) rfl inb_S1024x1_S1024x1_0_0).congr (g := fun r _ => ∑ l ∈ Finset.range (1024 * k.val), D.lm (t0 + r) l) fun r d _ hd => by
    simp only [Nat.zero_add]
  have hcp0 := (rd_load (h := 1024) (w := 1) S.cp (0, 0) rfl inb_S1024x1_S1024x1_0_0).congr (g := fun r _ => ∑ l ∈ Finset.range (1024 * k.val), D.p (t0 + r) l) fun r d _ hd => by
    simp only [Nat.zero_add]
  have hacc0 := (rd_load (h := 1024) (w := 128) S.acc (0, 0) rfl inb_S1024x128_S1024x128_0_0).congr (g := fun r d => ∑ l ∈ Finset.range (1024 * k.val), D.dz (t0 + r) l * D.K l d) fun r d _ hd => by
    simp only [Nat.zero_add]

  have ho0 : k0_off1 i k 0#32 = ![1024 * k.val, 0] := off1 i k 0
  have hb0 : ∀ a, k0_off1 i k 0#32 a + (Blk 256 128).size a ≤ (Blk 4096 128).size a := by
    rw [ho0]; have : (i 1).val < 4 := (i 1).isLt
    intro a; match a with
    | ⟨0, _⟩ => show 1024 * k.val + 256 ≤ 4096; omega
    | ⟨1, _⟩ => exact (by decide : 0 + 128 ≤ 128)
  have hm0 : Msk (n := 1024) none t0 (1024 * k.val) := (by omega : 1024 * k.val + 256 ≤ t0)
  have hk0 := (rd_load' (h := 256) (w := 128) I.k (1024 * k.val, 0) ho0 hb0).congr (g := fun j d => D.K (1024 * k.val + j) d) fun j d _ _ => by simp only [Nat.zero_add]
  have hv0 := (rd_load' (h := 256) (w := 128) I.v (1024 * k.val, 0) ho0 hb0).congr (g := fun j d => D.V (1024 * k.val + j) d) fun j d _ _ => by simp only [Nat.zero_add]
  have hz0 := rd_tZ I.q hk0
  have ha0 := rd_tA sh1024 I.upto hm0 hz0 hl hpre0
  have hp0 := rd_tP ha0 I.g hv0
  have hd0 := rd_tDz sh1024 I.before hm0 hz0 hp0 hcp0
  have hdk0 := (rd_tKey shapeCasts_S256x128_S256x128 hd0 I.q (rd_load (h := 256) (w := 128) S.dk (1024 * k.val, 0) ho0 hb0)).congr
    (g := fun j d => ∑ t ∈ Finset.range t0, D.dz t (1024 * k.val + j) * D.Q t d + ∑ r ∈ Finset.range 1024, D.dz (t0 + r) (1024 * k.val + j) * D.Q (t0 + r) d) fun j d _ _ => by
      simp only [keyAcc, Nat.zero_add, if_neg (show ¬ 1024 * k.val + j < 1024 * k.val by omega), add_zero]
  have hdv0 := (rd_tKey shapeCasts_S256x128_S256x128 (rd_truncf narrow ha0) I.g (rd_load (h := 256) (w := 128) S.dv (1024 * k.val, 0) ho0 hb0)).congr
    (g := fun j d => ∑ t ∈ Finset.range t0, D.a t (1024 * k.val + j) * D.G t d + ∑ r ∈ Finset.range 1024, D.a (t0 + r) (1024 * k.val + j) * D.G (t0 + r) d) fun j d _ _ => by
      simp only [keyAcc, Nat.zero_add, if_neg (show ¬ 1024 * k.val + j < 1024 * k.val by omega), add_zero]

  have ho1 : k0_off1 i k 1#32 = ![1024 * k.val + 256, 0] := off1 i k 1
  have hb1 : ∀ a, k0_off1 i k 1#32 a + (Blk 256 128).size a ≤ (Blk 4096 128).size a := by
    rw [ho1]; have : (i 1).val < 4 := (i 1).isLt
    intro a; match a with
    | ⟨0, _⟩ => show 1024 * k.val + 256 + 256 ≤ 4096; omega
    | ⟨1, _⟩ => exact (by decide : 0 + 128 ≤ 128)
  have hm1 : Msk (n := 1024) none t0 (1024 * k.val + 256) := (by omega : 1024 * k.val + 256 + 256 ≤ t0)
  have hk1 := (rd_load' (h := 256) (w := 128) I.k (1024 * k.val + 256, 0) ho1 hb1).congr (g := fun j d => D.K (1024 * k.val + 256 + j) d) fun j d _ _ => by simp only [Nat.zero_add]
  have hv1 := (rd_load' (h := 256) (w := 128) I.v (1024 * k.val + 256, 0) ho1 hb1).congr (g := fun j d => D.V (1024 * k.val + 256 + j) d) fun j d _ _ => by simp only [Nat.zero_add]
  have hz1 := rd_tZ I.q hk1
  have hpre1 : Rd (trip_k0_t1.sl.v626 (F := Ideal) i arg3 arg11 v3 X_arg3 k f_arg11) (fun r _ => ∑ l ∈ Finset.range (1024 * k.val + 256), D.lm (t0 + r) l) :=
    rd_again rfl (rd_tCol sh1024 (rd_tL1 hm0 hz0) hpre0)
  have hcp1 : Rd (trip_k0_t1.sl.v643 (F := Ideal) i arg3 arg4 arg6 arg11 arg12 v3 v4 v11 X_arg3 X_arg4 X_arg6 k f_arg11 f_arg12) (fun r _ => ∑ l ∈ Finset.range (1024 * k.val + 256), D.p (t0 + r) l) :=
    rd_again rfl (rd_tCol sh1024 hp0 hcp0)
  have hacc1 : Rd (trip_k0_t1.sl.v662 (F := Ideal) i arg3 arg4 arg6 arg10 arg11 arg12 v3 v4 v11 v18 X_arg3 X_arg4 X_arg6 k f_arg10 f_arg11 f_arg12) (fun r d => ∑ l ∈ Finset.range (1024 * k.val + 256), D.dz (t0 + r) l * D.K l d) :=
    rd_again rfl (rd_tAcc shapeCasts_S1024x128_S1024x128 hd0 hk0 hacc0)
  have ha1 := rd_tA sh1024 I.upto hm1 hz1 hl hpre1
  have hp1 := rd_tP ha1 I.g hv1
  have hd1 := rd_tDz sh1024 I.before hm1 hz1 hp1 hcp1
  have hdk1 := (rd_tKey shapeCasts_S256x128_S256x128 hd1 I.q (rd_load (h := 256) (w := 128) S.dk (1024 * k.val + 256, 0) ho1 hb1)).congr
    (g := fun j d => ∑ t ∈ Finset.range t0, D.dz t (1024 * k.val + 256 + j) * D.Q t d + ∑ r ∈ Finset.range 1024, D.dz (t0 + r) (1024 * k.val + 256 + j) * D.Q (t0 + r) d) fun j d _ _ => by
      simp only [keyAcc, Nat.zero_add, if_neg (show ¬ 1024 * k.val + 256 + j < 1024 * k.val by omega), add_zero]
  have hdv1 := (rd_tKey shapeCasts_S256x128_S256x128 (rd_truncf narrow ha1) I.g (rd_load (h := 256) (w := 128) S.dv (1024 * k.val + 256, 0) ho1 hb1)).congr
    (g := fun j d => ∑ t ∈ Finset.range t0, D.a t (1024 * k.val + 256 + j) * D.G t d + ∑ r ∈ Finset.range 1024, D.a (t0 + r) (1024 * k.val + 256 + j) * D.G (t0 + r) d) fun j d _ _ => by
      simp only [keyAcc, Nat.zero_add, if_neg (show ¬ 1024 * k.val + 256 + j < 1024 * k.val by omega), add_zero]

  have ho2 : k0_off1 i k 2#32 = ![1024 * k.val + 512, 0] := off1 i k 2
  have hb2 : ∀ a, k0_off1 i k 2#32 a + (Blk 256 128).size a ≤ (Blk 4096 128).size a := by
    rw [ho2]; have : (i 1).val < 4 := (i 1).isLt
    intro a; match a with
    | ⟨0, _⟩ => show 1024 * k.val + 512 + 256 ≤ 4096; omega
    | ⟨1, _⟩ => exact (by decide : 0 + 128 ≤ 128)
  have hm2 : Msk (n := 1024) none t0 (1024 * k.val + 512) := (by omega : 1024 * k.val + 512 + 256 ≤ t0)
  have hk2 := (rd_load' (h := 256) (w := 128) I.k (1024 * k.val + 512, 0) ho2 hb2).congr (g := fun j d => D.K (1024 * k.val + 512 + j) d) fun j d _ _ => by simp only [Nat.zero_add]
  have hv2 := (rd_load' (h := 256) (w := 128) I.v (1024 * k.val + 512, 0) ho2 hb2).congr (g := fun j d => D.V (1024 * k.val + 512 + j) d) fun j d _ _ => by simp only [Nat.zero_add]
  have hz2 := rd_tZ I.q hk2
  have hpre2 : Rd (trip_k0_t1.sl.v721 (F := Ideal) i arg3 arg11 v3 X_arg3 k f_arg11) (fun r _ => ∑ l ∈ Finset.range (1024 * k.val + 512), D.lm (t0 + r) l) :=
    rd_again rfl (rd_tCol sh1024 (rd_tL1 hm1 hz1) hpre1)
  have hcp2 : Rd (trip_k0_t1.sl.v738 (F := Ideal) i arg3 arg4 arg6 arg11 arg12 v3 v4 v11 X_arg3 X_arg4 X_arg6 k f_arg11 f_arg12) (fun r _ => ∑ l ∈ Finset.range (1024 * k.val + 512), D.p (t0 + r) l) :=
    rd_again rfl (rd_tCol sh1024 hp1 hcp1)
  have hacc2 : Rd (trip_k0_t1.sl.v757 (F := Ideal) i arg3 arg4 arg6 arg10 arg11 arg12 v3 v4 v11 v18 X_arg3 X_arg4 X_arg6 k f_arg10 f_arg11 f_arg12) (fun r d => ∑ l ∈ Finset.range (1024 * k.val + 512), D.dz (t0 + r) l * D.K l d) :=
    rd_again rfl (rd_tAcc shapeCasts_S1024x128_S1024x128 hd1 hk1 hacc1)
  have ha2 := rd_tA sh1024 I.upto hm2 hz2 hl hpre2
  have hp2 := rd_tP ha2 I.g hv2
  have hd2 := rd_tDz sh1024 I.before hm2 hz2 hp2 hcp2
  have hdk2 := (rd_tKey shapeCasts_S256x128_S256x128 hd2 I.q (rd_load (h := 256) (w := 128) S.dk (1024 * k.val + 512, 0) ho2 hb2)).congr
    (g := fun j d => ∑ t ∈ Finset.range t0, D.dz t (1024 * k.val + 512 + j) * D.Q t d + ∑ r ∈ Finset.range 1024, D.dz (t0 + r) (1024 * k.val + 512 + j) * D.Q (t0 + r) d) fun j d _ _ => by
      simp only [keyAcc, Nat.zero_add, if_neg (show ¬ 1024 * k.val + 512 + j < 1024 * k.val by omega), add_zero]
  have hdv2 := (rd_tKey shapeCasts_S256x128_S256x128 (rd_truncf narrow ha2) I.g (rd_load (h := 256) (w := 128) S.dv (1024 * k.val + 512, 0) ho2 hb2)).congr
    (g := fun j d => ∑ t ∈ Finset.range t0, D.a t (1024 * k.val + 512 + j) * D.G t d + ∑ r ∈ Finset.range 1024, D.a (t0 + r) (1024 * k.val + 512 + j) * D.G (t0 + r) d) fun j d _ _ => by
      simp only [keyAcc, Nat.zero_add, if_neg (show ¬ 1024 * k.val + 512 + j < 1024 * k.val by omega), add_zero]

  have ho3 : k0_off1 i k 3#32 = ![1024 * k.val + 768, 0] := off1 i k 3
  have hb3 : ∀ a, k0_off1 i k 3#32 a + (Blk 256 128).size a ≤ (Blk 4096 128).size a := by
    rw [ho3]; have : (i 1).val < 4 := (i 1).isLt
    intro a; match a with
    | ⟨0, _⟩ => show 1024 * k.val + 768 + 256 ≤ 4096; omega
    | ⟨1, _⟩ => exact (by decide : 0 + 128 ≤ 128)
  have hm3 : Msk (n := 1024) none t0 (1024 * k.val + 768) := (by omega : 1024 * k.val + 768 + 256 ≤ t0)
  have hk3 := (rd_load' (h := 256) (w := 128) I.k (1024 * k.val + 768, 0) ho3 hb3).congr (g := fun j d => D.K (1024 * k.val + 768 + j) d) fun j d _ _ => by simp only [Nat.zero_add]
  have hv3 := (rd_load' (h := 256) (w := 128) I.v (1024 * k.val + 768, 0) ho3 hb3).congr (g := fun j d => D.V (1024 * k.val + 768 + j) d) fun j d _ _ => by simp only [Nat.zero_add]
  have hz3 := rd_tZ I.q hk3
  have hpre3 : Rd (trip_k0_t1.sl.v816 (F := Ideal) i arg3 arg11 v3 X_arg3 k f_arg11) (fun r _ => ∑ l ∈ Finset.range (1024 * k.val + 768), D.lm (t0 + r) l) :=
    rd_again rfl (rd_tCol sh1024 (rd_tL1 hm2 hz2) hpre2)
  have hcp3 : Rd (trip_k0_t1.sl.v833 (F := Ideal) i arg3 arg4 arg6 arg11 arg12 v3 v4 v11 X_arg3 X_arg4 X_arg6 k f_arg11 f_arg12) (fun r _ => ∑ l ∈ Finset.range (1024 * k.val + 768), D.p (t0 + r) l) :=
    rd_again rfl (rd_tCol sh1024 hp2 hcp2)
  have hacc3 : Rd (trip_k0_t1.sl.v852 (F := Ideal) i arg3 arg4 arg6 arg10 arg11 arg12 v3 v4 v11 v18 X_arg3 X_arg4 X_arg6 k f_arg10 f_arg11 f_arg12) (fun r d => ∑ l ∈ Finset.range (1024 * k.val + 768), D.dz (t0 + r) l * D.K l d) :=
    rd_again rfl (rd_tAcc shapeCasts_S1024x128_S1024x128 hd2 hk2 hacc2)
  have ha3 := rd_tA sh1024 I.upto hm3 hz3 hl hpre3
  have hp3 := rd_tP ha3 I.g hv3
  have hd3 := rd_tDz sh1024 I.before hm3 hz3 hp3 hcp3
  have hdk3 := (rd_tKey shapeCasts_S256x128_S256x128 hd3 I.q (rd_load (h := 256) (w := 128) S.dk (1024 * k.val + 768, 0) ho3 hb3)).congr
    (g := fun j d => ∑ t ∈ Finset.range t0, D.dz t (1024 * k.val + 768 + j) * D.Q t d + ∑ r ∈ Finset.range 1024, D.dz (t0 + r) (1024 * k.val + 768 + j) * D.Q (t0 + r) d) fun j d _ _ => by
      simp only [keyAcc, Nat.zero_add, if_neg (show ¬ 1024 * k.val + 768 + j < 1024 * k.val by omega), add_zero]
  have hdv3 := (rd_tKey shapeCasts_S256x128_S256x128 (rd_truncf narrow ha3) I.g (rd_load (h := 256) (w := 128) S.dv (1024 * k.val + 768, 0) ho3 hb3)).congr
    (g := fun j d => ∑ t ∈ Finset.range t0, D.a t (1024 * k.val + 768 + j) * D.G t d + ∑ r ∈ Finset.range 1024, D.a (t0 + r) (1024 * k.val + 768 + j) * D.G (t0 + r) d) fun j d _ _ => by
      simp only [keyAcc, Nat.zero_add, if_neg (show ¬ 1024 * k.val + 768 + j < 1024 * k.val by omega), add_zero]
  unfold tripL_k0_t1 trip_k0_t1
  dsimp only
  have eJ : 1024 * (k.val + 1) = 1024 * k.val + 1024 := by omega
  rw [eJ]
  constructor
  · exact rd_keys (rd_keys (rd_keys (rd_keys S.dk ho0 hb0 hdk0) ho1 hb1 hdk1) ho2 hb2 hdk2) ho3 hb3 hdk3
  · exact rd_keys (rd_keys (rd_keys (rd_keys S.dv ho0 hb0 hdv0) ho1 hb1 hdv1) ho2 hb2 hdv2) ho3 hb3 hdv3
  · exact rd_whole (rd_tAcc shapeCasts_S1024x128_S1024x128 hd3 hk3 hacc3)
  · exact rd_whole (rd_tCol sh1024 (rd_tL1 hm3 hz3) hpre3)
  · exact rd_whole (rd_tCol sh1024 hp3 hcp3)

/-- What the buffers hold after `n` trips, from what they hold before the loop. -/
theorem loop_value (D : Head) (t0 : ℕ) (ht : t0 = 1024 * (i 1).val)
    (I : Inp D t0 v3 v4 v11 v18 (arg3.view.read (Elt Ideal) X_arg3) (arg4.view.read (Elt Ideal) X_arg4) (arg6.view.read (Elt Ideal) X_arg6))
    (S : St D t0 0 (arg8.view.read (Elt Ideal) f_arg8) (arg9.view.read (Elt Ideal) f_arg9) (arg10.view.read (Elt Ideal) f_arg10) (arg11.view.read (Elt Ideal) f_arg11) (arg12.view.read (Elt Ideal) f_arg12)) (n : ℕ) (hn : n ≤ (k0_t1_loop i).trips) :
    St D t0 (1024 * n)
      (arg8.view.read (Elt Ideal) (arg8.view.writes (Elt Ideal) f_arg8 (pb_k0_t1 (F := Ideal) 𝒱 c bd i arg2 harg2 arg3 harg3 arg4 harg4 arg5 harg5 arg6 harg6 arg7 harg7 arg8 harg8 arg9 harg9 arg10 harg10 arg11 harg11 arg12 harg12 arg1 v3 v4 v11 v18 v31 c4_i32_16 v32 X_arg3 X_arg4 X_arg6 f_arg8 f_arg9 f_arg10 f_arg11 f_arg12 n).1))
      (arg9.view.read (Elt Ideal) (arg9.view.writes (Elt Ideal) f_arg9 (pb_k0_t1 (F := Ideal) 𝒱 c bd i arg2 harg2 arg3 harg3 arg4 harg4 arg5 harg5 arg6 harg6 arg7 harg7 arg8 harg8 arg9 harg9 arg10 harg10 arg11 harg11 arg12 harg12 arg1 v3 v4 v11 v18 v31 c4_i32_16 v32 X_arg3 X_arg4 X_arg6 f_arg8 f_arg9 f_arg10 f_arg11 f_arg12 n).2.1))
      (arg10.view.read (Elt Ideal) (arg10.view.writes (Elt Ideal) f_arg10 (pb_k0_t1 (F := Ideal) 𝒱 c bd i arg2 harg2 arg3 harg3 arg4 harg4 arg5 harg5 arg6 harg6 arg7 harg7 arg8 harg8 arg9 harg9 arg10 harg10 arg11 harg11 arg12 harg12 arg1 v3 v4 v11 v18 v31 c4_i32_16 v32 X_arg3 X_arg4 X_arg6 f_arg8 f_arg9 f_arg10 f_arg11 f_arg12 n).2.2.1))
      (arg11.view.read (Elt Ideal) (arg11.view.writes (Elt Ideal) f_arg11 (pb_k0_t1 (F := Ideal) 𝒱 c bd i arg2 harg2 arg3 harg3 arg4 harg4 arg5 harg5 arg6 harg6 arg7 harg7 arg8 harg8 arg9 harg9 arg10 harg10 arg11 harg11 arg12 harg12 arg1 v3 v4 v11 v18 v31 c4_i32_16 v32 X_arg3 X_arg4 X_arg6 f_arg8 f_arg9 f_arg10 f_arg11 f_arg12 n).2.2.2.1))
      (arg12.view.read (Elt Ideal) (arg12.view.writes (Elt Ideal) f_arg12 (pb_k0_t1 (F := Ideal) 𝒱 c bd i arg2 harg2 arg3 harg3 arg4 harg4 arg5 harg5 arg6 harg6 arg7 harg7 arg8 harg8 arg9 harg9 arg10 harg10 arg11 harg11 arg12 harg12 arg1 v3 v4 v11 v18 v31 c4_i32_16 v32 X_arg3 X_arg4 X_arg6 f_arg8 f_arg9 f_arg10 f_arg11 f_arg12 n).2.2.2.2)) := by
  induction n with
  | zero => exact S
  | succ n ih =>
    have h := trip_value 𝒱 c bd i arg2 harg2 arg3 harg3 arg4 harg4 arg5 harg5 arg6 harg6 arg7 harg7 arg8 harg8 arg9 harg9 arg10 harg10 arg11 harg11 arg12 harg12 arg1 v3 v4 v11 v18 v31 c4_i32_16 v32 X_arg3 X_arg4 X_arg6 ⟨n, hn⟩ _ _ _ _ _ D t0 ht I (ih (by omega))
    have e := pb_k0_t1_succ (F := Ideal) 𝒱 c bd i arg2 harg2 arg3 harg3 arg4 harg4 arg5 harg5 arg6 harg6 arg7 harg7 arg8 harg8 arg9 harg9 arg10 harg10 arg11 harg11 arg12 harg12 arg1 v3 v4 v11 v18 v31 c4_i32_16 v32 X_arg3 X_arg4 X_arg6 f_arg8 f_arg9 f_arg10 f_arg11 f_arg12 ⟨n, hn⟩
    simp only at e
    rw [e]
    dsimp only
    simp only [View.writes_append]
    exact h

end Trip

end Cert.Stick

end
-- ==== Proof.Diag.lean ====
/- The tiles on the diagonal: masks, the triangles of ones, and what one tile leaves when it touches the last rows of a block only. -/
module

public import proofs.«01_k».proof.Proof.Trip
public import Idealize.ShloMosaic.Lib.WordCmp

@[expose] public section

set_option maxRecDepth 16384
set_option maxHeartbeats 4000000

noncomputable section

namespace Cert.Stick

open Idealize.ShloMosaic Idealize.ShloMosaic.TcCoe Idealize.ShloMosaic.Updates
open Idealize.ShloMosaic.LaneScatter (Blk Vec1)
open Cert.KernelIdeal Cert.KernelIdeal.Gen
open scoped BigOperators

theorem sh768 : Sh 768 1536 where
  cat := concatenates_S768x256_S768x256_S1536x256_d0
  s0 := slices_S1536x256_o0_0_S768x256
  s1 := slices_S1536x256_o768_0_S768x256
  bc := broadcasts_S768x1_S768x256
  red := reduces_S768x256_S768
  col := shapeCasts_S768_S768x1
  self1 := shapeCasts_S768x1_S768x1

theorem sh512 : Sh 512 1024 where
  cat := concatenates_S512x256_S512x256_S1024x256_d0
  s0 := slices_S1024x256_o0_0_S512x256
  s1 := slices_S1024x256_o512_0_S512x256
  bc := broadcasts_S512x1_S512x256
  red := reduces_S512x256_S512
  col := shapeCasts_S512_S512x1
  self1 := shapeCasts_S512x1_S512x1

theorem sh256 : Sh 256 512 where
  cat := concatenates_S256x256_S256x256_S512x256_d0
  s0 := slices_S512x256_o0_0_S256x256
  s1 := slices_S512x256_o256_0_S256x256
  bc := broadcasts_S256x1_S256x256
  red := reduces_S256x256_S256
  col := shapeCasts_S256_S256x1
  self1 := shapeCasts_S256x1_S256x1

/-! ### Masks -/

theorem iota_one {s : Shape} (a : Fin s.rank) (h) (ι : s.Idx) : iota .tc s 32 [a] h ι = BitVec.ofNat 32 (ι a).val := by
  show BitVec.ofNat 32 (0 * s.size a + (ι a).val) = _
  rw [Nat.zero_mul, Nat.zero_add]

/-- Columns from `A` on against rows from `B` on. -/
theorem bd_slt {n m : ℕ} (hn : n ≤ 4096) (hm : m ≤ 4096) (A B : ℕ) (hA : A ≤ 8192) (hB : B ≤ 8192) (a b : BitVec 32) (ha : a = BitVec.ofNat 32 A) (hb : b = BitVec.ofNat 32 B)
    (h0 : _) (h1 : _) :
    Bd (cmpi .slt (addi (broadcast (Blk n m) a) (iota .tc (Blk n m) 32 [1] h1)) (addi (broadcast (Blk n m) b) (iota .tc (Blk n m) 32 [0] h0)))
      fun r j => A + j < B + r := fun ι => by
  subst ha hb
  show IntOp.cmpi .slt (BitVec.ofNat 32 A + iota .tc (Blk n m) 32 [1] h1 ι) (BitVec.ofNat 32 B + iota .tc (Blk n m) 32 [0] h0 ι) = 1#1 ↔ _
  rw [iota_one, iota_one]
  have e0 : (ι 0).val < n := (ι 0).isLt
  have e1 : (ι 1).val < m := (ι 1).isLt
  rw [← BitVec.ofNat_add, ← BitVec.ofNat_add, WordCmp.cmpi_slt_ofNat_eq_one_iff (by omega) (by omega)]

theorem msk0 (n : Fin 4) : Msk (n := 1024) (some (k0_pay114 (BitVec.ofNat 32 n.val))) (1024 * n.val + 0) (1024 * n.val + 0) :=
  bd_slt (by decide) (by decide) _ _ (by omega) (by omega) _ _ (by revert n; decide) (by revert n; decide) _ _
theorem msk1 (n : Fin 4) : Msk (n := 768) (some (k0_pay131 (BitVec.ofNat 32 n.val))) (1024 * n.val + 256) (1024 * n.val + 256) :=
  bd_slt (by decide) (by decide) _ _ (by omega) (by omega) _ _ (by revert n; decide) (by revert n; decide) _ _
theorem msk2 (n : Fin 4) : Msk (n := 512) (some (k0_pay149 (BitVec.ofNat 32 n.val))) (1024 * n.val + 512) (1024 * n.val + 512) :=
  bd_slt (by decide) (by decide) _ _ (by omega) (by omega) _ _ (by revert n; decide) (by revert n; decide) _ _
theorem msk3 (n : Fin 4) : Msk (n := 256) (some (k0_pay165 (BitVec.ofNat 32 n.val) (Scalar.addi (Scalar.muli 4#32 (BitVec.ofNat 32 n.val)) 3#32))) (1024 * n.val + 768) (1024 * n.val + 768) :=
  bd_slt (by decide) (by decide) _ _ (by omega) (by omega) _ _ (by revert n; decide) (by revert n; decide) _ _

theorem upto_pay : Upto (k0_pay103 (F := Ideal)) := by
  have h : Bd (a := 256) (b := 256) (cmpi .sle (iota .tc (Blk 256 256) 32 [0] iota_S256x256_d0_w32) (iota .tc (Blk 256 256) 32 [1] iota_S256x256_d1_w32)) fun l j => l ≤ j := fun ι => by
    show IntOp.cmpi .sle (iota .tc (Blk 256 256) 32 [0] _ ι) (iota .tc (Blk 256 256) 32 [1] _ ι) = 1#1 ↔ _
    rw [iota_one, iota_one]
    have e0 : (ι 0).val < 256 := (ι 0).isLt
    have e1 : (ι 1).val < 256 := (ι 1).isLt
    rw [WordCmp.cmpi_sle_ofNat_eq_one_iff (by omega) (by omega)]
  exact rd_truncf narrow (rd_select h (rd_splat c1) (rd_splat c0))

theorem before_pay : Before (k0_pay104 (F := Ideal)) := by
  have h : Bd (a := 256) (b := 256) (cmpi .slt (iota .tc (Blk 256 256) 32 [0] iota_S256x256_d0_w32) (iota .tc (Blk 256 256) 32 [1] iota_S256x256_d1_w32)) fun l j => l < j := fun ι => by
    show IntOp.cmpi .slt (iota .tc (Blk 256 256) 32 [0] _ ι) (iota .tc (Blk 256 256) 32 [1] _ ι) = 1#1 ↔ _
    rw [iota_one, iota_one]
    have e0 : (ι 0).val < 256 := (ι 0).isLt
    have e1 : (ι 1).val < 256 := (ι 1).isLt
    rw [WordCmp.cmpi_slt_ofNat_eq_one_iff (by omega) (by omega)]
  exact rd_truncf narrow (rd_select h (rd_splat c1) (rd_splat c0))

theorem trips_t2 (i : grid0.Coords) : (k0_t2_loop i).trips = 0 := by
  have h : ∀ n : Fin 4, ∀ i : grid0.Coords, i 1 = n → (k0_t2_loop i).trips = 0 := by
    intro n i hi
    simp only [k0_t2_loop, hi]
    clear hi
    revert n; decide
  exact h (i 1) i rfl

theorem off3 (i : grid0.Coords) (u : Fin 4) : k0_off3 i (BitVec.ofNat 32 u.val) = ![1024 * (i 1).val + 256 * u.val, 0] := by
  have : ∀ k : Fin 4, ∀ u : Fin 4, (Scalar.muli (Scalar.addi (Scalar.muli 4#32 (BitVec.ofNat 32 k.val)) (BitVec.ofNat 32 u.val)) 256#32).toNat = 1024 * k.val + 256 * u.val := by decide
  rw [← this (i 1) u]
  rfl

/-! ### Zeros on and above the diagonal -/

namespace Head
variable (D : Head) {t j : ℕ}
theorem lm_zero (h : t ≤ j) : D.lm t j = 0 := if_neg (by omega)
theorem a_zero (h : t ≤ j) : D.a t j = 0 := if_neg (by omega)
theorem p_zero (h : t ≤ j) : D.p t j = 0 := by unfold p; rw [D.a_zero h, zero_mul]
theorem dz_zero (h : t ≤ j) : D.dz t j = 0 := by unfold dz; rw [if_neg (by omega), zero_mul]
end Head

/-- A sum of terms that end early. -/
theorem sum_stop {f : ℕ → ℝ} {J J' : ℕ} (h : J ≤ J') (hf : ∀ l, J ≤ l → f l = 0) : ∑ l ∈ Finset.range J, f l = ∑ l ∈ Finset.range J', f l :=
  Finset.sum_subset (Finset.range_mono h) fun x _ hx => hf x (by rw [Finset.mem_range] at hx; omega)

/-- A sum of terms that start late. -/
theorem sum_tail {f : ℕ → ℝ} {o n N : ℕ} (h : o + n = N) (hf : ∀ l, l < o → f l = 0) : ∑ l ∈ Finset.range n, f (o + l) = ∑ l ∈ Finset.range N, f l := by
  subst h
  rw [Finset.sum_range_add, Finset.sum_eq_zero (fun x hx => hf x (Finset.mem_range.1 hx)), zero_add]

/-- The sums of a tile of the last `n` rows of the block as sums of all 1024 rows. -/
theorem key_rows {x y : ℕ → ℕ → ℝ} {t0 j d o n : ℕ} (h : o + n = 1024) (hx : ∀ t j, t ≤ j → x t j = 0) (hj : t0 + o ≤ j) :
    ∑ r ∈ Finset.range n, x (t0 + o + r) j * y (t0 + o + r) d = ∑ r ∈ Finset.range 1024, x (t0 + r) j * y (t0 + r) d := by
  rw [← sum_tail (f := fun r => x (t0 + r) j * y (t0 + r) d) h fun l hl => by
    show x _ _ * _ = 0
    rw [hx _ _ (by omega), zero_mul]]
  exact Finset.sum_congr rfl fun r _ => by rw [add_assoc]

/-- A store of the last rows of a block. -/
theorem rd_rows {κ : Kind} {sp : Space} {N c o n : ℕ} {v : View Cert.KernelIdeal.sig κ sp (Blk N c) .f32} {f : v.ty.Contents (Elt Ideal)} {L} {A A' : ℕ → ℕ → ℝ}
    (h : Rd (v.read (Elt Ideal) (v.writes (Elt Ideal) f L)) A) {off : Fin 2 → ℕ} (ho : off = ![o, 0]) (hn : o + n = N)
    (inb : ∀ a, off a + (Blk n c).size a ≤ (Blk N c).size a) {pay : M n c}
    (hp : Rd pay fun r d => A' (o + r) d) (he : ∀ r d, r < o → A r d = A' r d) :
    Rd (v.read (Elt Ideal) (v.writes (Elt Ideal) f (⟨Rect.unit (s := Blk N c) off (Blk n c).size inb, pay⟩ :: L))) A' := by
  have hA : IsArr (v.read (Elt Ideal) (v.writes (Elt Ideal) f L)) (fun p => ((A p.1 p.2 : ℝ) : EReal)) := h
  refine IsArr.congr (isArr_writes_cons (o := (o, 0)) hA ho inb hp) fun r d hr hd => ?_
  by_cases hc : o ≤ r
  · rw [storeAt_hit ⟨⟨⟨hc, by show r < o + n; omega⟩, Nat.zero_le _, by show d < 0 + c; omega⟩, trivial⟩]
    simp only [Nat.sub_zero, Nat.add_sub_cancel' hc]
  · rw [storeAt_miss fun q => hc q.1.1.1, he r d (by omega)]

/-- What a tile on the diagonal reads: rows from `t0 + o` on, keys from `t0 + o` on. -/
structure Tl (D : Head) (t0 o : ℕ) {n : ℕ} (q g : H n 128) (k v : H 256 128) (m : Option (IVec (Blk n 256) 1)) (l pre cp : M n 1) (acc : M n 128) (dk dv : M 256 128)
    (upto before : H 256 256) : Prop where
  rows : o + n = 1024
  upto : Upto upto
  before : Before before
  q : Rd q fun r d => D.Q (t0 + o + r) d
  g : Rd g fun r d => D.G (t0 + o + r) d
  k : Rd k fun j d => D.K (t0 + o + j) d
  v : Rd v fun j d => D.V (t0 + o + j) d
  m : Msk m (t0 + o) (t0 + o)
  l : Rd l fun r _ => D.L (t0 + o + r)
  pre : Rd pre fun r _ => ∑ l ∈ Finset.range (t0 + o), D.lm (t0 + o + r) l
  cp : Rd cp fun r _ => ∑ l ∈ Finset.range (t0 + o), D.p (t0 + o + r) l
  acc : Rd acc fun r d => ∑ l ∈ Finset.range (t0 + o), D.dz (t0 + o + r) l * D.K l d
  dk : Rd dk fun j d => ∑ t ∈ Finset.range t0, D.dz t (t0 + o + j) * D.Q t d
  dv : Rd dv fun j d => ∑ t ∈ Finset.range t0, D.a t (t0 + o + j) * D.G t d

namespace Tl
variable {D : Head} {t0 o n w : ℕ} {q g : H n 128} {k v : H 256 128} {m : Option (IVec (Blk n 256) 1)} {l pre cp : M n 1} {acc : M n 128} {dk dv : M 256 128}
  {upto before : H 256 256} (T : Tl D t0 o q g k v m l pre cp acc dk dv upto before) (s : Sh n w)
include T

theorem z : Rd (tZ q k) fun r j => D.z (t0 + o + r) (t0 + o + j) := rd_tZ T.q T.k
theorem a : Rd (tA s upto m (tZ q k) l pre) fun r j => D.a (t0 + o + r) (t0 + o + j) := rd_tA s T.upto T.m T.z T.l T.pre
theorem p : Rd (tP (tA s upto m (tZ q k) l pre) g v) fun r j => D.p (t0 + o + r) (t0 + o + j) := rd_tP (T.a s) T.g T.v
theorem dz : Rd (tDz s before m (tZ q k) (tP (tA s upto m (tZ q k) l pre) g v) cp) fun r j => D.dz (t0 + o + r) (t0 + o + j) :=
  rd_tDz s T.before T.m T.z (T.p s) T.cp

theorem dk' (c) : Rd (tKey c (tDz s before m (tZ q k) (tP (tA s upto m (tZ q k) l pre) g v) cp) q dk)
    fun j d => ∑ t ∈ Finset.range t0, D.dz t (t0 + o + j) * D.Q t d + ∑ r ∈ Finset.range 1024, D.dz (t0 + r) (t0 + o + j) * D.Q (t0 + r) d :=
  (rd_tKey c (T.dz s) T.q T.dk).congr fun j d _ _ => by rw [key_rows T.rows (fun t j h => D.dz_zero h) (by omega)]

theorem dv' (c) : Rd (tKey c (truncf .bf16 (tA s upto m (tZ q k) l pre) narrow) g dv)
    fun j d => ∑ t ∈ Finset.range t0, D.a t (t0 + o + j) * D.G t d + ∑ r ∈ Finset.range 1024, D.a (t0 + r) (t0 + o + j) * D.G (t0 + r) d :=
  (rd_tKey c (rd_truncf narrow (T.a s)) T.g T.dv).congr fun j d _ _ => by rw [key_rows T.rows (fun t j h => D.a_zero h) (by omega)]

theorem acc' (c) : Rd (tAcc c (tDz s before m (tZ q k) (tP (tA s upto m (tZ q k) l pre) g v) cp) k acc)
    fun r d => ∑ l ∈ Finset.range (t0 + o + 256), D.dz (t0 + (o + r)) l * D.K l d :=
  (rd_tAcc c (T.dz s) T.k T.acc).congr fun r d _ _ => by rw [add_assoc t0 o r]

theorem pre' : Rd (tCol s (tL1 m (tZ q k)) pre) fun r _ => ∑ l ∈ Finset.range (t0 + o + 256), D.lm (t0 + (o + r)) l :=
  (rd_tCol s (rd_tL1 T.m T.z) T.pre).congr fun r d _ _ => by rw [add_assoc t0 o r]

theorem cp' : Rd (tCol s (tP (tA s upto m (tZ q k) l pre) g v) cp) fun r _ => ∑ l ∈ Finset.range (t0 + o + 256), D.p (t0 + (o + r)) l :=
  (rd_tCol s (T.p s) T.cp).congr fun r d _ _ => by rw [add_assoc t0 o r]

end Tl

/-- The last keys of a block as the whole sum of the queries so far. -/
theorem keyAcc_done {x : ℕ → ℕ → ℝ} (hx : ∀ t j, t ≤ j → x t j = 0) (y : ℕ → ℕ → ℝ) (t0 j d : ℕ) :
    keyAcc x y t0 (t0 + 1024) j d = ∑ t ∈ Finset.range (t0 + 1024), x t j * y t d := by
  unfold keyAcc
  rw [Finset.sum_range_add]
  by_cases h : j < t0 + 1024
  · rw [if_pos h]
  · rw [if_neg h, Finset.sum_eq_zero (s := Finset.range 1024) fun r hr => by rw [Finset.mem_range] at hr; rw [hx _ _ (by omega), zero_mul]]

theorem keyAcc_zero (x y : ℕ → ℕ → ℝ) (t0 j d : ℕ) : keyAcc x y t0 0 j d = ∑ t ∈ Finset.range t0, x t j * y t d := by
  unfold keyAcc
  rw [if_neg (Nat.not_lt_zero _), add_zero]

end Cert.Stick

end
-- ==== Proof.RunB.lean ====
/- A point after the first of its head. -/
module

public import proofs.«01_k».proof.Proof.Diag
public import proofs.«01_k».proof.Proof.Gen.KernelIdeal.Frame

@[expose] public section

set_option maxRecDepth 16384
set_option maxHeartbeats 4000000

noncomputable section

namespace Cert.Stick

open Idealize.ShloMosaic Idealize.ShloMosaic.TcCoe Idealize.ShloMosaic.Updates
open Idealize.ShloMosaic.LaneScatter (Blk Vec1)
open Cert.KernelIdeal Cert.KernelIdeal.Gen
open scoped BigOperators

theorem rd_append_S4096x128 {κ : Kind} {sp : Space} {v : View Cert.KernelIdeal.sig κ sp S4096x128 .f32} {f : v.ty.Contents (Elt Ideal)} {L L' : List (View.Piece (Elt Ideal) S4096x128 .f32)} {A : ℕ → ℕ → ℝ}
    (h : Rd (a := 4096) (b := 128) (v.read (Elt Ideal) (v.writes (Elt Ideal) (v.writes (Elt Ideal) f L') L)) A) : Rd (a := 4096) (b := 128) (v.read (Elt Ideal) (v.writes (Elt Ideal) f (L ++ L'))) A := by
  rw [View.writes_append]; exact h

theorem rd_append_S1024x128 {κ : Kind} {sp : Space} {v : View Cert.KernelIdeal.sig κ sp S1024x128 .f32} {f : v.ty.Contents (Elt Ideal)} {L L' : List (View.Piece (Elt Ideal) S1024x128 .f32)} {A : ℕ → ℕ → ℝ}
    (h : Rd (a := 1024) (b := 128) (v.read (Elt Ideal) (v.writes (Elt Ideal) (v.writes (Elt Ideal) f L') L)) A) : Rd (a := 1024) (b := 128) (v.read (Elt Ideal) (v.writes (Elt Ideal) f (L ++ L'))) A := by
  rw [View.writes_append]; exact h

theorem rd_append_S1024x1 {κ : Kind} {sp : Space} {v : View Cert.KernelIdeal.sig κ sp S1024x1 .f32} {f : v.ty.Contents (Elt Ideal)} {L L' : List (View.Piece (Elt Ideal) S1024x1 .f32)} {A : ℕ → ℕ → ℝ}
    (h : Rd (a := 1024) (b := 1) (v.read (Elt Ideal) (v.writes (Elt Ideal) (v.writes (Elt Ideal) f L') L)) A) : Rd (a := 1024) (b := 1) (v.read (Elt Ideal) (v.writes (Elt Ideal) f (L ++ L'))) A := by
  rw [View.writes_append]; exact h

section
variable (c : Dev nD) (i : grid0.Coords) (arg2 : Memref sig .tc .vmem S1024x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x128 .bf16) (harg7 : arg7.IsWhole) (arg8 : Memref sig .tc .vmem S4096x128 .f32) (harg8 : arg8.IsWhole) (arg9 : Memref sig .tc .vmem S4096x128 .f32) (harg9 : arg9.IsWhole) (arg10 : Memref sig .tc .vmem S1024x128 .f32) (harg10 : arg10.IsWhole) (arg11 : Memref sig .tc .vmem S1024x1 .f32) (harg11 : arg11.IsWhole) (arg12 : Memref sig .tc .vmem S1024x1 .f32) (harg12 : arg12.IsWhole) (arg1 : BitVec 32) (v3 : Vec Ideal S1024x128 .bf16) (v4 : Vec Ideal S1024x128 .bf16) (v11 : FVec Ideal S256x256 .bf16) (v18 : FVec Ideal S256x256 .bf16) (v31 : BitVec 32) (c4_i32_16 : BitVec 32) (v32 : BitVec 32) (v53 : BitVec 32) (X_arg3 : BufTy.Contents (Elt Ideal) arg3.view.ty) (X_arg4 : BufTy.Contents (Elt Ideal) arg4.view.ty) (X_arg6 : BufTy.Contents (Elt Ideal) arg6.view.ty) (f_arg8 : BufTy.Contents (Elt Ideal) arg8.view.ty) (f_arg9 : BufTy.Contents (Elt Ideal) arg9.view.ty) (f_arg10 : BufTy.Contents (Elt Ideal) arg10.view.ty) (f_arg11 : BufTy.Contents (Elt Ideal) arg11.view.ty) (f_arg12 : BufTy.Contents (Elt Ideal) arg12.view.ty)

/-- The loop over what is left makes no trip. -/
theorem loop2_value (D : Head) (t0 J : ℕ)
    (S : St D t0 J (arg8.view.read (Elt Ideal) f_arg8) (arg9.view.read (Elt Ideal) f_arg9) (arg10.view.read (Elt Ideal) f_arg10) (arg11.view.read (Elt Ideal) f_arg11) (arg12.view.read (Elt Ideal) f_arg12)) :
    St D t0 J
      (arg8.view.read (Elt Ideal) (arg8.view.writes (Elt Ideal) f_arg8 (pb_k0_t2 (F := Ideal) Variants.none c none i arg2 harg2 arg3 harg3 arg4 harg4 arg5 harg5 arg6 harg6 arg7 harg7 arg8 harg8 arg9 harg9 arg10 harg10 arg11 harg11 arg12 harg12 arg1 v3 v4 v11 v18 v31 c4_i32_16 v32 v53 X_arg3 X_arg4 X_arg6 f_arg8 f_arg9 f_arg10 f_arg11 f_arg12 (Scf.trips (k0_t2_loop i).lb (k0_t2_loop i).ub (k0_t2_loop i).st)).1))
      (arg9.view.read (Elt Ideal) (arg9.view.writes (Elt Ideal) f_arg9 (pb_k0_t2 (F := Ideal) Variants.none c none i arg2 harg2 arg3 harg3 arg4 harg4 arg5 harg5 arg6 harg6 arg7 harg7 arg8 harg8 arg9 harg9 arg10 harg10 arg11 harg11 arg12 harg12 arg1 v3 v4 v11 v18 v31 c4_i32_16 v32 v53 X_arg3 X_arg4 X_arg6 f_arg8 f_arg9 f_arg10 f_arg11 f_arg12 (Scf.trips (k0_t2_loop i).lb (k0_t2_loop i).ub (k0_t2_loop i).st)).2.1))
      (arg10.view.read (Elt Ideal) (arg10.view.writes (Elt Ideal) f_arg10 (pb_k0_t2 (F := Ideal) Variants.none c none i arg2 harg2 arg3 harg3 arg4 harg4 arg5 harg5 arg6 harg6 arg7 harg7 arg8 harg8 arg9 harg9 arg10 harg10 arg11 harg11 arg12 harg12 arg1 v3 v4 v11 v18 v31 c4_i32_16 v32 v53 X_arg3 X_arg4 X_arg6 f_arg8 f_arg9 f_arg10 f_arg11 f_arg12 (Scf.trips (k0_t2_loop i).lb (k0_t2_loop i).ub (k0_t2_loop i).st)).2.2.1))
      (arg11.view.read (Elt Ideal) (arg11.view.writes (Elt Ideal) f_arg11 (pb_k0_t2 (F := Ideal) Variants.none c none i arg2 harg2 arg3 harg3 arg4 harg4 arg5 harg5 arg6 harg6 arg7 harg7 arg8 harg8 arg9 harg9 arg10 harg10 arg11 harg11 arg12 harg12 arg1 v3 v4 v11 v18 v31 c4_i32_16 v32 v53 X_arg3 X_arg4 X_arg6 f_arg8 f_arg9 f_arg10 f_arg11 f_arg12 (Scf.trips (k0_t2_loop i).lb (k0_t2_loop i).ub (k0_t2_loop i).st)).2.2.2.1))
      (arg12.view.read (Elt Ideal) (arg12.view.writes (Elt Ideal) f_arg12 (pb_k0_t2 (F := Ideal) Variants.none c none i arg2 harg2 arg3 harg3 arg4 harg4 arg5 harg5 arg6 harg6 arg7 harg7 arg8 harg8 arg9 harg9 arg10 harg10 arg11 harg11 arg12 harg12 arg1 v3 v4 v11 v18 v31 c4_i32_16 v32 v53 X_arg3 X_arg4 X_arg6 f_arg8 f_arg9 f_arg10 f_arg11 f_arg12 (Scf.trips (k0_t2_loop i).lb (k0_t2_loop i).ub (k0_t2_loop i).st)).2.2.2.2)) := by
  rw [show (Scf.trips (k0_t2_loop i).lb (k0_t2_loop i).ub (k0_t2_loop i).st) = 0 from trips_t2 i]
  exact S

end
section
variable (c : Dev nD) (i : grid0.Coords) (arg2 : Memref sig .tc .vmem S1024x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x128 .bf16) (harg7 : arg7.IsWhole) (arg8 : Memref sig .tc .vmem S4096x128 .f32) (harg8 : arg8.IsWhole) (arg9 : Memref sig .tc .vmem S4096x128 .f32) (harg9 : arg9.IsWhole) (arg10 : Memref sig .tc .vmem S1024x128 .f32) (harg10 : arg10.IsWhole) (arg11 : Memref sig .tc .vmem S1024x1 .f32) (harg11 : arg11.IsWhole) (arg12 : Memref sig .tc .vmem S1024x1 .f32) (harg12 : arg12.IsWhole) (hc0 : ¬cond0_0 i) (x0 : Vec Ideal S1024x128 .bf16) (x1 : Vec Ideal S4096x128 .bf16) (x2 : Vec Ideal S4096x128 .bf16) (x3 : Vec Ideal S1024x128 .bf16) (x4 : Vec Ideal S1024x128 .f32) (xo6 : Vec Ideal S4096x128 .f32) (xo7 : Vec Ideal S4096x128 .f32)

/-- What a point of case B leaves: the gradient of its queries, and the gradients that the keys and the values have gathered. -/
theorem runB_value (D : Head) (t0 : ℕ) (ht : t0 = 1024 * (i 1).val)
    (hq : Rd x0 fun r d => D.Q (t0 + r) d) (hk : Rd x1 D.K) (hv : Rd x2 D.V) (hg : Rd x3 fun r d => D.G (t0 + r) d)
    (hl : ∃ A : ℕ → ℕ → ℝ, Rd x4 A ∧ ∀ r, A r 0 = D.L (t0 + r))
    (h6 : Rd xo6 fun j d => ∑ t ∈ Finset.range t0, D.dz t j * D.Q t d) (h7 : Rd xo7 fun j d => ∑ t ∈ Finset.range t0, D.a t j * D.G t d) :
    Rd (out0_B_5 (F := Ideal) c i arg2 harg2 arg3 harg3 arg4 harg4 arg5 harg5 arg6 harg6 arg7 harg7 arg8 harg8 arg9 harg9 arg10 harg10 arg11 harg11 arg12 harg12 hc0 x0 x1 x2 x3 x4 xo6 xo7) (fun r d => ∑ l ∈ Finset.range (t0 + 1024), D.dz (t0 + r) l * D.K l d)
    ∧ Rd (out0_B_6 (F := Ideal) c i arg2 harg2 arg3 harg3 arg4 harg4 arg5 harg5 arg6 harg6 arg7 harg7 arg8 harg8 arg9 harg9 arg10 harg10 arg11 harg11 arg12 harg12 hc0 x0 x1 x2 x3 x4 xo6 xo7) (fun j d => ∑ t ∈ Finset.range (t0 + 1024), D.dz t j * D.Q t d)
    ∧ Rd (out0_B_7 (F := Ideal) c i arg2 harg2 arg3 harg3 arg4 harg4 arg5 harg5 arg6 harg6 arg7 harg7 arg8 harg8 arg9 harg9 arg10 harg10 arg11 harg11 arg12 harg12 hc0 x0 x1 x2 x3 x4 xo6 xo7) (fun j d => ∑ t ∈ Finset.range (t0 + 1024), D.a t j * D.G t d) := by
  have hr : Rd (a := 1024) (b := 128) (kernelRun0_B.sl.r (F := Ideal) c arg2 harg2 x0) fun r d => D.Q (t0 + r) d :=
    (rd_load' (h := 1024) (w := 128) (f := harg2.unread x0) (by rw [harg2.read_unread]; exact hq) (0, 0) rfl inb_S1024x128_S1024x128_0_0).congr fun r d _ _ => by simp only [Nat.zero_add]
  have hr1 : Rd (a := 1024) (b := 128) (kernelRun0_B.sl.r_1 (F := Ideal) c arg5 harg5 x3) fun r d => D.G (t0 + r) d :=
    (rd_load' (h := 1024) (w := 128) (f := harg5.unread x3) (by rw [harg5.read_unread]; exact hg) (0, 0) rfl inb_S1024x128_S1024x128_0_0).congr fun r d _ _ => by simp only [Nat.zero_add]
  have I : Inp D t0 (kernelRun0_B.sl.r (F := Ideal) c arg2 harg2 x0) (kernelRun0_B.sl.r_1 (F := Ideal) c arg5 harg5 x3) k0_pay103 k0_pay104 (arg3.view.read (Elt Ideal) (harg3.unread x1)) (arg4.view.read (Elt Ideal) (harg4.unread x2)) (arg6.view.read (Elt Ideal) (harg6.unread x4)) :=
    ⟨hr, hr1, upto_pay, before_pay, by rw [harg3.read_unread]; exact hk, by rw [harg4.read_unread]; exact hv, by rw [harg6.read_unread]; exact hl⟩
  have h6 : Rd (arg8.view.read (Elt Ideal) (harg8.unread xo6)) (keyAcc D.dz D.Q t0 0) := by
    rw [harg8.read_unread]; exact h6.congr fun j d _ _ => (keyAcc_zero _ _ _ _ _).symm
  have h7 : Rd (arg9.view.read (Elt Ideal) (harg9.unread xo7)) (keyAcc D.a D.G t0 0) := by
    rw [harg9.read_unread]; exact h7.congr fun j d _ _ => (keyAcc_zero _ _ _ _ _).symm
  have S0 : St D t0 0 (arg8.view.read (Elt Ideal) (harg8.unread xo6)) (arg9.view.read (Elt Ideal) (harg9.unread xo7)) (arg10.view.read (Elt Ideal) (View.writes (κ := (((Dev.tc c : Thread nD τ)).2.kind)) (Memref.view (κ := (((Dev.tc c : Thread nD τ)).2.kind)) arg10) (Elt Ideal) (View.junk (κ := (((Dev.tc c : Thread nD τ)).2.kind)) (Memref.view (κ := (((Dev.tc c : Thread nD τ)).2.kind)) arg10)) (kernelRun0_B.sl.HS0_1 (F := Ideal)))) (arg11.view.read (Elt Ideal) (View.writes (κ := (((Dev.tc c : Thread nD τ)).2.kind)) (Memref.view (κ := (((Dev.tc c : Thread nD τ)).2.kind)) arg11) (Elt Ideal) (View.junk (κ := (((Dev.tc c : Thread nD τ)).2.kind)) (Memref.view (κ := (((Dev.tc c : Thread nD τ)).2.kind)) arg11)) (kernelRun0_B.sl.HS1_1 (F := Ideal)))) (arg12.view.read (Elt Ideal) (View.writes (κ := (((Dev.tc c : Thread nD τ)).2.kind)) (Memref.view (κ := (((Dev.tc c : Thread nD τ)).2.kind)) arg12) (Elt Ideal) (View.junk (κ := (((Dev.tc c : Thread nD τ)).2.kind)) (Memref.view (κ := (((Dev.tc c : Thread nD τ)).2.kind)) arg12)) (kernelRun0_B.sl.HS2_1 (F := Ideal)))) :=
    ⟨h6, h7, (rd_whole (rd_shapeCast_self rd_zeros shapeCasts_S1024x128_S1024x128)).congr fun r d _ _ => by rw [Finset.sum_range_zero],
      (rd_whole (rd_shapeCast_self rd_zeros shapeCasts_S1024x1_S1024x1)).congr fun r d _ _ => by rw [Finset.sum_range_zero],
      (rd_whole (rd_shapeCast_self rd_zeros shapeCasts_S1024x1_S1024x1)).congr fun r d _ _ => by rw [Finset.sum_range_zero]⟩
  have S1 := loop_value Variants.none c none i arg2 harg2 arg3 harg3 arg4 harg4 arg5 harg5 arg6 harg6 arg7 harg7 arg8 harg8 arg9 harg9 arg10 harg10 arg11 harg11 arg12 harg12 (BitVec.ofNat 32 (@Fin.val (grid0.bound 1) (i 1))) (kernelRun0_B.sl.r (F := Ideal) c arg2 harg2 x0) (kernelRun0_B.sl.r_1 (F := Ideal) c arg5 harg5 x3) k0_pay103 k0_pay104 (kernelRun0_B.sl.v31 i) 4#32 (kernelRun0_B.sl.v32 i)
    (harg3.unread x1) (harg4.unread x2) (harg6.unread x4) (harg8.unread xo6) (harg9.unread xo7) (View.writes (κ := (((Dev.tc c : Thread nD τ)).2.kind)) (Memref.view (κ := (((Dev.tc c : Thread nD τ)).2.kind)) arg10) (Elt Ideal) (View.junk (κ := (((Dev.tc c : Thread nD τ)).2.kind)) (Memref.view (κ := (((Dev.tc c : Thread nD τ)).2.kind)) arg10)) (kernelRun0_B.sl.HS0_1 (F := Ideal))) (View.writes (κ := (((Dev.tc c : Thread nD τ)).2.kind)) (Memref.view (κ := (((Dev.tc c : Thread nD τ)).2.kind)) arg11) (Elt Ideal) (View.junk (κ := (((Dev.tc c : Thread nD τ)).2.kind)) (Memref.view (κ := (((Dev.tc c : Thread nD τ)).2.kind)) arg11)) (kernelRun0_B.sl.HS1_1 (F := Ideal))) (View.writes (κ := (((Dev.tc c : Thread nD τ)).2.kind)) (Memref.view (κ := (((Dev.tc c : Thread nD τ)).2.kind)) arg12) (Elt Ideal) (View.junk (κ := (((Dev.tc c : Thread nD τ)).2.kind)) (Memref.view (κ := (((Dev.tc c : Thread nD τ)).2.kind)) arg12)) (kernelRun0_B.sl.HS2_1 (F := Ideal))) D t0 ht I S0 (Scf.trips (k0_t1_loop i).lb (k0_t1_loop i).ub (k0_t1_loop i).st) (le_refl (k0_t1_loop i).trips)
  rw [show 1024 * (Scf.trips (k0_t1_loop i).lb (k0_t1_loop i).ub (k0_t1_loop i).st) = t0 from (congrArg (1024 * ·) (trips_t1 i)).trans ht.symm] at S1
  have S1' : St D t0 t0 _ _ _ _ _ := ⟨S1.dk, S1.dv, rd_append_S1024x128 S1.acc, rd_append_S1024x1 S1.pre, rd_append_S1024x1 S1.cp⟩
  have S2 := loop2_value c i arg2 harg2 arg3 harg3 arg4 harg4 arg5 harg5 arg6 harg6 arg7 harg7 arg8 harg8 arg9 harg9 arg10 harg10 arg11 harg11 arg12 harg12 (BitVec.ofNat 32 (@Fin.val (grid0.bound 1) (i 1))) (kernelRun0_B.sl.r (F := Ideal) c arg2 harg2 x0) (kernelRun0_B.sl.r_1 (F := Ideal) c arg5 harg5 x3) k0_pay103 k0_pay104 (kernelRun0_B.sl.v31 i) 4#32 (kernelRun0_B.sl.v32 i) (kernelRun0_B.sl.v53 i)
    (harg3.unread x1) (harg4.unread x2) (harg6.unread x4) _ _ _ _ _ D t0 t0 S1'
  clear S1' S1 S0
  obtain ⟨A6, hl6, hA6⟩ := I.l
  have hi : (i 1).val < 4 := (i 1).isLt
  have P8_0 := rd_append_S4096x128 S2.dk
  have P9_0 := rd_append_S4096x128 S2.dv
  have P10_0 := rd_append_S1024x128 S2.acc
  have P11_0 := rd_append_S1024x1 S2.pre
  have P12_0 := rd_append_S1024x1 S2.cp

  have ho0 : k0_off3 i 0#32 = ![t0 + 0, 0] := by rw [ht]; exact off3 i 0
  have hb0 : ∀ a, k0_off3 i 0#32 a + (Blk 256 128).size a ≤ (Blk 4096 128).size a := by
    rw [ho0]
    intro a; match a with
    | ⟨0, _⟩ => show t0 + 0 + 256 ≤ 4096; omega
    | ⟨1, _⟩ => exact (by decide : 0 + 128 ≤ 128)
  have hm0 : Msk (n := 1024) (some (kernelRun0_B.sl.r_4 i)) (t0 + 0) (t0 + 0) := by rw [ht]; exact msk0 (i 1)
  have hk0 : Rd (a := 256) (b := 128) (kernelRun0_B.sl.r_2 (F := Ideal) i arg3 harg3 x1) _ := (rd_load' (h := 256) (w := 128) I.k (t0 + 0, 0) ho0 hb0).congr (g := fun j d => D.K (t0 + 0 + j) d) fun j d _ _ => by simp only [Nat.zero_add]
  have hv0 : Rd (a := 256) (b := 128) (kernelRun0_B.sl.r_3 (F := Ideal) i arg4 harg4 x2) _ := (rd_load' (h := 256) (w := 128) I.v (t0 + 0, 0) ho0 hb0).congr (g := fun j d => D.V (t0 + 0 + j) d) fun j d _ _ => by simp only [Nat.zero_add]
  have hq0 : Rd (a := 1024) (b := 128) (kernelRun0_B.sl.r (F := Ideal) c arg2 harg2 x0) _ := (I.q : Rd (kernelRun0_B.sl.r (F := Ideal) c arg2 harg2 x0) _).congr (g := fun r d => D.Q (t0 + 0 + r) d) fun r d _ _ => by simp only [Nat.add_assoc, Nat.zero_add]
  have hg0 : Rd (a := 1024) (b := 128) (kernelRun0_B.sl.r_1 (F := Ideal) c arg5 harg5 x3) _ := (I.g : Rd (kernelRun0_B.sl.r_1 (F := Ideal) c arg5 harg5 x3) _).congr (g := fun r d => D.G (t0 + 0 + r) d) fun r d _ _ => by simp only [Nat.add_assoc, Nat.zero_add]
  have hl0 := (rd_load (h := 1024) (w := 1) hl6 (0, 0) rfl inb_S1024x128_S1024x1_0_0).congr (g := fun r _ => D.L (t0 + 0 + r)) fun r d _ hd => by
    obtain rfl : d = 0 := by omega
    simp only [Nat.zero_add, hA6, Nat.add_assoc]
  have hpre0 : Rd (a := 1024) (b := 1) (kernelRun0_B.sl.v90 (F := Ideal) c i arg2 harg2 arg3 harg3 arg4 harg4 arg5 harg5 arg6 harg6 arg7 harg7 arg8 harg8 arg9 harg9 arg10 harg10 arg11 harg11 arg12 harg12 x0 x1 x2 x3 x4 xo6 xo7) _ := (rd_load (h := 1024) (w := 1) P11_0 (0, 0) rfl inb_S1024x1_S1024x1_0_0).congr (g := fun r _ => ∑ l ∈ Finset.range (t0 + 0), D.lm (t0 + 0 + r) l) fun r d _ hd => by
    simp only [Nat.add_assoc, Nat.zero_add, Nat.add_zero]
  have hcp0 : Rd (a := 1024) (b := 1) (kernelRun0_B.sl.v109 (F := Ideal) c i arg2 harg2 arg3 harg3 arg4 harg4 arg5 harg5 arg6 harg6 arg7 harg7 arg8 harg8 arg9 harg9 arg10 harg10 arg11 harg11 arg12 harg12 x0 x1 x2 x3 x4 xo6 xo7) _ := (rd_load (h := 1024) (w := 1) P12_0 (0, 0) rfl inb_S1024x1_S1024x1_0_0).congr (g := fun r _ => ∑ l ∈ Finset.range (t0 + 0), D.p (t0 + 0 + r) l) fun r d _ hd => by
    simp only [Nat.add_assoc, Nat.zero_add, Nat.add_zero]
  have hacc0 : Rd (a := 1024) (b := 128) (kernelRun0_B.sl.v130 (F := Ideal) c i arg2 harg2 arg3 harg3 arg4 harg4 arg5 harg5 arg6 harg6 arg7 harg7 arg8 harg8 arg9 harg9 arg10 harg10 arg11 harg11 arg12 harg12 x0 x1 x2 x3 x4 xo6 xo7) _ := (rd_load (h := 1024) (w := 128) P10_0 (0, 0) rfl inb_S1024x128_S1024x128_0_0).congr (g := fun r d => ∑ l ∈ Finset.range (t0 + 0), D.dz (t0 + 0 + r) l * D.K l d) fun r d _ hd => by
    simp only [Nat.add_assoc, Nat.zero_add, Nat.add_zero]
  have hdk0: Rd (a := 256) (b := 128) (kernelRun0_B.sl.v137 (F := Ideal) c i arg2 harg2 arg3 harg3 arg4 harg4 arg5 harg5 arg6 harg6 arg7 harg7 arg8 harg8 arg9 harg9 arg10 harg10 arg11 harg11 arg12 harg12 x0 x1 x2 x3 x4 xo6 xo7) _ := (rd_load (h := 256) (w := 128) P8_0 (t0 + 0, 0) ho0 hb0).congr (g := fun j d => ∑ t ∈ Finset.range t0, D.dz t (t0 + 0 + j) * D.Q t d) fun j d _ _ => by
    simp only [keyAcc, Nat.zero_add, if_neg (show ¬ t0 + 0 + j < t0 + 0 by omega), add_zero]; simp
  have hdv0: Rd (a := 256) (b := 128) (kernelRun0_B.sl.v144 (F := Ideal) c i arg2 harg2 arg3 harg3 arg4 harg4 arg5 harg5 arg6 harg6 arg7 harg7 arg8 harg8 arg9 harg9 arg10 harg10 arg11 harg11 arg12 harg12 x0 x1 x2 x3 x4 xo6 xo7) _ := (rd_load (h := 256) (w := 128) P9_0 (t0 + 0, 0) ho0 hb0).congr (g := fun j d => ∑ t ∈ Finset.range t0, D.a t (t0 + 0 + j) * D.G t d) fun j d _ _ => by
    simp only [keyAcc, Nat.zero_add, if_neg (show ¬ t0 + 0 + j < t0 + 0 by omega), add_zero]; simp
  have T0 : Tl D t0 0 _ _ _ _ _ _ _ _ _ _ _ _ _ := ⟨rfl, I.upto, I.before, hq0, hg0, hk0, hv0, hm0, hl0, hpre0, hcp0, hacc0, hdk0, hdv0⟩
  have P8_1 : Rd (arg8.view.read (Elt Ideal) (arg8.view.writes (Elt Ideal) (harg8.unread xo6) (kernelRun0_B.sl.H6_1 (F := Ideal) c i arg2 harg2 arg3 harg3 arg4 harg4 arg5 harg5 arg6 harg6 arg7 harg7 arg8 harg8 arg9 harg9 arg10 harg10 arg11 harg11 arg12 harg12 x0 x1 x2 x3 x4 xo6 xo7))) (keyAcc D.dz D.Q t0 (t0 + 0 + 256)) :=
    rd_keys P8_0 ho0 hb0 (T0.dk' sh1024 shapeCasts_S256x128_S256x128)
  have P9_1 : Rd (arg9.view.read (Elt Ideal) (arg9.view.writes (Elt Ideal) (harg9.unread xo7) (kernelRun0_B.sl.H7_1 (F := Ideal) c i arg2 harg2 arg3 harg3 arg4 harg4 arg5 harg5 arg6 harg6 arg7 harg7 arg8 harg8 arg9 harg9 arg10 harg10 arg11 harg11 arg12 harg12 x0 x1 x2 x3 x4 xo6 xo7))) (keyAcc D.a D.G t0 (t0 + 0 + 256)) :=
    rd_keys P9_0 ho0 hb0 (T0.dv' sh1024 shapeCasts_S256x128_S256x128)
  have P11_1 : Rd (arg11.view.read (Elt Ideal) (arg11.view.writes (Elt Ideal) arg11.view.junk (kernelRun0_B.sl.HS1_1_1 (F := Ideal) c i arg2 harg2 arg3 harg3 arg4 harg4 arg5 harg5 arg6 harg6 arg7 harg7 arg8 harg8 arg9 harg9 arg10 harg10 arg11 harg11 arg12 harg12 x0 x1 x2 x3 x4 xo6 xo7))) (fun r _ => ∑ l ∈ Finset.range (t0 + 0 + 256), D.lm (t0 + r) l) :=
    rd_rows (o := 0) (n := 1024) P11_0 rfl rfl inb_S1024x1_S1024x1_0_0 (T0.pre' sh1024) fun r d hr => sum_stop (by omega) fun l hl => D.lm_zero (by omega)
  have P12_1 : Rd (arg12.view.read (Elt Ideal) (arg12.view.writes (Elt Ideal) arg12.view.junk (kernelRun0_B.sl.HS2_1_1 (F := Ideal) c i arg2 harg2 arg3 harg3 arg4 harg4 arg5 harg5 arg6 harg6 arg7 harg7 arg8 harg8 arg9 harg9 arg10 harg10 arg11 harg11 arg12 harg12 x0 x1 x2 x3 x4 xo6 xo7))) (fun r _ => ∑ l ∈ Finset.range (t0 + 0 + 256), D.p (t0 + r) l) :=
    rd_rows (o := 0) (n := 1024) P12_0 rfl rfl inb_S1024x1_S1024x1_0_0 (T0.cp' sh1024) fun r d hr => sum_stop (by omega) fun l hl => D.p_zero (by omega)
  have P10_1 : Rd (arg10.view.read (Elt Ideal) (arg10.view.writes (Elt Ideal) arg10.view.junk (kernelRun0_B.sl.HS0_1_1 (F := Ideal) c i arg2 harg2 arg3 harg3 arg4 harg4 arg5 harg5 arg6 harg6 arg7 harg7 arg8 harg8 arg9 harg9 arg10 harg10 arg11 harg11 arg12 harg12 x0 x1 x2 x3 x4 xo6 xo7))) (fun r d => ∑ l ∈ Finset.range (t0 + 0 + 256), D.dz (t0 + r) l * D.K l d) :=
    rd_rows (o := 0) (n := 1024) P10_0 rfl rfl inb_S1024x128_S1024x128_0_0 (T0.acc' sh1024 shapeCasts_S1024x128_S1024x128) fun r d hr => sum_stop (by omega) fun l hl => by rw [D.dz_zero (by omega), zero_mul]

  have ho1 : k0_off3 i 1#32 = ![t0 + 256, 0] := by rw [ht]; exact off3 i 1
  have hb1 : ∀ a, k0_off3 i 1#32 a + (Blk 256 128).size a ≤ (Blk 4096 128).size a := by
    rw [ho1]
    intro a; match a with
    | ⟨0, _⟩ => show t0 + 256 + 256 ≤ 4096; omega
    | ⟨1, _⟩ => exact (by decide : 0 + 128 ≤ 128)
  have hm1 : Msk (n := 768) (some (kernelRun0_B.sl.r_16 i)) (t0 + 256) (t0 + 256) := by rw [ht]; exact msk1 (i 1)
  have hk1 : Rd (a := 256) (b := 128) (kernelRun0_B.sl.r_12 (F := Ideal) i arg3 harg3 x1) _ := (rd_load' (h := 256) (w := 128) I.k (t0 + 256, 0) ho1 hb1).congr (g := fun j d => D.K (t0 + 256 + j) d) fun j d _ _ => by simp only [Nat.zero_add]
  have hv1 : Rd (a := 256) (b := 128) (kernelRun0_B.sl.r_13 (F := Ideal) i arg4 harg4 x2) _ := (rd_load' (h := 256) (w := 128) I.v (t0 + 256, 0) ho1 hb1).congr (g := fun j d => D.V (t0 + 256 + j) d) fun j d _ _ => by simp only [Nat.zero_add]
  have hq1 : Rd (a := 768) (b := 128) (kernelRun0_B.sl.r_14 (F := Ideal) c arg2 harg2 x0) _ := (rd_slice (n := 768) I.q 256 rfl slices_S1024x128_o256_0_S768x128 : Rd (kernelRun0_B.sl.r_14 (F := Ideal) c arg2 harg2 x0) _).congr (g := fun r d => D.Q (t0 + 256 + r) d) fun r d _ _ => by simp only [Nat.add_assoc, Nat.zero_add]
  have hg1 : Rd (a := 768) (b := 128) (kernelRun0_B.sl.r_15 (F := Ideal) c arg5 harg5 x3) _ := (rd_slice (n := 768) I.g 256 rfl slices_S1024x128_o256_0_S768x128 : Rd (kernelRun0_B.sl.r_15 (F := Ideal) c arg5 harg5 x3) _).congr (g := fun r d => D.G (t0 + 256 + r) d) fun r d _ _ => by simp only [Nat.add_assoc, Nat.zero_add]
  have hl1 := (rd_load (h := 768) (w := 1) hl6 (256, 0) rfl inb_S1024x128_S768x1_256_0).congr (g := fun r _ => D.L (t0 + 256 + r)) fun r d _ hd => by
    obtain rfl : d = 0 := by omega
    simp only [Nat.zero_add, hA6, Nat.add_assoc]
  have hpre1 : Rd (a := 768) (b := 1) (kernelRun0_B.sl.v203 (F := Ideal) c i arg2 harg2 arg3 harg3 arg4 harg4 arg5 harg5 arg6 harg6 arg7 harg7 arg8 harg8 arg9 harg9 arg10 harg10 arg11 harg11 arg12 harg12 x0 x1 x2 x3 x4 xo6 xo7) _ := (rd_load (h := 768) (w := 1) P11_1 (256, 0) rfl inb_S1024x1_S768x1_256_0).congr (g := fun r _ => ∑ l ∈ Finset.range (t0 + 256), D.lm (t0 + 256 + r) l) fun r d _ hd => by
    simp only [Nat.add_assoc, Nat.zero_add, Nat.add_zero]
  have hcp1 : Rd (a := 768) (b := 1) (kernelRun0_B.sl.v222 (F := Ideal) c i arg2 harg2 arg3 harg3 arg4 harg4 arg5 harg5 arg6 harg6 arg7 harg7 arg8 harg8 arg9 harg9 arg10 harg10 arg11 harg11 arg12 harg12 x0 x1 x2 x3 x4 xo6 xo7) _ := (rd_load (h := 768) (w := 1) P12_1 (256, 0) rfl inb_S1024x1_S768x1_256_0).congr (g := fun r _ => ∑ l ∈ Finset.range (t0 + 256), D.p (t0 + 256 + r) l) fun r d _ hd => by
    simp only [Nat.add_assoc, Nat.zero_add, Nat.add_zero]
  have hacc1 : Rd (a := 768) (b := 128) (kernelRun0_B.sl.v243 (F := Ideal) c i arg2 harg2 arg3 harg3 arg4 harg4 arg5 harg5 arg6 harg6 arg7 harg7 arg8 harg8 arg9 harg9 arg10 harg10 arg11 harg11 arg12 harg12 x0 x1 x2 x3 x4 xo6 xo7) _ := (rd_load (h := 768) (w := 128) P10_1 (256, 0) rfl inb_S1024x128_S768x128_256_0).congr (g := fun r d => ∑ l ∈ Finset.range (t0 + 256), D.dz (t0 + 256 + r) l * D.K l d) fun r d _ hd => by
    simp only [Nat.add_assoc, Nat.zero_add, Nat.add_zero]
  have hdk1 := (rd_load (h := 256) (w := 128) P8_1 (t0 + 256, 0) ho1 hb1).congr (g := fun j d => ∑ t ∈ Finset.range t0, D.dz t (t0 + 256 + j) * D.Q t d) fun j d _ _ => by
    simp only [keyAcc, Nat.zero_add, if_neg (show ¬ t0 + 256 + j < t0 + 256 by omega), add_zero]
  have hdv1 := (rd_load (h := 256) (w := 128) P9_1 (t0 + 256, 0) ho1 hb1).congr (g := fun j d => ∑ t ∈ Finset.range t0, D.a t (t0 + 256 + j) * D.G t d) fun j d _ _ => by
    simp only [keyAcc, Nat.zero_add, if_neg (show ¬ t0 + 256 + j < t0 + 256 by omega), add_zero]
  have T1 : Tl D t0 256 _ _ _ _ _ _ _ _ _ _ _ _ _ := ⟨rfl, I.upto, I.before, hq1, hg1, hk1, hv1, hm1, hl1, hpre1, hcp1, hacc1, hdk1, hdv1⟩
  have P8_2 : Rd (arg8.view.read (Elt Ideal) (arg8.view.writes (Elt Ideal) (harg8.unread xo6) (kernelRun0_B.sl.H6_2 (F := Ideal) c i arg2 harg2 arg3 harg3 arg4 harg4 arg5 harg5 arg6 harg6 arg7 harg7 arg8 harg8 arg9 harg9 arg10 harg10 arg11 harg11 arg12 harg12 x0 x1 x2 x3 x4 xo6 xo7))) (keyAcc D.dz D.Q t0 (t0 + 256 + 256)) :=
    rd_keys P8_1 ho1 hb1 (T1.dk' sh768 shapeCasts_S256x128_S256x128)
  have P9_2 : Rd (arg9.view.read (Elt Ideal) (arg9.view.writes (Elt Ideal) (harg9.unread xo7) (kernelRun0_B.sl.H7_2 (F := Ideal) c i arg2 harg2 arg3 harg3 arg4 harg4 arg5 harg5 arg6 harg6 arg7 harg7 arg8 harg8 arg9 harg9 arg10 harg10 arg11 harg11 arg12 harg12 x0 x1 x2 x3 x4 xo6 xo7))) (keyAcc D.a D.G t0 (t0 + 256 + 256)) :=
    rd_keys P9_1 ho1 hb1 (T1.dv' sh768 shapeCasts_S256x128_S256x128)
  have P11_2 : Rd (arg11.view.read (Elt Ideal) (arg11.view.writes (Elt Ideal) arg11.view.junk (kernelRun0_B.sl.HS1_2 (F := Ideal) c i arg2 harg2 arg3 harg3 arg4 harg4 arg5 harg5 arg6 harg6 arg7 harg7 arg8 harg8 arg9 harg9 arg10 harg10 arg11 harg11 arg12 harg12 x0 x1 x2 x3 x4 xo6 xo7))) (fun r _ => ∑ l ∈ Finset.range (t0 + 256 + 256), D.lm (t0 + r) l) :=
    rd_rows (o := 256) (n := 768) P11_1 rfl rfl inb_S1024x1_S768x1_256_0 (T1.pre' sh768) fun r d hr => sum_stop (by omega) fun l hl => D.lm_zero (by omega)
  have P12_2 : Rd (arg12.view.read (Elt Ideal) (arg12.view.writes (Elt Ideal) arg12.view.junk (kernelRun0_B.sl.HS2_2 (F := Ideal) c i arg2 harg2 arg3 harg3 arg4 harg4 arg5 harg5 arg6 harg6 arg7 harg7 arg8 harg8 arg9 harg9 arg10 harg10 arg11 harg11 arg12 harg12 x0 x1 x2 x3 x4 xo6 xo7))) (fun r _ => ∑ l ∈ Finset.range (t0 + 256 + 256), D.p (t0 + r) l) :=
    rd_rows (o := 256) (n := 768) P12_1 rfl rfl inb_S1024x1_S768x1_256_0 (T1.cp' sh768) fun r d hr => sum_stop (by omega) fun l hl => D.p_zero (by omega)
  have P10_2 : Rd (arg10.view.read (Elt Ideal) (arg10.view.writes (Elt Ideal) arg10.view.junk (kernelRun0_B.sl.HS0_2 (F := Ideal) c i arg2 harg2 arg3 harg3 arg4 harg4 arg5 harg5 arg6 harg6 arg7 harg7 arg8 harg8 arg9 harg9 arg10 harg10 arg11 harg11 arg12 harg12 x0 x1 x2 x3 x4 xo6 xo7))) (fun r d => ∑ l ∈ Finset.range (t0 + 256 + 256), D.dz (t0 + r) l * D.K l d) :=
    rd_rows (o := 256) (n := 768) P10_1 rfl rfl inb_S1024x128_S768x128_256_0 (T1.acc' sh768 shapeCasts_S768x128_S768x128) fun r d hr => sum_stop (by omega) fun l hl => by rw [D.dz_zero (by omega), zero_mul]

  have ho2 : k0_off3 i 2#32 = ![t0 + 512, 0] := by rw [ht]; exact off3 i 2
  have hb2 : ∀ a, k0_off3 i 2#32 a + (Blk 256 128).size a ≤ (Blk 4096 128).size a := by
    rw [ho2]
    intro a; match a with
    | ⟨0, _⟩ => show t0 + 512 + 256 ≤ 4096; omega
    | ⟨1, _⟩ => exact (by decide : 0 + 128 ≤ 128)
  have hm2 : Msk (n := 512) (some (kernelRun0_B.sl.r_28 i)) (t0 + 512) (t0 + 512) := by rw [ht]; exact msk2 (i 1)
  have hk2 : Rd (a := 256) (b := 128) (kernelRun0_B.sl.r_24 (F := Ideal) i arg3 harg3 x1) _ := (rd_load' (h := 256) (w := 128) I.k (t0 + 512, 0) ho2 hb2).congr (g := fun j d => D.K (t0 + 512 + j) d) fun j d _ _ => by simp only [Nat.zero_add]
  have hv2 : Rd (a := 256) (b := 128) (kernelRun0_B.sl.r_25 (F := Ideal) i arg4 harg4 x2) _ := (rd_load' (h := 256) (w := 128) I.v (t0 + 512, 0) ho2 hb2).congr (g := fun j d => D.V (t0 + 512 + j) d) fun j d _ _ => by simp only [Nat.zero_add]
  have hq2 : Rd (a := 512) (b := 128) (kernelRun0_B.sl.r_26 (F := Ideal) c arg2 harg2 x0) _ := (rd_slice (n := 512) I.q 512 rfl slices_S1024x128_o512_0_S512x128 : Rd (kernelRun0_B.sl.r_26 (F := Ideal) c arg2 harg2 x0) _).congr (g := fun r d => D.Q (t0 + 512 + r) d) fun r d _ _ => by simp only [Nat.add_assoc, Nat.zero_add]
  have hg2 : Rd (a := 512) (b := 128) (kernelRun0_B.sl.r_27 (F := Ideal) c arg5 harg5 x3) _ := (rd_slice (n := 512) I.g 512 rfl slices_S1024x128_o512_0_S512x128 : Rd (kernelRun0_B.sl.r_27 (F := Ideal) c arg5 harg5 x3) _).congr (g := fun r d => D.G (t0 + 512 + r) d) fun r d _ _ => by simp only [Nat.add_assoc, Nat.zero_add]
  have hl2 := (rd_load (h := 512) (w := 1) hl6 (512, 0) rfl inb_S1024x128_S512x1_512_0).congr (g := fun r _ => D.L (t0 + 512 + r)) fun r d _ hd => by
    obtain rfl : d = 0 := by omega
    simp only [Nat.zero_add, hA6, Nat.add_assoc]
  have hpre2 : Rd (a := 512) (b := 1) (kernelRun0_B.sl.v316 (F := Ideal) c i arg2 harg2 arg3 harg3 arg4 harg4 arg5 harg5 arg6 harg6 arg7 harg7 arg8 harg8 arg9 harg9 arg10 harg10 arg11 harg11 arg12 harg12 x0 x1 x2 x3 x4 xo6 xo7) _ := (rd_load (h := 512) (w := 1) P11_2 (512, 0) rfl inb_S1024x1_S512x1_512_0).congr (g := fun r _ => ∑ l ∈ Finset.range (t0 + 512), D.lm (t0 + 512 + r) l) fun r d _ hd => by
    simp only [Nat.add_assoc, Nat.zero_add, Nat.add_zero]
  have hcp2 : Rd (a := 512) (b := 1) (kernelRun0_B.sl.v335 (F := Ideal) c i arg2 harg2 arg3 harg3 arg4 harg4 arg5 harg5 arg6 harg6 arg7 harg7 arg8 harg8 arg9 harg9 arg10 harg10 arg11 harg11 arg12 harg12 x0 x1 x2 x3 x4 xo6 xo7) _ := (rd_load (h := 512) (w := 1) P12_2 (512, 0) rfl inb_S1024x1_S512x1_512_0).congr (g := fun r _ => ∑ l ∈ Finset.range (t0 + 512), D.p (t0 + 512 + r) l) fun r d _ hd => by
    simp only [Nat.add_assoc, Nat.zero_add, Nat.add_zero]
  have hacc2 : Rd (a := 512) (b := 128) (kernelRun0_B.sl.v356 (F := Ideal) c i arg2 harg2 arg3 harg3 arg4 harg4 arg5 harg5 arg6 harg6 arg7 harg7 arg8 harg8 arg9 harg9 arg10 harg10 arg11 harg11 arg12 harg12 x0 x1 x2 x3 x4 xo6 xo7) _ := (rd_load (h := 512) (w := 128) P10_2 (512, 0) rfl inb_S1024x128_S512x128_512_0).congr (g := fun r d => ∑ l ∈ Finset.range (t0 + 512), D.dz (t0 + 512 + r) l * D.K l d) fun r d _ hd => by
    simp only [Nat.add_assoc, Nat.zero_add, Nat.add_zero]
  have hdk2 := (rd_load (h := 256) (w := 128) P8_2 (t0 + 512, 0) ho2 hb2).congr (g := fun j d => ∑ t ∈ Finset.range t0, D.dz t (t0 + 512 + j) * D.Q t d) fun j d _ _ => by
    simp only [keyAcc, Nat.zero_add, if_neg (show ¬ t0 + 512 + j < t0 + 512 by omega), add_zero]
  have hdv2 := (rd_load (h := 256) (w := 128) P9_2 (t0 + 512, 0) ho2 hb2).congr (g := fun j d => ∑ t ∈ Finset.range t0, D.a t (t0 + 512 + j) * D.G t d) fun j d _ _ => by
    simp only [keyAcc, Nat.zero_add, if_neg (show ¬ t0 + 512 + j < t0 + 512 by omega), add_zero]
  have T2 : Tl D t0 512 _ _ _ _ _ _ _ _ _ _ _ _ _ := ⟨rfl, I.upto, I.before, hq2, hg2, hk2, hv2, hm2, hl2, hpre2, hcp2, hacc2, hdk2, hdv2⟩
  have P8_3 : Rd (arg8.view.read (Elt Ideal) (arg8.view.writes (Elt Ideal) (harg8.unread xo6) (kernelRun0_B.sl.H6_3 (F := Ideal) c i arg2 harg2 arg3 harg3 arg4 harg4 arg5 harg5 arg6 harg6 arg7 harg7 arg8 harg8 arg9 harg9 arg10 harg10 arg11 harg11 arg12 harg12 x0 x1 x2 x3 x4 xo6 xo7))) (keyAcc D.dz D.Q t0 (t0 + 512 + 256)) :=
    rd_keys P8_2 ho2 hb2 (T2.dk' sh512 shapeCasts_S256x128_S256x128)
  have P9_3 : Rd (arg9.view.read (Elt Ideal) (arg9.view.writes (Elt Ideal) (harg9.unread xo7) (kernelRun0_B.sl.H7_3 (F := Ideal) c i arg2 harg2 arg3 harg3 arg4 harg4 arg5 harg5 arg6 harg6 arg7 harg7 arg8 harg8 arg9 harg9 arg10 harg10 arg11 harg11 arg12 harg12 x0 x1 x2 x3 x4 xo6 xo7))) (keyAcc D.a D.G t0 (t0 + 512 + 256)) :=
    rd_keys P9_2 ho2 hb2 (T2.dv' sh512 shapeCasts_S256x128_S256x128)
  have P11_3 : Rd (arg11.view.read (Elt Ideal) (arg11.view.writes (Elt Ideal) arg11.view.junk (kernelRun0_B.sl.HS1_3 (F := Ideal) c i arg2 harg2 arg3 harg3 arg4 harg4 arg5 harg5 arg6 harg6 arg7 harg7 arg8 harg8 arg9 harg9 arg10 harg10 arg11 harg11 arg12 harg12 x0 x1 x2 x3 x4 xo6 xo7))) (fun r _ => ∑ l ∈ Finset.range (t0 + 512 + 256), D.lm (t0 + r) l) :=
    rd_rows (o := 512) (n := 512) P11_2 rfl rfl inb_S1024x1_S512x1_512_0 (T2.pre' sh512) fun r d hr => sum_stop (by omega) fun l hl => D.lm_zero (by omega)
  have P12_3 : Rd (arg12.view.read (Elt Ideal) (arg12.view.writes (Elt Ideal) arg12.view.junk (kernelRun0_B.sl.HS2_3 (F := Ideal) c i arg2 harg2 arg3 harg3 arg4 harg4 arg5 harg5 arg6 harg6 arg7 harg7 arg8 harg8 arg9 harg9 arg10 harg10 arg11 harg11 arg12 harg12 x0 x1 x2 x3 x4 xo6 xo7))) (fun r _ => ∑ l ∈ Finset.range (t0 + 512 + 256), D.p (t0 + r) l) :=
    rd_rows (o := 512) (n := 512) P12_2 rfl rfl inb_S1024x1_S512x1_512_0 (T2.cp' sh512) fun r d hr => sum_stop (by omega) fun l hl => D.p_zero (by omega)
  have P10_3 : Rd (arg10.view.read (Elt Ideal) (arg10.view.writes (Elt Ideal) arg10.view.junk (kernelRun0_B.sl.HS0_3 (F := Ideal) c i arg2 harg2 arg3 harg3 arg4 harg4 arg5 harg5 arg6 harg6 arg7 harg7 arg8 harg8 arg9 harg9 arg10 harg10 arg11 harg11 arg12 harg12 x0 x1 x2 x3 x4 xo6 xo7))) (fun r d => ∑ l ∈ Finset.range (t0 + 512 + 256), D.dz (t0 + r) l * D.K l d) :=
    rd_rows (o := 512) (n := 512) P10_2 rfl rfl inb_S1024x128_S512x128_512_0 (T2.acc' sh512 shapeCasts_S512x128_S512x128) fun r d hr => sum_stop (by omega) fun l hl => by rw [D.dz_zero (by omega), zero_mul]

  have ho3 : k0_off3 i 3#32 = ![t0 + 768, 0] := by rw [ht]; exact off3 i 3
  have hb3 : ∀ a, k0_off3 i 3#32 a + (Blk 256 128).size a ≤ (Blk 4096 128).size a := by
    rw [ho3]
    intro a; match a with
    | ⟨0, _⟩ => show t0 + 768 + 256 ≤ 4096; omega
    | ⟨1, _⟩ => exact (by decide : 0 + 128 ≤ 128)
  have hm3 : Msk (n := 256) (some (kernelRun0_B.sl.r_41 i)) (t0 + 768) (t0 + 768) := by rw [ht]; exact msk3 (i 1)
  have hk3 : Rd (a := 256) (b := 128) (kernelRun0_B.sl.r_37 (F := Ideal) i arg3 harg3 x1) _ := (rd_load' (h := 256) (w := 128) I.k (t0 + 768, 0) ho3 hb3).congr (g := fun j d => D.K (t0 + 768 + j) d) fun j d _ _ => by simp only [Nat.zero_add]
  have hv3 : Rd (a := 256) (b := 128) (kernelRun0_B.sl.r_38 (F := Ideal) i arg4 harg4 x2) _ := (rd_load' (h := 256) (w := 128) I.v (t0 + 768, 0) ho3 hb3).congr (g := fun j d => D.V (t0 + 768 + j) d) fun j d _ _ => by simp only [Nat.zero_add]
  have hq3 : Rd (a := 256) (b := 128) (kernelRun0_B.sl.r_39 (F := Ideal) c arg2 harg2 x0) _ := (rd_slice (n := 256) I.q 768 rfl slices_S1024x128_o768_0_S256x128 : Rd (kernelRun0_B.sl.r_39 (F := Ideal) c arg2 harg2 x0) _).congr (g := fun r d => D.Q (t0 + 768 + r) d) fun r d _ _ => by simp only [Nat.add_assoc, Nat.zero_add]
  have hg3 : Rd (a := 256) (b := 128) (kernelRun0_B.sl.r_40 (F := Ideal) c arg5 harg5 x3) _ := (rd_slice (n := 256) I.g 768 rfl slices_S1024x128_o768_0_S256x128 : Rd (kernelRun0_B.sl.r_40 (F := Ideal) c arg5 harg5 x3) _).congr (g := fun r d => D.G (t0 + 768 + r) d) fun r d _ _ => by simp only [Nat.add_assoc, Nat.zero_add]
  have hl3 := (rd_load (h := 256) (w := 1) hl6 (768, 0) rfl inb_S1024x128_S256x1_768_0).congr (g := fun r _ => D.L (t0 + 768 + r)) fun r d _ hd => by
    obtain rfl : d = 0 := by omega
    simp only [Nat.zero_add, hA6, Nat.add_assoc]
  have hpre3 : Rd (a := 256) (b := 1) (kernelRun0_B.sl.v429 (F := Ideal) c i arg2 harg2 arg3 harg3 arg4 harg4 arg5 harg5 arg6 harg6 arg7 harg7 arg8 harg8 arg9 harg9 arg10 harg10 arg11 harg11 arg12 harg12 x0 x1 x2 x3 x4 xo6 xo7) _ := (rd_load (h := 256) (w := 1) P11_3 (768, 0) rfl inb_S1024x1_S256x1_768_0).congr (g := fun r _ => ∑ l ∈ Finset.range (t0 + 768), D.lm (t0 + 768 + r) l) fun r d _ hd => by
    simp only [Nat.add_assoc, Nat.zero_add, Nat.add_zero]
  have hcp3 : Rd (a := 256) (b := 1) (kernelRun0_B.sl.v448 (F := Ideal) c i arg2 harg2 arg3 harg3 arg4 harg4 arg5 harg5 arg6 harg6 arg7 harg7 arg8 harg8 arg9 harg9 arg10 harg10 arg11 harg11 arg12 harg12 x0 x1 x2 x3 x4 xo6 xo7) _ := (rd_load (h := 256) (w := 1) P12_3 (768, 0) rfl inb_S1024x1_S256x1_768_0).congr (g := fun r _ => ∑ l ∈ Finset.range (t0 + 768), D.p (t0 + 768 + r) l) fun r d _ hd => by
    simp only [Nat.add_assoc, Nat.zero_add, Nat.add_zero]
  have hacc3 : Rd (a := 256) (b := 128) (kernelRun0_B.sl.v469 (F := Ideal) c i arg2 harg2 arg3 harg3 arg4 harg4 arg5 harg5 arg6 harg6 arg7 harg7 arg8 harg8 arg9 harg9 arg10 harg10 arg11 harg11 arg12 harg12 x0 x1 x2 x3 x4 xo6 xo7) _ := (rd_load (h := 256) (w := 128) P10_3 (768, 0) rfl inb_S1024x128_S256x128_768_0).congr (g := fun r d => ∑ l ∈ Finset.range (t0 + 768), D.dz (t0 + 768 + r) l * D.K l d) fun r d _ hd => by
    simp only [Nat.add_assoc, Nat.zero_add, Nat.add_zero]
  have hdk3 := (rd_load (h := 256) (w := 128) P8_3 (t0 + 768, 0) ho3 hb3).congr (g := fun j d => ∑ t ∈ Finset.range t0, D.dz t (t0 + 768 + j) * D.Q t d) fun j d _ _ => by
    simp only [keyAcc, Nat.zero_add, if_neg (show ¬ t0 + 768 + j < t0 + 768 by omega), add_zero]
  have hdv3 := (rd_load (h := 256) (w := 128) P9_3 (t0 + 768, 0) ho3 hb3).congr (g := fun j d => ∑ t ∈ Finset.range t0, D.a t (t0 + 768 + j) * D.G t d) fun j d _ _ => by
    simp only [keyAcc, Nat.zero_add, if_neg (show ¬ t0 + 768 + j < t0 + 768 by omega), add_zero]
  have T3 : Tl D t0 768 _ _ _ _ _ _ _ _ _ _ _ _ _ := ⟨rfl, I.upto, I.before, hq3, hg3, hk3, hv3, hm3, hl3, hpre3, hcp3, hacc3, hdk3, hdv3⟩
  have P10_4 : Rd (arg10.view.read (Elt Ideal) (arg10.view.writes (Elt Ideal) arg10.view.junk (kernelRun0_B.sl.HS0_4 (F := Ideal) c i arg2 harg2 arg3 harg3 arg4 harg4 arg5 harg5 arg6 harg6 arg7 harg7 arg8 harg8 arg9 harg9 arg10 harg10 arg11 harg11 arg12 harg12 x0 x1 x2 x3 x4 xo6 xo7))) (fun r d => ∑ l ∈ Finset.range (t0 + 768 + 256), D.dz (t0 + r) l * D.K l d) :=
    rd_rows (o := 768) (n := 256) P10_3 rfl rfl inb_S1024x128_S256x128_768_0 (T3.acc' sh256 shapeCasts_S256x128_S256x128) fun r d hr => sum_stop (by omega) fun l hl => by rw [D.dz_zero (by omega), zero_mul]
  have hout : Rd (a := 1024) (b := 128) (kernelRun0_B.sl.v504 (F := Ideal) c i arg2 harg2 arg3 harg3 arg4 harg4 arg5 harg5 arg6 harg6 arg7 harg7 arg8 harg8 arg9 harg9 arg10 harg10 arg11 harg11 arg12 harg12 x0 x1 x2 x3 x4 xo6 xo7) (fun r d => ∑ l ∈ Finset.range (t0 + 768 + 256), D.dz (t0 + r) l * D.K l d) :=
    (rd_load (h := 1024) (w := 128) P10_4 (0, 0) rfl inb_S1024x128_S1024x128_0_0).congr fun r d _ _ => by simp only [Nat.zero_add]
  refine ⟨?_, ?_, ?_⟩
  · unfold out0_B_5 kernelRun0_B
    dsimp only
    exact isArr_writes_whole _ _ _ (rd_truncf narrow hout)
  · refine Rd.congr (f := keyAcc D.dz D.Q t0 (t0 + 1024)) ?_ fun j d _ _ => keyAcc_done (fun t j h => D.dz_zero h) _ t0 j d
    unfold out0_B_6
    unfold kernelRun0_B
    dsimp only
    exact rd_keys P8_3 ho3 hb3 (T3.dk' sh256 shapeCasts_S256x128_S256x128)
  · refine Rd.congr (f := keyAcc D.a D.G t0 (t0 + 1024)) ?_ fun j d _ _ => keyAcc_done (fun t j h => D.a_zero h) _ t0 j d
    unfold out0_B_7
    unfold kernelRun0_B
    dsimp only
    exact rd_keys P9_3 ho3 hb3 (T3.dv' sh256 shapeCasts_S256x128_S256x128)

end

end Cert.Stick

end
-- ==== Proof.RunA.lean ====
/- The first point of a head. -/
module

public import proofs.«01_k».proof.Proof.RunB

@[expose] public section

set_option maxRecDepth 16384
set_option maxHeartbeats 4000000

noncomputable section

namespace Cert.Stick

open Idealize.ShloMosaic Idealize.ShloMosaic.TcCoe Idealize.ShloMosaic.Updates
open Idealize.ShloMosaic.LaneScatter (Blk Vec1)
open Cert.KernelIdeal Cert.KernelIdeal.Gen
open scoped BigOperators

section
variable (c : Dev nD) (i : grid0.Coords) (arg2 : Memref sig .tc .vmem S1024x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x128 .bf16) (harg7 : arg7.IsWhole) (arg8 : Memref sig .tc .vmem S4096x128 .f32) (harg8 : arg8.IsWhole) (arg9 : Memref sig .tc .vmem S4096x128 .f32) (harg9 : arg9.IsWhole) (arg10 : Memref sig .tc .vmem S1024x128 .f32) (harg10 : arg10.IsWhole) (arg11 : Memref sig .tc .vmem S1024x1 .f32) (harg11 : arg11.IsWhole) (arg12 : Memref sig .tc .vmem S1024x1 .f32) (harg12 : arg12.IsWhole) (hc0 : cond0_0 i) (x0 : Vec Ideal S1024x128 .bf16) (x1 : Vec Ideal S4096x128 .bf16) (x2 : Vec Ideal S4096x128 .bf16) (x3 : Vec Ideal S1024x128 .bf16) (x4 : Vec Ideal S1024x128 .f32)

/-- What a point of case A leaves: the gradient of its queries, and the gradients that the keys and the values have gathered. -/
theorem runA_value (D : Head) (t0 : ℕ) (ht : t0 = 1024 * (i 1).val) (h0 : t0 = 0)
    (hq : Rd x0 fun r d => D.Q (t0 + r) d) (hk : Rd x1 D.K) (hv : Rd x2 D.V) (hg : Rd x3 fun r d => D.G (t0 + r) d)
    (hl : ∃ A : ℕ → ℕ → ℝ, Rd x4 A ∧ ∀ r, A r 0 = D.L (t0 + r)) :
    Rd (out0_A_5 (F := Ideal) c i arg2 harg2 arg3 harg3 arg4 harg4 arg5 harg5 arg6 harg6 arg7 harg7 arg8 harg8 arg9 harg9 arg10 harg10 arg11 harg11 arg12 harg12 hc0 x0 x1 x2 x3 x4) (fun r d => ∑ l ∈ Finset.range (t0 + 1024), D.dz (t0 + r) l * D.K l d)
    ∧ Rd (out0_A_6 (F := Ideal) c i arg2 harg2 arg3 harg3 arg4 harg4 arg5 harg5 arg6 harg6 arg7 harg7 arg8 harg8 arg9 harg9 arg10 harg10 arg11 harg11 arg12 harg12 hc0 x0 x1 x2 x3 x4) (fun j d => ∑ t ∈ Finset.range (t0 + 1024), D.dz t j * D.Q t d)
    ∧ Rd (out0_A_7 (F := Ideal) c i arg2 harg2 arg3 harg3 arg4 harg4 arg5 harg5 arg6 harg6 arg7 harg7 arg8 harg8 arg9 harg9 arg10 harg10 arg11 harg11 arg12 harg12 hc0 x0 x1 x2 x3 x4) (fun j d => ∑ t ∈ Finset.range (t0 + 1024), D.a t j * D.G t d) := by
  have hr : Rd (a := 1024) (b := 128) (kernelRun0_A.sl.r (F := Ideal) c arg2 harg2 x0) fun r d => D.Q (t0 + r) d :=
    (rd_load' (h := 1024) (w := 128) (f := harg2.unread x0) (by rw [harg2.read_unread]; exact hq) (0, 0) rfl inb_S1024x128_S1024x128_0_0).congr fun r d _ _ => by simp only [Nat.zero_add]
  have hr1 : Rd (a := 1024) (b := 128) (kernelRun0_A.sl.r_1 (F := Ideal) c arg5 harg5 x3) fun r d => D.G (t0 + r) d :=
    (rd_load' (h := 1024) (w := 128) (f := harg5.unread x3) (by rw [harg5.read_unread]; exact hg) (0, 0) rfl inb_S1024x128_S1024x128_0_0).congr fun r d _ _ => by simp only [Nat.zero_add]
  have I : Inp D t0 (kernelRun0_A.sl.r (F := Ideal) c arg2 harg2 x0) (kernelRun0_A.sl.r_1 (F := Ideal) c arg5 harg5 x3) k0_pay103 k0_pay104 (arg3.view.read (Elt Ideal) (harg3.unread x1)) (arg4.view.read (Elt Ideal) (harg4.unread x2)) (arg6.view.read (Elt Ideal) (harg6.unread x4)) :=
    ⟨hr, hr1, upto_pay, before_pay, by rw [harg3.read_unread]; exact hk, by rw [harg4.read_unread]; exact hv, by rw [harg6.read_unread]; exact hl⟩
  have h6 : Rd (arg8.view.read (Elt Ideal) (View.writes (κ := (((Dev.tc c : Thread nD τ)).2.kind)) (Memref.view (κ := (((Dev.tc c : Thread nD τ)).2.kind)) arg8) (Elt Ideal) (View.junk (κ := (((Dev.tc c : Thread nD τ)).2.kind)) (Memref.view (κ := (((Dev.tc c : Thread nD τ)).2.kind)) arg8)) (kernelRun0_A.sl.H6_1 (F := Ideal)))) (keyAcc D.dz D.Q t0 0) :=
    (rd_whole rd_zeros).congr fun j d _ _ => by rw [keyAcc_zero, h0, Finset.sum_range_zero]
  have h7 : Rd (arg9.view.read (Elt Ideal) (View.writes (κ := (((Dev.tc c : Thread nD τ)).2.kind)) (Memref.view (κ := (((Dev.tc c : Thread nD τ)).2.kind)) arg9) (Elt Ideal) (View.junk (κ := (((Dev.tc c : Thread nD τ)).2.kind)) (Memref.view (κ := (((Dev.tc c : Thread nD τ)).2.kind)) arg9)) (kernelRun0_A.sl.H7_1 (F := Ideal)))) (keyAcc D.a D.G t0 0) :=
    (rd_whole rd_zeros).congr fun j d _ _ => by rw [keyAcc_zero, h0, Finset.sum_range_zero]
  have S0 : St D t0 0 (arg8.view.read (Elt Ideal) (View.writes (κ := (((Dev.tc c : Thread nD τ)).2.kind)) (Memref.view (κ := (((Dev.tc c : Thread nD τ)).2.kind)) arg8) (Elt Ideal) (View.junk (κ := (((Dev.tc c : Thread nD τ)).2.kind)) (Memref.view (κ := (((Dev.tc c : Thread nD τ)).2.kind)) arg8)) (kernelRun0_A.sl.H6_1 (F := Ideal)))) (arg9.view.read (Elt Ideal) (View.writes (κ := (((Dev.tc c : Thread nD τ)).2.kind)) (Memref.view (κ := (((Dev.tc c : Thread nD τ)).2.kind)) arg9) (Elt Ideal) (View.junk (κ := (((Dev.tc c : Thread nD τ)).2.kind)) (Memref.view (κ := (((Dev.tc c : Thread nD τ)).2.kind)) arg9)) (kernelRun0_A.sl.H7_1 (F := Ideal)))) (arg10.view.read (Elt Ideal) (View.writes (κ := (((Dev.tc c : Thread nD τ)).2.kind)) (Memref.view (κ := (((Dev.tc c : Thread nD τ)).2.kind)) arg10) (Elt Ideal) (View.junk (κ := (((Dev.tc c : Thread nD τ)).2.kind)) (Memref.view (κ := (((Dev.tc c : Thread nD τ)).2.kind)) arg10)) (kernelRun0_A.sl.HS0_1 (F := Ideal)))) (arg11.view.read (Elt Ideal) (View.writes (κ := (((Dev.tc c : Thread nD τ)).2.kind)) (Memref.view (κ := (((Dev.tc c : Thread nD τ)).2.kind)) arg11) (Elt Ideal) (View.junk (κ := (((Dev.tc c : Thread nD τ)).2.kind)) (Memref.view (κ := (((Dev.tc c : Thread nD τ)).2.kind)) arg11)) (kernelRun0_A.sl.HS1_1 (F := Ideal)))) (arg12.view.read (Elt Ideal) (View.writes (κ := (((Dev.tc c : Thread nD τ)).2.kind)) (Memref.view (κ := (((Dev.tc c : Thread nD τ)).2.kind)) arg12) (Elt Ideal) (View.junk (κ := (((Dev.tc c : Thread nD τ)).2.kind)) (Memref.view (κ := (((Dev.tc c : Thread nD τ)).2.kind)) arg12)) (kernelRun0_A.sl.HS2_1 (F := Ideal)))) :=
    ⟨h6, h7, (rd_whole (rd_shapeCast_self rd_zeros shapeCasts_S1024x128_S1024x128)).congr fun r d _ _ => by rw [Finset.sum_range_zero],
      (rd_whole (rd_shapeCast_self rd_zeros shapeCasts_S1024x1_S1024x1)).congr fun r d _ _ => by rw [Finset.sum_range_zero],
      (rd_whole (rd_shapeCast_self rd_zeros shapeCasts_S1024x1_S1024x1)).congr fun r d _ _ => by rw [Finset.sum_range_zero]⟩
  have S1 := loop_value Variants.none c none i arg2 harg2 arg3 harg3 arg4 harg4 arg5 harg5 arg6 harg6 arg7 harg7 arg8 harg8 arg9 harg9 arg10 harg10 arg11 harg11 arg12 harg12 (BitVec.ofNat 32 (@Fin.val (grid0.bound 1) (i 1))) (kernelRun0_A.sl.r (F := Ideal) c arg2 harg2 x0) (kernelRun0_A.sl.r_1 (F := Ideal) c arg5 harg5 x3) k0_pay103 k0_pay104 (kernelRun0_A.sl.v31 i) 4#32 (kernelRun0_A.sl.v32 i)
    (harg3.unread x1) (harg4.unread x2) (harg6.unread x4) (View.writes (κ := (((Dev.tc c : Thread nD τ)).2.kind)) (Memref.view (κ := (((Dev.tc c : Thread nD τ)).2.kind)) arg8) (Elt Ideal) (View.junk (κ := (((Dev.tc c : Thread nD τ)).2.kind)) (Memref.view (κ := (((Dev.tc c : Thread nD τ)).2.kind)) arg8)) (kernelRun0_A.sl.H6_1 (F := Ideal))) (View.writes (κ := (((Dev.tc c : Thread nD τ)).2.kind)) (Memref.view (κ := (((Dev.tc c : Thread nD τ)).2.kind)) arg9) (Elt Ideal) (View.junk (κ := (((Dev.tc c : Thread nD τ)).2.kind)) (Memref.view (κ := (((Dev.tc c : Thread nD τ)).2.kind)) arg9)) (kernelRun0_A.sl.H7_1 (F := Ideal))) (View.writes (κ := (((Dev.tc c : Thread nD τ)).2.kind)) (Memref.view (κ := (((Dev.tc c : Thread nD τ)).2.kind)) arg10) (Elt Ideal) (View.junk (κ := (((Dev.tc c : Thread nD τ)).2.kind)) (Memref.view (κ := (((Dev.tc c : Thread nD τ)).2.kind)) arg10)) (kernelRun0_A.sl.HS0_1 (F := Ideal))) (View.writes (κ := (((Dev.tc c : Thread nD τ)).2.kind)) (Memref.view (κ := (((Dev.tc c : Thread nD τ)).2.kind)) arg11) (Elt Ideal) (View.junk (κ := (((Dev.tc c : Thread nD τ)).2.kind)) (Memref.view (κ := (((Dev.tc c : Thread nD τ)).2.kind)) arg11)) (kernelRun0_A.sl.HS1_1 (F := Ideal))) (View.writes (κ := (((Dev.tc c : Thread nD τ)).2.kind)) (Memref.view (κ := (((Dev.tc c : Thread nD τ)).2.kind)) arg12) (Elt Ideal) (View.junk (κ := (((Dev.tc c : Thread nD τ)).2.kind)) (Memref.view (κ := (((Dev.tc c : Thread nD τ)).2.kind)) arg12)) (kernelRun0_A.sl.HS2_1 (F := Ideal))) D t0 ht I S0 (Scf.trips (k0_t1_loop i).lb (k0_t1_loop i).ub (k0_t1_loop i).st) (le_refl (k0_t1_loop i).trips)
  rw [show 1024 * (Scf.trips (k0_t1_loop i).lb (k0_t1_loop i).ub (k0_t1_loop i).st) = t0 from (congrArg (1024 * ·) (trips_t1 i)).trans ht.symm] at S1
  have S1' : St D t0 t0 _ _ _ _ _ := ⟨rd_append_S4096x128 S1.dk, rd_append_S4096x128 S1.dv, rd_append_S1024x128 S1.acc, rd_append_S1024x1 S1.pre, rd_append_S1024x1 S1.cp⟩
  have S2 := loop2_value c i arg2 harg2 arg3 harg3 arg4 harg4 arg5 harg5 arg6 harg6 arg7 harg7 arg8 harg8 arg9 harg9 arg10 harg10 arg11 harg11 arg12 harg12 (BitVec.ofNat 32 (@Fin.val (grid0.bound 1) (i 1))) (kernelRun0_A.sl.r (F := Ideal) c arg2 harg2 x0) (kernelRun0_A.sl.r_1 (F := Ideal) c arg5 harg5 x3) k0_pay103 k0_pay104 (kernelRun0_A.sl.v31 i) 4#32 (kernelRun0_A.sl.v32 i) (kernelRun0_A.sl.v53 i)
    (harg3.unread x1) (harg4.unread x2) (harg6.unread x4) _ _ _ _ _ D t0 t0 S1'
  clear S1' S1 S0
  obtain ⟨A6, hl6, hA6⟩ := I.l
  have hi : (i 1).val < 4 := (i 1).isLt
  have P8_0 := rd_append_S4096x128 S2.dk
  have P9_0 := rd_append_S4096x128 S2.dv
  have P10_0 := rd_append_S1024x128 S2.acc
  have P11_0 := rd_append_S1024x1 S2.pre
  have P12_0 := rd_append_S1024x1 S2.cp

  have ho0 : k0_off3 i 0#32 = ![t0 + 0, 0] := by rw [ht]; exact off3 i 0
  have hb0 : ∀ a, k0_off3 i 0#32 a + (Blk 256 128).size a ≤ (Blk 4096 128).size a := by
    rw [ho0]
    intro a; match a with
    | ⟨0, _⟩ => show t0 + 0 + 256 ≤ 4096; omega
    | ⟨1, _⟩ => exact (by decide : 0 + 128 ≤ 128)
  have hm0 : Msk (n := 1024) (some (kernelRun0_A.sl.r_4 i)) (t0 + 0) (t0 + 0) := by rw [ht]; exact msk0 (i 1)
  have hk0 : Rd (a := 256) (b := 128) (kernelRun0_A.sl.r_2 (F := Ideal) i arg3 harg3 x1) _ := (rd_load' (h := 256) (w := 128) I.k (t0 + 0, 0) ho0 hb0).congr (g := fun j d => D.K (t0 + 0 + j) d) fun j d _ _ => by simp only [Nat.zero_add]
  have hv0 : Rd (a := 256) (b := 128) (kernelRun0_A.sl.r_3 (F := Ideal) i arg4 harg4 x2) _ := (rd_load' (h := 256) (w := 128) I.v (t0 + 0, 0) ho0 hb0).congr (g := fun j d => D.V (t0 + 0 + j) d) fun j d _ _ => by simp only [Nat.zero_add]
  have hq0 : Rd (a := 1024) (b := 128) (kernelRun0_A.sl.r (F := Ideal) c arg2 harg2 x0) _ := (I.q : Rd (kernelRun0_A.sl.r (F := Ideal) c arg2 harg2 x0) _).congr (g := fun r d => D.Q (t0 + 0 + r) d) fun r d _ _ => by simp only [Nat.add_assoc, Nat.zero_add]
  have hg0 : Rd (a := 1024) (b := 128) (kernelRun0_A.sl.r_1 (F := Ideal) c arg5 harg5 x3) _ := (I.g : Rd (kernelRun0_A.sl.r_1 (F := Ideal) c arg5 harg5 x3) _).congr (g := fun r d => D.G (t0 + 0 + r) d) fun r d _ _ => by simp only [Nat.add_assoc, Nat.zero_add]
  have hl0 := (rd_load (h := 1024) (w := 1) hl6 (0, 0) rfl inb_S1024x128_S1024x1_0_0).congr (g := fun r _ => D.L (t0 + 0 + r)) fun r d _ hd => by
    obtain rfl : d = 0 := by omega
    simp only [Nat.zero_add, hA6, Nat.add_assoc]
  have hpre0 : Rd (a := 1024) (b := 1) (kernelRun0_A.sl.v90 (F := Ideal) c i arg2 harg2 arg3 harg3 arg4 harg4 arg5 harg5 arg6 harg6 arg7 harg7 arg8 harg8 arg9 harg9 arg10 harg10 arg11 harg11 arg12 harg12 x0 x1 x2 x3 x4) _ := (rd_load (h := 1024) (w := 1) P11_0 (0, 0) rfl inb_S1024x1_S1024x1_0_0).congr (g := fun r _ => ∑ l ∈ Finset.range (t0 + 0), D.lm (t0 + 0 + r) l) fun r d _ hd => by
    simp only [Nat.add_assoc, Nat.zero_add, Nat.add_zero]
  have hcp0 : Rd (a := 1024) (b := 1) (kernelRun0_A.sl.v109 (F := Ideal) c i arg2 harg2 arg3 harg3 arg4 harg4 arg5 harg5 arg6 harg6 arg7 harg7 arg8 harg8 arg9 harg9 arg10 harg10 arg11 harg11 arg12 harg12 x0 x1 x2 x3 x4) _ := (rd_load (h := 1024) (w := 1) P12_0 (0, 0) rfl inb_S1024x1_S1024x1_0_0).congr (g := fun r _ => ∑ l ∈ Finset.range (t0 + 0), D.p (t0 + 0 + r) l) fun r d _ hd => by
    simp only [Nat.add_assoc, Nat.zero_add, Nat.add_zero]
  have hacc0 : Rd (a := 1024) (b := 128) (kernelRun0_A.sl.v130 (F := Ideal) c i arg2 harg2 arg3 harg3 arg4 harg4 arg5 harg5 arg6 harg6 arg7 harg7 arg8 harg8 arg9 harg9 arg10 harg10 arg11 harg11 arg12 harg12 x0 x1 x2 x3 x4) _ := (rd_load (h := 1024) (w := 128) P10_0 (0, 0) rfl inb_S1024x128_S1024x128_0_0).congr (g := fun r d => ∑ l ∈ Finset.range (t0 + 0), D.dz (t0 + 0 + r) l * D.K l d) fun r d _ hd => by
    simp only [Nat.add_assoc, Nat.zero_add, Nat.add_zero]
  have hdk0: Rd (a := 256) (b := 128) (kernelRun0_A.sl.v137 (F := Ideal) c i arg2 harg2 arg3 harg3 arg4 harg4 arg5 harg5 arg6 harg6 arg7 harg7 arg8 harg8 arg9 harg9 arg10 harg10 arg11 harg11 arg12 harg12 x0 x1 x2 x3 x4) _ := (rd_load (h := 256) (w := 128) P8_0 (t0 + 0, 0) ho0 hb0).congr (g := fun j d => ∑ t ∈ Finset.range t0, D.dz t (t0 + 0 + j) * D.Q t d) fun j d _ _ => by
    simp only [keyAcc, Nat.zero_add, if_neg (show ¬ t0 + 0 + j < t0 + 0 by omega), add_zero]; simp
  have hdv0: Rd (a := 256) (b := 128) (kernelRun0_A.sl.v144 (F := Ideal) c i arg2 harg2 arg3 harg3 arg4 harg4 arg5 harg5 arg6 harg6 arg7 harg7 arg8 harg8 arg9 harg9 arg10 harg10 arg11 harg11 arg12 harg12 x0 x1 x2 x3 x4) _ := (rd_load (h := 256) (w := 128) P9_0 (t0 + 0, 0) ho0 hb0).congr (g := fun j d => ∑ t ∈ Finset.range t0, D.a t (t0 + 0 + j) * D.G t d) fun j d _ _ => by
    simp only [keyAcc, Nat.zero_add, if_neg (show ¬ t0 + 0 + j < t0 + 0 by omega), add_zero]; simp
  have T0 : Tl D t0 0 _ _ _ _ _ _ _ _ _ _ _ _ _ := ⟨rfl, I.upto, I.before, hq0, hg0, hk0, hv0, hm0, hl0, hpre0, hcp0, hacc0, hdk0, hdv0⟩
  have P8_1 : Rd (arg8.view.read (Elt Ideal) (arg8.view.writes (Elt Ideal) arg8.view.junk (kernelRun0_A.sl.H6_1_1 (F := Ideal) c i arg2 harg2 arg3 harg3 arg4 harg4 arg5 harg5 arg6 harg6 arg7 harg7 arg8 harg8 arg9 harg9 arg10 harg10 arg11 harg11 arg12 harg12 x0 x1 x2 x3 x4))) (keyAcc D.dz D.Q t0 (t0 + 0 + 256)) :=
    rd_keys P8_0 ho0 hb0 (T0.dk' sh1024 shapeCasts_S256x128_S256x128)
  have P9_1 : Rd (arg9.view.read (Elt Ideal) (arg9.view.writes (Elt Ideal) arg9.view.junk (kernelRun0_A.sl.H7_1_1 (F := Ideal) c i arg2 harg2 arg3 harg3 arg4 harg4 arg5 harg5 arg6 harg6 arg7 harg7 arg8 harg8 arg9 harg9 arg10 harg10 arg11 harg11 arg12 harg12 x0 x1 x2 x3 x4))) (keyAcc D.a D.G t0 (t0 + 0 + 256)) :=
    rd_keys P9_0 ho0 hb0 (T0.dv' sh1024 shapeCasts_S256x128_S256x128)
  have P11_1 : Rd (arg11.view.read (Elt Ideal) (arg11.view.writes (Elt Ideal) arg11.view.junk (kernelRun0_A.sl.HS1_1_1 (F := Ideal) c i arg2 harg2 arg3 harg3 arg4 harg4 arg5 harg5 arg6 harg6 arg7 harg7 arg8 harg8 arg9 harg9 arg10 harg10 arg11 harg11 arg12 harg12 x0 x1 x2 x3 x4))) (fun r _ => ∑ l ∈ Finset.range (t0 + 0 + 256), D.lm (t0 + r) l) :=
    rd_rows (o := 0) (n := 1024) P11_0 rfl rfl inb_S1024x1_S1024x1_0_0 (T0.pre' sh1024) fun r d hr => sum_stop (by omega) fun l hl => D.lm_zero (by omega)
  have P12_1 : Rd (arg12.view.read (Elt Ideal) (arg12.view.writes (Elt Ideal) arg12.view.junk (kernelRun0_A.sl.HS2_1_1 (F := Ideal) c i arg2 harg2 arg3 harg3 arg4 harg4 arg5 harg5 arg6 harg6 arg7 harg7 arg8 harg8 arg9 harg9 arg10 harg10 arg11 harg11 arg12 harg12 x0 x1 x2 x3 x4))) (fun r _ => ∑ l ∈ Finset.range (t0 + 0 + 256), D.p (t0 + r) l) :=
    rd_rows (o := 0) (n := 1024) P12_0 rfl rfl inb_S1024x1_S1024x1_0_0 (T0.cp' sh1024) fun r d hr => sum_stop (by omega) fun l hl => D.p_zero (by omega)
  have P10_1 : Rd (arg10.view.read (Elt Ideal) (arg10.view.writes (Elt Ideal) arg10.view.junk (kernelRun0_A.sl.HS0_1_1 (F := Ideal) c i arg2 harg2 arg3 harg3 arg4 harg4 arg5 harg5 arg6 harg6 arg7 harg7 arg8 harg8 arg9 harg9 arg10 harg10 arg11 harg11 arg12 harg12 x0 x1 x2 x3 x4))) (fun r d => ∑ l ∈ Finset.range (t0 + 0 + 256), D.dz (t0 + r) l * D.K l d) :=
    rd_rows (o := 0) (n := 1024) P10_0 rfl rfl inb_S1024x128_S1024x128_0_0 (T0.acc' sh1024 shapeCasts_S1024x128_S1024x128) fun r d hr => sum_stop (by omega) fun l hl => by rw [D.dz_zero (by omega), zero_mul]

  have ho1 : k0_off3 i 1#32 = ![t0 + 256, 0] := by rw [ht]; exact off3 i 1
  have hb1 : ∀ a, k0_off3 i 1#32 a + (Blk 256 128).size a ≤ (Blk 4096 128).size a := by
    rw [ho1]
    intro a; match a with
    | ⟨0, _⟩ => show t0 + 256 + 256 ≤ 4096; omega
    | ⟨1, _⟩ => exact (by decide : 0 + 128 ≤ 128)
  have hm1 : Msk (n := 768) (some (kernelRun0_A.sl.r_16 i)) (t0 + 256) (t0 + 256) := by rw [ht]; exact msk1 (i 1)
  have hk1 : Rd (a := 256) (b := 128) (kernelRun0_A.sl.r_12 (F := Ideal) i arg3 harg3 x1) _ := (rd_load' (h := 256) (w := 128) I.k (t0 + 256, 0) ho1 hb1).congr (g := fun j d => D.K (t0 + 256 + j) d) fun j d _ _ => by simp only [Nat.zero_add]
  have hv1 : Rd (a := 256) (b := 128) (kernelRun0_A.sl.r_13 (F := Ideal) i arg4 harg4 x2) _ := (rd_load' (h := 256) (w := 128) I.v (t0 + 256, 0) ho1 hb1).congr (g := fun j d => D.V (t0 + 256 + j) d) fun j d _ _ => by simp only [Nat.zero_add]
  have hq1 : Rd (a := 768) (b := 128) (kernelRun0_A.sl.r_14 (F := Ideal) c arg2 harg2 x0) _ := (rd_slice (n := 768) I.q 256 rfl slices_S1024x128_o256_0_S768x128 : Rd (kernelRun0_A.sl.r_14 (F := Ideal) c arg2 harg2 x0) _).congr (g := fun r d => D.Q (t0 + 256 + r) d) fun r d _ _ => by simp only [Nat.add_assoc, Nat.zero_add]
  have hg1 : Rd (a := 768) (b := 128) (kernelRun0_A.sl.r_15 (F := Ideal) c arg5 harg5 x3) _ := (rd_slice (n := 768) I.g 256 rfl slices_S1024x128_o256_0_S768x128 : Rd (kernelRun0_A.sl.r_15 (F := Ideal) c arg5 harg5 x3) _).congr (g := fun r d => D.G (t0 + 256 + r) d) fun r d _ _ => by simp only [Nat.add_assoc, Nat.zero_add]
  have hl1 := (rd_load (h := 768) (w := 1) hl6 (256, 0) rfl inb_S1024x128_S768x1_256_0).congr (g := fun r _ => D.L (t0 + 256 + r)) fun r d _ hd => by
    obtain rfl : d = 0 := by omega
    simp only [Nat.zero_add, hA6, Nat.add_assoc]
  have hpre1 : Rd (a := 768) (b := 1) (kernelRun0_A.sl.v203 (F := Ideal) c i arg2 harg2 arg3 harg3 arg4 harg4 arg5 harg5 arg6 harg6 arg7 harg7 arg8 harg8 arg9 harg9 arg10 harg10 arg11 harg11 arg12 harg12 x0 x1 x2 x3 x4) _ := (rd_load (h := 768) (w := 1) P11_1 (256, 0) rfl inb_S1024x1_S768x1_256_0).congr (g := fun r _ => ∑ l ∈ Finset.range (t0 + 256), D.lm (t0 + 256 + r) l) fun r d _ hd => by
    simp only [Nat.add_assoc, Nat.zero_add, Nat.add_zero]
  have hcp1 : Rd (a := 768) (b := 1) (kernelRun0_A.sl.v222 (F := Ideal) c i arg2 harg2 arg3 harg3 arg4 harg4 arg5 harg5 arg6 harg6 arg7 harg7 arg8 harg8 arg9 harg9 arg10 harg10 arg11 harg11 arg12 harg12 x0 x1 x2 x3 x4) _ := (rd_load (h := 768) (w := 1) P12_1 (256, 0) rfl inb_S1024x1_S768x1_256_0).congr (g := fun r _ => ∑ l ∈ Finset.range (t0 + 256), D.p (t0 + 256 + r) l) fun r d _ hd => by
    simp only [Nat.add_assoc, Nat.zero_add, Nat.add_zero]
  have hacc1 : Rd (a := 768) (b := 128) (kernelRun0_A.sl.v243 (F := Ideal) c i arg2 harg2 arg3 harg3 arg4 harg4 arg5 harg5 arg6 harg6 arg7 harg7 arg8 harg8 arg9 harg9 arg10 harg10 arg11 harg11 arg12 harg12 x0 x1 x2 x3 x4) _ := (rd_load (h := 768) (w := 128) P10_1 (256, 0) rfl inb_S1024x128_S768x128_256_0).congr (g := fun r d => ∑ l ∈ Finset.range (t0 + 256), D.dz (t0 + 256 + r) l * D.K l d) fun r d _ hd => by
    simp only [Nat.add_assoc, Nat.zero_add, Nat.add_zero]
  have hdk1 := (rd_load (h := 256) (w := 128) P8_1 (t0 + 256, 0) ho1 hb1).congr (g := fun j d => ∑ t ∈ Finset.range t0, D.dz t (t0 + 256 + j) * D.Q t d) fun j d _ _ => by
    simp only [keyAcc, Nat.zero_add, if_neg (show ¬ t0 + 256 + j < t0 + 256 by omega), add_zero]
  have hdv1 := (rd_load (h := 256) (w := 128) P9_1 (t0 + 256, 0) ho1 hb1).congr (g := fun j d => ∑ t ∈ Finset.range t0, D.a t (t0 + 256 + j) * D.G t d) fun j d _ _ => by
    simp only [keyAcc, Nat.zero_add, if_neg (show ¬ t0 + 256 + j < t0 + 256 by omega), add_zero]
  have T1 : Tl D t0 256 _ _ _ _ _ _ _ _ _ _ _ _ _ := ⟨rfl, I.upto, I.before, hq1, hg1, hk1, hv1, hm1, hl1, hpre1, hcp1, hacc1, hdk1, hdv1⟩
  have P8_2 : Rd (arg8.view.read (Elt Ideal) (arg8.view.writes (Elt Ideal) arg8.view.junk (kernelRun0_A.sl.H6_2 (F := Ideal) c i arg2 harg2 arg3 harg3 arg4 harg4 arg5 harg5 arg6 harg6 arg7 harg7 arg8 harg8 arg9 harg9 arg10 harg10 arg11 harg11 arg12 harg12 x0 x1 x2 x3 x4))) (keyAcc D.dz D.Q t0 (t0 + 256 + 256)) :=
    rd_keys P8_1 ho1 hb1 (T1.dk' sh768 shapeCasts_S256x128_S256x128)
  have P9_2 : Rd (arg9.view.read (Elt Ideal) (arg9.view.writes (Elt Ideal) arg9.view.junk (kernelRun0_A.sl.H7_2 (F := Ideal) c i arg2 harg2 arg3 harg3 arg4 harg4 arg5 harg5 arg6 harg6 arg7 harg7 arg8 harg8 arg9 harg9 arg10 harg10 arg11 harg11 arg12 harg12 x0 x1 x2 x3 x4))) (keyAcc D.a D.G t0 (t0 + 256 + 256)) :=
    rd_keys P9_1 ho1 hb1 (T1.dv' sh768 shapeCasts_S256x128_S256x128)
  have P11_2 : Rd (arg11.view.read (Elt Ideal) (arg11.view.writes (Elt Ideal) arg11.view.junk (kernelRun0_A.sl.HS1_2 (F := Ideal) c i arg2 harg2 arg3 harg3 arg4 harg4 arg5 harg5 arg6 harg6 arg7 harg7 arg8 harg8 arg9 harg9 arg10 harg10 arg11 harg11 arg12 harg12 x0 x1 x2 x3 x4))) (fun r _ => ∑ l ∈ Finset.range (t0 + 256 + 256), D.lm (t0 + r) l) :=
    rd_rows (o := 256) (n := 768) P11_1 rfl rfl inb_S1024x1_S768x1_256_0 (T1.pre' sh768) fun r d hr => sum_stop (by omega) fun l hl => D.lm_zero (by omega)
  have P12_2 : Rd (arg12.view.read (Elt Ideal) (arg12.view.writes (Elt Ideal) arg12.view.junk (kernelRun0_A.sl.HS2_2 (F := Ideal) c i arg2 harg2 arg3 harg3 arg4 harg4 arg5 harg5 arg6 harg6 arg7 harg7 arg8 harg8 arg9 harg9 arg10 harg10 arg11 harg11 arg12 harg12 x0 x1 x2 x3 x4))) (fun r _ => ∑ l ∈ Finset.range (t0 + 256 + 256), D.p (t0 + r) l) :=
    rd_rows (o := 256) (n := 768) P12_1 rfl rfl inb_S1024x1_S768x1_256_0 (T1.cp' sh768) fun r d hr => sum_stop (by omega) fun l hl => D.p_zero (by omega)
  have P10_2 : Rd (arg10.view.read (Elt Ideal) (arg10.view.writes (Elt Ideal) arg10.view.junk (kernelRun0_A.sl.HS0_2 (F := Ideal) c i arg2 harg2 arg3 harg3 arg4 harg4 arg5 harg5 arg6 harg6 arg7 harg7 arg8 harg8 arg9 harg9 arg10 harg10 arg11 harg11 arg12 harg12 x0 x1 x2 x3 x4))) (fun r d => ∑ l ∈ Finset.range (t0 + 256 + 256), D.dz (t0 + r) l * D.K l d) :=
    rd_rows (o := 256) (n := 768) P10_1 rfl rfl inb_S1024x128_S768x128_256_0 (T1.acc' sh768 shapeCasts_S768x128_S768x128) fun r d hr => sum_stop (by omega) fun l hl => by rw [D.dz_zero (by omega), zero_mul]

  have ho2 : k0_off3 i 2#32 = ![t0 + 512, 0] := by rw [ht]; exact off3 i 2
  have hb2 : ∀ a, k0_off3 i 2#32 a + (Blk 256 128).size a ≤ (Blk 4096 128).size a := by
    rw [ho2]
    intro a; match a with
    | ⟨0, _⟩ => show t0 + 512 + 256 ≤ 4096; omega
    | ⟨1, _⟩ => exact (by decide : 0 + 128 ≤ 128)
  have hm2 : Msk (n := 512) (some (kernelRun0_A.sl.r_28 i)) (t0 + 512) (t0 + 512) := by rw [ht]; exact msk2 (i 1)
  have hk2 : Rd (a := 256) (b := 128) (kernelRun0_A.sl.r_24 (F := Ideal) i arg3 harg3 x1) _ := (rd_load' (h := 256) (w := 128) I.k (t0 + 512, 0) ho2 hb2).congr (g := fun j d => D.K (t0 + 512 + j) d) fun j d _ _ => by simp only [Nat.zero_add]
  have hv2 : Rd (a := 256) (b := 128) (kernelRun0_A.sl.r_25 (F := Ideal) i arg4 harg4 x2) _ := (rd_load' (h := 256) (w := 128) I.v (t0 + 512, 0) ho2 hb2).congr (g := fun j d => D.V (t0 + 512 + j) d) fun j d _ _ => by simp only [Nat.zero_add]
  have hq2 : Rd (a := 512) (b := 128) (kernelRun0_A.sl.r_26 (F := Ideal) c arg2 harg2 x0) _ := (rd_slice (n := 512) I.q 512 rfl slices_S1024x128_o512_0_S512x128 : Rd (kernelRun0_A.sl.r_26 (F := Ideal) c arg2 harg2 x0) _).congr (g := fun r d => D.Q (t0 + 512 + r) d) fun r d _ _ => by simp only [Nat.add_assoc, Nat.zero_add]
  have hg2 : Rd (a := 512) (b := 128) (kernelRun0_A.sl.r_27 (F := Ideal) c arg5 harg5 x3) _ := (rd_slice (n := 512) I.g 512 rfl slices_S1024x128_o512_0_S512x128 : Rd (kernelRun0_A.sl.r_27 (F := Ideal) c arg5 harg5 x3) _).congr (g := fun r d => D.G (t0 + 512 + r) d) fun r d _ _ => by simp only [Nat.add_assoc, Nat.zero_add]
  have hl2 := (rd_load (h := 512) (w := 1) hl6 (512, 0) rfl inb_S1024x128_S512x1_512_0).congr (g := fun r _ => D.L (t0 + 512 + r)) fun r d _ hd => by
    obtain rfl : d = 0 := by omega
    simp only [Nat.zero_add, hA6, Nat.add_assoc]
  have hpre2 : Rd (a := 512) (b := 1) (kernelRun0_A.sl.v316 (F := Ideal) c i arg2 harg2 arg3 harg3 arg4 harg4 arg5 harg5 arg6 harg6 arg7 harg7 arg8 harg8 arg9 harg9 arg10 harg10 arg11 harg11 arg12 harg12 x0 x1 x2 x3 x4) _ := (rd_load (h := 512) (w := 1) P11_2 (512, 0) rfl inb_S1024x1_S512x1_512_0).congr (g := fun r _ => ∑ l ∈ Finset.range (t0 + 512), D.lm (t0 + 512 + r) l) fun r d _ hd => by
    simp only [Nat.add_assoc, Nat.zero_add, Nat.add_zero]
  have hcp2 : Rd (a := 512) (b := 1) (kernelRun0_A.sl.v335 (F := Ideal) c i arg2 harg2 arg3 harg3 arg4 harg4 arg5 harg5 arg6 harg6 arg7 harg7 arg8 harg8 arg9 harg9 arg10 harg10 arg11 harg11 arg12 harg12 x0 x1 x2 x3 x4) _ := (rd_load (h := 512) (w := 1) P12_2 (512, 0) rfl inb_S1024x1_S512x1_512_0).congr (g := fun r _ => ∑ l ∈ Finset.range (t0 + 512), D.p (t0 + 512 + r) l) fun r d _ hd => by
    simp only [Nat.add_assoc, Nat.zero_add, Nat.add_zero]
  have hacc2 : Rd (a := 512) (b := 128) (kernelRun0_A.sl.v356 (F := Ideal) c i arg2 harg2 arg3 harg3 arg4 harg4 arg5 harg5 arg6 harg6 arg7 harg7 arg8 harg8 arg9 harg9 arg10 harg10 arg11 harg11 arg12 harg12 x0 x1 x2 x3 x4) _ := (rd_load (h := 512) (w := 128) P10_2 (512, 0) rfl inb_S1024x128_S512x128_512_0).congr (g := fun r d => ∑ l ∈ Finset.range (t0 + 512), D.dz (t0 + 512 + r) l * D.K l d) fun r d _ hd => by
    simp only [Nat.add_assoc, Nat.zero_add, Nat.add_zero]
  have hdk2 := (rd_load (h := 256) (w := 128) P8_2 (t0 + 512, 0) ho2 hb2).congr (g := fun j d => ∑ t ∈ Finset.range t0, D.dz t (t0 + 512 + j) * D.Q t d) fun j d _ _ => by
    simp only [keyAcc, Nat.zero_add, if_neg (show ¬ t0 + 512 + j < t0 + 512 by omega), add_zero]
  have hdv2 := (rd_load (h := 256) (w := 128) P9_2 (t0 + 512, 0) ho2 hb2).congr (g := fun j d => ∑ t ∈ Finset.range t0, D.a t (t0 + 512 + j) * D.G t d) fun j d _ _ => by
    simp only [keyAcc, Nat.zero_add, if_neg (show ¬ t0 + 512 + j < t0 + 512 by omega), add_zero]
  have T2 : Tl D t0 512 _ _ _ _ _ _ _ _ _ _ _ _ _ := ⟨rfl, I.upto, I.before, hq2, hg2, hk2, hv2, hm2, hl2, hpre2, hcp2, hacc2, hdk2, hdv2⟩
  have P8_3 : Rd (arg8.view.read (Elt Ideal) (arg8.view.writes (Elt Ideal) arg8.view.junk (kernelRun0_A.sl.H6_3 (F := Ideal) c i arg2 harg2 arg3 harg3 arg4 harg4 arg5 harg5 arg6 harg6 arg7 harg7 arg8 harg8 arg9 harg9 arg10 harg10 arg11 harg11 arg12 harg12 x0 x1 x2 x3 x4))) (keyAcc D.dz D.Q t0 (t0 + 512 + 256)) :=
    rd_keys P8_2 ho2 hb2 (T2.dk' sh512 shapeCasts_S256x128_S256x128)
  have P9_3 : Rd (arg9.view.read (Elt Ideal) (arg9.view.writes (Elt Ideal) arg9.view.junk (kernelRun0_A.sl.H7_3 (F := Ideal) c i arg2 harg2 arg3 harg3 arg4 harg4 arg5 harg5 arg6 harg6 arg7 harg7 arg8 harg8 arg9 harg9 arg10 harg10 arg11 harg11 arg12 harg12 x0 x1 x2 x3 x4))) (keyAcc D.a D.G t0 (t0 + 512 + 256)) :=
    rd_keys P9_2 ho2 hb2 (T2.dv' sh512 shapeCasts_S256x128_S256x128)
  have P11_3 : Rd (arg11.view.read (Elt Ideal) (arg11.view.writes (Elt Ideal) arg11.view.junk (kernelRun0_A.sl.HS1_3 (F := Ideal) c i arg2 harg2 arg3 harg3 arg4 harg4 arg5 harg5 arg6 harg6 arg7 harg7 arg8 harg8 arg9 harg9 arg10 harg10 arg11 harg11 arg12 harg12 x0 x1 x2 x3 x4))) (fun r _ => ∑ l ∈ Finset.range (t0 + 512 + 256), D.lm (t0 + r) l) :=
    rd_rows (o := 512) (n := 512) P11_2 rfl rfl inb_S1024x1_S512x1_512_0 (T2.pre' sh512) fun r d hr => sum_stop (by omega) fun l hl => D.lm_zero (by omega)
  have P12_3 : Rd (arg12.view.read (Elt Ideal) (arg12.view.writes (Elt Ideal) arg12.view.junk (kernelRun0_A.sl.HS2_3 (F := Ideal) c i arg2 harg2 arg3 harg3 arg4 harg4 arg5 harg5 arg6 harg6 arg7 harg7 arg8 harg8 arg9 harg9 arg10 harg10 arg11 harg11 arg12 harg12 x0 x1 x2 x3 x4))) (fun r _ => ∑ l ∈ Finset.range (t0 + 512 + 256), D.p (t0 + r) l) :=
    rd_rows (o := 512) (n := 512) P12_2 rfl rfl inb_S1024x1_S512x1_512_0 (T2.cp' sh512) fun r d hr => sum_stop (by omega) fun l hl => D.p_zero (by omega)
  have P10_3 : Rd (arg10.view.read (Elt Ideal) (arg10.view.writes (Elt Ideal) arg10.view.junk (kernelRun0_A.sl.HS0_3 (F := Ideal) c i arg2 harg2 arg3 harg3 arg4 harg4 arg5 harg5 arg6 harg6 arg7 harg7 arg8 harg8 arg9 harg9 arg10 harg10 arg11 harg11 arg12 harg12 x0 x1 x2 x3 x4))) (fun r d => ∑ l ∈ Finset.range (t0 + 512 + 256), D.dz (t0 + r) l * D.K l d) :=
    rd_rows (o := 512) (n := 512) P10_2 rfl rfl inb_S1024x128_S512x128_512_0 (T2.acc' sh512 shapeCasts_S512x128_S512x128) fun r d hr => sum_stop (by omega) fun l hl => by rw [D.dz_zero (by omega), zero_mul]

  have ho3 : k0_off3 i 3#32 = ![t0 + 768, 0] := by rw [ht]; exact off3 i 3
  have hb3 : ∀ a, k0_off3 i 3#32 a + (Blk 256 128).size a ≤ (Blk 4096 128).size a := by
    rw [ho3]
    intro a; match a with
    | ⟨0, _⟩ => show t0 + 768 + 256 ≤ 4096; omega
    | ⟨1, _⟩ => exact (by decide : 0 + 128 ≤ 128)
  have hm3 : Msk (n := 256) (some (kernelRun0_A.sl.r_41 i)) (t0 + 768) (t0 + 768) := by rw [ht]; exact msk3 (i 1)
  have hk3 : Rd (a := 256) (b := 128) (kernelRun0_A.sl.r_37 (F := Ideal) i arg3 harg3 x1) _ := (rd_load' (h := 256) (w := 128) I.k (t0 + 768, 0) ho3 hb3).congr (g := fun j d => D.K (t0 + 768 + j) d) fun j d _ _ => by simp only [Nat.zero_add]
  have hv3 : Rd (a := 256) (b := 128) (kernelRun0_A.sl.r_38 (F := Ideal) i arg4 harg4 x2) _ := (rd_load' (h := 256) (w := 128) I.v (t0 + 768, 0) ho3 hb3).congr (g := fun j d => D.V (t0 + 768 + j) d) fun j d _ _ => by simp only [Nat.zero_add]
  have hq3 : Rd (a := 256) (b := 128) (kernelRun0_A.sl.r_39 (F := Ideal) c arg2 harg2 x0) _ := (rd_slice (n := 256) I.q 768 rfl slices_S1024x128_o768_0_S256x128 : Rd (kernelRun0_A.sl.r_39 (F := Ideal) c arg2 harg2 x0) _).congr (g := fun r d => D.Q (t0 + 768 + r) d) fun r d _ _ => by simp only [Nat.add_assoc, Nat.zero_add]
  have hg3 : Rd (a := 256) (b := 128) (kernelRun0_A.sl.r_40 (F := Ideal) c arg5 harg5 x3) _ := (rd_slice (n := 256) I.g 768 rfl slices_S1024x128_o768_0_S256x128 : Rd (kernelRun0_A.sl.r_40 (F := Ideal) c arg5 harg5 x3) _).congr (g := fun r d => D.G (t0 + 768 + r) d) fun r d _ _ => by simp only [Nat.add_assoc, Nat.zero_add]
  have hl3 := (rd_load (h := 256) (w := 1) hl6 (768, 0) rfl inb_S1024x128_S256x1_768_0).congr (g := fun r _ => D.L (t0 + 768 + r)) fun r d _ hd => by
    obtain rfl : d = 0 := by omega
    simp only [Nat.zero_add, hA6, Nat.add_assoc]
  have hpre3 : Rd (a := 256) (b := 1) (kernelRun0_A.sl.v429 (F := Ideal) c i arg2 harg2 arg3 harg3 arg4 harg4 arg5 harg5 arg6 harg6 arg7 harg7 arg8 harg8 arg9 harg9 arg10 harg10 arg11 harg11 arg12 harg12 x0 x1 x2 x3 x4) _ := (rd_load (h := 256) (w := 1) P11_3 (768, 0) rfl inb_S1024x1_S256x1_768_0).congr (g := fun r _ => ∑ l ∈ Finset.range (t0 + 768), D.lm (t0 + 768 + r) l) fun r d _ hd => by
    simp only [Nat.add_assoc, Nat.zero_add, Nat.add_zero]
  have hcp3 : Rd (a := 256) (b := 1) (kernelRun0_A.sl.v448 (F := Ideal) c i arg2 harg2 arg3 harg3 arg4 harg4 arg5 harg5 arg6 harg6 arg7 harg7 arg8 harg8 arg9 harg9 arg10 harg10 arg11 harg11 arg12 harg12 x0 x1 x2 x3 x4) _ := (rd_load (h := 256) (w := 1) P12_3 (768, 0) rfl inb_S1024x1_S256x1_768_0).congr (g := fun r _ => ∑ l ∈ Finset.range (t0 + 768), D.p (t0 + 768 + r) l) fun r d _ hd => by
    simp only [Nat.add_assoc, Nat.zero_add, Nat.add_zero]
  have hacc3 : Rd (a := 256) (b := 128) (kernelRun0_A.sl.v469 (F := Ideal) c i arg2 harg2 arg3 harg3 arg4 harg4 arg5 harg5 arg6 harg6 arg7 harg7 arg8 harg8 arg9 harg9 arg10 harg10 arg11 harg11 arg12 harg12 x0 x1 x2 x3 x4) _ := (rd_load (h := 256) (w := 128) P10_3 (768, 0) rfl inb_S1024x128_S256x128_768_0).congr (g := fun r d => ∑ l ∈ Finset.range (t0 + 768), D.dz (t0 + 768 + r) l * D.K l d) fun r d _ hd => by
    simp only [Nat.add_assoc, Nat.zero_add, Nat.add_zero]
  have hdk3 := (rd_load (h := 256) (w := 128) P8_3 (t0 + 768, 0) ho3 hb3).congr (g := fun j d => ∑ t ∈ Finset.range t0, D.dz t (t0 + 768 + j) * D.Q t d) fun j d _ _ => by
    simp only [keyAcc, Nat.zero_add, if_neg (show ¬ t0 + 768 + j < t0 + 768 by omega), add_zero]
  have hdv3 := (rd_load (h := 256) (w := 128) P9_3 (t0 + 768, 0) ho3 hb3).congr (g := fun j d => ∑ t ∈ Finset.range t0, D.a t (t0 + 768 + j) * D.G t d) fun j d _ _ => by
    simp only [keyAcc, Nat.zero_add, if_neg (show ¬ t0 + 768 + j < t0 + 768 by omega), add_zero]
  have T3 : Tl D t0 768 _ _ _ _ _ _ _ _ _ _ _ _ _ := ⟨rfl, I.upto, I.before, hq3, hg3, hk3, hv3, hm3, hl3, hpre3, hcp3, hacc3, hdk3, hdv3⟩
  have P10_4 : Rd (arg10.view.read (Elt Ideal) (arg10.view.writes (Elt Ideal) arg10.view.junk (kernelRun0_A.sl.HS0_4 (F := Ideal) c i arg2 harg2 arg3 harg3 arg4 harg4 arg5 harg5 arg6 harg6 arg7 harg7 arg8 harg8 arg9 harg9 arg10 harg10 arg11 harg11 arg12 harg12 x0 x1 x2 x3 x4))) (fun r d => ∑ l ∈ Finset.range (t0 + 768 + 256), D.dz (t0 + r) l * D.K l d) :=
    rd_rows (o := 768) (n := 256) P10_3 rfl rfl inb_S1024x128_S256x128_768_0 (T3.acc' sh256 shapeCasts_S256x128_S256x128) fun r d hr => sum_stop (by omega) fun l hl => by rw [D.dz_zero (by omega), zero_mul]
  have hout : Rd (a := 1024) (b := 128) (kernelRun0_A.sl.v504 (F := Ideal) c i arg2 harg2 arg3 harg3 arg4 harg4 arg5 harg5 arg6 harg6 arg7 harg7 arg8 harg8 arg9 harg9 arg10 harg10 arg11 harg11 arg12 harg12 x0 x1 x2 x3 x4) (fun r d => ∑ l ∈ Finset.range (t0 + 768 + 256), D.dz (t0 + r) l * D.K l d) :=
    (rd_load (h := 1024) (w := 128) P10_4 (0, 0) rfl inb_S1024x128_S1024x128_0_0).congr fun r d _ _ => by simp only [Nat.zero_add]
  refine ⟨?_, ?_, ?_⟩
  · unfold out0_A_5 kernelRun0_A
    dsimp only
    exact isArr_writes_whole _ _ _ (rd_truncf narrow hout)
  · refine Rd.congr (f := keyAcc D.dz D.Q t0 (t0 + 1024)) ?_ fun j d _ _ => keyAcc_done (fun t j h => D.dz_zero h) _ t0 j d
    unfold out0_A_6
    rw [View.read_writes_eq_canon _ _ _ (cover0_A_6 c i arg2 harg2 arg3 harg3 arg4 harg4 arg5 harg5 arg6 harg6 arg7 harg7 arg8 harg8 arg9 harg9 arg10 harg10 arg11 harg11 arg12 harg12 hc0 x0 x1 x2 x3 x4), ← View.read_writes_eq_canon arg8.view arg8.view.junk _ (cover0_A_6 c i arg2 harg2 arg3 harg3 arg4 harg4 arg5 harg5 arg6 harg6 arg7 harg7 arg8 harg8 arg9 harg9 arg10 harg10 arg11 harg11 arg12 harg12 hc0 x0 x1 x2 x3 x4)]
    unfold kernelRun0_A
    dsimp only
    exact rd_keys P8_3 ho3 hb3 (T3.dk' sh256 shapeCasts_S256x128_S256x128)
  · refine Rd.congr (f := keyAcc D.a D.G t0 (t0 + 1024)) ?_ fun j d _ _ => keyAcc_done (fun t j h => D.a_zero h) _ t0 j d
    unfold out0_A_7
    rw [View.read_writes_eq_canon _ _ _ (cover0_A_7 c i arg2 harg2 arg3 harg3 arg4 harg4 arg5 harg5 arg6 harg6 arg7 harg7 arg8 harg8 arg9 harg9 arg10 harg10 arg11 harg11 arg12 harg12 hc0 x0 x1 x2 x3 x4), ← View.read_writes_eq_canon arg9.view arg9.view.junk _ (cover0_A_7 c i arg2 harg2 arg3 harg3 arg4 harg4 arg5 harg5 arg6 harg6 arg7 harg7 arg8 harg8 arg9 harg9 arg10 harg10 arg11 harg11 arg12 harg12 hc0 x0 x1 x2 x3 x4)]
    unfold kernelRun0_A
    dsimp only
    exact rd_keys P9_3 ho3 hb3 (T3.dv' sh256 shapeCasts_S256x128_S256x128)

end

end Cert.Stick

end
-- ==== Proof.Arr3.lean ====
/- Host arrays of three axes that hold real numbers: which real array each host operation leaves. -/
module

public import proofs.«01_k».proof.Proof.Tile
public import Idealize.ShloMosaic.Lib.Pointwise.Reduce
public import Idealize.ShloMosaic.Lib.Routing.Ops

@[expose] public section

set_option maxRecDepth 16384

noncomputable section

namespace Cert.Stick

open Idealize.ShloMosaic Idealize.ShloMosaic.Updates
open Idealize.ShloMosaic.LaneScatter (Blk Vec1)
open scoped BigOperators

/-- The shape of three axes. -/
abbrev S3 (a b c : ℕ) : Shape := ⟨3, ![a, b, c]⟩

variable {a b c : ℕ} {φ ψ : FTy}

/-- The array holds the real array `f`. -/
def R3 (x : (S3 a b c).Idx → EReal) (f : ℕ → ℕ → ℕ → ℝ) : Prop := ∀ ι, x ι = ((f (ι 0).val (ι 1).val (ι 2).val : ℝ) : EReal)

/-- The array of bits holds the predicate `p`. -/
def B3 (x : (S3 a b c).Idx → BitVec 1) (p : ℕ → ℕ → ℕ → Prop) : Prop := ∀ ι, (x ι = 1#1 ↔ p (ι 0).val (ι 1).val (ι 2).val)

theorem R3.congr {x : (S3 a b c).Idx → EReal} {f g} (h : R3 x f) (e : ∀ i j k, i < a → j < b → k < c → f i j k = g i j k) : R3 x g := fun ι => by
  rw [h ι, e _ _ _ (ι 0).isLt (ι 1).isLt (ι 2).isLt]

theorem r3_const {x : (S3 a b c).Idx → EReal} {v : EReal} {r : ℝ} (e : ∀ ι, x ι = v) (h : v = (r : EReal)) : R3 x fun _ _ _ => r :=
  fun ι => (e ι).trans h

theorem r3_addf {x y : FVec Ideal (S3 a b c) φ} {f g} (hx : R3 x f) (hy : R3 y g) : R3 (addf x y) fun i j k => f i j k + g i j k := fun ι => by
  show (x ι + y ι : EReal) = _; rw [hx ι, hy ι, ← EReal.coe_add]

theorem r3_subf {x y : FVec Ideal (S3 a b c) φ} {f g} (hx : R3 x f) (hy : R3 y g) : R3 (subf x y) fun i j k => f i j k - g i j k := fun ι => by
  show (x ι - y ι : EReal) = _; rw [hx ι, hy ι, ← EReal.coe_sub]

theorem r3_mulf {x y : FVec Ideal (S3 a b c) φ} {f g} (hx : R3 x f) (hy : R3 y g) : R3 (mulf x y) fun i j k => f i j k * g i j k := fun ι => by
  show (x ι * y ι : EReal) = _; rw [hx ι, hy ι, ← EReal.coe_mul]

theorem r3_maxf {x y : FVec Ideal (S3 a b c) φ} {f g} (hx : R3 x f) (hy : R3 y g) : R3 (maximumf x y) fun i j k => max (f i j k) (g i j k) := fun ι => by
  show max (x ι : EReal) (y ι) = _; rw [hx ι, hy ι]; exact (Monotone.map_max EReal.coe_strictMono.monotone).symm

theorem r3_negf {x : FVec Ideal (S3 a b c) φ} {f} (hx : R3 x f) : R3 (Host.negf x) fun i j k => -f i j k := fun ι => by
  show (-x ι : EReal) = _; rw [hx ι, ← EReal.coe_neg]

theorem r3_absf {x : FVec Ideal (S3 a b c) φ} {f} (hx : R3 x f) : R3 (Host.absf x) fun i j k => |f i j k| := fun ι => by
  show max (x ι : EReal) (-x ι) = _
  rw [hx ι, ← EReal.coe_neg]
  show _ = ((|f _ _ _| : ℝ) : EReal)
  rw [abs_eq_max_neg]
  exact (Monotone.map_max EReal.coe_strictMono.monotone).symm

theorem r3_exp {x : FVec Ideal (S3 a b c) φ} {f} (hx : R3 x f) : R3 (Host.exp x) fun i j k => Real.exp (f i j k) := fun ι => by
  show Ideal.exp (x ι) = _; rw [hx ι]; rfl

theorem r3_log1p {x : FVec Ideal (S3 a b c) φ} {f} (hx : R3 x f) (h : ∀ i j k, 0 < f i j k) : R3 (Host.log1p x) fun i j k => Real.log (1 + f i j k) := fun ι => by
  show Ideal.log (1 + x ι) = _
  rw [hx ι, ← EReal.coe_one, ← EReal.coe_add, Ideal.log_coe, if_neg (not_le.2 (by have := h (ι 0).val (ι 1).val (ι 2).val; linarith))]

theorem r3_select {m : IVec (S3 a b c) 1} {x y : FVec Ideal (S3 a b c) φ} {p : ℕ → ℕ → ℕ → Prop} [∀ i j k, Decidable (p i j k)] {f g}
    (hc : B3 m p) (hx : R3 x f) (hy : R3 y g) : R3 (select m x y) fun i j k => if p i j k then f i j k else g i j k := fun ι => by
  show Scalar.select (m ι) (x ι) (y ι) = _
  unfold Scalar.select
  by_cases h : m ι = 1#1
  · have h' := (hc ι).1 h
    rw [if_pos (show m ι = 1 from h), hx ι]
    simp only [if_pos h']
  · have h' : ¬ p (ι 0).val (ι 1).val (ι 2).val := fun e => h ((hc ι).2 e)
    rw [if_neg (show ¬ m ι = 1 from h), hy ι]
    simp only [if_neg h']

/-- A number equals itself: a select on the opposite leaves the second array. -/
theorem r3_une {w x y : FVec Ideal (S3 a b c) φ} {g} (hy : R3 y g) : R3 (select (cmpf .une w w) x y) g := fun ι => by
  show Scalar.select (Ideal.cmp .une (w ι) (w ι)) (x ι) (y ι) = _
  have : Ideal.cmp .une (w ι) (w ι) = 0#1 := by simp [Ideal.cmp]
  rw [this]
  exact hy ι

/-- A real number isn't infinite: a select on that leaves the second array. -/
theorem r3_oeq {w v x y : FVec Ideal (S3 a b c) φ} {f g} (hw : R3 w f) (hv : ∀ ι, v ι = (⊤ : EReal)) (hy : R3 y g) :
    R3 (select (cmpf .oeq w v) x y) g := fun ι => by
  show Scalar.select (Ideal.cmp .oeq (w ι) (v ι)) (x ι) (y ι) = _
  have : Ideal.cmp .oeq (w ι) (v ι) = 0#1 := by rw [hw ι, hv ι]; simp [Ideal.cmp]
  rw [this]
  exact hy ι

/-! ### Moving the axes -/

/-- Columns cut into groups. -/
theorem r3_split {x : FVec Ideal (Blk a (b * c)) φ} {f} (hx : Rd x f) (h : (Blk a (b * c)).ShapeCasts (S3 a b c)) :
    R3 (shapeCast (S3 a b c) x h) fun i j k => f i (c * j + k) := fun ι => by
  have h1 : (ι 1).val < b := (ι 1).isLt
  have h2 : (ι 2).val < c := (ι 2).isLt
  have hk : c * (ι 1).val + (ι 2).val < b * c := by nlinarith
  refine (shapeCast_apply x h ι (ValueIdx.ix2 (ι 0) ⟨c * (ι 1).val + (ι 2).val, hk⟩) ?_).trans (hx.at _ _)
  rw [Shape.rowMajor_val_two, Shape.rowMajor_val_three]
  show (ι 0).val * (b * c) + (c * (ι 1).val + (ι 2).val) = ((ι 0).val * b + (ι 1).val) * c + (ι 2).val
  ring

/-- Groups of columns laid side by side. -/
theorem rd_join {x : FVec Ideal (S3 a b c) φ} {f} (hx : R3 x f) (h : (S3 a b c).ShapeCasts (Blk a (b * c))) :
    Rd (shapeCast (Blk a (b * c)) x h) fun i j => f i (j / c) (j % c) := Rd.intro fun i j => by
  have hj := j.isLt
  have hc : 0 < c := Nat.pos_of_ne_zero fun e => by simp [e] at hj
  have h1 : j.val / c < b := Nat.div_lt_of_lt_mul (lt_of_lt_of_eq hj (Nat.mul_comm b c))
  refine (shapeCast_apply x h _ (ValueIdx.ix3 i ⟨j.val / c, h1⟩ ⟨j.val % c, Nat.mod_lt _ hc⟩) ?_).trans (hx _)
  rw [Shape.rowMajor_val_two, Shape.rowMajor_val_three]
  show (i.val * b + j.val / c) * c + j.val % c = i.val * (b * c) + j.val
  have := Nat.div_add_mod j.val c
  linear_combination this

theorem r3_transpose120 {x : FVec Ideal (S3 a b c) φ} {f} (hx : R3 x f) (h : (S3 a b c).Transposes [1, 2, 0] (S3 b c a)) :
    R3 (transpose (S3 b c a) [1, 2, 0] x h) fun i j k => f k i j := fun ι => hx (h.src ι)
theorem r3_transpose201 {x : FVec Ideal (S3 a b c) φ} {f} (hx : R3 x f) (h : (S3 a b c).Transposes [2, 0, 1] (S3 c a b)) :
    R3 (transpose (S3 c a b) [2, 0, 1] x h) fun i j k => f j k i := fun ι => hx (h.src ι)
theorem r3_transpose102 {x : FVec Ideal (S3 a b c) φ} {f} (hx : R3 x f) (h : (S3 a b c).Transposes [1, 0, 2] (S3 b a c)) :
    R3 (transpose (S3 b a c) [1, 0, 2] x h) fun i j k => f j i k := fun ι => hx (h.src ι)

theorem r3_reverse {x : FVec Ideal (S3 a b c) φ} {f} (hx : R3 x f) : R3 (Host.reverse [2] x) fun i j k => f i j (c - 1 - k) := fun ι => by
  refine (hx _).trans ?_
  show ((f (ι 0).val (ι 1).val ((ι 2).rev).val : ℝ) : EReal) = _
  have : ((ι 2).rev).val = c - 1 - (ι 2).val := by
    rw [Fin.val_rev]
    show c - ((ι 2).val + 1) = _
    omega
  rw [this]

/-! ### Sums -/

/-- A product contracted over one axis, from what the operands hold at each pair of indices. -/
theorem r3_dot {sl sr : Shape} {φ₁ φ₂ : FTy} (d : DotDims sl sr (S3 a b c)) (K : ℕ) (hr : d.contr.rank = 1) (hs : d.contr.size ⟨0, by rw [hr]; exact Nat.one_pos⟩ = K)
    {x : FVec Ideal sl φ₁} {y : FVec Ideal sr φ₂} (f g : ℕ → ℕ → ℕ → ℕ → ℝ)
    (hx : ∀ (j : (S3 a b c).Idx) (k : d.contr.Idx), x (d.lhsIdx j k) = ((f (k ⟨0, by rw [hr]; exact Nat.one_pos⟩).val (j 0).val (j 1).val (j 2).val : ℝ) : EReal))
    (hy : ∀ (j : (S3 a b c).Idx) (k : d.contr.Idx), y (d.rhsIdx j k) = ((g (k ⟨0, by rw [hr]; exact Nat.one_pos⟩).val (j 0).val (j 1).val (j 2).val : ℝ) : EReal)) :
    R3 (Host.dotGeneral d none x y) fun p q r => ∑ k ∈ Finset.range K, f k p q r * g k p q r := fun ι => by
  simp only [Host.dotGeneral]
  rw [Ideal.dotGeneral_apply, ← Equiv.sum_comp (ValueIdx.contrEquiv1 _ K hr hs).symm]
  refine sum_coe K _ _ (fun k => f k (ι 0).val (ι 1).val (ι 2).val) (fun k => g k (ι 0).val (ι 1).val (ι 2).val) (fun k => ?_) (fun k => ?_)
  · rw [hx, ValueIdx.contrEquiv1_symm_val _ K hr hs k]
  · rw [hy, ValueIdx.contrEquiv1_symm_val _ K hr hs k]

theorem numel3 (N : ℕ) : (S3 1 1 N).numel = N := by
  show ∏ a : Fin 3, (![1, 1, N] : Fin 3 → ℕ) a = N
  rw [Fin.prod_univ_three]
  show 1 * 1 * N = N
  omega

theorem symm3 {N : ℕ} (n : Fin (S3 1 1 N).numel) : (S3 1 1 N).rowMajor.symm n = ValueIdx.ix3 (0 : Fin 1) (0 : Fin 1) (n.cast (numel3 N)) :=
  ((S3 1 1 N).rowMajor.symm_apply_eq).2 (Fin.ext (by
    rw [Shape.rowMajor_val_three]
    show n.val = (0 * 1 + 0) * N + n.val
    omega))

/-- A left fold of sums over numbers that are real. -/
theorem foldl_coe {ι : Type} (l : List ι) (g : ι → EReal) (f : ι → ℝ) (hg : ∀ i ∈ l, g i = (f i : EReal)) (v : EReal) (z : ℝ) (hv : v = (z : EReal)) :
    l.foldl (fun r i => r + g i) v = ((z + (l.map f).sum : ℝ) : EReal) := by
  induction l generalizing v z with
  | nil => simpa using hv
  | cons i l ih =>
    rw [List.foldl_cons, ih (fun j hj => hg j (List.mem_cons_of_mem _ hj)) _ (z + f i) (by
      rw [hv, hg i List.mem_cons_self, EReal.coe_add]), List.map_cons, List.sum_cons, add_assoc]

theorem sum_list (N : ℕ) (f : ℕ → ℝ) : ((List.range N).map f).sum = ∑ n ∈ Finset.range N, f n := by
  rw [Finset.sum_eq_multiset_sum]
  simp [Finset.range, Multiset.range]

/-- The host's running sum over windows as long as the last axis: the sum of the entries that lie inside. -/
theorem r3_window {N lo hi : ℕ} {x : FVec Ideal (S3 a b N) φ} {f} (hx : R3 x f) {u : Shape} {init : FVec Ideal u φ} (hu : 0 < u.numel) (hi0 : ∀ ι, init ι = (0 : EReal))
    (h : (S3 a b N).ReduceWindows (![1, 1, N] : Fin 3 → ℕ) ![1, 1, 1] ![0, 0, lo] ![0, 0, hi] (S3 a b N)) :
    R3 (Host.reduceWindowAdd ![1, 1, N] ![1, 1, 1] ![0, 0, lo] ![0, 0, hi] x init h hu) fun i j k =>
      ∑ w ∈ Finset.range N, if lo ≤ k + w ∧ k + w - lo < N then f i j (k + w - lo) else 0 := fun ι => by
  simp only [Host.reduceWindowAdd, Ideal.hostReduceWindowAdd_def, Ideal.hostReduceWindowAdd, Host.reduceWindow]
  refine (foldl_coe _ _ (fun n => if lo ≤ (ι 2).val + n.val ∧ (ι 2).val + n.val - lo < N then f (ι 0).val (ι 1).val ((ι 2).val + n.val - lo) else 0)
    (fun n _ => ?_) _ 0 (hi0 _)).trans ?_
  · have hw0 : ((S3 1 1 N).rowMajor.symm n 0).val = 0 := by rw [symm3]; rfl
    have hw1 : ((S3 1 1 N).rowMajor.symm n 1).val = 0 := by rw [symm3]; rfl
    have hw2 : ((S3 1 1 N).rowMajor.symm n 2).val = n.val := by rw [symm3]; rfl
    have i0 : (ι 0).val < a := (ι 0).isLt
    have i1 : (ι 1).val < b := (ι 1).isLt
    dsimp only
    split
    · next hin =>
      have h2 := hin 2
      change lo ≤ (ι 2).val * 1 + ((S3 1 1 N).rowMajor.symm n 2).val ∧ (ι 2).val * 1 + ((S3 1 1 N).rowMajor.symm n 2).val - lo < N at h2
      rw [hw2, Nat.mul_one] at h2
      rw [if_pos h2]
      refine (hx _).trans ?_
      show ((f ((ι 0).val * 1 + ((S3 1 1 N).rowMajor.symm n 0).val - 0) ((ι 1).val * 1 + ((S3 1 1 N).rowMajor.symm n 1).val - 0)
        ((ι 2).val * 1 + ((S3 1 1 N).rowMajor.symm n 2).val - lo) : ℝ) : EReal) = _
      rw [hw0, hw1, hw2, Nat.mul_one, Nat.mul_one, Nat.mul_one, Nat.add_zero, Nat.add_zero, Nat.sub_zero, Nat.sub_zero]
    · next hin =>
      rw [if_neg fun hle => hin fun e => by
        match e with
        | ⟨0, _⟩ =>
          show 0 ≤ (ι 0).val * 1 + ((S3 1 1 N).rowMajor.symm n 0).val ∧ (ι 0).val * 1 + ((S3 1 1 N).rowMajor.symm n 0).val - 0 < a
          rw [hw0]; omega
        | ⟨1, _⟩ =>
          show 0 ≤ (ι 1).val * 1 + ((S3 1 1 N).rowMajor.symm n 1).val ∧ (ι 1).val * 1 + ((S3 1 1 N).rowMajor.symm n 1).val - 0 < b
          rw [hw1]; omega
        | ⟨2, _⟩ =>
          show lo ≤ (ι 2).val * 1 + ((S3 1 1 N).rowMajor.symm n 2).val ∧ (ι 2).val * 1 + ((S3 1 1 N).rowMajor.symm n 2).val - lo < N
          rw [hw2]; omega]
      exact hi0 _
  · rw [zero_add, Routing.map_finRange_val _ (fun w => if lo ≤ (ι 2).val + w ∧ (ι 2).val + w - lo < N then f (ι 0).val (ι 1).val ((ι 2).val + w - lo) else 0), sum_list]
    exact congrArg (fun M => ((∑ w ∈ Finset.range M, if lo ≤ (ι 2).val + w ∧ (ι 2).val + w - lo < N then f (ι 0).val (ι 1).val ((ι 2).val + w - lo) else 0 : ℝ) : EReal)) (numel3 N)

/-- The sum of the window padded below, from the far end: the entries from `j` on. -/
theorem window_lo (f : ℕ → ℝ) {N j : ℕ} (hj : j < N) :
    (∑ w ∈ Finset.range N, if N - 1 ≤ N - 1 - j + w ∧ N - 1 - j + w - (N - 1) < N then f (N - 1 - (N - 1 - j + w - (N - 1))) else 0)
      = ∑ l ∈ Finset.range N, (if j ≤ l then f l else 0) := by
  rw [← Finset.sum_range_reflect (fun l => if j ≤ l then f l else 0), Finset.sum_ite, Finset.sum_ite]
  simp only [Finset.sum_const_zero, add_zero]
  refine Finset.sum_nbij' (fun w => w - j) (fun w => w + j) ?_ ?_ ?_ ?_ ?_
  all_goals simp only [Finset.mem_filter, Finset.mem_range]
  · intro w hw; omega
  · intro w hw; omega
  · intro w hw; omega
  · intro w hw; omega
  · intro w hw; congr 1; omega

/-- The sum of the window padded above, from the far end: the entries up to `j`. -/
theorem window_hi (f : ℕ → ℝ) {N j : ℕ} (hj : j < N) :
    (∑ w ∈ Finset.range N, if 0 ≤ N - 1 - j + w ∧ N - 1 - j + w - 0 < N then f (N - 1 - (N - 1 - j + w - 0)) else 0)
      = ∑ l ∈ Finset.range (j + 1), f l := by
  rw [Finset.sum_ite]
  simp only [Finset.sum_const_zero, add_zero]
  refine Finset.sum_nbij' (fun w => j - w) (fun w => j - w) ?_ ?_ ?_ ?_ ?_
  all_goals simp only [Finset.mem_filter, Finset.mem_range]
  · intro w hw; omega
  · intro w hw; omega
  · intro w hw; omega
  · intro w hw; omega
  · intro w hw; congr 1; omega

/-- What comes after `j` is the whole less what comes up to `j`. -/
theorem suffix_sub (f : ℕ → ℝ) {N j : ℕ} (hj : j < N) :
    (∑ l ∈ Finset.range N, (if j ≤ l then f l else 0)) - f j = (∑ l ∈ Finset.range N, f l) - ∑ l ∈ Finset.range (j + 1), f l := by
  have h1 : ∑ l ∈ Finset.range N, f l = (∑ l ∈ Finset.range N, (if j ≤ l then f l else 0)) + ∑ l ∈ Finset.range N, (if j ≤ l then 0 else f l) := by
    rw [← Finset.sum_add_distrib]
    exact Finset.sum_congr rfl fun l _ => by split <;> simp
  have h2 : ∑ l ∈ Finset.range N, (if j ≤ l then 0 else f l) = ∑ l ∈ Finset.range j, f l := by
    rw [← Finset.sum_subset (Finset.range_mono hj.le) (fun l _ hl => by
      rw [if_pos (by simpa using hl)])]
    exact Finset.sum_congr rfl fun l hl => if_neg (by simpa using hl)
  rw [h1, h2, Finset.sum_range_succ]
  ring

end Cert.Stick

end
-- ==== Proof.Ref3.lean ====
/- The reference's gradients of stick-breaking attention, as real arrays. -/
module

public import proofs.«01_k».proof.Proof.Arr3
public import proofs.«01_k».proof.Proof.Gen.ReferenceIdeal.Run
public import Idealize.ShloMosaic.Lib.WordCmp

@[expose] public section

set_option maxRecDepth 16384
set_option maxHeartbeats 4000000

noncomputable section

namespace Cert.Stick

open Idealize.ShloMosaic Idealize.ShloMosaic.Updates Idealize.ShloMosaic.TcCoe
open Idealize.ShloMosaic.LaneScatter (Blk Vec1)
open Cert.ReferenceIdeal Cert.ReferenceIdeal.Gen
open scoped BigOperators

/-! ### The heads -/

/-- The sum of a query's logarithms over all the keys. -/
def Head.all (D : Head) (t : ℕ) : ℝ := ∑ j ∈ Finset.range 4096, D.lm t j

theorem Head.all_eq (D : Head) (t : ℕ) : D.all t = ∑ j ∈ Finset.range 4096, D.lm t j := by unfold Head.all; rfl

/-- The heads of the four arguments, head `h` in columns `128 h` to `128 h + 127`; each query's sum is over all the keys. -/
def heads (X0 X1 X2 X3 : ℕ → ℕ → ℝ) (h : ℕ) : Head :=
  ⟨fun t d => X0 t (128 * h + d), fun t d => X1 t (128 * h + d), fun t d => X2 t (128 * h + d), fun t d => X3 t (128 * h + d),
    Head.all ⟨fun t d => X0 t (128 * h + d), fun t d => X1 t (128 * h + d), fun t d => X2 t (128 * h + d), fun t d => X3 t (128 * h + d), fun _ => 0⟩⟩

theorem heads_L (X0 X1 X2 X3 : ℕ → ℕ → ℝ) (h t : ℕ) :
    (heads X0 X1 X2 X3 h).L t = ∑ j ∈ Finset.range 4096, (heads X0 X1 X2 X3 h).lm t j :=
  (Head.all_eq _ t).trans (Finset.sum_congr rfl fun j _ => rfl)

/-- The gradient of the queries. -/
def gQ (D : ℕ → Head) (t c : ℕ) : ℝ := ∑ j ∈ Finset.range 4096, (D (c / 128)).dz t j * (D (c / 128)).K j (c % 128)
/-- The gradient of the keys. -/
def gK (D : ℕ → Head) (j c : ℕ) : ℝ := ∑ t ∈ Finset.range 4096, (D (c / 128)).dz t j * (D (c / 128)).Q t (c % 128)
/-- The gradient of the values. -/
def gV (D : ℕ → Head) (j c : ℕ) : ℝ := ∑ t ∈ Finset.range 4096, (D (c / 128)).a t j * (D (c / 128)).G t (c % 128)

/-! ### Identities of the sigmoid -/

/-- The logarithm of one plus the exponential, as the host computes it. -/
def sp (x : ℝ) : ℝ := max x 0 + Real.log (1 + Real.exp (-|x|))

theorem neg_sp_neg (x : ℝ) : -sp (-x) = min x 0 - Real.log (1 + Real.exp (-|x|)) := by
  unfold sp
  rw [abs_neg]
  have : max (-x) 0 = -min x 0 := by
    rcases le_total x 0 with h | h
    · rw [max_eq_left (by linarith), min_eq_left h]
    · rw [max_eq_right (by linarith), min_eq_right h, neg_zero]
  rw [this]; ring

theorem neg_sp (x : ℝ) : -sp x = min x 0 - Real.log (1 + Real.exp (-|x|)) - x := by
  unfold sp
  have := max_add_min x 0
  linarith

theorem exp_sub_sp (x : ℝ) : Real.exp (x - sp x) = (if 0 ≤ x then 1 else Real.exp (-|x|)) * (1 / (1 + Real.exp (-|x|))) := by
  have hp : 0 < 1 + Real.exp (-|x|) := by have := Real.exp_pos (-|x|); linarith
  have e : x - sp x = min x 0 - Real.log (1 + Real.exp (-|x|)) := by have := neg_sp x; linarith
  rw [e, Real.exp_sub, Real.exp_log hp]
  by_cases h : 0 ≤ x
  · rw [if_pos h, min_eq_right h, Real.exp_zero]; ring
  · rw [if_neg h, min_eq_left (by linarith), abs_of_neg (by linarith), neg_neg]; ring

theorem exp_neg_sub_sp (x : ℝ) : Real.exp (-x - sp (-x)) = 1 - (if 0 ≤ x then 1 else Real.exp (-|x|)) * (1 / (1 + Real.exp (-|x|))) := by
  have hp : 0 < 1 + Real.exp (-|x|) := by have := Real.exp_pos (-|x|); linarith
  have e : -x - sp (-x) = min x 0 - x - Real.log (1 + Real.exp (-|x|)) := by have := neg_sp_neg x; linarith
  rw [e, Real.exp_sub, Real.exp_log hp]
  by_cases h : 0 ≤ x
  · rw [if_pos h, min_eq_right h, zero_sub, abs_of_nonneg h] at *
    field_simp; ring
  · rw [if_neg h, min_eq_left (by linarith), sub_self, Real.exp_zero]
    field_simp; ring

/-! ### The host's operations -/

abbrev A3 := FVec Ideal (S3 16 4096 4096) .f32
abbrev I3 := FVec Ideal (S3 4096 16 128) .f32
abbrev T3 := FVec Ideal (S3 16 128 4096) .f32

def hIn (x : FVec Ideal S4096x2048 .bf16) : I3 := shapeCast (S3 4096 16 128) (extf .f32 x bitsLt_bf16_f32) shapeCasts_S4096x2048_S4096x16x128
def hSpl (v : BitVec 32) : A3 := broadcastInDim S16x4096x4096 ![] bcast_S_S16x4096x4096 (constant S_ .f32 v)
def hNil : A3 := broadcastInDim S16x4096x4096 ![] bcast_S_S16x4096x4096 (id (constant S_ .f32 0x00000000#32))
def hZ (q k : I3) : A3 := mulf (Host.dotGeneral dot_S4096x16x128_S4096x16x128_S16x4096x4096_2_2_0_0_1_1 none q k) (hSpl 0x3DB504F3#32)
def hMask : IVec (S3 16 4096 4096) 1 :=
  broadcastInDim S16x4096x4096 ![1, 2] bcast_S4096x4096_S16x4096x4096_1_2
    (cmpi .slt (broadcastInDim S4096x4096 ![0, 1] bcast_S1x4096_S4096x4096_0_1 (broadcastInDim S1x4096 ![1] bcast_S4096_S1x4096_1 (iotaInDim S4096 32 0)))
      (broadcastInDim S4096x4096 ![0, 1] bcast_S4096x1_S4096x4096_0_1 (broadcastInDim S4096x1 ![0] bcast_S4096_S4096x1_0 (iotaInDim S4096 32 0))))
def hSp (w : A3) : A3 :=
  select (cmpf .une (subf w (hSpl 0x00000000#32)) (subf w (hSpl 0x00000000#32))) (addf w (hSpl 0x00000000#32))
    (addf (maximumf w (hSpl 0x00000000#32)) (Host.log1p (Host.exp (Host.negf (Host.absf (subf w (hSpl 0x00000000#32)))))))
def hReal (w : A3) : A3 := select (cmpf .oeq w (hSpl 0x7F800000#32)) (hSpl 0x00000000#32) w
def hSg (w : A3) : A3 := Host.exp (subf (hReal w) (hReal (hSp w)))
def hLb (z : A3) : A3 := Host.negf (hSp (Host.negf z))
def hLm (z : A3) : A3 := select hMask (Host.negf (hSp (Host.negf (Host.negf z)))) hNil
def hSuf (x : A3) : A3 :=
  Host.reverse [2] (Host.reduceWindowAdd ![1, 1, 4096] ![1, 1, 1] ![0, 0, 4095] ![0, 0, 0] (Host.reverse [2] x)
    (broadcastInDim S_ ![] bcast_S_S_ (constant S_ .f32 0x00000000#32)) reduceWindows_S16x4096x4096_S16x4096x4096_w1s1p0_0_w1s1p0_0_w4096s1p4095_0 h_S_)
def hPre (x : A3) : A3 :=
  Host.reverse [2] (Host.reduceWindowAdd ![1, 1, 4096] ![1, 1, 1] ![0, 0, 0] ![0, 0, 4095] (Host.reverse [2] x)
    (broadcastInDim S_ ![] bcast_S_S_ (constant S_ .f32 0x00000000#32)) reduceWindows_S16x4096x4096_S16x4096x4096_w1s1p0_0_w1s1p0_0_w4096s1p0_4095 h_S_)
def hE (z : A3) : A3 := Host.exp (addf (hLb z) (subf (hSuf (hLm z)) (hLm z)))
def hT (g : I3) : T3 := transpose S16x128x4096 [1, 2, 0] g transposes_S4096x16x128_S16x128x4096_1_2_0
def hP (z : A3) (v g : I3) : A3 :=
  mulf (select hMask (Host.dotGeneral dot_S16x128x4096_S4096x16x128_S16x4096x4096_1_2_2_0_0_1 none (hT g) v) (hSpl 0x00000000#32)) (hE z)
def hDz (z p : A3) : A3 :=
  mulf (addf (Host.negf (mulf (Host.negf p) (hSg (Host.negf z))))
      (Host.negf (Host.negf (mulf (Host.negf (select hMask (addf (Host.negf p) (hPre p)) (hSpl 0x00000000#32))) (hSg (Host.negf (Host.negf z)))))))
    (hSpl 0x3DB504F3#32)
def hDv (z : A3) (g : I3) : FVec Ideal (Blk 4096 2048) .f32 :=
  shapeCast (Blk 4096 2048) (transpose S4096x16x128 [2, 0, 1] (Host.dotGeneral dot_S16x128x4096_S16x4096x4096_S16x128x4096_2_1_1_2_0_0 none (hT g) (select hMask (hE z) hNil))
    transposes_S16x128x4096_S4096x16x128_2_0_1) shapeCasts_S4096x16x128_S4096x2048
def hDk (dz : A3) (q : I3) : FVec Ideal (Blk 4096 2048) .f32 :=
  shapeCast (Blk 4096 2048) (transpose S4096x16x128 [1, 0, 2] (Host.dotGeneral dot_S16x4096x4096_S4096x16x128_S16x4096x128_1_0_2_2_0_1 none dz q)
    transposes_S16x4096x128_S4096x16x128_1_0_2) shapeCasts_S4096x16x128_S4096x2048
def hDq (dz : A3) (k : I3) : FVec Ideal (Blk 4096 2048) .bf16 :=
  truncf .bf16 (shapeCast (Blk 4096 2048) (transpose S4096x16x128 [1, 0, 2] (Host.dotGeneral dot_S16x4096x4096_S4096x16x128_S16x4096x128_2_0_1_2_0_1 none dz k)
    transposes_S16x4096x128_S4096x16x128_1_0_2) shapeCasts_S4096x16x128_S4096x2048) bitsLt_bf16_f32

/-! ### What they leave -/

theorem r3_hIn {x : FVec Ideal S4096x2048 .bf16} {f : ℕ → ℕ → ℝ} (hx : Rd (a := 4096) (b := 2048) x f) : R3 (hIn x) fun t h d => f t (128 * h + d) :=
  r3_split (a := 4096) (b := 16) (c := 128) (rd_extf bitsLt_bf16_f32 hx) shapeCasts_S4096x2048_S4096x16x128

theorem r3_zero : R3 (hSpl 0x00000000#32) fun _ _ _ => 0 := r3_const (fun _ => rfl) c0
theorem r3_scl : R3 (hSpl 0x3DB504F3#32) fun _ _ _ => scl := r3_const (fun _ => rfl) cs
theorem r3_nil : R3 hNil fun _ _ _ => 0 := r3_const (fun _ => rfl) c0
theorem top_inf (ι) : hSpl 0x7F800000#32 ι = (⊤ : EReal) := by
  show Ideal.ofBits .f32 0x7F800000#32 = _
  simp [Ideal.ofBits, Ideal.ieee]

theorem b3_mask : B3 hMask fun _ t j => j < t := fun ι => by
  show IntOp.cmpi .slt (BitVec.ofNat 32 (ι 2).val) (BitVec.ofNat 32 (ι 1).val) = 1#1 ↔ _
  have e1 : (ι 1).val < 4096 := (ι 1).isLt
  have e2 : (ι 2).val < 4096 := (ι 2).isLt
  rw [WordCmp.cmpi_slt_ofNat_eq_one_iff (by omega) (by omega)]

theorem r3_hZ (D : ℕ → Head) {q k : I3} (hq : R3 q fun t h d => (D h).Q t d) (hk : R3 k fun t h d => (D h).K t d) :
    R3 (hZ q k) fun h t j => (D h).z t j :=
  r3_mulf (r3_dot dot_S4096x16x128_S4096x16x128_S16x4096x4096_2_2_0_0_1_1 128 rfl rfl (fun d h t j => (D h).Q t d) (fun d h t j => (D h).K j d)
    (fun j k => hq _) (fun j k => hk _)) r3_scl

theorem r3_hSp {w : A3} {f} (hw : R3 w f) : R3 (hSp w) fun h t j => sp (f h t j) := by
  refine r3_une (R3.congr (r3_addf (r3_maxf hw r3_zero) (r3_log1p (r3_exp (r3_negf (r3_absf (r3_subf hw r3_zero)))) fun _ _ _ => Real.exp_pos _)) fun h t j _ _ _ => ?_)
  simp only [sub_zero, sp]

theorem r3_hReal {w : A3} {f} (hw : R3 w f) : R3 (hReal w) f := r3_oeq hw top_inf hw

theorem r3_hSg {w : A3} {f} (hw : R3 w f) : R3 (hSg w) fun h t j => Real.exp (f h t j - sp (f h t j)) :=
  r3_exp (r3_subf (r3_hReal hw) (r3_hReal (r3_hSp hw)))

theorem r3_hLb (D : ℕ → Head) {z : A3} (hz : R3 z fun h t j => (D h).z t j) : R3 (hLb z) fun h t j => (D h).lb t j :=
  R3.congr (r3_negf (r3_hSp (r3_negf hz))) fun h t j _ _ _ => neg_sp_neg _

theorem r3_hLm (D : ℕ → Head) {z : A3} (hz : R3 z fun h t j => (D h).z t j) : R3 (hLm z) fun h t j => (D h).lm t j :=
  R3.congr (r3_select b3_mask (r3_negf (r3_hSp (r3_negf (r3_negf hz)))) r3_nil) fun h t j _ _ _ => by
    simp only [neg_neg, neg_sp]; rfl

theorem nil_init (ι) : (broadcastInDim S_ ![] bcast_S_S_ (constant (F := Ideal) S_ .f32 0x00000000#32)) ι = (0 : EReal) := c0

theorem r3_hSuf {x : A3} {f} (hx : R3 x f) : R3 (hSuf x) fun h t j => ∑ l ∈ Finset.range 4096, if j ≤ l then f h t l else 0 :=
  R3.congr (r3_reverse (r3_window (r3_reverse hx) h_S_ nil_init _)) fun h t j _ _ hj => window_lo (N := 4096) (fun l => f h t l) hj

theorem r3_hPre {x : A3} {f} (hx : R3 x f) : R3 (hPre x) fun h t j => ∑ l ∈ Finset.range (j + 1), f h t l :=
  R3.congr (r3_reverse (r3_window (r3_reverse hx) h_S_ nil_init _)) fun h t j _ _ hj => window_hi (N := 4096) (fun l => f h t l) hj

theorem r3_hE (D : ℕ → Head) (hL : ∀ h t, (D h).L t = ∑ j ∈ Finset.range 4096, (D h).lm t j) {z : A3} (hz : R3 z fun h t j => (D h).z t j) :
    R3 (hE z) fun h t j => Real.exp ((D h).lb t j + ((D h).L t - ∑ l ∈ Finset.range (j + 1), (D h).lm t l)) :=
  R3.congr (r3_exp (r3_addf (r3_hLb D hz) (r3_subf (r3_hSuf (r3_hLm D hz)) (r3_hLm D hz)))) fun h t j _ _ hj => by
    rw [hL, suffix_sub (fun l => (D h).lm t l) hj]

theorem r3_hA (D : ℕ → Head) (hL : ∀ h t, (D h).L t = ∑ j ∈ Finset.range 4096, (D h).lm t j) {z : A3} (hz : R3 z fun h t j => (D h).z t j) :
    R3 (select hMask (hE z) hNil) fun h t j => (D h).a t j := r3_select b3_mask (r3_hE D hL hz) r3_nil

theorem r3_hT {g : I3} {f} (hg : R3 g f) : R3 (hT g) fun h d t => f t h d := r3_transpose120 hg transposes_S4096x16x128_S16x128x4096_1_2_0

theorem r3_hP (D : ℕ → Head) (hL : ∀ h t, (D h).L t = ∑ j ∈ Finset.range 4096, (D h).lm t j) {z : A3} (hz : R3 z fun h t j => (D h).z t j)
    {v g : I3} (hv : R3 v fun t h d => (D h).V t d) (hg : R3 g fun t h d => (D h).G t d) : R3 (hP z v g) fun h t j => (D h).p t j :=
  R3.congr (r3_mulf (r3_select b3_mask
      (r3_dot dot_S16x128x4096_S4096x16x128_S16x4096x4096_1_2_2_0_0_1 128 rfl rfl (fun d h t j => (D h).G t d) (fun d h t j => (D h).V j d)
        (fun j k => r3_hT hg _) (fun j k => hv _)) r3_zero) (r3_hE D hL hz)) fun h t j _ _ _ => by
    unfold Head.p Head.a
    split <;> ring

theorem r3_hDz (D : ℕ → Head) {z p : A3} (hz : R3 z fun h t j => (D h).z t j) (hp : R3 p fun h t j => (D h).p t j) :
    R3 (hDz z p) fun h t j => (D h).dz t j :=
  R3.congr (r3_mulf (r3_addf (r3_negf (r3_mulf (r3_negf hp) (r3_hSg (r3_negf hz))))
      (r3_negf (r3_negf (r3_mulf (r3_negf (r3_select b3_mask (r3_addf (r3_negf hp) (r3_hPre hp)) r3_zero)) (r3_hSg (r3_negf (r3_negf hz))))))) r3_scl) fun h t j _ _ _ => by
    simp only [neg_neg]
    rw [exp_neg_sub_sp, exp_sub_sp]
    have e : (if 0 ≤ (D h).z t j then 1 else Real.exp (-|(D h).z t j|)) * (1 / (1 + Real.exp (-|(D h).z t j|))) = (D h).sg t j := rfl
    rw [e]
    unfold Head.dz
    congr 1
    by_cases hj : j < t
    · rw [if_pos hj, if_pos hj]; ring
    · have : (D h).p t j = 0 := by unfold Head.p Head.a; rw [if_neg hj, zero_mul]
      rw [if_neg hj, if_neg hj, this]; ring

theorem rd_hDv (D : ℕ → Head) (hL : ∀ h t, (D h).L t = ∑ j ∈ Finset.range 4096, (D h).lm t j) {z : A3} (hz : R3 z fun h t j => (D h).z t j)
    {g : I3} (hg : R3 g fun t h d => (D h).G t d) : Rd (hDv z g) (gV D) :=
  Rd.congr (rd_join (φ := .f32) (a := 4096) (b := 16) (c := 128) (r3_transpose201 (r3_dot dot_S16x128x4096_S16x4096x4096_S16x128x4096_2_1_1_2_0_0 4096 rfl rfl (fun t h d j => (D h).G t d) (fun t h d j => (D h).a t j)
    (fun j k => r3_hT hg _) (fun j k => r3_hA D hL hz _)) transposes_S16x128x4096_S4096x16x128_2_0_1) shapeCasts_S4096x16x128_S4096x2048) fun j c _ _ => by
    unfold gV
    exact Finset.sum_congr rfl fun t _ => mul_comm _ _

theorem rd_hDk (D : ℕ → Head) {dz : A3} (hz : R3 dz fun h t j => (D h).dz t j) {q : I3} (hq : R3 q fun t h d => (D h).Q t d) : Rd (hDk dz q) (gK D) :=
  rd_join (φ := .f32) (a := 4096) (b := 16) (c := 128) (r3_transpose102 (r3_dot dot_S16x4096x4096_S4096x16x128_S16x4096x128_1_0_2_2_0_1 4096 rfl rfl (fun t h j d => (D h).dz t j) (fun t h j d => (D h).Q t d)
    (fun j k => hz _) (fun j k => hq _)) transposes_S16x4096x128_S4096x16x128_1_0_2) shapeCasts_S4096x16x128_S4096x2048

theorem rd_hDq (D : ℕ → Head) {dz : A3} (hz : R3 dz fun h t j => (D h).dz t j) {k : I3} (hk : R3 k fun t h d => (D h).K t d) : Rd (hDq dz k) (gQ D) :=
  rd_truncf narrow (rd_join (φ := .f32) (a := 4096) (b := 16) (c := 128) (r3_transpose102 (r3_dot dot_S16x4096x4096_S4096x16x128_S16x4096x128_2_0_1_2_0_1 4096 rfl rfl (fun j h t d => (D h).dz t j) (fun j h t d => (D h).K j d)
    (fun j k => hz _) (fun j k => hk _)) transposes_S16x4096x128_S4096x16x128_1_0_2) shapeCasts_S4096x16x128_S4096x2048)

/-! ### The reference's results -/

section
variable (m : (ℓ : Loc nD τ sig) → Buf (Elt Ideal) ℓ) (c : Dev nD)

variable {X0 X1 X2 X3 : ℕ → ℕ → ℝ} (h0 : Rd (a := 4096) (b := 2048) (m ((c.tc : Thread nD τ).loc main_arg0)) X0)
  (h1 : Rd (a := 4096) (b := 2048) (m ((c.tc : Thread nD τ).loc main_arg1)) X1)
  (h2 : Rd (a := 4096) (b := 2048) (m ((c.tc : Thread nD τ).loc main_arg2)) X2)
  (h3 : Rd (a := 4096) (b := 2048) (m ((c.tc : Thread nD τ).loc main_arg3)) X3)
include h0 h1 h2 h3

theorem res54 : Rd (a := 4096) (b := 2048) (Value.res_main_v54 (F := Ideal) m c) (gV (heads X0 X1 X2 X3)) := by
  have hz := r3_hZ (heads X0 X1 X2 X3) (r3_hIn h0) (r3_hIn h1)
  have h := rd_hDv (heads X0 X1 X2 X3) (heads_L _ _ _ _) hz (r3_hIn h3)
  unfold Value.res_main_v54
  exact h

theorem res55 : Rd (a := 4096) (b := 2048) (Value.res_main_v55 (F := Ideal) m c) (gK (heads X0 X1 X2 X3)) := by
  have hz := r3_hZ (heads X0 X1 X2 X3) (r3_hIn h0) (r3_hIn h1)
  have hp := r3_hP (heads X0 X1 X2 X3) (heads_L _ _ _ _) hz (r3_hIn h2) (r3_hIn h3)
  have h := rd_hDk (heads X0 X1 X2 X3) (r3_hDz _ hz hp) (r3_hIn h0)
  unfold Value.res_main_v55
  exact h

theorem res57 : Rd (a := 4096) (b := 2048) (Value.res_main_v57 (F := Ideal) m c) (gQ (heads X0 X1 X2 X3)) := by
  have hz := r3_hZ (heads X0 X1 X2 X3) (r3_hIn h0) (r3_hIn h1)
  have hp := r3_hP (heads X0 X1 X2 X3) (heads_L _ _ _ _) hz (r3_hIn h2) (r3_hIn h3)
  have h := rd_hDq (heads X0 X1 X2 X3) (r3_hDz _ hz hp) (r3_hIn h1)
  unfold Value.res_main_v57
  exact h
end

end Cert.Stick

end
-- ==== Proof.Lsum.lean ====
/- The kernel's host lines: each query's sum of logarithms, laid out over the columns of its head. -/
module

public import proofs.«01_k».proof.Proof.Ref3
public import proofs.«01_k».proof.Proof.Gen.KernelIdeal.Frame

@[expose] public section

set_option maxRecDepth 16384
set_option maxHeartbeats 4000000

noncomputable section

namespace Cert.Stick

open Idealize.ShloMosaic Idealize.ShloMosaic.Updates Idealize.ShloMosaic.TcCoe Idealize.ShloMosaic.StableHlo
open Idealize.ShloMosaic.LaneScatter (Blk Vec1)
open Cert.KernelIdeal Cert.KernelIdeal.Gen
open scoped BigOperators

/-- Each query's sum, spread over its head's columns. -/
def kSum (z : A3) : FVec Ideal (Blk 4096 2048) .f32 :=
  shapeCast (Blk 4096 2048) (broadcastInDim S4096x16x128 ![0, 1] bcast_S4096x16_S4096x16x128_0_1
    (transpose S4096x16 [1, 0] (Host.reduceAdd (hLm z) (constant S_ .f32 0x00000000#32) reducesTo_S16x4096x4096_S16x4096_d2 h_S_) transposes_S16x4096_S4096x16_1_0))
    shapeCasts_S4096x16x128_S4096x2048

theorem rd_kSum (D : ℕ → Head) (hL : ∀ h t, (D h).L t = ∑ j ∈ Finset.range 4096, (D h).lm t j) {z : A3} (hz : R3 z fun h t j => (D h).z t j) :
    Rd (kSum z) fun t c => (D (c / 128)).L t := by
  have h1 : ∀ ι : S16x4096.Idx, Host.reduceAdd (hLm z) (constant S_ .f32 0x00000000#32) reducesTo_S16x4096x4096_S16x4096_d2 h_S_ ι
      = (((D (ι 0).val).L (ι 1).val : ℝ) : EReal) := fun ι => by
    show Ideal.hostReduceAdd reducesTo_S16x4096x4096_S16x4096_d2 (hLm z) (constant (F := Ideal) S_ .f32 0x00000000#32 (Shape.Idx.first h_S_)) ι = _
    rw [Ideal.hostReduceAdd_r3_a2, hL, Finset.sum_range, coe_sum]
    refine (congrArg (· + _) c0).trans ?_
    rw [EReal.coe_zero, zero_add]
    exact Finset.sum_congr rfl fun k _ => r3_hLm D hz _
  have h2 : R3 (a := 4096) (b := 16) (c := 128) (broadcastInDim S4096x16x128 ![0, 1] bcast_S4096x16_S4096x16x128_0_1
      (transpose S4096x16 [1, 0] (Host.reduceAdd (hLm z) (constant S_ .f32 0x00000000#32) reducesTo_S16x4096x4096_S16x4096_d2 h_S_) transposes_S16x4096_S4096x16_1_0))
      fun t h _ => (D h).L t := fun ι => h1 _
  exact rd_join (φ := .f32) (a := 4096) (b := 16) (c := 128) h2 shapeCasts_S4096x16x128_S4096x2048

variable (m : (ℓ : Loc nD τ sig) → Buf (Elt Ideal) ℓ) (c : Dev nD)

theorem v20_eq : V (F := Ideal) m c main_v20 = kSum (hZ (hIn (m ((c.tc : Thread nD τ).loc main_arg0))) (hIn (m ((c.tc : Thread nD τ).loc main_arg1)))) := by
  unfold V
  simp only [hostOps0, hostOps0_1, hostOps0_2, hostOps0_3, hostOps0_4, List.flatten_cons, List.flatten_nil, List.append_nil, List.cons_append, List.nil_append,
    TRef.binary, TRef.nullary, TRef.ternary, TRef.unary, TRef.toBuf, TRef.ofBuf, cast_eq]
  after_results_simp <;> rfl

end Cert.Stick

end
-- ==== Proof.Blks.lean ====
/- The kernel's points: what each leaves, and the arrays after the run. -/
module

public import proofs.«01_k».proof.Proof.RunA
public import proofs.«01_k».proof.Proof.Lsum
public import proofs.«01_k».proof.Proof.Gen.KernelIdeal.Value
public import Idealize.ShloMosaic.Lib.Pipeline.ValueKit

@[expose] public section

set_option maxRecDepth 16384
set_option maxHeartbeats 4000000

noncomputable section

namespace Cert.Stick

open Idealize.ShloMosaic Idealize.ShloMosaic.TcCoe Idealize.ShloMosaic.Updates
open Idealize.ShloMosaic.LaneScatter (Blk Vec1)
open Idealize.ShloMosaic.Pipeline (Dat)
open Cert.KernelIdeal Cert.KernelIdeal.Gen
open scoped BigOperators

/-! ### Which block each point stages -/

theorem at0 : ∀ t : Fin cfg0.N, win0_0.index t 0 = t.val % 4 ∧ win0_0.index t 1 = t.val / 4 :=
  (by decide +kernel : ∀ t : Fin grid0.N, win0_0.index t 0 = t.val % 4 ∧ win0_0.index t 1 = t.val / 4)
theorem at1 : ∀ t : Fin cfg0.N, win0_1.index t 0 = 0 ∧ win0_1.index t 1 = t.val / 4 :=
  (by decide +kernel : ∀ t : Fin grid0.N, win0_1.index t 0 = 0 ∧ win0_1.index t 1 = t.val / 4)
theorem at2 : ∀ t : Fin cfg0.N, win0_2.index t 0 = 0 ∧ win0_2.index t 1 = t.val / 4 :=
  (by decide +kernel : ∀ t : Fin grid0.N, win0_2.index t 0 = 0 ∧ win0_2.index t 1 = t.val / 4)
theorem at3 : ∀ t : Fin cfg0.N, win0_3.index t 0 = t.val % 4 ∧ win0_3.index t 1 = t.val / 4 :=
  (by decide +kernel : ∀ t : Fin grid0.N, win0_3.index t 0 = t.val % 4 ∧ win0_3.index t 1 = t.val / 4)
theorem at4 : ∀ t : Fin cfg0.N, win0_4.index t 0 = t.val % 4 ∧ win0_4.index t 1 = t.val / 4 :=
  (by decide +kernel : ∀ t : Fin grid0.N, win0_4.index t 0 = t.val % 4 ∧ win0_4.index t 1 = t.val / 4)
theorem at5 : ∀ t : Fin cfg0.N, win0_5.index t 0 = t.val % 4 ∧ win0_5.index t 1 = t.val / 4 :=
  (by decide +kernel : ∀ t : Fin grid0.N, win0_5.index t 0 = t.val % 4 ∧ win0_5.index t 1 = t.val / 4)
theorem at6 : ∀ t : Fin cfg0.N, win0_6.index t 0 = 0 ∧ win0_6.index t 1 = t.val / 4 :=
  (by decide +kernel : ∀ t : Fin grid0.N, win0_6.index t 0 = 0 ∧ win0_6.index t 1 = t.val / 4)
theorem at7 : ∀ t : Fin cfg0.N, win0_7.index t 0 = 0 ∧ win0_7.index t 1 = t.val / 4 :=
  (by decide +kernel : ∀ t : Fin grid0.N, win0_7.index t 0 = 0 ∧ win0_7.index t 1 = t.val / 4)

section
variable (m : (ℓ : Loc nD τ sig) → Buf (Elt Ideal) ℓ) (c : Dev nD) (t : Fin cfg0.N) {X : ℕ → ℕ → ℝ}

theorem rd_iblk0 (hX : Rd (a := 4096) (b := 2048) (V m c main_arg0) X) :
    Rd (a := 1024) (b := 128) (iblk m c 0 t) fun r d => X (1024 * (t.val % 4) + r) (128 * (t.val / 4) + d) := fun ι => by
  unfold iblk
  rw [View.read_apply]
  refine (hX _).trans ?_
  show ((X (win0_0.index t 0 * 1024 + 1 * (ι 0).val) (win0_0.index t 1 * 128 + 1 * (ι 1).val) : ℝ) : EReal) = _
  rw [(at0 t).1, (at0 t).2, Nat.mul_comm _ 1024, Nat.mul_comm _ 128, Nat.one_mul, Nat.one_mul]

theorem rd_iblk1 (hX : Rd (a := 4096) (b := 2048) (V m c main_arg1) X) :
    Rd (a := 4096) (b := 128) (iblk m c 1 t) fun r d => X r (128 * (t.val / 4) + d) := fun ι => by
  unfold iblk
  rw [View.read_apply]
  refine (hX _).trans ?_
  show ((X (win0_1.index t 0 * 4096 + 1 * (ι 0).val) (win0_1.index t 1 * 128 + 1 * (ι 1).val) : ℝ) : EReal) = _
  rw [(at1 t).1, (at1 t).2, Nat.zero_mul, Nat.zero_add, Nat.mul_comm _ 128, Nat.one_mul, Nat.one_mul]

theorem rd_iblk2 (hX : Rd (a := 4096) (b := 2048) (V m c main_arg2) X) :
    Rd (a := 4096) (b := 128) (iblk m c 2 t) fun r d => X r (128 * (t.val / 4) + d) := fun ι => by
  unfold iblk
  rw [View.read_apply]
  refine (hX _).trans ?_
  show ((X (win0_2.index t 0 * 4096 + 1 * (ι 0).val) (win0_2.index t 1 * 128 + 1 * (ι 1).val) : ℝ) : EReal) = _
  rw [(at2 t).1, (at2 t).2, Nat.zero_mul, Nat.zero_add, Nat.mul_comm _ 128, Nat.one_mul, Nat.one_mul]

theorem rd_iblk3 (hX : Rd (a := 4096) (b := 2048) (V m c main_arg3) X) :
    Rd (a := 1024) (b := 128) (iblk m c 3 t) fun r d => X (1024 * (t.val % 4) + r) (128 * (t.val / 4) + d) := fun ι => by
  unfold iblk
  rw [View.read_apply]
  refine (hX _).trans ?_
  show ((X (win0_3.index t 0 * 1024 + 1 * (ι 0).val) (win0_3.index t 1 * 128 + 1 * (ι 1).val) : ℝ) : EReal) = _
  rw [(at3 t).1, (at3 t).2, Nat.mul_comm _ 1024, Nat.mul_comm _ 128, Nat.one_mul, Nat.one_mul]

theorem rd_iblk4 (hX : Rd (a := 4096) (b := 2048) (V m c main_v20) X) :
    Rd (a := 1024) (b := 128) (iblk m c 4 t) fun r d => X (1024 * (t.val % 4) + r) (128 * (t.val / 4) + d) := fun ι => by
  unfold iblk
  rw [View.read_apply]
  refine (hX _).trans ?_
  show ((X (win0_4.index t 0 * 1024 + 1 * (ι 0).val) (win0_4.index t 1 * 128 + 1 * (ι 1).val) : ℝ) : EReal) = _
  rw [(at4 t).1, (at4 t).2, Nat.mul_comm _ 1024, Nat.mul_comm _ 128, Nat.one_mul, Nat.one_mul]
end

end Cert.Stick

end
-- ==== Proof.Step.lean ====
/- What one point of the kernel leaves. -/
module

public import proofs.«01_k».proof.Proof.RunA
public import proofs.«01_k».proof.Proof.Blks
public import proofs.«01_k».proof.Proof.Gen.KernelIdeal.Value
public import Idealize.ShloMosaic.Lib.Pipeline.ValueKit

@[expose] public section

set_option maxRecDepth 16384
set_option maxHeartbeats 4000000

noncomputable section

namespace Cert.Stick

open Idealize.ShloMosaic Idealize.ShloMosaic.TcCoe Idealize.ShloMosaic.Updates
open Idealize.ShloMosaic.LaneScatter (Blk Vec1)
open Idealize.ShloMosaic.Pipeline (Dat)
open Cert.KernelIdeal Cert.KernelIdeal.Gen
open scoped BigOperators

/-! ### What each point leaves -/

section
variable (m : (ℓ : Loc nD τ sig) → Buf (Elt Ideal) ℓ) (c : Dev nD) (t : Fin cfg0.N) (D : Head) (t0 : ℕ) (ht : t0 = 1024 * (grid0.coords t 1).val)
  (hq : Rd (a := 1024) (b := 128) (iblk m c 0 t) fun r d => D.Q (t0 + r) d) (hk : Rd (a := 4096) (b := 128) (iblk m c 1 t) D.K)
  (hv : Rd (a := 4096) (b := 128) (iblk m c 2 t) D.V) (hg : Rd (a := 1024) (b := 128) (iblk m c 3 t) fun r d => D.G (t0 + r) d)
  (hl : ∃ A : ℕ → ℕ → ℝ, Rd (a := 1024) (b := 128) (iblk m c 4 t) A ∧ ∀ r, A r 0 = D.L (t0 + r))
include ht hq hk hv hg hl

/-- What a head's first point leaves. -/
theorem outs_first (hA : t.val % 4 = 0) (h0 : t0 = 0) :
    Rd (a := 1024) (b := 128) (outsAt0 m c t.val t.isLt).1 (fun r d => ∑ l ∈ Finset.range (t0 + 1024), D.dz (t0 + r) l * D.K l d)
    ∧ Rd (a := 4096) (b := 128) (outsAt0 m c t.val t.isLt).2.1 (fun j d => ∑ t ∈ Finset.range (t0 + 1024), D.dz t j * D.Q t d)
    ∧ Rd (a := 4096) (b := 128) (outsAt0 m c t.val t.isLt).2.2 (fun j d => ∑ t ∈ Finset.range (t0 + 1024), D.a t j * D.G t d) := by
  have h := runA_value c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr hA) (iblk m c 0 t) (iblk m c 1 t) (iblk m c 2 t) (iblk m c 3 t) (iblk m c 4 t) D t0 ht h0 hq hk hv hg hl
  rw [outsAt0_A m c t hA]
  exact h

/-- What each of a head's other points leaves, over what the point before left. -/
theorem outs_next (hB : ¬t.val % 4 = 0)
    (h6 : Rd (a := 4096) (b := 128) (outsAt0 m c (t.val - 1) (Nat.lt_of_le_of_lt (Nat.sub_le _ _) t.isLt)).2.1 fun j d => ∑ t ∈ Finset.range t0, D.dz t j * D.Q t d)
    (h7 : Rd (a := 4096) (b := 128) (outsAt0 m c (t.val - 1) (Nat.lt_of_le_of_lt (Nat.sub_le _ _) t.isLt)).2.2 fun j d => ∑ t ∈ Finset.range t0, D.a t j * D.G t d) :
    Rd (a := 1024) (b := 128) (outsAt0 m c t.val t.isLt).1 (fun r d => ∑ l ∈ Finset.range (t0 + 1024), D.dz (t0 + r) l * D.K l d)
    ∧ Rd (a := 4096) (b := 128) (outsAt0 m c t.val t.isLt).2.1 (fun j d => ∑ t ∈ Finset.range (t0 + 1024), D.dz t j * D.Q t d)
    ∧ Rd (a := 4096) (b := 128) (outsAt0 m c t.val t.isLt).2.2 (fun j d => ∑ t ∈ Finset.range (t0 + 1024), D.a t j * D.G t d) := by
  have h := runB_value c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => hB ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2 D t0 ht hq hk hv hg hl h6 h7
  rw [outsAt0_B m c t hB]
  exact h
end

end Cert.Stick

end
-- ==== Proof.Pts.lean ====
/- The kernel's points: what a head's points have left, and the arrays after the run. -/
module

public import proofs.«01_k».proof.Proof.Step
public import proofs.«01_k».proof.Proof.Blks
public import proofs.«01_k».proof.Proof.Gen.KernelIdeal.Value
public import Idealize.ShloMosaic.Lib.Pipeline.ValueKit

@[expose] public section

set_option maxRecDepth 16384
set_option maxHeartbeats 4000000

noncomputable section

namespace Cert.Stick

open Idealize.ShloMosaic Idealize.ShloMosaic.TcCoe Idealize.ShloMosaic.Updates
open Idealize.ShloMosaic.LaneScatter (Blk Vec1)
open Idealize.ShloMosaic.Pipeline (Dat)
open Cert.KernelIdeal Cert.KernelIdeal.Gen
open scoped BigOperators

section
variable (m : (ℓ : Loc nD τ sig) → Buf (Elt Ideal) ℓ) (c : Dev nD)
variable {X0 X1 X2 X3 : ℕ → ℕ → ℝ} (h0 : Rd (a := 4096) (b := 2048) (m ((c.tc : Thread nD τ).loc main_arg0)) X0)
  (h1 : Rd (a := 4096) (b := 2048) (m ((c.tc : Thread nD τ).loc main_arg1)) X1)
  (h2 : Rd (a := 4096) (b := 2048) (m ((c.tc : Thread nD τ).loc main_arg2)) X2)
  (h3 : Rd (a := 4096) (b := 2048) (m ((c.tc : Thread nD τ).loc main_arg3)) X3)
include h0 h1 h2 h3

/-- After each point: its queries' gradient, and what the keys and the values have gathered from the head's queries so far. -/
theorem outs_value : ∀ (n : ℕ) (hn : n < cfg0.N),
    Rd (a := 1024) (b := 128) (outsAt0 m c n hn).1 (fun r d => ∑ l ∈ Finset.range (1024 * (n % 4) + 1024),
        (heads X0 X1 X2 X3 (n / 4)).dz (1024 * (n % 4) + r) l * (heads X0 X1 X2 X3 (n / 4)).K l d)
    ∧ Rd (a := 4096) (b := 128) (outsAt0 m c n hn).2.1 (fun j d => ∑ t ∈ Finset.range (1024 * (n % 4) + 1024),
        (heads X0 X1 X2 X3 (n / 4)).dz t j * (heads X0 X1 X2 X3 (n / 4)).Q t d)
    ∧ Rd (a := 4096) (b := 128) (outsAt0 m c n hn).2.2 (fun j d => ∑ t ∈ Finset.range (1024 * (n % 4) + 1024),
        (heads X0 X1 X2 X3 (n / 4)).a t j * (heads X0 X1 X2 X3 (n / 4)).G t d) := by
  intro n
  induction n using Nat.strong_induction_on with
  | _ n ih =>
    intro hn
    have hN : cfg0.N = 64 := N_0
    have e1 : (grid0.coords (⟨n, hn⟩ : Fin cfg0.N) 1).val = n / 1 % 4 := Pipeline.Grid.coords_val (⟨n, hn⟩ : Fin cfg0.N) 1 (by decide) rfl
    have ht : 1024 * (n % 4) = 1024 * (grid0.coords (⟨n, hn⟩ : Fin cfg0.N) 1).val := by rw [e1, Nat.div_one]
    have b0 := rd_iblk0 m c ⟨n, hn⟩ (X := X0) (by rw [V_main_arg0]; exact h0)
    have b1 := rd_iblk1 m c ⟨n, hn⟩ (X := X1) (by rw [V_main_arg1]; exact h1)
    have b2 := rd_iblk2 m c ⟨n, hn⟩ (X := X2) (by rw [V_main_arg2]; exact h2)
    have b3 := rd_iblk3 m c ⟨n, hn⟩ (X := X3) (by rw [V_main_arg3]; exact h3)
    have b4 := rd_iblk4 m c ⟨n, hn⟩ (X := fun t c => (heads X0 X1 X2 X3 (c / 128)).L t) (by
      rw [v20_eq]
      exact rd_kSum (heads X0 X1 X2 X3) (heads_L _ _ _ _) (r3_hZ _ (r3_hIn h0) (r3_hIn h1)))
    have hl : ∃ A : ℕ → ℕ → ℝ, Rd (a := 1024) (b := 128) (iblk m c 4 ⟨n, hn⟩) A ∧ ∀ r, A r 0 = (heads X0 X1 X2 X3 (n / 4)).L (1024 * (n % 4) + r) :=
      ⟨_, b4, fun r => by
        show (heads X0 X1 X2 X3 ((128 * (n / 4) + 0) / 128)).L _ = _
        rw [Nat.add_zero, Nat.mul_div_cancel_left _ (by decide)]⟩
    by_cases hA : n % 4 = 0
    · exact outs_first m c ⟨n, hn⟩ (heads X0 X1 X2 X3 (n / 4)) (1024 * (n % 4)) ht b0 b1 b2 b3 hl hA (by rw [hA])
    · obtain ⟨_, i6, i7⟩ := ih (n - 1) (by omega) (by omega)
      have d4 : (n - 1) / 4 = n / 4 := by omega
      have m4 : 1024 * ((n - 1) % 4) + 1024 = 1024 * (n % 4) := by omega
      rw [d4, m4] at i6 i7
      exact outs_next m c ⟨n, hn⟩ (heads X0 X1 X2 X3 (n / 4)) (1024 * (n % 4)) ht b0 b1 b2 b3 hl hA i6 i7

/-! ### The arrays after the run -/

theorem final5 : Rd (a := 4096) (b := 2048) ((dats m 0 c).arrAt 5 cfg0.N) (gQ (heads X0 X1 X2 X3)) := by
  have h : (dats m 0 c).arrAt 5 cfg0.N = fun ι : S4096x2048.Idx => ((gQ (heads X0 X1 X2 X3) (ι 0).val (ι 1).val : ℝ) : EReal) := by
    refine (dats m 0 c).arrAt_eq_of_covers 5 _ (by decide +kernel) fun t hf y => ?_
    show (dats m 0 c).after 5 t y = ((gQ (heads X0 X1 X2 X3) (win0_5.index t 0 * 1024 + 1 * (y 0).val) (win0_5.index t 1 * 128 + 1 * (y 1).val) : ℝ) : EReal)
    rw [after0_5, (at5 t).1, (at5 t).2]
    refine ((outs_value m c h0 h1 h2 h3 t.val t.isLt).1 y).trans ?_
    have y0 : (y 0).val < 1024 := (y 0).isLt
    have y1 : (y 1).val < 128 := (y 1).isLt
    have e1 : (t.val / 4 * 128 + 1 * (y 1).val) / 128 = t.val / 4 := by omega
    have e2 : (t.val / 4 * 128 + 1 * (y 1).val) % 128 = (y 1).val := by omega
    have e3 : t.val % 4 * 1024 + 1 * (y 0).val = 1024 * (t.val % 4) + (y 0).val := by omega
    unfold gQ
    rw [e1, e2, e3]
    refine congrArg (fun x : ℝ => (x : EReal)) (Finset.sum_subset (Finset.range_mono (by omega)) fun l _ hl => ?_)
    rw [Finset.mem_range, not_lt] at hl
    rw [Head.dz_zero _ (by omega), zero_mul]
  rw [h]
  exact fun ι => rfl

theorem final6 : Rd (a := 4096) (b := 2048) ((dats m 0 c).arrAt 6 cfg0.N) (gK (heads X0 X1 X2 X3)) := by
  have h : (dats m 0 c).arrAt 6 cfg0.N = fun ι : S4096x2048.Idx => ((gK (heads X0 X1 X2 X3) (ι 0).val (ι 1).val : ℝ) : EReal) := by
    refine (dats m 0 c).arrAt_eq_of_covers 6 _ (by decide +kernel) fun t hf y => ?_
    show (dats m 0 c).after 6 t y = ((gK (heads X0 X1 X2 X3) (win0_6.index t 0 * 4096 + 1 * (y 0).val) (win0_6.index t 1 * 128 + 1 * (y 1).val) : ℝ) : EReal)
    rw [after0_6, (at6 t).1, (at6 t).2]
    refine ((outs_value m c h0 h1 h2 h3 t.val t.isLt).2.1 y).trans ?_
    have h3 : t.val % 4 = 3 := (flush0_6 t).mp hf
    have y1 : (y 1).val < 128 := (y 1).isLt
    have e1 : (t.val / 4 * 128 + 1 * (y 1).val) / 128 = t.val / 4 := by omega
    have e2 : (t.val / 4 * 128 + 1 * (y 1).val) % 128 = (y 1).val := by omega
    have e3 : 0 * 4096 + 1 * (y 0).val = (y 0).val := by omega
    unfold gK
    rw [e1, e2, e3, h3, show 1024 * 3 + 1024 = 4096 from rfl]
  rw [h]
  exact fun ι => rfl

theorem final7 : Rd (a := 4096) (b := 2048) ((dats m 0 c).arrAt 7 cfg0.N) (gV (heads X0 X1 X2 X3)) := by
  have h : (dats m 0 c).arrAt 7 cfg0.N = fun ι : S4096x2048.Idx => ((gV (heads X0 X1 X2 X3) (ι 0).val (ι 1).val : ℝ) : EReal) := by
    refine (dats m 0 c).arrAt_eq_of_covers 7 _ (by decide +kernel) fun t hf y => ?_
    show (dats m 0 c).after 7 t y = ((gV (heads X0 X1 X2 X3) (win0_7.index t 0 * 4096 + 1 * (y 0).val) (win0_7.index t 1 * 128 + 1 * (y 1).val) : ℝ) : EReal)
    rw [after0_7, (at7 t).1, (at7 t).2]
    refine ((outs_value m c h0 h1 h2 h3 t.val t.isLt).2.2 y).trans ?_
    have h3 : t.val % 4 = 3 := (flush0_7 t).mp hf
    have y1 : (y 1).val < 128 := (y 1).isLt
    have e1 : (t.val / 4 * 128 + 1 * (y 1).val) / 128 = t.val / 4 := by omega
    have e2 : (t.val / 4 * 128 + 1 * (y 1).val) % 128 = (y 1).val := by omega
    have e3 : 0 * 4096 + 1 * (y 0).val = (y 0).val := by omega
    unfold gV
    rw [e1, e2, e3, h3, show 1024 * 3 + 1024 = 4096 from rfl]
  rw [h]
  exact fun ι => rfl
end

end Cert.Stick

end
-- ==== Proof.Ex.lean ====
/- Arrays of extended reals as functions of natural numbers, and what the printed operations make of them. -/
module

public import proofs.«01_k».proof.Proof.Arr3

@[expose] public section

set_option maxRecDepth 16384

noncomputable section

namespace Cert.Stick

open Idealize.ShloMosaic Idealize.ShloMosaic.Updates
open Idealize.ShloMosaic.LaneScatter (Blk Vec1)
open scoped BigOperators

variable {a b c p q r : ℕ} {φ ψ : FTy}

/-- The array of three axes holds `f`. -/
def E3 (x : (S3 a b c).Idx → EReal) (f : ℕ → ℕ → ℕ → EReal) : Prop := ∀ ι, x ι = f (ι 0).val (ι 1).val (ι 2).val

/-- The array of two axes holds `f`. -/
def E2 (x : (Blk a b).Idx → EReal) (f : ℕ → ℕ → EReal) : Prop := ∀ ι, x ι = f (ι 0).val (ι 1).val

/-- Every array holds some function. -/
theorem exists_E3 (x : (S3 a b c).Idx → EReal) : ∃ f, E3 x f := by
  classical
  refine ⟨fun i j k => if h : i < a ∧ j < b ∧ k < c then x (ValueIdx.ix3 ⟨i, h.1⟩ ⟨j, h.2.1⟩ ⟨k, h.2.2⟩) else 0, fun ι => ?_⟩
  have h : (ι 0).val < a ∧ (ι 1).val < b ∧ (ι 2).val < c := ⟨(ι 0).isLt, (ι 1).isLt, (ι 2).isLt⟩
  show x ι = dite _ _ _
  rw [dif_pos h]
  refine congrArg x ?_
  funext i
  apply Fin.ext
  match i with
  | ⟨0, _⟩ => rfl
  | ⟨1, _⟩ => rfl
  | ⟨2, _⟩ => rfl

theorem E3.congr {x : (S3 a b c).Idx → EReal} {f g} (h : E3 x f) (e : ∀ i j k, i < a → j < b → k < c → f i j k = g i j k) : E3 x g := fun ι => by
  rw [h ι, e _ _ _ (ι 0).isLt (ι 1).isLt (ι 2).isLt]

/-- Two arrays that hold the same function are equal. -/
theorem E3.eq {x y : (S3 a b c).Idx → EReal} {f} (hx : E3 x f) (hy : E3 y f) : x = y := funext fun ι => (hx ι).trans (hy ι).symm

theorem E2.at {x : (Blk a b).Idx → EReal} {f} (h : E2 x f) (i : Fin a) (j : Fin b) : x (ValueIdx.ix2 i j) = f i j := h (ValueIdx.ix2 i j)

theorem E2.intro {x : (Blk a b).Idx → EReal} {f : ℕ → ℕ → EReal} (h : ∀ (i : Fin a) (j : Fin b), x (ValueIdx.ix2 i j) = f i j) : E2 x f := fun ι => by
  have e := ValueIdx.eq_ix2 (n0 := a) (n1 := b) ι
  rw [e]; exact h _ _

/-! ### Reshapes and transposes -/

/-- A leading axis of one row dropped. -/
theorem e_drop {x : FVec Ideal (S3 1 b c) φ} {f} (hx : E3 x f) (h : (S3 1 b c).ShapeCasts (Blk b c)) : E2 (shapeCast (Blk b c) x h) (f 0) := E2.intro fun i j => by
  refine (shapeCast_apply x h _ (ValueIdx.ix3 (0 : Fin 1) i j) ?_).trans (hx _)
  rw [Shape.rowMajor_val_two, Shape.rowMajor_val_three]
  show (0 * b + i.val) * c + j.val = i.val * c + j.val
  rw [Nat.zero_mul, Nat.zero_add]

/-- A leading axis of one row added. -/
theorem e_lead {x : FVec Ideal (Blk b c) φ} {f} (hx : E2 x f) (h : (Blk b c).ShapeCasts (S3 1 b c)) : E3 (shapeCast (S3 1 b c) x h) fun _ j k => f j k := fun ι => by
  have h0 : (ι 0).val < 1 := (ι 0).isLt
  refine (shapeCast_apply x h ι (ValueIdx.ix2 (ι 1) (ι 2)) ?_).trans (hx.at _ _)
  rw [Shape.rowMajor_val_two, Shape.rowMajor_val_three]
  show (ι 1).val * c + (ι 2).val = ((ι 0).val * b + (ι 1).val) * c + (ι 2).val
  rw [show (ι 0).val = 0 by omega, Nat.zero_mul, Nat.zero_add]

/-- Rows split into groups. -/
theorem e_split {x : FVec Ideal (S3 1 (a * b) c) φ} {f} (hx : E3 x f) (h : (S3 1 (a * b) c).ShapeCasts (S3 a b c)) :
    E3 (shapeCast (S3 a b c) x h) fun i j k => f 0 (b * i + j) k := fun ι => by
  have h0 : (ι 0).val < a := (ι 0).isLt
  have h1 : (ι 1).val < b := (ι 1).isLt
  have hk : b * (ι 0).val + (ι 1).val < a * b := by nlinarith
  refine (shapeCast_apply x h ι (ValueIdx.ix3 (0 : Fin 1) ⟨b * (ι 0).val + (ι 1).val, hk⟩ (ι 2)) ?_).trans (hx _)
  rw [Shape.rowMajor_val_three, Shape.rowMajor_val_three]
  show (0 * (a * b) + (b * (ι 0).val + (ι 1).val)) * c + (ι 2).val = ((ι 0).val * b + (ι 1).val) * c + (ι 2).val
  ring

/-- Groups of rows laid one after another. -/
theorem e_join {x : FVec Ideal (S3 a b c) φ} {f} (hx : E3 x f) (h : (S3 a b c).ShapeCasts (S3 1 (a * b) c)) :
    E3 (shapeCast (S3 1 (a * b) c) x h) fun _ j k => f (j / b) (j % b) k := fun ι => by
  have h0 : (ι 0).val < 1 := (ι 0).isLt
  have hj : (ι 1).val < a * b := (ι 1).isLt
  have hb : 0 < b := Nat.pos_of_ne_zero fun e => by simp [e] at hj
  have h1 : (ι 1).val / b < a := Nat.div_lt_of_lt_mul (lt_of_lt_of_eq hj (Nat.mul_comm a b))
  refine (shapeCast_apply x h ι (ValueIdx.ix3 ⟨(ι 1).val / b, h1⟩ ⟨(ι 1).val % b, Nat.mod_lt _ hb⟩ (ι 2)) ?_).trans (hx _)
  rw [Shape.rowMajor_val_three, Shape.rowMajor_val_three]
  show ((ι 1).val / b * b + (ι 1).val % b) * c + (ι 2).val = ((ι 0).val * (a * b) + (ι 1).val) * c + (ι 2).val
  rw [show (ι 0).val = 0 by omega, Nat.zero_mul, Nat.zero_add, Nat.div_add_mod']

/-- The last two axes exchanged. -/
theorem e_transpose021 {x : FVec Ideal (S3 a b c) φ} {f} (hx : E3 x f) (h : (S3 a b c).Transposes [0, 2, 1] (S3 a c b)) :
    E3 (transpose (S3 a c b) [0, 2, 1] x h) fun i j k => f i k j := fun ι => hx (h.src ι)

/-- A change of format changes nothing. -/
theorem e_truncf {x : FVec Ideal (Blk a b) φ} {f} (hx : E2 x f) (h : ψ.bits < φ.bits) : E2 (truncf ψ x h) f := hx
theorem e_truncf3 {x : FVec Ideal (S3 a b c) φ} {f} (hx : E3 x f) (h : ψ.bits < φ.bits) : E3 (truncf ψ x h) f := hx

/-! ### Products -/

theorem esum (K : ℕ) (x y : Fin K → EReal) (f g : ℕ → EReal) (hx : ∀ k, x k = f k) (hy : ∀ k, y k = g k) :
    ∑ k : Fin K, x k * y k = ∑ k ∈ Finset.range K, f k * g k := by
  rw [Finset.sum_range]
  exact Finset.sum_congr rfl fun k _ => by rw [hx, hy]

/-- A product of two blocks added to an accumulator. -/
theorem e_mm {x : FVec Ideal (Blk p q) φ} {y : FVec Ideal (Blk q r) ψ} {z : FVec Ideal (Blk p r) .f32} {f g} (prec) (hx : E2 x f) (hy : E2 y g)
    (hz : ∀ ι, z ι = (0 : EReal)) : E2 (matmul (DotDims.plain p q r) prec x y z) fun i j => ∑ l ∈ Finset.range q, f i l * g l j := E2.intro fun i j => by
  refine (Ideal.matmul_plain_apply prec x y z i j).trans ?_
  rw [hz, zero_add, esum q _ _ (fun l => f i l) (fun l => g l j) (fun l => hx.at _ _) (fun l => hy.at _ _)]

/-- The right operand transposed. -/
theorem e_mmT {x : FVec Ideal (Blk p q) φ} {y : FVec Ideal (Blk r q) ψ} {z : FVec Ideal (Blk p r) .f32} {f g} (prec) (hx : E2 x f) (hy : E2 y g)
    (hz : ∀ ι, z ι = (0 : EReal)) : E2 (matmul (DotDims.transposedRhs p q r) prec x y z) fun i j => ∑ l ∈ Finset.range q, f i l * g j l := E2.intro fun i j => by
  refine (Ideal.matmul_transposedRhs_apply prec x y z i j).trans ?_
  rw [hz, zero_add, esum q _ _ (fun l => f i l) (fun l => g j l) (fun l => hx.at _ _) (fun l => hy.at _ _)]

/-- The left operand transposed. -/
theorem e_mmTN {x : FVec Ideal (Blk q p) φ} {y : FVec Ideal (Blk q r) ψ} {z : FVec Ideal (Blk p r) .f32} {f g} (prec) (hx : E2 x f) (hy : E2 y g)
    (hz : ∀ ι, z ι = (0 : EReal)) : E2 (matmul (tnDims q p r) prec x y z) fun i j => ∑ l ∈ Finset.range q, f l i * g l j := E2.intro fun i j => by
  refine (tn_apply prec x y z i j).trans ?_
  rw [hz, zero_add, esum q _ _ (fun l => f l i) (fun l => g l j) (fun l => hx.at _ _) (fun l => hy.at _ _)]

theorem zero_bits (ι : (Blk a b).Idx) : (constant (F := Ideal) (Blk a b) .f32 0x00000000#32 : FVec Ideal (Blk a b) .f32) ι = (0 : EReal) := Ideal.ofBits_zero_f32

/-- A product of host arrays contracted over one axis, from what the operands hold at each pair of indices. -/
theorem e_dot {sl sr : Shape} {φ₁ φ₂ : FTy} (d : DotDims sl sr (S3 a b c)) (K : ℕ) (hr : d.contr.rank = 1) (hs : d.contr.size ⟨0, by rw [hr]; exact Nat.one_pos⟩ = K)
    {x : FVec Ideal sl φ₁} {y : FVec Ideal sr φ₂} (f g : ℕ → ℕ → ℕ → ℕ → EReal)
    (hx : ∀ (j : (S3 a b c).Idx) (k : d.contr.Idx), x (d.lhsIdx j k) = f (k ⟨0, by rw [hr]; exact Nat.one_pos⟩).val (j 0).val (j 1).val (j 2).val)
    (hy : ∀ (j : (S3 a b c).Idx) (k : d.contr.Idx), y (d.rhsIdx j k) = g (k ⟨0, by rw [hr]; exact Nat.one_pos⟩).val (j 0).val (j 1).val (j 2).val) :
    E3 (Host.dotGeneral d none x y) fun p q r => ∑ k ∈ Finset.range K, f k p q r * g k p q r := fun ι => by
  simp only [Host.dotGeneral]
  rw [Ideal.dotGeneral_apply, ← Equiv.sum_comp (ValueIdx.contrEquiv1 _ K hr hs).symm]
  refine esum K _ _ (fun k => f k (ι 0).val (ι 1).val (ι 2).val) (fun k => g k (ι 0).val (ι 1).val (ι 2).val) (fun k => ?_) (fun k => ?_)
  · rw [hx, ValueIdx.contrEquiv1_symm_val _ K hr hs k]
  · rw [hy, ValueIdx.contrEquiv1_symm_val _ K hr hs k]

end Cert.Stick

end
-- ==== Proof.MmDWDown.lean ====
/- The weight gradient of the down projection: what the kernel's run leaves, and that the reference leaves the same. -/
module

public import proofs.«01_k».proof.Defs
public import proofs.«01_k».proof.Proof.Ex
public import proofs.«01_k».proof.Proof.Gen.DWDown.Frame
public import proofs.«01_k».proof.Proof.Gen.DWDownIdeal.Value
public import proofs.«01_k».proof.Proof.Gen.DWDownRefIdeal.Run
public import Idealize.ShloMosaic.Lib.Pipeline.ValueKit
public import Idealize.ShloMosaic.Adequacy
public import Idealize.ShloMosaic.Init

@[expose] public section

set_option maxRecDepth 16384
set_option maxHeartbeats 4000000

noncomputable section

namespace Cert.Stick.DWDown

open Idealize.ShloMosaic Idealize.ShloMosaic.TcCoe Idealize.ShloMosaic.Updates
open Idealize.ShloMosaic.LaneScatter (Blk Vec1)
open Idealize.ShloMosaic.Pipeline (Dat)
open scoped BigOperators

/-- The result, as a function of the two arguments. -/
def G (X Y : ℕ → ℕ → ℕ → EReal) (i j k : ℕ) : EReal := ∑ l ∈ Finset.range 4096, X (j / 2816) l (j % 2816) * Y 0 l k

section
open Cert.DWDownIdeal Cert.DWDownIdeal.Gen

/-! ### Which block each point stages -/

theorem at0 : ∀ t : Fin cfg0.N, win0_0.index t 0 = t.val / 4 / 2 ∧ win0_0.index t 1 = 0 ∧ win0_0.index t 2 = t.val / 4 % 2 :=
  (by decide +kernel : ∀ t : Fin grid0.N, win0_0.index t 0 = t.val / 4 / 2 ∧ win0_0.index t 1 = 0 ∧ win0_0.index t 2 = t.val / 4 % 2)
theorem at1 : ∀ t : Fin cfg0.N, win0_1.index t 0 = 0 ∧ win0_1.index t 1 = 0 ∧ win0_1.index t 2 = t.val % 4 :=
  (by decide +kernel : ∀ t : Fin grid0.N, win0_1.index t 0 = 0 ∧ win0_1.index t 1 = 0 ∧ win0_1.index t 2 = t.val % 4)
theorem at2 : ∀ t : Fin cfg0.N, win0_2.index t 0 = 0 ∧ win0_2.index t 1 = t.val / 4 ∧ win0_2.index t 2 = t.val % 4 :=
  (by decide +kernel : ∀ t : Fin grid0.N, win0_2.index t 0 = 0 ∧ win0_2.index t 1 = t.val / 4 ∧ win0_2.index t 2 = t.val % 4)

variable (m : (ℓ : Loc nD τ sig) → Buf (Elt Ideal) ℓ) (c : Dev nD) {X Y : ℕ → ℕ → ℕ → EReal}

theorem e_iblk0 (t : Fin cfg0.N) (hX : E3 (a := 2) (b := 4096) (c := 2816) (V m c main_arg0) X) :
    E3 (a := 1) (b := 4096) (c := 1408) (iblk m c 0 t) fun i j k => X (t.val / 4 / 2 * 1 + 1 * i) (0 * 4096 + 1 * j) (t.val / 4 % 2 * 1408 + 1 * k) := fun ι => by
  unfold iblk
  rw [View.read_apply]
  refine (hX _).trans ?_
  show X (win0_0.index t 0 * 1 + 1 * (ι 0).val) (win0_0.index t 1 * 4096 + 1 * (ι 1).val) (win0_0.index t 2 * 1408 + 1 * (ι 2).val) = _
  rw [(at0 t).1, (at0 t).2.1, (at0 t).2.2]

theorem e_iblk1 (t : Fin cfg0.N) (hY : E3 (a := 1) (b := 4096) (c := 2048) (V m c main_arg1) Y) :
    E3 (a := 1) (b := 4096) (c := 512) (iblk m c 1 t) fun i j k => Y (0 * 1 + 1 * i) (0 * 4096 + 1 * j) (t.val % 4 * 512 + 1 * k) := fun ι => by
  unfold iblk
  rw [View.read_apply]
  refine (hY _).trans ?_
  show Y (win0_1.index t 0 * 1 + 1 * (ι 0).val) (win0_1.index t 1 * 4096 + 1 * (ι 1).val) (win0_1.index t 2 * 512 + 1 * (ι 2).val) = _
  rw [(at1 t).1, (at1 t).2.1, (at1 t).2.2]

/-- The body stores the product of the two blocks. -/
theorem out_eq (x : Vec Ideal S1x4096x1408 .bf16) (y : Vec Ideal S1x4096x512 .bf16) : out0_2 (F := Ideal) x y = k0_pay1 (F := Ideal) x y := by
  frame_out

theorem e_pay {x : Vec Ideal S1x4096x1408 .bf16} {y : Vec Ideal S1x4096x512 .bf16} {f g}
    (hx : E3 (a := 1) (b := 4096) (c := 1408) x f) (hy : E3 (a := 1) (b := 4096) (c := 512) y g) :
    E3 (a := 1) (b := 1408) (c := 512) (k0_pay1 (F := Ideal) x y) fun _ j k => ∑ l ∈ Finset.range 4096, f 0 l j * g 0 l k :=
  e_lead (φ := .bf16) (e_truncf (ψ := .bf16) (e_mmTN (φ := .bf16) (ψ := .bf16) none (e_drop (φ := .bf16) hx _) (e_drop (φ := .bf16) hy _) zero_bits) bitsLt_bf16_f32) _

/-- The kernel's output array after the run. -/
theorem final (hX : E3 (a := 2) (b := 4096) (c := 2816) (V m c main_arg0) X) (hY : E3 (a := 1) (b := 4096) (c := 2048) (V m c main_arg1) Y) :
    E3 (a := 1) (b := 5632) (c := 2048) ((dats m 0 c).arrAt 2 cfg0.N) (G X Y) := by
  have h : (dats m 0 c).arrAt 2 cfg0.N = fun ι : S1x5632x2048.Idx => G X Y (ι 0).val (ι 1).val (ι 2).val := by
    refine (dats m 0 c).arrAt_eq_of_covers 2 _ (by decide +kernel) fun t hf y => ?_
    show (dats m 0 c).after 2 t y = G X Y (win0_2.index t 0 * 1 + 1 * (y 0).val) (win0_2.index t 1 * 1408 + 1 * (y 1).val) (win0_2.index t 2 * 512 + 1 * (y 2).val)
    rw [after0_2, (at2 t).1, (at2 t).2.1, (at2 t).2.2, out_eq]
    refine (e_pay (e_iblk0 m c t hX) (e_iblk1 m c t hY) y).trans ?_
    have ht : t.val < 16 := t.isLt
    have y0 : (y 0).val < 1 := (y 0).isLt
    have y1 : (y 1).val < 1408 := (y 1).isLt
    have y2 : (y 2).val < 512 := (y 2).isLt
    unfold G
    refine Finset.sum_congr rfl fun l hl => ?_
    rw [Finset.mem_range] at hl
    congr 2 <;> omega
  rw [h]
  exact fun ι => rfl
end

section
open Cert.DWDownRefIdeal Cert.DWDownRefIdeal.Gen

/-- The reference's result is the same function of the arguments. -/
theorem reference (x : FVec Ideal S2x4096x2816 .bf16) (y : FVec Ideal S1x4096x2048 .bf16) {X Y : ℕ → ℕ → ℕ → EReal}
    (hX : E3 (a := 2) (b := 4096) (c := 2816) x X) (hY : E3 (a := 1) (b := 4096) (c := 2048) y Y) :
    E3 (a := 1) (b := 5632) (c := 2048)
      (truncf .bf16 (shapeCast _ (Host.dotGeneral (F := Ideal) dot_S2x4096x2816_S4096x2048_S2x2816x2048_1_0_02_1_n_n none (extf .f32 x bitsLt_bf16_f32) (extf .f32 (shapeCast _ y shapeCasts_S1x4096x2048_S4096x2048) bitsLt_bf16_f32)) shapeCasts_S2x2816x2048_S1x5632x2048) bitsLt_bf16_f32) (G X Y) :=
  e_truncf3 (φ := .f32) (e_join (a := 2) (b := 2816) (c := 2048) (φ := .f32)
    (e_dot _ 4096 rfl rfl (fun l i j k => X i l j) (fun l i j k => Y 0 l k) (fun j k => hX _) (fun j k => e_drop (φ := .bf16) hY _ _)) _) _
end

/-- The kernel's program runs and leaves its arguments as they were. -/
theorem frame_kernel : Cert.quiescent_DWDown (hDWDown := Cert.DWDown.Gen.facts) := fun m ρ _ => Cert.DWDown.Gen.frame m ρ

/-- So does its idealization. -/
theorem frame_ideal : Cert.quiescent_DWDownIdeal (hDWDownIdeal := Cert.DWDownIdeal.Gen.facts) := fun m ρ _ => Cert.DWDownIdeal.Gen.frame m ρ

/-- So does the reference. -/
theorem frame_reference : Cert.quiescent_DWDownRefIdeal (hDWDownRefIdeal := Cert.DWDownRefIdeal.Gen.facts) := fun m ρ _ =>
  (θ_run Cert.DWDownRefIdeal.defs _ _).mono (fun r h => ⟨fun c => (h c).2, Idealize.ShloMosaic.sem_eq_zero_of_no_sems (by decide) r.2⟩)
    (Cert.DWDownRefIdeal.Value.run (F := Ideal) m ρ)

/-- From the same arguments the kernel and the reference leave the same result. -/
theorem algebraic : Cert.algebraic_DWDownIdeal_DWDownRefIdeal (hDWDownIdeal := Cert.DWDownIdeal.Gen.facts) (hDWDownRefIdeal := Cert.DWDownRefIdeal.Gen.facts) := fun m g m' g' _ hag => by
  refine ⟨fun c => (Cert.DWDownIdeal.Gen.dats m 0 c).arrAt 2 Cert.DWDownIdeal.cfg0.N, ?_, ?_⟩
  · exact Cert.DWDownIdeal.Value.run_blocks m g
  · refine (θ_run Cert.DWDownRefIdeal.defs _ _).mono (fun r h c => ⟨(h c).1.trans ?_, (h c).2⟩) (Cert.DWDownRefIdeal.Value.run (F := Ideal) m' g')
    obtain ⟨X, hX⟩ := exists_E3 (a := 2) (b := 4096) (c := 2816) (m ((c.tc : Thread Cert.DWDownIdeal.nD Cert.DWDownIdeal.τ).loc Cert.DWDownIdeal.main_arg0))
    obtain ⟨Y, hY⟩ := exists_E3 (a := 1) (b := 4096) (c := 2048) (m ((c.tc : Thread Cert.DWDownIdeal.nD Cert.DWDownIdeal.τ).loc Cert.DWDownIdeal.main_arg1))
    rw [(hag c).1, (hag c).2]
    exact (reference _ _ hX hY).eq (final m c (by rw [Cert.DWDownIdeal.Gen.V_main_arg0]; exact hX) (by rw [Cert.DWDownIdeal.Gen.V_main_arg1]; exact hY))

end Cert.Stick.DWDown

end
-- ==== Proof.MmDFfnMid.lean ====
/- The gradient of what the down projection takes: what the kernel's run leaves, and that the reference leaves the same. -/
module

public import proofs.«01_k».proof.Defs
public import proofs.«01_k».proof.Proof.Ex
public import proofs.«01_k».proof.Proof.Gen.DFfnMid.Frame
public import proofs.«01_k».proof.Proof.Gen.DFfnMidIdeal.Value
public import proofs.«01_k».proof.Proof.Gen.DFfnMidRefIdeal.Run
public import Idealize.ShloMosaic.Lib.Pipeline.ValueKit
public import Idealize.ShloMosaic.Adequacy
public import Idealize.ShloMosaic.Init

@[expose] public section

set_option maxRecDepth 16384
set_option maxHeartbeats 4000000

noncomputable section

namespace Cert.Stick.DFfnMid

open Idealize.ShloMosaic Idealize.ShloMosaic.TcCoe Idealize.ShloMosaic.Updates
open Idealize.ShloMosaic.LaneScatter (Blk Vec1)
open Idealize.ShloMosaic.Pipeline (Dat)
open scoped BigOperators

/-- The result, as a function of the two arguments. -/
def G (X Y : ℕ → ℕ → ℕ → EReal) (i j k : ℕ) : EReal := ∑ l ∈ Finset.range 2048, X 0 j l * Y 0 (2816 * i + k) l

section
open Cert.DFfnMidIdeal Cert.DFfnMidIdeal.Gen

/-! ### Which block each point stages -/

theorem at0 : ∀ t : Fin cfg0.N, win0_0.index t 0 = 0 ∧ win0_0.index t 1 = t.val % 8 ∧ win0_0.index t 2 = 0 :=
  (by decide +kernel : ∀ t : Fin grid0.N, win0_0.index t 0 = 0 ∧ win0_0.index t 1 = t.val % 8 ∧ win0_0.index t 2 = 0)
theorem at1 : ∀ t : Fin cfg0.N, win0_1.index t 0 = 0 ∧ win0_1.index t 1 = t.val / 8 ∧ win0_1.index t 2 = 0 :=
  (by decide +kernel : ∀ t : Fin grid0.N, win0_1.index t 0 = 0 ∧ win0_1.index t 1 = t.val / 8 ∧ win0_1.index t 2 = 0)
theorem at2 : ∀ t : Fin cfg0.N, win0_2.index t 0 = t.val / 8 ∧ win0_2.index t 1 = t.val % 8 ∧ win0_2.index t 2 = 0 :=
  (by decide +kernel : ∀ t : Fin grid0.N, win0_2.index t 0 = t.val / 8 ∧ win0_2.index t 1 = t.val % 8 ∧ win0_2.index t 2 = 0)

variable (m : (ℓ : Loc nD τ sig) → Buf (Elt Ideal) ℓ) (c : Dev nD) {X Y : ℕ → ℕ → ℕ → EReal}

theorem e_iblk0 (t : Fin cfg0.N) (hX : E3 (a := 1) (b := 4096) (c := 2048) (V m c main_arg0) X) :
    E3 (a := 1) (b := 512) (c := 2048) (iblk m c 0 t) fun i j k => X (0 * 1 + 1 * i) (t.val % 8 * 512 + 1 * j) (0 * 2048 + 1 * k) := fun ι => by
  unfold iblk
  rw [View.read_apply]
  refine (hX _).trans ?_
  show X (win0_0.index t 0 * 1 + 1 * (ι 0).val) (win0_0.index t 1 * 512 + 1 * (ι 1).val) (win0_0.index t 2 * 2048 + 1 * (ι 2).val) = _
  rw [(at0 t).1, (at0 t).2.1, (at0 t).2.2]

theorem e_iblk1 (t : Fin cfg0.N) (hY : E3 (a := 1) (b := 5632) (c := 2048) (V m c main_arg1) Y) :
    E3 (a := 1) (b := 2816) (c := 2048) (iblk m c 1 t) fun i j k => Y (0 * 1 + 1 * i) (t.val / 8 * 2816 + 1 * j) (0 * 2048 + 1 * k) := fun ι => by
  unfold iblk
  rw [View.read_apply]
  refine (hY _).trans ?_
  show Y (win0_1.index t 0 * 1 + 1 * (ι 0).val) (win0_1.index t 1 * 2816 + 1 * (ι 1).val) (win0_1.index t 2 * 2048 + 1 * (ι 2).val) = _
  rw [(at1 t).1, (at1 t).2.1, (at1 t).2.2]

/-- The body stores the product of the two blocks. -/
theorem out_eq (x : Vec Ideal S1x512x2048 .bf16) (y : Vec Ideal S1x2816x2048 .bf16) : out0_2 (F := Ideal) x y = k0_pay1 (F := Ideal) x y := by
  frame_out

theorem e_pay {x : Vec Ideal S1x512x2048 .bf16} {y : Vec Ideal S1x2816x2048 .bf16} {f g}
    (hx : E3 (a := 1) (b := 512) (c := 2048) x f) (hy : E3 (a := 1) (b := 2816) (c := 2048) y g) :
    E3 (a := 1) (b := 512) (c := 2816) (k0_pay1 (F := Ideal) x y) fun _ j k => ∑ l ∈ Finset.range 2048, f 0 j l * g 0 k l :=
  e_lead (φ := .f32) (e_mmT (φ := .bf16) (ψ := .bf16) none (e_drop (φ := .bf16) hx _) (e_drop (φ := .bf16) hy _) zero_bits) _

/-- The kernel's output array after the run. -/
theorem final (hX : E3 (a := 1) (b := 4096) (c := 2048) (V m c main_arg0) X) (hY : E3 (a := 1) (b := 5632) (c := 2048) (V m c main_arg1) Y) :
    E3 (a := 2) (b := 4096) (c := 2816) ((dats m 0 c).arrAt 2 cfg0.N) (G X Y) := by
  have h : (dats m 0 c).arrAt 2 cfg0.N = fun ι : S2x4096x2816.Idx => G X Y (ι 0).val (ι 1).val (ι 2).val := by
    refine (dats m 0 c).arrAt_eq_of_covers 2 _ (by decide +kernel) fun t hf y => ?_
    show (dats m 0 c).after 2 t y = G X Y (win0_2.index t 0 * 1 + 1 * (y 0).val) (win0_2.index t 1 * 512 + 1 * (y 1).val) (win0_2.index t 2 * 2816 + 1 * (y 2).val)
    rw [after0_2, (at2 t).1, (at2 t).2.1, (at2 t).2.2, out_eq]
    refine (e_pay (e_iblk0 m c t hX) (e_iblk1 m c t hY) y).trans ?_
    have ht : t.val < 16 := t.isLt
    have y0 : (y 0).val < 1 := (y 0).isLt
    have y1 : (y 1).val < 512 := (y 1).isLt
    have y2 : (y 2).val < 2816 := (y 2).isLt
    unfold G
    refine Finset.sum_congr rfl fun l hl => ?_
    rw [Finset.mem_range] at hl
    congr 2 <;> omega
  rw [h]
  exact fun ι => rfl
end

section
open Cert.DFfnMidRefIdeal Cert.DFfnMidRefIdeal.Gen

/-- The reference's result is the same function of the arguments. -/
theorem reference (x : FVec Ideal S1x4096x2048 .bf16) (y : FVec Ideal S1x5632x2048 .bf16) {X Y : ℕ → ℕ → ℕ → EReal}
    (hX : E3 (a := 1) (b := 4096) (c := 2048) x X) (hY : E3 (a := 1) (b := 5632) (c := 2048) y Y) :
    E3 (a := 2) (b := 4096) (c := 2816)
      (transpose S2x4096x2816 [0, 2, 1] (Host.dotGeneral (F := Ideal) dot_S2x2816x2048_S4096x2048_S2x2816x4096_2_1_01_0_n_n none (extf .f32 (shapeCast _ y shapeCasts_S1x5632x2048_S2x2816x2048) bitsLt_bf16_f32) (extf .f32 (shapeCast _ x shapeCasts_S1x4096x2048_S4096x2048) bitsLt_bf16_f32)) transposes_S2x2816x4096_S2x4096x2816_0_2_1) (G X Y) :=
  (e_transpose021 (φ := .f32)
    (e_dot _ 2048 rfl rfl (fun l i j k => Y 0 (2816 * i + j) l) (fun l i j k => X 0 k l) (fun j k => e_split (a := 2) (b := 2816) (c := 2048) (φ := .bf16) hY _ _) (fun j k => e_drop (φ := .bf16) hX _ _)) _).congr
    fun i j k _ _ _ => Finset.sum_congr rfl fun l _ => mul_comm _ _
end

/-- The kernel's program runs and leaves its arguments as they were. -/
theorem frame_kernel : Cert.quiescent_DFfnMid (hDFfnMid := Cert.DFfnMid.Gen.facts) := fun m ρ _ => Cert.DFfnMid.Gen.frame m ρ

/-- So does its idealization. -/
theorem frame_ideal : Cert.quiescent_DFfnMidIdeal (hDFfnMidIdeal := Cert.DFfnMidIdeal.Gen.facts) := fun m ρ _ => Cert.DFfnMidIdeal.Gen.frame m ρ

/-- So does the reference. -/
theorem frame_reference : Cert.quiescent_DFfnMidRefIdeal (hDFfnMidRefIdeal := Cert.DFfnMidRefIdeal.Gen.facts) := fun m ρ _ =>
  (θ_run Cert.DFfnMidRefIdeal.defs _ _).mono (fun r h => ⟨fun c => (h c).2, Idealize.ShloMosaic.sem_eq_zero_of_no_sems (by decide) r.2⟩)
    (Cert.DFfnMidRefIdeal.Value.run (F := Ideal) m ρ)

/-- From the same arguments the kernel and the reference leave the same result. -/
theorem algebraic : Cert.algebraic_DFfnMidIdeal_DFfnMidRefIdeal (hDFfnMidIdeal := Cert.DFfnMidIdeal.Gen.facts) (hDFfnMidRefIdeal := Cert.DFfnMidRefIdeal.Gen.facts) := fun m g m' g' _ hag => by
  refine ⟨fun c => (Cert.DFfnMidIdeal.Gen.dats m 0 c).arrAt 2 Cert.DFfnMidIdeal.cfg0.N, ?_, ?_⟩
  · exact Cert.DFfnMidIdeal.Value.run_blocks m g
  · refine (θ_run Cert.DFfnMidRefIdeal.defs _ _).mono (fun r h c => ⟨(h c).1.trans ?_, (h c).2⟩) (Cert.DFfnMidRefIdeal.Value.run (F := Ideal) m' g')
    obtain ⟨X, hX⟩ := exists_E3 (a := 1) (b := 4096) (c := 2048) (m ((c.tc : Thread Cert.DFfnMidIdeal.nD Cert.DFfnMidIdeal.τ).loc Cert.DFfnMidIdeal.main_arg0))
    obtain ⟨Y, hY⟩ := exists_E3 (a := 1) (b := 5632) (c := 2048) (m ((c.tc : Thread Cert.DFfnMidIdeal.nD Cert.DFfnMidIdeal.τ).loc Cert.DFfnMidIdeal.main_arg1))
    rw [(hag c).1, (hag c).2]
    exact (reference _ _ hX hY).eq (final m c (by rw [Cert.DFfnMidIdeal.Gen.V_main_arg0]; exact hX) (by rw [Cert.DFfnMidIdeal.Gen.V_main_arg1]; exact hY))

end Cert.Stick.DFfnMid

end
-- ==== Proof.Ex2.lean ====
/- More of what the printed operations make of arrays of extended reals: sums of two arrays, a leading axis, and products
   that contract two axes. -/
module

public import proofs.«01_k».proof.Proof.Ex
public import Idealize.ShloMosaic.Lib.TwoAxisContraction

@[expose] public section

set_option maxRecDepth 16384

noncomputable section

namespace Cert.Stick

open Idealize.ShloMosaic Idealize.ShloMosaic.Updates
open Idealize.ShloMosaic.LaneScatter (Blk Vec1)
open scoped BigOperators

variable {a b c : ℕ} {φ ψ : FTy}

/-- A reshape to the same shape changes nothing. -/
theorem e_self {x : FVec Ideal (Blk a b) φ} {f} (hx : E2 x f) (h : (Blk a b).ShapeCasts (Blk a b)) : E2 (shapeCast (Blk a b) x h) f := by
  rw [shapeCast_self]; exact hx

/-- The sum of two arrays holds the sum of their functions. -/
theorem e_addf {x y : FVec Ideal (Blk a b) .f32} {f g} (hx : E2 x f) (hy : E2 y g) : E2 (addf x y) fun j k => f j k + g j k := fun ι => by
  show x ι + y ι = _
  rw [hx ι, hy ι]

/-- The entries of an array that holds a function, under two names for it. -/
theorem E2.congr {x : (Blk a b).Idx → EReal} {f g} (h : E2 x f) (e : ∀ j k, j < a → k < b → f j k = g j k) : E2 x g := fun ι => by
  rw [h ι, e _ _ (ι 0).isLt (ι 1).isLt]

/-- A leading axis of one row added. -/
theorem e_bcast {x : FVec Ideal (Blk b c) φ} {f} (hx : E2 x f) (hb : b ≠ 1) (hc : c ≠ 1) (h : (Blk b c).BroadcastsInDim (S3 1 b c) ![1, 2]) :
    E3 (broadcastInDim (S3 1 b c) ![1, 2] h x) fun _ j k => f j k := fun ι => by
  refine (broadcastInDim_apply _ h x ι (ValueIdx.ix2 (ι 1) (ι 2)) fun i => ?_).trans (hx _)
  match i with
  | ⟨0, _⟩ => exact (if_neg hb).symm
  | ⟨1, _⟩ => exact (if_neg hc).symm

/-- A product that contracts two axes, the second one outermost in the sum. -/
theorem e_dot2 {sl sr : Shape} {φ₁ φ₂ : FTy} (d : DotDims sl sr (Blk a b)) (K J : ℕ) (hr : d.contr.rank = 2)
    (h0 : d.contr.size ⟨0, by omega⟩ = K) (h1 : d.contr.size ⟨1, by omega⟩ = J)
    {x : FVec Ideal sl φ₁} {y : FVec Ideal sr φ₂} (f g : ℕ → ℕ → ℕ → ℕ → EReal)
    (hx : ∀ (j : (Blk a b).Idx) (k : d.contr.Idx), x (d.lhsIdx j k) = f (k ⟨1, by omega⟩).val (k ⟨0, by omega⟩).val (j 0).val (j 1).val)
    (hy : ∀ (j : (Blk a b).Idx) (k : d.contr.Idx), y (d.rhsIdx j k) = g (k ⟨1, by omega⟩).val (k ⟨0, by omega⟩).val (j 0).val (j 1).val) :
    E2 (Host.dotGeneral d none x y) fun p q => ∑ s ∈ Finset.range J, ∑ l ∈ Finset.range K, f s l p q * g s l p q := fun ι => by
  simp only [Host.dotGeneral]
  rw [Ideal.dotGeneral_apply, ValueIdx.sum_contr2 d K J hr h0 h1, Finset.sum_comm,
    Finset.sum_range fun s => ∑ l ∈ Finset.range K, f s l (ι 0).val (ι 1).val * g s l (ι 0).val (ι 1).val]
  refine Finset.sum_congr rfl fun s _ => ?_
  rw [Finset.sum_range]
  refine Finset.sum_congr rfl fun l _ => ?_
  rw [hx, hy, ValueIdx.contrEquiv2_symm_val0 d K J hr h0 h1, ValueIdx.contrEquiv2_symm_val1 d K J hr h0 h1]

/-- A sum over two stretches of the same length. -/
theorem sum_two (n : ℕ) (f : ℕ → EReal) : ∑ l ∈ Finset.range (n + n), f l = ∑ s ∈ Finset.range 2, ∑ l ∈ Finset.range n, f (n * s + l) := by
  rw [Finset.sum_range_succ, Finset.sum_range_one, Finset.sum_range_add]
  simp

end Cert.Stick

end
-- ==== Proof.MmDWUp.lean ====
/- The weight gradient of the up projection: what the kernel's run leaves, and that the reference leaves the same. -/
module

public import proofs.«01_k».proof.Defs
public import proofs.«01_k».proof.Proof.Ex2
public import proofs.«01_k».proof.Proof.Gen.DWUp.Frame
public import proofs.«01_k».proof.Proof.Gen.DWUpIdeal.Value
public import proofs.«01_k».proof.Proof.Gen.DWUpRefIdeal.Run
public import Idealize.ShloMosaic.Lib.Pipeline.ValueKit
public import Idealize.ShloMosaic.Adequacy
public import Idealize.ShloMosaic.Init

@[expose] public section

set_option maxRecDepth 16384
set_option maxHeartbeats 4000000

noncomputable section

namespace Cert.Stick.DWUp

open Idealize.ShloMosaic Idealize.ShloMosaic.TcCoe Idealize.ShloMosaic.Updates
open Idealize.ShloMosaic.LaneScatter (Blk Vec1)
open Idealize.ShloMosaic.Pipeline (Dat)
open scoped BigOperators

/-- The result, as a function of the two arguments. -/
def G (X Y : ℕ → ℕ → ℕ → EReal) (i j k : ℕ) : EReal := ∑ s ∈ Finset.range 2, ∑ l ∈ Finset.range 2048, X 0 (2048 * s + l) j * Y i (2048 * s + l) k

section
open Cert.DWUpIdeal Cert.DWUpIdeal.Gen

/-! ### Which block each point stages -/

theorem at0 : ∀ t : Fin cfg0.N, win0_0.index t 0 = 0 ∧ win0_0.index t 1 = t.val % 2 ∧ win0_0.index t 2 = t.val / 2 % 4 :=
  (by decide +kernel : ∀ t : Fin grid0.N, win0_0.index t 0 = 0 ∧ win0_0.index t 1 = t.val % 2 ∧ win0_0.index t 2 = t.val / 2 % 4)
theorem at1 : ∀ t : Fin cfg0.N, win0_1.index t 0 = t.val / 8 ∧ win0_1.index t 1 = t.val % 2 ∧ win0_1.index t 2 = 0 :=
  (by decide +kernel : ∀ t : Fin grid0.N, win0_1.index t 0 = t.val / 8 ∧ win0_1.index t 1 = t.val % 2 ∧ win0_1.index t 2 = 0)
theorem at2 : ∀ t : Fin cfg0.N, win0_2.index t 0 = t.val / 8 ∧ win0_2.index t 1 = t.val / 2 % 4 ∧ win0_2.index t 2 = 0 :=
  (by decide +kernel : ∀ t : Fin grid0.N, win0_2.index t 0 = t.val / 8 ∧ win0_2.index t 1 = t.val / 2 % 4 ∧ win0_2.index t 2 = 0)

variable (m : (ℓ : Loc nD τ sig) → Buf (Elt Ideal) ℓ) (c : Dev nD) {X Y : ℕ → ℕ → ℕ → EReal}

theorem e_iblk0 (t : Fin cfg0.N) (hX : E3 (a := 1) (b := 4096) (c := 2048) (V m c main_arg0) X) :
    E3 (a := 1) (b := 2048) (c := 512) (iblk m c 0 t) fun i j k => X (0 * 1 + 1 * i) (t.val % 2 * 2048 + 1 * j) (t.val / 2 % 4 * 512 + 1 * k) := fun ι => by
  unfold iblk
  rw [View.read_apply]
  refine (hX _).trans ?_
  show X (win0_0.index t 0 * 1 + 1 * (ι 0).val) (win0_0.index t 1 * 2048 + 1 * (ι 1).val) (win0_0.index t 2 * 512 + 1 * (ι 2).val) = _
  rw [(at0 t).1, (at0 t).2.1, (at0 t).2.2]

theorem e_iblk1 (t : Fin cfg0.N) (hY : E3 (a := 4) (b := 4096) (c := 2816) (V m c main_arg1) Y) :
    E3 (a := 1) (b := 2048) (c := 2816) (iblk m c 1 t) fun i j k => Y (t.val / 8 * 1 + 1 * i) (t.val % 2 * 2048 + 1 * j) (0 * 2816 + 1 * k) := fun ι => by
  unfold iblk
  rw [View.read_apply]
  refine (hY _).trans ?_
  show Y (win0_1.index t 0 * 1 + 1 * (ι 0).val) (win0_1.index t 1 * 2048 + 1 * (ι 1).val) (win0_1.index t 2 * 2816 + 1 * (ι 2).val) = _
  rw [(at1 t).1, (at1 t).2.1, (at1 t).2.2]

/-! ### What the body leaves at one point -/

/-- The product of the two blocks that point `n` stages. -/
def T (X Y : ℕ → ℕ → ℕ → EReal) (n j k : ℕ) : EReal := ∑ l ∈ Finset.range 2048, X (0 * 1 + 1 * 0) (n % 2 * 2048 + 1 * l) (n / 2 % 4 * 512 + 1 * j) * Y (n / 8 * 1 + 1 * 0) (n % 2 * 2048 + 1 * l) (0 * 2816 + 1 * k)

theorem e_pay1 {x : Vec Ideal S1x2048x512 .bf16} {y : Vec Ideal S1x2048x2816 .bf16} {f g}
    (hx : E3 (a := 1) (b := 2048) (c := 512) x f) (hy : E3 (a := 1) (b := 2048) (c := 2816) y g) :
    E2 (a := 512) (b := 2816) (k0_pay1 (F := Ideal) x y) fun j k => ∑ l ∈ Finset.range 2048, f 0 l j * g 0 l k :=
  e_self (φ := .f32) (e_mmTN (φ := .bf16) (ψ := .bf16) none (e_drop (φ := .bf16) hx _) (e_drop (φ := .bf16) hy _) zero_bits) _

theorem e_pay3 {w : Vec Ideal S512x2816 .f32} {s} (hs : E2 (a := 512) (b := 2816) w s) {x : Vec Ideal S1x2048x512 .bf16} {y : Vec Ideal S1x2048x2816 .bf16} {f g}
    (hx : E3 (a := 1) (b := 2048) (c := 512) x f) (hy : E3 (a := 1) (b := 2048) (c := 2816) y g) :
    E3 (a := 1) (b := 512) (c := 2816) (k0_pay3 (F := Ideal) w x y) fun _ j k => s j k + ∑ l ∈ Finset.range 2048, f 0 l j * g 0 l k :=
  e_lead (φ := .bf16) (e_truncf (ψ := .bf16) (e_addf hs (e_mmTN (φ := .bf16) (ψ := .bf16) none (e_drop (φ := .bf16) hx _) (e_drop (φ := .bf16) hy _) zero_bits)) bitsLt_bf16_f32) _

/-- The accumulator between two points of a run of 2: the sum of the products so far. -/
theorem acc (hX : E3 (a := 1) (b := 4096) (c := 2048) (V m c main_arg0) X) (hY : E3 (a := 4) (b := 4096) (c := 2816) (V m c main_arg1) Y) (n : ℕ) (h : n < cfg0.N) (hn : n % 2 = 0) :
    E2 (a := 512) (b := 2816) (outsAt0 m c n h).2 fun j k => T X Y n j k := by
  rw [show outsAt0 m c n h = _ from outsAt0_A m c ⟨n, h⟩ hn (by show ¬n % 2 = 1; omega)]
  frame_out
  exact e_pay1 (e_iblk0 m c ⟨n, h⟩ hX) (e_iblk1 m c ⟨n, h⟩ hY)

/-- The block stored at the last point of a run of 2: the sum of the run's products. -/
theorem last (hX : E3 (a := 1) (b := 4096) (c := 2048) (V m c main_arg0) X) (hY : E3 (a := 4) (b := 4096) (c := 2816) (V m c main_arg1) Y) (t : Fin cfg0.N) (ht : t.val % 2 = 1) :
    E3 (a := 1) (b := 512) (c := 2816) (outsAt0 m c t.val t.isLt).1 fun _ j k => ∑ s ∈ Finset.range 2, T X Y (2 * (t.val / 2) + s) j k := by
  rw [outsAt0_B m c t (by omega) ht]
  frame_out
  rw [(Memref.isWhole_whole _).read_unread]
  refine (e_pay3 (acc m c hX hY (t.val - 1) _ (by omega)) (e_iblk0 m c t hX) (e_iblk1 m c t hY)).congr fun i j k _ _ _ => ?_
  show _ + T X Y t.val j k = _
  rw [Finset.sum_range_succ, Finset.sum_range_one]
  rw [show t.val - 1 = 2 * (t.val / 2) + 0 by omega, show 2 * (t.val / 2) + 1 = t.val by omega]

/-- The kernel's output array after the run. -/
theorem final (hX : E3 (a := 1) (b := 4096) (c := 2048) (V m c main_arg0) X) (hY : E3 (a := 4) (b := 4096) (c := 2816) (V m c main_arg1) Y) :
    E3 (a := 4) (b := 2048) (c := 2816) ((dats m 0 c).arrAt 2 cfg0.N) (G X Y) := by
  have h : (dats m 0 c).arrAt 2 cfg0.N = fun ι : S4x2048x2816.Idx => G X Y (ι 0).val (ι 1).val (ι 2).val := by
    refine (dats m 0 c).arrAt_eq_of_covers 2 _ (by decide +kernel) fun t hf y => ?_
    show (dats m 0 c).after 2 t y = G X Y (win0_2.index t 0 * 1 + 1 * (y 0).val) (win0_2.index t 1 * 512 + 1 * (y 1).val) (win0_2.index t 2 * 2816 + 1 * (y 2).val)
    rw [after0_2, (at2 t).1, (at2 t).2.1, (at2 t).2.2]
    refine (last m c hX hY t ((flush0_2 t).mp hf) y).trans ?_
    have ht : t.val < 32 := t.isLt
    have y0 : (y 0).val < 1 := (y 0).isLt
    have y1 : (y 1).val < 512 := (y 1).isLt
    have y2 : (y 2).val < 2816 := (y 2).isLt
    unfold G T
    refine Finset.sum_congr rfl fun s hs => Finset.sum_congr rfl fun l hl => ?_
    rw [Finset.mem_range] at hs hl
    congr 2 <;> omega
  rw [h]
  exact fun ι => rfl
end

section
open Cert.DWUpRefIdeal Cert.DWUpRefIdeal.Gen

/-- The reference's result is the same function of the arguments. -/
theorem reference (x : FVec Ideal S1x4096x2048 .bf16) (y : FVec Ideal S4x4096x2816 .bf16) {X Y : ℕ → ℕ → ℕ → EReal}
    (hX : E3 (a := 1) (b := 4096) (c := 2048) x X) (hY : E3 (a := 4) (b := 4096) (c := 2816) y Y) :
    E3 (a := 4) (b := 2048) (c := 2816)
      (truncf .bf16 (transpose S4x2048x2816 [0, 2, 1] (Host.dotGeneral (F := Ideal) dot_S4x4096x2816_S4096x2048_S4x2816x2048_1_0_02_1_n_n none (extf .f32 y bitsLt_bf16_f32) (extf .f32 (shapeCast _ x shapeCasts_S1x4096x2048_S4096x2048) bitsLt_bf16_f32)) transposes_S4x2816x2048_S4x2048x2816_0_2_1) bitsLt_bf16_f32) (G X Y) :=
  e_truncf3 (φ := .f32) ((e_transpose021 (φ := .f32)
    (e_dot _ 4096 rfl rfl (fun l i j k => Y i l j) (fun l i j k => X 0 l k) (fun j k => hY _) (fun j k => e_drop (φ := .bf16) hX _ _)) _).congr
    fun i j k _ _ _ => (Finset.sum_congr rfl fun l _ => mul_comm _ _).trans (sum_two 2048 fun l => X 0 l j * Y i l k)) _
end

/-- The kernel's program runs and leaves its arguments as they were. -/
theorem frame_kernel : Cert.quiescent_DWUp (hDWUp := Cert.DWUp.Gen.facts) := fun m ρ _ => Cert.DWUp.Gen.frame m ρ

/-- So does its idealization. -/
theorem frame_ideal : Cert.quiescent_DWUpIdeal (hDWUpIdeal := Cert.DWUpIdeal.Gen.facts) := fun m ρ _ => Cert.DWUpIdeal.Gen.frame m ρ

/-- So does the reference. -/
theorem frame_reference : Cert.quiescent_DWUpRefIdeal (hDWUpRefIdeal := Cert.DWUpRefIdeal.Gen.facts) := fun m ρ _ =>
  (θ_run Cert.DWUpRefIdeal.defs _ _).mono (fun r h => ⟨fun c => (h c).2, Idealize.ShloMosaic.sem_eq_zero_of_no_sems (by decide) r.2⟩)
    (Cert.DWUpRefIdeal.Value.run (F := Ideal) m ρ)

/-- From the same arguments the kernel and the reference leave the same result. -/
theorem algebraic : Cert.algebraic_DWUpIdeal_DWUpRefIdeal (hDWUpIdeal := Cert.DWUpIdeal.Gen.facts) (hDWUpRefIdeal := Cert.DWUpRefIdeal.Gen.facts) := fun m g m' g' _ hag => by
  refine ⟨fun c => (Cert.DWUpIdeal.Gen.dats m 0 c).arrAt 2 Cert.DWUpIdeal.cfg0.N, ?_, ?_⟩
  · exact Cert.DWUpIdeal.Value.run_blocks m g
  · refine (θ_run Cert.DWUpRefIdeal.defs _ _).mono (fun r h c => ⟨(h c).1.trans ?_, (h c).2⟩) (Cert.DWUpRefIdeal.Value.run (F := Ideal) m' g')
    obtain ⟨X, hX⟩ := exists_E3 (a := 1) (b := 4096) (c := 2048) (m ((c.tc : Thread Cert.DWUpIdeal.nD Cert.DWUpIdeal.τ).loc Cert.DWUpIdeal.main_arg0))
    obtain ⟨Y, hY⟩ := exists_E3 (a := 4) (b := 4096) (c := 2816) (m ((c.tc : Thread Cert.DWUpIdeal.nD Cert.DWUpIdeal.τ).loc Cert.DWUpIdeal.main_arg1))
    rw [(hag c).1, (hag c).2]
    exact (reference _ _ hX hY).eq (final m c (by rw [Cert.DWUpIdeal.Gen.V_main_arg0]; exact hX) (by rw [Cert.DWUpIdeal.Gen.V_main_arg1]; exact hY))

end Cert.Stick.DWUp

end
-- ==== Proof.MmDFfnIn.lean ====
/- The gradient of what the up projection takes: what the kernel's run leaves, and that the reference leaves the same. -/
module

public import proofs.«01_k».proof.Defs
public import proofs.«01_k».proof.Proof.Ex2
public import proofs.«01_k».proof.Proof.Gen.DFfnIn.Frame
public import proofs.«01_k».proof.Proof.Gen.DFfnInIdeal.Value
public import proofs.«01_k».proof.Proof.Gen.DFfnInRefIdeal.Run
public import Idealize.ShloMosaic.Lib.Pipeline.ValueKit
public import Idealize.ShloMosaic.Adequacy
public import Idealize.ShloMosaic.Init

@[expose] public section

set_option maxRecDepth 16384
set_option maxHeartbeats 4000000

noncomputable section

namespace Cert.Stick.DFfnIn

open Idealize.ShloMosaic Idealize.ShloMosaic.TcCoe Idealize.ShloMosaic.Updates
open Idealize.ShloMosaic.LaneScatter (Blk Vec1)
open Idealize.ShloMosaic.Pipeline (Dat)
open scoped BigOperators

/-- The result, as a function of the two arguments. -/
def G (X Y : ℕ → ℕ → ℕ → EReal) (i j k : ℕ) : EReal := ∑ s ∈ Finset.range 4, ∑ l ∈ Finset.range 2816, X s j l * Y s k l

section
open Cert.DFfnInIdeal Cert.DFfnInIdeal.Gen

/-! ### Which block each point stages -/

theorem at0 : ∀ t : Fin cfg0.N, win0_0.index t 0 = t.val % 4 ∧ win0_0.index t 1 = t.val / 8 ∧ win0_0.index t 2 = 0 :=
  (by decide +kernel : ∀ t : Fin grid0.N, win0_0.index t 0 = t.val % 4 ∧ win0_0.index t 1 = t.val / 8 ∧ win0_0.index t 2 = 0)
theorem at1 : ∀ t : Fin cfg0.N, win0_1.index t 0 = t.val % 4 ∧ win0_1.index t 1 = t.val / 4 % 2 ∧ win0_1.index t 2 = 0 :=
  (by decide +kernel : ∀ t : Fin grid0.N, win0_1.index t 0 = t.val % 4 ∧ win0_1.index t 1 = t.val / 4 % 2 ∧ win0_1.index t 2 = 0)
theorem at2 : ∀ t : Fin cfg0.N, win0_2.index t 0 = 0 ∧ win0_2.index t 1 = t.val / 8 ∧ win0_2.index t 2 = t.val / 4 % 2 :=
  (by decide +kernel : ∀ t : Fin grid0.N, win0_2.index t 0 = 0 ∧ win0_2.index t 1 = t.val / 8 ∧ win0_2.index t 2 = t.val / 4 % 2)

variable (m : (ℓ : Loc nD τ sig) → Buf (Elt Ideal) ℓ) (c : Dev nD) {X Y : ℕ → ℕ → ℕ → EReal}

theorem e_iblk0 (t : Fin cfg0.N) (hX : E3 (a := 4) (b := 4096) (c := 2816) (V m c main_arg0) X) :
    E3 (a := 1) (b := 1024) (c := 2816) (iblk m c 0 t) fun i j k => X (t.val % 4 * 1 + 1 * i) (t.val / 8 * 1024 + 1 * j) (0 * 2816 + 1 * k) := fun ι => by
  unfold iblk
  rw [View.read_apply]
  refine (hX _).trans ?_
  show X (win0_0.index t 0 * 1 + 1 * (ι 0).val) (win0_0.index t 1 * 1024 + 1 * (ι 1).val) (win0_0.index t 2 * 2816 + 1 * (ι 2).val) = _
  rw [(at0 t).1, (at0 t).2.1, (at0 t).2.2]

theorem e_iblk1 (t : Fin cfg0.N) (hY : E3 (a := 4) (b := 2048) (c := 2816) (V m c main_arg1) Y) :
    E3 (a := 1) (b := 1024) (c := 2816) (iblk m c 1 t) fun i j k => Y (t.val % 4 * 1 + 1 * i) (t.val / 4 % 2 * 1024 + 1 * j) (0 * 2816 + 1 * k) := fun ι => by
  unfold iblk
  rw [View.read_apply]
  refine (hY _).trans ?_
  show Y (win0_1.index t 0 * 1 + 1 * (ι 0).val) (win0_1.index t 1 * 1024 + 1 * (ι 1).val) (win0_1.index t 2 * 2816 + 1 * (ι 2).val) = _
  rw [(at1 t).1, (at1 t).2.1, (at1 t).2.2]

/-! ### What the body leaves at one point -/

/-- The product of the two blocks that point `n` stages. -/
def T (X Y : ℕ → ℕ → ℕ → EReal) (n j k : ℕ) : EReal := ∑ l ∈ Finset.range 2816, X (n % 4 * 1 + 1 * 0) (n / 8 * 1024 + 1 * j) (0 * 2816 + 1 * l) * Y (n % 4 * 1 + 1 * 0) (n / 4 % 2 * 1024 + 1 * k) (0 * 2816 + 1 * l)

theorem e_pay1 {x : Vec Ideal S1x1024x2816 .bf16} {y : Vec Ideal S1x1024x2816 .bf16} {f g}
    (hx : E3 (a := 1) (b := 1024) (c := 2816) x f) (hy : E3 (a := 1) (b := 1024) (c := 2816) y g) :
    E2 (a := 1024) (b := 1024) (k0_pay1 (F := Ideal) x y) fun j k => ∑ l ∈ Finset.range 2816, f 0 j l * g 0 k l :=
  e_self (φ := .f32) (e_mmT (φ := .bf16) (ψ := .bf16) none (e_drop (φ := .bf16) hx _) (e_drop (φ := .bf16) hy _) zero_bits) _

theorem e_pay2 {w : Vec Ideal S1024x1024 .f32} {s} (hs : E2 (a := 1024) (b := 1024) w s) {x : Vec Ideal S1x1024x2816 .bf16} {y : Vec Ideal S1x1024x2816 .bf16} {f g}
    (hx : E3 (a := 1) (b := 1024) (c := 2816) x f) (hy : E3 (a := 1) (b := 1024) (c := 2816) y g) :
    E2 (a := 1024) (b := 1024) (k0_pay2 (F := Ideal) w x y) fun j k => s j k + ∑ l ∈ Finset.range 2816, f 0 j l * g 0 k l :=
  e_self (φ := .f32) (e_addf hs (e_mmT (φ := .bf16) (ψ := .bf16) none (e_drop (φ := .bf16) hx _) (e_drop (φ := .bf16) hy _) zero_bits)) _

theorem e_pay3 {w : Vec Ideal S1024x1024 .f32} {s} (hs : E2 (a := 1024) (b := 1024) w s) {x : Vec Ideal S1x1024x2816 .bf16} {y : Vec Ideal S1x1024x2816 .bf16} {f g}
    (hx : E3 (a := 1) (b := 1024) (c := 2816) x f) (hy : E3 (a := 1) (b := 1024) (c := 2816) y g) :
    E3 (a := 1) (b := 1024) (c := 1024) (k0_pay3 (F := Ideal) w x y) fun _ j k => s j k + ∑ l ∈ Finset.range 2816, f 0 j l * g 0 k l :=
  e_lead (φ := .f32) (e_addf hs (e_mmT (φ := .bf16) (ψ := .bf16) none (e_drop (φ := .bf16) hx _) (e_drop (φ := .bf16) hy _) zero_bits)) _

/-- The accumulator between two points of a run of 4: the sum of the products so far. -/
theorem acc (hX : E3 (a := 4) (b := 4096) (c := 2816) (V m c main_arg0) X) (hY : E3 (a := 4) (b := 2048) (c := 2816) (V m c main_arg1) Y) (n : ℕ) : ∀ (h : n < cfg0.N) (hn : n % 4 ≠ 3),
    E2 (a := 1024) (b := 1024) (outsAt0 m c n h).2 fun j k => ∑ s ∈ Finset.range (n % 4 + 1), T X Y (4 * (n / 4) + s) j k := by
  have first : ∀ (n : ℕ) (h : n < cfg0.N) (h0 : n % 4 = 0),
      E2 (a := 1024) (b := 1024) (outsAt0 m c n h).2 fun j k => ∑ s ∈ Finset.range (n % 4 + 1), T X Y (4 * (n / 4) + s) j k := fun n h h0 => by
    rw [show outsAt0 m c n h = _ from outsAt0_A m c ⟨n, h⟩ h0 (by show ¬(1 ≤ n % 4 ∧ n % 4 ≤ 2); omega) (by show ¬n % 4 = 3; omega)]
    frame_out
    refine (e_pay1 (e_iblk0 m c ⟨n, h⟩ hX) (e_iblk1 m c ⟨n, h⟩ hY)).congr fun j k _ _ => ?_
    show T X Y n j k = _
    rw [h0, Finset.sum_range_one, show 4 * (n / 4) + 0 = n by omega]
  induction n with
  | zero => exact fun h _ => first 0 h rfl
  | succ n ih =>
    intro h hn
    by_cases h0 : (n + 1) % 4 = 0
    · exact first (n + 1) h h0
    · rw [show outsAt0 m c (n + 1) h = _ from outsAt0_B m c ⟨n + 1, h⟩ h0 (by show 1 ≤ (n + 1) % 4 ∧ (n + 1) % 4 ≤ 2; omega) (by show ¬(n + 1) % 4 = 3; omega)]
      frame_out
      rw [(Memref.isWhole_whole _).read_unread]
      refine (e_pay2 (ih (by omega) (by omega)) (e_iblk0 m c ⟨n + 1, h⟩ hX) (e_iblk1 m c ⟨n + 1, h⟩ hY)).congr fun j k _ _ => ?_
      show _ + T X Y (n + 1) j k = _
      rw [Finset.sum_range_succ _ ((n + 1) % 4), show (n + 1) % 4 = n % 4 + 1 by omega, show (n + 1) / 4 = n / 4 by omega,
        show 4 * (n / 4) + (n % 4 + 1) = n + 1 by omega]

/-- The block stored at the last point of a run of 4: the sum of the run's products. -/
theorem last (hX : E3 (a := 4) (b := 4096) (c := 2816) (V m c main_arg0) X) (hY : E3 (a := 4) (b := 2048) (c := 2816) (V m c main_arg1) Y) (t : Fin cfg0.N) (ht : t.val % 4 = 3) :
    E3 (a := 1) (b := 1024) (c := 1024) (outsAt0 m c t.val t.isLt).1 fun _ j k => ∑ s ∈ Finset.range 4, T X Y (4 * (t.val / 4) + s) j k := by
  rw [outsAt0_C m c t (by omega) (by omega) ht]
  frame_out
  rw [(Memref.isWhole_whole _).read_unread]
  refine (e_pay3 (acc m c hX hY (t.val - 1) _ (by omega)) (e_iblk0 m c t hX) (e_iblk1 m c t hY)).congr fun i j k _ _ _ => ?_
  show _ + T X Y t.val j k = _
  rw [Finset.sum_range_succ _ 3, show (t.val - 1) % 4 + 1 = 3 by omega, show (t.val - 1) / 4 = t.val / 4 by omega,
    show 4 * (t.val / 4) + 3 = t.val by omega]

/-- The kernel's output array after the run. -/
theorem final (hX : E3 (a := 4) (b := 4096) (c := 2816) (V m c main_arg0) X) (hY : E3 (a := 4) (b := 2048) (c := 2816) (V m c main_arg1) Y) :
    E3 (a := 1) (b := 4096) (c := 2048) ((dats m 0 c).arrAt 2 cfg0.N) (G X Y) := by
  have h : (dats m 0 c).arrAt 2 cfg0.N = fun ι : S1x4096x2048.Idx => G X Y (ι 0).val (ι 1).val (ι 2).val := by
    refine (dats m 0 c).arrAt_eq_of_covers 2 _ (by decide +kernel) fun t hf y => ?_
    show (dats m 0 c).after 2 t y = G X Y (win0_2.index t 0 * 1 + 1 * (y 0).val) (win0_2.index t 1 * 1024 + 1 * (y 1).val) (win0_2.index t 2 * 1024 + 1 * (y 2).val)
    rw [after0_2, (at2 t).1, (at2 t).2.1, (at2 t).2.2]
    refine (last m c hX hY t ((flush0_2 t).mp hf) y).trans ?_
    have ht : t.val < 32 := t.isLt
    have y0 : (y 0).val < 1 := (y 0).isLt
    have y1 : (y 1).val < 1024 := (y 1).isLt
    have y2 : (y 2).val < 1024 := (y 2).isLt
    unfold G T
    refine Finset.sum_congr rfl fun s hs => Finset.sum_congr rfl fun l hl => ?_
    rw [Finset.mem_range] at hs hl
    congr 2 <;> omega
  rw [h]
  exact fun ι => rfl
end

section
open Cert.DFfnInRefIdeal Cert.DFfnInRefIdeal.Gen

/-- The reference's result is the same function of the arguments. -/
theorem reference (x : FVec Ideal S4x4096x2816 .bf16) (y : FVec Ideal S4x2048x2816 .bf16) {X Y : ℕ → ℕ → ℕ → EReal}
    (hX : E3 (a := 4) (b := 4096) (c := 2816) x X) (hY : E3 (a := 4) (b := 2048) (c := 2816) y Y) :
    E3 (a := 1) (b := 4096) (c := 2048)
      (broadcastInDim S1x4096x2048 ![1, 2] bcast_S4096x2048_S1x4096x2048_1_2 (Host.dotGeneral (F := Ideal) dot_S4x4096x2816_S4x2048x2816_S4096x2048_20_20_1_1_n_n none (extf .f32 x bitsLt_bf16_f32) (extf .f32 y bitsLt_bf16_f32))) (G X Y) :=
  e_bcast (φ := .f32) (e_dot2 _ 2816 4 rfl rfl rfl (fun s l j k => X s j l) (fun s l j k => Y s k l) (fun j k => hX _) (fun j k => hY _)) (by decide) (by decide) _
end

/-- The kernel's program runs and leaves its arguments as they were. -/
theorem frame_kernel : Cert.quiescent_DFfnIn (hDFfnIn := Cert.DFfnIn.Gen.facts) := fun m ρ _ => Cert.DFfnIn.Gen.frame m ρ

/-- So does its idealization. -/
theorem frame_ideal : Cert.quiescent_DFfnInIdeal (hDFfnInIdeal := Cert.DFfnInIdeal.Gen.facts) := fun m ρ _ => Cert.DFfnInIdeal.Gen.frame m ρ

/-- So does the reference. -/
theorem frame_reference : Cert.quiescent_DFfnInRefIdeal (hDFfnInRefIdeal := Cert.DFfnInRefIdeal.Gen.facts) := fun m ρ _ =>
  (θ_run Cert.DFfnInRefIdeal.defs _ _).mono (fun r h => ⟨fun c => (h c).2, Idealize.ShloMosaic.sem_eq_zero_of_no_sems (by decide) r.2⟩)
    (Cert.DFfnInRefIdeal.Value.run (F := Ideal) m ρ)

/-- From the same arguments the kernel and the reference leave the same result. -/
theorem algebraic : Cert.algebraic_DFfnInIdeal_DFfnInRefIdeal (hDFfnInIdeal := Cert.DFfnInIdeal.Gen.facts) (hDFfnInRefIdeal := Cert.DFfnInRefIdeal.Gen.facts) := fun m g m' g' _ hag => by
  refine ⟨fun c => (Cert.DFfnInIdeal.Gen.dats m 0 c).arrAt 2 Cert.DFfnInIdeal.cfg0.N, ?_, ?_⟩
  · exact Cert.DFfnInIdeal.Value.run_blocks m g
  · refine (θ_run Cert.DFfnInRefIdeal.defs _ _).mono (fun r h c => ⟨(h c).1.trans ?_, (h c).2⟩) (Cert.DFfnInRefIdeal.Value.run (F := Ideal) m' g')
    obtain ⟨X, hX⟩ := exists_E3 (a := 4) (b := 4096) (c := 2816) (m ((c.tc : Thread Cert.DFfnInIdeal.nD Cert.DFfnInIdeal.τ).loc Cert.DFfnInIdeal.main_arg0))
    obtain ⟨Y, hY⟩ := exists_E3 (a := 4) (b := 2048) (c := 2816) (m ((c.tc : Thread Cert.DFfnInIdeal.nD Cert.DFfnInIdeal.τ).loc Cert.DFfnInIdeal.main_arg1))
    rw [(hag c).1, (hag c).2]
    exact (reference _ _ hX hY).eq (final m c (by rw [Cert.DFfnInIdeal.Gen.V_main_arg0]; exact hX) (by rw [Cert.DFfnInIdeal.Gen.V_main_arg1]; exact hY))

end Cert.Stick.DFfnIn

end
-- ==== Proof.MmDWide.lean ====
/- The weight gradient of a projection from two bf16 arrays: what the kernel's run leaves, and that the reference leaves the same. -/
module

public import proofs.«01_k».proof.Defs
public import proofs.«01_k».proof.Proof.Ex
public import proofs.«01_k».proof.Proof.Gen.DWide.Frame
public import proofs.«01_k».proof.Proof.Gen.DWideIdeal.Value
public import proofs.«01_k».proof.Proof.Gen.DWideRefIdeal.Run
public import Idealize.ShloMosaic.Lib.Pipeline.ValueKit
public import Idealize.ShloMosaic.Adequacy
public import Idealize.ShloMosaic.Init

@[expose] public section

set_option maxRecDepth 16384
set_option maxHeartbeats 4000000

noncomputable section

namespace Cert.Stick.DWide

open Idealize.ShloMosaic Idealize.ShloMosaic.TcCoe Idealize.ShloMosaic.Updates
open Idealize.ShloMosaic.LaneScatter (Blk Vec1)
open Idealize.ShloMosaic.Pipeline (Dat)
open scoped BigOperators

/-- The result, as a function of the two arguments. -/
def G (X Y : ℕ → ℕ → ℕ → EReal) (i j k : ℕ) : EReal := ∑ l ∈ Finset.range 4096, X i l j * Y i l k

section
open Cert.DWideIdeal Cert.DWideIdeal.Gen

/-! ### Which block each point stages -/

theorem at0 : ∀ t : Fin cfg0.N, win0_0.index t 0 = 0 ∧ win0_0.index t 1 = 0 ∧ win0_0.index t 2 = t.val / 2 :=
  (by decide +kernel : ∀ t : Fin grid0.N, win0_0.index t 0 = 0 ∧ win0_0.index t 1 = 0 ∧ win0_0.index t 2 = t.val / 2)
theorem at1 : ∀ t : Fin cfg0.N, win0_1.index t 0 = 0 ∧ win0_1.index t 1 = 0 ∧ win0_1.index t 2 = t.val % 2 :=
  (by decide +kernel : ∀ t : Fin grid0.N, win0_1.index t 0 = 0 ∧ win0_1.index t 1 = 0 ∧ win0_1.index t 2 = t.val % 2)
theorem at2 : ∀ t : Fin cfg0.N, win0_2.index t 0 = 0 ∧ win0_2.index t 1 = t.val / 2 ∧ win0_2.index t 2 = t.val % 2 :=
  (by decide +kernel : ∀ t : Fin grid0.N, win0_2.index t 0 = 0 ∧ win0_2.index t 1 = t.val / 2 ∧ win0_2.index t 2 = t.val % 2)

variable (m : (ℓ : Loc nD τ sig) → Buf (Elt Ideal) ℓ) (c : Dev nD) {X Y : ℕ → ℕ → ℕ → EReal}

theorem e_iblk0 (t : Fin cfg0.N) (hX : E3 (a := 1) (b := 4096) (c := 2048) (V m c main_arg0) X) :
    E3 (a := 1) (b := 4096) (c := 1024) (iblk m c 0 t) fun i j k => X (0 * 1 + 1 * i) (0 * 4096 + 1 * j) (t.val / 2 * 1024 + 1 * k) := fun ι => by
  unfold iblk
  rw [View.read_apply]
  refine (hX _).trans ?_
  show X (win0_0.index t 0 * 1 + 1 * (ι 0).val) (win0_0.index t 1 * 4096 + 1 * (ι 1).val) (win0_0.index t 2 * 1024 + 1 * (ι 2).val) = _
  rw [(at0 t).1, (at0 t).2.1, (at0 t).2.2]

theorem e_iblk1 (t : Fin cfg0.N) (hY : E3 (a := 1) (b := 4096) (c := 2048) (V m c main_arg1) Y) :
    E3 (a := 1) (b := 4096) (c := 1024) (iblk m c 1 t) fun i j k => Y (0 * 1 + 1 * i) (0 * 4096 + 1 * j) (t.val % 2 * 1024 + 1 * k) := fun ι => by
  unfold iblk
  rw [View.read_apply]
  refine (hY _).trans ?_
  show Y (win0_1.index t 0 * 1 + 1 * (ι 0).val) (win0_1.index t 1 * 4096 + 1 * (ι 1).val) (win0_1.index t 2 * 1024 + 1 * (ι 2).val) = _
  rw [(at1 t).1, (at1 t).2.1, (at1 t).2.2]

/-- The body stores the product of the two blocks. -/
theorem out_eq (x : Vec Ideal S1x4096x1024 .bf16) (y : Vec Ideal S1x4096x1024 .bf16) : out0_2 (F := Ideal) x y = k0_pay1 (F := Ideal) x y := by
  frame_out

theorem e_pay {x : Vec Ideal S1x4096x1024 .bf16} {y : Vec Ideal S1x4096x1024 .bf16} {f g}
    (hx : E3 (a := 1) (b := 4096) (c := 1024) x f) (hy : E3 (a := 1) (b := 4096) (c := 1024) y g) :
    E3 (a := 1) (b := 1024) (c := 1024) (k0_pay1 (F := Ideal) x y) fun _ j k => ∑ l ∈ Finset.range 4096, f 0 l j * g 0 l k :=
  e_lead (φ := .bf16) (e_truncf (ψ := .bf16) (e_mmTN (φ := .bf16) (ψ := .bf16) none (e_drop (φ := .bf16) hx _) (e_drop (φ := .bf16) hy _) zero_bits) bitsLt_bf16_f32) _

/-- The kernel's output array after the run. -/
theorem final (hX : E3 (a := 1) (b := 4096) (c := 2048) (V m c main_arg0) X) (hY : E3 (a := 1) (b := 4096) (c := 2048) (V m c main_arg1) Y) :
    E3 (a := 1) (b := 2048) (c := 2048) ((dats m 0 c).arrAt 2 cfg0.N) (G X Y) := by
  have h : (dats m 0 c).arrAt 2 cfg0.N = fun ι : S1x2048x2048.Idx => G X Y (ι 0).val (ι 1).val (ι 2).val := by
    refine (dats m 0 c).arrAt_eq_of_covers 2 _ (by decide +kernel) fun t hf y => ?_
    show (dats m 0 c).after 2 t y = G X Y (win0_2.index t 0 * 1 + 1 * (y 0).val) (win0_2.index t 1 * 1024 + 1 * (y 1).val) (win0_2.index t 2 * 1024 + 1 * (y 2).val)
    rw [after0_2, (at2 t).1, (at2 t).2.1, (at2 t).2.2, out_eq]
    refine (e_pay (e_iblk0 m c t hX) (e_iblk1 m c t hY) y).trans ?_
    have ht : t.val < 4 := t.isLt
    have y0 : (y 0).val < 1 := (y 0).isLt
    have y1 : (y 1).val < 1024 := (y 1).isLt
    have y2 : (y 2).val < 1024 := (y 2).isLt
    unfold G
    refine Finset.sum_congr rfl fun l hl => ?_
    rw [Finset.mem_range] at hl
    congr 2 <;> omega
  rw [h]
  exact fun ι => rfl
end

section
open Cert.DWideRefIdeal Cert.DWideRefIdeal.Gen

/-- The reference's result is the same function of the arguments. -/
theorem reference (x : FVec Ideal S1x4096x2048 .bf16) (y : FVec Ideal S1x4096x2048 .bf16) {X Y : ℕ → ℕ → ℕ → EReal}
    (hX : E3 (a := 1) (b := 4096) (c := 2048) x X) (hY : E3 (a := 1) (b := 4096) (c := 2048) y Y) :
    E3 (a := 1) (b := 2048) (c := 2048)
      (truncf .bf16 (Host.dotGeneral (F := Ideal) dot_S1x4096x2048_S1x4096x2048_S1x2048x2048_1_1_2_2_0_0 none (extf .f32 x bitsLt_bf16_f32) (extf .f32 y bitsLt_bf16_f32)) bitsLt_bf16_f32) (G X Y) :=
  e_truncf3 (φ := .f32) (e_dot _ 4096 rfl rfl (fun l i j k => X i l j) (fun l i j k => Y i l k) (fun j k => hX _) (fun j k => hY _)) _
end

/-- The kernel's program runs and leaves its arguments as they were. -/
theorem frame_kernel : Cert.quiescent_DWide (hDWide := Cert.DWide.Gen.facts) := fun m ρ _ => Cert.DWide.Gen.frame m ρ

/-- So does its idealization. -/
theorem frame_ideal : Cert.quiescent_DWideIdeal (hDWideIdeal := Cert.DWideIdeal.Gen.facts) := fun m ρ _ => Cert.DWideIdeal.Gen.frame m ρ

/-- So does the reference. -/
theorem frame_reference : Cert.quiescent_DWideRefIdeal (hDWideRefIdeal := Cert.DWideRefIdeal.Gen.facts) := fun m ρ _ =>
  (θ_run Cert.DWideRefIdeal.defs _ _).mono (fun r h => ⟨fun c => (h c).2, Idealize.ShloMosaic.sem_eq_zero_of_no_sems (by decide) r.2⟩)
    (Cert.DWideRefIdeal.Value.run (F := Ideal) m ρ)

/-- From the same arguments the kernel and the reference leave the same result. -/
theorem algebraic : Cert.algebraic_DWideIdeal_DWideRefIdeal (hDWideIdeal := Cert.DWideIdeal.Gen.facts) (hDWideRefIdeal := Cert.DWideRefIdeal.Gen.facts) := fun m g m' g' _ hag => by
  refine ⟨fun c => (Cert.DWideIdeal.Gen.dats m 0 c).arrAt 2 Cert.DWideIdeal.cfg0.N, ?_, ?_⟩
  · exact Cert.DWideIdeal.Value.run_blocks m g
  · refine (θ_run Cert.DWideRefIdeal.defs _ _).mono (fun r h c => ⟨(h c).1.trans ?_, (h c).2⟩) (Cert.DWideRefIdeal.Value.run (F := Ideal) m' g')
    obtain ⟨X, hX⟩ := exists_E3 (a := 1) (b := 4096) (c := 2048) (m ((c.tc : Thread Cert.DWideIdeal.nD Cert.DWideIdeal.τ).loc Cert.DWideIdeal.main_arg0))
    obtain ⟨Y, hY⟩ := exists_E3 (a := 1) (b := 4096) (c := 2048) (m ((c.tc : Thread Cert.DWideIdeal.nD Cert.DWideIdeal.τ).loc Cert.DWideIdeal.main_arg1))
    rw [(hag c).1, (hag c).2]
    exact (reference _ _ hX hY).eq (final m c (by rw [Cert.DWideIdeal.Gen.V_main_arg0]; exact hX) (by rw [Cert.DWideIdeal.Gen.V_main_arg1]; exact hY))

end Cert.Stick.DWide

end
-- ==== Proof.MmDWKv.lean ====
/- The weight gradient of the keys' and of the values' projection: what the kernel's run leaves, and that the reference leaves the same. -/
module

public import proofs.«01_k».proof.Defs
public import proofs.«01_k».proof.Proof.Ex
public import proofs.«01_k».proof.Proof.Gen.DWKv.Frame
public import proofs.«01_k».proof.Proof.Gen.DWKvIdeal.Value
public import proofs.«01_k».proof.Proof.Gen.DWKvRefIdeal.Run
public import Idealize.ShloMosaic.Lib.Pipeline.ValueKit
public import Idealize.ShloMosaic.Adequacy
public import Idealize.ShloMosaic.Init

@[expose] public section

set_option maxRecDepth 16384
set_option maxHeartbeats 4000000

noncomputable section

namespace Cert.Stick.DWKv

open Idealize.ShloMosaic Idealize.ShloMosaic.TcCoe Idealize.ShloMosaic.Updates
open Idealize.ShloMosaic.LaneScatter (Blk Vec1)
open Idealize.ShloMosaic.Pipeline (Dat)
open scoped BigOperators

/-- The result, as a function of the two arguments. -/
def G (X Y : ℕ → ℕ → ℕ → EReal) (i j k : ℕ) : EReal := ∑ l ∈ Finset.range 4096, X i l j * Y i l k

section
open Cert.DWKvIdeal Cert.DWKvIdeal.Gen

/-! ### Which block each point stages -/

theorem at0 : ∀ t : Fin cfg0.N, win0_0.index t 0 = 0 ∧ win0_0.index t 1 = 0 ∧ win0_0.index t 2 = t.val / 2 :=
  (by decide +kernel : ∀ t : Fin grid0.N, win0_0.index t 0 = 0 ∧ win0_0.index t 1 = 0 ∧ win0_0.index t 2 = t.val / 2)
theorem at1 : ∀ t : Fin cfg0.N, win0_1.index t 0 = 0 ∧ win0_1.index t 1 = 0 ∧ win0_1.index t 2 = t.val % 2 :=
  (by decide +kernel : ∀ t : Fin grid0.N, win0_1.index t 0 = 0 ∧ win0_1.index t 1 = 0 ∧ win0_1.index t 2 = t.val % 2)
theorem at2 : ∀ t : Fin cfg0.N, win0_2.index t 0 = 0 ∧ win0_2.index t 1 = t.val / 2 ∧ win0_2.index t 2 = t.val % 2 :=
  (by decide +kernel : ∀ t : Fin grid0.N, win0_2.index t 0 = 0 ∧ win0_2.index t 1 = t.val / 2 ∧ win0_2.index t 2 = t.val % 2)

variable (m : (ℓ : Loc nD τ sig) → Buf (Elt Ideal) ℓ) (c : Dev nD) {X Y : ℕ → ℕ → ℕ → EReal}

theorem e_iblk0 (t : Fin cfg0.N) (hX : E3 (a := 1) (b := 4096) (c := 2048) (V m c main_arg0) X) :
    E3 (a := 1) (b := 4096) (c := 512) (iblk m c 0 t) fun i j k => X (0 * 1 + 1 * i) (0 * 4096 + 1 * j) (t.val / 2 * 512 + 1 * k) := fun ι => by
  unfold iblk
  rw [View.read_apply]
  refine (hX _).trans ?_
  show X (win0_0.index t 0 * 1 + 1 * (ι 0).val) (win0_0.index t 1 * 4096 + 1 * (ι 1).val) (win0_0.index t 2 * 512 + 1 * (ι 2).val) = _
  rw [(at0 t).1, (at0 t).2.1, (at0 t).2.2]

theorem e_iblk1 (t : Fin cfg0.N) (hY : E3 (a := 1) (b := 4096) (c := 2048) (V m c main_arg1) Y) :
    E3 (a := 1) (b := 4096) (c := 1024) (iblk m c 1 t) fun i j k => Y (0 * 1 + 1 * i) (0 * 4096 + 1 * j) (t.val % 2 * 1024 + 1 * k) := fun ι => by
  unfold iblk
  rw [View.read_apply]
  refine (hY _).trans ?_
  show Y (win0_1.index t 0 * 1 + 1 * (ι 0).val) (win0_1.index t 1 * 4096 + 1 * (ι 1).val) (win0_1.index t 2 * 1024 + 1 * (ι 2).val) = _
  rw [(at1 t).1, (at1 t).2.1, (at1 t).2.2]

/-- The body stores the product of the two blocks. -/
theorem out_eq (x : Vec Ideal S1x4096x512 .bf16) (y : Vec Ideal S1x4096x1024 .f32) : out0_2 (F := Ideal) x y = k0_pay1 (F := Ideal) x y := by
  frame_out

theorem e_pay {x : Vec Ideal S1x4096x512 .bf16} {y : Vec Ideal S1x4096x1024 .f32} {f g}
    (hx : E3 (a := 1) (b := 4096) (c := 512) x f) (hy : E3 (a := 1) (b := 4096) (c := 1024) y g) :
    E3 (a := 1) (b := 512) (c := 1024) (k0_pay1 (F := Ideal) x y) fun _ j k => ∑ l ∈ Finset.range 4096, f 0 l j * g 0 l k :=
  e_lead (φ := .bf16) (e_truncf (ψ := .bf16) (e_mmTN (φ := .bf16) (ψ := .bf16) none (e_drop (φ := .bf16) hx _) (e_truncf (ψ := .bf16) (e_drop (φ := .f32) hy _) bitsLt_bf16_f32) zero_bits) bitsLt_bf16_f32) _

/-- The kernel's output array after the run. -/
theorem final (hX : E3 (a := 1) (b := 4096) (c := 2048) (V m c main_arg0) X) (hY : E3 (a := 1) (b := 4096) (c := 2048) (V m c main_arg1) Y) :
    E3 (a := 1) (b := 2048) (c := 2048) ((dats m 0 c).arrAt 2 cfg0.N) (G X Y) := by
  have h : (dats m 0 c).arrAt 2 cfg0.N = fun ι : S1x2048x2048.Idx => G X Y (ι 0).val (ι 1).val (ι 2).val := by
    refine (dats m 0 c).arrAt_eq_of_covers 2 _ (by decide +kernel) fun t hf y => ?_
    show (dats m 0 c).after 2 t y = G X Y (win0_2.index t 0 * 1 + 1 * (y 0).val) (win0_2.index t 1 * 512 + 1 * (y 1).val) (win0_2.index t 2 * 1024 + 1 * (y 2).val)
    rw [after0_2, (at2 t).1, (at2 t).2.1, (at2 t).2.2, out_eq]
    refine (e_pay (e_iblk0 m c t hX) (e_iblk1 m c t hY) y).trans ?_
    have ht : t.val < 8 := t.isLt
    have y0 : (y 0).val < 1 := (y 0).isLt
    have y1 : (y 1).val < 512 := (y 1).isLt
    have y2 : (y 2).val < 1024 := (y 2).isLt
    unfold G
    refine Finset.sum_congr rfl fun l hl => ?_
    rw [Finset.mem_range] at hl
    congr 2 <;> omega
  rw [h]
  exact fun ι => rfl
end

section
open Cert.DWKvRefIdeal Cert.DWKvRefIdeal.Gen

/-- The reference's result is the same function of the arguments. -/
theorem reference (x : FVec Ideal S1x4096x2048 .bf16) (y : FVec Ideal S1x4096x2048 .f32) {X Y : ℕ → ℕ → ℕ → EReal}
    (hX : E3 (a := 1) (b := 4096) (c := 2048) x X) (hY : E3 (a := 1) (b := 4096) (c := 2048) y Y) :
    E3 (a := 1) (b := 2048) (c := 2048)
      (truncf .bf16 (Host.dotGeneral (F := Ideal) dot_S1x4096x2048_S1x4096x2048_S1x2048x2048_1_1_2_2_0_0 none (extf .f32 x bitsLt_bf16_f32) y) bitsLt_bf16_f32) (G X Y) :=
  e_truncf3 (φ := .f32) (e_dot _ 4096 rfl rfl (fun l i j k => X i l j) (fun l i j k => Y i l k) (fun j k => hX _) (fun j k => hY _)) _
end

/-- The kernel's program runs and leaves its arguments as they were. -/
theorem frame_kernel : Cert.quiescent_DWKv (hDWKv := Cert.DWKv.Gen.facts) := fun m ρ _ => Cert.DWKv.Gen.frame m ρ

/-- So does its idealization. -/
theorem frame_ideal : Cert.quiescent_DWKvIdeal (hDWKvIdeal := Cert.DWKvIdeal.Gen.facts) := fun m ρ _ => Cert.DWKvIdeal.Gen.frame m ρ

/-- So does the reference. -/
theorem frame_reference : Cert.quiescent_DWKvRefIdeal (hDWKvRefIdeal := Cert.DWKvRefIdeal.Gen.facts) := fun m ρ _ =>
  (θ_run Cert.DWKvRefIdeal.defs _ _).mono (fun r h => ⟨fun c => (h c).2, Idealize.ShloMosaic.sem_eq_zero_of_no_sems (by decide) r.2⟩)
    (Cert.DWKvRefIdeal.Value.run (F := Ideal) m ρ)

/-- From the same arguments the kernel and the reference leave the same result. -/
theorem algebraic : Cert.algebraic_DWKvIdeal_DWKvRefIdeal (hDWKvIdeal := Cert.DWKvIdeal.Gen.facts) (hDWKvRefIdeal := Cert.DWKvRefIdeal.Gen.facts) := fun m g m' g' _ hag => by
  refine ⟨fun c => (Cert.DWKvIdeal.Gen.dats m 0 c).arrAt 2 Cert.DWKvIdeal.cfg0.N, ?_, ?_⟩
  · exact Cert.DWKvIdeal.Value.run_blocks m g
  · refine (θ_run Cert.DWKvRefIdeal.defs _ _).mono (fun r h c => ⟨(h c).1.trans ?_, (h c).2⟩) (Cert.DWKvRefIdeal.Value.run (F := Ideal) m' g')
    obtain ⟨X, hX⟩ := exists_E3 (a := 1) (b := 4096) (c := 2048) (m ((c.tc : Thread Cert.DWKvIdeal.nD Cert.DWKvIdeal.τ).loc Cert.DWKvIdeal.main_arg0))
    obtain ⟨Y, hY⟩ := exists_E3 (a := 1) (b := 4096) (c := 2048) (m ((c.tc : Thread Cert.DWKvIdeal.nD Cert.DWKvIdeal.τ).loc Cert.DWKvIdeal.main_arg1))
    rw [(hag c).1, (hag c).2]
    exact (reference _ _ hX hY).eq (final m c (by rw [Cert.DWKvIdeal.Gen.V_main_arg0]; exact hX) (by rw [Cert.DWKvIdeal.Gen.V_main_arg1]; exact hY))

end Cert.Stick.DWKv

end
-- ==== Proof.MmDAttnOut.lean ====
/- The gradient of the attention's output: what the kernel's run leaves, and that the reference leaves the same. -/
module

public import proofs.«01_k».proof.Defs
public import proofs.«01_k».proof.Proof.Ex
public import proofs.«01_k».proof.Proof.Gen.DAttnOut.Frame
public import proofs.«01_k».proof.Proof.Gen.DAttnOutIdeal.Value
public import proofs.«01_k».proof.Proof.Gen.DAttnOutRefIdeal.Run
public import Idealize.ShloMosaic.Lib.Pipeline.ValueKit
public import Idealize.ShloMosaic.Adequacy
public import Idealize.ShloMosaic.Init

@[expose] public section

set_option maxRecDepth 16384
set_option maxHeartbeats 4000000

noncomputable section

namespace Cert.Stick.DAttnOut

open Idealize.ShloMosaic Idealize.ShloMosaic.TcCoe Idealize.ShloMosaic.Updates
open Idealize.ShloMosaic.LaneScatter (Blk Vec1)
open Idealize.ShloMosaic.Pipeline (Dat)
open scoped BigOperators

/-- The result, as a function of the two arguments. -/
def G (X Y : ℕ → ℕ → ℕ → EReal) (i j k : ℕ) : EReal := ∑ l ∈ Finset.range 2048, X i j l * Y i k l

section
open Cert.DAttnOutIdeal Cert.DAttnOutIdeal.Gen

/-! ### Which block each point stages -/

theorem at0 : ∀ t : Fin cfg0.N, win0_0.index t 0 = 0 ∧ win0_0.index t 1 = t.val / 2 ∧ win0_0.index t 2 = 0 :=
  (by decide +kernel : ∀ t : Fin grid0.N, win0_0.index t 0 = 0 ∧ win0_0.index t 1 = t.val / 2 ∧ win0_0.index t 2 = 0)
theorem at1 : ∀ t : Fin cfg0.N, win0_1.index t 0 = 0 ∧ win0_1.index t 1 = t.val % 2 ∧ win0_1.index t 2 = 0 :=
  (by decide +kernel : ∀ t : Fin grid0.N, win0_1.index t 0 = 0 ∧ win0_1.index t 1 = t.val % 2 ∧ win0_1.index t 2 = 0)
theorem at2 : ∀ t : Fin cfg0.N, win0_2.index t 0 = 0 ∧ win0_2.index t 1 = t.val / 2 ∧ win0_2.index t 2 = t.val % 2 :=
  (by decide +kernel : ∀ t : Fin grid0.N, win0_2.index t 0 = 0 ∧ win0_2.index t 1 = t.val / 2 ∧ win0_2.index t 2 = t.val % 2)

variable (m : (ℓ : Loc nD τ sig) → Buf (Elt Ideal) ℓ) (c : Dev nD) {X Y : ℕ → ℕ → ℕ → EReal}

theorem e_iblk0 (t : Fin cfg0.N) (hX : E3 (a := 1) (b := 4096) (c := 2048) (V m c main_arg0) X) :
    E3 (a := 1) (b := 1024) (c := 2048) (iblk m c 0 t) fun i j k => X (0 * 1 + 1 * i) (t.val / 2 * 1024 + 1 * j) (0 * 2048 + 1 * k) := fun ι => by
  unfold iblk
  rw [View.read_apply]
  refine (hX _).trans ?_
  show X (win0_0.index t 0 * 1 + 1 * (ι 0).val) (win0_0.index t 1 * 1024 + 1 * (ι 1).val) (win0_0.index t 2 * 2048 + 1 * (ι 2).val) = _
  rw [(at0 t).1, (at0 t).2.1, (at0 t).2.2]

theorem e_iblk1 (t : Fin cfg0.N) (hY : E3 (a := 1) (b := 2048) (c := 2048) (V m c main_arg1) Y) :
    E3 (a := 1) (b := 1024) (c := 2048) (iblk m c 1 t) fun i j k => Y (0 * 1 + 1 * i) (t.val % 2 * 1024 + 1 * j) (0 * 2048 + 1 * k) := fun ι => by
  unfold iblk
  rw [View.read_apply]
  refine (hY _).trans ?_
  show Y (win0_1.index t 0 * 1 + 1 * (ι 0).val) (win0_1.index t 1 * 1024 + 1 * (ι 1).val) (win0_1.index t 2 * 2048 + 1 * (ι 2).val) = _
  rw [(at1 t).1, (at1 t).2.1, (at1 t).2.2]

/-- The body stores the product of the two blocks. -/
theorem out_eq (x : Vec Ideal S1x1024x2048 .bf16) (y : Vec Ideal S1x1024x2048 .bf16) : out0_2 (F := Ideal) x y = k0_pay1 (F := Ideal) x y := by
  frame_out

theorem e_pay {x : Vec Ideal S1x1024x2048 .bf16} {y : Vec Ideal S1x1024x2048 .bf16} {f g}
    (hx : E3 (a := 1) (b := 1024) (c := 2048) x f) (hy : E3 (a := 1) (b := 1024) (c := 2048) y g) :
    E3 (a := 1) (b := 1024) (c := 1024) (k0_pay1 (F := Ideal) x y) fun _ j k => ∑ l ∈ Finset.range 2048, f 0 j l * g 0 k l :=
  e_lead (φ := .bf16) (e_truncf (ψ := .bf16) (e_mmT (φ := .bf16) (ψ := .bf16) none (e_drop (φ := .bf16) hx _) (e_drop (φ := .bf16) hy _) zero_bits) bitsLt_bf16_f32) _

/-- The kernel's output array after the run. -/
theorem final (hX : E3 (a := 1) (b := 4096) (c := 2048) (V m c main_arg0) X) (hY : E3 (a := 1) (b := 2048) (c := 2048) (V m c main_arg1) Y) :
    E3 (a := 1) (b := 4096) (c := 2048) ((dats m 0 c).arrAt 2 cfg0.N) (G X Y) := by
  have h : (dats m 0 c).arrAt 2 cfg0.N = fun ι : S1x4096x2048.Idx => G X Y (ι 0).val (ι 1).val (ι 2).val := by
    refine (dats m 0 c).arrAt_eq_of_covers 2 _ (by decide +kernel) fun t hf y => ?_
    show (dats m 0 c).after 2 t y = G X Y (win0_2.index t 0 * 1 + 1 * (y 0).val) (win0_2.index t 1 * 1024 + 1 * (y 1).val) (win0_2.index t 2 * 1024 + 1 * (y 2).val)
    rw [after0_2, (at2 t).1, (at2 t).2.1, (at2 t).2.2, out_eq]
    refine (e_pay (e_iblk0 m c t hX) (e_iblk1 m c t hY) y).trans ?_
    have ht : t.val < 8 := t.isLt
    have y0 : (y 0).val < 1 := (y 0).isLt
    have y1 : (y 1).val < 1024 := (y 1).isLt
    have y2 : (y 2).val < 1024 := (y 2).isLt
    unfold G
    refine Finset.sum_congr rfl fun l hl => ?_
    rw [Finset.mem_range] at hl
    congr 2 <;> omega
  rw [h]
  exact fun ι => rfl
end

section
open Cert.DAttnOutRefIdeal Cert.DAttnOutRefIdeal.Gen

/-- The reference's result is the same function of the arguments. -/
theorem reference (x : FVec Ideal S1x4096x2048 .bf16) (y : FVec Ideal S1x2048x2048 .bf16) {X Y : ℕ → ℕ → ℕ → EReal}
    (hX : E3 (a := 1) (b := 4096) (c := 2048) x X) (hY : E3 (a := 1) (b := 2048) (c := 2048) y Y) :
    E3 (a := 1) (b := 4096) (c := 2048)
      (truncf .bf16 (Host.dotGeneral (F := Ideal) dot_S1x4096x2048_S1x2048x2048_S1x4096x2048_2_2_1_1_0_0 none (extf .f32 x bitsLt_bf16_f32) (extf .f32 y bitsLt_bf16_f32)) bitsLt_bf16_f32) (G X Y) :=
  e_truncf3 (φ := .f32) (e_dot _ 2048 rfl rfl (fun l i j k => X i j l) (fun l i j k => Y i k l) (fun j k => hX _) (fun j k => hY _)) _
end

/-- The kernel's program runs and leaves its arguments as they were. -/
theorem frame_kernel : Cert.quiescent_DAttnOut (hDAttnOut := Cert.DAttnOut.Gen.facts) := fun m ρ _ => Cert.DAttnOut.Gen.frame m ρ

/-- So does its idealization. -/
theorem frame_ideal : Cert.quiescent_DAttnOutIdeal (hDAttnOutIdeal := Cert.DAttnOutIdeal.Gen.facts) := fun m ρ _ => Cert.DAttnOutIdeal.Gen.frame m ρ

/-- So does the reference. -/
theorem frame_reference : Cert.quiescent_DAttnOutRefIdeal (hDAttnOutRefIdeal := Cert.DAttnOutRefIdeal.Gen.facts) := fun m ρ _ =>
  (θ_run Cert.DAttnOutRefIdeal.defs _ _).mono (fun r h => ⟨fun c => (h c).2, Idealize.ShloMosaic.sem_eq_zero_of_no_sems (by decide) r.2⟩)
    (Cert.DAttnOutRefIdeal.Value.run (F := Ideal) m ρ)

/-- From the same arguments the kernel and the reference leave the same result. -/
theorem algebraic : Cert.algebraic_DAttnOutIdeal_DAttnOutRefIdeal (hDAttnOutIdeal := Cert.DAttnOutIdeal.Gen.facts) (hDAttnOutRefIdeal := Cert.DAttnOutRefIdeal.Gen.facts) := fun m g m' g' _ hag => by
  refine ⟨fun c => (Cert.DAttnOutIdeal.Gen.dats m 0 c).arrAt 2 Cert.DAttnOutIdeal.cfg0.N, ?_, ?_⟩
  · exact Cert.DAttnOutIdeal.Value.run_blocks m g
  · refine (θ_run Cert.DAttnOutRefIdeal.defs _ _).mono (fun r h c => ⟨(h c).1.trans ?_, (h c).2⟩) (Cert.DAttnOutRefIdeal.Value.run (F := Ideal) m' g')
    obtain ⟨X, hX⟩ := exists_E3 (a := 1) (b := 4096) (c := 2048) (m ((c.tc : Thread Cert.DAttnOutIdeal.nD Cert.DAttnOutIdeal.τ).loc Cert.DAttnOutIdeal.main_arg0))
    obtain ⟨Y, hY⟩ := exists_E3 (a := 1) (b := 2048) (c := 2048) (m ((c.tc : Thread Cert.DAttnOutIdeal.nD Cert.DAttnOutIdeal.τ).loc Cert.DAttnOutIdeal.main_arg1))
    rw [(hag c).1, (hag c).2]
    exact (reference _ _ hX hY).eq (final m c (by rw [Cert.DAttnOutIdeal.Gen.V_main_arg0]; exact hX) (by rw [Cert.DAttnOutIdeal.Gen.V_main_arg1]; exact hY))

end Cert.Stick.DAttnOut

end
-- ==== Proof.MmDQIn.lean ====
/- The gradient of the queries' input: what the kernel's run leaves, and that the reference leaves the same. -/
module

public import proofs.«01_k».proof.Defs
public import proofs.«01_k».proof.Proof.Ex
public import proofs.«01_k».proof.Proof.Gen.DQIn.Frame
public import proofs.«01_k».proof.Proof.Gen.DQInIdeal.Value
public import proofs.«01_k».proof.Proof.Gen.DQInRefIdeal.Run
public import Idealize.ShloMosaic.Lib.Pipeline.ValueKit
public import Idealize.ShloMosaic.Adequacy
public import Idealize.ShloMosaic.Init

@[expose] public section

set_option maxRecDepth 16384
set_option maxHeartbeats 4000000

noncomputable section

namespace Cert.Stick.DQIn

open Idealize.ShloMosaic Idealize.ShloMosaic.TcCoe Idealize.ShloMosaic.Updates
open Idealize.ShloMosaic.LaneScatter (Blk Vec1)
open Idealize.ShloMosaic.Pipeline (Dat)
open scoped BigOperators

/-- The result, as a function of the two arguments. -/
def G (X Y : ℕ → ℕ → ℕ → EReal) (i j k : ℕ) : EReal := ∑ l ∈ Finset.range 2048, X i j l * Y i k l

section
open Cert.DQInIdeal Cert.DQInIdeal.Gen

/-! ### Which block each point stages -/

theorem at0 : ∀ t : Fin cfg0.N, win0_0.index t 0 = 0 ∧ win0_0.index t 1 = t.val / 2 ∧ win0_0.index t 2 = 0 :=
  (by decide +kernel : ∀ t : Fin grid0.N, win0_0.index t 0 = 0 ∧ win0_0.index t 1 = t.val / 2 ∧ win0_0.index t 2 = 0)
theorem at1 : ∀ t : Fin cfg0.N, win0_1.index t 0 = 0 ∧ win0_1.index t 1 = t.val % 2 ∧ win0_1.index t 2 = 0 :=
  (by decide +kernel : ∀ t : Fin grid0.N, win0_1.index t 0 = 0 ∧ win0_1.index t 1 = t.val % 2 ∧ win0_1.index t 2 = 0)
theorem at2 : ∀ t : Fin cfg0.N, win0_2.index t 0 = 0 ∧ win0_2.index t 1 = t.val / 2 ∧ win0_2.index t 2 = t.val % 2 :=
  (by decide +kernel : ∀ t : Fin grid0.N, win0_2.index t 0 = 0 ∧ win0_2.index t 1 = t.val / 2 ∧ win0_2.index t 2 = t.val % 2)

variable (m : (ℓ : Loc nD τ sig) → Buf (Elt Ideal) ℓ) (c : Dev nD) {X Y : ℕ → ℕ → ℕ → EReal}

theorem e_iblk0 (t : Fin cfg0.N) (hX : E3 (a := 1) (b := 4096) (c := 2048) (V m c main_arg0) X) :
    E3 (a := 1) (b := 1024) (c := 2048) (iblk m c 0 t) fun i j k => X (0 * 1 + 1 * i) (t.val / 2 * 1024 + 1 * j) (0 * 2048 + 1 * k) := fun ι => by
  unfold iblk
  rw [View.read_apply]
  refine (hX _).trans ?_
  show X (win0_0.index t 0 * 1 + 1 * (ι 0).val) (win0_0.index t 1 * 1024 + 1 * (ι 1).val) (win0_0.index t 2 * 2048 + 1 * (ι 2).val) = _
  rw [(at0 t).1, (at0 t).2.1, (at0 t).2.2]

theorem e_iblk1 (t : Fin cfg0.N) (hY : E3 (a := 1) (b := 2048) (c := 2048) (V m c main_arg1) Y) :
    E3 (a := 1) (b := 1024) (c := 2048) (iblk m c 1 t) fun i j k => Y (0 * 1 + 1 * i) (t.val % 2 * 1024 + 1 * j) (0 * 2048 + 1 * k) := fun ι => by
  unfold iblk
  rw [View.read_apply]
  refine (hY _).trans ?_
  show Y (win0_1.index t 0 * 1 + 1 * (ι 0).val) (win0_1.index t 1 * 1024 + 1 * (ι 1).val) (win0_1.index t 2 * 2048 + 1 * (ι 2).val) = _
  rw [(at1 t).1, (at1 t).2.1, (at1 t).2.2]

/-- The body stores the product of the two blocks. -/
theorem out_eq (x : Vec Ideal S1x1024x2048 .bf16) (y : Vec Ideal S1x1024x2048 .bf16) : out0_2 (F := Ideal) x y = k0_pay1 (F := Ideal) x y := by
  frame_out

theorem e_pay {x : Vec Ideal S1x1024x2048 .bf16} {y : Vec Ideal S1x1024x2048 .bf16} {f g}
    (hx : E3 (a := 1) (b := 1024) (c := 2048) x f) (hy : E3 (a := 1) (b := 1024) (c := 2048) y g) :
    E3 (a := 1) (b := 1024) (c := 1024) (k0_pay1 (F := Ideal) x y) fun _ j k => ∑ l ∈ Finset.range 2048, f 0 j l * g 0 k l :=
  e_lead (φ := .f32) (e_mmT (φ := .bf16) (ψ := .bf16) none (e_drop (φ := .bf16) hx _) (e_drop (φ := .bf16) hy _) zero_bits) _

/-- The kernel's output array after the run. -/
theorem final (hX : E3 (a := 1) (b := 4096) (c := 2048) (V m c main_arg0) X) (hY : E3 (a := 1) (b := 2048) (c := 2048) (V m c main_arg1) Y) :
    E3 (a := 1) (b := 4096) (c := 2048) ((dats m 0 c).arrAt 2 cfg0.N) (G X Y) := by
  have h : (dats m 0 c).arrAt 2 cfg0.N = fun ι : S1x4096x2048.Idx => G X Y (ι 0).val (ι 1).val (ι 2).val := by
    refine (dats m 0 c).arrAt_eq_of_covers 2 _ (by decide +kernel) fun t hf y => ?_
    show (dats m 0 c).after 2 t y = G X Y (win0_2.index t 0 * 1 + 1 * (y 0).val) (win0_2.index t 1 * 1024 + 1 * (y 1).val) (win0_2.index t 2 * 1024 + 1 * (y 2).val)
    rw [after0_2, (at2 t).1, (at2 t).2.1, (at2 t).2.2, out_eq]
    refine (e_pay (e_iblk0 m c t hX) (e_iblk1 m c t hY) y).trans ?_
    have ht : t.val < 8 := t.isLt
    have y0 : (y 0).val < 1 := (y 0).isLt
    have y1 : (y 1).val < 1024 := (y 1).isLt
    have y2 : (y 2).val < 1024 := (y 2).isLt
    unfold G
    refine Finset.sum_congr rfl fun l hl => ?_
    rw [Finset.mem_range] at hl
    congr 2 <;> omega
  rw [h]
  exact fun ι => rfl
end

section
open Cert.DQInRefIdeal Cert.DQInRefIdeal.Gen

/-- The reference's result is the same function of the arguments. -/
theorem reference (x : FVec Ideal S1x4096x2048 .bf16) (y : FVec Ideal S1x2048x2048 .bf16) {X Y : ℕ → ℕ → ℕ → EReal}
    (hX : E3 (a := 1) (b := 4096) (c := 2048) x X) (hY : E3 (a := 1) (b := 2048) (c := 2048) y Y) :
    E3 (a := 1) (b := 4096) (c := 2048)
      (Host.dotGeneral (F := Ideal) dot_S1x4096x2048_S1x2048x2048_S1x4096x2048_2_2_1_1_0_0 none (extf .f32 x bitsLt_bf16_f32) (extf .f32 y bitsLt_bf16_f32)) (G X Y) :=
  e_dot _ 2048 rfl rfl (fun l i j k => X i j l) (fun l i j k => Y i k l) (fun j k => hX _) (fun j k => hY _)
end

/-- The kernel's program runs and leaves its arguments as they were. -/
theorem frame_kernel : Cert.quiescent_DQIn (hDQIn := Cert.DQIn.Gen.facts) := fun m ρ _ => Cert.DQIn.Gen.frame m ρ

/-- So does its idealization. -/
theorem frame_ideal : Cert.quiescent_DQInIdeal (hDQInIdeal := Cert.DQInIdeal.Gen.facts) := fun m ρ _ => Cert.DQInIdeal.Gen.frame m ρ

/-- So does the reference. -/
theorem frame_reference : Cert.quiescent_DQInRefIdeal (hDQInRefIdeal := Cert.DQInRefIdeal.Gen.facts) := fun m ρ _ =>
  (θ_run Cert.DQInRefIdeal.defs _ _).mono (fun r h => ⟨fun c => (h c).2, Idealize.ShloMosaic.sem_eq_zero_of_no_sems (by decide) r.2⟩)
    (Cert.DQInRefIdeal.Value.run (F := Ideal) m ρ)

/-- From the same arguments the kernel and the reference leave the same result. -/
theorem algebraic : Cert.algebraic_DQInIdeal_DQInRefIdeal (hDQInIdeal := Cert.DQInIdeal.Gen.facts) (hDQInRefIdeal := Cert.DQInRefIdeal.Gen.facts) := fun m g m' g' _ hag => by
  refine ⟨fun c => (Cert.DQInIdeal.Gen.dats m 0 c).arrAt 2 Cert.DQInIdeal.cfg0.N, ?_, ?_⟩
  · exact Cert.DQInIdeal.Value.run_blocks m g
  · refine (θ_run Cert.DQInRefIdeal.defs _ _).mono (fun r h c => ⟨(h c).1.trans ?_, (h c).2⟩) (Cert.DQInRefIdeal.Value.run (F := Ideal) m' g')
    obtain ⟨X, hX⟩ := exists_E3 (a := 1) (b := 4096) (c := 2048) (m ((c.tc : Thread Cert.DQInIdeal.nD Cert.DQInIdeal.τ).loc Cert.DQInIdeal.main_arg0))
    obtain ⟨Y, hY⟩ := exists_E3 (a := 1) (b := 2048) (c := 2048) (m ((c.tc : Thread Cert.DQInIdeal.nD Cert.DQInIdeal.τ).loc Cert.DQInIdeal.main_arg1))
    rw [(hag c).1, (hag c).2]
    exact (reference _ _ hX hY).eq (final m c (by rw [Cert.DQInIdeal.Gen.V_main_arg0]; exact hX) (by rw [Cert.DQInIdeal.Gen.V_main_arg1]; exact hY))

end Cert.Stick.DQIn

end
-- ==== Proof.MmDKIn.lean ====
/- The gradient of the keys' and of the values' input: what the kernel's run leaves, and that the reference leaves the same. -/
module

public import proofs.«01_k».proof.Defs
public import proofs.«01_k».proof.Proof.Ex
public import proofs.«01_k».proof.Proof.Gen.DKIn.Frame
public import proofs.«01_k».proof.Proof.Gen.DKInIdeal.Value
public import proofs.«01_k».proof.Proof.Gen.DKInRefIdeal.Run
public import Idealize.ShloMosaic.Lib.Pipeline.ValueKit
public import Idealize.ShloMosaic.Adequacy
public import Idealize.ShloMosaic.Init

@[expose] public section

set_option maxRecDepth 16384
set_option maxHeartbeats 4000000

noncomputable section

namespace Cert.Stick.DKIn

open Idealize.ShloMosaic Idealize.ShloMosaic.TcCoe Idealize.ShloMosaic.Updates
open Idealize.ShloMosaic.LaneScatter (Blk Vec1)
open Idealize.ShloMosaic.Pipeline (Dat)
open scoped BigOperators

/-- The result, as a function of the two arguments. -/
def G (X Y : ℕ → ℕ → ℕ → EReal) (i j k : ℕ) : EReal := ∑ l ∈ Finset.range 2048, X i j l * Y i k l

section
open Cert.DKInIdeal Cert.DKInIdeal.Gen

/-! ### Which block each point stages -/

theorem at0 : ∀ t : Fin cfg0.N, win0_0.index t 0 = 0 ∧ win0_0.index t 1 = t.val / 2 ∧ win0_0.index t 2 = 0 :=
  (by decide +kernel : ∀ t : Fin grid0.N, win0_0.index t 0 = 0 ∧ win0_0.index t 1 = t.val / 2 ∧ win0_0.index t 2 = 0)
theorem at1 : ∀ t : Fin cfg0.N, win0_1.index t 0 = 0 ∧ win0_1.index t 1 = t.val % 2 ∧ win0_1.index t 2 = 0 :=
  (by decide +kernel : ∀ t : Fin grid0.N, win0_1.index t 0 = 0 ∧ win0_1.index t 1 = t.val % 2 ∧ win0_1.index t 2 = 0)
theorem at2 : ∀ t : Fin cfg0.N, win0_2.index t 0 = 0 ∧ win0_2.index t 1 = t.val / 2 ∧ win0_2.index t 2 = t.val % 2 :=
  (by decide +kernel : ∀ t : Fin grid0.N, win0_2.index t 0 = 0 ∧ win0_2.index t 1 = t.val / 2 ∧ win0_2.index t 2 = t.val % 2)

variable (m : (ℓ : Loc nD τ sig) → Buf (Elt Ideal) ℓ) (c : Dev nD) {X Y : ℕ → ℕ → ℕ → EReal}

theorem e_iblk0 (t : Fin cfg0.N) (hX : E3 (a := 1) (b := 4096) (c := 2048) (V m c main_arg0) X) :
    E3 (a := 1) (b := 1024) (c := 2048) (iblk m c 0 t) fun i j k => X (0 * 1 + 1 * i) (t.val / 2 * 1024 + 1 * j) (0 * 2048 + 1 * k) := fun ι => by
  unfold iblk
  rw [View.read_apply]
  refine (hX _).trans ?_
  show X (win0_0.index t 0 * 1 + 1 * (ι 0).val) (win0_0.index t 1 * 1024 + 1 * (ι 1).val) (win0_0.index t 2 * 2048 + 1 * (ι 2).val) = _
  rw [(at0 t).1, (at0 t).2.1, (at0 t).2.2]

theorem e_iblk1 (t : Fin cfg0.N) (hY : E3 (a := 1) (b := 2048) (c := 2048) (V m c main_arg1) Y) :
    E3 (a := 1) (b := 1024) (c := 2048) (iblk m c 1 t) fun i j k => Y (0 * 1 + 1 * i) (t.val % 2 * 1024 + 1 * j) (0 * 2048 + 1 * k) := fun ι => by
  unfold iblk
  rw [View.read_apply]
  refine (hY _).trans ?_
  show Y (win0_1.index t 0 * 1 + 1 * (ι 0).val) (win0_1.index t 1 * 1024 + 1 * (ι 1).val) (win0_1.index t 2 * 2048 + 1 * (ι 2).val) = _
  rw [(at1 t).1, (at1 t).2.1, (at1 t).2.2]

/-- The body stores the product of the two blocks. -/
theorem out_eq (x : Vec Ideal S1x1024x2048 .f32) (y : Vec Ideal S1x1024x2048 .bf16) : out0_2 (F := Ideal) x y = k0_pay1 (F := Ideal) x y := by
  frame_out

theorem e_pay {x : Vec Ideal S1x1024x2048 .f32} {y : Vec Ideal S1x1024x2048 .bf16} {f g}
    (hx : E3 (a := 1) (b := 1024) (c := 2048) x f) (hy : E3 (a := 1) (b := 1024) (c := 2048) y g) :
    E3 (a := 1) (b := 1024) (c := 1024) (k0_pay1 (F := Ideal) x y) fun _ j k => ∑ l ∈ Finset.range 2048, f 0 j l * g 0 k l :=
  e_lead (φ := .f32) (e_mmT (φ := .bf16) (ψ := .bf16) none (e_truncf (ψ := .bf16) (e_drop (φ := .f32) hx _) bitsLt_bf16_f32) (e_drop (φ := .bf16) hy _) zero_bits) _

/-- The kernel's output array after the run. -/
theorem final (hX : E3 (a := 1) (b := 4096) (c := 2048) (V m c main_arg0) X) (hY : E3 (a := 1) (b := 2048) (c := 2048) (V m c main_arg1) Y) :
    E3 (a := 1) (b := 4096) (c := 2048) ((dats m 0 c).arrAt 2 cfg0.N) (G X Y) := by
  have h : (dats m 0 c).arrAt 2 cfg0.N = fun ι : S1x4096x2048.Idx => G X Y (ι 0).val (ι 1).val (ι 2).val := by
    refine (dats m 0 c).arrAt_eq_of_covers 2 _ (by decide +kernel) fun t hf y => ?_
    show (dats m 0 c).after 2 t y = G X Y (win0_2.index t 0 * 1 + 1 * (y 0).val) (win0_2.index t 1 * 1024 + 1 * (y 1).val) (win0_2.index t 2 * 1024 + 1 * (y 2).val)
    rw [after0_2, (at2 t).1, (at2 t).2.1, (at2 t).2.2, out_eq]
    refine (e_pay (e_iblk0 m c t hX) (e_iblk1 m c t hY) y).trans ?_
    have ht : t.val < 8 := t.isLt
    have y0 : (y 0).val < 1 := (y 0).isLt
    have y1 : (y 1).val < 1024 := (y 1).isLt
    have y2 : (y 2).val < 1024 := (y 2).isLt
    unfold G
    refine Finset.sum_congr rfl fun l hl => ?_
    rw [Finset.mem_range] at hl
    congr 2 <;> omega
  rw [h]
  exact fun ι => rfl
end

section
open Cert.DKInRefIdeal Cert.DKInRefIdeal.Gen

/-- The reference's result is the same function of the arguments. -/
theorem reference (x : FVec Ideal S1x4096x2048 .f32) (y : FVec Ideal S1x2048x2048 .bf16) {X Y : ℕ → ℕ → ℕ → EReal}
    (hX : E3 (a := 1) (b := 4096) (c := 2048) x X) (hY : E3 (a := 1) (b := 2048) (c := 2048) y Y) :
    E3 (a := 1) (b := 4096) (c := 2048)
      (Host.dotGeneral (F := Ideal) dot_S1x4096x2048_S1x2048x2048_S1x4096x2048_2_2_1_1_0_0 none x (extf .f32 y bitsLt_bf16_f32)) (G X Y) :=
  e_dot _ 2048 rfl rfl (fun l i j k => X i j l) (fun l i j k => Y i k l) (fun j k => hX _) (fun j k => hY _)
end

/-- The kernel's program runs and leaves its arguments as they were. -/
theorem frame_kernel : Cert.quiescent_DKIn (hDKIn := Cert.DKIn.Gen.facts) := fun m ρ _ => Cert.DKIn.Gen.frame m ρ

/-- So does its idealization. -/
theorem frame_ideal : Cert.quiescent_DKInIdeal (hDKInIdeal := Cert.DKInIdeal.Gen.facts) := fun m ρ _ => Cert.DKInIdeal.Gen.frame m ρ

/-- So does the reference. -/
theorem frame_reference : Cert.quiescent_DKInRefIdeal (hDKInRefIdeal := Cert.DKInRefIdeal.Gen.facts) := fun m ρ _ =>
  (θ_run Cert.DKInRefIdeal.defs _ _).mono (fun r h => ⟨fun c => (h c).2, Idealize.ShloMosaic.sem_eq_zero_of_no_sems (by decide) r.2⟩)
    (Cert.DKInRefIdeal.Value.run (F := Ideal) m ρ)

/-- From the same arguments the kernel and the reference leave the same result. -/
theorem algebraic : Cert.algebraic_DKInIdeal_DKInRefIdeal (hDKInIdeal := Cert.DKInIdeal.Gen.facts) (hDKInRefIdeal := Cert.DKInRefIdeal.Gen.facts) := fun m g m' g' _ hag => by
  refine ⟨fun c => (Cert.DKInIdeal.Gen.dats m 0 c).arrAt 2 Cert.DKInIdeal.cfg0.N, ?_, ?_⟩
  · exact Cert.DKInIdeal.Value.run_blocks m g
  · refine (θ_run Cert.DKInRefIdeal.defs _ _).mono (fun r h c => ⟨(h c).1.trans ?_, (h c).2⟩) (Cert.DKInRefIdeal.Value.run (F := Ideal) m' g')
    obtain ⟨X, hX⟩ := exists_E3 (a := 1) (b := 4096) (c := 2048) (m ((c.tc : Thread Cert.DKInIdeal.nD Cert.DKInIdeal.τ).loc Cert.DKInIdeal.main_arg0))
    obtain ⟨Y, hY⟩ := exists_E3 (a := 1) (b := 2048) (c := 2048) (m ((c.tc : Thread Cert.DKInIdeal.nD Cert.DKInIdeal.τ).loc Cert.DKInIdeal.main_arg1))
    rw [(hag c).1, (hag c).2]
    exact (reference _ _ hX hY).eq (final m c (by rw [Cert.DKInIdeal.Gen.V_main_arg0]; exact hX) (by rw [Cert.DKInIdeal.Gen.V_main_arg1]; exact hY))

end Cert.Stick.DKIn

end
-- ==== Proof.MmDWIn.lean ====
/- The weight gradient of the gated mixer's input projection: what the kernel's run leaves, and that the reference leaves the same. -/
module

public import proofs.«01_k».proof.Defs
public import proofs.«01_k».proof.Proof.Ex
public import proofs.«01_k».proof.Proof.Gen.DWIn.Frame
public import proofs.«01_k».proof.Proof.Gen.DWInIdeal.Value
public import proofs.«01_k».proof.Proof.Gen.DWInRefIdeal.Run
public import Idealize.ShloMosaic.Lib.Pipeline.ValueKit
public import Idealize.ShloMosaic.Adequacy
public import Idealize.ShloMosaic.Init

@[expose] public section

set_option maxRecDepth 16384
set_option maxHeartbeats 4000000

noncomputable section

namespace Cert.Stick.DWIn

open Idealize.ShloMosaic Idealize.ShloMosaic.TcCoe Idealize.ShloMosaic.Updates
open Idealize.ShloMosaic.LaneScatter (Blk Vec1)
open Idealize.ShloMosaic.Pipeline (Dat)
open scoped BigOperators

/-- The result, as a function of the two arguments. -/
def G (X Y : ℕ → ℕ → ℕ → EReal) (i j k : ℕ) : EReal := ∑ l ∈ Finset.range 4096, X 0 l j * Y i l k

section
open Cert.DWInIdeal Cert.DWInIdeal.Gen

/-! ### Which block each point stages -/

theorem at0 : ∀ t : Fin cfg0.N, win0_0.index t 0 = 0 ∧ win0_0.index t 1 = 0 ∧ win0_0.index t 2 = t.val / 4 :=
  (by decide +kernel : ∀ t : Fin grid0.N, win0_0.index t 0 = 0 ∧ win0_0.index t 1 = 0 ∧ win0_0.index t 2 = t.val / 4)
theorem at1 : ∀ t : Fin cfg0.N, win0_1.index t 0 = t.val % 4 ∧ win0_1.index t 1 = 0 ∧ win0_1.index t 2 = 0 :=
  (by decide +kernel : ∀ t : Fin grid0.N, win0_1.index t 0 = t.val % 4 ∧ win0_1.index t 1 = 0 ∧ win0_1.index t 2 = 0)
theorem at2 : ∀ t : Fin cfg0.N, win0_2.index t 0 = t.val % 4 ∧ win0_2.index t 1 = t.val / 4 ∧ win0_2.index t 2 = 0 :=
  (by decide +kernel : ∀ t : Fin grid0.N, win0_2.index t 0 = t.val % 4 ∧ win0_2.index t 1 = t.val / 4 ∧ win0_2.index t 2 = 0)

variable (m : (ℓ : Loc nD τ sig) → Buf (Elt Ideal) ℓ) (c : Dev nD) {X Y : ℕ → ℕ → ℕ → EReal}

theorem e_iblk0 (t : Fin cfg0.N) (hX : E3 (a := 1) (b := 4096) (c := 2048) (V m c main_arg0) X) :
    E3 (a := 1) (b := 4096) (c := 1024) (iblk m c 0 t) fun i j k => X (0 * 1 + 1 * i) (0 * 4096 + 1 * j) (t.val / 4 * 1024 + 1 * k) := fun ι => by
  unfold iblk
  rw [View.read_apply]
  refine (hX _).trans ?_
  show X (win0_0.index t 0 * 1 + 1 * (ι 0).val) (win0_0.index t 1 * 4096 + 1 * (ι 1).val) (win0_0.index t 2 * 1024 + 1 * (ι 2).val) = _
  rw [(at0 t).1, (at0 t).2.1, (at0 t).2.2]

theorem e_iblk1 (t : Fin cfg0.N) (hY : E3 (a := 4) (b := 4096) (c := 1024) (V m c main_arg1) Y) :
    E3 (a := 1) (b := 4096) (c := 1024) (iblk m c 1 t) fun i j k => Y (t.val % 4 * 1 + 1 * i) (0 * 4096 + 1 * j) (0 * 1024 + 1 * k) := fun ι => by
  unfold iblk
  rw [View.read_apply]
  refine (hY _).trans ?_
  show Y (win0_1.index t 0 * 1 + 1 * (ι 0).val) (win0_1.index t 1 * 4096 + 1 * (ι 1).val) (win0_1.index t 2 * 1024 + 1 * (ι 2).val) = _
  rw [(at1 t).1, (at1 t).2.1, (at1 t).2.2]

/-- The body stores the product of the two blocks. -/
theorem out_eq (x : Vec Ideal S1x4096x1024 .bf16) (y : Vec Ideal S1x4096x1024 .bf16) : out0_2 (F := Ideal) x y = k0_pay1 (F := Ideal) x y := by
  frame_out

theorem e_pay {x : Vec Ideal S1x4096x1024 .bf16} {y : Vec Ideal S1x4096x1024 .bf16} {f g}
    (hx : E3 (a := 1) (b := 4096) (c := 1024) x f) (hy : E3 (a := 1) (b := 4096) (c := 1024) y g) :
    E3 (a := 1) (b := 1024) (c := 1024) (k0_pay1 (F := Ideal) x y) fun _ j k => ∑ l ∈ Finset.range 4096, f 0 l j * g 0 l k :=
  e_lead (φ := .bf16) (e_truncf (ψ := .bf16) (e_mmTN (φ := .bf16) (ψ := .bf16) none (e_drop (φ := .bf16) hx _) (e_drop (φ := .bf16) hy _) zero_bits) bitsLt_bf16_f32) _

/-- The kernel's output array after the run. -/
theorem final (hX : E3 (a := 1) (b := 4096) (c := 2048) (V m c main_arg0) X) (hY : E3 (a := 4) (b := 4096) (c := 1024) (V m c main_arg1) Y) :
    E3 (a := 4) (b := 2048) (c := 1024) ((dats m 0 c).arrAt 2 cfg0.N) (G X Y) := by
  have h : (dats m 0 c).arrAt 2 cfg0.N = fun ι : S4x2048x1024.Idx => G X Y (ι 0).val (ι 1).val (ι 2).val := by
    refine (dats m 0 c).arrAt_eq_of_covers 2 _ (by decide +kernel) fun t hf y => ?_
    show (dats m 0 c).after 2 t y = G X Y (win0_2.index t 0 * 1 + 1 * (y 0).val) (win0_2.index t 1 * 1024 + 1 * (y 1).val) (win0_2.index t 2 * 1024 + 1 * (y 2).val)
    rw [after0_2, (at2 t).1, (at2 t).2.1, (at2 t).2.2, out_eq]
    refine (e_pay (e_iblk0 m c t hX) (e_iblk1 m c t hY) y).trans ?_
    have ht : t.val < 8 := t.isLt
    have y0 : (y 0).val < 1 := (y 0).isLt
    have y1 : (y 1).val < 1024 := (y 1).isLt
    have y2 : (y 2).val < 1024 := (y 2).isLt
    unfold G
    refine Finset.sum_congr rfl fun l hl => ?_
    rw [Finset.mem_range] at hl
    congr 2 <;> omega
  rw [h]
  exact fun ι => rfl
end

section
open Cert.DWInRefIdeal Cert.DWInRefIdeal.Gen

/-- The reference's result is the same function of the arguments. -/
theorem reference (x : FVec Ideal S1x4096x2048 .bf16) (y : FVec Ideal S4x4096x1024 .bf16) {X Y : ℕ → ℕ → ℕ → EReal}
    (hX : E3 (a := 1) (b := 4096) (c := 2048) x X) (hY : E3 (a := 4) (b := 4096) (c := 1024) y Y) :
    E3 (a := 4) (b := 2048) (c := 1024)
      (truncf .bf16 (transpose S4x2048x1024 [0, 2, 1] (Host.dotGeneral (F := Ideal) dot_S4x4096x1024_S4096x2048_S4x1024x2048_1_0_02_1_n_n none (extf .f32 y bitsLt_bf16_f32) (extf .f32 (shapeCast _ x shapeCasts_S1x4096x2048_S4096x2048) bitsLt_bf16_f32)) transposes_S4x1024x2048_S4x2048x1024_0_2_1) bitsLt_bf16_f32) (G X Y) :=
  e_truncf3 (φ := .f32) ((e_transpose021 (φ := .f32)
    (e_dot _ 4096 rfl rfl (fun l i j k => Y i l j) (fun l i j k => X 0 l k) (fun j k => hY _) (fun j k => e_drop (φ := .bf16) hX _ _)) _).congr
    fun i j k _ _ _ => Finset.sum_congr rfl fun l _ => mul_comm _ _) _
end

/-- The kernel's program runs and leaves its arguments as they were. -/
theorem frame_kernel : Cert.quiescent_DWIn (hDWIn := Cert.DWIn.Gen.facts) := fun m ρ _ => Cert.DWIn.Gen.frame m ρ

/-- So does its idealization. -/
theorem frame_ideal : Cert.quiescent_DWInIdeal (hDWInIdeal := Cert.DWInIdeal.Gen.facts) := fun m ρ _ => Cert.DWInIdeal.Gen.frame m ρ

/-- So does the reference. -/
theorem frame_reference : Cert.quiescent_DWInRefIdeal (hDWInRefIdeal := Cert.DWInRefIdeal.Gen.facts) := fun m ρ _ =>
  (θ_run Cert.DWInRefIdeal.defs _ _).mono (fun r h => ⟨fun c => (h c).2, Idealize.ShloMosaic.sem_eq_zero_of_no_sems (by decide) r.2⟩)
    (Cert.DWInRefIdeal.Value.run (F := Ideal) m ρ)

/-- From the same arguments the kernel and the reference leave the same result. -/
theorem algebraic : Cert.algebraic_DWInIdeal_DWInRefIdeal (hDWInIdeal := Cert.DWInIdeal.Gen.facts) (hDWInRefIdeal := Cert.DWInRefIdeal.Gen.facts) := fun m g m' g' _ hag => by
  refine ⟨fun c => (Cert.DWInIdeal.Gen.dats m 0 c).arrAt 2 Cert.DWInIdeal.cfg0.N, ?_, ?_⟩
  · exact Cert.DWInIdeal.Value.run_blocks m g
  · refine (θ_run Cert.DWInRefIdeal.defs _ _).mono (fun r h c => ⟨(h c).1.trans ?_, (h c).2⟩) (Cert.DWInRefIdeal.Value.run (F := Ideal) m' g')
    obtain ⟨X, hX⟩ := exists_E3 (a := 1) (b := 4096) (c := 2048) (m ((c.tc : Thread Cert.DWInIdeal.nD Cert.DWInIdeal.τ).loc Cert.DWInIdeal.main_arg0))
    obtain ⟨Y, hY⟩ := exists_E3 (a := 4) (b := 4096) (c := 1024) (m ((c.tc : Thread Cert.DWInIdeal.nD Cert.DWInIdeal.τ).loc Cert.DWInIdeal.main_arg1))
    rw [(hag c).1, (hag c).2]
    exact (reference _ _ hX hY).eq (final m c (by rw [Cert.DWInIdeal.Gen.V_main_arg0]; exact hX) (by rw [Cert.DWInIdeal.Gen.V_main_arg1]; exact hY))

end Cert.Stick.DWIn

end
-- ==== Proof.MmDGmlpIn.lean ====
/- The gradient of what the gated mixer's input projection takes: what the kernel's run leaves, and that the reference leaves the same. -/
module

public import proofs.«01_k».proof.Defs
public import proofs.«01_k».proof.Proof.Ex2
public import proofs.«01_k».proof.Proof.Gen.DGmlpIn.Frame
public import proofs.«01_k».proof.Proof.Gen.DGmlpInIdeal.Value
public import proofs.«01_k».proof.Proof.Gen.DGmlpInRefIdeal.Run
public import Idealize.ShloMosaic.Lib.Pipeline.ValueKit
public import Idealize.ShloMosaic.Adequacy
public import Idealize.ShloMosaic.Init

@[expose] public section

set_option maxRecDepth 16384
set_option maxHeartbeats 4000000

noncomputable section

namespace Cert.Stick.DGmlpIn

open Idealize.ShloMosaic Idealize.ShloMosaic.TcCoe Idealize.ShloMosaic.Updates
open Idealize.ShloMosaic.LaneScatter (Blk Vec1)
open Idealize.ShloMosaic.Pipeline (Dat)
open scoped BigOperators

/-- The result, as a function of the two arguments. -/
def G (X Y : ℕ → ℕ → ℕ → EReal) (i j k : ℕ) : EReal := ∑ s ∈ Finset.range 4, ∑ l ∈ Finset.range 1024, X s j l * Y s k l

section
open Cert.DGmlpInIdeal Cert.DGmlpInIdeal.Gen

/-! ### Which block each point stages -/

theorem at0 : ∀ t : Fin cfg0.N, win0_0.index t 0 = t.val % 4 ∧ win0_0.index t 1 = t.val / 8 ∧ win0_0.index t 2 = 0 :=
  (by decide +kernel : ∀ t : Fin grid0.N, win0_0.index t 0 = t.val % 4 ∧ win0_0.index t 1 = t.val / 8 ∧ win0_0.index t 2 = 0)
theorem at1 : ∀ t : Fin cfg0.N, win0_1.index t 0 = t.val % 4 ∧ win0_1.index t 1 = t.val / 4 % 2 ∧ win0_1.index t 2 = 0 :=
  (by decide +kernel : ∀ t : Fin grid0.N, win0_1.index t 0 = t.val % 4 ∧ win0_1.index t 1 = t.val / 4 % 2 ∧ win0_1.index t 2 = 0)
theorem at2 : ∀ t : Fin cfg0.N, win0_2.index t 0 = 0 ∧ win0_2.index t 1 = t.val / 8 ∧ win0_2.index t 2 = t.val / 4 % 2 :=
  (by decide +kernel : ∀ t : Fin grid0.N, win0_2.index t 0 = 0 ∧ win0_2.index t 1 = t.val / 8 ∧ win0_2.index t 2 = t.val / 4 % 2)

variable (m : (ℓ : Loc nD τ sig) → Buf (Elt Ideal) ℓ) (c : Dev nD) {X Y : ℕ → ℕ → ℕ → EReal}

theorem e_iblk0 (t : Fin cfg0.N) (hX : E3 (a := 4) (b := 4096) (c := 1024) (V m c main_arg0) X) :
    E3 (a := 1) (b := 1024) (c := 1024) (iblk m c 0 t) fun i j k => X (t.val % 4 * 1 + 1 * i) (t.val / 8 * 1024 + 1 * j) (0 * 1024 + 1 * k) := fun ι => by
  unfold iblk
  rw [View.read_apply]
  refine (hX _).trans ?_
  show X (win0_0.index t 0 * 1 + 1 * (ι 0).val) (win0_0.index t 1 * 1024 + 1 * (ι 1).val) (win0_0.index t 2 * 1024 + 1 * (ι 2).val) = _
  rw [(at0 t).1, (at0 t).2.1, (at0 t).2.2]

theorem e_iblk1 (t : Fin cfg0.N) (hY : E3 (a := 4) (b := 2048) (c := 1024) (V m c main_arg1) Y) :
    E3 (a := 1) (b := 1024) (c := 1024) (iblk m c 1 t) fun i j k => Y (t.val % 4 * 1 + 1 * i) (t.val / 4 % 2 * 1024 + 1 * j) (0 * 1024 + 1 * k) := fun ι => by
  unfold iblk
  rw [View.read_apply]
  refine (hY _).trans ?_
  show Y (win0_1.index t 0 * 1 + 1 * (ι 0).val) (win0_1.index t 1 * 1024 + 1 * (ι 1).val) (win0_1.index t 2 * 1024 + 1 * (ι 2).val) = _
  rw [(at1 t).1, (at1 t).2.1, (at1 t).2.2]

/-! ### What the body leaves at one point -/

/-- The product of the two blocks that point `n` stages. -/
def T (X Y : ℕ → ℕ → ℕ → EReal) (n j k : ℕ) : EReal := ∑ l ∈ Finset.range 1024, X (n % 4 * 1 + 1 * 0) (n / 8 * 1024 + 1 * j) (0 * 1024 + 1 * l) * Y (n % 4 * 1 + 1 * 0) (n / 4 % 2 * 1024 + 1 * k) (0 * 1024 + 1 * l)

theorem e_pay1 {x : Vec Ideal S1x1024x1024 .bf16} {y : Vec Ideal S1x1024x1024 .bf16} {f g}
    (hx : E3 (a := 1) (b := 1024) (c := 1024) x f) (hy : E3 (a := 1) (b := 1024) (c := 1024) y g) :
    E2 (a := 1024) (b := 1024) (k0_pay1 (F := Ideal) x y) fun j k => ∑ l ∈ Finset.range 1024, f 0 j l * g 0 k l :=
  e_self (φ := .f32) (e_mmT (φ := .bf16) (ψ := .bf16) none (e_drop (φ := .bf16) hx _) (e_drop (φ := .bf16) hy _) zero_bits) _

theorem e_pay2 {w : Vec Ideal S1024x1024 .f32} {s} (hs : E2 (a := 1024) (b := 1024) w s) {x : Vec Ideal S1x1024x1024 .bf16} {y : Vec Ideal S1x1024x1024 .bf16} {f g}
    (hx : E3 (a := 1) (b := 1024) (c := 1024) x f) (hy : E3 (a := 1) (b := 1024) (c := 1024) y g) :
    E2 (a := 1024) (b := 1024) (k0_pay2 (F := Ideal) w x y) fun j k => s j k + ∑ l ∈ Finset.range 1024, f 0 j l * g 0 k l :=
  e_self (φ := .f32) (e_addf hs (e_mmT (φ := .bf16) (ψ := .bf16) none (e_drop (φ := .bf16) hx _) (e_drop (φ := .bf16) hy _) zero_bits)) _

theorem e_pay3 {w : Vec Ideal S1024x1024 .f32} {s} (hs : E2 (a := 1024) (b := 1024) w s) {x : Vec Ideal S1x1024x1024 .bf16} {y : Vec Ideal S1x1024x1024 .bf16} {f g}
    (hx : E3 (a := 1) (b := 1024) (c := 1024) x f) (hy : E3 (a := 1) (b := 1024) (c := 1024) y g) :
    E3 (a := 1) (b := 1024) (c := 1024) (k0_pay3 (F := Ideal) w x y) fun _ j k => s j k + ∑ l ∈ Finset.range 1024, f 0 j l * g 0 k l :=
  e_lead (φ := .f32) (e_addf hs (e_mmT (φ := .bf16) (ψ := .bf16) none (e_drop (φ := .bf16) hx _) (e_drop (φ := .bf16) hy _) zero_bits)) _

/-- The accumulator between two points of a run of 4: the sum of the products so far. -/
theorem acc (hX : E3 (a := 4) (b := 4096) (c := 1024) (V m c main_arg0) X) (hY : E3 (a := 4) (b := 2048) (c := 1024) (V m c main_arg1) Y) (n : ℕ) : ∀ (h : n < cfg0.N) (hn : n % 4 ≠ 3),
    E2 (a := 1024) (b := 1024) (outsAt0 m c n h).2 fun j k => ∑ s ∈ Finset.range (n % 4 + 1), T X Y (4 * (n / 4) + s) j k := by
  have first : ∀ (n : ℕ) (h : n < cfg0.N) (h0 : n % 4 = 0),
      E2 (a := 1024) (b := 1024) (outsAt0 m c n h).2 fun j k => ∑ s ∈ Finset.range (n % 4 + 1), T X Y (4 * (n / 4) + s) j k := fun n h h0 => by
    rw [show outsAt0 m c n h = _ from outsAt0_A m c ⟨n, h⟩ h0 (by show ¬(1 ≤ n % 4 ∧ n % 4 ≤ 2); omega) (by show ¬n % 4 = 3; omega)]
    frame_out
    refine (e_pay1 (e_iblk0 m c ⟨n, h⟩ hX) (e_iblk1 m c ⟨n, h⟩ hY)).congr fun j k _ _ => ?_
    show T X Y n j k = _
    rw [h0, Finset.sum_range_one, show 4 * (n / 4) + 0 = n by omega]
  induction n with
  | zero => exact fun h _ => first 0 h rfl
  | succ n ih =>
    intro h hn
    by_cases h0 : (n + 1) % 4 = 0
    · exact first (n + 1) h h0
    · rw [show outsAt0 m c (n + 1) h = _ from outsAt0_B m c ⟨n + 1, h⟩ h0 (by show 1 ≤ (n + 1) % 4 ∧ (n + 1) % 4 ≤ 2; omega) (by show ¬(n + 1) % 4 = 3; omega)]
      frame_out
      rw [(Memref.isWhole_whole _).read_unread]
      refine (e_pay2 (ih (by omega) (by omega)) (e_iblk0 m c ⟨n + 1, h⟩ hX) (e_iblk1 m c ⟨n + 1, h⟩ hY)).congr fun j k _ _ => ?_
      show _ + T X Y (n + 1) j k = _
      rw [Finset.sum_range_succ _ ((n + 1) % 4), show (n + 1) % 4 = n % 4 + 1 by omega, show (n + 1) / 4 = n / 4 by omega,
        show 4 * (n / 4) + (n % 4 + 1) = n + 1 by omega]

/-- The block stored at the last point of a run of 4: the sum of the run's products. -/
theorem last (hX : E3 (a := 4) (b := 4096) (c := 1024) (V m c main_arg0) X) (hY : E3 (a := 4) (b := 2048) (c := 1024) (V m c main_arg1) Y) (t : Fin cfg0.N) (ht : t.val % 4 = 3) :
    E3 (a := 1) (b := 1024) (c := 1024) (outsAt0 m c t.val t.isLt).1 fun _ j k => ∑ s ∈ Finset.range 4, T X Y (4 * (t.val / 4) + s) j k := by
  rw [outsAt0_C m c t (by omega) (by omega) ht]
  frame_out
  rw [(Memref.isWhole_whole _).read_unread]
  refine (e_pay3 (acc m c hX hY (t.val - 1) _ (by omega)) (e_iblk0 m c t hX) (e_iblk1 m c t hY)).congr fun i j k _ _ _ => ?_
  show _ + T X Y t.val j k = _
  rw [Finset.sum_range_succ _ 3, show (t.val - 1) % 4 + 1 = 3 by omega, show (t.val - 1) / 4 = t.val / 4 by omega,
    show 4 * (t.val / 4) + 3 = t.val by omega]

/-- The kernel's output array after the run. -/
theorem final (hX : E3 (a := 4) (b := 4096) (c := 1024) (V m c main_arg0) X) (hY : E3 (a := 4) (b := 2048) (c := 1024) (V m c main_arg1) Y) :
    E3 (a := 1) (b := 4096) (c := 2048) ((dats m 0 c).arrAt 2 cfg0.N) (G X Y) := by
  have h : (dats m 0 c).arrAt 2 cfg0.N = fun ι : S1x4096x2048.Idx => G X Y (ι 0).val (ι 1).val (ι 2).val := by
    refine (dats m 0 c).arrAt_eq_of_covers 2 _ (by decide +kernel) fun t hf y => ?_
    show (dats m 0 c).after 2 t y = G X Y (win0_2.index t 0 * 1 + 1 * (y 0).val) (win0_2.index t 1 * 1024 + 1 * (y 1).val) (win0_2.index t 2 * 1024 + 1 * (y 2).val)
    rw [after0_2, (at2 t).1, (at2 t).2.1, (at2 t).2.2]
    refine (last m c hX hY t ((flush0_2 t).mp hf) y).trans ?_
    have ht : t.val < 32 := t.isLt
    have y0 : (y 0).val < 1 := (y 0).isLt
    have y1 : (y 1).val < 1024 := (y 1).isLt
    have y2 : (y 2).val < 1024 := (y 2).isLt
    unfold G T
    refine Finset.sum_congr rfl fun s hs => Finset.sum_congr rfl fun l hl => ?_
    rw [Finset.mem_range] at hs hl
    congr 2 <;> omega
  rw [h]
  exact fun ι => rfl
end

section
open Cert.DGmlpInRefIdeal Cert.DGmlpInRefIdeal.Gen

/-- The reference's result is the same function of the arguments. -/
theorem reference (x : FVec Ideal S4x4096x1024 .bf16) (y : FVec Ideal S4x2048x1024 .bf16) {X Y : ℕ → ℕ → ℕ → EReal}
    (hX : E3 (a := 4) (b := 4096) (c := 1024) x X) (hY : E3 (a := 4) (b := 2048) (c := 1024) y Y) :
    E3 (a := 1) (b := 4096) (c := 2048)
      (broadcastInDim S1x4096x2048 ![1, 2] bcast_S4096x2048_S1x4096x2048_1_2 (Host.dotGeneral (F := Ideal) dot_S4x4096x1024_S4x2048x1024_S4096x2048_20_20_1_1_n_n none (extf .f32 x bitsLt_bf16_f32) (extf .f32 y bitsLt_bf16_f32))) (G X Y) :=
  e_bcast (φ := .f32) (e_dot2 _ 1024 4 rfl rfl rfl (fun s l j k => X s j l) (fun s l j k => Y s k l) (fun j k => hX _) (fun j k => hY _)) (by decide) (by decide) _
end

/-- The kernel's program runs and leaves its arguments as they were. -/
theorem frame_kernel : Cert.quiescent_DGmlpIn (hDGmlpIn := Cert.DGmlpIn.Gen.facts) := fun m ρ _ => Cert.DGmlpIn.Gen.frame m ρ

/-- So does its idealization. -/
theorem frame_ideal : Cert.quiescent_DGmlpInIdeal (hDGmlpInIdeal := Cert.DGmlpInIdeal.Gen.facts) := fun m ρ _ => Cert.DGmlpInIdeal.Gen.frame m ρ

/-- So does the reference. -/
theorem frame_reference : Cert.quiescent_DGmlpInRefIdeal (hDGmlpInRefIdeal := Cert.DGmlpInRefIdeal.Gen.facts) := fun m ρ _ =>
  (θ_run Cert.DGmlpInRefIdeal.defs _ _).mono (fun r h => ⟨fun c => (h c).2, Idealize.ShloMosaic.sem_eq_zero_of_no_sems (by decide) r.2⟩)
    (Cert.DGmlpInRefIdeal.Value.run (F := Ideal) m ρ)

/-- From the same arguments the kernel and the reference leave the same result. -/
theorem algebraic : Cert.algebraic_DGmlpInIdeal_DGmlpInRefIdeal (hDGmlpInIdeal := Cert.DGmlpInIdeal.Gen.facts) (hDGmlpInRefIdeal := Cert.DGmlpInRefIdeal.Gen.facts) := fun m g m' g' _ hag => by
  refine ⟨fun c => (Cert.DGmlpInIdeal.Gen.dats m 0 c).arrAt 2 Cert.DGmlpInIdeal.cfg0.N, ?_, ?_⟩
  · exact Cert.DGmlpInIdeal.Value.run_blocks m g
  · refine (θ_run Cert.DGmlpInRefIdeal.defs _ _).mono (fun r h c => ⟨(h c).1.trans ?_, (h c).2⟩) (Cert.DGmlpInRefIdeal.Value.run (F := Ideal) m' g')
    obtain ⟨X, hX⟩ := exists_E3 (a := 4) (b := 4096) (c := 1024) (m ((c.tc : Thread Cert.DGmlpInIdeal.nD Cert.DGmlpInIdeal.τ).loc Cert.DGmlpInIdeal.main_arg0))
    obtain ⟨Y, hY⟩ := exists_E3 (a := 4) (b := 2048) (c := 1024) (m ((c.tc : Thread Cert.DGmlpInIdeal.nD Cert.DGmlpInIdeal.τ).loc Cert.DGmlpInIdeal.main_arg1))
    rw [(hag c).1, (hag c).2]
    exact (reference _ _ hX hY).eq (final m c (by rw [Cert.DGmlpInIdeal.Gen.V_main_arg0]; exact hX) (by rw [Cert.DGmlpInIdeal.Gen.V_main_arg1]; exact hY))

end Cert.Stick.DGmlpIn

end
-- ==== Proof.MmFfnUp.lean ====
/- The up projection of the feed-forward layer: what the kernel's run leaves, and that the reference leaves the same. -/
module

public import proofs.«01_k».proof.Defs
public import proofs.«01_k».proof.Proof.Ex
public import proofs.«01_k».proof.Proof.Gen.FfnUp.Frame
public import proofs.«01_k».proof.Proof.Gen.FfnUpIdeal.Value
public import proofs.«01_k».proof.Proof.Gen.FfnUpRefIdeal.Run
public import Idealize.ShloMosaic.Lib.Pipeline.ValueKit
public import Idealize.ShloMosaic.Adequacy
public import Idealize.ShloMosaic.Init

@[expose] public section

set_option maxRecDepth 16384
set_option maxHeartbeats 4000000

noncomputable section

namespace Cert.Stick.FfnUp

open Idealize.ShloMosaic Idealize.ShloMosaic.TcCoe Idealize.ShloMosaic.Updates
open Idealize.ShloMosaic.LaneScatter (Blk Vec1)
open Idealize.ShloMosaic.Pipeline (Dat)
open scoped BigOperators

/-- The result, as a function of the two arguments. -/
def G (X Y : ℕ → ℕ → ℕ → EReal) (i j k : ℕ) : EReal := ∑ l ∈ Finset.range 2048, X 0 j l * Y i l k

section
open Cert.FfnUpIdeal Cert.FfnUpIdeal.Gen

/-! ### Which block each point stages -/

theorem at0 : ∀ t : Fin cfg0.N, win0_0.index t 0 = 0 ∧ win0_0.index t 1 = t.val % 8 ∧ win0_0.index t 2 = 0 :=
  (by decide +kernel : ∀ t : Fin grid0.N, win0_0.index t 0 = 0 ∧ win0_0.index t 1 = t.val % 8 ∧ win0_0.index t 2 = 0)
theorem at1 : ∀ t : Fin cfg0.N, win0_1.index t 0 = t.val / 8 ∧ win0_1.index t 1 = 0 ∧ win0_1.index t 2 = 0 :=
  (by decide +kernel : ∀ t : Fin grid0.N, win0_1.index t 0 = t.val / 8 ∧ win0_1.index t 1 = 0 ∧ win0_1.index t 2 = 0)
theorem at2 : ∀ t : Fin cfg0.N, win0_2.index t 0 = t.val / 8 ∧ win0_2.index t 1 = t.val % 8 ∧ win0_2.index t 2 = 0 :=
  (by decide +kernel : ∀ t : Fin grid0.N, win0_2.index t 0 = t.val / 8 ∧ win0_2.index t 1 = t.val % 8 ∧ win0_2.index t 2 = 0)

variable (m : (ℓ : Loc nD τ sig) → Buf (Elt Ideal) ℓ) (c : Dev nD) {X Y : ℕ → ℕ → ℕ → EReal}

theorem e_iblk0 (t : Fin cfg0.N) (hX : E3 (a := 1) (b := 4096) (c := 2048) (V m c main_arg0) X) :
    E3 (a := 1) (b := 512) (c := 2048) (iblk m c 0 t) fun i j k => X (0 * 1 + 1 * i) (t.val % 8 * 512 + 1 * j) (0 * 2048 + 1 * k) := fun ι => by
  unfold iblk
  rw [View.read_apply]
  refine (hX _).trans ?_
  show X (win0_0.index t 0 * 1 + 1 * (ι 0).val) (win0_0.index t 1 * 512 + 1 * (ι 1).val) (win0_0.index t 2 * 2048 + 1 * (ι 2).val) = _
  rw [(at0 t).1, (at0 t).2.1, (at0 t).2.2]

theorem e_iblk1 (t : Fin cfg0.N) (hY : E3 (a := 4) (b := 2048) (c := 2816) (V m c main_arg1) Y) :
    E3 (a := 1) (b := 2048) (c := 2816) (iblk m c 1 t) fun i j k => Y (t.val / 8 * 1 + 1 * i) (0 * 2048 + 1 * j) (0 * 2816 + 1 * k) := fun ι => by
  unfold iblk
  rw [View.read_apply]
  refine (hY _).trans ?_
  show Y (win0_1.index t 0 * 1 + 1 * (ι 0).val) (win0_1.index t 1 * 2048 + 1 * (ι 1).val) (win0_1.index t 2 * 2816 + 1 * (ι 2).val) = _
  rw [(at1 t).1, (at1 t).2.1, (at1 t).2.2]

/-- The body stores the product of the two blocks. -/
theorem out_eq (x : Vec Ideal S1x512x2048 .bf16) (y : Vec Ideal S1x2048x2816 .bf16) : out0_2 (F := Ideal) x y = k0_pay1 (F := Ideal) x y := by
  frame_out

theorem e_pay {x : Vec Ideal S1x512x2048 .bf16} {y : Vec Ideal S1x2048x2816 .bf16} {f g}
    (hx : E3 (a := 1) (b := 512) (c := 2048) x f) (hy : E3 (a := 1) (b := 2048) (c := 2816) y g) :
    E3 (a := 1) (b := 512) (c := 2816) (k0_pay1 (F := Ideal) x y) fun _ j k => ∑ l ∈ Finset.range 2048, f 0 j l * g 0 l k :=
  e_lead (φ := .f32) (e_mm (φ := .bf16) (ψ := .bf16) none (e_drop (φ := .bf16) hx _) (e_drop (φ := .bf16) hy _) zero_bits) _

/-- The kernel's output array after the run. -/
theorem final (hX : E3 (a := 1) (b := 4096) (c := 2048) (V m c main_arg0) X) (hY : E3 (a := 4) (b := 2048) (c := 2816) (V m c main_arg1) Y) :
    E3 (a := 4) (b := 4096) (c := 2816) ((dats m 0 c).arrAt 2 cfg0.N) (G X Y) := by
  have h : (dats m 0 c).arrAt 2 cfg0.N = fun ι : S4x4096x2816.Idx => G X Y (ι 0).val (ι 1).val (ι 2).val := by
    refine (dats m 0 c).arrAt_eq_of_covers 2 _ (by decide +kernel) fun t hf y => ?_
    show (dats m 0 c).after 2 t y = G X Y (win0_2.index t 0 * 1 + 1 * (y 0).val) (win0_2.index t 1 * 512 + 1 * (y 1).val) (win0_2.index t 2 * 2816 + 1 * (y 2).val)
    rw [after0_2, (at2 t).1, (at2 t).2.1, (at2 t).2.2, out_eq]
    refine (e_pay (e_iblk0 m c t hX) (e_iblk1 m c t hY) y).trans ?_
    have ht : t.val < 32 := t.isLt
    have y0 : (y 0).val < 1 := (y 0).isLt
    have y1 : (y 1).val < 512 := (y 1).isLt
    have y2 : (y 2).val < 2816 := (y 2).isLt
    unfold G
    refine Finset.sum_congr rfl fun l hl => ?_
    rw [Finset.mem_range] at hl
    congr 2 <;> omega
  rw [h]
  exact fun ι => rfl
end

section
open Cert.FfnUpRefIdeal Cert.FfnUpRefIdeal.Gen

/-- The reference's result is the same function of the arguments. -/
theorem reference (x : FVec Ideal S1x4096x2048 .bf16) (y : FVec Ideal S4x2048x2816 .bf16) {X Y : ℕ → ℕ → ℕ → EReal}
    (hX : E3 (a := 1) (b := 4096) (c := 2048) x X) (hY : E3 (a := 4) (b := 2048) (c := 2816) y Y) :
    E3 (a := 4) (b := 4096) (c := 2816)
      (transpose S4x4096x2816 [0, 2, 1] (Host.dotGeneral (F := Ideal) dot_S4x2048x2816_S4096x2048_S4x2816x4096_1_1_02_0_n_n none (extf .f32 y bitsLt_bf16_f32) (extf .f32 (shapeCast _ x shapeCasts_S1x4096x2048_S4096x2048) bitsLt_bf16_f32)) transposes_S4x2816x4096_S4x4096x2816_0_2_1) (G X Y) :=
  (e_transpose021 (φ := .f32)
    (e_dot _ 2048 rfl rfl (fun l i j k => Y i l j) (fun l i j k => X 0 k l) (fun j k => hY _) (fun j k => e_drop (φ := .bf16) hX _ _)) _).congr
    fun i j k _ _ _ => Finset.sum_congr rfl fun l _ => mul_comm _ _
end

/-- The kernel's program runs and leaves its arguments as they were. -/
theorem frame_kernel : Cert.quiescent_FfnUp (hFfnUp := Cert.FfnUp.Gen.facts) := fun m ρ _ => Cert.FfnUp.Gen.frame m ρ

/-- So does its idealization. -/
theorem frame_ideal : Cert.quiescent_FfnUpIdeal (hFfnUpIdeal := Cert.FfnUpIdeal.Gen.facts) := fun m ρ _ => Cert.FfnUpIdeal.Gen.frame m ρ

/-- So does the reference. -/
theorem frame_reference : Cert.quiescent_FfnUpRefIdeal (hFfnUpRefIdeal := Cert.FfnUpRefIdeal.Gen.facts) := fun m ρ _ =>
  (θ_run Cert.FfnUpRefIdeal.defs _ _).mono (fun r h => ⟨fun c => (h c).2, Idealize.ShloMosaic.sem_eq_zero_of_no_sems (by decide) r.2⟩)
    (Cert.FfnUpRefIdeal.Value.run (F := Ideal) m ρ)

/-- From the same arguments the kernel and the reference leave the same result. -/
theorem algebraic : Cert.algebraic_FfnUpIdeal_FfnUpRefIdeal (hFfnUpIdeal := Cert.FfnUpIdeal.Gen.facts) (hFfnUpRefIdeal := Cert.FfnUpRefIdeal.Gen.facts) := fun m g m' g' _ hag => by
  refine ⟨fun c => (Cert.FfnUpIdeal.Gen.dats m 0 c).arrAt 2 Cert.FfnUpIdeal.cfg0.N, ?_, ?_⟩
  · exact Cert.FfnUpIdeal.Value.run_blocks m g
  · refine (θ_run Cert.FfnUpRefIdeal.defs _ _).mono (fun r h c => ⟨(h c).1.trans ?_, (h c).2⟩) (Cert.FfnUpRefIdeal.Value.run (F := Ideal) m' g')
    obtain ⟨X, hX⟩ := exists_E3 (a := 1) (b := 4096) (c := 2048) (m ((c.tc : Thread Cert.FfnUpIdeal.nD Cert.FfnUpIdeal.τ).loc Cert.FfnUpIdeal.main_arg0))
    obtain ⟨Y, hY⟩ := exists_E3 (a := 4) (b := 2048) (c := 2816) (m ((c.tc : Thread Cert.FfnUpIdeal.nD Cert.FfnUpIdeal.τ).loc Cert.FfnUpIdeal.main_arg1))
    rw [(hag c).1, (hag c).2]
    exact (reference _ _ hX hY).eq (final m c (by rw [Cert.FfnUpIdeal.Gen.V_main_arg0]; exact hX) (by rw [Cert.FfnUpIdeal.Gen.V_main_arg1]; exact hY))

end Cert.Stick.FfnUp

end
-- ==== Proof.MmFfnDown.lean ====
/- The down projection of the feed-forward layer: what the kernel's run leaves, and that the reference leaves the same. -/
module

public import proofs.«01_k».proof.Defs
public import proofs.«01_k».proof.Proof.Ex2
public import proofs.«01_k».proof.Proof.Gen.FfnDown.Frame
public import proofs.«01_k».proof.Proof.Gen.FfnDownIdeal.Value
public import proofs.«01_k».proof.Proof.Gen.FfnDownRefIdeal.Run
public import Idealize.ShloMosaic.Lib.Pipeline.ValueKit
public import Idealize.ShloMosaic.Adequacy
public import Idealize.ShloMosaic.Init

@[expose] public section

set_option maxRecDepth 16384
set_option maxHeartbeats 4000000

noncomputable section

namespace Cert.Stick.FfnDown

open Idealize.ShloMosaic Idealize.ShloMosaic.TcCoe Idealize.ShloMosaic.Updates
open Idealize.ShloMosaic.LaneScatter (Blk Vec1)
open Idealize.ShloMosaic.Pipeline (Dat)
open scoped BigOperators

/-- The result, as a function of the two arguments. -/
def G (X Y : ℕ → ℕ → ℕ → EReal) (i j k : ℕ) : EReal := ∑ s ∈ Finset.range 2, ∑ l ∈ Finset.range 2816, X s j l * Y 0 (2816 * s + l) k

section
open Cert.FfnDownIdeal Cert.FfnDownIdeal.Gen

/-! ### Which block each point stages -/

theorem at0 : ∀ t : Fin cfg0.N, win0_0.index t 0 = t.val % 2 ∧ win0_0.index t 1 = t.val / 4 ∧ win0_0.index t 2 = 0 :=
  (by decide +kernel : ∀ t : Fin grid0.N, win0_0.index t 0 = t.val % 2 ∧ win0_0.index t 1 = t.val / 4 ∧ win0_0.index t 2 = 0)
theorem at1 : ∀ t : Fin cfg0.N, win0_1.index t 0 = 0 ∧ win0_1.index t 1 = t.val % 2 ∧ win0_1.index t 2 = t.val / 2 % 2 :=
  (by decide +kernel : ∀ t : Fin grid0.N, win0_1.index t 0 = 0 ∧ win0_1.index t 1 = t.val % 2 ∧ win0_1.index t 2 = t.val / 2 % 2)
theorem at2 : ∀ t : Fin cfg0.N, win0_2.index t 0 = 0 ∧ win0_2.index t 1 = t.val / 4 ∧ win0_2.index t 2 = t.val / 2 % 2 :=
  (by decide +kernel : ∀ t : Fin grid0.N, win0_2.index t 0 = 0 ∧ win0_2.index t 1 = t.val / 4 ∧ win0_2.index t 2 = t.val / 2 % 2)

variable (m : (ℓ : Loc nD τ sig) → Buf (Elt Ideal) ℓ) (c : Dev nD) {X Y : ℕ → ℕ → ℕ → EReal}

theorem e_iblk0 (t : Fin cfg0.N) (hX : E3 (a := 2) (b := 4096) (c := 2816) (V m c main_arg0) X) :
    E3 (a := 1) (b := 1024) (c := 2816) (iblk m c 0 t) fun i j k => X (t.val % 2 * 1 + 1 * i) (t.val / 4 * 1024 + 1 * j) (0 * 2816 + 1 * k) := fun ι => by
  unfold iblk
  rw [View.read_apply]
  refine (hX _).trans ?_
  show X (win0_0.index t 0 * 1 + 1 * (ι 0).val) (win0_0.index t 1 * 1024 + 1 * (ι 1).val) (win0_0.index t 2 * 2816 + 1 * (ι 2).val) = _
  rw [(at0 t).1, (at0 t).2.1, (at0 t).2.2]

theorem e_iblk1 (t : Fin cfg0.N) (hY : E3 (a := 1) (b := 5632) (c := 2048) (V m c main_arg1) Y) :
    E3 (a := 1) (b := 2816) (c := 1024) (iblk m c 1 t) fun i j k => Y (0 * 1 + 1 * i) (t.val % 2 * 2816 + 1 * j) (t.val / 2 % 2 * 1024 + 1 * k) := fun ι => by
  unfold iblk
  rw [View.read_apply]
  refine (hY _).trans ?_
  show Y (win0_1.index t 0 * 1 + 1 * (ι 0).val) (win0_1.index t 1 * 2816 + 1 * (ι 1).val) (win0_1.index t 2 * 1024 + 1 * (ι 2).val) = _
  rw [(at1 t).1, (at1 t).2.1, (at1 t).2.2]

/-! ### What the body leaves at one point -/

/-- The product of the two blocks that point `n` stages. -/
def T (X Y : ℕ → ℕ → ℕ → EReal) (n j k : ℕ) : EReal := ∑ l ∈ Finset.range 2816, X (n % 2 * 1 + 1 * 0) (n / 4 * 1024 + 1 * j) (0 * 2816 + 1 * l) * Y (0 * 1 + 1 * 0) (n % 2 * 2816 + 1 * l) (n / 2 % 2 * 1024 + 1 * k)

theorem e_pay1 {x : Vec Ideal S1x1024x2816 .bf16} {y : Vec Ideal S1x2816x1024 .bf16} {f g}
    (hx : E3 (a := 1) (b := 1024) (c := 2816) x f) (hy : E3 (a := 1) (b := 2816) (c := 1024) y g) :
    E2 (a := 1024) (b := 1024) (k0_pay1 (F := Ideal) x y) fun j k => ∑ l ∈ Finset.range 2816, f 0 j l * g 0 l k :=
  e_self (φ := .f32) (e_mm (φ := .bf16) (ψ := .bf16) none (e_drop (φ := .bf16) hx _) (e_drop (φ := .bf16) hy _) zero_bits) _

theorem e_pay3 {w : Vec Ideal S1024x1024 .f32} {s} (hs : E2 (a := 1024) (b := 1024) w s) {x : Vec Ideal S1x1024x2816 .bf16} {y : Vec Ideal S1x2816x1024 .bf16} {f g}
    (hx : E3 (a := 1) (b := 1024) (c := 2816) x f) (hy : E3 (a := 1) (b := 2816) (c := 1024) y g) :
    E3 (a := 1) (b := 1024) (c := 1024) (k0_pay3 (F := Ideal) w x y) fun _ j k => s j k + ∑ l ∈ Finset.range 2816, f 0 j l * g 0 l k :=
  e_lead (φ := .f32) (e_addf hs (e_mm (φ := .bf16) (ψ := .bf16) none (e_drop (φ := .bf16) hx _) (e_drop (φ := .bf16) hy _) zero_bits)) _

/-- The accumulator between two points of a run of 2: the sum of the products so far. -/
theorem acc (hX : E3 (a := 2) (b := 4096) (c := 2816) (V m c main_arg0) X) (hY : E3 (a := 1) (b := 5632) (c := 2048) (V m c main_arg1) Y) (n : ℕ) (h : n < cfg0.N) (hn : n % 2 = 0) :
    E2 (a := 1024) (b := 1024) (outsAt0 m c n h).2 fun j k => T X Y n j k := by
  rw [show outsAt0 m c n h = _ from outsAt0_A m c ⟨n, h⟩ hn (by show ¬n % 2 = 1; omega)]
  frame_out
  exact e_pay1 (e_iblk0 m c ⟨n, h⟩ hX) (e_iblk1 m c ⟨n, h⟩ hY)

/-- The block stored at the last point of a run of 2: the sum of the run's products. -/
theorem last (hX : E3 (a := 2) (b := 4096) (c := 2816) (V m c main_arg0) X) (hY : E3 (a := 1) (b := 5632) (c := 2048) (V m c main_arg1) Y) (t : Fin cfg0.N) (ht : t.val % 2 = 1) :
    E3 (a := 1) (b := 1024) (c := 1024) (outsAt0 m c t.val t.isLt).1 fun _ j k => ∑ s ∈ Finset.range 2, T X Y (2 * (t.val / 2) + s) j k := by
  rw [outsAt0_B m c t (by omega) ht]
  frame_out
  rw [(Memref.isWhole_whole _).read_unread]
  refine (e_pay3 (acc m c hX hY (t.val - 1) _ (by omega)) (e_iblk0 m c t hX) (e_iblk1 m c t hY)).congr fun i j k _ _ _ => ?_
  show _ + T X Y t.val j k = _
  rw [Finset.sum_range_succ, Finset.sum_range_one]
  rw [show t.val - 1 = 2 * (t.val / 2) + 0 by omega, show 2 * (t.val / 2) + 1 = t.val by omega]

/-- The kernel's output array after the run. -/
theorem final (hX : E3 (a := 2) (b := 4096) (c := 2816) (V m c main_arg0) X) (hY : E3 (a := 1) (b := 5632) (c := 2048) (V m c main_arg1) Y) :
    E3 (a := 1) (b := 4096) (c := 2048) ((dats m 0 c).arrAt 2 cfg0.N) (G X Y) := by
  have h : (dats m 0 c).arrAt 2 cfg0.N = fun ι : S1x4096x2048.Idx => G X Y (ι 0).val (ι 1).val (ι 2).val := by
    refine (dats m 0 c).arrAt_eq_of_covers 2 _ (by decide +kernel) fun t hf y => ?_
    show (dats m 0 c).after 2 t y = G X Y (win0_2.index t 0 * 1 + 1 * (y 0).val) (win0_2.index t 1 * 1024 + 1 * (y 1).val) (win0_2.index t 2 * 1024 + 1 * (y 2).val)
    rw [after0_2, (at2 t).1, (at2 t).2.1, (at2 t).2.2]
    refine (last m c hX hY t ((flush0_2 t).mp hf) y).trans ?_
    have ht : t.val < 16 := t.isLt
    have y0 : (y 0).val < 1 := (y 0).isLt
    have y1 : (y 1).val < 1024 := (y 1).isLt
    have y2 : (y 2).val < 1024 := (y 2).isLt
    unfold G T
    refine Finset.sum_congr rfl fun s hs => Finset.sum_congr rfl fun l hl => ?_
    rw [Finset.mem_range] at hs hl
    congr 2 <;> omega
  rw [h]
  exact fun ι => rfl
end

section
open Cert.FfnDownRefIdeal Cert.FfnDownRefIdeal.Gen

/-- The reference's result is the same function of the arguments. -/
theorem reference (x : FVec Ideal S2x4096x2816 .bf16) (y : FVec Ideal S1x5632x2048 .bf16) {X Y : ℕ → ℕ → ℕ → EReal}
    (hX : E3 (a := 2) (b := 4096) (c := 2816) x X) (hY : E3 (a := 1) (b := 5632) (c := 2048) y Y) :
    E3 (a := 1) (b := 4096) (c := 2048)
      (broadcastInDim S1x4096x2048 ![1, 2] bcast_S4096x2048_S1x4096x2048_1_2 (Host.dotGeneral (F := Ideal) dot_S2x4096x2816_S2x2816x2048_S4096x2048_20_10_1_2_n_n none (extf .f32 x bitsLt_bf16_f32) (extf .f32 (shapeCast _ y shapeCasts_S1x5632x2048_S2x2816x2048) bitsLt_bf16_f32))) (G X Y) :=
  e_bcast (φ := .f32) (e_dot2 _ 2816 2 rfl rfl rfl (fun s l j k => X s j l) (fun s l j k => Y 0 (2816 * s + l) k) (fun j k => hX _)
    (fun j k => e_split (a := 2) (b := 2816) (c := 2048) (φ := .bf16) hY _ _)) (by decide) (by decide) _
end

/-- The kernel's program runs and leaves its arguments as they were. -/
theorem frame_kernel : Cert.quiescent_FfnDown (hFfnDown := Cert.FfnDown.Gen.facts) := fun m ρ _ => Cert.FfnDown.Gen.frame m ρ

/-- So does its idealization. -/
theorem frame_ideal : Cert.quiescent_FfnDownIdeal (hFfnDownIdeal := Cert.FfnDownIdeal.Gen.facts) := fun m ρ _ => Cert.FfnDownIdeal.Gen.frame m ρ

/-- So does the reference. -/
theorem frame_reference : Cert.quiescent_FfnDownRefIdeal (hFfnDownRefIdeal := Cert.FfnDownRefIdeal.Gen.facts) := fun m ρ _ =>
  (θ_run Cert.FfnDownRefIdeal.defs _ _).mono (fun r h => ⟨fun c => (h c).2, Idealize.ShloMosaic.sem_eq_zero_of_no_sems (by decide) r.2⟩)
    (Cert.FfnDownRefIdeal.Value.run (F := Ideal) m ρ)

/-- From the same arguments the kernel and the reference leave the same result. -/
theorem algebraic : Cert.algebraic_FfnDownIdeal_FfnDownRefIdeal (hFfnDownIdeal := Cert.FfnDownIdeal.Gen.facts) (hFfnDownRefIdeal := Cert.FfnDownRefIdeal.Gen.facts) := fun m g m' g' _ hag => by
  refine ⟨fun c => (Cert.FfnDownIdeal.Gen.dats m 0 c).arrAt 2 Cert.FfnDownIdeal.cfg0.N, ?_, ?_⟩
  · exact Cert.FfnDownIdeal.Value.run_blocks m g
  · refine (θ_run Cert.FfnDownRefIdeal.defs _ _).mono (fun r h c => ⟨(h c).1.trans ?_, (h c).2⟩) (Cert.FfnDownRefIdeal.Value.run (F := Ideal) m' g')
    obtain ⟨X, hX⟩ := exists_E3 (a := 2) (b := 4096) (c := 2816) (m ((c.tc : Thread Cert.FfnDownIdeal.nD Cert.FfnDownIdeal.τ).loc Cert.FfnDownIdeal.main_arg0))
    obtain ⟨Y, hY⟩ := exists_E3 (a := 1) (b := 5632) (c := 2048) (m ((c.tc : Thread Cert.FfnDownIdeal.nD Cert.FfnDownIdeal.τ).loc Cert.FfnDownIdeal.main_arg1))
    rw [(hag c).1, (hag c).2]
    exact (reference _ _ hX hY).eq (final m c (by rw [Cert.FfnDownIdeal.Gen.V_main_arg0]; exact hX) (by rw [Cert.FfnDownIdeal.Gen.V_main_arg1]; exact hY))

end Cert.Stick.FfnDown

end
-- ==== Proof.MmProj.lean ====
/- The projections to queries, keys and values: what the kernel's run leaves, and that the reference leaves the same. -/
module

public import proofs.«01_k».proof.Defs
public import proofs.«01_k».proof.Proof.Ex
public import proofs.«01_k».proof.Proof.Gen.Proj.Frame
public import proofs.«01_k».proof.Proof.Gen.ProjIdeal.Value
public import proofs.«01_k».proof.Proof.Gen.ProjRefIdeal.Run
public import Idealize.ShloMosaic.Lib.Pipeline.ValueKit
public import Idealize.ShloMosaic.Adequacy
public import Idealize.ShloMosaic.Init

@[expose] public section

set_option maxRecDepth 16384
set_option maxHeartbeats 4000000

noncomputable section

namespace Cert.Stick.Proj

open Idealize.ShloMosaic Idealize.ShloMosaic.TcCoe Idealize.ShloMosaic.Updates
open Idealize.ShloMosaic.LaneScatter (Blk Vec1)
open Idealize.ShloMosaic.Pipeline (Dat)
open scoped BigOperators

/-- The result, as a function of the two arguments. -/
def G (X Y : ℕ → ℕ → ℕ → EReal) (i j k : ℕ) : EReal := ∑ l ∈ Finset.range 2048, X i j l * Y i l k

section
open Cert.ProjIdeal Cert.ProjIdeal.Gen

/-! ### Which block each point stages -/

theorem at0 : ∀ t : Fin cfg0.N, win0_0.index t 0 = 0 ∧ win0_0.index t 1 = t.val / 2 ∧ win0_0.index t 2 = 0 :=
  (by decide +kernel : ∀ t : Fin grid0.N, win0_0.index t 0 = 0 ∧ win0_0.index t 1 = t.val / 2 ∧ win0_0.index t 2 = 0)
theorem at1 : ∀ t : Fin cfg0.N, win0_1.index t 0 = 0 ∧ win0_1.index t 1 = 0 ∧ win0_1.index t 2 = t.val % 2 :=
  (by decide +kernel : ∀ t : Fin grid0.N, win0_1.index t 0 = 0 ∧ win0_1.index t 1 = 0 ∧ win0_1.index t 2 = t.val % 2)
theorem at2 : ∀ t : Fin cfg0.N, win0_2.index t 0 = 0 ∧ win0_2.index t 1 = t.val / 2 ∧ win0_2.index t 2 = t.val % 2 :=
  (by decide +kernel : ∀ t : Fin grid0.N, win0_2.index t 0 = 0 ∧ win0_2.index t 1 = t.val / 2 ∧ win0_2.index t 2 = t.val % 2)

variable (m : (ℓ : Loc nD τ sig) → Buf (Elt Ideal) ℓ) (c : Dev nD) {X Y : ℕ → ℕ → ℕ → EReal}

theorem e_iblk0 (t : Fin cfg0.N) (hX : E3 (a := 1) (b := 4096) (c := 2048) (V m c main_arg0) X) :
    E3 (a := 1) (b := 1024) (c := 2048) (iblk m c 0 t) fun i j k => X (0 * 1 + 1 * i) (t.val / 2 * 1024 + 1 * j) (0 * 2048 + 1 * k) := fun ι => by
  unfold iblk
  rw [View.read_apply]
  refine (hX _).trans ?_
  show X (win0_0.index t 0 * 1 + 1 * (ι 0).val) (win0_0.index t 1 * 1024 + 1 * (ι 1).val) (win0_0.index t 2 * 2048 + 1 * (ι 2).val) = _
  rw [(at0 t).1, (at0 t).2.1, (at0 t).2.2]

theorem e_iblk1 (t : Fin cfg0.N) (hY : E3 (a := 1) (b := 2048) (c := 2048) (V m c main_arg1) Y) :
    E3 (a := 1) (b := 2048) (c := 1024) (iblk m c 1 t) fun i j k => Y (0 * 1 + 1 * i) (0 * 2048 + 1 * j) (t.val % 2 * 1024 + 1 * k) := fun ι => by
  unfold iblk
  rw [View.read_apply]
  refine (hY _).trans ?_
  show Y (win0_1.index t 0 * 1 + 1 * (ι 0).val) (win0_1.index t 1 * 2048 + 1 * (ι 1).val) (win0_1.index t 2 * 1024 + 1 * (ι 2).val) = _
  rw [(at1 t).1, (at1 t).2.1, (at1 t).2.2]

/-- The body stores the product of the two blocks. -/
theorem out_eq (x : Vec Ideal S1x1024x2048 .bf16) (y : Vec Ideal S1x2048x1024 .bf16) : out0_2 (F := Ideal) x y = k0_pay1 (F := Ideal) x y := by
  frame_out

theorem e_pay {x : Vec Ideal S1x1024x2048 .bf16} {y : Vec Ideal S1x2048x1024 .bf16} {f g}
    (hx : E3 (a := 1) (b := 1024) (c := 2048) x f) (hy : E3 (a := 1) (b := 2048) (c := 1024) y g) :
    E3 (a := 1) (b := 1024) (c := 1024) (k0_pay1 (F := Ideal) x y) fun _ j k => ∑ l ∈ Finset.range 2048, f 0 j l * g 0 l k :=
  e_lead (φ := .bf16) (e_truncf (ψ := .bf16) (e_mm (φ := .bf16) (ψ := .bf16) none (e_drop (φ := .bf16) hx _) (e_drop (φ := .bf16) hy _) zero_bits) bitsLt_bf16_f32) _

/-- The kernel's output array after the run. -/
theorem final (hX : E3 (a := 1) (b := 4096) (c := 2048) (V m c main_arg0) X) (hY : E3 (a := 1) (b := 2048) (c := 2048) (V m c main_arg1) Y) :
    E3 (a := 1) (b := 4096) (c := 2048) ((dats m 0 c).arrAt 2 cfg0.N) (G X Y) := by
  have h : (dats m 0 c).arrAt 2 cfg0.N = fun ι : S1x4096x2048.Idx => G X Y (ι 0).val (ι 1).val (ι 2).val := by
    refine (dats m 0 c).arrAt_eq_of_covers 2 _ (by decide +kernel) fun t hf y => ?_
    show (dats m 0 c).after 2 t y = G X Y (win0_2.index t 0 * 1 + 1 * (y 0).val) (win0_2.index t 1 * 1024 + 1 * (y 1).val) (win0_2.index t 2 * 1024 + 1 * (y 2).val)
    rw [after0_2, (at2 t).1, (at2 t).2.1, (at2 t).2.2, out_eq]
    refine (e_pay (e_iblk0 m c t hX) (e_iblk1 m c t hY) y).trans ?_
    have ht : t.val < 8 := t.isLt
    have y0 : (y 0).val < 1 := (y 0).isLt
    have y1 : (y 1).val < 1024 := (y 1).isLt
    have y2 : (y 2).val < 1024 := (y 2).isLt
    unfold G
    refine Finset.sum_congr rfl fun l hl => ?_
    rw [Finset.mem_range] at hl
    congr 2 <;> omega
  rw [h]
  exact fun ι => rfl
end

section
open Cert.ProjRefIdeal Cert.ProjRefIdeal.Gen

/-- The reference's result is the same function of the arguments. -/
theorem reference (x : FVec Ideal S1x4096x2048 .bf16) (y : FVec Ideal S1x2048x2048 .bf16) {X Y : ℕ → ℕ → ℕ → EReal}
    (hX : E3 (a := 1) (b := 4096) (c := 2048) x X) (hY : E3 (a := 1) (b := 2048) (c := 2048) y Y) :
    E3 (a := 1) (b := 4096) (c := 2048)
      (truncf .bf16 (Host.dotGeneral (F := Ideal) dot_S1x4096x2048_S1x2048x2048_S1x4096x2048_2_1_1_2_0_0 none (extf .f32 x bitsLt_bf16_f32) (extf .f32 y bitsLt_bf16_f32)) bitsLt_bf16_f32) (G X Y) :=
  e_truncf3 (φ := .f32) (e_dot _ 2048 rfl rfl (fun l i j k => X i j l) (fun l i j k => Y i l k) (fun j k => hX _) (fun j k => hY _)) _
end

/-- The kernel's program runs and leaves its arguments as they were. -/
theorem frame_kernel : Cert.quiescent_Proj (hProj := Cert.Proj.Gen.facts) := fun m ρ _ => Cert.Proj.Gen.frame m ρ

/-- So does its idealization. -/
theorem frame_ideal : Cert.quiescent_ProjIdeal (hProjIdeal := Cert.ProjIdeal.Gen.facts) := fun m ρ _ => Cert.ProjIdeal.Gen.frame m ρ

/-- So does the reference. -/
theorem frame_reference : Cert.quiescent_ProjRefIdeal (hProjRefIdeal := Cert.ProjRefIdeal.Gen.facts) := fun m ρ _ =>
  (θ_run Cert.ProjRefIdeal.defs _ _).mono (fun r h => ⟨fun c => (h c).2, Idealize.ShloMosaic.sem_eq_zero_of_no_sems (by decide) r.2⟩)
    (Cert.ProjRefIdeal.Value.run (F := Ideal) m ρ)

/-- From the same arguments the kernel and the reference leave the same result. -/
theorem algebraic : Cert.algebraic_ProjIdeal_ProjRefIdeal (hProjIdeal := Cert.ProjIdeal.Gen.facts) (hProjRefIdeal := Cert.ProjRefIdeal.Gen.facts) := fun m g m' g' _ hag => by
  refine ⟨fun c => (Cert.ProjIdeal.Gen.dats m 0 c).arrAt 2 Cert.ProjIdeal.cfg0.N, ?_, ?_⟩
  · exact Cert.ProjIdeal.Value.run_blocks m g
  · refine (θ_run Cert.ProjRefIdeal.defs _ _).mono (fun r h c => ⟨(h c).1.trans ?_, (h c).2⟩) (Cert.ProjRefIdeal.Value.run (F := Ideal) m' g')
    obtain ⟨X, hX⟩ := exists_E3 (a := 1) (b := 4096) (c := 2048) (m ((c.tc : Thread Cert.ProjIdeal.nD Cert.ProjIdeal.τ).loc Cert.ProjIdeal.main_arg0))
    obtain ⟨Y, hY⟩ := exists_E3 (a := 1) (b := 2048) (c := 2048) (m ((c.tc : Thread Cert.ProjIdeal.nD Cert.ProjIdeal.τ).loc Cert.ProjIdeal.main_arg1))
    rw [(hag c).1, (hag c).2]
    exact (reference _ _ hX hY).eq (final m c (by rw [Cert.ProjIdeal.Gen.V_main_arg0]; exact hX) (by rw [Cert.ProjIdeal.Gen.V_main_arg1]; exact hY))

end Cert.Stick.Proj

end
-- ==== Proof.MmProjO.lean ====
/- The output projections of the two mixers: what the kernel's run leaves, and that the reference leaves the same. -/
module

public import proofs.«01_k».proof.Defs
public import proofs.«01_k».proof.Proof.Ex
public import proofs.«01_k».proof.Proof.Gen.ProjO.Frame
public import proofs.«01_k».proof.Proof.Gen.ProjOIdeal.Value
public import proofs.«01_k».proof.Proof.Gen.ProjORefIdeal.Run
public import Idealize.ShloMosaic.Lib.Pipeline.ValueKit
public import Idealize.ShloMosaic.Adequacy
public import Idealize.ShloMosaic.Init

@[expose] public section

set_option maxRecDepth 16384
set_option maxHeartbeats 4000000

noncomputable section

namespace Cert.Stick.ProjO

open Idealize.ShloMosaic Idealize.ShloMosaic.TcCoe Idealize.ShloMosaic.Updates
open Idealize.ShloMosaic.LaneScatter (Blk Vec1)
open Idealize.ShloMosaic.Pipeline (Dat)
open scoped BigOperators

/-- The result, as a function of the two arguments. -/
def G (X Y : ℕ → ℕ → ℕ → EReal) (i j k : ℕ) : EReal := ∑ l ∈ Finset.range 2048, X i j l * Y i l k

section
open Cert.ProjOIdeal Cert.ProjOIdeal.Gen

/-! ### Which block each point stages -/

theorem at0 : ∀ t : Fin cfg0.N, win0_0.index t 0 = 0 ∧ win0_0.index t 1 = t.val / 2 ∧ win0_0.index t 2 = 0 :=
  (by decide +kernel : ∀ t : Fin grid0.N, win0_0.index t 0 = 0 ∧ win0_0.index t 1 = t.val / 2 ∧ win0_0.index t 2 = 0)
theorem at1 : ∀ t : Fin cfg0.N, win0_1.index t 0 = 0 ∧ win0_1.index t 1 = 0 ∧ win0_1.index t 2 = t.val % 2 :=
  (by decide +kernel : ∀ t : Fin grid0.N, win0_1.index t 0 = 0 ∧ win0_1.index t 1 = 0 ∧ win0_1.index t 2 = t.val % 2)
theorem at2 : ∀ t : Fin cfg0.N, win0_2.index t 0 = 0 ∧ win0_2.index t 1 = t.val / 2 ∧ win0_2.index t 2 = t.val % 2 :=
  (by decide +kernel : ∀ t : Fin grid0.N, win0_2.index t 0 = 0 ∧ win0_2.index t 1 = t.val / 2 ∧ win0_2.index t 2 = t.val % 2)

variable (m : (ℓ : Loc nD τ sig) → Buf (Elt Ideal) ℓ) (c : Dev nD) {X Y : ℕ → ℕ → ℕ → EReal}

theorem e_iblk0 (t : Fin cfg0.N) (hX : E3 (a := 1) (b := 4096) (c := 2048) (V m c main_arg0) X) :
    E3 (a := 1) (b := 1024) (c := 2048) (iblk m c 0 t) fun i j k => X (0 * 1 + 1 * i) (t.val / 2 * 1024 + 1 * j) (0 * 2048 + 1 * k) := fun ι => by
  unfold iblk
  rw [View.read_apply]
  refine (hX _).trans ?_
  show X (win0_0.index t 0 * 1 + 1 * (ι 0).val) (win0_0.index t 1 * 1024 + 1 * (ι 1).val) (win0_0.index t 2 * 2048 + 1 * (ι 2).val) = _
  rw [(at0 t).1, (at0 t).2.1, (at0 t).2.2]

theorem e_iblk1 (t : Fin cfg0.N) (hY : E3 (a := 1) (b := 2048) (c := 2048) (V m c main_arg1) Y) :
    E3 (a := 1) (b := 2048) (c := 1024) (iblk m c 1 t) fun i j k => Y (0 * 1 + 1 * i) (0 * 2048 + 1 * j) (t.val % 2 * 1024 + 1 * k) := fun ι => by
  unfold iblk
  rw [View.read_apply]
  refine (hY _).trans ?_
  show Y (win0_1.index t 0 * 1 + 1 * (ι 0).val) (win0_1.index t 1 * 2048 + 1 * (ι 1).val) (win0_1.index t 2 * 1024 + 1 * (ι 2).val) = _
  rw [(at1 t).1, (at1 t).2.1, (at1 t).2.2]

/-- The body stores the product of the two blocks. -/
theorem out_eq (x : Vec Ideal S1x1024x2048 .bf16) (y : Vec Ideal S1x2048x1024 .bf16) : out0_2 (F := Ideal) x y = k0_pay1 (F := Ideal) x y := by
  frame_out

theorem e_pay {x : Vec Ideal S1x1024x2048 .bf16} {y : Vec Ideal S1x2048x1024 .bf16} {f g}
    (hx : E3 (a := 1) (b := 1024) (c := 2048) x f) (hy : E3 (a := 1) (b := 2048) (c := 1024) y g) :
    E3 (a := 1) (b := 1024) (c := 1024) (k0_pay1 (F := Ideal) x y) fun _ j k => ∑ l ∈ Finset.range 2048, f 0 j l * g 0 l k :=
  e_lead (φ := .f32) (e_mm (φ := .bf16) (ψ := .bf16) none (e_drop (φ := .bf16) hx _) (e_drop (φ := .bf16) hy _) zero_bits) _

/-- The kernel's output array after the run. -/
theorem final (hX : E3 (a := 1) (b := 4096) (c := 2048) (V m c main_arg0) X) (hY : E3 (a := 1) (b := 2048) (c := 2048) (V m c main_arg1) Y) :
    E3 (a := 1) (b := 4096) (c := 2048) ((dats m 0 c).arrAt 2 cfg0.N) (G X Y) := by
  have h : (dats m 0 c).arrAt 2 cfg0.N = fun ι : S1x4096x2048.Idx => G X Y (ι 0).val (ι 1).val (ι 2).val := by
    refine (dats m 0 c).arrAt_eq_of_covers 2 _ (by decide +kernel) fun t hf y => ?_
    show (dats m 0 c).after 2 t y = G X Y (win0_2.index t 0 * 1 + 1 * (y 0).val) (win0_2.index t 1 * 1024 + 1 * (y 1).val) (win0_2.index t 2 * 1024 + 1 * (y 2).val)
    rw [after0_2, (at2 t).1, (at2 t).2.1, (at2 t).2.2, out_eq]
    refine (e_pay (e_iblk0 m c t hX) (e_iblk1 m c t hY) y).trans ?_
    have ht : t.val < 8 := t.isLt
    have y0 : (y 0).val < 1 := (y 0).isLt
    have y1 : (y 1).val < 1024 := (y 1).isLt
    have y2 : (y 2).val < 1024 := (y 2).isLt
    unfold G
    refine Finset.sum_congr rfl fun l hl => ?_
    rw [Finset.mem_range] at hl
    congr 2 <;> omega
  rw [h]
  exact fun ι => rfl
end

section
open Cert.ProjORefIdeal Cert.ProjORefIdeal.Gen

/-- The reference's result is the same function of the arguments. -/
theorem reference (x : FVec Ideal S1x4096x2048 .bf16) (y : FVec Ideal S1x2048x2048 .bf16) {X Y : ℕ → ℕ → ℕ → EReal}
    (hX : E3 (a := 1) (b := 4096) (c := 2048) x X) (hY : E3 (a := 1) (b := 2048) (c := 2048) y Y) :
    E3 (a := 1) (b := 4096) (c := 2048)
      (Host.dotGeneral (F := Ideal) dot_S1x4096x2048_S1x2048x2048_S1x4096x2048_2_1_1_2_0_0 none (extf .f32 x bitsLt_bf16_f32) (extf .f32 y bitsLt_bf16_f32)) (G X Y) :=
  e_dot _ 2048 rfl rfl (fun l i j k => X i j l) (fun l i j k => Y i l k) (fun j k => hX _) (fun j k => hY _)
end

/-- The kernel's program runs and leaves its arguments as they were. -/
theorem frame_kernel : Cert.quiescent_ProjO (hProjO := Cert.ProjO.Gen.facts) := fun m ρ _ => Cert.ProjO.Gen.frame m ρ

/-- So does its idealization. -/
theorem frame_ideal : Cert.quiescent_ProjOIdeal (hProjOIdeal := Cert.ProjOIdeal.Gen.facts) := fun m ρ _ => Cert.ProjOIdeal.Gen.frame m ρ

/-- So does the reference. -/
theorem frame_reference : Cert.quiescent_ProjORefIdeal (hProjORefIdeal := Cert.ProjORefIdeal.Gen.facts) := fun m ρ _ =>
  (θ_run Cert.ProjORefIdeal.defs _ _).mono (fun r h => ⟨fun c => (h c).2, Idealize.ShloMosaic.sem_eq_zero_of_no_sems (by decide) r.2⟩)
    (Cert.ProjORefIdeal.Value.run (F := Ideal) m ρ)

/-- From the same arguments the kernel and the reference leave the same result. -/
theorem algebraic : Cert.algebraic_ProjOIdeal_ProjORefIdeal (hProjOIdeal := Cert.ProjOIdeal.Gen.facts) (hProjORefIdeal := Cert.ProjORefIdeal.Gen.facts) := fun m g m' g' _ hag => by
  refine ⟨fun c => (Cert.ProjOIdeal.Gen.dats m 0 c).arrAt 2 Cert.ProjOIdeal.cfg0.N, ?_, ?_⟩
  · exact Cert.ProjOIdeal.Value.run_blocks m g
  · refine (θ_run Cert.ProjORefIdeal.defs _ _).mono (fun r h c => ⟨(h c).1.trans ?_, (h c).2⟩) (Cert.ProjORefIdeal.Value.run (F := Ideal) m' g')
    obtain ⟨X, hX⟩ := exists_E3 (a := 1) (b := 4096) (c := 2048) (m ((c.tc : Thread Cert.ProjOIdeal.nD Cert.ProjOIdeal.τ).loc Cert.ProjOIdeal.main_arg0))
    obtain ⟨Y, hY⟩ := exists_E3 (a := 1) (b := 2048) (c := 2048) (m ((c.tc : Thread Cert.ProjOIdeal.nD Cert.ProjOIdeal.τ).loc Cert.ProjOIdeal.main_arg1))
    rw [(hag c).1, (hag c).2]
    exact (reference _ _ hX hY).eq (final m c (by rw [Cert.ProjOIdeal.Gen.V_main_arg0]; exact hX) (by rw [Cert.ProjOIdeal.Gen.V_main_arg1]; exact hY))

end Cert.Stick.ProjO

end
-- ==== Proof.MmGmlpIn.lean ====
/- The input projection of the gated mixer: what the kernel's run leaves, and that the reference leaves the same. -/
module

public import proofs.«01_k».proof.Defs
public import proofs.«01_k».proof.Proof.Ex
public import proofs.«01_k».proof.Proof.Gen.GmlpIn.Frame
public import proofs.«01_k».proof.Proof.Gen.GmlpInIdeal.Value
public import proofs.«01_k».proof.Proof.Gen.GmlpInRefIdeal.Run
public import Idealize.ShloMosaic.Lib.Pipeline.ValueKit
public import Idealize.ShloMosaic.Adequacy
public import Idealize.ShloMosaic.Init

@[expose] public section

set_option maxRecDepth 16384
set_option maxHeartbeats 4000000

noncomputable section

namespace Cert.Stick.GmlpIn

open Idealize.ShloMosaic Idealize.ShloMosaic.TcCoe Idealize.ShloMosaic.Updates
open Idealize.ShloMosaic.LaneScatter (Blk Vec1)
open Idealize.ShloMosaic.Pipeline (Dat)
open scoped BigOperators

/-- The result, as a function of the two arguments. -/
def G (X Y : ℕ → ℕ → ℕ → EReal) (i j k : ℕ) : EReal := ∑ l ∈ Finset.range 2048, X 0 j l * Y i l k

section
open Cert.GmlpInIdeal Cert.GmlpInIdeal.Gen

/-! ### Which block each point stages -/

theorem at0 : ∀ t : Fin cfg0.N, win0_0.index t 0 = 0 ∧ win0_0.index t 1 = t.val / 4 ∧ win0_0.index t 2 = 0 :=
  (by decide +kernel : ∀ t : Fin grid0.N, win0_0.index t 0 = 0 ∧ win0_0.index t 1 = t.val / 4 ∧ win0_0.index t 2 = 0)
theorem at1 : ∀ t : Fin cfg0.N, win0_1.index t 0 = t.val % 4 ∧ win0_1.index t 1 = 0 ∧ win0_1.index t 2 = 0 :=
  (by decide +kernel : ∀ t : Fin grid0.N, win0_1.index t 0 = t.val % 4 ∧ win0_1.index t 1 = 0 ∧ win0_1.index t 2 = 0)
theorem at2 : ∀ t : Fin cfg0.N, win0_2.index t 0 = t.val % 4 ∧ win0_2.index t 1 = t.val / 4 ∧ win0_2.index t 2 = 0 :=
  (by decide +kernel : ∀ t : Fin grid0.N, win0_2.index t 0 = t.val % 4 ∧ win0_2.index t 1 = t.val / 4 ∧ win0_2.index t 2 = 0)

variable (m : (ℓ : Loc nD τ sig) → Buf (Elt Ideal) ℓ) (c : Dev nD) {X Y : ℕ → ℕ → ℕ → EReal}

theorem e_iblk0 (t : Fin cfg0.N) (hX : E3 (a := 1) (b := 4096) (c := 2048) (V m c main_arg0) X) :
    E3 (a := 1) (b := 1024) (c := 2048) (iblk m c 0 t) fun i j k => X (0 * 1 + 1 * i) (t.val / 4 * 1024 + 1 * j) (0 * 2048 + 1 * k) := fun ι => by
  unfold iblk
  rw [View.read_apply]
  refine (hX _).trans ?_
  show X (win0_0.index t 0 * 1 + 1 * (ι 0).val) (win0_0.index t 1 * 1024 + 1 * (ι 1).val) (win0_0.index t 2 * 2048 + 1 * (ι 2).val) = _
  rw [(at0 t).1, (at0 t).2.1, (at0 t).2.2]

theorem e_iblk1 (t : Fin cfg0.N) (hY : E3 (a := 4) (b := 2048) (c := 1024) (V m c main_arg1) Y) :
    E3 (a := 1) (b := 2048) (c := 1024) (iblk m c 1 t) fun i j k => Y (t.val % 4 * 1 + 1 * i) (0 * 2048 + 1 * j) (0 * 1024 + 1 * k) := fun ι => by
  unfold iblk
  rw [View.read_apply]
  refine (hY _).trans ?_
  show Y (win0_1.index t 0 * 1 + 1 * (ι 0).val) (win0_1.index t 1 * 2048 + 1 * (ι 1).val) (win0_1.index t 2 * 1024 + 1 * (ι 2).val) = _
  rw [(at1 t).1, (at1 t).2.1, (at1 t).2.2]

/-- The body stores the product of the two blocks. -/
theorem out_eq (x : Vec Ideal S1x1024x2048 .bf16) (y : Vec Ideal S1x2048x1024 .bf16) : out0_2 (F := Ideal) x y = k0_pay1 (F := Ideal) x y := by
  frame_out

theorem e_pay {x : Vec Ideal S1x1024x2048 .bf16} {y : Vec Ideal S1x2048x1024 .bf16} {f g}
    (hx : E3 (a := 1) (b := 1024) (c := 2048) x f) (hy : E3 (a := 1) (b := 2048) (c := 1024) y g) :
    E3 (a := 1) (b := 1024) (c := 1024) (k0_pay1 (F := Ideal) x y) fun _ j k => ∑ l ∈ Finset.range 2048, f 0 j l * g 0 l k :=
  e_lead (φ := .f32) (e_mm (φ := .bf16) (ψ := .bf16) none (e_drop (φ := .bf16) hx _) (e_drop (φ := .bf16) hy _) zero_bits) _

/-- The kernel's output array after the run. -/
theorem final (hX : E3 (a := 1) (b := 4096) (c := 2048) (V m c main_arg0) X) (hY : E3 (a := 4) (b := 2048) (c := 1024) (V m c main_arg1) Y) :
    E3 (a := 4) (b := 4096) (c := 1024) ((dats m 0 c).arrAt 2 cfg0.N) (G X Y) := by
  have h : (dats m 0 c).arrAt 2 cfg0.N = fun ι : S4x4096x1024.Idx => G X Y (ι 0).val (ι 1).val (ι 2).val := by
    refine (dats m 0 c).arrAt_eq_of_covers 2 _ (by decide +kernel) fun t hf y => ?_
    show (dats m 0 c).after 2 t y = G X Y (win0_2.index t 0 * 1 + 1 * (y 0).val) (win0_2.index t 1 * 1024 + 1 * (y 1).val) (win0_2.index t 2 * 1024 + 1 * (y 2).val)
    rw [after0_2, (at2 t).1, (at2 t).2.1, (at2 t).2.2, out_eq]
    refine (e_pay (e_iblk0 m c t hX) (e_iblk1 m c t hY) y).trans ?_
    have ht : t.val < 16 := t.isLt
    have y0 : (y 0).val < 1 := (y 0).isLt
    have y1 : (y 1).val < 1024 := (y 1).isLt
    have y2 : (y 2).val < 1024 := (y 2).isLt
    unfold G
    refine Finset.sum_congr rfl fun l hl => ?_
    rw [Finset.mem_range] at hl
    congr 2 <;> omega
  rw [h]
  exact fun ι => rfl
end

section
open Cert.GmlpInRefIdeal Cert.GmlpInRefIdeal.Gen

/-- The reference's result is the same function of the arguments. -/
theorem reference (x : FVec Ideal S1x4096x2048 .bf16) (y : FVec Ideal S4x2048x1024 .bf16) {X Y : ℕ → ℕ → ℕ → EReal}
    (hX : E3 (a := 1) (b := 4096) (c := 2048) x X) (hY : E3 (a := 4) (b := 2048) (c := 1024) y Y) :
    E3 (a := 4) (b := 4096) (c := 1024)
      (transpose S4x4096x1024 [0, 2, 1] (Host.dotGeneral (F := Ideal) dot_S4x2048x1024_S4096x2048_S4x1024x4096_1_1_02_0_n_n none (extf .f32 y bitsLt_bf16_f32) (extf .f32 (shapeCast _ x shapeCasts_S1x4096x2048_S4096x2048) bitsLt_bf16_f32)) transposes_S4x1024x4096_S4x4096x1024_0_2_1) (G X Y) :=
  (e_transpose021 (φ := .f32)
    (e_dot _ 2048 rfl rfl (fun l i j k => Y i l j) (fun l i j k => X 0 k l) (fun j k => hY _) (fun j k => e_drop (φ := .bf16) hX _ _)) _).congr
    fun i j k _ _ _ => Finset.sum_congr rfl fun l _ => mul_comm _ _
end

/-- The kernel's program runs and leaves its arguments as they were. -/
theorem frame_kernel : Cert.quiescent_GmlpIn (hGmlpIn := Cert.GmlpIn.Gen.facts) := fun m ρ _ => Cert.GmlpIn.Gen.frame m ρ

/-- So does its idealization. -/
theorem frame_ideal : Cert.quiescent_GmlpInIdeal (hGmlpInIdeal := Cert.GmlpInIdeal.Gen.facts) := fun m ρ _ => Cert.GmlpInIdeal.Gen.frame m ρ

/-- So does the reference. -/
theorem frame_reference : Cert.quiescent_GmlpInRefIdeal (hGmlpInRefIdeal := Cert.GmlpInRefIdeal.Gen.facts) := fun m ρ _ =>
  (θ_run Cert.GmlpInRefIdeal.defs _ _).mono (fun r h => ⟨fun c => (h c).2, Idealize.ShloMosaic.sem_eq_zero_of_no_sems (by decide) r.2⟩)
    (Cert.GmlpInRefIdeal.Value.run (F := Ideal) m ρ)

/-- From the same arguments the kernel and the reference leave the same result. -/
theorem algebraic : Cert.algebraic_GmlpInIdeal_GmlpInRefIdeal (hGmlpInIdeal := Cert.GmlpInIdeal.Gen.facts) (hGmlpInRefIdeal := Cert.GmlpInRefIdeal.Gen.facts) := fun m g m' g' _ hag => by
  refine ⟨fun c => (Cert.GmlpInIdeal.Gen.dats m 0 c).arrAt 2 Cert.GmlpInIdeal.cfg0.N, ?_, ?_⟩
  · exact Cert.GmlpInIdeal.Value.run_blocks m g
  · refine (θ_run Cert.GmlpInRefIdeal.defs _ _).mono (fun r h c => ⟨(h c).1.trans ?_, (h c).2⟩) (Cert.GmlpInRefIdeal.Value.run (F := Ideal) m' g')
    obtain ⟨X, hX⟩ := exists_E3 (a := 1) (b := 4096) (c := 2048) (m ((c.tc : Thread Cert.GmlpInIdeal.nD Cert.GmlpInIdeal.τ).loc Cert.GmlpInIdeal.main_arg0))
    obtain ⟨Y, hY⟩ := exists_E3 (a := 4) (b := 2048) (c := 1024) (m ((c.tc : Thread Cert.GmlpInIdeal.nD Cert.GmlpInIdeal.τ).loc Cert.GmlpInIdeal.main_arg1))
    rw [(hag c).1, (hag c).2]
    exact (reference _ _ hX hY).eq (final m c (by rw [Cert.GmlpInIdeal.Gen.V_main_arg0]; exact hX) (by rw [Cert.GmlpInIdeal.Gen.V_main_arg1]; exact hY))

end Cert.Stick.GmlpIn

end
-- ==== Proof.Ex3.lean ====
/- Further operations on arrays of extended reals: entry by entry, sums along one axis, and one row or one column repeated. -/
module

public import proofs.«01_k».proof.Proof.Ex2
public import Idealize.ShloMosaic.PureOps.Ideal.Laws

@[expose] public section

set_option maxRecDepth 16384

noncomputable section

namespace Cert.Stick

open Idealize.ShloMosaic Idealize.ShloMosaic.Updates
open Idealize.ShloMosaic.LaneScatter (Blk Vec1)
open scoped BigOperators

variable {a b c : ℕ} {φ ψ : FTy}

/-- The array of one axis holds `f`. -/
def E1 (x : (Vec1 a).Idx → EReal) (f : ℕ → EReal) : Prop := ∀ ι, x ι = f (ι 0).val

/-- Every array of two axes holds some function. -/
theorem exists_E2 (x : (Blk a b).Idx → EReal) : ∃ f, E2 x f := by
  classical
  refine ⟨fun j k => if h : j < a ∧ k < b then x (ValueIdx.ix2 ⟨j, h.1⟩ ⟨k, h.2⟩) else 0, E2.intro fun i j => ?_⟩
  show _ = dite _ _ _
  rw [dif_pos ⟨i.isLt, j.isLt⟩]

/-- Two arrays that hold the same function are equal. -/
theorem E2.eq {x y : (Blk a b).Idx → EReal} {f} (hx : E2 x f) (hy : E2 y f) : x = y := funext fun ι => (hx ι).trans (hy ι).symm

/-! ### Entry by entry -/

theorem e_mulf {x y : FVec Ideal (Blk a b) φ} {f g} (hx : E2 x f) (hy : E2 y g) : E2 (mulf x y) fun i j => f i j * g i j := fun ι => by
  show (x ι * y ι : EReal) = _; rw [hx ι, hy ι]

theorem e_subf {x y : FVec Ideal (Blk a b) φ} {f g} (hx : E2 x f) (hy : E2 y g) : E2 (subf x y) fun i j => f i j - g i j := fun ι => by
  show (x ι - y ι : EReal) = _; rw [hx ι, hy ι]

theorem e_divf {x y : FVec Ideal (Blk a b) .f32} {f g} (hx : E2 x f) (hy : E2 y g) : E2 (divf x y) fun i j => Ideal.div (f i j) (g i j) := fun ι => by
  show Ideal.div (x ι) (y ι) = _; rw [hx ι, hy ι]

theorem e_hdivf {x y : FVec Ideal (Blk a b) .f32} {f g} (hx : E2 x f) (hy : E2 y g) : E2 (Host.divf x y) fun i j => Ideal.div (f i j) (g i j) := fun ι => by
  show Ideal.div (x ι) (y ι) = _; rw [hx ι, hy ι]

theorem e_rsqrt {x : FVec Ideal (Blk a b) .f32} {f} (hx : E2 x f) : E2 (rsqrt x) fun i j => Ideal.rsqrt (f i j) := fun ι => by
  show Ideal.rsqrt (x ι) = _; rw [hx ι]

theorem e_hrsqrt {x : FVec Ideal (Blk a b) .f32} {f} (hx : E2 x f) : E2 (Host.rsqrt x) fun i j => Ideal.rsqrt (f i j) := fun ι => by
  show Ideal.rsqrt (x ι) = _; rw [hx ι]

/-- One number everywhere. -/
theorem e_const {x : (Blk a b).Idx → EReal} {v : EReal} (e : ∀ ι, x ι = v) : E2 x fun _ _ => v := e

/-- The host's scalar repeated over an array. -/
theorem e_hconst (v : BitVec 32) (h : (⟨0, ![]⟩ : Shape).BroadcastsInDim (Blk a b) ![]) :
    E2 (broadcastInDim (Blk a b) ![] h (constant (F := Ideal) ⟨0, ![]⟩ .f32 v)) fun _ _ => Ideal.ofBits .f32 v := fun ι => by
  rfl

/-! ### Sums along one axis -/

/-- The sums along the rows, as a column. -/
theorem e_rowSum {x : FVec Ideal (Blk a b) .f32} {f} (hx : E2 x f) (h : (Blk a b).Reduces [1] (Vec1 a)) (hφ : FKind.Formats .f32)
    (hacc : (0#32 : BitVec 32) = FKind.neutral .add .f32 hφ) (hc : (Vec1 a).ShapeCasts (Blk a 1)) :
    E2 (shapeCast (Blk a 1) (multiReduction .add [1] (Vec1 a) x 0x00000000#32 h hφ hacc) hc) fun i _ => ∑ j ∈ Finset.range b, f i j := fun ι => by
  show multiReduction .add [1] (Vec1 a) x 0x00000000#32 h hφ hacc (Shape.reshapeEquiv hc ι) = _
  have e : Shape.reshapeEquiv hc ι = (ValueIdx.ix1 (n := a) (ι 0) : (Vec1 a).Idx) :=
    Shape.reshapeEquiv_eq_of_rowMajor hc (by
      rw [Shape.rowMajor_val_one, Shape.rowMajor_val_two]
      have : (ι 1).val < 1 := (ι 1).isLt
      show (ι 0).val = (ι 0).val * 1 + (ι 1).val
      omega)
  rw [e, Ideal.multiReduction_add_single]
  show _ = ∑ j ∈ Finset.range b, f (ι 0).val j
  rw [Finset.sum_range]
  refine Finset.sum_congr rfl fun k _ => ?_
  rw [hx]
  rfl

/-- The sums along the columns, as a row. -/
theorem e_colSum {x : FVec Ideal (Blk a b) .f32} {f} (hx : E2 x f) (h : (Blk a b).Reduces [0] (Vec1 b)) (hφ : FKind.Formats .f32)
    (hacc : (0#32 : BitVec 32) = FKind.neutral .add .f32 hφ) (hc : (Vec1 b).ShapeCasts (Blk 1 b)) :
    E2 (shapeCast (Blk 1 b) (multiReduction .add [0] (Vec1 b) x 0x00000000#32 h hφ hacc) hc) fun _ j => ∑ i ∈ Finset.range a, f i j := fun ι => by
  show multiReduction .add [0] (Vec1 b) x 0x00000000#32 h hφ hacc (Shape.reshapeEquiv hc ι) = _
  have e : Shape.reshapeEquiv hc ι = (ValueIdx.ix1 (n := b) (ι 1) : (Vec1 b).Idx) :=
    Shape.reshapeEquiv_eq_of_rowMajor hc (by
      rw [Shape.rowMajor_val_one, Shape.rowMajor_val_two]
      have : (ι 0).val < 1 := (ι 0).isLt
      show (ι 1).val = (ι 0).val * b + (ι 1).val
      rw [show (ι 0).val = 0 by omega]
      omega)
  rw [e, Ideal.multiReduction_add_single]
  show _ = ∑ i ∈ Finset.range a, f i (ι 1).val
  rw [Finset.sum_range]
  refine Finset.sum_congr rfl fun k _ => ?_
  rw [hx]
  rfl

/-- The host's sums along the rows. -/
theorem e_hsum1 {x : FVec Ideal (Blk a b) .f32} {f} (hx : E2 x f) {u : Shape} {v : u.Idx → Ideal .f32} (h : (Blk a b).ReducesTo [1] (Vec1 a))
    (h' : (Blk a b).Reduces [1] (Vec1 a)) (hu : 0 < u.numel) (hv : ∀ ι, v ι = (0 : EReal)) :
    E1 (Host.reduceAdd x v h hu) fun i => ∑ j ∈ Finset.range b, f i j := fun ι => by
  show Ideal.hostReduceAdd h x (v (Shape.Idx.first hu)) ι = _
  rw [Ideal.hostReduceAdd_single h h', hv, zero_add]
  show _ = ∑ j ∈ Finset.range b, f (ι 0).val j
  rw [Finset.sum_range]
  refine Finset.sum_congr rfl fun k _ => ?_
  rw [hx]
  rfl

/-- The host's sums along the columns. -/
theorem e_hsum0 {x : FVec Ideal (Blk a b) .f32} {f} (hx : E2 x f) {u : Shape} {v : u.Idx → Ideal .f32} (h : (Blk a b).ReducesTo [0] (Vec1 b))
    (h' : (Blk a b).Reduces [0] (Vec1 b)) (hu : 0 < u.numel) (hv : ∀ ι, v ι = (0 : EReal)) :
    E1 (Host.reduceAdd x v h hu) fun j => ∑ i ∈ Finset.range a, f i j := fun ι => by
  show Ideal.hostReduceAdd h x (v (Shape.Idx.first hu)) ι = _
  rw [Ideal.hostReduceAdd_single h h', hv, zero_add]
  show _ = ∑ i ∈ Finset.range a, f i (ι 0).val
  rw [Finset.sum_range]
  refine Finset.sum_congr rfl fun k _ => ?_
  rw [hx]
  rfl

/-! ### One row or one column repeated -/

/-- A vector repeated along the rows. -/
theorem e1_rows {x : FVec Ideal (Vec1 a) φ} {f} (hx : E1 x f) (ha : a ≠ 1) (h : (Vec1 a).BroadcastsInDim (Blk a b) ![0]) :
    E2 (broadcastInDim (Blk a b) ![0] h x) fun i _ => f i := fun ι => by
  refine (broadcastInDim_apply _ h x ι (ValueIdx.ix1 (ι 0)) fun i => ?_).trans (hx _)
  match i with
  | ⟨0, _⟩ => exact (if_neg ha).symm

/-- A vector as a column. -/
theorem e1_col {x : FVec Ideal (Vec1 a) φ} {f} (hx : E1 x f) (h : (Vec1 a).ShapeCasts (Blk a 1)) : E2 (shapeCast (Blk a 1) x h) fun i _ => f i := E2.intro fun i j => by
  refine (shapeCast_apply x h _ (ValueIdx.ix1 i) ?_).trans (hx _)
  rw [Shape.rowMajor_val_one, Shape.rowMajor_val_two]
  show i.val = i.val * 1 + j.val
  omega

/-- A vector as a row. -/
theorem e1_row {x : FVec Ideal (Vec1 b) φ} {f} (hx : E1 x f) (h : (Vec1 b).ShapeCasts (Blk 1 b)) : E2 (shapeCast (Blk 1 b) x h) fun _ j => f j := E2.intro fun i j => by
  refine (shapeCast_apply x h _ (ValueIdx.ix1 j) ?_).trans (hx _)
  rw [Shape.rowMajor_val_one, Shape.rowMajor_val_two]
  show j.val = i.val * b + j.val
  rw [show i.val = 0 by omega]
  omega

/-- The host's column repeated along the rows. -/
theorem e_hcol {x : FVec Ideal (Blk a 1) φ} {f} (hx : E2 x f) (ha : a ≠ 1) (h : (Blk a 1).BroadcastsInDim (Blk a b) ![0, 1]) :
    E2 (broadcastInDim (Blk a b) ![0, 1] h x) fun i _ => f i 0 := fun ι => by
  refine (broadcastInDim_apply _ h x ι (ValueIdx.ix2 (ι 0) (0 : Fin 1)) fun i => ?_).trans (hx _)
  match i with
  | ⟨0, _⟩ => exact (if_neg ha).symm
  | ⟨1, _⟩ => rfl

/-- The host's row repeated along the columns. -/
theorem e_hrow {x : FVec Ideal (Blk 1 b) φ} {f} (hx : E2 x f) (hb : b ≠ 1) (h : (Blk 1 b).BroadcastsInDim (Blk a b) ![0, 1]) :
    E2 (broadcastInDim (Blk a b) ![0, 1] h x) fun _ j => f 0 j := fun ι => by
  refine (broadcastInDim_apply _ h x ι (ValueIdx.ix2 (0 : Fin 1) (ι 1)) fun i => ?_).trans (hx _)
  match i with
  | ⟨0, _⟩ => rfl
  | ⟨1, _⟩ => exact (if_neg hb).symm

/-- A column repeated along the rows. -/
theorem e_bcol {x : FVec Ideal (Blk a 1) φ} {f} (hx : E2 x f) (ha : a ≠ 1) (h : (Blk a 1).Broadcasts (Blk a b)) :
    E2 (broadcastTo (Blk a b) x h) fun i _ => f i 0 := fun ι => by
  show x _ = _
  rw [hx]
  have e1 : ∀ (z : (Blk a 1).Idx), (z 1).val = 0 := fun z => by have : (z 1).val < 1 := (z 1).isLt; omega
  simp only [e1]
  congr 1
  show (if h1 : (Blk a 1).size 0 = 1 then (⟨0, by omega⟩ : Fin ((Blk a 1).size 0)) else _).val = _
  rw [dif_neg (show ¬ (Blk a 1).size 0 = 1 from ha)]
  rfl

/-- A row repeated along the columns. -/
theorem e_brow {x : FVec Ideal (Blk 1 b) φ} {f} (hx : E2 x f) (hb : b ≠ 1) (h : (Blk 1 b).Broadcasts (Blk a b)) :
    E2 (broadcastTo (Blk a b) x h) fun _ j => f 0 j := fun ι => by
  show x _ = _
  rw [hx]
  have e0 : ∀ (z : (Blk 1 b).Idx), (z 0).val = 0 := fun z => by have : (z 0).val < 1 := (z 0).isLt; omega
  simp only [e0]
  congr 1
  show (if h1 : (Blk 1 b).size 1 = 1 then (⟨0, by omega⟩ : Fin ((Blk 1 b).size 1)) else _).val = _
  rw [dif_neg (show ¬ (Blk 1 b).size 1 = 1 from hb)]
  rfl

end Cert.Stick

end
-- ==== Proof.Norm.lean ====
/- The gradient of a root-mean-square norm, row by row, over the extended reals: the kernel's form and the form that
   differentiating the norm gives are equal, whatever the entries are. -/
module

public import Idealize.ShloMosaic.PureOps.Ideal
public import Idealize.ShloMosaic.Lib.Updates.Values
public import Mathlib.Analysis.SpecialFunctions.Log.Basic

@[expose] public section

noncomputable section

namespace Cert.Stick

open Idealize.ShloMosaic
open scoped BigOperators

/-- The row's length as the programs have it. -/
def cD : EReal := Ideal.ofBits .f32 0x45000000#32
/-- What is added to the mean square. -/
def cE : EReal := Ideal.ofBits .f32 0x358637BD#32
/-- Minus one half. -/
def cH : EReal := Ideal.ofBits .f32 0xBF000000#32

theorem cD_eq : cD = ((2048 : ℝ) : EReal) := by
  unfold cD
  simp [Ideal.ofBits, Ideal.ieee]
  rw [← EReal.coe_mul]
  norm_num

theorem cH_eq : cH = ((-(1 / 2) : ℝ) : EReal) := by
  unfold cH
  simp [Ideal.ofBits, Ideal.ieee]
  rw [← EReal.coe_mul]
  norm_num

theorem cE_eq : ∃ e : ℝ, 0 < e ∧ cE = (e : EReal) := by
  unfold cE
  simp [Ideal.ofBits, Ideal.ieee]
  exact ⟨8796093 * (2 ^ 43)⁻¹, by positivity, (EReal.coe_mul _ _).symm⟩

/-- The mean square of a row, and a little. -/
def ms (X : ℕ → ℕ → EReal) (i : ℕ) : EReal := Ideal.div (∑ j ∈ Finset.range 2048, X i j * X i j) cD + cE

/-- The factor that norms a row. -/
def nr (X : ℕ → ℕ → EReal) (i : ℕ) : EReal := Ideal.rsqrt (ms X i)

/-- The gradient of a row's norm, as the kernel has it: `Y` is the incoming gradient and `W` the norm's weight. -/
def dxN (X Y W : ℕ → ℕ → EReal) (i k : ℕ) : EReal :=
  nr X i * (Y i k * W 0 k - X i k * nr X i * Ideal.div (∑ j ∈ Finset.range 2048, Y i j * W 0 j * (X i j * nr X i)) cD)

/-- The weight's gradient. -/
def dgN (X Y : ℕ → ℕ → EReal) (n k : ℕ) : EReal := ∑ i ∈ Finset.range n, Y i k * (X i k * nr X i)

/-- The factor of a row in its gradient, as differentiating gives it. -/
def aN (X Y W : ℕ → ℕ → EReal) (i : ℕ) : EReal :=
  Ideal.div ((∑ j ∈ Finset.range 2048, X i j * (Y i j * W 0 j)) * (cH * Ideal.div (nr X i) (ms X i))) cD

theorem sq_nonneg' (x : EReal) : 0 ≤ x * x := by
  rcases le_total 0 x with h | h
  · exact mul_nonneg h h
  · have := mul_nonneg (EReal.neg_nonneg.2 h) (EReal.neg_nonneg.2 h)
    rwa [neg_mul, mul_neg, neg_neg] at this

/-- A mean square is infinite, or a positive number. -/
theorem ms_cases (X : ℕ → ℕ → EReal) (i : ℕ) : ms X i = ⊤ ∨ ∃ s : ℝ, 0 < s ∧ ms X i = (s : EReal) := by
  obtain ⟨e, he, hE⟩ := cE_eq
  have h0 : 0 ≤ ∑ j ∈ Finset.range 2048, X i j * X i j := Finset.sum_nonneg fun j _ => sq_nonneg' _
  unfold ms
  rw [hE, cD_eq, Ideal.div_coe (by norm_num)]
  generalize ∑ j ∈ Finset.range 2048, X i j * X i j = S at h0
  induction S with
  | bot => exact absurd h0 (by simp)
  | top =>
    left
    rw [EReal.top_mul_coe_of_pos (by norm_num), EReal.top_add_coe]
  | coe s =>
    right
    have hs : 0 ≤ s := EReal.coe_nonneg.1 h0
    exact ⟨s * (1 / 2048) + e, by positivity, by rw [EReal.coe_add, EReal.coe_mul]⟩

/-- A nonnegative number times a sum. -/
theorem coe_mul_sum (ρ : ℝ) (h : 0 ≤ ρ) (n : ℕ) (f : ℕ → EReal) : (ρ : EReal) * ∑ j ∈ Finset.range n, f j = ∑ j ∈ Finset.range n, (ρ : EReal) * f j := by
  induction n with
  | zero => simp
  | succ n ih =>
    rw [Finset.sum_range_succ, Finset.sum_range_succ, EReal.left_distrib_of_nonneg_of_ne_top (EReal.coe_nonneg.2 h) (EReal.coe_ne_top _), ih]

/-- Twice a negative multiple. -/
theorem neg_twice (k : ℝ) (h : 0 < k) (T : EReal) : ((-(1 / 2 * k) : ℝ) : EReal) * T + ((-(1 / 2 * k) : ℝ) : EReal) * T = -((k : EReal) * T) := by
  have hn : -(1 / 2 * k) < 0 := by linarith
  induction T with
  | bot => rw [EReal.coe_mul_bot_of_neg hn, EReal.coe_mul_bot_of_pos h]; rfl
  | top => rw [EReal.coe_mul_top_of_neg hn, EReal.coe_mul_top_of_pos h]; rfl
  | coe t =>
    rw [← EReal.coe_mul, ← EReal.coe_mul, ← EReal.coe_add, ← EReal.coe_neg]
    congr 1
    ring

/-- The two forms of the gradient of a row's norm are equal. -/
theorem norm_grad (X Y W : ℕ → ℕ → EReal) (i k : ℕ) :
    Y i k * W 0 k * nr X i + X i k * aN X Y W i + aN X Y W i * X i k = dxN X Y W i k := by
  have hcomm : ∑ j ∈ Finset.range 2048, X i j * (Y i j * W 0 j) = ∑ j ∈ Finset.range 2048, Y i j * W 0 j * X i j :=
    Finset.sum_congr rfl fun j _ => mul_comm _ _
  unfold dxN aN
  rw [hcomm]
  generalize hG : (fun j => Y i j * W 0 j) = G
  have hg : ∀ j, Y i j * W 0 j = G j := fun j => congrFun hG j
  simp only [hg]
  rcases ms_cases X i with h | ⟨s, hs, h⟩
  · have hr : nr X i = 0 := by unfold nr; rw [h]; rfl
    rw [hr, h]
    have hd : Ideal.div 0 ⊤ = 0 := by unfold Ideal.div; rw [if_neg (by simp), zero_mul]
    rw [hd, cD_eq, Ideal.div_coe (by norm_num)]
    simp
  · obtain ⟨ρ, hρ, hr, hd⟩ : ∃ ρ : ℝ, 0 < ρ ∧ nr X i = (ρ : EReal) ∧ Ideal.div (ρ : EReal) (s : EReal) = ((ρ * ρ * ρ : ℝ) : EReal) := by
      have hq : 0 < Real.sqrt s := Real.sqrt_pos.2 hs
      refine ⟨(Real.sqrt s)⁻¹, inv_pos.2 hq, ?_, ?_⟩
      · unfold nr
        rw [h, Ideal.rsqrt_coe, if_neg (not_lt.2 hs.le), if_neg hs.ne']
      · rw [Ideal.div_coe hs.ne', ← EReal.coe_mul]
        congr 1
        rw [mul_assoc, ← mul_inv, Real.mul_self_sqrt hs.le, one_div]
    rw [hr, h, hd, cD_eq, cH_eq, Ideal.div_coe (by norm_num), Ideal.div_coe (by norm_num)]
    have hsum : ∑ j ∈ Finset.range 2048, G j * (X i j * (ρ : EReal)) = (ρ : EReal) * ∑ j ∈ Finset.range 2048, G j * X i j := by
      rw [coe_mul_sum ρ hρ.le]
      exact Finset.sum_congr rfl fun j _ => by rw [← mul_assoc, mul_comm]
    rw [hsum]
    generalize ∑ j ∈ Finset.range 2048, G j * X i j = S
    have e1 : X i k * (S * (((-(1 / 2) : ℝ) : EReal) * ((ρ * ρ * ρ : ℝ) : EReal)) * ((1 / 2048 : ℝ) : EReal))
        = ((-(1 / 2 * (ρ * ρ * ρ * (1 / 2048))) : ℝ) : EReal) * (X i k * S) := by
      rw [show (-(1 / 2 * (ρ * ρ * ρ * (1 / 2048))) : ℝ) = -(1 / 2) * (ρ * ρ * ρ) * (1 / 2048) by ring]
      generalize ρ * ρ * ρ = q
      generalize (-(1 / 2) : ℝ) = h'
      rw [EReal.coe_mul, EReal.coe_mul]
      ac_rfl
    have e2 : X i k * (ρ : EReal) * ((ρ : EReal) * S * ((1 / 2048 : ℝ) : EReal)) * (ρ : EReal)
        = ((ρ * ρ * ρ * (1 / 2048) : ℝ) : EReal) * (X i k * S) := by
      rw [EReal.coe_mul, EReal.coe_mul, EReal.coe_mul]
      ac_rfl
    rw [mul_comm (S * _ * _) (X i k), e1, add_assoc, neg_twice _ (by positivity), ← e2, sub_eq_add_neg,
      EReal.left_distrib_of_nonneg_of_ne_top (EReal.coe_nonneg.2 hρ.le) (EReal.coe_ne_top _), mul_neg, mul_comm (ρ : EReal) (G k), mul_comm (ρ : EReal) (X i k * _ * _)]

end Cert.Stick

end
-- ==== Proof.DNormOut.lean ====
/- The gradient of the norm after a layer: what the kernel's run leaves, and that the reference leaves the same. -/
module

public import proofs.«01_k».proof.Defs
public import proofs.«01_k».proof.Proof.Ex3
public import proofs.«01_k».proof.Proof.Norm
public import proofs.«01_k».proof.Proof.Gen.DNormOut.Frame
public import proofs.«01_k».proof.Proof.Gen.DNormOutIdeal.Value
public import proofs.«01_k».proof.Proof.Gen.DNormOutRefIdeal.Run
public import Idealize.ShloMosaic.Lib.Pipeline.ValueKit
public import Idealize.ShloMosaic.Adequacy
public import Idealize.ShloMosaic.Init

@[expose] public section

set_option maxRecDepth 16384
set_option maxHeartbeats 4000000

noncomputable section

namespace Cert.Stick.DNormOut

open Idealize.ShloMosaic Idealize.ShloMosaic.TcCoe Idealize.ShloMosaic.Updates
open Idealize.ShloMosaic.LaneScatter (Blk Vec1)
open Idealize.ShloMosaic.Pipeline (Dat)
open scoped BigOperators

section
open Cert.DNormOutIdeal Cert.DNormOutIdeal.Gen

/-! ### Which block each point stages -/

theorem at0 : ∀ t : Fin cfg0.N, win0_0.index t 0 = t.val ∧ win0_0.index t 1 = 0 :=
  (by decide +kernel : ∀ t : Fin grid0.N, win0_0.index t 0 = t.val ∧ win0_0.index t 1 = 0)
theorem at1 : ∀ t : Fin cfg0.N, win0_1.index t 0 = t.val ∧ win0_1.index t 1 = 0 :=
  (by decide +kernel : ∀ t : Fin grid0.N, win0_1.index t 0 = t.val ∧ win0_1.index t 1 = 0)
theorem at2 : ∀ t : Fin cfg0.N, win0_2.index t 0 = 0 ∧ win0_2.index t 1 = 0 :=
  (by decide +kernel : ∀ t : Fin grid0.N, win0_2.index t 0 = 0 ∧ win0_2.index t 1 = 0)
theorem at3 : ∀ t : Fin cfg0.N, win0_3.index t 0 = t.val ∧ win0_3.index t 1 = 0 :=
  (by decide +kernel : ∀ t : Fin grid0.N, win0_3.index t 0 = t.val ∧ win0_3.index t 1 = 0)
theorem at4 : ∀ t : Fin cfg0.N, win0_4.index t 0 = 0 ∧ win0_4.index t 1 = 0 :=
  (by decide +kernel : ∀ t : Fin grid0.N, win0_4.index t 0 = 0 ∧ win0_4.index t 1 = 0)

variable (m : (ℓ : Loc nD τ sig) → Buf (Elt Ideal) ℓ) (c : Dev nD) {Y X W : ℕ → ℕ → EReal}

theorem e_iblk0 (t : Fin cfg0.N) (h : E2 (a := 4096) (b := 2048) (V m c main_arg0) Y) :
    E2 (a := 512) (b := 2048) (iblk m c 0 t) fun i j => Y (512 * t.val + i) j := fun ι => by
  unfold iblk
  rw [View.read_apply]
  refine (h _).trans ?_
  show Y (win0_0.index t 0 * 512 + 1 * (ι 0).val) (win0_0.index t 1 * 2048 + 1 * (ι 1).val) = _
  rw [(at0 t).1, (at0 t).2]
  congr 1 <;> omega

theorem e_iblk1 (t : Fin cfg0.N) (h : E2 (a := 4096) (b := 2048) (V m c main_arg1) X) :
    E2 (a := 512) (b := 2048) (iblk m c 1 t) fun i j => X (512 * t.val + i) j := fun ι => by
  unfold iblk
  rw [View.read_apply]
  refine (h _).trans ?_
  show X (win0_1.index t 0 * 512 + 1 * (ι 0).val) (win0_1.index t 1 * 2048 + 1 * (ι 1).val) = _
  rw [(at1 t).1, (at1 t).2]
  congr 1 <;> omega

theorem e_iblk2 (t : Fin cfg0.N) (h : E2 (a := 1) (b := 2048) (V m c main_arg2) W) : E2 (a := 1) (b := 2048) (iblk m c 2 t) W := fun ι => by
  unfold iblk
  rw [View.read_apply]
  refine (h _).trans ?_
  show W (win0_2.index t 0 * 1 + 1 * (ι 0).val) (win0_2.index t 1 * 2048 + 1 * (ι 1).val) = _
  rw [(at2 t).1, (at2 t).2]
  congr 1 <;> omega

/-! ### What the body leaves at one point -/

theorem e_pay2 {vx : Vec Ideal S512x2048 .f32} (hx : E2 (a := 512) (b := 2048) vx X) : E2 (a := 512) (b := 1) (k0_pay2 (F := Ideal) vx) fun i _ => nr X i :=
  e_rsqrt (e_addf (e_divf (e_rowSum (e_mulf (φ := .f32) hx hx) _ _ _ _) (e_const fun _ => rfl)) (e_const fun _ => rfl))

theorem e_pay3 {vx : Vec Ideal S512x2048 .f32} (hx : E2 (a := 512) (b := 2048) vx X) : E2 (a := 512) (b := 2048) (k0_pay3 (F := Ideal) vx) fun i k => X i k * nr X i :=
  e_mulf (φ := .f32) hx (e_bcol (φ := .f32) (e_pay2 hx) (by decide) _)

/-- The first result's block: each row's gradient. -/
theorem e_pay4 {vx : Vec Ideal S512x2048 .f32} {vy : Vec Ideal S512x2048 .f32} {vw : Vec Ideal S1x2048 .f32}
    (hx : E2 (a := 512) (b := 2048) vx X) (hy : E2 (a := 512) (b := 2048) vy Y) (hw : E2 (a := 1) (b := 2048) vw W) :
    E2 (a := 512) (b := 2048) (k0_pay4 (F := Ideal) vx vw vy) fun i k => dxN X Y W i k :=
  e_truncf (φ := .f32) (ψ := .bf16) (e_mulf (φ := .f32) (e_bcol (φ := .f32) (e_pay2 hx) (by decide) _) (e_subf (φ := .f32) (e_mulf (φ := .f32) hy (e_brow (φ := .f32) hw (by decide) _))
    (e_mulf (φ := .f32) (e_pay3 hx) (e_bcol (φ := .f32) (e_divf (e_rowSum (e_mulf (φ := .f32) (e_mulf (φ := .f32) hy (e_brow (φ := .f32) hw (by decide) _)) (e_pay3 hx)) _ _ _ _)
      (e_const fun _ => rfl)) (by decide) _)))) bitsLt_bf16_f32

/-- The second result's block: what it held, and the sum over the block's rows. -/
theorem e_pay5 {vx : Vec Ideal S512x2048 .f32} {vy : Vec Ideal S512x2048 .f32} {vs : Vec Ideal S1x2048 .f32} {s : ℕ → ℕ → EReal}
    (hx : E2 (a := 512) (b := 2048) vx X) (hy : E2 (a := 512) (b := 2048) vy Y) (hs : E2 (a := 1) (b := 2048) vs s) :
    E2 (a := 1) (b := 2048) (k0_pay5 (F := Ideal) vx vy vs) fun i k => s i k + dgN X Y 512 k :=
  e_addf (e_self (φ := .f32) hs _) (e_colSum (e_mulf (φ := .f32) hy (e_pay3 hx)) _ _ _ _)

/-- The block of the first result that a point stores. -/
theorem rows (hY : E2 (a := 4096) (b := 2048) (V m c main_arg0) Y) (hX : E2 (a := 4096) (b := 2048) (V m c main_arg1) X) (hW : E2 (a := 1) (b := 2048) (V m c main_arg2) W) (t : Fin cfg0.N) :
    E2 (a := 512) (b := 2048) (outsAt0 m c t.val t.isLt).1 fun i k => dxN X Y W (512 * t.val + i) k := by
  by_cases h0 : t.val % 8 = 0
  · rw [outsAt0_A m c t h0]
    frame_out
    exact e_pay4 (e_iblk1 m c t hX) (e_iblk0 m c t hY) (e_iblk2 m c t hW)
  · rw [outsAt0_B m c t h0]
    frame_out
    exact e_pay4 (e_iblk1 m c t hX) (e_iblk0 m c t hY) (e_iblk2 m c t hW)

/-- The second result after each point: the sum over the rows so far. -/
theorem acc (hY : E2 (a := 4096) (b := 2048) (V m c main_arg0) Y) (hX : E2 (a := 4096) (b := 2048) (V m c main_arg1) X) (n : ℕ) : ∀ h : n < cfg0.N,
    E2 (a := 1) (b := 2048) (outsAt0 m c n h).2 fun _ k => dgN X Y (512 * (n + 1)) k := by
  have step : ∀ (n k : ℕ), dgN X Y (512 * n) k + dgN (fun i j => X (512 * n + i) j) (fun i j => Y (512 * n + i) j) 512 k = dgN X Y (512 * (n + 1)) k := fun n k => by
    unfold dgN
    rw [show 512 * (n + 1) = 512 * n + 512 by omega, Finset.sum_range_add]
    rfl
  induction n with
  | zero =>
    intro h
    rw [show outsAt0 m c 0 h = _ from outsAt0_A m c ⟨0, h⟩ rfl]
    frame_out
    refine (e_pay5 (e_iblk1 m c ⟨0, h⟩ hX) (e_iblk0 m c ⟨0, h⟩ hY) (s := fun _ _ => 0) (e_const fun _ => Ideal.ofBits_zero_f32)).congr fun i k _ _ => ?_
    rw [← step 0 k]
    show _ = dgN X Y 0 k + _
    rw [show dgN X Y 0 k = 0 from Finset.sum_range_zero _]
  | succ n ih =>
    intro h
    have h8 : n + 1 < 8 := h
    rw [show outsAt0 m c (n + 1) h = _ from outsAt0_B m c ⟨n + 1, h⟩ (by show ¬(n + 1) % 8 = 0; omega)]
    frame_out
    refine (e_pay5 (e_iblk1 m c ⟨n + 1, h⟩ hX) (e_iblk0 m c ⟨n + 1, h⟩ hY) (ih (by omega))).congr fun i k _ _ => ?_
    exact step (n + 1) k

/-- The kernel's first result after the run. -/
theorem final1 (hY : E2 (a := 4096) (b := 2048) (V m c main_arg0) Y) (hX : E2 (a := 4096) (b := 2048) (V m c main_arg1) X) (hW : E2 (a := 1) (b := 2048) (V m c main_arg2) W) :
    E2 (a := 4096) (b := 2048) ((dats m 0 c).arrAt 3 cfg0.N) fun i k => dxN X Y W i k := by
  have h : (dats m 0 c).arrAt 3 cfg0.N = fun ι : S4096x2048.Idx => (fun i k => dxN X Y W i k : ℕ → ℕ → EReal) (ι 0).val (ι 1).val := by
    refine (dats m 0 c).arrAt_eq_of_covers 3 _ (by decide +kernel) fun t hf z => ?_
    show (dats m 0 c).after 3 t z = (fun i k => dxN X Y W i k : ℕ → ℕ → EReal) (win0_3.index t 0 * 512 + 1 * (z 0).val) (win0_3.index t 1 * 2048 + 1 * (z 1).val)
    rw [after0_3, (at3 t).1, (at3 t).2]
    refine (rows m c hY hX hW t z).trans ?_
    rw [show t.val * 512 + 1 * (z 0).val = 512 * t.val + (z 0).val by omega, show 0 * 2048 + 1 * (z 1).val = (z 1).val by omega]
  rw [h]
  exact fun ι => rfl

/-- The kernel's second result after the run. -/
theorem final2 (hY : E2 (a := 4096) (b := 2048) (V m c main_arg0) Y) (hX : E2 (a := 4096) (b := 2048) (V m c main_arg1) X) :
    E2 (a := 1) (b := 2048) ((dats m 0 c).arrAt 4 cfg0.N) fun _ k => dgN X Y 4096 k := by
  have h : (dats m 0 c).arrAt 4 cfg0.N = fun ι : S1x2048.Idx => dgN X Y 4096 (ι 1).val := by
    refine (dats m 0 c).arrAt_eq_of_covers 4 _ (by decide +kernel) fun t hf z => ?_
    show (dats m 0 c).after 4 t z = dgN X Y 4096 (win0_4.index t 1 * 2048 + 1 * (z 1).val)
    rw [after0_4, (at4 t).2]
    refine (acc m c hY hX t.val t.isLt z).trans ?_
    have h7 := (flush0_4 t).mp hf
    have ht : t.val < 8 := t.isLt
    rw [show 512 * (t.val + 1) = 4096 by omega, show 0 * 2048 + 1 * (z 1).val = (z 1).val by omega]
  rw [h]
  exact fun ι => rfl
end

section
open Cert.DNormOutRefIdeal Cert.DNormOutRefIdeal.Gen

/-- The reference's first result is the same function of the arguments. -/
theorem reference1 (y : FVec Ideal S4096x2048 .f32) (x : FVec Ideal S4096x2048 .f32) (w : FVec Ideal S1x2048 .f32) {Y X W : ℕ → ℕ → EReal}
    (hY : E2 (a := 4096) (b := 2048) y Y) (hX : E2 (a := 4096) (b := 2048) x X) (hW : E2 (a := 1) (b := 2048) w W) :
    E2 (a := 4096) (b := 2048)
      (truncf .bf16 (addf (addf (mulf (mulf y (broadcastInDim S4096x2048 ![0, 1] bcast_S1x2048_S4096x2048_0_1 w)) (broadcastInDim S4096x2048 ![0, 1] bcast_S4096x1_S4096x2048_0_1 (Host.rsqrt (addf (Host.divf (broadcastInDim S4096x1 ![0] bcast_S4096_S4096x1_0 (Host.reduceAdd (mulf x x) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (mulf x (broadcastInDim S4096x2048 ![0] bcast_S4096_S4096x2048_0 (Host.reduceAdd (Host.divf (mulf (shapeCast _ (Host.reduceAdd (mulf x (mulf y (broadcastInDim S4096x2048 ![0, 1] bcast_S1x2048_S4096x2048_0_1 w))) (constant S_ .f32 0x00000000#32) reducesTo_S4096x2048_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf x x) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))) (addf (Host.divf (broadcastInDim S4096x1 ![0] bcast_S4096_S4096x1_0 (Host.reduceAdd (mulf x x) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (broadcastInDim S4096x1 ![] bcast_S_S4096x1 (constant S_ .f32 0x45000000#32))) (constant S_ .f32 0x00000000#32) reducesTo_S4096x1_S4096_d1 h_S_)))) (mulf (broadcastInDim S4096x2048 ![0] bcast_S4096_S4096x2048_0 (Host.reduceAdd (Host.divf (mulf (shapeCast _ (Host.reduceAdd (mulf x (mulf y (broadcastInDim S4096x2048 ![0, 1] bcast_S1x2048_S4096x2048_0_1 w))) (constant S_ .f32 0x00000000#32) reducesTo_S4096x2048_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf x x) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))) (addf (Host.divf (broadcastInDim S4096x1 ![0] bcast_S4096_S4096x1_0 (Host.reduceAdd (mulf x x) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (broadcastInDim S4096x1 ![] bcast_S_S4096x1 (constant S_ .f32 0x45000000#32))) (constant S_ .f32 0x00000000#32) reducesTo_S4096x1_S4096_d1 h_S_)) x)) bitsLt_bf16_f32) fun i k => dxN X Y W i k := by
  have hms := e_addf (e_hdivf (e1_rows (φ := .f32) (e_hsum1 (e_mulf (φ := .f32) hX hX) reducesTo_S4096x2048_S4096_d1 (by decide) (v := constant (F := Ideal) S_ .f32 0x00000000#32) h_S_ fun _ => Ideal.ofBits_zero_f32) (by decide) bcast_S4096_S4096x1_0)
    (e_hconst 0x45000000#32 bcast_S_S4096x1)) (e_hconst 0x358637BD#32 bcast_S_S4096x1)
  have hr := e_hrsqrt hms
  have hgy := e_mulf (φ := .f32) hY (e_hrow (a := 4096) (φ := .f32) hW (by decide) bcast_S1x2048_S4096x2048_0_1)
  have hA := e1_rows (b := 2048) (φ := .f32) (e_hsum1 (e_hdivf (e_mulf (φ := .f32) (e1_col (φ := .f32)
      (e_hsum1 (e_mulf (φ := .f32) hX hgy) reducesTo_S4096x2048_S4096_d1 (by decide) (v := constant (F := Ideal) S_ .f32 0x00000000#32) h_S_ fun _ => Ideal.ofBits_zero_f32) shapeCasts_S4096_S4096x1)
    (e_mulf (φ := .f32) (e_hconst 0xBF000000#32 bcast_S_S4096x1) (e_hdivf hr hms))) (e_hconst 0x45000000#32 bcast_S_S4096x1))
    reducesTo_S4096x1_S4096_d1 (by decide) (v := constant (F := Ideal) S_ .f32 0x00000000#32) h_S_ fun _ => Ideal.ofBits_zero_f32) (by decide) bcast_S4096_S4096x2048_0
  have hA' := hA.congr fun i k _ _ => (Finset.sum_range_one _ : _ = aN X Y W i)
  exact e_truncf (φ := .f32) (ψ := .bf16) ((e_addf (e_addf (e_mulf (φ := .f32) hgy (e_hcol (φ := .f32) hr (by decide) bcast_S4096x1_S4096x2048_0_1)) (e_mulf (φ := .f32) hX hA')) (e_mulf (φ := .f32) hA' hX)).congr
    fun i k _ _ => norm_grad X Y W i k) bitsLt_bf16_f32

/-- So is its second result. -/
theorem reference2 (y : FVec Ideal S4096x2048 .f32) (x : FVec Ideal S4096x2048 .f32) {X Y : ℕ → ℕ → EReal}
    (hY : E2 (a := 4096) (b := 2048) y Y) (hX : E2 (a := 4096) (b := 2048) x X) :
    E2 (a := 1) (b := 2048)
      (shapeCast _ (Host.reduceAdd (mulf (mulf x (broadcastInDim S4096x2048 ![0, 1] bcast_S4096x1_S4096x2048_0_1 (Host.rsqrt (addf (Host.divf (broadcastInDim S4096x1 ![0] bcast_S4096_S4096x1_0 (Host.reduceAdd (mulf x x) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) y) (constant S_ .f32 0x00000000#32) reducesTo_S4096x2048_S2048_d0 h_S_) shapeCasts_S2048_S1x2048) fun _ k => dgN X Y 4096 k := by
  have hms := e_addf (e_hdivf (e1_rows (φ := .f32) (e_hsum1 (e_mulf (φ := .f32) hX hX) reducesTo_S4096x2048_S4096_d1 (by decide) (v := constant (F := Ideal) S_ .f32 0x00000000#32) h_S_ fun _ => Ideal.ofBits_zero_f32) (by decide) bcast_S4096_S4096x1_0)
    (e_hconst 0x45000000#32 bcast_S_S4096x1)) (e_hconst 0x358637BD#32 bcast_S_S4096x1)
  have hr := e_hrsqrt hms
  exact (e1_row (φ := .f32) (e_hsum0 (e_mulf (φ := .f32) (e_mulf (φ := .f32) hX (e_hcol (φ := .f32) hr (by decide) bcast_S4096x1_S4096x2048_0_1)) hY)
    reducesTo_S4096x2048_S2048_d0 (by decide) (v := constant (F := Ideal) S_ .f32 0x00000000#32) h_S_ fun _ => Ideal.ofBits_zero_f32) shapeCasts_S2048_S1x2048).congr
    fun i k _ _ => Finset.sum_congr rfl fun l _ => mul_comm _ _
end

/-- The kernel's program runs and leaves its arguments as they were. -/
theorem frame_kernel : Cert.quiescent_DNormOut (hDNormOut := Cert.DNormOut.Gen.facts) := fun m ρ _ => Cert.DNormOut.Gen.frame m ρ

/-- So does its idealization. -/
theorem frame_ideal : Cert.quiescent_DNormOutIdeal (hDNormOutIdeal := Cert.DNormOutIdeal.Gen.facts) := fun m ρ _ => Cert.DNormOutIdeal.Gen.frame m ρ

/-- So does the reference. -/
theorem frame_reference : Cert.quiescent_DNormOutRefIdeal (hDNormOutRefIdeal := Cert.DNormOutRefIdeal.Gen.facts) := fun m ρ _ =>
  (θ_run Cert.DNormOutRefIdeal.defs _ _).mono (fun r h => ⟨fun c => (h c).2.2, Idealize.ShloMosaic.sem_eq_zero_of_no_sems (by decide) r.2⟩)
    (Cert.DNormOutRefIdeal.Value.run (F := Ideal) m ρ)

/-- From the same arguments the kernel and the reference leave the same results. -/
theorem algebraic : Cert.algebraic_DNormOutIdeal_DNormOutRefIdeal (hDNormOutIdeal := Cert.DNormOutIdeal.Gen.facts) (hDNormOutRefIdeal := Cert.DNormOutRefIdeal.Gen.facts) := fun m g m' g' _ hag => by
  refine ⟨fun c => (Cert.DNormOutIdeal.Gen.dats m 0 c).arrAt 3 Cert.DNormOutIdeal.cfg0.N, fun c => (Cert.DNormOutIdeal.Gen.dats m 0 c).arrAt 4 Cert.DNormOutIdeal.cfg0.N, ?_, ?_⟩
  · exact Cert.DNormOutIdeal.Value.run_blocks m g
  · refine (θ_run Cert.DNormOutRefIdeal.defs _ _).mono (fun r h c => ⟨(h c).1.trans ?_, (h c).2.1.trans ?_, (h c).2.2⟩) (Cert.DNormOutRefIdeal.Value.run (F := Ideal) m' g')
    · obtain ⟨Y, hY⟩ := exists_E2 (a := 4096) (b := 2048) (m ((c.tc : Thread Cert.DNormOutIdeal.nD Cert.DNormOutIdeal.τ).loc Cert.DNormOutIdeal.main_arg0))
      obtain ⟨X, hX⟩ := exists_E2 (a := 4096) (b := 2048) (m ((c.tc : Thread Cert.DNormOutIdeal.nD Cert.DNormOutIdeal.τ).loc Cert.DNormOutIdeal.main_arg1))
      obtain ⟨W, hW⟩ := exists_E2 (a := 1) (b := 2048) (m ((c.tc : Thread Cert.DNormOutIdeal.nD Cert.DNormOutIdeal.τ).loc Cert.DNormOutIdeal.main_arg2))
      rw [(hag c).1, (hag c).2.1, (hag c).2.2]
      exact (reference1 _ _ _ hY hX hW).eq (final1 m c (by rw [Cert.DNormOutIdeal.Gen.V_main_arg0]; exact hY) (by rw [Cert.DNormOutIdeal.Gen.V_main_arg1]; exact hX) (by rw [Cert.DNormOutIdeal.Gen.V_main_arg2]; exact hW))
    · obtain ⟨Y, hY⟩ := exists_E2 (a := 4096) (b := 2048) (m ((c.tc : Thread Cert.DNormOutIdeal.nD Cert.DNormOutIdeal.τ).loc Cert.DNormOutIdeal.main_arg0))
      obtain ⟨X, hX⟩ := exists_E2 (a := 4096) (b := 2048) (m ((c.tc : Thread Cert.DNormOutIdeal.nD Cert.DNormOutIdeal.τ).loc Cert.DNormOutIdeal.main_arg1))
      obtain ⟨W, hW⟩ := exists_E2 (a := 1) (b := 2048) (m ((c.tc : Thread Cert.DNormOutIdeal.nD Cert.DNormOutIdeal.τ).loc Cert.DNormOutIdeal.main_arg2))
      rw [(hag c).1, (hag c).2.1]
      exact (reference2 _ _ hY hX).eq (final2 m c (by rw [Cert.DNormOutIdeal.Gen.V_main_arg0]; exact hY) (by rw [Cert.DNormOutIdeal.Gen.V_main_arg1]; exact hX))

end Cert.Stick.DNormOut

end
-- ==== Proof.DNormIn.lean ====
/- The gradient of the norm before a layer, added to the gradient that passes it by: what the kernel's run leaves, and that the reference leaves the same. -/
module

public import proofs.«01_k».proof.Defs
public import proofs.«01_k».proof.Proof.Ex3
public import proofs.«01_k».proof.Proof.Norm
public import proofs.«01_k».proof.Proof.Gen.DNormIn.Frame
public import proofs.«01_k».proof.Proof.Gen.DNormInIdeal.Value
public import proofs.«01_k».proof.Proof.Gen.DNormInRefIdeal.Run
public import Idealize.ShloMosaic.Lib.Pipeline.ValueKit
public import Idealize.ShloMosaic.Adequacy
public import Idealize.ShloMosaic.Init

@[expose] public section

set_option maxRecDepth 16384
set_option maxHeartbeats 4000000

noncomputable section

namespace Cert.Stick.DNormIn

open Idealize.ShloMosaic Idealize.ShloMosaic.TcCoe Idealize.ShloMosaic.Updates
open Idealize.ShloMosaic.LaneScatter (Blk Vec1)
open Idealize.ShloMosaic.Pipeline (Dat)
open scoped BigOperators

section
open Cert.DNormInIdeal Cert.DNormInIdeal.Gen

/-! ### Which block each point stages -/

theorem at0 : ∀ t : Fin cfg0.N, win0_0.index t 0 = t.val ∧ win0_0.index t 1 = 0 :=
  (by decide +kernel : ∀ t : Fin grid0.N, win0_0.index t 0 = t.val ∧ win0_0.index t 1 = 0)
theorem at1 : ∀ t : Fin cfg0.N, win0_1.index t 0 = t.val ∧ win0_1.index t 1 = 0 :=
  (by decide +kernel : ∀ t : Fin grid0.N, win0_1.index t 0 = t.val ∧ win0_1.index t 1 = 0)
theorem at2 : ∀ t : Fin cfg0.N, win0_2.index t 0 = t.val ∧ win0_2.index t 1 = 0 :=
  (by decide +kernel : ∀ t : Fin grid0.N, win0_2.index t 0 = t.val ∧ win0_2.index t 1 = 0)
theorem at3 : ∀ t : Fin cfg0.N, win0_3.index t 0 = 0 ∧ win0_3.index t 1 = 0 :=
  (by decide +kernel : ∀ t : Fin grid0.N, win0_3.index t 0 = 0 ∧ win0_3.index t 1 = 0)
theorem at4 : ∀ t : Fin cfg0.N, win0_4.index t 0 = t.val ∧ win0_4.index t 1 = 0 :=
  (by decide +kernel : ∀ t : Fin grid0.N, win0_4.index t 0 = t.val ∧ win0_4.index t 1 = 0)
theorem at5 : ∀ t : Fin cfg0.N, win0_5.index t 0 = 0 ∧ win0_5.index t 1 = 0 :=
  (by decide +kernel : ∀ t : Fin grid0.N, win0_5.index t 0 = 0 ∧ win0_5.index t 1 = 0)

variable (m : (ℓ : Loc nD τ sig) → Buf (Elt Ideal) ℓ) (c : Dev nD) {O X Y W : ℕ → ℕ → EReal}

theorem e_iblk0 (t : Fin cfg0.N) (h : E2 (a := 4096) (b := 2048) (V m c main_arg0) O) :
    E2 (a := 512) (b := 2048) (iblk m c 0 t) fun i j => O (512 * t.val + i) j := fun ι => by
  unfold iblk
  rw [View.read_apply]
  refine (h _).trans ?_
  show O (win0_0.index t 0 * 512 + 1 * (ι 0).val) (win0_0.index t 1 * 2048 + 1 * (ι 1).val) = _
  rw [(at0 t).1, (at0 t).2]
  congr 1 <;> omega

theorem e_iblk1 (t : Fin cfg0.N) (h : E2 (a := 4096) (b := 2048) (V m c main_arg1) X) :
    E2 (a := 512) (b := 2048) (iblk m c 1 t) fun i j => X (512 * t.val + i) j := fun ι => by
  unfold iblk
  rw [View.read_apply]
  refine (h _).trans ?_
  show X (win0_1.index t 0 * 512 + 1 * (ι 0).val) (win0_1.index t 1 * 2048 + 1 * (ι 1).val) = _
  rw [(at1 t).1, (at1 t).2]
  congr 1 <;> omega

theorem e_iblk2 (t : Fin cfg0.N) (h : E2 (a := 4096) (b := 2048) (V m c main_arg2) Y) :
    E2 (a := 512) (b := 2048) (iblk m c 2 t) fun i j => Y (512 * t.val + i) j := fun ι => by
  unfold iblk
  rw [View.read_apply]
  refine (h _).trans ?_
  show Y (win0_2.index t 0 * 512 + 1 * (ι 0).val) (win0_2.index t 1 * 2048 + 1 * (ι 1).val) = _
  rw [(at2 t).1, (at2 t).2]
  congr 1 <;> omega

theorem e_iblk3 (t : Fin cfg0.N) (h : E2 (a := 1) (b := 2048) (V m c main_arg3) W) : E2 (a := 1) (b := 2048) (iblk m c 3 t) W := fun ι => by
  unfold iblk
  rw [View.read_apply]
  refine (h _).trans ?_
  show W (win0_3.index t 0 * 1 + 1 * (ι 0).val) (win0_3.index t 1 * 2048 + 1 * (ι 1).val) = _
  rw [(at3 t).1, (at3 t).2]
  congr 1 <;> omega

/-! ### What the body leaves at one point -/

theorem e_pay2 {vx : Vec Ideal S512x2048 .f32} (hx : E2 (a := 512) (b := 2048) vx X) : E2 (a := 512) (b := 1) (k0_pay2 (F := Ideal) vx) fun i _ => nr X i :=
  e_rsqrt (e_addf (e_divf (e_rowSum (e_mulf (φ := .f32) hx hx) _ _ _ _) (e_const fun _ => rfl)) (e_const fun _ => rfl))

theorem e_pay3 {vx : Vec Ideal S512x2048 .f32} (hx : E2 (a := 512) (b := 2048) vx X) : E2 (a := 512) (b := 2048) (k0_pay3 (F := Ideal) vx) fun i k => X i k * nr X i :=
  e_mulf (φ := .f32) hx (e_bcol (φ := .f32) (e_pay2 hx) (by decide) _)

/-- The first result's block: each row's gradient. -/
theorem e_pay4 {O : ℕ → ℕ → EReal} {vo : Vec Ideal S512x2048 .f32} (ho : E2 (a := 512) (b := 2048) vo O) {vx : Vec Ideal S512x2048 .f32} {vy : Vec Ideal S512x2048 .f32} {vw : Vec Ideal S1x2048 .f32}
    (hx : E2 (a := 512) (b := 2048) vx X) (hy : E2 (a := 512) (b := 2048) vy Y) (hw : E2 (a := 1) (b := 2048) vw W) :
    E2 (a := 512) (b := 2048) (k0_pay4 (F := Ideal) vx vo vy vw) fun i k => O i k + dxN X Y W i k :=
  e_addf ho (e_mulf (φ := .f32) (e_bcol (φ := .f32) (e_pay2 hx) (by decide) _) (e_subf (φ := .f32) (e_mulf (φ := .f32) hy (e_brow (φ := .f32) hw (by decide) _))
    (e_mulf (φ := .f32) (e_pay3 hx) (e_bcol (φ := .f32) (e_divf (e_rowSum (e_mulf (φ := .f32) (e_mulf (φ := .f32) hy (e_brow (φ := .f32) hw (by decide) _)) (e_pay3 hx)) _ _ _ _)
      (e_const fun _ => rfl)) (by decide) _))))

/-- The second result's block: what it held, and the sum over the block's rows. -/
theorem e_pay5 {vx : Vec Ideal S512x2048 .f32} {vy : Vec Ideal S512x2048 .f32} {vs : Vec Ideal S1x2048 .f32} {s : ℕ → ℕ → EReal}
    (hx : E2 (a := 512) (b := 2048) vx X) (hy : E2 (a := 512) (b := 2048) vy Y) (hs : E2 (a := 1) (b := 2048) vs s) :
    E2 (a := 1) (b := 2048) (k0_pay5 (F := Ideal) vx vy vs) fun i k => s i k + dgN X Y 512 k :=
  e_addf (e_self (φ := .f32) hs _) (e_colSum (e_mulf (φ := .f32) hy (e_pay3 hx)) _ _ _ _)

/-- The block of the first result that a point stores. -/
theorem rows (hO : E2 (a := 4096) (b := 2048) (V m c main_arg0) O) (hX : E2 (a := 4096) (b := 2048) (V m c main_arg1) X) (hY : E2 (a := 4096) (b := 2048) (V m c main_arg2) Y) (hW : E2 (a := 1) (b := 2048) (V m c main_arg3) W) (t : Fin cfg0.N) :
    E2 (a := 512) (b := 2048) (outsAt0 m c t.val t.isLt).1 fun i k => O (512 * t.val + i) k + dxN X Y W (512 * t.val + i) k := by
  by_cases h0 : t.val % 8 = 0
  · rw [outsAt0_A m c t h0]
    frame_out
    exact e_pay4 (e_iblk0 m c t hO) (e_iblk1 m c t hX) (e_iblk2 m c t hY) (e_iblk3 m c t hW)
  · rw [outsAt0_B m c t h0]
    frame_out
    exact e_pay4 (e_iblk0 m c t hO) (e_iblk1 m c t hX) (e_iblk2 m c t hY) (e_iblk3 m c t hW)

/-- The second result after each point: the sum over the rows so far. -/
theorem acc (hX : E2 (a := 4096) (b := 2048) (V m c main_arg1) X) (hY : E2 (a := 4096) (b := 2048) (V m c main_arg2) Y) (n : ℕ) : ∀ h : n < cfg0.N,
    E2 (a := 1) (b := 2048) (outsAt0 m c n h).2 fun _ k => dgN X Y (512 * (n + 1)) k := by
  have step : ∀ (n k : ℕ), dgN X Y (512 * n) k + dgN (fun i j => X (512 * n + i) j) (fun i j => Y (512 * n + i) j) 512 k = dgN X Y (512 * (n + 1)) k := fun n k => by
    unfold dgN
    rw [show 512 * (n + 1) = 512 * n + 512 by omega, Finset.sum_range_add]
    rfl
  induction n with
  | zero =>
    intro h
    rw [show outsAt0 m c 0 h = _ from outsAt0_A m c ⟨0, h⟩ rfl]
    frame_out
    refine (e_pay5 (e_iblk1 m c ⟨0, h⟩ hX) (e_iblk2 m c ⟨0, h⟩ hY) (s := fun _ _ => 0) (e_const fun _ => Ideal.ofBits_zero_f32)).congr fun i k _ _ => ?_
    rw [← step 0 k]
    show _ = dgN X Y 0 k + _
    rw [show dgN X Y 0 k = 0 from Finset.sum_range_zero _]
  | succ n ih =>
    intro h
    have h8 : n + 1 < 8 := h
    rw [show outsAt0 m c (n + 1) h = _ from outsAt0_B m c ⟨n + 1, h⟩ (by show ¬(n + 1) % 8 = 0; omega)]
    frame_out
    refine (e_pay5 (e_iblk1 m c ⟨n + 1, h⟩ hX) (e_iblk2 m c ⟨n + 1, h⟩ hY) (ih (by omega))).congr fun i k _ _ => ?_
    exact step (n + 1) k

/-- The kernel's first result after the run. -/
theorem final1 (hO : E2 (a := 4096) (b := 2048) (V m c main_arg0) O) (hX : E2 (a := 4096) (b := 2048) (V m c main_arg1) X) (hY : E2 (a := 4096) (b := 2048) (V m c main_arg2) Y) (hW : E2 (a := 1) (b := 2048) (V m c main_arg3) W) :
    E2 (a := 4096) (b := 2048) ((dats m 0 c).arrAt 4 cfg0.N) fun i k => O i k + dxN X Y W i k := by
  have h : (dats m 0 c).arrAt 4 cfg0.N = fun ι : S4096x2048.Idx => (fun i k => O i k + dxN X Y W i k : ℕ → ℕ → EReal) (ι 0).val (ι 1).val := by
    refine (dats m 0 c).arrAt_eq_of_covers 4 _ (by decide +kernel) fun t hf z => ?_
    show (dats m 0 c).after 4 t z = (fun i k => O i k + dxN X Y W i k : ℕ → ℕ → EReal) (win0_4.index t 0 * 512 + 1 * (z 0).val) (win0_4.index t 1 * 2048 + 1 * (z 1).val)
    rw [after0_4, (at4 t).1, (at4 t).2]
    refine (rows m c hO hX hY hW t z).trans ?_
    rw [show t.val * 512 + 1 * (z 0).val = 512 * t.val + (z 0).val by omega, show 0 * 2048 + 1 * (z 1).val = (z 1).val by omega]
  rw [h]
  exact fun ι => rfl

/-- The kernel's second result after the run. -/
theorem final2 (hX : E2 (a := 4096) (b := 2048) (V m c main_arg1) X) (hY : E2 (a := 4096) (b := 2048) (V m c main_arg2) Y) :
    E2 (a := 1) (b := 2048) ((dats m 0 c).arrAt 5 cfg0.N) fun _ k => dgN X Y 4096 k := by
  have h : (dats m 0 c).arrAt 5 cfg0.N = fun ι : S1x2048.Idx => dgN X Y 4096 (ι 1).val := by
    refine (dats m 0 c).arrAt_eq_of_covers 5 _ (by decide +kernel) fun t hf z => ?_
    show (dats m 0 c).after 5 t z = dgN X Y 4096 (win0_5.index t 1 * 2048 + 1 * (z 1).val)
    rw [after0_5, (at5 t).2]
    refine (acc m c hX hY t.val t.isLt z).trans ?_
    have h7 := (flush0_5 t).mp hf
    have ht : t.val < 8 := t.isLt
    rw [show 512 * (t.val + 1) = 4096 by omega, show 0 * 2048 + 1 * (z 1).val = (z 1).val by omega]
  rw [h]
  exact fun ι => rfl
end

section
open Cert.DNormInRefIdeal Cert.DNormInRefIdeal.Gen

/-- The reference's first result is the same function of the arguments. -/
theorem reference1 (o : FVec Ideal S4096x2048 .f32) (x : FVec Ideal S4096x2048 .f32) (y : FVec Ideal S4096x2048 .f32) (w : FVec Ideal S1x2048 .f32) {O X Y W : ℕ → ℕ → EReal}
    (hO : E2 (a := 4096) (b := 2048) o O) (hX : E2 (a := 4096) (b := 2048) x X) (hY : E2 (a := 4096) (b := 2048) y Y) (hW : E2 (a := 1) (b := 2048) w W) :
    E2 (a := 4096) (b := 2048)
      (addf (addf (addf o (mulf (mulf y (broadcastInDim S4096x2048 ![0, 1] bcast_S1x2048_S4096x2048_0_1 w)) (broadcastInDim S4096x2048 ![0, 1] bcast_S4096x1_S4096x2048_0_1 (Host.rsqrt (addf (Host.divf (broadcastInDim S4096x1 ![0] bcast_S4096_S4096x1_0 (Host.reduceAdd (mulf x x) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32))))))) (mulf x (broadcastInDim S4096x2048 ![0] bcast_S4096_S4096x2048_0 (Host.reduceAdd (Host.divf (mulf (shapeCast _ (Host.reduceAdd (mulf x (mulf y (broadcastInDim S4096x2048 ![0, 1] bcast_S1x2048_S4096x2048_0_1 w))) (constant S_ .f32 0x00000000#32) reducesTo_S4096x2048_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf x x) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))) (addf (Host.divf (broadcastInDim S4096x1 ![0] bcast_S4096_S4096x1_0 (Host.reduceAdd (mulf x x) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (broadcastInDim S4096x1 ![] bcast_S_S4096x1 (constant S_ .f32 0x45000000#32))) (constant S_ .f32 0x00000000#32) reducesTo_S4096x1_S4096_d1 h_S_)))) (mulf (broadcastInDim S4096x2048 ![0] bcast_S4096_S4096x2048_0 (Host.reduceAdd (Host.divf (mulf (shapeCast _ (Host.reduceAdd (mulf x (mulf y (broadcastInDim S4096x2048 ![0, 1] bcast_S1x2048_S4096x2048_0_1 w))) (constant S_ .f32 0x00000000#32) reducesTo_S4096x2048_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf x x) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))) (addf (Host.divf (broadcastInDim S4096x1 ![0] bcast_S4096_S4096x1_0 (Host.reduceAdd (mulf x x) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (broadcastInDim S4096x1 ![] bcast_S_S4096x1 (constant S_ .f32 0x45000000#32))) (constant S_ .f32 0x00000000#32) reducesTo_S4096x1_S4096_d1 h_S_)) x)) fun i k => O i k + dxN X Y W i k := by
  have hms := e_addf (e_hdivf (e1_rows (φ := .f32) (e_hsum1 (e_mulf (φ := .f32) hX hX) reducesTo_S4096x2048_S4096_d1 (by decide) (v := constant (F := Ideal) S_ .f32 0x00000000#32) h_S_ fun _ => Ideal.ofBits_zero_f32) (by decide) bcast_S4096_S4096x1_0)
    (e_hconst 0x45000000#32 bcast_S_S4096x1)) (e_hconst 0x358637BD#32 bcast_S_S4096x1)
  have hr := e_hrsqrt hms
  have hgy := e_mulf (φ := .f32) hY (e_hrow (a := 4096) (φ := .f32) hW (by decide) bcast_S1x2048_S4096x2048_0_1)
  have hA := e1_rows (b := 2048) (φ := .f32) (e_hsum1 (e_hdivf (e_mulf (φ := .f32) (e1_col (φ := .f32)
      (e_hsum1 (e_mulf (φ := .f32) hX hgy) reducesTo_S4096x2048_S4096_d1 (by decide) (v := constant (F := Ideal) S_ .f32 0x00000000#32) h_S_ fun _ => Ideal.ofBits_zero_f32) shapeCasts_S4096_S4096x1)
    (e_mulf (φ := .f32) (e_hconst 0xBF000000#32 bcast_S_S4096x1) (e_hdivf hr hms))) (e_hconst 0x45000000#32 bcast_S_S4096x1))
    reducesTo_S4096x1_S4096_d1 (by decide) (v := constant (F := Ideal) S_ .f32 0x00000000#32) h_S_ fun _ => Ideal.ofBits_zero_f32) (by decide) bcast_S4096_S4096x2048_0
  have hA' := hA.congr fun i k _ _ => (Finset.sum_range_one _ : _ = aN X Y W i)
  refine (e_addf (e_addf (e_addf hO (e_mulf (φ := .f32) hgy (e_hcol (φ := .f32) hr (by decide) bcast_S4096x1_S4096x2048_0_1))) (e_mulf (φ := .f32) hX hA')) (e_mulf (φ := .f32) hA' hX)).congr fun i k _ _ => ?_
  show O i k + Y i k * W 0 k * nr X i + X i k * aN X Y W i + aN X Y W i * X i k = _
  rw [← norm_grad X Y W i k]
  simp only [add_assoc]

/-- So is its second result. -/
theorem reference2 (x : FVec Ideal S4096x2048 .f32) (y : FVec Ideal S4096x2048 .f32) {X Y : ℕ → ℕ → EReal}
    (hX : E2 (a := 4096) (b := 2048) x X) (hY : E2 (a := 4096) (b := 2048) y Y) :
    E2 (a := 1) (b := 2048)
      (shapeCast _ (Host.reduceAdd (mulf (mulf x (broadcastInDim S4096x2048 ![0, 1] bcast_S4096x1_S4096x2048_0_1 (Host.rsqrt (addf (Host.divf (broadcastInDim S4096x1 ![0] bcast_S4096_S4096x1_0 (Host.reduceAdd (mulf x x) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) y) (constant S_ .f32 0x00000000#32) reducesTo_S4096x2048_S2048_d0 h_S_) shapeCasts_S2048_S1x2048) fun _ k => dgN X Y 4096 k := by
  have hms := e_addf (e_hdivf (e1_rows (φ := .f32) (e_hsum1 (e_mulf (φ := .f32) hX hX) reducesTo_S4096x2048_S4096_d1 (by decide) (v := constant (F := Ideal) S_ .f32 0x00000000#32) h_S_ fun _ => Ideal.ofBits_zero_f32) (by decide) bcast_S4096_S4096x1_0)
    (e_hconst 0x45000000#32 bcast_S_S4096x1)) (e_hconst 0x358637BD#32 bcast_S_S4096x1)
  have hr := e_hrsqrt hms
  exact (e1_row (φ := .f32) (e_hsum0 (e_mulf (φ := .f32) (e_mulf (φ := .f32) hX (e_hcol (φ := .f32) hr (by decide) bcast_S4096x1_S4096x2048_0_1)) hY)
    reducesTo_S4096x2048_S2048_d0 (by decide) (v := constant (F := Ideal) S_ .f32 0x00000000#32) h_S_ fun _ => Ideal.ofBits_zero_f32) shapeCasts_S2048_S1x2048).congr
    fun i k _ _ => Finset.sum_congr rfl fun l _ => mul_comm _ _
end

/-- The kernel's program runs and leaves its arguments as they were. -/
theorem frame_kernel : Cert.quiescent_DNormIn (hDNormIn := Cert.DNormIn.Gen.facts) := fun m ρ _ => Cert.DNormIn.Gen.frame m ρ

/-- So does its idealization. -/
theorem frame_ideal : Cert.quiescent_DNormInIdeal (hDNormInIdeal := Cert.DNormInIdeal.Gen.facts) := fun m ρ _ => Cert.DNormInIdeal.Gen.frame m ρ

/-- So does the reference. -/
theorem frame_reference : Cert.quiescent_DNormInRefIdeal (hDNormInRefIdeal := Cert.DNormInRefIdeal.Gen.facts) := fun m ρ _ =>
  (θ_run Cert.DNormInRefIdeal.defs _ _).mono (fun r h => ⟨fun c => (h c).2.2, Idealize.ShloMosaic.sem_eq_zero_of_no_sems (by decide) r.2⟩)
    (Cert.DNormInRefIdeal.Value.run (F := Ideal) m ρ)

/-- From the same arguments the kernel and the reference leave the same results. -/
theorem algebraic : Cert.algebraic_DNormInIdeal_DNormInRefIdeal (hDNormInIdeal := Cert.DNormInIdeal.Gen.facts) (hDNormInRefIdeal := Cert.DNormInRefIdeal.Gen.facts) := fun m g m' g' _ hag => by
  refine ⟨fun c => (Cert.DNormInIdeal.Gen.dats m 0 c).arrAt 4 Cert.DNormInIdeal.cfg0.N, fun c => (Cert.DNormInIdeal.Gen.dats m 0 c).arrAt 5 Cert.DNormInIdeal.cfg0.N, ?_, ?_⟩
  · exact Cert.DNormInIdeal.Value.run_blocks m g
  · refine (θ_run Cert.DNormInRefIdeal.defs _ _).mono (fun r h c => ⟨(h c).1.trans ?_, (h c).2.1.trans ?_, (h c).2.2⟩) (Cert.DNormInRefIdeal.Value.run (F := Ideal) m' g')
    · obtain ⟨O, hO⟩ := exists_E2 (a := 4096) (b := 2048) (m ((c.tc : Thread Cert.DNormInIdeal.nD Cert.DNormInIdeal.τ).loc Cert.DNormInIdeal.main_arg0))
      obtain ⟨X, hX⟩ := exists_E2 (a := 4096) (b := 2048) (m ((c.tc : Thread Cert.DNormInIdeal.nD Cert.DNormInIdeal.τ).loc Cert.DNormInIdeal.main_arg1))
      obtain ⟨Y, hY⟩ := exists_E2 (a := 4096) (b := 2048) (m ((c.tc : Thread Cert.DNormInIdeal.nD Cert.DNormInIdeal.τ).loc Cert.DNormInIdeal.main_arg2))
      obtain ⟨W, hW⟩ := exists_E2 (a := 1) (b := 2048) (m ((c.tc : Thread Cert.DNormInIdeal.nD Cert.DNormInIdeal.τ).loc Cert.DNormInIdeal.main_arg3))
      rw [(hag c).1, (hag c).2.1, (hag c).2.2.1, (hag c).2.2.2]
      exact (reference1 _ _ _ _ hO hX hY hW).eq (final1 m c (by rw [Cert.DNormInIdeal.Gen.V_main_arg0]; exact hO) (by rw [Cert.DNormInIdeal.Gen.V_main_arg1]; exact hX) (by rw [Cert.DNormInIdeal.Gen.V_main_arg2]; exact hY) (by rw [Cert.DNormInIdeal.Gen.V_main_arg3]; exact hW))
    · obtain ⟨O, hO⟩ := exists_E2 (a := 4096) (b := 2048) (m ((c.tc : Thread Cert.DNormInIdeal.nD Cert.DNormInIdeal.τ).loc Cert.DNormInIdeal.main_arg0))
      obtain ⟨X, hX⟩ := exists_E2 (a := 4096) (b := 2048) (m ((c.tc : Thread Cert.DNormInIdeal.nD Cert.DNormInIdeal.τ).loc Cert.DNormInIdeal.main_arg1))
      obtain ⟨Y, hY⟩ := exists_E2 (a := 4096) (b := 2048) (m ((c.tc : Thread Cert.DNormInIdeal.nD Cert.DNormInIdeal.τ).loc Cert.DNormInIdeal.main_arg2))
      obtain ⟨W, hW⟩ := exists_E2 (a := 1) (b := 2048) (m ((c.tc : Thread Cert.DNormInIdeal.nD Cert.DNormInIdeal.τ).loc Cert.DNormInIdeal.main_arg3))
      rw [(hag c).2.1, (hag c).2.2.1]
      exact (reference2 _ _ hX hY).eq (final2 m c (by rw [Cert.DNormInIdeal.Gen.V_main_arg1]; exact hX) (by rw [Cert.DNormInIdeal.Gen.V_main_arg2]; exact hY))

end Cert.Stick.DNormIn

end
-- ==== Proof.DNormTwo.lean ====
/- The gradient of the two norms before the attention, added to the gradient that passes them by: what the kernel's run
   leaves, and that the reference leaves the same. -/
module

public import proofs.«01_k».proof.Defs
public import proofs.«01_k».proof.Proof.Ex3
public import proofs.«01_k».proof.Proof.Norm
public import proofs.«01_k».proof.Proof.Gen.DNormTwo.Frame
public import proofs.«01_k».proof.Proof.Gen.DNormTwoIdeal.Value
public import proofs.«01_k».proof.Proof.Gen.DNormTwoRefIdeal.Run
public import Idealize.ShloMosaic.Lib.Pipeline.ValueKit
public import Idealize.ShloMosaic.Adequacy
public import Idealize.ShloMosaic.Init

@[expose] public section

set_option maxRecDepth 16384
set_option maxHeartbeats 4000000

noncomputable section

namespace Cert.Stick.DNormTwo

open Idealize.ShloMosaic Idealize.ShloMosaic.TcCoe Idealize.ShloMosaic.Updates
open Idealize.ShloMosaic.LaneScatter (Blk Vec1)
open Idealize.ShloMosaic.Pipeline (Dat)
open scoped BigOperators

section
open Cert.DNormTwoIdeal Cert.DNormTwoIdeal.Gen

/-! ### Which block each point stages -/

theorem at0 : ∀ t : Fin cfg0.N, win0_0.index t 0 = t.val ∧ win0_0.index t 1 = 0 :=
  (by decide +kernel : ∀ t : Fin grid0.N, win0_0.index t 0 = t.val ∧ win0_0.index t 1 = 0)
theorem at1 : ∀ t : Fin cfg0.N, win0_1.index t 0 = t.val ∧ win0_1.index t 1 = 0 :=
  (by decide +kernel : ∀ t : Fin grid0.N, win0_1.index t 0 = t.val ∧ win0_1.index t 1 = 0)
theorem at2 : ∀ t : Fin cfg0.N, win0_2.index t 0 = t.val ∧ win0_2.index t 1 = 0 :=
  (by decide +kernel : ∀ t : Fin grid0.N, win0_2.index t 0 = t.val ∧ win0_2.index t 1 = 0)
theorem at3 : ∀ t : Fin cfg0.N, win0_3.index t 0 = t.val ∧ win0_3.index t 1 = 0 :=
  (by decide +kernel : ∀ t : Fin grid0.N, win0_3.index t 0 = t.val ∧ win0_3.index t 1 = 0)
theorem at4 : ∀ t : Fin cfg0.N, win0_4.index t 0 = t.val ∧ win0_4.index t 1 = 0 :=
  (by decide +kernel : ∀ t : Fin grid0.N, win0_4.index t 0 = t.val ∧ win0_4.index t 1 = 0)
theorem at5 : ∀ t : Fin cfg0.N, win0_5.index t 0 = 0 ∧ win0_5.index t 1 = 0 :=
  (by decide +kernel : ∀ t : Fin grid0.N, win0_5.index t 0 = 0 ∧ win0_5.index t 1 = 0)
theorem at6 : ∀ t : Fin cfg0.N, win0_6.index t 0 = 0 ∧ win0_6.index t 1 = 0 :=
  (by decide +kernel : ∀ t : Fin grid0.N, win0_6.index t 0 = 0 ∧ win0_6.index t 1 = 0)
theorem at7 : ∀ t : Fin cfg0.N, win0_7.index t 0 = t.val ∧ win0_7.index t 1 = 0 :=
  (by decide +kernel : ∀ t : Fin grid0.N, win0_7.index t 0 = t.val ∧ win0_7.index t 1 = 0)
theorem at8 : ∀ t : Fin cfg0.N, win0_8.index t 0 = 0 ∧ win0_8.index t 1 = 0 :=
  (by decide +kernel : ∀ t : Fin grid0.N, win0_8.index t 0 = 0 ∧ win0_8.index t 1 = 0)
theorem at9 : ∀ t : Fin cfg0.N, win0_9.index t 0 = 0 ∧ win0_9.index t 1 = 0 :=
  (by decide +kernel : ∀ t : Fin grid0.N, win0_9.index t 0 = 0 ∧ win0_9.index t 1 = 0)

variable (m : (ℓ : Loc nD τ sig) → Buf (Elt Ideal) ℓ) (c : Dev nD) {O X Y K L W Z : ℕ → ℕ → EReal}

theorem e_iblk0 (t : Fin cfg0.N) (h : E2 (a := 4096) (b := 2048) (V m c main_arg0) O) :
    E2 (a := 256) (b := 2048) (iblk m c 0 t) fun i j => O (256 * t.val + i) j := fun ι => by
  unfold iblk
  rw [View.read_apply]
  refine (h _).trans ?_
  show O (win0_0.index t 0 * 256 + 1 * (ι 0).val) (win0_0.index t 1 * 2048 + 1 * (ι 1).val) = _
  rw [(at0 t).1, (at0 t).2]
  congr 1 <;> omega

theorem e_iblk1 (t : Fin cfg0.N) (h : E2 (a := 4096) (b := 2048) (V m c main_arg1) X) :
    E2 (a := 256) (b := 2048) (iblk m c 1 t) fun i j => X (256 * t.val + i) j := fun ι => by
  unfold iblk
  rw [View.read_apply]
  refine (h _).trans ?_
  show X (win0_1.index t 0 * 256 + 1 * (ι 0).val) (win0_1.index t 1 * 2048 + 1 * (ι 1).val) = _
  rw [(at1 t).1, (at1 t).2]
  congr 1 <;> omega

theorem e_iblk2 (t : Fin cfg0.N) (h : E2 (a := 4096) (b := 2048) (V m c main_arg2) Y) :
    E2 (a := 256) (b := 2048) (iblk m c 2 t) fun i j => Y (256 * t.val + i) j := fun ι => by
  unfold iblk
  rw [View.read_apply]
  refine (h _).trans ?_
  show Y (win0_2.index t 0 * 256 + 1 * (ι 0).val) (win0_2.index t 1 * 2048 + 1 * (ι 1).val) = _
  rw [(at2 t).1, (at2 t).2]
  congr 1 <;> omega

theorem e_iblk3 (t : Fin cfg0.N) (h : E2 (a := 4096) (b := 2048) (V m c main_arg3) K) :
    E2 (a := 256) (b := 2048) (iblk m c 3 t) fun i j => K (256 * t.val + i) j := fun ι => by
  unfold iblk
  rw [View.read_apply]
  refine (h _).trans ?_
  show K (win0_3.index t 0 * 256 + 1 * (ι 0).val) (win0_3.index t 1 * 2048 + 1 * (ι 1).val) = _
  rw [(at3 t).1, (at3 t).2]
  congr 1 <;> omega

theorem e_iblk4 (t : Fin cfg0.N) (h : E2 (a := 4096) (b := 2048) (V m c main_arg4) L) :
    E2 (a := 256) (b := 2048) (iblk m c 4 t) fun i j => L (256 * t.val + i) j := fun ι => by
  unfold iblk
  rw [View.read_apply]
  refine (h _).trans ?_
  show L (win0_4.index t 0 * 256 + 1 * (ι 0).val) (win0_4.index t 1 * 2048 + 1 * (ι 1).val) = _
  rw [(at4 t).1, (at4 t).2]
  congr 1 <;> omega

theorem e_iblk5 (t : Fin cfg0.N) (h : E2 (a := 1) (b := 2048) (V m c main_arg5) W) : E2 (a := 1) (b := 2048) (iblk m c 5 t) W := fun ι => by
  unfold iblk
  rw [View.read_apply]
  refine (h _).trans ?_
  show W (win0_5.index t 0 * 1 + 1 * (ι 0).val) (win0_5.index t 1 * 2048 + 1 * (ι 1).val) = _
  rw [(at5 t).1, (at5 t).2]
  congr 1 <;> omega

theorem e_iblk6 (t : Fin cfg0.N) (h : E2 (a := 1) (b := 2048) (V m c main_arg6) Z) : E2 (a := 1) (b := 2048) (iblk m c 6 t) Z := fun ι => by
  unfold iblk
  rw [View.read_apply]
  refine (h _).trans ?_
  show Z (win0_6.index t 0 * 1 + 1 * (ι 0).val) (win0_6.index t 1 * 2048 + 1 * (ι 1).val) = _
  rw [(at6 t).1, (at6 t).2]
  congr 1 <;> omega

/-! ### What the body leaves at one point -/

theorem e_pay2 {vx : Vec Ideal S256x2048 .f32} (hx : E2 (a := 256) (b := 2048) vx X) : E2 (a := 256) (b := 1) (k0_pay2 (F := Ideal) vx) fun i _ => nr X i :=
  e_rsqrt (e_addf (e_divf (e_rowSum (e_mulf (φ := .f32) hx hx) _ _ _ _) (e_const fun _ => rfl)) (e_const fun _ => rfl))

theorem e_pay3 {vx : Vec Ideal S256x2048 .f32} (hx : E2 (a := 256) (b := 2048) vx X) : E2 (a := 256) (b := 2048) (k0_pay3 (F := Ideal) vx) fun i k => X i k * nr X i :=
  e_mulf (φ := .f32) hx (e_bcol (φ := .f32) (e_pay2 hx) (by decide) _)

theorem e_pay8 {vx : Vec Ideal S256x2048 .f32} (hx : E2 (a := 256) (b := 2048) vx X) : E2 (a := 256) (b := 1) (k0_pay8 (F := Ideal) vx) fun i _ => nr X i :=
  e_rsqrt (e_addf (e_divf (e_rowSum (e_mulf (φ := .f32) hx hx) _ _ _ _) (e_const fun _ => rfl)) (e_const fun _ => rfl))

theorem e_pay9 {vx : Vec Ideal S256x2048 .f32} (hx : E2 (a := 256) (b := 2048) vx X) : E2 (a := 256) (b := 2048) (k0_pay9 (F := Ideal) vx) fun i k => X i k * nr X i :=
  e_mulf (φ := .f32) hx (e_bcol (φ := .f32) (e_pay8 hx) (by decide) _)

/-- The residual's gradient and the first norm's. -/
theorem e_pay10 {vx vo vy : Vec Ideal S256x2048 .f32} {vw : Vec Ideal S1x2048 .f32}
    (hx : E2 (a := 256) (b := 2048) vx X) (ho : E2 (a := 256) (b := 2048) vo O) (hy : E2 (a := 256) (b := 2048) vy Y) (hw : E2 (a := 1) (b := 2048) vw W) :
    E2 (a := 256) (b := 2048) (k0_pay10 (F := Ideal) vx vo vy vw) fun i k => O i k + dxN X Y W i k :=
  e_addf ho (e_mulf (φ := .f32) (e_bcol (φ := .f32) (e_pay8 hx) (by decide) _) (e_subf (φ := .f32) (e_mulf (φ := .f32) hy (e_brow (φ := .f32) hw (by decide) _))
    (e_mulf (φ := .f32) (e_pay9 hx) (e_bcol (φ := .f32) (e_divf (e_rowSum (e_mulf (φ := .f32) (e_mulf (φ := .f32) hy (e_brow (φ := .f32) hw (by decide) _)) (e_pay9 hx)) _ _ _ _)
      (e_const fun _ => rfl)) (by decide) _))))

/-- The first result's block, from that sum: the second norm's gradient comes to it. -/
theorem e_pay4 {vx vk vl : Vec Ideal S256x2048 .f32} {vz : Vec Ideal S1x2048 .f32} {u : FVec Ideal S256x2048 .f32} {s : ℕ → ℕ → EReal}
    (hx : E2 (a := 256) (b := 2048) vx X) (hu : E2 (a := 256) (b := 2048) u s) (hk : E2 (a := 256) (b := 2048) vk K) (hl : E2 (a := 256) (b := 2048) vl L) (hz : E2 (a := 1) (b := 2048) vz Z) :
    E2 (a := 256) (b := 2048) (k0_pay4 (F := Ideal) vx u vk vl vz) fun i k => s i k + dxN X (fun i j => K i j + L i j) Z i k :=
  e_addf hu (e_mulf (φ := .f32) (e_bcol (φ := .f32) (e_pay2 hx) (by decide) _) (e_subf (φ := .f32) (e_mulf (φ := .f32) (e_addf hk hl) (e_brow (φ := .f32) hz (by decide) _))
    (e_mulf (φ := .f32) (e_pay3 hx) (e_bcol (φ := .f32) (e_divf (e_rowSum (e_mulf (φ := .f32) (e_mulf (φ := .f32) (e_addf hk hl) (e_brow (φ := .f32) hz (by decide) _)) (e_pay3 hx)) _ _ _ _)
      (e_const fun _ => rfl)) (by decide) _))))

/-- The second result's block: what it held, and the sum over the block's rows. -/
theorem e_pay11 {vx vy : Vec Ideal S256x2048 .f32} {vs : Vec Ideal S1x2048 .f32} {s : ℕ → ℕ → EReal}
    (hx : E2 (a := 256) (b := 2048) vx X) (hy : E2 (a := 256) (b := 2048) vy Y) (hs : E2 (a := 1) (b := 2048) vs s) :
    E2 (a := 1) (b := 2048) (k0_pay11 (F := Ideal) vx vy vs) fun i k => s i k + dgN X Y 256 k :=
  e_addf (e_self (φ := .f32) hs _) (e_colSum (e_mulf (φ := .f32) hy (e_pay9 hx)) _ _ _ _)

/-- The third result's block, in the same way. -/
theorem e_pay5 {vx vk vl : Vec Ideal S256x2048 .f32} {vs : Vec Ideal S1x2048 .f32} {s : ℕ → ℕ → EReal}
    (hx : E2 (a := 256) (b := 2048) vx X) (hk : E2 (a := 256) (b := 2048) vk K) (hl : E2 (a := 256) (b := 2048) vl L) (hs : E2 (a := 1) (b := 2048) vs s) :
    E2 (a := 1) (b := 2048) (k0_pay5 (F := Ideal) vx vk vl vs) fun i k => s i k + dgN X (fun i j => K i j + L i j) 256 k :=
  e_addf (e_self (φ := .f32) hs _) (e_colSum (e_mulf (φ := .f32) (e_addf hk hl) (e_pay3 hx)) _ _ _ _)

/-- The block of the first result that a point stores. -/
theorem rows (hO : E2 (a := 4096) (b := 2048) (V m c main_arg0) O) (hX : E2 (a := 4096) (b := 2048) (V m c main_arg1) X) (hY : E2 (a := 4096) (b := 2048) (V m c main_arg2) Y) (hK : E2 (a := 4096) (b := 2048) (V m c main_arg3) K) (hL : E2 (a := 4096) (b := 2048) (V m c main_arg4) L) (hW : E2 (a := 1) (b := 2048) (V m c main_arg5) W) (hZ : E2 (a := 1) (b := 2048) (V m c main_arg6) Z) (t : Fin cfg0.N) :
    E2 (a := 256) (b := 2048) (outsAt0 m c t.val t.isLt).1 fun i k => O (256 * t.val + i) k + dxN X Y W (256 * t.val + i) k + dxN X (fun i j => K i j + L i j) Z (256 * t.val + i) k := by
  by_cases h0 : t.val % 16 = 0
  · rw [outsAt0_A m c t h0]
    frame_out
    exact e_pay4 (e_iblk1 m c t hX) (e_pay10 (e_iblk1 m c t hX) (e_iblk0 m c t hO) (e_iblk2 m c t hY) (e_iblk5 m c t hW)) (e_iblk3 m c t hK) (e_iblk4 m c t hL) (e_iblk6 m c t hZ)
  · rw [outsAt0_B m c t h0]
    frame_out
    exact e_pay4 (e_iblk1 m c t hX) (e_pay10 (e_iblk1 m c t hX) (e_iblk0 m c t hO) (e_iblk2 m c t hY) (e_iblk5 m c t hW)) (e_iblk3 m c t hK) (e_iblk4 m c t hL) (e_iblk6 m c t hZ)

/-- The sum over the rows so far, and over one more block. -/
theorem step (X Y : ℕ → ℕ → EReal) (n k : ℕ) :
    dgN X Y (256 * n) k + dgN (fun i j => X (256 * n + i) j) (fun i j => Y (256 * n + i) j) 256 k = dgN X Y (256 * (n + 1)) k := by
  unfold dgN
  rw [show 256 * (n + 1) = 256 * n + 256 by omega, Finset.sum_range_add]
  rfl

/-- The second result after each point: the sum over the rows so far. -/
theorem acc1 (hX : E2 (a := 4096) (b := 2048) (V m c main_arg1) X) (hY : E2 (a := 4096) (b := 2048) (V m c main_arg2) Y) (n : ℕ) : ∀ h : n < cfg0.N,
    E2 (a := 1) (b := 2048) (outsAt0 m c n h).2.1 fun _ k => dgN X Y (256 * (n + 1)) k := by
  induction n with
  | zero =>
    intro h
    rw [show outsAt0 m c 0 h = _ from outsAt0_A m c ⟨0, h⟩ rfl]
    frame_out
    refine (e_pay11 (e_iblk1 m c ⟨0, h⟩ hX) (e_iblk2 m c ⟨0, h⟩ hY) (s := fun _ _ => 0) (e_const fun _ => Ideal.ofBits_zero_f32)).congr fun i k _ _ => ?_
    rw [← step X Y 0 k]
    show _ = dgN X Y 0 k + _
    rw [show dgN X Y 0 k = 0 from Finset.sum_range_zero _]
  | succ n ih =>
    intro h
    have h16 : n + 1 < 16 := h
    rw [show outsAt0 m c (n + 1) h = _ from outsAt0_B m c ⟨n + 1, h⟩ (by show ¬(n + 1) % 16 = 0; omega)]
    frame_out
    refine (e_pay11 (e_iblk1 m c ⟨n + 1, h⟩ hX) (e_iblk2 m c ⟨n + 1, h⟩ hY) (ih (by omega))).congr fun i k _ _ => ?_
    exact step X Y (n + 1) k

/-- The third result after each point. -/
theorem acc2 (hX : E2 (a := 4096) (b := 2048) (V m c main_arg1) X) (hK : E2 (a := 4096) (b := 2048) (V m c main_arg3) K) (hL : E2 (a := 4096) (b := 2048) (V m c main_arg4) L) (n : ℕ) : ∀ h : n < cfg0.N,
    E2 (a := 1) (b := 2048) (outsAt0 m c n h).2.2 fun _ k => dgN X (fun i j => K i j + L i j) (256 * (n + 1)) k := by
  induction n with
  | zero =>
    intro h
    rw [show outsAt0 m c 0 h = _ from outsAt0_A m c ⟨0, h⟩ rfl]
    frame_out
    refine (e_pay5 (e_iblk1 m c ⟨0, h⟩ hX) (e_iblk3 m c ⟨0, h⟩ hK) (e_iblk4 m c ⟨0, h⟩ hL) (s := fun _ _ => 0) (e_const fun _ => Ideal.ofBits_zero_f32)).congr fun i k _ _ => ?_
    rw [← step X (fun i j => K i j + L i j) 0 k]
    show _ = dgN X (fun i j => K i j + L i j) 0 k + _
    rw [show dgN X (fun i j => K i j + L i j) 0 k = 0 from Finset.sum_range_zero _]
  | succ n ih =>
    intro h
    have h16 : n + 1 < 16 := h
    rw [show outsAt0 m c (n + 1) h = _ from outsAt0_B m c ⟨n + 1, h⟩ (by show ¬(n + 1) % 16 = 0; omega)]
    frame_out
    refine (e_pay5 (e_iblk1 m c ⟨n + 1, h⟩ hX) (e_iblk3 m c ⟨n + 1, h⟩ hK) (e_iblk4 m c ⟨n + 1, h⟩ hL) (ih (by omega))).congr fun i k _ _ => ?_
    exact step X (fun i j => K i j + L i j) (n + 1) k

/-- The kernel's first result after the run. -/
theorem final1 (hO : E2 (a := 4096) (b := 2048) (V m c main_arg0) O) (hX : E2 (a := 4096) (b := 2048) (V m c main_arg1) X) (hY : E2 (a := 4096) (b := 2048) (V m c main_arg2) Y) (hK : E2 (a := 4096) (b := 2048) (V m c main_arg3) K) (hL : E2 (a := 4096) (b := 2048) (V m c main_arg4) L) (hW : E2 (a := 1) (b := 2048) (V m c main_arg5) W) (hZ : E2 (a := 1) (b := 2048) (V m c main_arg6) Z) :
    E2 (a := 4096) (b := 2048) ((dats m 0 c).arrAt 7 cfg0.N) fun i k => O i k + dxN X Y W i k + dxN X (fun i j => K i j + L i j) Z i k := by
  have h : (dats m 0 c).arrAt 7 cfg0.N = fun ι : S4096x2048.Idx => (fun i k => O i k + dxN X Y W i k + dxN X (fun i j => K i j + L i j) Z i k : ℕ → ℕ → EReal) (ι 0).val (ι 1).val := by
    refine (dats m 0 c).arrAt_eq_of_covers 7 _ (by decide +kernel) fun t hf y => ?_
    show (dats m 0 c).after 7 t y = (fun i k => O i k + dxN X Y W i k + dxN X (fun i j => K i j + L i j) Z i k : ℕ → ℕ → EReal) (win0_7.index t 0 * 256 + 1 * (y 0).val) (win0_7.index t 1 * 2048 + 1 * (y 1).val)
    rw [after0_7, (at7 t).1, (at7 t).2]
    refine (rows m c hO hX hY hK hL hW hZ t y).trans ?_
    rw [show t.val * 256 + 1 * (y 0).val = 256 * t.val + (y 0).val by omega, show 0 * 2048 + 1 * (y 1).val = (y 1).val by omega]
  rw [h]
  exact fun ι => rfl

/-- The kernel's second result after the run. -/
theorem final2 (hX : E2 (a := 4096) (b := 2048) (V m c main_arg1) X) (hY : E2 (a := 4096) (b := 2048) (V m c main_arg2) Y) :
    E2 (a := 1) (b := 2048) ((dats m 0 c).arrAt 8 cfg0.N) fun _ k => dgN X Y 4096 k := by
  have h : (dats m 0 c).arrAt 8 cfg0.N = fun ι : S1x2048.Idx => dgN X Y 4096 (ι 1).val := by
    refine (dats m 0 c).arrAt_eq_of_covers 8 _ (by decide +kernel) fun t hf z => ?_
    show (dats m 0 c).after 8 t z = dgN X Y 4096 (win0_8.index t 1 * 2048 + 1 * (z 1).val)
    rw [after0_8, (at8 t).2]
    refine (acc1 m c hX hY t.val t.isLt z).trans ?_
    have h15 := (flush0_8 t).mp hf
    have ht : t.val < 16 := t.isLt
    rw [show 256 * (t.val + 1) = 4096 by omega, show 0 * 2048 + 1 * (z 1).val = (z 1).val by omega]
  rw [h]
  exact fun ι => rfl

/-- The kernel's third result after the run. -/
theorem final3 (hX : E2 (a := 4096) (b := 2048) (V m c main_arg1) X) (hK : E2 (a := 4096) (b := 2048) (V m c main_arg3) K) (hL : E2 (a := 4096) (b := 2048) (V m c main_arg4) L) :
    E2 (a := 1) (b := 2048) ((dats m 0 c).arrAt 9 cfg0.N) fun _ k => dgN X (fun i j => K i j + L i j) 4096 k := by
  have h : (dats m 0 c).arrAt 9 cfg0.N = fun ι : S1x2048.Idx => dgN X (fun i j => K i j + L i j) 4096 (ι 1).val := by
    refine (dats m 0 c).arrAt_eq_of_covers 9 _ (by decide +kernel) fun t hf z => ?_
    show (dats m 0 c).after 9 t z = dgN X (fun i j => K i j + L i j) 4096 (win0_9.index t 1 * 2048 + 1 * (z 1).val)
    rw [after0_9, (at9 t).2]
    refine (acc2 m c hX hK hL t.val t.isLt z).trans ?_
    have h15 := (flush0_9 t).mp hf
    have ht : t.val < 16 := t.isLt
    rw [show 256 * (t.val + 1) = 4096 by omega, show 0 * 2048 + 1 * (z 1).val = (z 1).val by omega]
  rw [h]
  exact fun ι => rfl
end

section
open Cert.DNormTwoRefIdeal Cert.DNormTwoRefIdeal.Gen

/-- The reference's first result is the same function of the arguments. -/
theorem reference1 (o : FVec Ideal S4096x2048 .f32) (x : FVec Ideal S4096x2048 .f32) (y : FVec Ideal S4096x2048 .f32) (k : FVec Ideal S4096x2048 .f32) (l : FVec Ideal S4096x2048 .f32) (w : FVec Ideal S1x2048 .f32) (z : FVec Ideal S1x2048 .f32) {O X Y K L W Z : ℕ → ℕ → EReal}
    (hO : E2 (a := 4096) (b := 2048) o O) (hX : E2 (a := 4096) (b := 2048) x X) (hY : E2 (a := 4096) (b := 2048) y Y) (hK : E2 (a := 4096) (b := 2048) k K) (hL : E2 (a := 4096) (b := 2048) l L) (hW : E2 (a := 1) (b := 2048) w W) (hZ : E2 (a := 1) (b := 2048) z Z) :
    E2 (a := 4096) (b := 2048)
      (addf (addf (addf (addf (addf (addf o (mulf (mulf y (broadcastInDim S4096x2048 ![0, 1] bcast_S1x2048_S4096x2048_0_1 w)) (broadcastInDim S4096x2048 ![0, 1] bcast_S4096x1_S4096x2048_0_1 (Host.rsqrt (addf (Host.divf (broadcastInDim S4096x1 ![0] bcast_S4096_S4096x1_0 (Host.reduceAdd (mulf x x) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32))))))) (mulf x (broadcastInDim S4096x2048 ![0] bcast_S4096_S4096x2048_0 (Host.reduceAdd (Host.divf (mulf (shapeCast _ (Host.reduceAdd (mulf x (mulf y (broadcastInDim S4096x2048 ![0, 1] bcast_S1x2048_S4096x2048_0_1 w))) (constant S_ .f32 0x00000000#32) reducesTo_S4096x2048_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf x x) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))) (addf (Host.divf (broadcastInDim S4096x1 ![0] bcast_S4096_S4096x1_0 (Host.reduceAdd (mulf x x) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (broadcastInDim S4096x1 ![] bcast_S_S4096x1 (constant S_ .f32 0x45000000#32))) (constant S_ .f32 0x00000000#32) reducesTo_S4096x1_S4096_d1 h_S_)))) (mulf (broadcastInDim S4096x2048 ![0] bcast_S4096_S4096x2048_0 (Host.reduceAdd (Host.divf (mulf (shapeCast _ (Host.reduceAdd (mulf x (mulf y (broadcastInDim S4096x2048 ![0, 1] bcast_S1x2048_S4096x2048_0_1 w))) (constant S_ .f32 0x00000000#32) reducesTo_S4096x2048_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf x x) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))) (addf (Host.divf (broadcastInDim S4096x1 ![0] bcast_S4096_S4096x1_0 (Host.reduceAdd (mulf x x) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (broadcastInDim S4096x1 ![] bcast_S_S4096x1 (constant S_ .f32 0x45000000#32))) (constant S_ .f32 0x00000000#32) reducesTo_S4096x1_S4096_d1 h_S_)) x)) (mulf (mulf (addf k l) (broadcastInDim S4096x2048 ![0, 1] bcast_S1x2048_S4096x2048_0_1 z)) (broadcastInDim S4096x2048 ![0, 1] bcast_S4096x1_S4096x2048_0_1 (Host.rsqrt (addf (Host.divf (broadcastInDim S4096x1 ![0] bcast_S4096_S4096x1_0 (Host.reduceAdd (mulf x x) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32))))))) (mulf x (broadcastInDim S4096x2048 ![0] bcast_S4096_S4096x2048_0 (Host.reduceAdd (Host.divf (mulf (shapeCast _ (Host.reduceAdd (mulf x (mulf (addf k l) (broadcastInDim S4096x2048 ![0, 1] bcast_S1x2048_S4096x2048_0_1 z))) (constant S_ .f32 0x00000000#32) reducesTo_S4096x2048_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf x x) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))) (addf (Host.divf (broadcastInDim S4096x1 ![0] bcast_S4096_S4096x1_0 (Host.reduceAdd (mulf x x) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (broadcastInDim S4096x1 ![] bcast_S_S4096x1 (constant S_ .f32 0x45000000#32))) (constant S_ .f32 0x00000000#32) reducesTo_S4096x1_S4096_d1 h_S_)))) (mulf (broadcastInDim S4096x2048 ![0] bcast_S4096_S4096x2048_0 (Host.reduceAdd (Host.divf (mulf (shapeCast _ (Host.reduceAdd (mulf x (mulf (addf k l) (broadcastInDim S4096x2048 ![0, 1] bcast_S1x2048_S4096x2048_0_1 z))) (constant S_ .f32 0x00000000#32) reducesTo_S4096x2048_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf x x) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))) (addf (Host.divf (broadcastInDim S4096x1 ![0] bcast_S4096_S4096x1_0 (Host.reduceAdd (mulf x x) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (broadcastInDim S4096x1 ![] bcast_S_S4096x1 (constant S_ .f32 0x45000000#32))) (constant S_ .f32 0x00000000#32) reducesTo_S4096x1_S4096_d1 h_S_)) x)) fun i k => O i k + dxN X Y W i k + dxN X (fun i j => K i j + L i j) Z i k := by
  have hms := e_addf (e_hdivf (e1_rows (φ := .f32) (e_hsum1 (e_mulf (φ := .f32) hX hX) reducesTo_S4096x2048_S4096_d1 (by decide) (v := constant (F := Ideal) S_ .f32 0x00000000#32) h_S_ fun _ => Ideal.ofBits_zero_f32) (by decide) bcast_S4096_S4096x1_0)
    (e_hconst 0x45000000#32 bcast_S_S4096x1)) (e_hconst 0x358637BD#32 bcast_S_S4096x1)
  have hr := e_hrsqrt hms
  have hg1 := e_mulf (φ := .f32) hY (e_hrow (a := 4096) (φ := .f32) hW (by decide) bcast_S1x2048_S4096x2048_0_1)
  have hA1 := e1_rows (b := 2048) (φ := .f32) (e_hsum1 (e_hdivf (e_mulf (φ := .f32) (e1_col (φ := .f32)
      (e_hsum1 (e_mulf (φ := .f32) hX hg1) reducesTo_S4096x2048_S4096_d1 (by decide) (v := constant (F := Ideal) S_ .f32 0x00000000#32) h_S_ fun _ => Ideal.ofBits_zero_f32) shapeCasts_S4096_S4096x1)
    (e_mulf (φ := .f32) (e_hconst 0xBF000000#32 bcast_S_S4096x1) (e_hdivf hr hms))) (e_hconst 0x45000000#32 bcast_S_S4096x1))
    reducesTo_S4096x1_S4096_d1 (by decide) (v := constant (F := Ideal) S_ .f32 0x00000000#32) h_S_ fun _ => Ideal.ofBits_zero_f32) (by decide) bcast_S4096_S4096x2048_0
  have hB1 := hA1.congr fun i k _ _ => (Finset.sum_range_one _ : _ = aN X Y W i)
  have hT1 := e_mulf (φ := .f32) hg1 (e_hcol (b := 2048) (φ := .f32) hr (by decide) bcast_S4096x1_S4096x2048_0_1)
  have hg2 := e_mulf (φ := .f32) (e_addf hK hL) (e_hrow (a := 4096) (φ := .f32) hZ (by decide) bcast_S1x2048_S4096x2048_0_1)
  have hA2 := e1_rows (b := 2048) (φ := .f32) (e_hsum1 (e_hdivf (e_mulf (φ := .f32) (e1_col (φ := .f32)
      (e_hsum1 (e_mulf (φ := .f32) hX hg2) reducesTo_S4096x2048_S4096_d1 (by decide) (v := constant (F := Ideal) S_ .f32 0x00000000#32) h_S_ fun _ => Ideal.ofBits_zero_f32) shapeCasts_S4096_S4096x1)
    (e_mulf (φ := .f32) (e_hconst 0xBF000000#32 bcast_S_S4096x1) (e_hdivf hr hms))) (e_hconst 0x45000000#32 bcast_S_S4096x1))
    reducesTo_S4096x1_S4096_d1 (by decide) (v := constant (F := Ideal) S_ .f32 0x00000000#32) h_S_ fun _ => Ideal.ofBits_zero_f32) (by decide) bcast_S4096_S4096x2048_0
  have hB2 := hA2.congr fun i k _ _ => (Finset.sum_range_one _ : _ = aN X (fun i j => K i j + L i j) Z i)
  have hT2 := e_mulf (φ := .f32) hg2 (e_hcol (b := 2048) (φ := .f32) hr (by decide) bcast_S4096x1_S4096x2048_0_1)
  refine (e_addf (e_addf (e_addf (e_addf (e_addf (e_addf hO hT1) (e_mulf (φ := .f32) hX hB1)) (e_mulf (φ := .f32) hB1 hX)) hT2) (e_mulf (φ := .f32) hX hB2)) (e_mulf (φ := .f32) hB2 hX)).congr
    fun i k _ _ => ?_
  rw [← norm_grad X Y W i k, ← norm_grad X (fun i j => K i j + L i j) Z i k]
  show O i k + Y i k * W 0 k * nr X i + X i k * aN X Y W i + aN X Y W i * X i k + (K i k + L i k) * Z 0 k * nr X i + X i k * aN X (fun i j => K i j + L i j) Z i + aN X (fun i j => K i j + L i j) Z i * X i k = _
  simp only [add_assoc]

/-- The reference's result 2 is the same function of the arguments. -/
theorem reference2 (x : FVec Ideal S4096x2048 .f32) (y : FVec Ideal S4096x2048 .f32) {X Y : ℕ → ℕ → EReal}
    (hX : E2 (a := 4096) (b := 2048) x X) (hY : E2 (a := 4096) (b := 2048) y Y) :
    E2 (a := 1) (b := 2048)
      (shapeCast _ (Host.reduceAdd (mulf (mulf x (broadcastInDim S4096x2048 ![0, 1] bcast_S4096x1_S4096x2048_0_1 (Host.rsqrt (addf (Host.divf (broadcastInDim S4096x1 ![0] bcast_S4096_S4096x1_0 (Host.reduceAdd (mulf x x) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) y) (constant S_ .f32 0x00000000#32) reducesTo_S4096x2048_S2048_d0 h_S_) shapeCasts_S2048_S1x2048) fun _ k => dgN X Y 4096 k := by
  have hms := e_addf (e_hdivf (e1_rows (φ := .f32) (e_hsum1 (e_mulf (φ := .f32) hX hX) reducesTo_S4096x2048_S4096_d1 (by decide) (v := constant (F := Ideal) S_ .f32 0x00000000#32) h_S_ fun _ => Ideal.ofBits_zero_f32) (by decide) bcast_S4096_S4096x1_0)
    (e_hconst 0x45000000#32 bcast_S_S4096x1)) (e_hconst 0x358637BD#32 bcast_S_S4096x1)
  have hr := e_hrsqrt hms
  exact (e1_row (φ := .f32) (e_hsum0 (e_mulf (φ := .f32) (e_mulf (φ := .f32) hX (e_hcol (φ := .f32) hr (by decide) bcast_S4096x1_S4096x2048_0_1)) hY)
    reducesTo_S4096x2048_S2048_d0 (by decide) (v := constant (F := Ideal) S_ .f32 0x00000000#32) h_S_ fun _ => Ideal.ofBits_zero_f32) shapeCasts_S2048_S1x2048).congr
    fun i k _ _ => Finset.sum_congr rfl fun l _ => mul_comm _ _

/-- The reference's result 3 is the same function of the arguments. -/
theorem reference3 (x : FVec Ideal S4096x2048 .f32) (k : FVec Ideal S4096x2048 .f32) (l : FVec Ideal S4096x2048 .f32) {X K L : ℕ → ℕ → EReal}
    (hX : E2 (a := 4096) (b := 2048) x X) (hK : E2 (a := 4096) (b := 2048) k K) (hL : E2 (a := 4096) (b := 2048) l L) :
    E2 (a := 1) (b := 2048)
      (shapeCast _ (Host.reduceAdd (mulf (mulf x (broadcastInDim S4096x2048 ![0, 1] bcast_S4096x1_S4096x2048_0_1 (Host.rsqrt (addf (Host.divf (broadcastInDim S4096x1 ![0] bcast_S4096_S4096x1_0 (Host.reduceAdd (mulf x x) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (addf k l)) (constant S_ .f32 0x00000000#32) reducesTo_S4096x2048_S2048_d0 h_S_) shapeCasts_S2048_S1x2048) fun _ k => dgN X (fun i j => K i j + L i j) 4096 k := by
  have hms := e_addf (e_hdivf (e1_rows (φ := .f32) (e_hsum1 (e_mulf (φ := .f32) hX hX) reducesTo_S4096x2048_S4096_d1 (by decide) (v := constant (F := Ideal) S_ .f32 0x00000000#32) h_S_ fun _ => Ideal.ofBits_zero_f32) (by decide) bcast_S4096_S4096x1_0)
    (e_hconst 0x45000000#32 bcast_S_S4096x1)) (e_hconst 0x358637BD#32 bcast_S_S4096x1)
  have hr := e_hrsqrt hms
  exact (e1_row (φ := .f32) (e_hsum0 (e_mulf (φ := .f32) (e_mulf (φ := .f32) hX (e_hcol (φ := .f32) hr (by decide) bcast_S4096x1_S4096x2048_0_1)) (e_addf hK hL))
    reducesTo_S4096x2048_S2048_d0 (by decide) (v := constant (F := Ideal) S_ .f32 0x00000000#32) h_S_ fun _ => Ideal.ofBits_zero_f32) shapeCasts_S2048_S1x2048).congr
    fun i k _ _ => Finset.sum_congr rfl fun l _ => mul_comm _ _
end

/-- The kernel's program runs and leaves its arguments as they were. -/
theorem frame_kernel : Cert.quiescent_DNormTwo (hDNormTwo := Cert.DNormTwo.Gen.facts) := fun m ρ _ => Cert.DNormTwo.Gen.frame m ρ

/-- So does its idealization. -/
theorem frame_ideal : Cert.quiescent_DNormTwoIdeal (hDNormTwoIdeal := Cert.DNormTwoIdeal.Gen.facts) := fun m ρ _ => Cert.DNormTwoIdeal.Gen.frame m ρ

/-- So does the reference. -/
theorem frame_reference : Cert.quiescent_DNormTwoRefIdeal (hDNormTwoRefIdeal := Cert.DNormTwoRefIdeal.Gen.facts) := fun m ρ _ =>
  (θ_run Cert.DNormTwoRefIdeal.defs _ _).mono (fun r h => ⟨fun c => (h c).2.2.2, Idealize.ShloMosaic.sem_eq_zero_of_no_sems (by decide) r.2⟩)
    (Cert.DNormTwoRefIdeal.Value.run (F := Ideal) m ρ)

/-- From the same arguments the kernel and the reference leave the same results. -/
theorem algebraic : Cert.algebraic_DNormTwoIdeal_DNormTwoRefIdeal (hDNormTwoIdeal := Cert.DNormTwoIdeal.Gen.facts) (hDNormTwoRefIdeal := Cert.DNormTwoRefIdeal.Gen.facts) := fun m g m' g' _ hag => by
  refine ⟨fun c => (Cert.DNormTwoIdeal.Gen.dats m 0 c).arrAt 7 Cert.DNormTwoIdeal.cfg0.N, fun c => (Cert.DNormTwoIdeal.Gen.dats m 0 c).arrAt 8 Cert.DNormTwoIdeal.cfg0.N,
    fun c => (Cert.DNormTwoIdeal.Gen.dats m 0 c).arrAt 9 Cert.DNormTwoIdeal.cfg0.N, ?_, ?_⟩
  · exact Cert.DNormTwoIdeal.Value.run_blocks m g
  · refine (θ_run Cert.DNormTwoRefIdeal.defs _ _).mono (fun r h c => ⟨(h c).1.trans ?_, (h c).2.1.trans ?_, (h c).2.2.1.trans ?_, (h c).2.2.2⟩) (Cert.DNormTwoRefIdeal.Value.run (F := Ideal) m' g')
    · unfold Cert.DNormTwoRefIdeal.Value.res_main_v70
      obtain ⟨O, hO⟩ := exists_E2 (a := 4096) (b := 2048) (m ((c.tc : Thread Cert.DNormTwoIdeal.nD Cert.DNormTwoIdeal.τ).loc Cert.DNormTwoIdeal.main_arg0))
      obtain ⟨X, hX⟩ := exists_E2 (a := 4096) (b := 2048) (m ((c.tc : Thread Cert.DNormTwoIdeal.nD Cert.DNormTwoIdeal.τ).loc Cert.DNormTwoIdeal.main_arg1))
      obtain ⟨Y, hY⟩ := exists_E2 (a := 4096) (b := 2048) (m ((c.tc : Thread Cert.DNormTwoIdeal.nD Cert.DNormTwoIdeal.τ).loc Cert.DNormTwoIdeal.main_arg2))
      obtain ⟨K, hK⟩ := exists_E2 (a := 4096) (b := 2048) (m ((c.tc : Thread Cert.DNormTwoIdeal.nD Cert.DNormTwoIdeal.τ).loc Cert.DNormTwoIdeal.main_arg3))
      obtain ⟨L, hL⟩ := exists_E2 (a := 4096) (b := 2048) (m ((c.tc : Thread Cert.DNormTwoIdeal.nD Cert.DNormTwoIdeal.τ).loc Cert.DNormTwoIdeal.main_arg4))
      obtain ⟨W, hW⟩ := exists_E2 (a := 1) (b := 2048) (m ((c.tc : Thread Cert.DNormTwoIdeal.nD Cert.DNormTwoIdeal.τ).loc Cert.DNormTwoIdeal.main_arg5))
      obtain ⟨Z, hZ⟩ := exists_E2 (a := 1) (b := 2048) (m ((c.tc : Thread Cert.DNormTwoIdeal.nD Cert.DNormTwoIdeal.τ).loc Cert.DNormTwoIdeal.main_arg6))
      rw [(hag c).1, (hag c).2.1, (hag c).2.2.1, (hag c).2.2.2.1, (hag c).2.2.2.2.1, (hag c).2.2.2.2.2.1, (hag c).2.2.2.2.2.2]
      exact (reference1 _ _ _ _ _ _ _ hO hX hY hK hL hW hZ).eq (final1 m c (by rw [Cert.DNormTwoIdeal.Gen.V_main_arg0]; exact hO) (by rw [Cert.DNormTwoIdeal.Gen.V_main_arg1]; exact hX) (by rw [Cert.DNormTwoIdeal.Gen.V_main_arg2]; exact hY) (by rw [Cert.DNormTwoIdeal.Gen.V_main_arg3]; exact hK) (by rw [Cert.DNormTwoIdeal.Gen.V_main_arg4]; exact hL) (by rw [Cert.DNormTwoIdeal.Gen.V_main_arg5]; exact hW) (by rw [Cert.DNormTwoIdeal.Gen.V_main_arg6]; exact hZ))
    · obtain ⟨X, hX⟩ := exists_E2 (a := 4096) (b := 2048) (m ((c.tc : Thread Cert.DNormTwoIdeal.nD Cert.DNormTwoIdeal.τ).loc Cert.DNormTwoIdeal.main_arg1))
      obtain ⟨Y, hY⟩ := exists_E2 (a := 4096) (b := 2048) (m ((c.tc : Thread Cert.DNormTwoIdeal.nD Cert.DNormTwoIdeal.τ).loc Cert.DNormTwoIdeal.main_arg2))
      rw [(hag c).2.1, (hag c).2.2.1]
      exact (reference2 _ _ hX hY).eq (final2 m c (by rw [Cert.DNormTwoIdeal.Gen.V_main_arg1]; exact hX) (by rw [Cert.DNormTwoIdeal.Gen.V_main_arg2]; exact hY))
    · obtain ⟨X, hX⟩ := exists_E2 (a := 4096) (b := 2048) (m ((c.tc : Thread Cert.DNormTwoIdeal.nD Cert.DNormTwoIdeal.τ).loc Cert.DNormTwoIdeal.main_arg1))
      obtain ⟨K, hK⟩ := exists_E2 (a := 4096) (b := 2048) (m ((c.tc : Thread Cert.DNormTwoIdeal.nD Cert.DNormTwoIdeal.τ).loc Cert.DNormTwoIdeal.main_arg3))
      obtain ⟨L, hL⟩ := exists_E2 (a := 4096) (b := 2048) (m ((c.tc : Thread Cert.DNormTwoIdeal.nD Cert.DNormTwoIdeal.τ).loc Cert.DNormTwoIdeal.main_arg4))
      rw [(hag c).2.1, (hag c).2.2.2.1, (hag c).2.2.2.2.1]
      exact (reference3 _ _ _ hX hK hL).eq (final3 m c (by rw [Cert.DNormTwoIdeal.Gen.V_main_arg1]; exact hX) (by rw [Cert.DNormTwoIdeal.Gen.V_main_arg3]; exact hK) (by rw [Cert.DNormTwoIdeal.Gen.V_main_arg4]; exact hL))

end Cert.Stick.DNormTwo

end
-- ==== Proof.Adam.lean ====
/- One element of one step of the optimiser, over the extended reals. -/
module

public import proofs.«01_k».proof.Proof.Ex3

@[expose] public section

noncomputable section

namespace Cert.Stick

open Idealize.ShloMosaic

/-- The new first moment, from the gradient and the old one. -/
def mA (g m : EReal) : EReal := Ideal.ofBits .f32 0x3F666666#32 * m + Ideal.ofBits .f32 0x3DCCCCCD#32 * g

/-- The new second moment, from the gradient and the old one. -/
def vA (g v : EReal) : EReal := Ideal.ofBits .f32 0x3F7FBE77#32 * v + Ideal.ofBits .f32 0x3A83126F#32 * (g * g)

/-- The change of the weight, from the weight, the gradient and the old moments. -/
def dA (w g m v : EReal) : EReal :=
  Ideal.ofBits .f32 0xBA83126F#32 * (Ideal.div (Ideal.div (mA g m) (Ideal.ofBits .f32 0x3F26BD02#32))
    (Ideal.sqrt (Ideal.div (vA g v) (Ideal.ofBits .f32 0x3C231ACC#32)) + Ideal.ofBits .f32 0x322BCC77#32) + Ideal.ofBits .f32 0x3C23D70A#32 * w)

end Cert.Stick

end
-- ==== Proof.AdamWide.lean ====
/- One step of the optimiser for a weight of 512 rows and 2048 columns: what the kernel's run leaves, and that the reference leaves the same. -/
module

public import proofs.«01_k».proof.Defs
public import proofs.«01_k».proof.Proof.Adam
public import proofs.«01_k».proof.Proof.Gen.AdamWide.Frame
public import proofs.«01_k».proof.Proof.Gen.AdamWideIdeal.Value
public import proofs.«01_k».proof.Proof.Gen.AdamWideRefIdeal.Run
public import Idealize.ShloMosaic.Lib.Pipeline.ValueKit
public import Idealize.ShloMosaic.Adequacy
public import Idealize.ShloMosaic.Init

@[expose] public section

set_option maxRecDepth 16384
set_option maxHeartbeats 4000000

noncomputable section

namespace Cert.Stick.AdamWide

open Idealize.ShloMosaic Idealize.ShloMosaic.TcCoe Idealize.ShloMosaic.Updates
open Idealize.ShloMosaic.LaneScatter (Blk Vec1)
open Idealize.ShloMosaic.Pipeline (Dat)

section
open Cert.AdamWideIdeal Cert.AdamWideIdeal.Gen

/-! ### Which block each point stages -/

theorem at0 : ∀ t : Fin cfg0.N, win0_0.index t 0 = t.val / 4 ∧ win0_0.index t 1 = t.val % 4 ∧ win0_0.index t 2 = 0 :=
  (by decide +kernel : ∀ t : Fin grid0.N, win0_0.index t 0 = t.val / 4 ∧ win0_0.index t 1 = t.val % 4 ∧ win0_0.index t 2 = 0)
theorem at1 : ∀ t : Fin cfg0.N, win0_1.index t 0 = t.val / 4 ∧ win0_1.index t 1 = t.val % 4 ∧ win0_1.index t 2 = 0 :=
  (by decide +kernel : ∀ t : Fin grid0.N, win0_1.index t 0 = t.val / 4 ∧ win0_1.index t 1 = t.val % 4 ∧ win0_1.index t 2 = 0)
theorem at2 : ∀ t : Fin cfg0.N, win0_2.index t 0 = t.val / 4 ∧ win0_2.index t 1 = t.val % 4 ∧ win0_2.index t 2 = 0 :=
  (by decide +kernel : ∀ t : Fin grid0.N, win0_2.index t 0 = t.val / 4 ∧ win0_2.index t 1 = t.val % 4 ∧ win0_2.index t 2 = 0)
theorem at3 : ∀ t : Fin cfg0.N, win0_3.index t 0 = t.val / 4 ∧ win0_3.index t 1 = t.val % 4 ∧ win0_3.index t 2 = 0 :=
  (by decide +kernel : ∀ t : Fin grid0.N, win0_3.index t 0 = t.val / 4 ∧ win0_3.index t 1 = t.val % 4 ∧ win0_3.index t 2 = 0)
theorem at4 : ∀ t : Fin cfg0.N, win0_4.index t 0 = t.val / 4 ∧ win0_4.index t 1 = t.val % 4 ∧ win0_4.index t 2 = 0 :=
  (by decide +kernel : ∀ t : Fin grid0.N, win0_4.index t 0 = t.val / 4 ∧ win0_4.index t 1 = t.val % 4 ∧ win0_4.index t 2 = 0)
theorem at5 : ∀ t : Fin cfg0.N, win0_5.index t 0 = t.val / 4 ∧ win0_5.index t 1 = t.val % 4 ∧ win0_5.index t 2 = 0 :=
  (by decide +kernel : ∀ t : Fin grid0.N, win0_5.index t 0 = t.val / 4 ∧ win0_5.index t 1 = t.val % 4 ∧ win0_5.index t 2 = 0)
theorem at6 : ∀ t : Fin cfg0.N, win0_6.index t 0 = t.val / 4 ∧ win0_6.index t 1 = t.val % 4 ∧ win0_6.index t 2 = 0 :=
  (by decide +kernel : ∀ t : Fin grid0.N, win0_6.index t 0 = t.val / 4 ∧ win0_6.index t 1 = t.val % 4 ∧ win0_6.index t 2 = 0)
theorem at7 : ∀ t : Fin cfg0.N, win0_7.index t 0 = t.val / 4 ∧ win0_7.index t 1 = t.val % 4 ∧ win0_7.index t 2 = 0 :=
  (by decide +kernel : ∀ t : Fin grid0.N, win0_7.index t 0 = t.val / 4 ∧ win0_7.index t 1 = t.val % 4 ∧ win0_7.index t 2 = 0)

variable (m : (ℓ : Loc nD τ sig) → Buf (Elt Ideal) ℓ) (c : Dev nD) {W G P Q : ℕ → ℕ → ℕ → EReal}

theorem e_iblk0 (t : Fin cfg0.N) (h : E3 (a := 1) (b := 512) (c := 2048) (V m c main_arg0) W) :
    E3 (a := 1) (b := 128) (c := 2048) (iblk m c 0 t) fun i j k => W (t.val / 4 * 1 + 1 * i) (t.val % 4 * 128 + 1 * j) (0 * 2048 + 1 * k) := fun ι => by
  unfold iblk
  rw [View.read_apply]
  refine (h _).trans ?_
  show W (win0_0.index t 0 * 1 + 1 * (ι 0).val) (win0_0.index t 1 * 128 + 1 * (ι 1).val) (win0_0.index t 2 * 2048 + 1 * (ι 2).val) = _
  rw [(at0 t).1, (at0 t).2.1, (at0 t).2.2]

theorem e_iblk1 (t : Fin cfg0.N) (h : E3 (a := 1) (b := 512) (c := 2048) (V m c main_arg1) G) :
    E3 (a := 1) (b := 128) (c := 2048) (iblk m c 1 t) fun i j k => G (t.val / 4 * 1 + 1 * i) (t.val % 4 * 128 + 1 * j) (0 * 2048 + 1 * k) := fun ι => by
  unfold iblk
  rw [View.read_apply]
  refine (h _).trans ?_
  show G (win0_1.index t 0 * 1 + 1 * (ι 0).val) (win0_1.index t 1 * 128 + 1 * (ι 1).val) (win0_1.index t 2 * 2048 + 1 * (ι 2).val) = _
  rw [(at1 t).1, (at1 t).2.1, (at1 t).2.2]

theorem e_iblk2 (t : Fin cfg0.N) (h : E3 (a := 1) (b := 512) (c := 2048) (V m c main_arg2) P) :
    E3 (a := 1) (b := 128) (c := 2048) (iblk m c 2 t) fun i j k => P (t.val / 4 * 1 + 1 * i) (t.val % 4 * 128 + 1 * j) (0 * 2048 + 1 * k) := fun ι => by
  unfold iblk
  rw [View.read_apply]
  refine (h _).trans ?_
  show P (win0_2.index t 0 * 1 + 1 * (ι 0).val) (win0_2.index t 1 * 128 + 1 * (ι 1).val) (win0_2.index t 2 * 2048 + 1 * (ι 2).val) = _
  rw [(at2 t).1, (at2 t).2.1, (at2 t).2.2]

theorem e_iblk3 (t : Fin cfg0.N) (h : E3 (a := 1) (b := 512) (c := 2048) (V m c main_arg3) Q) :
    E3 (a := 1) (b := 128) (c := 2048) (iblk m c 3 t) fun i j k => Q (t.val / 4 * 1 + 1 * i) (t.val % 4 * 128 + 1 * j) (0 * 2048 + 1 * k) := fun ι => by
  unfold iblk
  rw [View.read_apply]
  refine (h _).trans ?_
  show Q (win0_3.index t 0 * 1 + 1 * (ι 0).val) (win0_3.index t 1 * 128 + 1 * (ι 1).val) (win0_3.index t 2 * 2048 + 1 * (ι 2).val) = _
  rw [(at3 t).1, (at3 t).2.1, (at3 t).2.2]

/-! ### What the body leaves at one point, and the run at its end -/

theorem e_pay4 {x : Vec Ideal S1x128x2048 .f32} {f} (hx : E3 (a := 1) (b := 128) (c := 2048) x f) : E2 (a := 128) (b := 2048) (k0_pay4 (F := Ideal) x) (f 0) := e_drop (φ := .f32) hx _

/-- What the first result's buffer holds after the body. -/
theorem e_out4 {vw vg vp vq : Vec Ideal S1x128x2048 .f32}
    (hG : E3 (a := 1) (b := 128) (c := 2048) vg G) : E3 (a := 1) (b := 128) (c := 2048) (out0_4 (F := Ideal) vw vg vp vq) fun _ j k => G 0 j k := by
  rw [show out0_4 (F := Ideal) vw vg vp vq = k0_pay5 (F := Ideal) vg by frame_out]
  exact e_lead (φ := .f32) (e_pay4 hG) _

/-- The first result after the run. -/
theorem final4 (hG : E3 (a := 1) (b := 512) (c := 2048) (V m c main_arg1) G) :
    E3 (a := 1) (b := 512) (c := 2048) ((dats m 0 c).arrAt 4 cfg0.N) fun i j k => G i j k := by
  have h : (dats m 0 c).arrAt 4 cfg0.N = fun ι : S1x512x2048.Idx => (fun i j k => G i j k : ℕ → ℕ → ℕ → EReal) (ι 0).val (ι 1).val (ι 2).val := by
    refine (dats m 0 c).arrAt_eq_of_covers 4 _ (by decide +kernel) fun t hf y => ?_
    show (dats m 0 c).after 4 t y = (fun i j k => G i j k : ℕ → ℕ → ℕ → EReal) (win0_4.index t 0 * 1 + 1 * (y 0).val) (win0_4.index t 1 * 128 + 1 * (y 1).val) (win0_4.index t 2 * 2048 + 1 * (y 2).val)
    rw [after0_4, (at4 t).1, (at4 t).2.1, (at4 t).2.2]
    refine (e_out4 (e_iblk1 m c t hG) y).trans ?_
    have y0 : (y 0).val < 1 := (y 0).isLt
    rw [show (y 0).val = 0 by omega]
  rw [h]
  exact fun ι => rfl

/-- What the second result's buffer holds after the body. -/
theorem e_out5 {vw vg vp vq : Vec Ideal S1x128x2048 .f32}
    (hW : E3 (a := 1) (b := 128) (c := 2048) vw W) (hG : E3 (a := 1) (b := 128) (c := 2048) vg G) (hP : E3 (a := 1) (b := 128) (c := 2048) vp P) (hQ : E3 (a := 1) (b := 128) (c := 2048) vq Q) : E3 (a := 1) (b := 128) (c := 2048) (out0_5 (F := Ideal) vw vg vp vq) fun _ j k => dA (W 0 j k) (G 0 j k) (P 0 j k) (Q 0 j k) := by
  rw [show out0_5 (F := Ideal) vw vg vp vq = k0_pay1 (F := Ideal) (k0_pay8 (F := Ideal) vg vp vq vw) by frame_out]
  exact e_lead (φ := .f32) (fun ι => by
    show dA (k0_pay4 (F := Ideal) vw ι) (k0_pay4 (F := Ideal) vg ι) (k0_pay4 (F := Ideal) vp ι) (k0_pay4 (F := Ideal) vq ι) = _
    rw [e_pay4 hW ι, e_pay4 hG ι, e_pay4 hP ι, e_pay4 hQ ι]) _

/-- The second result after the run. -/
theorem final5 (hW : E3 (a := 1) (b := 512) (c := 2048) (V m c main_arg0) W) (hG : E3 (a := 1) (b := 512) (c := 2048) (V m c main_arg1) G) (hP : E3 (a := 1) (b := 512) (c := 2048) (V m c main_arg2) P) (hQ : E3 (a := 1) (b := 512) (c := 2048) (V m c main_arg3) Q) :
    E3 (a := 1) (b := 512) (c := 2048) ((dats m 0 c).arrAt 5 cfg0.N) fun i j k => dA (W i j k) (G i j k) (P i j k) (Q i j k) := by
  have h : (dats m 0 c).arrAt 5 cfg0.N = fun ι : S1x512x2048.Idx => (fun i j k => dA (W i j k) (G i j k) (P i j k) (Q i j k) : ℕ → ℕ → ℕ → EReal) (ι 0).val (ι 1).val (ι 2).val := by
    refine (dats m 0 c).arrAt_eq_of_covers 5 _ (by decide +kernel) fun t hf y => ?_
    show (dats m 0 c).after 5 t y = (fun i j k => dA (W i j k) (G i j k) (P i j k) (Q i j k) : ℕ → ℕ → ℕ → EReal) (win0_5.index t 0 * 1 + 1 * (y 0).val) (win0_5.index t 1 * 128 + 1 * (y 1).val) (win0_5.index t 2 * 2048 + 1 * (y 2).val)
    rw [after0_5, (at5 t).1, (at5 t).2.1, (at5 t).2.2]
    refine (e_out5 (e_iblk0 m c t hW) (e_iblk1 m c t hG) (e_iblk2 m c t hP) (e_iblk3 m c t hQ) y).trans ?_
    have y0 : (y 0).val < 1 := (y 0).isLt
    rw [show (y 0).val = 0 by omega]
  rw [h]
  exact fun ι => rfl

/-- What the third result's buffer holds after the body. -/
theorem e_out6 {vw vg vp vq : Vec Ideal S1x128x2048 .f32}
    (hG : E3 (a := 1) (b := 128) (c := 2048) vg G) (hP : E3 (a := 1) (b := 128) (c := 2048) vp P) : E3 (a := 1) (b := 128) (c := 2048) (out0_6 (F := Ideal) vw vg vp vq) fun _ j k => mA (G 0 j k) (P 0 j k) := by
  rw [show out0_6 (F := Ideal) vw vg vp vq = k0_pay2 (F := Ideal) (k0_pay6 (F := Ideal) vg vp) by frame_out]
  exact e_lead (φ := .f32) (fun ι => by
    show mA (k0_pay4 (F := Ideal) vg ι) (k0_pay4 (F := Ideal) vp ι) = _
    rw [e_pay4 hG ι, e_pay4 hP ι]) _

/-- The third result after the run. -/
theorem final6 (hG : E3 (a := 1) (b := 512) (c := 2048) (V m c main_arg1) G) (hP : E3 (a := 1) (b := 512) (c := 2048) (V m c main_arg2) P) :
    E3 (a := 1) (b := 512) (c := 2048) ((dats m 0 c).arrAt 6 cfg0.N) fun i j k => mA (G i j k) (P i j k) := by
  have h : (dats m 0 c).arrAt 6 cfg0.N = fun ι : S1x512x2048.Idx => (fun i j k => mA (G i j k) (P i j k) : ℕ → ℕ → ℕ → EReal) (ι 0).val (ι 1).val (ι 2).val := by
    refine (dats m 0 c).arrAt_eq_of_covers 6 _ (by decide +kernel) fun t hf y => ?_
    show (dats m 0 c).after 6 t y = (fun i j k => mA (G i j k) (P i j k) : ℕ → ℕ → ℕ → EReal) (win0_6.index t 0 * 1 + 1 * (y 0).val) (win0_6.index t 1 * 128 + 1 * (y 1).val) (win0_6.index t 2 * 2048 + 1 * (y 2).val)
    rw [after0_6, (at6 t).1, (at6 t).2.1, (at6 t).2.2]
    refine (e_out6 (e_iblk1 m c t hG) (e_iblk2 m c t hP) y).trans ?_
    have y0 : (y 0).val < 1 := (y 0).isLt
    rw [show (y 0).val = 0 by omega]
  rw [h]
  exact fun ι => rfl

/-- What the fourth result's buffer holds after the body. -/
theorem e_out7 {vw vg vp vq : Vec Ideal S1x128x2048 .f32}
    (hG : E3 (a := 1) (b := 128) (c := 2048) vg G) (hQ : E3 (a := 1) (b := 128) (c := 2048) vq Q) : E3 (a := 1) (b := 128) (c := 2048) (out0_7 (F := Ideal) vw vg vp vq) fun _ j k => vA (G 0 j k) (Q 0 j k) := by
  rw [show out0_7 (F := Ideal) vw vg vp vq = k0_pay3 (F := Ideal) (k0_pay7 (F := Ideal) vg vq) by frame_out]
  exact e_lead (φ := .f32) (fun ι => by
    show vA (k0_pay4 (F := Ideal) vg ι) (k0_pay4 (F := Ideal) vq ι) = _
    rw [e_pay4 hG ι, e_pay4 hQ ι]) _

/-- The fourth result after the run. -/
theorem final7 (hG : E3 (a := 1) (b := 512) (c := 2048) (V m c main_arg1) G) (hQ : E3 (a := 1) (b := 512) (c := 2048) (V m c main_arg3) Q) :
    E3 (a := 1) (b := 512) (c := 2048) ((dats m 0 c).arrAt 7 cfg0.N) fun i j k => vA (G i j k) (Q i j k) := by
  have h : (dats m 0 c).arrAt 7 cfg0.N = fun ι : S1x512x2048.Idx => (fun i j k => vA (G i j k) (Q i j k) : ℕ → ℕ → ℕ → EReal) (ι 0).val (ι 1).val (ι 2).val := by
    refine (dats m 0 c).arrAt_eq_of_covers 7 _ (by decide +kernel) fun t hf y => ?_
    show (dats m 0 c).after 7 t y = (fun i j k => vA (G i j k) (Q i j k) : ℕ → ℕ → ℕ → EReal) (win0_7.index t 0 * 1 + 1 * (y 0).val) (win0_7.index t 1 * 128 + 1 * (y 1).val) (win0_7.index t 2 * 2048 + 1 * (y 2).val)
    rw [after0_7, (at7 t).1, (at7 t).2.1, (at7 t).2.2]
    refine (e_out7 (e_iblk1 m c t hG) (e_iblk3 m c t hQ) y).trans ?_
    have y0 : (y 0).val < 1 := (y 0).isLt
    rw [show (y 0).val = 0 by omega]
  rw [h]
  exact fun ι => rfl
end

section
open Cert.AdamWideRefIdeal Cert.AdamWideRefIdeal.Gen

/-- The reference's second result is the same function of the arguments. -/
theorem reference5 (w : FVec Ideal S1x512x2048 .f32) (g : FVec Ideal S1x512x2048 .f32) (p : FVec Ideal S1x512x2048 .f32) (q : FVec Ideal S1x512x2048 .f32) {W G P Q : ℕ → ℕ → ℕ → EReal} (hW : E3 (a := 1) (b := 512) (c := 2048) w W) (hG : E3 (a := 1) (b := 512) (c := 2048) g G) (hP : E3 (a := 1) (b := 512) (c := 2048) p P) (hQ : E3 (a := 1) (b := 512) (c := 2048) q Q) :
    E3 (a := 1) (b := 512) (c := 2048)
      (mulf (broadcastInDim S1x512x2048 ![] bcast_S_S1x512x2048 (constant S_ .f32 0xBA83126F#32)) (addf (Host.divf (Host.divf (addf (mulf (broadcastInDim S1x512x2048 ![] bcast_S_S1x512x2048 (constant S_ .f32 0x3F666666#32)) p) (mulf (broadcastInDim S1x512x2048 ![] bcast_S_S1x512x2048 (constant S_ .f32 0x3DCCCCCD#32)) g)) (broadcastInDim S1x512x2048 ![] bcast_S_S1x512x2048 (constant S_ .f32 0x3F26BD02#32))) (addf (Host.sqrt (Host.divf (addf (mulf (broadcastInDim S1x512x2048 ![] bcast_S_S1x512x2048 (constant S_ .f32 0x3F7FBE77#32)) q) (mulf (broadcastInDim S1x512x2048 ![] bcast_S_S1x512x2048 (constant S_ .f32 0x3A83126F#32)) (mulf g g))) (broadcastInDim S1x512x2048 ![] bcast_S_S1x512x2048 (constant S_ .f32 0x3C231ACC#32)))) (broadcastInDim S1x512x2048 ![] bcast_S_S1x512x2048 (constant S_ .f32 0x322BCC77#32)))) (mulf (broadcastInDim S1x512x2048 ![] bcast_S_S1x512x2048 (constant S_ .f32 0x3C23D70A#32)) w))) fun i j k => dA (W i j k) (G i j k) (P i j k) (Q i j k) := fun ι => by
  show dA (w ι) (g ι) (p ι) (q ι) = _
  rw [hW ι, hG ι, hP ι, hQ ι]

/-- The reference's third result is the same function of the arguments. -/
theorem reference6 (g : FVec Ideal S1x512x2048 .f32) (p : FVec Ideal S1x512x2048 .f32) {G P : ℕ → ℕ → ℕ → EReal} (hG : E3 (a := 1) (b := 512) (c := 2048) g G) (hP : E3 (a := 1) (b := 512) (c := 2048) p P) :
    E3 (a := 1) (b := 512) (c := 2048)
      (addf (mulf (broadcastInDim S1x512x2048 ![] bcast_S_S1x512x2048 (constant S_ .f32 0x3F666666#32)) p) (mulf (broadcastInDim S1x512x2048 ![] bcast_S_S1x512x2048 (constant S_ .f32 0x3DCCCCCD#32)) g)) fun i j k => mA (G i j k) (P i j k) := fun ι => by
  show mA (g ι) (p ι) = _
  rw [hG ι, hP ι]

/-- The reference's fourth result is the same function of the arguments. -/
theorem reference7 (g : FVec Ideal S1x512x2048 .f32) (q : FVec Ideal S1x512x2048 .f32) {G Q : ℕ → ℕ → ℕ → EReal} (hG : E3 (a := 1) (b := 512) (c := 2048) g G) (hQ : E3 (a := 1) (b := 512) (c := 2048) q Q) :
    E3 (a := 1) (b := 512) (c := 2048)
      (addf (mulf (broadcastInDim S1x512x2048 ![] bcast_S_S1x512x2048 (constant S_ .f32 0x3F7FBE77#32)) q) (mulf (broadcastInDim S1x512x2048 ![] bcast_S_S1x512x2048 (constant S_ .f32 0x3A83126F#32)) (mulf g g))) fun i j k => vA (G i j k) (Q i j k) := fun ι => by
  show vA (g ι) (q ι) = _
  rw [hG ι, hQ ι]
end

/-- The kernel's program runs and leaves its arguments as they were. -/
theorem frame_kernel : Cert.quiescent_AdamWide (hAdamWide := Cert.AdamWide.Gen.facts) := fun m ρ _ => Cert.AdamWide.Gen.frame m ρ

/-- So does its idealization. -/
theorem frame_ideal : Cert.quiescent_AdamWideIdeal (hAdamWideIdeal := Cert.AdamWideIdeal.Gen.facts) := fun m ρ _ => Cert.AdamWideIdeal.Gen.frame m ρ

/-- So does the reference. -/
theorem frame_reference : Cert.quiescent_AdamWideRefIdeal (hAdamWideRefIdeal := Cert.AdamWideRefIdeal.Gen.facts) := fun m ρ _ =>
  (θ_run Cert.AdamWideRefIdeal.defs _ _).mono (fun r h => ⟨fun c => (h c).2.2.2.2, Idealize.ShloMosaic.sem_eq_zero_of_no_sems (by decide) r.2⟩)
    (Cert.AdamWideRefIdeal.Value.run (F := Ideal) m ρ)

/-- From the same arguments the kernel and the reference leave the same results. -/
theorem algebraic : Cert.algebraic_AdamWideIdeal_AdamWideRefIdeal (hAdamWideIdeal := Cert.AdamWideIdeal.Gen.facts) (hAdamWideRefIdeal := Cert.AdamWideRefIdeal.Gen.facts) := fun m g m' g' _ hag => by
  refine ⟨fun c => (Cert.AdamWideIdeal.Gen.dats m 0 c).arrAt 4 Cert.AdamWideIdeal.cfg0.N, fun c => (Cert.AdamWideIdeal.Gen.dats m 0 c).arrAt 5 Cert.AdamWideIdeal.cfg0.N,
    fun c => (Cert.AdamWideIdeal.Gen.dats m 0 c).arrAt 6 Cert.AdamWideIdeal.cfg0.N, fun c => (Cert.AdamWideIdeal.Gen.dats m 0 c).arrAt 7 Cert.AdamWideIdeal.cfg0.N, ?_, ?_⟩
  · exact Cert.AdamWideIdeal.Value.run_blocks m g
  · refine (θ_run Cert.AdamWideRefIdeal.defs _ _).mono (fun r h c => ⟨(h c).1.trans ?_, (h c).2.1.trans ?_, (h c).2.2.1.trans ?_, (h c).2.2.2.1.trans ?_, (h c).2.2.2.2⟩) (Cert.AdamWideRefIdeal.Value.run (F := Ideal) m' g')
    · obtain ⟨G, hG⟩ := exists_E3 (a := 1) (b := 512) (c := 2048) (m ((c.tc : Thread Cert.AdamWideIdeal.nD Cert.AdamWideIdeal.τ).loc Cert.AdamWideIdeal.main_arg1))
      rw [(hag c).2.1]
      exact E3.eq (hG) (final4 m c (by rw [Cert.AdamWideIdeal.Gen.V_main_arg1]; exact hG))
    · obtain ⟨W, hW⟩ := exists_E3 (a := 1) (b := 512) (c := 2048) (m ((c.tc : Thread Cert.AdamWideIdeal.nD Cert.AdamWideIdeal.τ).loc Cert.AdamWideIdeal.main_arg0))
      obtain ⟨G, hG⟩ := exists_E3 (a := 1) (b := 512) (c := 2048) (m ((c.tc : Thread Cert.AdamWideIdeal.nD Cert.AdamWideIdeal.τ).loc Cert.AdamWideIdeal.main_arg1))
      obtain ⟨P, hP⟩ := exists_E3 (a := 1) (b := 512) (c := 2048) (m ((c.tc : Thread Cert.AdamWideIdeal.nD Cert.AdamWideIdeal.τ).loc Cert.AdamWideIdeal.main_arg2))
      obtain ⟨Q, hQ⟩ := exists_E3 (a := 1) (b := 512) (c := 2048) (m ((c.tc : Thread Cert.AdamWideIdeal.nD Cert.AdamWideIdeal.τ).loc Cert.AdamWideIdeal.main_arg3))
      rw [(hag c).1, (hag c).2.1, (hag c).2.2.1, (hag c).2.2.2]
      exact E3.eq (reference5 _ _ _ _ hW hG hP hQ) (final5 m c (by rw [Cert.AdamWideIdeal.Gen.V_main_arg0]; exact hW) (by rw [Cert.AdamWideIdeal.Gen.V_main_arg1]; exact hG) (by rw [Cert.AdamWideIdeal.Gen.V_main_arg2]; exact hP) (by rw [Cert.AdamWideIdeal.Gen.V_main_arg3]; exact hQ))
    · obtain ⟨G, hG⟩ := exists_E3 (a := 1) (b := 512) (c := 2048) (m ((c.tc : Thread Cert.AdamWideIdeal.nD Cert.AdamWideIdeal.τ).loc Cert.AdamWideIdeal.main_arg1))
      obtain ⟨P, hP⟩ := exists_E3 (a := 1) (b := 512) (c := 2048) (m ((c.tc : Thread Cert.AdamWideIdeal.nD Cert.AdamWideIdeal.τ).loc Cert.AdamWideIdeal.main_arg2))
      rw [(hag c).2.1, (hag c).2.2.1]
      exact E3.eq (reference6 _ _ hG hP) (final6 m c (by rw [Cert.AdamWideIdeal.Gen.V_main_arg1]; exact hG) (by rw [Cert.AdamWideIdeal.Gen.V_main_arg2]; exact hP))
    · obtain ⟨G, hG⟩ := exists_E3 (a := 1) (b := 512) (c := 2048) (m ((c.tc : Thread Cert.AdamWideIdeal.nD Cert.AdamWideIdeal.τ).loc Cert.AdamWideIdeal.main_arg1))
      obtain ⟨Q, hQ⟩ := exists_E3 (a := 1) (b := 512) (c := 2048) (m ((c.tc : Thread Cert.AdamWideIdeal.nD Cert.AdamWideIdeal.τ).loc Cert.AdamWideIdeal.main_arg3))
      rw [(hag c).2.1, (hag c).2.2.2]
      exact E3.eq (reference7 _ _ hG hQ) (final7 m c (by rw [Cert.AdamWideIdeal.Gen.V_main_arg1]; exact hG) (by rw [Cert.AdamWideIdeal.Gen.V_main_arg3]; exact hQ))

end Cert.Stick.AdamWide

end
-- ==== Proof.AdamIn.lean ====
/- One step of the optimiser for the gated mixer's input projection: what the kernel's run leaves, and that the reference leaves the same. -/
module

public import proofs.«01_k».proof.Defs
public import proofs.«01_k».proof.Proof.Adam
public import proofs.«01_k».proof.Proof.Gen.AdamIn.Frame
public import proofs.«01_k».proof.Proof.Gen.AdamInIdeal.Value
public import proofs.«01_k».proof.Proof.Gen.AdamInRefIdeal.Run
public import Idealize.ShloMosaic.Lib.Pipeline.ValueKit
public import Idealize.ShloMosaic.Adequacy
public import Idealize.ShloMosaic.Init

@[expose] public section

set_option maxRecDepth 16384
set_option maxHeartbeats 4000000

noncomputable section

namespace Cert.Stick.AdamIn

open Idealize.ShloMosaic Idealize.ShloMosaic.TcCoe Idealize.ShloMosaic.Updates
open Idealize.ShloMosaic.LaneScatter (Blk Vec1)
open Idealize.ShloMosaic.Pipeline (Dat)

section
open Cert.AdamInIdeal Cert.AdamInIdeal.Gen

/-! ### Which block each point stages -/

theorem at0 : ∀ t : Fin cfg0.N, win0_0.index t 0 = t.val / 8 ∧ win0_0.index t 1 = t.val % 8 ∧ win0_0.index t 2 = 0 :=
  (by decide +kernel : ∀ t : Fin grid0.N, win0_0.index t 0 = t.val / 8 ∧ win0_0.index t 1 = t.val % 8 ∧ win0_0.index t 2 = 0)
theorem at1 : ∀ t : Fin cfg0.N, win0_1.index t 0 = t.val / 8 ∧ win0_1.index t 1 = t.val % 8 ∧ win0_1.index t 2 = 0 :=
  (by decide +kernel : ∀ t : Fin grid0.N, win0_1.index t 0 = t.val / 8 ∧ win0_1.index t 1 = t.val % 8 ∧ win0_1.index t 2 = 0)
theorem at2 : ∀ t : Fin cfg0.N, win0_2.index t 0 = t.val / 8 ∧ win0_2.index t 1 = t.val % 8 ∧ win0_2.index t 2 = 0 :=
  (by decide +kernel : ∀ t : Fin grid0.N, win0_2.index t 0 = t.val / 8 ∧ win0_2.index t 1 = t.val % 8 ∧ win0_2.index t 2 = 0)
theorem at3 : ∀ t : Fin cfg0.N, win0_3.index t 0 = t.val / 8 ∧ win0_3.index t 1 = t.val % 8 ∧ win0_3.index t 2 = 0 :=
  (by decide +kernel : ∀ t : Fin grid0.N, win0_3.index t 0 = t.val / 8 ∧ win0_3.index t 1 = t.val % 8 ∧ win0_3.index t 2 = 0)
theorem at4 : ∀ t : Fin cfg0.N, win0_4.index t 0 = t.val / 8 ∧ win0_4.index t 1 = t.val % 8 ∧ win0_4.index t 2 = 0 :=
  (by decide +kernel : ∀ t : Fin grid0.N, win0_4.index t 0 = t.val / 8 ∧ win0_4.index t 1 = t.val % 8 ∧ win0_4.index t 2 = 0)
theorem at5 : ∀ t : Fin cfg0.N, win0_5.index t 0 = t.val / 8 ∧ win0_5.index t 1 = t.val % 8 ∧ win0_5.index t 2 = 0 :=
  (by decide +kernel : ∀ t : Fin grid0.N, win0_5.index t 0 = t.val / 8 ∧ win0_5.index t 1 = t.val % 8 ∧ win0_5.index t 2 = 0)
theorem at6 : ∀ t : Fin cfg0.N, win0_6.index t 0 = t.val / 8 ∧ win0_6.index t 1 = t.val % 8 ∧ win0_6.index t 2 = 0 :=
  (by decide +kernel : ∀ t : Fin grid0.N, win0_6.index t 0 = t.val / 8 ∧ win0_6.index t 1 = t.val % 8 ∧ win0_6.index t 2 = 0)
theorem at7 : ∀ t : Fin cfg0.N, win0_7.index t 0 = t.val / 8 ∧ win0_7.index t 1 = t.val % 8 ∧ win0_7.index t 2 = 0 :=
  (by decide +kernel : ∀ t : Fin grid0.N, win0_7.index t 0 = t.val / 8 ∧ win0_7.index t 1 = t.val % 8 ∧ win0_7.index t 2 = 0)

variable (m : (ℓ : Loc nD τ sig) → Buf (Elt Ideal) ℓ) (c : Dev nD) {W G P Q : ℕ → ℕ → ℕ → EReal}

theorem e_iblk0 (t : Fin cfg0.N) (h : E3 (a := 1) (b := 2048) (c := 1024) (V m c main_arg0) W) :
    E3 (a := 1) (b := 256) (c := 1024) (iblk m c 0 t) fun i j k => W (t.val / 8 * 1 + 1 * i) (t.val % 8 * 256 + 1 * j) (0 * 1024 + 1 * k) := fun ι => by
  unfold iblk
  rw [View.read_apply]
  refine (h _).trans ?_
  show W (win0_0.index t 0 * 1 + 1 * (ι 0).val) (win0_0.index t 1 * 256 + 1 * (ι 1).val) (win0_0.index t 2 * 1024 + 1 * (ι 2).val) = _
  rw [(at0 t).1, (at0 t).2.1, (at0 t).2.2]

theorem e_iblk1 (t : Fin cfg0.N) (h : E3 (a := 1) (b := 2048) (c := 1024) (V m c main_arg1) G) :
    E3 (a := 1) (b := 256) (c := 1024) (iblk m c 1 t) fun i j k => G (t.val / 8 * 1 + 1 * i) (t.val % 8 * 256 + 1 * j) (0 * 1024 + 1 * k) := fun ι => by
  unfold iblk
  rw [View.read_apply]
  refine (h _).trans ?_
  show G (win0_1.index t 0 * 1 + 1 * (ι 0).val) (win0_1.index t 1 * 256 + 1 * (ι 1).val) (win0_1.index t 2 * 1024 + 1 * (ι 2).val) = _
  rw [(at1 t).1, (at1 t).2.1, (at1 t).2.2]

theorem e_iblk2 (t : Fin cfg0.N) (h : E3 (a := 1) (b := 2048) (c := 1024) (V m c main_arg2) P) :
    E3 (a := 1) (b := 256) (c := 1024) (iblk m c 2 t) fun i j k => P (t.val / 8 * 1 + 1 * i) (t.val % 8 * 256 + 1 * j) (0 * 1024 + 1 * k) := fun ι => by
  unfold iblk
  rw [View.read_apply]
  refine (h _).trans ?_
  show P (win0_2.index t 0 * 1 + 1 * (ι 0).val) (win0_2.index t 1 * 256 + 1 * (ι 1).val) (win0_2.index t 2 * 1024 + 1 * (ι 2).val) = _
  rw [(at2 t).1, (at2 t).2.1, (at2 t).2.2]

theorem e_iblk3 (t : Fin cfg0.N) (h : E3 (a := 1) (b := 2048) (c := 1024) (V m c main_arg3) Q) :
    E3 (a := 1) (b := 256) (c := 1024) (iblk m c 3 t) fun i j k => Q (t.val / 8 * 1 + 1 * i) (t.val % 8 * 256 + 1 * j) (0 * 1024 + 1 * k) := fun ι => by
  unfold iblk
  rw [View.read_apply]
  refine (h _).trans ?_
  show Q (win0_3.index t 0 * 1 + 1 * (ι 0).val) (win0_3.index t 1 * 256 + 1 * (ι 1).val) (win0_3.index t 2 * 1024 + 1 * (ι 2).val) = _
  rw [(at3 t).1, (at3 t).2.1, (at3 t).2.2]

/-! ### What the body leaves at one point, and the run at its end -/

theorem e_pay4 {x : Vec Ideal S1x256x1024 .f32} {f} (hx : E3 (a := 1) (b := 256) (c := 1024) x f) : E2 (a := 256) (b := 1024) (k0_pay4 (F := Ideal) x) (f 0) := e_drop (φ := .f32) hx _

/-- What the first result's buffer holds after the body. -/
theorem e_out4 {vw vg vp vq : Vec Ideal S1x256x1024 .f32}
    (hG : E3 (a := 1) (b := 256) (c := 1024) vg G) : E3 (a := 1) (b := 256) (c := 1024) (out0_4 (F := Ideal) vw vg vp vq) fun _ j k => G 0 j k := by
  rw [show out0_4 (F := Ideal) vw vg vp vq = k0_pay5 (F := Ideal) vg by frame_out]
  exact e_lead (φ := .f32) (e_pay4 hG) _

/-- The first result after the run. -/
theorem final4 (hG : E3 (a := 1) (b := 2048) (c := 1024) (V m c main_arg1) G) :
    E3 (a := 1) (b := 2048) (c := 1024) ((dats m 0 c).arrAt 4 cfg0.N) fun i j k => G i j k := by
  have h : (dats m 0 c).arrAt 4 cfg0.N = fun ι : S1x2048x1024.Idx => (fun i j k => G i j k : ℕ → ℕ → ℕ → EReal) (ι 0).val (ι 1).val (ι 2).val := by
    refine (dats m 0 c).arrAt_eq_of_covers 4 _ (by decide +kernel) fun t hf y => ?_
    show (dats m 0 c).after 4 t y = (fun i j k => G i j k : ℕ → ℕ → ℕ → EReal) (win0_4.index t 0 * 1 + 1 * (y 0).val) (win0_4.index t 1 * 256 + 1 * (y 1).val) (win0_4.index t 2 * 1024 + 1 * (y 2).val)
    rw [after0_4, (at4 t).1, (at4 t).2.1, (at4 t).2.2]
    refine (e_out4 (e_iblk1 m c t hG) y).trans ?_
    have y0 : (y 0).val < 1 := (y 0).isLt
    rw [show (y 0).val = 0 by omega]
  rw [h]
  exact fun ι => rfl

/-- What the second result's buffer holds after the body. -/
theorem e_out5 {vw vg vp vq : Vec Ideal S1x256x1024 .f32}
    (hW : E3 (a := 1) (b := 256) (c := 1024) vw W) (hG : E3 (a := 1) (b := 256) (c := 1024) vg G) (hP : E3 (a := 1) (b := 256) (c := 1024) vp P) (hQ : E3 (a := 1) (b := 256) (c := 1024) vq Q) : E3 (a := 1) (b := 256) (c := 1024) (out0_5 (F := Ideal) vw vg vp vq) fun _ j k => dA (W 0 j k) (G 0 j k) (P 0 j k) (Q 0 j k) := by
  rw [show out0_5 (F := Ideal) vw vg vp vq = k0_pay1 (F := Ideal) (k0_pay8 (F := Ideal) vg vp vq vw) by frame_out]
  exact e_lead (φ := .f32) (fun ι => by
    show dA (k0_pay4 (F := Ideal) vw ι) (k0_pay4 (F := Ideal) vg ι) (k0_pay4 (F := Ideal) vp ι) (k0_pay4 (F := Ideal) vq ι) = _
    rw [e_pay4 hW ι, e_pay4 hG ι, e_pay4 hP ι, e_pay4 hQ ι]) _

/-- The second result after the run. -/
theorem final5 (hW : E3 (a := 1) (b := 2048) (c := 1024) (V m c main_arg0) W) (hG : E3 (a := 1) (b := 2048) (c := 1024) (V m c main_arg1) G) (hP : E3 (a := 1) (b := 2048) (c := 1024) (V m c main_arg2) P) (hQ : E3 (a := 1) (b := 2048) (c := 1024) (V m c main_arg3) Q) :
    E3 (a := 1) (b := 2048) (c := 1024) ((dats m 0 c).arrAt 5 cfg0.N) fun i j k => dA (W i j k) (G i j k) (P i j k) (Q i j k) := by
  have h : (dats m 0 c).arrAt 5 cfg0.N = fun ι : S1x2048x1024.Idx => (fun i j k => dA (W i j k) (G i j k) (P i j k) (Q i j k) : ℕ → ℕ → ℕ → EReal) (ι 0).val (ι 1).val (ι 2).val := by
    refine (dats m 0 c).arrAt_eq_of_covers 5 _ (by decide +kernel) fun t hf y => ?_
    show (dats m 0 c).after 5 t y = (fun i j k => dA (W i j k) (G i j k) (P i j k) (Q i j k) : ℕ → ℕ → ℕ → EReal) (win0_5.index t 0 * 1 + 1 * (y 0).val) (win0_5.index t 1 * 256 + 1 * (y 1).val) (win0_5.index t 2 * 1024 + 1 * (y 2).val)
    rw [after0_5, (at5 t).1, (at5 t).2.1, (at5 t).2.2]
    refine (e_out5 (e_iblk0 m c t hW) (e_iblk1 m c t hG) (e_iblk2 m c t hP) (e_iblk3 m c t hQ) y).trans ?_
    have y0 : (y 0).val < 1 := (y 0).isLt
    rw [show (y 0).val = 0 by omega]
  rw [h]
  exact fun ι => rfl

/-- What the third result's buffer holds after the body. -/
theorem e_out6 {vw vg vp vq : Vec Ideal S1x256x1024 .f32}
    (hG : E3 (a := 1) (b := 256) (c := 1024) vg G) (hP : E3 (a := 1) (b := 256) (c := 1024) vp P) : E3 (a := 1) (b := 256) (c := 1024) (out0_6 (F := Ideal) vw vg vp vq) fun _ j k => mA (G 0 j k) (P 0 j k) := by
  rw [show out0_6 (F := Ideal) vw vg vp vq = k0_pay2 (F := Ideal) (k0_pay6 (F := Ideal) vg vp) by frame_out]
  exact e_lead (φ := .f32) (fun ι => by
    show mA (k0_pay4 (F := Ideal) vg ι) (k0_pay4 (F := Ideal) vp ι) = _
    rw [e_pay4 hG ι, e_pay4 hP ι]) _

/-- The third result after the run. -/
theorem final6 (hG : E3 (a := 1) (b := 2048) (c := 1024) (V m c main_arg1) G) (hP : E3 (a := 1) (b := 2048) (c := 1024) (V m c main_arg2) P) :
    E3 (a := 1) (b := 2048) (c := 1024) ((dats m 0 c).arrAt 6 cfg0.N) fun i j k => mA (G i j k) (P i j k) := by
  have h : (dats m 0 c).arrAt 6 cfg0.N = fun ι : S1x2048x1024.Idx => (fun i j k => mA (G i j k) (P i j k) : ℕ → ℕ → ℕ → EReal) (ι 0).val (ι 1).val (ι 2).val := by
    refine (dats m 0 c).arrAt_eq_of_covers 6 _ (by decide +kernel) fun t hf y => ?_
    show (dats m 0 c).after 6 t y = (fun i j k => mA (G i j k) (P i j k) : ℕ → ℕ → ℕ → EReal) (win0_6.index t 0 * 1 + 1 * (y 0).val) (win0_6.index t 1 * 256 + 1 * (y 1).val) (win0_6.index t 2 * 1024 + 1 * (y 2).val)
    rw [after0_6, (at6 t).1, (at6 t).2.1, (at6 t).2.2]
    refine (e_out6 (e_iblk1 m c t hG) (e_iblk2 m c t hP) y).trans ?_
    have y0 : (y 0).val < 1 := (y 0).isLt
    rw [show (y 0).val = 0 by omega]
  rw [h]
  exact fun ι => rfl

/-- What the fourth result's buffer holds after the body. -/
theorem e_out7 {vw vg vp vq : Vec Ideal S1x256x1024 .f32}
    (hG : E3 (a := 1) (b := 256) (c := 1024) vg G) (hQ : E3 (a := 1) (b := 256) (c := 1024) vq Q) : E3 (a := 1) (b := 256) (c := 1024) (out0_7 (F := Ideal) vw vg vp vq) fun _ j k => vA (G 0 j k) (Q 0 j k) := by
  rw [show out0_7 (F := Ideal) vw vg vp vq = k0_pay3 (F := Ideal) (k0_pay7 (F := Ideal) vg vq) by frame_out]
  exact e_lead (φ := .f32) (fun ι => by
    show vA (k0_pay4 (F := Ideal) vg ι) (k0_pay4 (F := Ideal) vq ι) = _
    rw [e_pay4 hG ι, e_pay4 hQ ι]) _

/-- The fourth result after the run. -/
theorem final7 (hG : E3 (a := 1) (b := 2048) (c := 1024) (V m c main_arg1) G) (hQ : E3 (a := 1) (b := 2048) (c := 1024) (V m c main_arg3) Q) :
    E3 (a := 1) (b := 2048) (c := 1024) ((dats m 0 c).arrAt 7 cfg0.N) fun i j k => vA (G i j k) (Q i j k) := by
  have h : (dats m 0 c).arrAt 7 cfg0.N = fun ι : S1x2048x1024.Idx => (fun i j k => vA (G i j k) (Q i j k) : ℕ → ℕ → ℕ → EReal) (ι 0).val (ι 1).val (ι 2).val := by
    refine (dats m 0 c).arrAt_eq_of_covers 7 _ (by decide +kernel) fun t hf y => ?_
    show (dats m 0 c).after 7 t y = (fun i j k => vA (G i j k) (Q i j k) : ℕ → ℕ → ℕ → EReal) (win0_7.index t 0 * 1 + 1 * (y 0).val) (win0_7.index t 1 * 256 + 1 * (y 1).val) (win0_7.index t 2 * 1024 + 1 * (y 2).val)
    rw [after0_7, (at7 t).1, (at7 t).2.1, (at7 t).2.2]
    refine (e_out7 (e_iblk1 m c t hG) (e_iblk3 m c t hQ) y).trans ?_
    have y0 : (y 0).val < 1 := (y 0).isLt
    rw [show (y 0).val = 0 by omega]
  rw [h]
  exact fun ι => rfl
end

section
open Cert.AdamInRefIdeal Cert.AdamInRefIdeal.Gen

/-- The reference's second result is the same function of the arguments. -/
theorem reference5 (w : FVec Ideal S1x2048x1024 .f32) (g : FVec Ideal S1x2048x1024 .f32) (p : FVec Ideal S1x2048x1024 .f32) (q : FVec Ideal S1x2048x1024 .f32) {W G P Q : ℕ → ℕ → ℕ → EReal} (hW : E3 (a := 1) (b := 2048) (c := 1024) w W) (hG : E3 (a := 1) (b := 2048) (c := 1024) g G) (hP : E3 (a := 1) (b := 2048) (c := 1024) p P) (hQ : E3 (a := 1) (b := 2048) (c := 1024) q Q) :
    E3 (a := 1) (b := 2048) (c := 1024)
      (mulf (broadcastInDim S1x2048x1024 ![] bcast_S_S1x2048x1024 (constant S_ .f32 0xBA83126F#32)) (addf (Host.divf (Host.divf (addf (mulf (broadcastInDim S1x2048x1024 ![] bcast_S_S1x2048x1024 (constant S_ .f32 0x3F666666#32)) p) (mulf (broadcastInDim S1x2048x1024 ![] bcast_S_S1x2048x1024 (constant S_ .f32 0x3DCCCCCD#32)) g)) (broadcastInDim S1x2048x1024 ![] bcast_S_S1x2048x1024 (constant S_ .f32 0x3F26BD02#32))) (addf (Host.sqrt (Host.divf (addf (mulf (broadcastInDim S1x2048x1024 ![] bcast_S_S1x2048x1024 (constant S_ .f32 0x3F7FBE77#32)) q) (mulf (broadcastInDim S1x2048x1024 ![] bcast_S_S1x2048x1024 (constant S_ .f32 0x3A83126F#32)) (mulf g g))) (broadcastInDim S1x2048x1024 ![] bcast_S_S1x2048x1024 (constant S_ .f32 0x3C231ACC#32)))) (broadcastInDim S1x2048x1024 ![] bcast_S_S1x2048x1024 (constant S_ .f32 0x322BCC77#32)))) (mulf (broadcastInDim S1x2048x1024 ![] bcast_S_S1x2048x1024 (constant S_ .f32 0x3C23D70A#32)) w))) fun i j k => dA (W i j k) (G i j k) (P i j k) (Q i j k) := fun ι => by
  show dA (w ι) (g ι) (p ι) (q ι) = _
  rw [hW ι, hG ι, hP ι, hQ ι]

/-- The reference's third result is the same function of the arguments. -/
theorem reference6 (g : FVec Ideal S1x2048x1024 .f32) (p : FVec Ideal S1x2048x1024 .f32) {G P : ℕ → ℕ → ℕ → EReal} (hG : E3 (a := 1) (b := 2048) (c := 1024) g G) (hP : E3 (a := 1) (b := 2048) (c := 1024) p P) :
    E3 (a := 1) (b := 2048) (c := 1024)
      (addf (mulf (broadcastInDim S1x2048x1024 ![] bcast_S_S1x2048x1024 (constant S_ .f32 0x3F666666#32)) p) (mulf (broadcastInDim S1x2048x1024 ![] bcast_S_S1x2048x1024 (constant S_ .f32 0x3DCCCCCD#32)) g)) fun i j k => mA (G i j k) (P i j k) := fun ι => by
  show mA (g ι) (p ι) = _
  rw [hG ι, hP ι]

/-- The reference's fourth result is the same function of the arguments. -/
theorem reference7 (g : FVec Ideal S1x2048x1024 .f32) (q : FVec Ideal S1x2048x1024 .f32) {G Q : ℕ → ℕ → ℕ → EReal} (hG : E3 (a := 1) (b := 2048) (c := 1024) g G) (hQ : E3 (a := 1) (b := 2048) (c := 1024) q Q) :
    E3 (a := 1) (b := 2048) (c := 1024)
      (addf (mulf (broadcastInDim S1x2048x1024 ![] bcast_S_S1x2048x1024 (constant S_ .f32 0x3F7FBE77#32)) q) (mulf (broadcastInDim S1x2048x1024 ![] bcast_S_S1x2048x1024 (constant S_ .f32 0x3A83126F#32)) (mulf g g))) fun i j k => vA (G i j k) (Q i j k) := fun ι => by
  show vA (g ι) (q ι) = _
  rw [hG ι, hQ ι]
end

/-- The kernel's program runs and leaves its arguments as they were. -/
theorem frame_kernel : Cert.quiescent_AdamIn (hAdamIn := Cert.AdamIn.Gen.facts) := fun m ρ _ => Cert.AdamIn.Gen.frame m ρ

/-- So does its idealization. -/
theorem frame_ideal : Cert.quiescent_AdamInIdeal (hAdamInIdeal := Cert.AdamInIdeal.Gen.facts) := fun m ρ _ => Cert.AdamInIdeal.Gen.frame m ρ

/-- So does the reference. -/
theorem frame_reference : Cert.quiescent_AdamInRefIdeal (hAdamInRefIdeal := Cert.AdamInRefIdeal.Gen.facts) := fun m ρ _ =>
  (θ_run Cert.AdamInRefIdeal.defs _ _).mono (fun r h => ⟨fun c => (h c).2.2.2.2, Idealize.ShloMosaic.sem_eq_zero_of_no_sems (by decide) r.2⟩)
    (Cert.AdamInRefIdeal.Value.run (F := Ideal) m ρ)

/-- From the same arguments the kernel and the reference leave the same results. -/
theorem algebraic : Cert.algebraic_AdamInIdeal_AdamInRefIdeal (hAdamInIdeal := Cert.AdamInIdeal.Gen.facts) (hAdamInRefIdeal := Cert.AdamInRefIdeal.Gen.facts) := fun m g m' g' _ hag => by
  refine ⟨fun c => (Cert.AdamInIdeal.Gen.dats m 0 c).arrAt 4 Cert.AdamInIdeal.cfg0.N, fun c => (Cert.AdamInIdeal.Gen.dats m 0 c).arrAt 5 Cert.AdamInIdeal.cfg0.N,
    fun c => (Cert.AdamInIdeal.Gen.dats m 0 c).arrAt 6 Cert.AdamInIdeal.cfg0.N, fun c => (Cert.AdamInIdeal.Gen.dats m 0 c).arrAt 7 Cert.AdamInIdeal.cfg0.N, ?_, ?_⟩
  · exact Cert.AdamInIdeal.Value.run_blocks m g
  · refine (θ_run Cert.AdamInRefIdeal.defs _ _).mono (fun r h c => ⟨(h c).1.trans ?_, (h c).2.1.trans ?_, (h c).2.2.1.trans ?_, (h c).2.2.2.1.trans ?_, (h c).2.2.2.2⟩) (Cert.AdamInRefIdeal.Value.run (F := Ideal) m' g')
    · obtain ⟨G, hG⟩ := exists_E3 (a := 1) (b := 2048) (c := 1024) (m ((c.tc : Thread Cert.AdamInIdeal.nD Cert.AdamInIdeal.τ).loc Cert.AdamInIdeal.main_arg1))
      rw [(hag c).2.1]
      exact E3.eq (hG) (final4 m c (by rw [Cert.AdamInIdeal.Gen.V_main_arg1]; exact hG))
    · obtain ⟨W, hW⟩ := exists_E3 (a := 1) (b := 2048) (c := 1024) (m ((c.tc : Thread Cert.AdamInIdeal.nD Cert.AdamInIdeal.τ).loc Cert.AdamInIdeal.main_arg0))
      obtain ⟨G, hG⟩ := exists_E3 (a := 1) (b := 2048) (c := 1024) (m ((c.tc : Thread Cert.AdamInIdeal.nD Cert.AdamInIdeal.τ).loc Cert.AdamInIdeal.main_arg1))
      obtain ⟨P, hP⟩ := exists_E3 (a := 1) (b := 2048) (c := 1024) (m ((c.tc : Thread Cert.AdamInIdeal.nD Cert.AdamInIdeal.τ).loc Cert.AdamInIdeal.main_arg2))
      obtain ⟨Q, hQ⟩ := exists_E3 (a := 1) (b := 2048) (c := 1024) (m ((c.tc : Thread Cert.AdamInIdeal.nD Cert.AdamInIdeal.τ).loc Cert.AdamInIdeal.main_arg3))
      rw [(hag c).1, (hag c).2.1, (hag c).2.2.1, (hag c).2.2.2]
      exact E3.eq (reference5 _ _ _ _ hW hG hP hQ) (final5 m c (by rw [Cert.AdamInIdeal.Gen.V_main_arg0]; exact hW) (by rw [Cert.AdamInIdeal.Gen.V_main_arg1]; exact hG) (by rw [Cert.AdamInIdeal.Gen.V_main_arg2]; exact hP) (by rw [Cert.AdamInIdeal.Gen.V_main_arg3]; exact hQ))
    · obtain ⟨G, hG⟩ := exists_E3 (a := 1) (b := 2048) (c := 1024) (m ((c.tc : Thread Cert.AdamInIdeal.nD Cert.AdamInIdeal.τ).loc Cert.AdamInIdeal.main_arg1))
      obtain ⟨P, hP⟩ := exists_E3 (a := 1) (b := 2048) (c := 1024) (m ((c.tc : Thread Cert.AdamInIdeal.nD Cert.AdamInIdeal.τ).loc Cert.AdamInIdeal.main_arg2))
      rw [(hag c).2.1, (hag c).2.2.1]
      exact E3.eq (reference6 _ _ hG hP) (final6 m c (by rw [Cert.AdamInIdeal.Gen.V_main_arg1]; exact hG) (by rw [Cert.AdamInIdeal.Gen.V_main_arg2]; exact hP))
    · obtain ⟨G, hG⟩ := exists_E3 (a := 1) (b := 2048) (c := 1024) (m ((c.tc : Thread Cert.AdamInIdeal.nD Cert.AdamInIdeal.τ).loc Cert.AdamInIdeal.main_arg1))
      obtain ⟨Q, hQ⟩ := exists_E3 (a := 1) (b := 2048) (c := 1024) (m ((c.tc : Thread Cert.AdamInIdeal.nD Cert.AdamInIdeal.τ).loc Cert.AdamInIdeal.main_arg3))
      rw [(hag c).2.1, (hag c).2.2.2]
      exact E3.eq (reference7 _ _ hG hQ) (final7 m c (by rw [Cert.AdamInIdeal.Gen.V_main_arg1]; exact hG) (by rw [Cert.AdamInIdeal.Gen.V_main_arg3]; exact hQ))

end Cert.Stick.AdamIn

end
-- ==== Proof.AdamUp.lean ====
/- One step of the optimiser for the up projections: what the kernel's run leaves, and that the reference leaves the same. -/
module

public import proofs.«01_k».proof.Defs
public import proofs.«01_k».proof.Proof.Adam
public import proofs.«01_k».proof.Proof.Gen.AdamUp.Frame
public import proofs.«01_k».proof.Proof.Gen.AdamUpIdeal.Value
public import proofs.«01_k».proof.Proof.Gen.AdamUpRefIdeal.Run
public import Idealize.ShloMosaic.Lib.Pipeline.ValueKit
public import Idealize.ShloMosaic.Adequacy
public import Idealize.ShloMosaic.Init

@[expose] public section

set_option maxRecDepth 16384
set_option maxHeartbeats 4000000

noncomputable section

namespace Cert.Stick.AdamUp

open Idealize.ShloMosaic Idealize.ShloMosaic.TcCoe Idealize.ShloMosaic.Updates
open Idealize.ShloMosaic.LaneScatter (Blk Vec1)
open Idealize.ShloMosaic.Pipeline (Dat)

section
open Cert.AdamUpIdeal Cert.AdamUpIdeal.Gen

/-! ### Which block each point stages -/

theorem at0 : ∀ t : Fin cfg0.N, win0_0.index t 0 = t.val / 32 ∧ win0_0.index t 1 = t.val % 32 ∧ win0_0.index t 2 = 0 :=
  (by decide +kernel : ∀ t : Fin grid0.N, win0_0.index t 0 = t.val / 32 ∧ win0_0.index t 1 = t.val % 32 ∧ win0_0.index t 2 = 0)
theorem at1 : ∀ t : Fin cfg0.N, win0_1.index t 0 = t.val / 32 ∧ win0_1.index t 1 = t.val % 32 ∧ win0_1.index t 2 = 0 :=
  (by decide +kernel : ∀ t : Fin grid0.N, win0_1.index t 0 = t.val / 32 ∧ win0_1.index t 1 = t.val % 32 ∧ win0_1.index t 2 = 0)
theorem at2 : ∀ t : Fin cfg0.N, win0_2.index t 0 = t.val / 32 ∧ win0_2.index t 1 = t.val % 32 ∧ win0_2.index t 2 = 0 :=
  (by decide +kernel : ∀ t : Fin grid0.N, win0_2.index t 0 = t.val / 32 ∧ win0_2.index t 1 = t.val % 32 ∧ win0_2.index t 2 = 0)
theorem at3 : ∀ t : Fin cfg0.N, win0_3.index t 0 = t.val / 32 ∧ win0_3.index t 1 = t.val % 32 ∧ win0_3.index t 2 = 0 :=
  (by decide +kernel : ∀ t : Fin grid0.N, win0_3.index t 0 = t.val / 32 ∧ win0_3.index t 1 = t.val % 32 ∧ win0_3.index t 2 = 0)
theorem at4 : ∀ t : Fin cfg0.N, win0_4.index t 0 = t.val / 32 ∧ win0_4.index t 1 = t.val % 32 ∧ win0_4.index t 2 = 0 :=
  (by decide +kernel : ∀ t : Fin grid0.N, win0_4.index t 0 = t.val / 32 ∧ win0_4.index t 1 = t.val % 32 ∧ win0_4.index t 2 = 0)
theorem at5 : ∀ t : Fin cfg0.N, win0_5.index t 0 = t.val / 32 ∧ win0_5.index t 1 = t.val % 32 ∧ win0_5.index t 2 = 0 :=
  (by decide +kernel : ∀ t : Fin grid0.N, win0_5.index t 0 = t.val / 32 ∧ win0_5.index t 1 = t.val % 32 ∧ win0_5.index t 2 = 0)
theorem at6 : ∀ t : Fin cfg0.N, win0_6.index t 0 = t.val / 32 ∧ win0_6.index t 1 = t.val % 32 ∧ win0_6.index t 2 = 0 :=
  (by decide +kernel : ∀ t : Fin grid0.N, win0_6.index t 0 = t.val / 32 ∧ win0_6.index t 1 = t.val % 32 ∧ win0_6.index t 2 = 0)
theorem at7 : ∀ t : Fin cfg0.N, win0_7.index t 0 = t.val / 32 ∧ win0_7.index t 1 = t.val % 32 ∧ win0_7.index t 2 = 0 :=
  (by decide +kernel : ∀ t : Fin grid0.N, win0_7.index t 0 = t.val / 32 ∧ win0_7.index t 1 = t.val % 32 ∧ win0_7.index t 2 = 0)

variable (m : (ℓ : Loc nD τ sig) → Buf (Elt Ideal) ℓ) (c : Dev nD) {W G P Q : ℕ → ℕ → ℕ → EReal}

theorem e_iblk0 (t : Fin cfg0.N) (h : E3 (a := 2) (b := 2048) (c := 2816) (V m c main_arg0) W) :
    E3 (a := 1) (b := 64) (c := 2816) (iblk m c 0 t) fun i j k => W (t.val / 32 * 1 + 1 * i) (t.val % 32 * 64 + 1 * j) (0 * 2816 + 1 * k) := fun ι => by
  unfold iblk
  rw [View.read_apply]
  refine (h _).trans ?_
  show W (win0_0.index t 0 * 1 + 1 * (ι 0).val) (win0_0.index t 1 * 64 + 1 * (ι 1).val) (win0_0.index t 2 * 2816 + 1 * (ι 2).val) = _
  rw [(at0 t).1, (at0 t).2.1, (at0 t).2.2]

theorem e_iblk1 (t : Fin cfg0.N) (h : E3 (a := 2) (b := 2048) (c := 2816) (V m c main_arg1) G) :
    E3 (a := 1) (b := 64) (c := 2816) (iblk m c 1 t) fun i j k => G (t.val / 32 * 1 + 1 * i) (t.val % 32 * 64 + 1 * j) (0 * 2816 + 1 * k) := fun ι => by
  unfold iblk
  rw [View.read_apply]
  refine (h _).trans ?_
  show G (win0_1.index t 0 * 1 + 1 * (ι 0).val) (win0_1.index t 1 * 64 + 1 * (ι 1).val) (win0_1.index t 2 * 2816 + 1 * (ι 2).val) = _
  rw [(at1 t).1, (at1 t).2.1, (at1 t).2.2]

theorem e_iblk2 (t : Fin cfg0.N) (h : E3 (a := 2) (b := 2048) (c := 2816) (V m c main_arg2) P) :
    E3 (a := 1) (b := 64) (c := 2816) (iblk m c 2 t) fun i j k => P (t.val / 32 * 1 + 1 * i) (t.val % 32 * 64 + 1 * j) (0 * 2816 + 1 * k) := fun ι => by
  unfold iblk
  rw [View.read_apply]
  refine (h _).trans ?_
  show P (win0_2.index t 0 * 1 + 1 * (ι 0).val) (win0_2.index t 1 * 64 + 1 * (ι 1).val) (win0_2.index t 2 * 2816 + 1 * (ι 2).val) = _
  rw [(at2 t).1, (at2 t).2.1, (at2 t).2.2]

theorem e_iblk3 (t : Fin cfg0.N) (h : E3 (a := 2) (b := 2048) (c := 2816) (V m c main_arg3) Q) :
    E3 (a := 1) (b := 64) (c := 2816) (iblk m c 3 t) fun i j k => Q (t.val / 32 * 1 + 1 * i) (t.val % 32 * 64 + 1 * j) (0 * 2816 + 1 * k) := fun ι => by
  unfold iblk
  rw [View.read_apply]
  refine (h _).trans ?_
  show Q (win0_3.index t 0 * 1 + 1 * (ι 0).val) (win0_3.index t 1 * 64 + 1 * (ι 1).val) (win0_3.index t 2 * 2816 + 1 * (ι 2).val) = _
  rw [(at3 t).1, (at3 t).2.1, (at3 t).2.2]

/-! ### What the body leaves at one point, and the run at its end -/

theorem e_pay4 {x : Vec Ideal S1x64x2816 .f32} {f} (hx : E3 (a := 1) (b := 64) (c := 2816) x f) : E2 (a := 64) (b := 2816) (k0_pay4 (F := Ideal) x) (f 0) := e_drop (φ := .f32) hx _

/-- What the first result's buffer holds after the body. -/
theorem e_out4 {vw vg vp vq : Vec Ideal S1x64x2816 .f32}
    (hG : E3 (a := 1) (b := 64) (c := 2816) vg G) : E3 (a := 1) (b := 64) (c := 2816) (out0_4 (F := Ideal) vw vg vp vq) fun _ j k => G 0 j k := by
  rw [show out0_4 (F := Ideal) vw vg vp vq = k0_pay5 (F := Ideal) vg by frame_out]
  exact e_lead (φ := .f32) (e_pay4 hG) _

/-- The first result after the run. -/
theorem final4 (hG : E3 (a := 2) (b := 2048) (c := 2816) (V m c main_arg1) G) :
    E3 (a := 2) (b := 2048) (c := 2816) ((dats m 0 c).arrAt 4 cfg0.N) fun i j k => G i j k := by
  have h : (dats m 0 c).arrAt 4 cfg0.N = fun ι : S2x2048x2816.Idx => (fun i j k => G i j k : ℕ → ℕ → ℕ → EReal) (ι 0).val (ι 1).val (ι 2).val := by
    refine (dats m 0 c).arrAt_eq_of_covers 4 _ (by decide +kernel) fun t hf y => ?_
    show (dats m 0 c).after 4 t y = (fun i j k => G i j k : ℕ → ℕ → ℕ → EReal) (win0_4.index t 0 * 1 + 1 * (y 0).val) (win0_4.index t 1 * 64 + 1 * (y 1).val) (win0_4.index t 2 * 2816 + 1 * (y 2).val)
    rw [after0_4, (at4 t).1, (at4 t).2.1, (at4 t).2.2]
    refine (e_out4 (e_iblk1 m c t hG) y).trans ?_
    have y0 : (y 0).val < 1 := (y 0).isLt
    rw [show (y 0).val = 0 by omega]
  rw [h]
  exact fun ι => rfl

/-- What the second result's buffer holds after the body. -/
theorem e_out5 {vw vg vp vq : Vec Ideal S1x64x2816 .f32}
    (hW : E3 (a := 1) (b := 64) (c := 2816) vw W) (hG : E3 (a := 1) (b := 64) (c := 2816) vg G) (hP : E3 (a := 1) (b := 64) (c := 2816) vp P) (hQ : E3 (a := 1) (b := 64) (c := 2816) vq Q) : E3 (a := 1) (b := 64) (c := 2816) (out0_5 (F := Ideal) vw vg vp vq) fun _ j k => dA (W 0 j k) (G 0 j k) (P 0 j k) (Q 0 j k) := by
  rw [show out0_5 (F := Ideal) vw vg vp vq = k0_pay1 (F := Ideal) (k0_pay8 (F := Ideal) vg vp vq vw) by frame_out]
  exact e_lead (φ := .f32) (fun ι => by
    show dA (k0_pay4 (F := Ideal) vw ι) (k0_pay4 (F := Ideal) vg ι) (k0_pay4 (F := Ideal) vp ι) (k0_pay4 (F := Ideal) vq ι) = _
    rw [e_pay4 hW ι, e_pay4 hG ι, e_pay4 hP ι, e_pay4 hQ ι]) _

/-- The second result after the run. -/
theorem final5 (hW : E3 (a := 2) (b := 2048) (c := 2816) (V m c main_arg0) W) (hG : E3 (a := 2) (b := 2048) (c := 2816) (V m c main_arg1) G) (hP : E3 (a := 2) (b := 2048) (c := 2816) (V m c main_arg2) P) (hQ : E3 (a := 2) (b := 2048) (c := 2816) (V m c main_arg3) Q) :
    E3 (a := 2) (b := 2048) (c := 2816) ((dats m 0 c).arrAt 5 cfg0.N) fun i j k => dA (W i j k) (G i j k) (P i j k) (Q i j k) := by
  have h : (dats m 0 c).arrAt 5 cfg0.N = fun ι : S2x2048x2816.Idx => (fun i j k => dA (W i j k) (G i j k) (P i j k) (Q i j k) : ℕ → ℕ → ℕ → EReal) (ι 0).val (ι 1).val (ι 2).val := by
    refine (dats m 0 c).arrAt_eq_of_covers 5 _ (by decide +kernel) fun t hf y => ?_
    show (dats m 0 c).after 5 t y = (fun i j k => dA (W i j k) (G i j k) (P i j k) (Q i j k) : ℕ → ℕ → ℕ → EReal) (win0_5.index t 0 * 1 + 1 * (y 0).val) (win0_5.index t 1 * 64 + 1 * (y 1).val) (win0_5.index t 2 * 2816 + 1 * (y 2).val)
    rw [after0_5, (at5 t).1, (at5 t).2.1, (at5 t).2.2]
    refine (e_out5 (e_iblk0 m c t hW) (e_iblk1 m c t hG) (e_iblk2 m c t hP) (e_iblk3 m c t hQ) y).trans ?_
    have y0 : (y 0).val < 1 := (y 0).isLt
    rw [show (y 0).val = 0 by omega]
  rw [h]
  exact fun ι => rfl

/-- What the third result's buffer holds after the body. -/
theorem e_out6 {vw vg vp vq : Vec Ideal S1x64x2816 .f32}
    (hG : E3 (a := 1) (b := 64) (c := 2816) vg G) (hP : E3 (a := 1) (b := 64) (c := 2816) vp P) : E3 (a := 1) (b := 64) (c := 2816) (out0_6 (F := Ideal) vw vg vp vq) fun _ j k => mA (G 0 j k) (P 0 j k) := by
  rw [show out0_6 (F := Ideal) vw vg vp vq = k0_pay2 (F := Ideal) (k0_pay6 (F := Ideal) vg vp) by frame_out]
  exact e_lead (φ := .f32) (fun ι => by
    show mA (k0_pay4 (F := Ideal) vg ι) (k0_pay4 (F := Ideal) vp ι) = _
    rw [e_pay4 hG ι, e_pay4 hP ι]) _

/-- The third result after the run. -/
theorem final6 (hG : E3 (a := 2) (b := 2048) (c := 2816) (V m c main_arg1) G) (hP : E3 (a := 2) (b := 2048) (c := 2816) (V m c main_arg2) P) :
    E3 (a := 2) (b := 2048) (c := 2816) ((dats m 0 c).arrAt 6 cfg0.N) fun i j k => mA (G i j k) (P i j k) := by
  have h : (dats m 0 c).arrAt 6 cfg0.N = fun ι : S2x2048x2816.Idx => (fun i j k => mA (G i j k) (P i j k) : ℕ → ℕ → ℕ → EReal) (ι 0).val (ι 1).val (ι 2).val := by
    refine (dats m 0 c).arrAt_eq_of_covers 6 _ (by decide +kernel) fun t hf y => ?_
    show (dats m 0 c).after 6 t y = (fun i j k => mA (G i j k) (P i j k) : ℕ → ℕ → ℕ → EReal) (win0_6.index t 0 * 1 + 1 * (y 0).val) (win0_6.index t 1 * 64 + 1 * (y 1).val) (win0_6.index t 2 * 2816 + 1 * (y 2).val)
    rw [after0_6, (at6 t).1, (at6 t).2.1, (at6 t).2.2]
    refine (e_out6 (e_iblk1 m c t hG) (e_iblk2 m c t hP) y).trans ?_
    have y0 : (y 0).val < 1 := (y 0).isLt
    rw [show (y 0).val = 0 by omega]
  rw [h]
  exact fun ι => rfl

/-- What the fourth result's buffer holds after the body. -/
theorem e_out7 {vw vg vp vq : Vec Ideal S1x64x2816 .f32}
    (hG : E3 (a := 1) (b := 64) (c := 2816) vg G) (hQ : E3 (a := 1) (b := 64) (c := 2816) vq Q) : E3 (a := 1) (b := 64) (c := 2816) (out0_7 (F := Ideal) vw vg vp vq) fun _ j k => vA (G 0 j k) (Q 0 j k) := by
  rw [show out0_7 (F := Ideal) vw vg vp vq = k0_pay3 (F := Ideal) (k0_pay7 (F := Ideal) vg vq) by frame_out]
  exact e_lead (φ := .f32) (fun ι => by
    show vA (k0_pay4 (F := Ideal) vg ι) (k0_pay4 (F := Ideal) vq ι) = _
    rw [e_pay4 hG ι, e_pay4 hQ ι]) _

/-- The fourth result after the run. -/
theorem final7 (hG : E3 (a := 2) (b := 2048) (c := 2816) (V m c main_arg1) G) (hQ : E3 (a := 2) (b := 2048) (c := 2816) (V m c main_arg3) Q) :
    E3 (a := 2) (b := 2048) (c := 2816) ((dats m 0 c).arrAt 7 cfg0.N) fun i j k => vA (G i j k) (Q i j k) := by
  have h : (dats m 0 c).arrAt 7 cfg0.N = fun ι : S2x2048x2816.Idx => (fun i j k => vA (G i j k) (Q i j k) : ℕ → ℕ → ℕ → EReal) (ι 0).val (ι 1).val (ι 2).val := by
    refine (dats m 0 c).arrAt_eq_of_covers 7 _ (by decide +kernel) fun t hf y => ?_
    show (dats m 0 c).after 7 t y = (fun i j k => vA (G i j k) (Q i j k) : ℕ → ℕ → ℕ → EReal) (win0_7.index t 0 * 1 + 1 * (y 0).val) (win0_7.index t 1 * 64 + 1 * (y 1).val) (win0_7.index t 2 * 2816 + 1 * (y 2).val)
    rw [after0_7, (at7 t).1, (at7 t).2.1, (at7 t).2.2]
    refine (e_out7 (e_iblk1 m c t hG) (e_iblk3 m c t hQ) y).trans ?_
    have y0 : (y 0).val < 1 := (y 0).isLt
    rw [show (y 0).val = 0 by omega]
  rw [h]
  exact fun ι => rfl
end

section
open Cert.AdamUpRefIdeal Cert.AdamUpRefIdeal.Gen

/-- The reference's second result is the same function of the arguments. -/
theorem reference5 (w : FVec Ideal S2x2048x2816 .f32) (g : FVec Ideal S2x2048x2816 .f32) (p : FVec Ideal S2x2048x2816 .f32) (q : FVec Ideal S2x2048x2816 .f32) {W G P Q : ℕ → ℕ → ℕ → EReal} (hW : E3 (a := 2) (b := 2048) (c := 2816) w W) (hG : E3 (a := 2) (b := 2048) (c := 2816) g G) (hP : E3 (a := 2) (b := 2048) (c := 2816) p P) (hQ : E3 (a := 2) (b := 2048) (c := 2816) q Q) :
    E3 (a := 2) (b := 2048) (c := 2816)
      (mulf (broadcastInDim S2x2048x2816 ![] bcast_S_S2x2048x2816 (constant S_ .f32 0xBA83126F#32)) (addf (Host.divf (Host.divf (addf (mulf (broadcastInDim S2x2048x2816 ![] bcast_S_S2x2048x2816 (constant S_ .f32 0x3F666666#32)) p) (mulf (broadcastInDim S2x2048x2816 ![] bcast_S_S2x2048x2816 (constant S_ .f32 0x3DCCCCCD#32)) g)) (broadcastInDim S2x2048x2816 ![] bcast_S_S2x2048x2816 (constant S_ .f32 0x3F26BD02#32))) (addf (Host.sqrt (Host.divf (addf (mulf (broadcastInDim S2x2048x2816 ![] bcast_S_S2x2048x2816 (constant S_ .f32 0x3F7FBE77#32)) q) (mulf (broadcastInDim S2x2048x2816 ![] bcast_S_S2x2048x2816 (constant S_ .f32 0x3A83126F#32)) (mulf g g))) (broadcastInDim S2x2048x2816 ![] bcast_S_S2x2048x2816 (constant S_ .f32 0x3C231ACC#32)))) (broadcastInDim S2x2048x2816 ![] bcast_S_S2x2048x2816 (constant S_ .f32 0x322BCC77#32)))) (mulf (broadcastInDim S2x2048x2816 ![] bcast_S_S2x2048x2816 (constant S_ .f32 0x3C23D70A#32)) w))) fun i j k => dA (W i j k) (G i j k) (P i j k) (Q i j k) := fun ι => by
  show dA (w ι) (g ι) (p ι) (q ι) = _
  rw [hW ι, hG ι, hP ι, hQ ι]

/-- The reference's third result is the same function of the arguments. -/
theorem reference6 (g : FVec Ideal S2x2048x2816 .f32) (p : FVec Ideal S2x2048x2816 .f32) {G P : ℕ → ℕ → ℕ → EReal} (hG : E3 (a := 2) (b := 2048) (c := 2816) g G) (hP : E3 (a := 2) (b := 2048) (c := 2816) p P) :
    E3 (a := 2) (b := 2048) (c := 2816)
      (addf (mulf (broadcastInDim S2x2048x2816 ![] bcast_S_S2x2048x2816 (constant S_ .f32 0x3F666666#32)) p) (mulf (broadcastInDim S2x2048x2816 ![] bcast_S_S2x2048x2816 (constant S_ .f32 0x3DCCCCCD#32)) g)) fun i j k => mA (G i j k) (P i j k) := fun ι => by
  show mA (g ι) (p ι) = _
  rw [hG ι, hP ι]

/-- The reference's fourth result is the same function of the arguments. -/
theorem reference7 (g : FVec Ideal S2x2048x2816 .f32) (q : FVec Ideal S2x2048x2816 .f32) {G Q : ℕ → ℕ → ℕ → EReal} (hG : E3 (a := 2) (b := 2048) (c := 2816) g G) (hQ : E3 (a := 2) (b := 2048) (c := 2816) q Q) :
    E3 (a := 2) (b := 2048) (c := 2816)
      (addf (mulf (broadcastInDim S2x2048x2816 ![] bcast_S_S2x2048x2816 (constant S_ .f32 0x3F7FBE77#32)) q) (mulf (broadcastInDim S2x2048x2816 ![] bcast_S_S2x2048x2816 (constant S_ .f32 0x3A83126F#32)) (mulf g g))) fun i j k => vA (G i j k) (Q i j k) := fun ι => by
  show vA (g ι) (q ι) = _
  rw [hG ι, hQ ι]
end

/-- The kernel's program runs and leaves its arguments as they were. -/
theorem frame_kernel : Cert.quiescent_AdamUp (hAdamUp := Cert.AdamUp.Gen.facts) := fun m ρ _ => Cert.AdamUp.Gen.frame m ρ

/-- So does its idealization. -/
theorem frame_ideal : Cert.quiescent_AdamUpIdeal (hAdamUpIdeal := Cert.AdamUpIdeal.Gen.facts) := fun m ρ _ => Cert.AdamUpIdeal.Gen.frame m ρ

/-- So does the reference. -/
theorem frame_reference : Cert.quiescent_AdamUpRefIdeal (hAdamUpRefIdeal := Cert.AdamUpRefIdeal.Gen.facts) := fun m ρ _ =>
  (θ_run Cert.AdamUpRefIdeal.defs _ _).mono (fun r h => ⟨fun c => (h c).2.2.2.2, Idealize.ShloMosaic.sem_eq_zero_of_no_sems (by decide) r.2⟩)
    (Cert.AdamUpRefIdeal.Value.run (F := Ideal) m ρ)

/-- From the same arguments the kernel and the reference leave the same results. -/
theorem algebraic : Cert.algebraic_AdamUpIdeal_AdamUpRefIdeal (hAdamUpIdeal := Cert.AdamUpIdeal.Gen.facts) (hAdamUpRefIdeal := Cert.AdamUpRefIdeal.Gen.facts) := fun m g m' g' _ hag => by
  refine ⟨fun c => (Cert.AdamUpIdeal.Gen.dats m 0 c).arrAt 4 Cert.AdamUpIdeal.cfg0.N, fun c => (Cert.AdamUpIdeal.Gen.dats m 0 c).arrAt 5 Cert.AdamUpIdeal.cfg0.N,
    fun c => (Cert.AdamUpIdeal.Gen.dats m 0 c).arrAt 6 Cert.AdamUpIdeal.cfg0.N, fun c => (Cert.AdamUpIdeal.Gen.dats m 0 c).arrAt 7 Cert.AdamUpIdeal.cfg0.N, ?_, ?_⟩
  · exact Cert.AdamUpIdeal.Value.run_blocks m g
  · refine (θ_run Cert.AdamUpRefIdeal.defs _ _).mono (fun r h c => ⟨(h c).1.trans ?_, (h c).2.1.trans ?_, (h c).2.2.1.trans ?_, (h c).2.2.2.1.trans ?_, (h c).2.2.2.2⟩) (Cert.AdamUpRefIdeal.Value.run (F := Ideal) m' g')
    · obtain ⟨G, hG⟩ := exists_E3 (a := 2) (b := 2048) (c := 2816) (m ((c.tc : Thread Cert.AdamUpIdeal.nD Cert.AdamUpIdeal.τ).loc Cert.AdamUpIdeal.main_arg1))
      rw [(hag c).2.1]
      exact E3.eq (hG) (final4 m c (by rw [Cert.AdamUpIdeal.Gen.V_main_arg1]; exact hG))
    · obtain ⟨W, hW⟩ := exists_E3 (a := 2) (b := 2048) (c := 2816) (m ((c.tc : Thread Cert.AdamUpIdeal.nD Cert.AdamUpIdeal.τ).loc Cert.AdamUpIdeal.main_arg0))
      obtain ⟨G, hG⟩ := exists_E3 (a := 2) (b := 2048) (c := 2816) (m ((c.tc : Thread Cert.AdamUpIdeal.nD Cert.AdamUpIdeal.τ).loc Cert.AdamUpIdeal.main_arg1))
      obtain ⟨P, hP⟩ := exists_E3 (a := 2) (b := 2048) (c := 2816) (m ((c.tc : Thread Cert.AdamUpIdeal.nD Cert.AdamUpIdeal.τ).loc Cert.AdamUpIdeal.main_arg2))
      obtain ⟨Q, hQ⟩ := exists_E3 (a := 2) (b := 2048) (c := 2816) (m ((c.tc : Thread Cert.AdamUpIdeal.nD Cert.AdamUpIdeal.τ).loc Cert.AdamUpIdeal.main_arg3))
      rw [(hag c).1, (hag c).2.1, (hag c).2.2.1, (hag c).2.2.2]
      exact E3.eq (reference5 _ _ _ _ hW hG hP hQ) (final5 m c (by rw [Cert.AdamUpIdeal.Gen.V_main_arg0]; exact hW) (by rw [Cert.AdamUpIdeal.Gen.V_main_arg1]; exact hG) (by rw [Cert.AdamUpIdeal.Gen.V_main_arg2]; exact hP) (by rw [Cert.AdamUpIdeal.Gen.V_main_arg3]; exact hQ))
    · obtain ⟨G, hG⟩ := exists_E3 (a := 2) (b := 2048) (c := 2816) (m ((c.tc : Thread Cert.AdamUpIdeal.nD Cert.AdamUpIdeal.τ).loc Cert.AdamUpIdeal.main_arg1))
      obtain ⟨P, hP⟩ := exists_E3 (a := 2) (b := 2048) (c := 2816) (m ((c.tc : Thread Cert.AdamUpIdeal.nD Cert.AdamUpIdeal.τ).loc Cert.AdamUpIdeal.main_arg2))
      rw [(hag c).2.1, (hag c).2.2.1]
      exact E3.eq (reference6 _ _ hG hP) (final6 m c (by rw [Cert.AdamUpIdeal.Gen.V_main_arg1]; exact hG) (by rw [Cert.AdamUpIdeal.Gen.V_main_arg2]; exact hP))
    · obtain ⟨G, hG⟩ := exists_E3 (a := 2) (b := 2048) (c := 2816) (m ((c.tc : Thread Cert.AdamUpIdeal.nD Cert.AdamUpIdeal.τ).loc Cert.AdamUpIdeal.main_arg1))
      obtain ⟨Q, hQ⟩ := exists_E3 (a := 2) (b := 2048) (c := 2816) (m ((c.tc : Thread Cert.AdamUpIdeal.nD Cert.AdamUpIdeal.τ).loc Cert.AdamUpIdeal.main_arg3))
      rw [(hag c).2.1, (hag c).2.2.2]
      exact E3.eq (reference7 _ _ hG hQ) (final7 m c (by rw [Cert.AdamUpIdeal.Gen.V_main_arg1]; exact hG) (by rw [Cert.AdamUpIdeal.Gen.V_main_arg3]; exact hQ))

end Cert.Stick.AdamUp

end
-- ==== Proof.AdamDown.lean ====
/- One step of the optimiser for the down projections: what the kernel's run leaves, and that the reference leaves the same. -/
module

public import proofs.«01_k».proof.Defs
public import proofs.«01_k».proof.Proof.Adam
public import proofs.«01_k».proof.Proof.Gen.AdamDown.Frame
public import proofs.«01_k».proof.Proof.Gen.AdamDownIdeal.Value
public import proofs.«01_k».proof.Proof.Gen.AdamDownRefIdeal.Run
public import Idealize.ShloMosaic.Lib.Pipeline.ValueKit
public import Idealize.ShloMosaic.Adequacy
public import Idealize.ShloMosaic.Init

@[expose] public section

set_option maxRecDepth 16384
set_option maxHeartbeats 4000000

noncomputable section

namespace Cert.Stick.AdamDown

open Idealize.ShloMosaic Idealize.ShloMosaic.TcCoe Idealize.ShloMosaic.Updates
open Idealize.ShloMosaic.LaneScatter (Blk Vec1)
open Idealize.ShloMosaic.Pipeline (Dat)

section
open Cert.AdamDownIdeal Cert.AdamDownIdeal.Gen

/-! ### Which block each point stages -/

theorem at0 : ∀ t : Fin cfg0.N, win0_0.index t 0 = t.val / 11 ∧ win0_0.index t 1 = t.val % 11 ∧ win0_0.index t 2 = 0 :=
  (by decide +kernel : ∀ t : Fin grid0.N, win0_0.index t 0 = t.val / 11 ∧ win0_0.index t 1 = t.val % 11 ∧ win0_0.index t 2 = 0)
theorem at1 : ∀ t : Fin cfg0.N, win0_1.index t 0 = t.val / 11 ∧ win0_1.index t 1 = t.val % 11 ∧ win0_1.index t 2 = 0 :=
  (by decide +kernel : ∀ t : Fin grid0.N, win0_1.index t 0 = t.val / 11 ∧ win0_1.index t 1 = t.val % 11 ∧ win0_1.index t 2 = 0)
theorem at2 : ∀ t : Fin cfg0.N, win0_2.index t 0 = t.val / 11 ∧ win0_2.index t 1 = t.val % 11 ∧ win0_2.index t 2 = 0 :=
  (by decide +kernel : ∀ t : Fin grid0.N, win0_2.index t 0 = t.val / 11 ∧ win0_2.index t 1 = t.val % 11 ∧ win0_2.index t 2 = 0)
theorem at3 : ∀ t : Fin cfg0.N, win0_3.index t 0 = t.val / 11 ∧ win0_3.index t 1 = t.val % 11 ∧ win0_3.index t 2 = 0 :=
  (by decide +kernel : ∀ t : Fin grid0.N, win0_3.index t 0 = t.val / 11 ∧ win0_3.index t 1 = t.val % 11 ∧ win0_3.index t 2 = 0)
theorem at4 : ∀ t : Fin cfg0.N, win0_4.index t 0 = t.val / 11 ∧ win0_4.index t 1 = t.val % 11 ∧ win0_4.index t 2 = 0 :=
  (by decide +kernel : ∀ t : Fin grid0.N, win0_4.index t 0 = t.val / 11 ∧ win0_4.index t 1 = t.val % 11 ∧ win0_4.index t 2 = 0)
theorem at5 : ∀ t : Fin cfg0.N, win0_5.index t 0 = t.val / 11 ∧ win0_5.index t 1 = t.val % 11 ∧ win0_5.index t 2 = 0 :=
  (by decide +kernel : ∀ t : Fin grid0.N, win0_5.index t 0 = t.val / 11 ∧ win0_5.index t 1 = t.val % 11 ∧ win0_5.index t 2 = 0)
theorem at6 : ∀ t : Fin cfg0.N, win0_6.index t 0 = t.val / 11 ∧ win0_6.index t 1 = t.val % 11 ∧ win0_6.index t 2 = 0 :=
  (by decide +kernel : ∀ t : Fin grid0.N, win0_6.index t 0 = t.val / 11 ∧ win0_6.index t 1 = t.val % 11 ∧ win0_6.index t 2 = 0)
theorem at7 : ∀ t : Fin cfg0.N, win0_7.index t 0 = t.val / 11 ∧ win0_7.index t 1 = t.val % 11 ∧ win0_7.index t 2 = 0 :=
  (by decide +kernel : ∀ t : Fin grid0.N, win0_7.index t 0 = t.val / 11 ∧ win0_7.index t 1 = t.val % 11 ∧ win0_7.index t 2 = 0)

variable (m : (ℓ : Loc nD τ sig) → Buf (Elt Ideal) ℓ) (c : Dev nD) {W G P Q : ℕ → ℕ → ℕ → EReal}

theorem e_iblk0 (t : Fin cfg0.N) (h : E3 (a := 2) (b := 1408) (c := 2048) (V m c main_arg0) W) :
    E3 (a := 1) (b := 128) (c := 2048) (iblk m c 0 t) fun i j k => W (t.val / 11 * 1 + 1 * i) (t.val % 11 * 128 + 1 * j) (0 * 2048 + 1 * k) := fun ι => by
  unfold iblk
  rw [View.read_apply]
  refine (h _).trans ?_
  show W (win0_0.index t 0 * 1 + 1 * (ι 0).val) (win0_0.index t 1 * 128 + 1 * (ι 1).val) (win0_0.index t 2 * 2048 + 1 * (ι 2).val) = _
  rw [(at0 t).1, (at0 t).2.1, (at0 t).2.2]

theorem e_iblk1 (t : Fin cfg0.N) (h : E3 (a := 2) (b := 1408) (c := 2048) (V m c main_arg1) G) :
    E3 (a := 1) (b := 128) (c := 2048) (iblk m c 1 t) fun i j k => G (t.val / 11 * 1 + 1 * i) (t.val % 11 * 128 + 1 * j) (0 * 2048 + 1 * k) := fun ι => by
  unfold iblk
  rw [View.read_apply]
  refine (h _).trans ?_
  show G (win0_1.index t 0 * 1 + 1 * (ι 0).val) (win0_1.index t 1 * 128 + 1 * (ι 1).val) (win0_1.index t 2 * 2048 + 1 * (ι 2).val) = _
  rw [(at1 t).1, (at1 t).2.1, (at1 t).2.2]

theorem e_iblk2 (t : Fin cfg0.N) (h : E3 (a := 2) (b := 1408) (c := 2048) (V m c main_arg2) P) :
    E3 (a := 1) (b := 128) (c := 2048) (iblk m c 2 t) fun i j k => P (t.val / 11 * 1 + 1 * i) (t.val % 11 * 128 + 1 * j) (0 * 2048 + 1 * k) := fun ι => by
  unfold iblk
  rw [View.read_apply]
  refine (h _).trans ?_
  show P (win0_2.index t 0 * 1 + 1 * (ι 0).val) (win0_2.index t 1 * 128 + 1 * (ι 1).val) (win0_2.index t 2 * 2048 + 1 * (ι 2).val) = _
  rw [(at2 t).1, (at2 t).2.1, (at2 t).2.2]

theorem e_iblk3 (t : Fin cfg0.N) (h : E3 (a := 2) (b := 1408) (c := 2048) (V m c main_arg3) Q) :
    E3 (a := 1) (b := 128) (c := 2048) (iblk m c 3 t) fun i j k => Q (t.val / 11 * 1 + 1 * i) (t.val % 11 * 128 + 1 * j) (0 * 2048 + 1 * k) := fun ι => by
  unfold iblk
  rw [View.read_apply]
  refine (h _).trans ?_
  show Q (win0_3.index t 0 * 1 + 1 * (ι 0).val) (win0_3.index t 1 * 128 + 1 * (ι 1).val) (win0_3.index t 2 * 2048 + 1 * (ι 2).val) = _
  rw [(at3 t).1, (at3 t).2.1, (at3 t).2.2]

/-! ### What the body leaves at one point, and the run at its end -/

theorem e_pay4 {x : Vec Ideal S1x128x2048 .f32} {f} (hx : E3 (a := 1) (b := 128) (c := 2048) x f) : E2 (a := 128) (b := 2048) (k0_pay4 (F := Ideal) x) (f 0) := e_drop (φ := .f32) hx _

/-- What the first result's buffer holds after the body. -/
theorem e_out4 {vw vg vp vq : Vec Ideal S1x128x2048 .f32}
    (hG : E3 (a := 1) (b := 128) (c := 2048) vg G) : E3 (a := 1) (b := 128) (c := 2048) (out0_4 (F := Ideal) vw vg vp vq) fun _ j k => G 0 j k := by
  rw [show out0_4 (F := Ideal) vw vg vp vq = k0_pay5 (F := Ideal) vg by frame_out]
  exact e_lead (φ := .f32) (e_pay4 hG) _

/-- The first result after the run. -/
theorem final4 (hG : E3 (a := 2) (b := 1408) (c := 2048) (V m c main_arg1) G) :
    E3 (a := 2) (b := 1408) (c := 2048) ((dats m 0 c).arrAt 4 cfg0.N) fun i j k => G i j k := by
  have h : (dats m 0 c).arrAt 4 cfg0.N = fun ι : S2x1408x2048.Idx => (fun i j k => G i j k : ℕ → ℕ → ℕ → EReal) (ι 0).val (ι 1).val (ι 2).val := by
    refine (dats m 0 c).arrAt_eq_of_covers 4 _ (by decide +kernel) fun t hf y => ?_
    show (dats m 0 c).after 4 t y = (fun i j k => G i j k : ℕ → ℕ → ℕ → EReal) (win0_4.index t 0 * 1 + 1 * (y 0).val) (win0_4.index t 1 * 128 + 1 * (y 1).val) (win0_4.index t 2 * 2048 + 1 * (y 2).val)
    rw [after0_4, (at4 t).1, (at4 t).2.1, (at4 t).2.2]
    refine (e_out4 (e_iblk1 m c t hG) y).trans ?_
    have y0 : (y 0).val < 1 := (y 0).isLt
    rw [show (y 0).val = 0 by omega]
  rw [h]
  exact fun ι => rfl

/-- What the second result's buffer holds after the body. -/
theorem e_out5 {vw vg vp vq : Vec Ideal S1x128x2048 .f32}
    (hW : E3 (a := 1) (b := 128) (c := 2048) vw W) (hG : E3 (a := 1) (b := 128) (c := 2048) vg G) (hP : E3 (a := 1) (b := 128) (c := 2048) vp P) (hQ : E3 (a := 1) (b := 128) (c := 2048) vq Q) : E3 (a := 1) (b := 128) (c := 2048) (out0_5 (F := Ideal) vw vg vp vq) fun _ j k => dA (W 0 j k) (G 0 j k) (P 0 j k) (Q 0 j k) := by
  rw [show out0_5 (F := Ideal) vw vg vp vq = k0_pay1 (F := Ideal) (k0_pay8 (F := Ideal) vg vp vq vw) by frame_out]
  exact e_lead (φ := .f32) (fun ι => by
    show dA (k0_pay4 (F := Ideal) vw ι) (k0_pay4 (F := Ideal) vg ι) (k0_pay4 (F := Ideal) vp ι) (k0_pay4 (F := Ideal) vq ι) = _
    rw [e_pay4 hW ι, e_pay4 hG ι, e_pay4 hP ι, e_pay4 hQ ι]) _

/-- The second result after the run. -/
theorem final5 (hW : E3 (a := 2) (b := 1408) (c := 2048) (V m c main_arg0) W) (hG : E3 (a := 2) (b := 1408) (c := 2048) (V m c main_arg1) G) (hP : E3 (a := 2) (b := 1408) (c := 2048) (V m c main_arg2) P) (hQ : E3 (a := 2) (b := 1408) (c := 2048) (V m c main_arg3) Q) :
    E3 (a := 2) (b := 1408) (c := 2048) ((dats m 0 c).arrAt 5 cfg0.N) fun i j k => dA (W i j k) (G i j k) (P i j k) (Q i j k) := by
  have h : (dats m 0 c).arrAt 5 cfg0.N = fun ι : S2x1408x2048.Idx => (fun i j k => dA (W i j k) (G i j k) (P i j k) (Q i j k) : ℕ → ℕ → ℕ → EReal) (ι 0).val (ι 1).val (ι 2).val := by
    refine (dats m 0 c).arrAt_eq_of_covers 5 _ (by decide +kernel) fun t hf y => ?_
    show (dats m 0 c).after 5 t y = (fun i j k => dA (W i j k) (G i j k) (P i j k) (Q i j k) : ℕ → ℕ → ℕ → EReal) (win0_5.index t 0 * 1 + 1 * (y 0).val) (win0_5.index t 1 * 128 + 1 * (y 1).val) (win0_5.index t 2 * 2048 + 1 * (y 2).val)
    rw [after0_5, (at5 t).1, (at5 t).2.1, (at5 t).2.2]
    refine (e_out5 (e_iblk0 m c t hW) (e_iblk1 m c t hG) (e_iblk2 m c t hP) (e_iblk3 m c t hQ) y).trans ?_
    have y0 : (y 0).val < 1 := (y 0).isLt
    rw [show (y 0).val = 0 by omega]
  rw [h]
  exact fun ι => rfl

/-- What the third result's buffer holds after the body. -/
theorem e_out6 {vw vg vp vq : Vec Ideal S1x128x2048 .f32}
    (hG : E3 (a := 1) (b := 128) (c := 2048) vg G) (hP : E3 (a := 1) (b := 128) (c := 2048) vp P) : E3 (a := 1) (b := 128) (c := 2048) (out0_6 (F := Ideal) vw vg vp vq) fun _ j k => mA (G 0 j k) (P 0 j k) := by
  rw [show out0_6 (F := Ideal) vw vg vp vq = k0_pay2 (F := Ideal) (k0_pay6 (F := Ideal) vg vp) by frame_out]
  exact e_lead (φ := .f32) (fun ι => by
    show mA (k0_pay4 (F := Ideal) vg ι) (k0_pay4 (F := Ideal) vp ι) = _
    rw [e_pay4 hG ι, e_pay4 hP ι]) _

/-- The third result after the run. -/
theorem final6 (hG : E3 (a := 2) (b := 1408) (c := 2048) (V m c main_arg1) G) (hP : E3 (a := 2) (b := 1408) (c := 2048) (V m c main_arg2) P) :
    E3 (a := 2) (b := 1408) (c := 2048) ((dats m 0 c).arrAt 6 cfg0.N) fun i j k => mA (G i j k) (P i j k) := by
  have h : (dats m 0 c).arrAt 6 cfg0.N = fun ι : S2x1408x2048.Idx => (fun i j k => mA (G i j k) (P i j k) : ℕ → ℕ → ℕ → EReal) (ι 0).val (ι 1).val (ι 2).val := by
    refine (dats m 0 c).arrAt_eq_of_covers 6 _ (by decide +kernel) fun t hf y => ?_
    show (dats m 0 c).after 6 t y = (fun i j k => mA (G i j k) (P i j k) : ℕ → ℕ → ℕ → EReal) (win0_6.index t 0 * 1 + 1 * (y 0).val) (win0_6.index t 1 * 128 + 1 * (y 1).val) (win0_6.index t 2 * 2048 + 1 * (y 2).val)
    rw [after0_6, (at6 t).1, (at6 t).2.1, (at6 t).2.2]
    refine (e_out6 (e_iblk1 m c t hG) (e_iblk2 m c t hP) y).trans ?_
    have y0 : (y 0).val < 1 := (y 0).isLt
    rw [show (y 0).val = 0 by omega]
  rw [h]
  exact fun ι => rfl

/-- What the fourth result's buffer holds after the body. -/
theorem e_out7 {vw vg vp vq : Vec Ideal S1x128x2048 .f32}
    (hG : E3 (a := 1) (b := 128) (c := 2048) vg G) (hQ : E3 (a := 1) (b := 128) (c := 2048) vq Q) : E3 (a := 1) (b := 128) (c := 2048) (out0_7 (F := Ideal) vw vg vp vq) fun _ j k => vA (G 0 j k) (Q 0 j k) := by
  rw [show out0_7 (F := Ideal) vw vg vp vq = k0_pay3 (F := Ideal) (k0_pay7 (F := Ideal) vg vq) by frame_out]
  exact e_lead (φ := .f32) (fun ι => by
    show vA (k0_pay4 (F := Ideal) vg ι) (k0_pay4 (F := Ideal) vq ι) = _
    rw [e_pay4 hG ι, e_pay4 hQ ι]) _

/-- The fourth result after the run. -/
theorem final7 (hG : E3 (a := 2) (b := 1408) (c := 2048) (V m c main_arg1) G) (hQ : E3 (a := 2) (b := 1408) (c := 2048) (V m c main_arg3) Q) :
    E3 (a := 2) (b := 1408) (c := 2048) ((dats m 0 c).arrAt 7 cfg0.N) fun i j k => vA (G i j k) (Q i j k) := by
  have h : (dats m 0 c).arrAt 7 cfg0.N = fun ι : S2x1408x2048.Idx => (fun i j k => vA (G i j k) (Q i j k) : ℕ → ℕ → ℕ → EReal) (ι 0).val (ι 1).val (ι 2).val := by
    refine (dats m 0 c).arrAt_eq_of_covers 7 _ (by decide +kernel) fun t hf y => ?_
    show (dats m 0 c).after 7 t y = (fun i j k => vA (G i j k) (Q i j k) : ℕ → ℕ → ℕ → EReal) (win0_7.index t 0 * 1 + 1 * (y 0).val) (win0_7.index t 1 * 128 + 1 * (y 1).val) (win0_7.index t 2 * 2048 + 1 * (y 2).val)
    rw [after0_7, (at7 t).1, (at7 t).2.1, (at7 t).2.2]
    refine (e_out7 (e_iblk1 m c t hG) (e_iblk3 m c t hQ) y).trans ?_
    have y0 : (y 0).val < 1 := (y 0).isLt
    rw [show (y 0).val = 0 by omega]
  rw [h]
  exact fun ι => rfl
end

section
open Cert.AdamDownRefIdeal Cert.AdamDownRefIdeal.Gen

/-- The reference's second result is the same function of the arguments. -/
theorem reference5 (w : FVec Ideal S2x1408x2048 .f32) (g : FVec Ideal S2x1408x2048 .f32) (p : FVec Ideal S2x1408x2048 .f32) (q : FVec Ideal S2x1408x2048 .f32) {W G P Q : ℕ → ℕ → ℕ → EReal} (hW : E3 (a := 2) (b := 1408) (c := 2048) w W) (hG : E3 (a := 2) (b := 1408) (c := 2048) g G) (hP : E3 (a := 2) (b := 1408) (c := 2048) p P) (hQ : E3 (a := 2) (b := 1408) (c := 2048) q Q) :
    E3 (a := 2) (b := 1408) (c := 2048)
      (mulf (broadcastInDim S2x1408x2048 ![] bcast_S_S2x1408x2048 (constant S_ .f32 0xBA83126F#32)) (addf (Host.divf (Host.divf (addf (mulf (broadcastInDim S2x1408x2048 ![] bcast_S_S2x1408x2048 (constant S_ .f32 0x3F666666#32)) p) (mulf (broadcastInDim S2x1408x2048 ![] bcast_S_S2x1408x2048 (constant S_ .f32 0x3DCCCCCD#32)) g)) (broadcastInDim S2x1408x2048 ![] bcast_S_S2x1408x2048 (constant S_ .f32 0x3F26BD02#32))) (addf (Host.sqrt (Host.divf (addf (mulf (broadcastInDim S2x1408x2048 ![] bcast_S_S2x1408x2048 (constant S_ .f32 0x3F7FBE77#32)) q) (mulf (broadcastInDim S2x1408x2048 ![] bcast_S_S2x1408x2048 (constant S_ .f32 0x3A83126F#32)) (mulf g g))) (broadcastInDim S2x1408x2048 ![] bcast_S_S2x1408x2048 (constant S_ .f32 0x3C231ACC#32)))) (broadcastInDim S2x1408x2048 ![] bcast_S_S2x1408x2048 (constant S_ .f32 0x322BCC77#32)))) (mulf (broadcastInDim S2x1408x2048 ![] bcast_S_S2x1408x2048 (constant S_ .f32 0x3C23D70A#32)) w))) fun i j k => dA (W i j k) (G i j k) (P i j k) (Q i j k) := fun ι => by
  show dA (w ι) (g ι) (p ι) (q ι) = _
  rw [hW ι, hG ι, hP ι, hQ ι]

/-- The reference's third result is the same function of the arguments. -/
theorem reference6 (g : FVec Ideal S2x1408x2048 .f32) (p : FVec Ideal S2x1408x2048 .f32) {G P : ℕ → ℕ → ℕ → EReal} (hG : E3 (a := 2) (b := 1408) (c := 2048) g G) (hP : E3 (a := 2) (b := 1408) (c := 2048) p P) :
    E3 (a := 2) (b := 1408) (c := 2048)
      (addf (mulf (broadcastInDim S2x1408x2048 ![] bcast_S_S2x1408x2048 (constant S_ .f32 0x3F666666#32)) p) (mulf (broadcastInDim S2x1408x2048 ![] bcast_S_S2x1408x2048 (constant S_ .f32 0x3DCCCCCD#32)) g)) fun i j k => mA (G i j k) (P i j k) := fun ι => by
  show mA (g ι) (p ι) = _
  rw [hG ι, hP ι]

/-- The reference's fourth result is the same function of the arguments. -/
theorem reference7 (g : FVec Ideal S2x1408x2048 .f32) (q : FVec Ideal S2x1408x2048 .f32) {G Q : ℕ → ℕ → ℕ → EReal} (hG : E3 (a := 2) (b := 1408) (c := 2048) g G) (hQ : E3 (a := 2) (b := 1408) (c := 2048) q Q) :
    E3 (a := 2) (b := 1408) (c := 2048)
      (addf (mulf (broadcastInDim S2x1408x2048 ![] bcast_S_S2x1408x2048 (constant S_ .f32 0x3F7FBE77#32)) q) (mulf (broadcastInDim S2x1408x2048 ![] bcast_S_S2x1408x2048 (constant S_ .f32 0x3A83126F#32)) (mulf g g))) fun i j k => vA (G i j k) (Q i j k) := fun ι => by
  show vA (g ι) (q ι) = _
  rw [hG ι, hQ ι]
end

/-- The kernel's program runs and leaves its arguments as they were. -/
theorem frame_kernel : Cert.quiescent_AdamDown (hAdamDown := Cert.AdamDown.Gen.facts) := fun m ρ _ => Cert.AdamDown.Gen.frame m ρ

/-- So does its idealization. -/
theorem frame_ideal : Cert.quiescent_AdamDownIdeal (hAdamDownIdeal := Cert.AdamDownIdeal.Gen.facts) := fun m ρ _ => Cert.AdamDownIdeal.Gen.frame m ρ

/-- So does the reference. -/
theorem frame_reference : Cert.quiescent_AdamDownRefIdeal (hAdamDownRefIdeal := Cert.AdamDownRefIdeal.Gen.facts) := fun m ρ _ =>
  (θ_run Cert.AdamDownRefIdeal.defs _ _).mono (fun r h => ⟨fun c => (h c).2.2.2.2, Idealize.ShloMosaic.sem_eq_zero_of_no_sems (by decide) r.2⟩)
    (Cert.AdamDownRefIdeal.Value.run (F := Ideal) m ρ)

/-- From the same arguments the kernel and the reference leave the same results. -/
theorem algebraic : Cert.algebraic_AdamDownIdeal_AdamDownRefIdeal (hAdamDownIdeal := Cert.AdamDownIdeal.Gen.facts) (hAdamDownRefIdeal := Cert.AdamDownRefIdeal.Gen.facts) := fun m g m' g' _ hag => by
  refine ⟨fun c => (Cert.AdamDownIdeal.Gen.dats m 0 c).arrAt 4 Cert.AdamDownIdeal.cfg0.N, fun c => (Cert.AdamDownIdeal.Gen.dats m 0 c).arrAt 5 Cert.AdamDownIdeal.cfg0.N,
    fun c => (Cert.AdamDownIdeal.Gen.dats m 0 c).arrAt 6 Cert.AdamDownIdeal.cfg0.N, fun c => (Cert.AdamDownIdeal.Gen.dats m 0 c).arrAt 7 Cert.AdamDownIdeal.cfg0.N, ?_, ?_⟩
  · exact Cert.AdamDownIdeal.Value.run_blocks m g
  · refine (θ_run Cert.AdamDownRefIdeal.defs _ _).mono (fun r h c => ⟨(h c).1.trans ?_, (h c).2.1.trans ?_, (h c).2.2.1.trans ?_, (h c).2.2.2.1.trans ?_, (h c).2.2.2.2⟩) (Cert.AdamDownRefIdeal.Value.run (F := Ideal) m' g')
    · obtain ⟨G, hG⟩ := exists_E3 (a := 2) (b := 1408) (c := 2048) (m ((c.tc : Thread Cert.AdamDownIdeal.nD Cert.AdamDownIdeal.τ).loc Cert.AdamDownIdeal.main_arg1))
      rw [(hag c).2.1]
      exact E3.eq (hG) (final4 m c (by rw [Cert.AdamDownIdeal.Gen.V_main_arg1]; exact hG))
    · obtain ⟨W, hW⟩ := exists_E3 (a := 2) (b := 1408) (c := 2048) (m ((c.tc : Thread Cert.AdamDownIdeal.nD Cert.AdamDownIdeal.τ).loc Cert.AdamDownIdeal.main_arg0))
      obtain ⟨G, hG⟩ := exists_E3 (a := 2) (b := 1408) (c := 2048) (m ((c.tc : Thread Cert.AdamDownIdeal.nD Cert.AdamDownIdeal.τ).loc Cert.AdamDownIdeal.main_arg1))
      obtain ⟨P, hP⟩ := exists_E3 (a := 2) (b := 1408) (c := 2048) (m ((c.tc : Thread Cert.AdamDownIdeal.nD Cert.AdamDownIdeal.τ).loc Cert.AdamDownIdeal.main_arg2))
      obtain ⟨Q, hQ⟩ := exists_E3 (a := 2) (b := 1408) (c := 2048) (m ((c.tc : Thread Cert.AdamDownIdeal.nD Cert.AdamDownIdeal.τ).loc Cert.AdamDownIdeal.main_arg3))
      rw [(hag c).1, (hag c).2.1, (hag c).2.2.1, (hag c).2.2.2]
      exact E3.eq (reference5 _ _ _ _ hW hG hP hQ) (final5 m c (by rw [Cert.AdamDownIdeal.Gen.V_main_arg0]; exact hW) (by rw [Cert.AdamDownIdeal.Gen.V_main_arg1]; exact hG) (by rw [Cert.AdamDownIdeal.Gen.V_main_arg2]; exact hP) (by rw [Cert.AdamDownIdeal.Gen.V_main_arg3]; exact hQ))
    · obtain ⟨G, hG⟩ := exists_E3 (a := 2) (b := 1408) (c := 2048) (m ((c.tc : Thread Cert.AdamDownIdeal.nD Cert.AdamDownIdeal.τ).loc Cert.AdamDownIdeal.main_arg1))
      obtain ⟨P, hP⟩ := exists_E3 (a := 2) (b := 1408) (c := 2048) (m ((c.tc : Thread Cert.AdamDownIdeal.nD Cert.AdamDownIdeal.τ).loc Cert.AdamDownIdeal.main_arg2))
      rw [(hag c).2.1, (hag c).2.2.1]
      exact E3.eq (reference6 _ _ hG hP) (final6 m c (by rw [Cert.AdamDownIdeal.Gen.V_main_arg1]; exact hG) (by rw [Cert.AdamDownIdeal.Gen.V_main_arg2]; exact hP))
    · obtain ⟨G, hG⟩ := exists_E3 (a := 2) (b := 1408) (c := 2048) (m ((c.tc : Thread Cert.AdamDownIdeal.nD Cert.AdamDownIdeal.τ).loc Cert.AdamDownIdeal.main_arg1))
      obtain ⟨Q, hQ⟩ := exists_E3 (a := 2) (b := 1408) (c := 2048) (m ((c.tc : Thread Cert.AdamDownIdeal.nD Cert.AdamDownIdeal.τ).loc Cert.AdamDownIdeal.main_arg3))
      rw [(hag c).2.1, (hag c).2.2.2]
      exact E3.eq (reference7 _ _ hG hQ) (final7 m c (by rw [Cert.AdamDownIdeal.Gen.V_main_arg1]; exact hG) (by rw [Cert.AdamDownIdeal.Gen.V_main_arg3]; exact hQ))

end Cert.Stick.AdamDown

end
-- ==== Proof.lean ====
module

public import proofs.«01_k».proof.Defs
public import proofs.«01_k».proof.Proof.Gen.Kernel.Frame
public import proofs.«01_k».proof.Proof.Gen.KernelIdeal.Frame
public import proofs.«01_k».proof.Proof.Bounded
public import proofs.«01_k».proof.Proof.Pts
public import proofs.«01_k».proof.Proof.Gen.ReferenceIdeal.Run
public import proofs.«01_k».proof.Proof.MmDWDown
public import proofs.«01_k».proof.Proof.MmDFfnMid
public import proofs.«01_k».proof.Proof.MmDWUp
public import proofs.«01_k».proof.Proof.MmDFfnIn
public import proofs.«01_k».proof.Proof.MmDWide
public import proofs.«01_k».proof.Proof.MmDWKv
public import proofs.«01_k».proof.Proof.MmDAttnOut
public import proofs.«01_k».proof.Proof.MmDQIn
public import proofs.«01_k».proof.Proof.MmDKIn
public import proofs.«01_k».proof.Proof.MmDWIn
public import proofs.«01_k».proof.Proof.MmDGmlpIn
public import proofs.«01_k».proof.Proof.MmFfnUp
public import proofs.«01_k».proof.Proof.MmFfnDown
public import proofs.«01_k».proof.Proof.MmProj
public import proofs.«01_k».proof.Proof.MmProjO
public import proofs.«01_k».proof.Proof.MmGmlpIn
public import proofs.«01_k».proof.Proof.DNormOut
public import proofs.«01_k».proof.Proof.DNormIn
public import proofs.«01_k».proof.Proof.DNormTwo
public import proofs.«01_k».proof.Proof.AdamWide
public import proofs.«01_k».proof.Proof.AdamIn
public import proofs.«01_k».proof.Proof.AdamUp
public import proofs.«01_k».proof.Proof.AdamDown
public import Idealize.ShloMosaic.Adequacy
public import Idealize.ShloMosaic.Init

@[expose] public section

noncomputable section

namespace Cert.Proof

open Idealize.ShloMosaic Idealize.ShloMosaic.TcCoe Idealize.SL.Sem
open Cert.Stick

/-- The reference runs to its end, leaves its arguments as they were and every counter at zero: read off its run. -/
theorem frame_reference : Cert.quiescent_ReferenceIdeal (hReferenceIdeal := Cert.ReferenceIdeal.Gen.facts) := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- On arguments that are numbers, the kernel's arrays after the run are the reference's results. -/
theorem results (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    {X0 X1 X2 X3 : ℕ → ℕ → ℝ}
    (h0 : Rd (a := 4096) (b := 2048) (m ((c.tc : Thread Cert.KernelIdeal.nD Cert.KernelIdeal.τ).loc Cert.KernelIdeal.main_arg0)) X0)
    (h1 : Rd (a := 4096) (b := 2048) (m ((c.tc : Thread Cert.KernelIdeal.nD Cert.KernelIdeal.τ).loc Cert.KernelIdeal.main_arg1)) X1)
    (h2 : Rd (a := 4096) (b := 2048) (m ((c.tc : Thread Cert.KernelIdeal.nD Cert.KernelIdeal.τ).loc Cert.KernelIdeal.main_arg2)) X2)
    (h3 : Rd (a := 4096) (b := 2048) (m ((c.tc : Thread Cert.KernelIdeal.nD Cert.KernelIdeal.τ).loc Cert.KernelIdeal.main_arg3)) X3)
    (e : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Value.res_main_v57 (F := Ideal) m' c = (Cert.KernelIdeal.Gen.dats m 0 c).arrAt 5 Cert.KernelIdeal.cfg0.N
    ∧ Cert.ReferenceIdeal.Value.res_main_v55 (F := Ideal) m' c = (Cert.KernelIdeal.Gen.dats m 0 c).arrAt 6 Cert.KernelIdeal.cfg0.N
    ∧ Cert.ReferenceIdeal.Value.res_main_v54 (F := Ideal) m' c = (Cert.KernelIdeal.Gen.dats m 0 c).arrAt 7 Cert.KernelIdeal.cfg0.N := by
  have g0 : Rd (a := 4096) (b := 2048) (m' ((c.tc : Thread Cert.ReferenceIdeal.nD Cert.ReferenceIdeal.τ).loc Cert.ReferenceIdeal.main_arg0)) X0 := by rw [e.1]; exact h0
  have g1 : Rd (a := 4096) (b := 2048) (m' ((c.tc : Thread Cert.ReferenceIdeal.nD Cert.ReferenceIdeal.τ).loc Cert.ReferenceIdeal.main_arg1)) X1 := by rw [e.2.1]; exact h1
  have g2 : Rd (a := 4096) (b := 2048) (m' ((c.tc : Thread Cert.ReferenceIdeal.nD Cert.ReferenceIdeal.τ).loc Cert.ReferenceIdeal.main_arg2)) X2 := by rw [e.2.2.1]; exact h2
  have g3 : Rd (a := 4096) (b := 2048) (m' ((c.tc : Thread Cert.ReferenceIdeal.nD Cert.ReferenceIdeal.τ).loc Cert.ReferenceIdeal.main_arg3)) X3 := by rw [e.2.2.2]; exact h3
  exact ⟨(res57 m' c g0 g1 g2 g3).eq (final5 m c h0 h1 h2 h3), (res55 m' c g0 g1 g2 g3).eq (final6 m c h0 h1 h2 h3),
    (res54 m' c g0 g1 g2 g3).eq (final7 m c h0 h1 h2 h3)⟩

/-- The kernel's three results are the reference's, over the extended reals, on finite arguments. -/
theorem algebraic : Cert.algebraic_KernelIdeal_ReferenceIdeal_pre_finite (hKernelIdeal := Cert.KernelIdeal.Gen.facts)
    (hReferenceIdeal := Cert.ReferenceIdeal.Gen.facts) (hPre_finite := finite_facts) := fun m g m' g' hpre hargs =>
  ⟨fun c => (Cert.KernelIdeal.Gen.dats m 0 c).arrAt 5 Cert.KernelIdeal.cfg0.N, fun c => (Cert.KernelIdeal.Gen.dats m 0 c).arrAt 6 Cert.KernelIdeal.cfg0.N,
    fun c => (Cert.KernelIdeal.Gen.dats m 0 c).arrAt 7 Cert.KernelIdeal.cfg0.N, Cert.KernelIdeal.Value.run_blocks (F := Ideal) m g,
    (θ_run Cert.ReferenceIdeal.defs _ _).mono (fun r h c => by
      obtain ⟨⟨X0, h0⟩, ⟨X1, h1⟩, ⟨X2, h2⟩, X3, h3⟩ := args_real (hpre c)
      obtain ⟨e5, e6, e7⟩ := results m m' c h0 h1 h2 h3 (hargs c)
      obtain ⟨r57, r55, r54, rest⟩ := h c
      exact ⟨r57.trans e5, r55.trans e6, r54.trans e7, rest⟩) (Cert.ReferenceIdeal.Value.run (F := Ideal) m' g')⟩

/-- Every claim of `Cert.Claim`. -/
theorem claim : Cert.Claim := ⟨
  Cert.Kernel.Gen.facts, Cert.KernelIdeal.Gen.facts, Cert.ReferenceIdeal.Gen.facts, Cert.DWDown.Gen.facts, Cert.DWDownIdeal.Gen.facts,
  Cert.DWDownRefIdeal.Gen.facts, Cert.DFfnMid.Gen.facts, Cert.DFfnMidIdeal.Gen.facts, Cert.DFfnMidRefIdeal.Gen.facts, Cert.DWUp.Gen.facts,
  Cert.DWUpIdeal.Gen.facts, Cert.DWUpRefIdeal.Gen.facts, Cert.DFfnIn.Gen.facts, Cert.DFfnInIdeal.Gen.facts, Cert.DFfnInRefIdeal.Gen.facts,
  Cert.DWide.Gen.facts, Cert.DWideIdeal.Gen.facts, Cert.DWideRefIdeal.Gen.facts, Cert.DWKv.Gen.facts, Cert.DWKvIdeal.Gen.facts,
  Cert.DWKvRefIdeal.Gen.facts, Cert.DAttnOut.Gen.facts, Cert.DAttnOutIdeal.Gen.facts, Cert.DAttnOutRefIdeal.Gen.facts, Cert.DQIn.Gen.facts,
  Cert.DQInIdeal.Gen.facts, Cert.DQInRefIdeal.Gen.facts, Cert.DKIn.Gen.facts, Cert.DKInIdeal.Gen.facts, Cert.DKInRefIdeal.Gen.facts,
  Cert.DWIn.Gen.facts, Cert.DWInIdeal.Gen.facts, Cert.DWInRefIdeal.Gen.facts, Cert.DGmlpIn.Gen.facts, Cert.DGmlpInIdeal.Gen.facts,
  Cert.DGmlpInRefIdeal.Gen.facts, Cert.FfnUp.Gen.facts, Cert.FfnUpIdeal.Gen.facts, Cert.FfnUpRefIdeal.Gen.facts, Cert.FfnDown.Gen.facts,
  Cert.FfnDownIdeal.Gen.facts, Cert.FfnDownRefIdeal.Gen.facts, Cert.Proj.Gen.facts, Cert.ProjIdeal.Gen.facts, Cert.ProjRefIdeal.Gen.facts,
  Cert.ProjO.Gen.facts, Cert.ProjOIdeal.Gen.facts, Cert.ProjORefIdeal.Gen.facts, Cert.GmlpIn.Gen.facts, Cert.GmlpInIdeal.Gen.facts,
  Cert.GmlpInRefIdeal.Gen.facts, Cert.DNormOut.Gen.facts, Cert.DNormOutIdeal.Gen.facts, Cert.DNormOutRefIdeal.Gen.facts, Cert.DNormIn.Gen.facts,
  Cert.DNormInIdeal.Gen.facts, Cert.DNormInRefIdeal.Gen.facts, Cert.DNormTwo.Gen.facts, Cert.DNormTwoIdeal.Gen.facts,
  Cert.DNormTwoRefIdeal.Gen.facts, Cert.AdamWide.Gen.facts, Cert.AdamWideIdeal.Gen.facts, Cert.AdamWideRefIdeal.Gen.facts, Cert.AdamIn.Gen.facts,
  Cert.AdamInIdeal.Gen.facts, Cert.AdamInRefIdeal.Gen.facts, Cert.AdamUp.Gen.facts, Cert.AdamUpIdeal.Gen.facts, Cert.AdamUpRefIdeal.Gen.facts,
  Cert.AdamDown.Gen.facts, Cert.AdamDownIdeal.Gen.facts, Cert.AdamDownRefIdeal.Gen.facts, finite_facts, fun m ρ _ => Cert.Kernel.Gen.frame m ρ,
  fun m ρ _ => Cert.KernelIdeal.Gen.frame m ρ, fun m ρ _ => Cert.KernelIdeal.Gen.frame m ρ, frame_reference,
  fun m ρ _ => frame_reference m ρ trivial, Cert.Stick.DWDown.frame_kernel, Cert.Stick.DWDown.frame_ideal, Cert.Stick.DWDown.frame_reference,
  Cert.Stick.DFfnMid.frame_kernel, Cert.Stick.DFfnMid.frame_ideal, Cert.Stick.DFfnMid.frame_reference, Cert.Stick.DWUp.frame_kernel,
  Cert.Stick.DWUp.frame_ideal, Cert.Stick.DWUp.frame_reference, Cert.Stick.DFfnIn.frame_kernel, Cert.Stick.DFfnIn.frame_ideal,
  Cert.Stick.DFfnIn.frame_reference, Cert.Stick.DWide.frame_kernel, Cert.Stick.DWide.frame_ideal, Cert.Stick.DWide.frame_reference,
  Cert.Stick.DWKv.frame_kernel, Cert.Stick.DWKv.frame_ideal, Cert.Stick.DWKv.frame_reference, Cert.Stick.DAttnOut.frame_kernel,
  Cert.Stick.DAttnOut.frame_ideal, Cert.Stick.DAttnOut.frame_reference, Cert.Stick.DQIn.frame_kernel, Cert.Stick.DQIn.frame_ideal,
  Cert.Stick.DQIn.frame_reference, Cert.Stick.DKIn.frame_kernel, Cert.Stick.DKIn.frame_ideal, Cert.Stick.DKIn.frame_reference,
  Cert.Stick.DWIn.frame_kernel, Cert.Stick.DWIn.frame_ideal, Cert.Stick.DWIn.frame_reference, Cert.Stick.DGmlpIn.frame_kernel,
  Cert.Stick.DGmlpIn.frame_ideal, Cert.Stick.DGmlpIn.frame_reference, Cert.Stick.FfnUp.frame_kernel, Cert.Stick.FfnUp.frame_ideal,
  Cert.Stick.FfnUp.frame_reference, Cert.Stick.FfnDown.frame_kernel, Cert.Stick.FfnDown.frame_ideal, Cert.Stick.FfnDown.frame_reference,
  Cert.Stick.Proj.frame_kernel, Cert.Stick.Proj.frame_ideal, Cert.Stick.Proj.frame_reference, Cert.Stick.ProjO.frame_kernel,
  Cert.Stick.ProjO.frame_ideal, Cert.Stick.ProjO.frame_reference, Cert.Stick.GmlpIn.frame_kernel, Cert.Stick.GmlpIn.frame_ideal,
  Cert.Stick.GmlpIn.frame_reference, Cert.Stick.DNormOut.frame_kernel, Cert.Stick.DNormOut.frame_ideal, Cert.Stick.DNormOut.frame_reference,
  Cert.Stick.DNormIn.frame_kernel, Cert.Stick.DNormIn.frame_ideal, Cert.Stick.DNormIn.frame_reference, Cert.Stick.DNormTwo.frame_kernel,
  Cert.Stick.DNormTwo.frame_ideal, Cert.Stick.DNormTwo.frame_reference, Cert.Stick.AdamWide.frame_kernel, Cert.Stick.AdamWide.frame_ideal,
  Cert.Stick.AdamWide.frame_reference, Cert.Stick.AdamIn.frame_kernel, Cert.Stick.AdamIn.frame_ideal, Cert.Stick.AdamIn.frame_reference,
  Cert.Stick.AdamUp.frame_kernel, Cert.Stick.AdamUp.frame_ideal, Cert.Stick.AdamUp.frame_reference, Cert.Stick.AdamDown.frame_kernel,
  Cert.Stick.AdamDown.frame_ideal, Cert.Stick.AdamDown.frame_reference, trivial, algebraic, trivial, Cert.Stick.DWDown.algebraic, trivial,
  Cert.Stick.DFfnMid.algebraic, trivial, Cert.Stick.DWUp.algebraic, trivial, Cert.Stick.DFfnIn.algebraic, trivial, Cert.Stick.DWide.algebraic,
  trivial, Cert.Stick.DWKv.algebraic, trivial, Cert.Stick.DAttnOut.algebraic, trivial, Cert.Stick.DQIn.algebraic, trivial,
  Cert.Stick.DKIn.algebraic, trivial, Cert.Stick.DWIn.algebraic, trivial, Cert.Stick.DGmlpIn.algebraic, trivial, Cert.Stick.FfnUp.algebraic,
  trivial, Cert.Stick.FfnDown.algebraic, trivial, Cert.Stick.Proj.algebraic, trivial, Cert.Stick.ProjO.algebraic, trivial,
  Cert.Stick.GmlpIn.algebraic, trivial, Cert.Stick.DNormOut.algebraic, trivial, Cert.Stick.DNormIn.algebraic, trivial,
  Cert.Stick.DNormTwo.algebraic, trivial, Cert.Stick.AdamWide.algebraic, trivial, Cert.Stick.AdamIn.algebraic, trivial, Cert.Stick.AdamUp.algebraic,
  trivial, Cert.Stick.AdamDown.algebraic⟩

end Cert.Proof

end
